-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x3 : Shape := ⟨2, ![100000, 3]⟩
abbrev S100000x512 : Shape := ⟨2, ![100000, 512]⟩
abbrev S100000 : Shape := ⟨1, ![100000]⟩
abbrev S512x48 : Shape := ⟨2, ![512, 48]⟩
abbrev S48 : Shape := ⟨1, ![48]⟩
abbrev S_ : Shape := ⟨0, ![]⟩
abbrev S1x48 : Shape := ⟨2, ![1, 48]⟩
abbrev S50000x128 : Shape := ⟨2, ![50000, 128]⟩
abbrev S2000x512 : Shape := ⟨2, ![2000, 512]⟩
abbrev S2000x3 : Shape := ⟨2, ![2000, 3]⟩
abbrev S2000x128 : Shape := ⟨2, ![2000, 128]⟩
abbrev S2000x48 : Shape := ⟨2, ![2000, 48]⟩
abbrev S3x800000 : Shape := ⟨2, ![3, 800000]⟩
abbrev S1600000 : Shape := ⟨1, ![1600000]⟩
abbrev S120x128 : Shape := ⟨2, ![120, 128]⟩
abbrev S3x1920 : Shape := ⟨2, ![3, 1920]⟩
abbrev S3136 : Shape := ⟨1, ![3136]⟩
abbrev S50000 : Shape := ⟨1, ![50000]⟩
abbrev S16 : Shape := ⟨1, ![16]⟩
abbrev S1x16 : Shape := ⟨2, ![1, 16]⟩
abbrev S8x128 : Shape := ⟨2, ![8, 128]⟩
abbrev S3x128 : Shape := ⟨2, ![3, 128]⟩
abbrev S3x1600000 : Shape := ⟨2, ![3, 1600000]⟩
abbrev S1600000x3 : Shape := ⟨2, ![1600000, 3]⟩

abbrev nBuf : Table → Nat
  | .hbm => 20
  | .local .tc .vmem => 16
  | .local .scVector .vmem => 8
  | _ => 0

abbrev bufTy : (tb : Table) → Fin (nBuf tb) → BufTy
  | .hbm, ⟨0, _⟩ => ⟨S100000x3, .f32⟩
  | .hbm, ⟨1, _⟩ => ⟨S100000x512, .f32⟩
  | .hbm, ⟨2, _⟩ => ⟨S100000, .i32⟩
  | .hbm, ⟨3, _⟩ => ⟨S512x48, .f32⟩
  | .hbm, ⟨4, _⟩ => ⟨S48, .f32⟩
  | .hbm, ⟨5, _⟩ => ⟨S_, .f32⟩
  | .hbm, ⟨6, _⟩ => ⟨S512x48, .f32⟩
  | .hbm, ⟨7, _⟩ => ⟨S512x48, .f32⟩
  | .hbm, ⟨8, _⟩ => ⟨S512x48, .bf16⟩
  | .hbm, ⟨9, _⟩ => ⟨S_, .f32⟩
  | .hbm, ⟨10, _⟩ => ⟨S48, .f32⟩
  | .hbm, ⟨11, _⟩ => ⟨S48, .f32⟩
  | .hbm, ⟨12, _⟩ => ⟨S1x48, .f32⟩
  | .hbm, ⟨13, _⟩ => ⟨S50000x128, .f32⟩
  | .hbm, ⟨14, _⟩ => ⟨S3x800000, .f32⟩
  | .hbm, ⟨15, _⟩ => ⟨S1600000, .i32⟩
  | .hbm, ⟨16, _⟩ => ⟨S50000x128, .f32⟩
  | .hbm, ⟨17, _⟩ => ⟨S3x800000, .f32⟩
  | .hbm, ⟨18, _⟩ => ⟨S3x1600000, .f32⟩
  | .hbm, ⟨19, _⟩ => ⟨S1600000x3, .f32⟩
  | .local .tc .vmem, ⟨0, _⟩ => ⟨S2000x512, .f32⟩
  | .local .tc .vmem, ⟨1, _⟩ => ⟨S2000x512, .f32⟩
  | .local .tc .vmem, ⟨2, _⟩ => ⟨S2000x3, .f32⟩
  | .local .tc .vmem, ⟨3, _⟩ => ⟨S2000x3, .f32⟩
  | .local .tc .vmem, ⟨4, _⟩ => ⟨S512x48, .bf16⟩
  | .local .tc .vmem, ⟨5, _⟩ => ⟨S1x48, .f32⟩
  | .local .tc .vmem, ⟨6, _⟩ => ⟨S2000x128, .f32⟩
  | .local .tc .vmem, ⟨7, _⟩ => ⟨S2000x128, .f32⟩
  | .local .tc .vmem, ⟨8, _⟩ => ⟨S2000x512, .f32⟩
  | .local .tc .vmem, ⟨9, _⟩ => ⟨S2000x512, .f32⟩
  | .local .tc .vmem, ⟨10, _⟩ => ⟨S2000x3, .f32⟩
  | .local .tc .vmem, ⟨11, _⟩ => ⟨S2000x3, .f32⟩
  | .local .tc .vmem, ⟨12, _⟩ => ⟨S512x48, .bf16⟩
  | .local .tc .vmem, ⟨13, _⟩ => ⟨S1x48, .f32⟩
  | .local .tc .vmem, ⟨14, _⟩ => ⟨S2000x128, .f32⟩
  | .local .tc .vmem, ⟨15, _⟩ => ⟨S2000x128, .f32⟩
  | .local .scVector .vmem, ⟨0, _⟩ => ⟨S120x128, .f32⟩
  | .local .scVector .vmem, ⟨1, _⟩ => ⟨S120x128, .f32⟩
  | .local .scVector .vmem, ⟨2, _⟩ => ⟨S3x1920, .f32⟩
  | .local .scVector .vmem, ⟨3, _⟩ => ⟨S3136, .i32⟩
  | .local .scVector .vmem, ⟨4, _⟩ => ⟨S50000, .i32⟩
  | .local .scVector .vmem, ⟨5, _⟩ => ⟨S120x128, .f32⟩
  | .local .scVector .vmem, ⟨6, _⟩ => ⟨S120x128, .f32⟩
  | .local .scVector .vmem, ⟨7, _⟩ => ⟨S3x1920, .f32⟩
  | _, _ => ⟨S100000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v6_scv : Ref sig .scVector := ⟨.hbm, 13, rfl⟩
abbrev main_arg2_scv : Ref sig .scVector := ⟨.hbm, 2, rfl⟩
abbrev main_v7_0_scv : Ref sig .scVector := ⟨.hbm, 14, rfl⟩
abbrev main_v7_1_scv : Ref sig .scVector := ⟨.hbm, 15, rfl⟩
abbrev main_v8_scv : Ref sig .scVector := ⟨.hbm, 16, rfl⟩
abbrev main_v9_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch5 : Ref sig .scVector := ⟨.vmem, 3, rfl⟩
abbrev cc1_scratch6 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v90 : BitVec 32 := Scalar.addi v37 c0_i32_33
  let c0_i32_34 : BitVec 32 := 0#32
  ![v90.toNat, 0]
@[reducible] def k1_t1_loop : Scf.Loop 32 :=
  let c0_i32_39 : BitVec 32 := 0#32
  let c6_i32 : BitVec 32 := 6#32
  let v96 : BitVec 32 := Scalar.addi c0_i32_39 c6_i32
  let c1_i32_40 : BitVec 32 := 1#32
  ⟨c0_i32_39, v96, c1_i32_40⟩
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg13 : BitVec 32 := Scf.iv c0_i32_39 c1_i32_40 k1_t1
  let c2_i32_64 : BitVec 32 := 2#32
  let v132 : BitVec 32 := Scalar.muli arg13 c2_i32_64
  let c0_i32_65 : BitVec 32 := 0#32
  let v133 : BitVec 32 := Scalar.addi v132 c0_i32_65
  let c120_i32_66 : BitVec 32 := 120#32
  let v134 : BitVec 32 := Scalar.muli v133 c120_i32_66
  let v135 : BitVec 32 := Scalar.addi v37 v134
  let c0_i32_67 : BitVec 32 := 0#32
  ![v135.toNat, 0]
@[reducible] def k1_t2_loop : Scf.Loop 32 :=
  let c0_i32_71 : BitVec 32 := 0#32
  let c15_i32_72 : BitVec 32 := 15#32
  let v140 : BitVec 32 := Scalar.addi c0_i32_71 c15_i32_72
  let c1_i32_73 : BitVec 32 := 1#32
  ⟨c0_i32_71, v140, c1_i32_73⟩
def k1_off3 (k1_t2 : Fin k1_t2_loop.trips) : Fin 2 → Nat :=
  let c0_i32_97 : BitVec 32 := 0#32
  let v167 : Index := Scalar.indexCast c0_i32_97
  let c0_i32_71 : BitVec 32 := 0#32
  let c1_i32_73 : BitVec 32 := 1#32
  let arg14 : BitVec 32 := Scf.iv c0_i32_71 c1_i32_73 k1_t2
  let c8_i32_93 : BitVec 32 := 8#32
  let v160 : BitVec 32 := Scalar.muli arg14 c8_i32_93
  let c0_i32_94 : BitVec 32 := 0#32
  let v161 : BitVec 32 := Scalar.addi v160 c0_i32_94
  let c16_i32_96 : BitVec 32 := 16#32
  let v166 : BitVec 32 := Scalar.muli v161 c16_i32_96
  let v168 : Index := Scalar.indexCast v166
  ![0, v168.toNat]
def k1_off4 (k1_t2 : Fin k1_t2_loop.trips) : Fin 2 → Nat :=
  let c1_i32_99 : BitVec 32 := 1#32
  let v172 : Index := Scalar.indexCast c1_i32_99
  let c0_i32_71 : BitVec 32 := 0#32
  let c1_i32_73 : BitVec 32 := 1#32
  let arg14 : BitVec 32 := Scf.iv c0_i32_71 c1_i32_73 k1_t2
  let c8_i32_93 : BitVec 32 := 8#32
  let v160 : BitVec 32 := Scalar.muli arg14 c8_i32_93
  let c0_i32_94 : BitVec 32 := 0#32
  let v161 : BitVec 32 := Scalar.addi v160 c0_i32_94
  let c16_i32_98 : BitVec 32 := 16#32
  let v171 : BitVec 32 := Scalar.muli v161 c16_i32_98
  let v173 : Index := Scalar.indexCast v171
  ![1, v173.toNat]

def k1_chk1 (v79 : IVec S16 32) (v84 : IVec S16 32) (v89 : IVec S16 32) (v164 : IVec S16 32) : Prop :=
  (∀ a x, ((![v164, v79] : Fin 2 → IVec S16 32) a x).toNat < S120x128.size a) ∧
  (∀ a x, ((![v164, v84] : Fin 2 → IVec S16 32) a x).toNat < S120x128.size a) ∧
  (∀ a x, ((![v164, v89] : Fin 2 → IVec S16 32) a x).toNat < S120x128.size a)
theorem k1_idx1_inb : ∀ (v79 : IVec S16 32) (v84 : IVec S16 32) (v89 : IVec S16 32) (v164 : IVec S16 32) (k1_hw1 : k1_chk1 v79 v84 v89 v164), ∀ a x, ((![v164, v79] : Fin 2 → IVec S16 32) a x).toNat < S120x128.size a := fun v79 v84 v89 v164 k1_hw1 => k1_hw1.1
theorem k1_idx2_inb : ∀ (v79 : IVec S16 32) (v84 : IVec S16 32) (v89 : IVec S16 32) (v164 : IVec S16 32) (k1_hw1 : k1_chk1 v79 v84 v89 v164), ∀ a x, ((![v164, v84] : Fin 2 → IVec S16 32) a x).toNat < S120x128.size a := fun v79 v84 v89 v164 k1_hw1 => k1_hw1.2.1
theorem k1_idx3_inb : ∀ (v79 : IVec S16 32) (v84 : IVec S16 32) (v89 : IVec S16 32) (v164 : IVec S16 32) (k1_hw1 : k1_chk1 v79 v84 v89 v164), ∀ a x, ((![v164, v89] : Fin 2 → IVec S16 32) a x).toNat < S120x128.size a := fun v79 v84 v89 v164 k1_hw1 => k1_hw1.2.2
def k1_off5 (k1_t2 : Fin k1_t2_loop.trips) : Fin 2 → Nat :=
  let c2_i32_101 : BitVec 32 := 2#32
  let v177 : Index := Scalar.indexCast c2_i32_101
  let c0_i32_71 : BitVec 32 := 0#32
  let c1_i32_73 : BitVec 32 := 1#32
  let arg14 : BitVec 32 := Scf.iv c0_i32_71 c1_i32_73 k1_t2
  let c8_i32_93 : BitVec 32 := 8#32
  let v160 : BitVec 32 := Scalar.muli arg14 c8_i32_93
  let c0_i32_94 : BitVec 32 := 0#32
  let v161 : BitVec 32 := Scalar.addi v160 c0_i32_94
  let c16_i32_100 : BitVec 32 := 16#32
  let v176 : BitVec 32 := Scalar.muli v161 c16_i32_100
  let v178 : Index := Scalar.indexCast v176
  ![2, v178.toNat]
def k1_off6 (k1_t2 : Fin k1_t2_loop.trips) : Fin 2 → Nat :=
  let c0_i32_106 : BitVec 32 := 0#32
  let v187 : Index := Scalar.indexCast c0_i32_106
  let c0_i32_71 : BitVec 32 := 0#32
  let c1_i32_73 : BitVec 32 := 1#32
  let arg14 : BitVec 32 := Scf.iv c0_i32_71 c1_i32_73 k1_t2
  let c8_i32_102 : BitVec 32 := 8#32
  let v180 : BitVec 32 := Scalar.muli arg14 c8_i32_102
  let c1_i32_103 : BitVec 32 := 1#32
  let v181 : BitVec 32 := Scalar.addi v180 c1_i32_103
  let c16_i32_105 : BitVec 32 := 16#32
  let v186 : BitVec 32 := Scalar.muli v181 c16_i32_105
  let v188 : Index := Scalar.indexCast v186
  ![0, v188.toNat]
def k1_off7 (k1_t2 : Fin k1_t2_loop.trips) : Fin 2 → Nat :=
  let c1_i32_108 : BitVec 32 := 1#32
  let v192 : Index := Scalar.indexCast c1_i32_108
  let c0_i32_71 : BitVec 32 := 0#32
  let c1_i32_73 : BitVec 32 := 1#32
  let arg14 : BitVec 32 := Scf.iv c0_i32_71 c1_i32_73 k1_t2
  let c8_i32_102 : BitVec 32 := 8#32
  let v180 : BitVec 32 := Scalar.muli arg14 c8_i32_102
  let c1_i32_103 : BitVec 32 := 1#32
  let v181 : BitVec 32 := Scalar.addi v180 c1_i32_103
  let c16_i32_107 : BitVec 32 := 16#32
  let v191 : BitVec 32 := Scalar.muli v181 c16_i32_107
  let v193 : Index := Scalar.indexCast v191
  ![1, v193.toNat]

def k1_chk2 (v79 : IVec S16 32) (v84 : IVec S16 32) (v89 : IVec S16 32) (v184 : IVec S16 32) : Prop :=
  (∀ a x, ((![v184, v79] : Fin 2 → IVec S16 32) a x).toNat < S120x128.size a) ∧
  (∀ a x, ((![v184, v84] : Fin 2 → IVec S16 32) a x).toNat < S120x128.size a) ∧
  (∀ a x, ((![v184, v89] : Fin 2 → IVec S16 32) a x).toNat < S120x128.size a)
theorem k1_idx4_inb : ∀ (v79 : IVec S16 32) (v84 : IVec S16 32) (v89 : IVec S16 32) (v184 : IVec S16 32) (k1_hw2 : k1_chk2 v79 v84 v89 v184), ∀ a x, ((![v184, v79] : Fin 2 → IVec S16 32) a x).toNat < S120x128.size a := fun v79 v84 v89 v184 k1_hw2 => k1_hw2.1
theorem k1_idx5_inb : ∀ (v79 : IVec S16 32) (v84 : IVec S16 32) (v89 : IVec S16 32) (v184 : IVec S16 32) (k1_hw2 : k1_chk2 v79 v84 v89 v184), ∀ a x, ((![v184, v84] : Fin 2 → IVec S16 32) a x).toNat < S120x128.size a := fun v79 v84 v89 v184 k1_hw2 => k1_hw2.2.1
theorem k1_idx6_inb : ∀ (v79 : IVec S16 32) (v84 : IVec S16 32) (v89 : IVec S16 32) (v184 : IVec S16 32) (k1_hw2 : k1_chk2 v79 v84 v89 v184), ∀ a x, ((![v184, v89] : Fin 2 → IVec S16 32) a x).toNat < S120x128.size a := fun v79 v84 v89 v184 k1_hw2 => k1_hw2.2.2
def k1_off8 (k1_t2 : Fin k1_t2_loop.trips) : Fin 2 → Nat :=
  let c2_i32_110 : BitVec 32 := 2#32
  let v197 : Index := Scalar.indexCast c2_i32_110
  let c0_i32_71 : BitVec 32 := 0#32
  let c1_i32_73 : BitVec 32 := 1#32
  let arg14 : BitVec 32 := Scf.iv c0_i32_71 c1_i32_73 k1_t2
  let c8_i32_102 : BitVec 32 := 8#32
  let v180 : BitVec 32 := Scalar.muli arg14 c8_i32_102
  let c1_i32_103 : BitVec 32 := 1#32
  let v181 : BitVec 32 := Scalar.addi v180 c1_i32_103
  let c16_i32_109 : BitVec 32 := 16#32
  let v196 : BitVec 32 := Scalar.muli v181 c16_i32_109
  let v198 : Index := Scalar.indexCast v196
  ![2, v198.toNat]
def k1_off9 (k1_t2 : Fin k1_t2_loop.trips) : Fin 2 → Nat :=
  let c0_i32_115 : BitVec 32 := 0#32
  let v207 : Index := Scalar.indexCast c0_i32_115
  let c0_i32_71 : BitVec 32 := 0#32
  let c1_i32_73 : BitVec 32 := 1#32
  let arg14 : BitVec 32 := Scf.iv c0_i32_71 c1_i32_73 k1_t2
  let c8_i32_111 : BitVec 32 := 8#32
  let v200 : BitVec 32 := Scalar.muli arg14 c8_i32_111
  let c2_i32_112 : BitVec 32 := 2#32
  let v201 : BitVec 32 := Scalar.addi v200 c2_i32_112
  let c16_i32_114 : BitVec 32 := 16#32
  let v206 : BitVec 32 := Scalar.muli v201 c16_i32_114
  let v208 : Index := Scalar.indexCast v206
  ![0, v208.toNat]
def k1_off10 (k1_t2 : Fin k1_t2_loop.trips) : Fin 2 → Nat :=
  let c1_i32_117 : BitVec 32 := 1#32
  let v212 : Index := Scalar.indexCast c1_i32_117
  let c0_i32_71 : BitVec 32 := 0#32
  let c1_i32_73 : BitVec 32 := 1#32
  let arg14 : BitVec 32 := Scf.iv c0_i32_71 c1_i32_73 k1_t2
  let c8_i32_111 : BitVec 32 := 8#32
  let v200 : BitVec 32 := Scalar.muli arg14 c8_i32_111
  let c2_i32_112 : BitVec 32 := 2#32
  let v201 : BitVec 32 := Scalar.addi v200 c2_i32_112
  let c16_i32_116 : BitVec 32 := 16#32
  let v211 : BitVec 32 := Scalar.muli v201 c16_i32_116
  let v213 : Index := Scalar.indexCast v211
  ![1, v213.toNat]

def k1_chk3 (v79 : IVec S16 32) (v84 : IVec S16 32) (v89 : IVec S16 32) (v204 : IVec S16 32) : Prop :=
  (∀ a x, ((![v204, v79] : Fin 2 → IVec S16 32) a x).toNat < S120x128.size a) ∧
  (∀ a x, ((![v204, v84] : Fin 2 → IVec S16 32) a x).toNat < S120x128.size a) ∧
  (∀ a x, ((![v204, v89] : Fin 2 → IVec S16 32) a x).toNat < S120x128.size a)
theorem k1_idx7_inb : ∀ (v79 : IVec S16 32) (v84 : IVec S16 32) (v89 : IVec S16 32) (v204 : IVec S16 32) (k1_hw3 : k1_chk3 v79 v84 v89 v204), ∀ a x, ((![v204, v79] : Fin 2 → IVec S16 32) a x).toNat < S120x128.size a := fun v79 v84 v89 v204 k1_hw3 => k1_hw3.1
theorem k1_idx8_inb : ∀ (v79 : IVec S16 32) (v84 : IVec S16 32) (v89 : IVec S16 32) (v204 : IVec S16 32) (k1_hw3 : k1_chk3 v79 v84 v89 v204), ∀ a x, ((![v204, v84] : Fin 2 → IVec S16 32) a x).toNat < S120x128.size a := fun v79 v84 v89 v204 k1_hw3 => k1_hw3.2.1
theorem k1_idx9_inb : ∀ (v79 : IVec S16 32) (v84 : IVec S16 32) (v89 : IVec S16 32) (v204 : IVec S16 32) (k1_hw3 : k1_chk3 v79 v84 v89 v204), ∀ a x, ((![v204, v89] : Fin 2 → IVec S16 32) a x).toNat < S120x128.size a := fun v79 v84 v89 v204 k1_hw3 => k1_hw3.2.2
def k1_off11 (k1_t2 : Fin k1_t2_loop.trips) : Fin 2 → Nat :=
  let c2_i32_119 : BitVec 32 := 2#32
  let v217 : Index := Scalar.indexCast c2_i32_119
  let c0_i32_71 : BitVec 32 := 0#32
  let c1_i32_73 : BitVec 32 := 1#32
  let arg14 : BitVec 32 := Scf.iv c0_i32_71 c1_i32_73 k1_t2
  let c8_i32_111 : BitVec 32 := 8#32
  let v200 : BitVec 32 := Scalar.muli arg14 c8_i32_111
  let c2_i32_112 : BitVec 32 := 2#32
  let v201 : BitVec 32 := Scalar.addi v200 c2_i32_112
  let c16_i32_118 : BitVec 32 := 16#32
  let v216 : BitVec 32 := Scalar.muli v201 c16_i32_118
  let v218 : Index := Scalar.indexCast v216
  ![2, v218.toNat]
def k1_off12 (k1_t2 : Fin k1_t2_loop.trips) : Fin 2 → Nat :=
  let c0_i32_124 : BitVec 32 := 0#32
  let v227 : Index := Scalar.indexCast c0_i32_124
  let c0_i32_71 : BitVec 32 := 0#32
  let c1_i32_73 : BitVec 32 := 1#32
  let arg14 : BitVec 32 := Scf.iv c0_i32_71 c1_i32_73 k1_t2
  let c8_i32_120 : BitVec 32 := 8#32
  let v220 : BitVec 32 := Scalar.muli arg14 c8_i32_120
  let c3_i32_121 : BitVec 32 := 3#32
  let v221 : BitVec 32 := Scalar.addi v220 c3_i32_121
  let c16_i32_123 : BitVec 32 := 16#32
  let v226 : BitVec 32 := Scalar.muli v221 c16_i32_123
  let v228 : Index := Scalar.indexCast v226
  ![0, v228.toNat]
def k1_off13 (k1_t2 : Fin k1_t2_loop.trips) : Fin 2 → Nat :=
  let c1_i32_126 : BitVec 32 := 1#32
  let v232 : Index := Scalar.indexCast c1_i32_126
  let c0_i32_71 : BitVec 32 := 0#32
  let c1_i32_73 : BitVec 32 := 1#32
  let arg14 : BitVec 32 := Scf.iv c0_i32_71 c1_i32_73 k1_t2
  let c8_i32_120 : BitVec 32 := 8#32
  let v220 : BitVec 32 := Scalar.muli arg14 c8_i32_120
  let c3_i32_121 : BitVec 32 := 3#32
  let v221 : BitVec 32 := Scalar.addi v220 c3_i32_121
  let c16_i32_125 : BitVec 32 := 16#32
  let v231 : BitVec 32 := Scalar.muli v221 c16_i32_125
  let v233 : Index := Scalar.indexCast v231
  ![1, v233.toNat]

def k1_chk4 (v79 : IVec S16 32) (v84 : IVec S16 32) (v89 : IVec S16 32) (v224 : IVec S16 32) : Prop :=
  (∀ a x, ((![v224, v79] : Fin 2 → IVec S16 32) a x).toNat < S120x128.size a) ∧
  (∀ a x, ((![v224, v84] : Fin 2 → IVec S16 32) a x).toNat < S120x128.size a) ∧
  (∀ a x, ((![v224, v89] : Fin 2 → IVec S16 32) a x).toNat < S120x128.size a)
theorem k1_idx10_inb : ∀ (v79 : IVec S16 32) (v84 : IVec S16 32) (v89 : IVec S16 32) (v224 : IVec S16 32) (k1_hw4 : k1_chk4 v79 v84 v89 v224), ∀ a x, ((![v224, v79] : Fin 2 → IVec S16 32) a x).toNat < S120x128.size a := fun v79 v84 v89 v224 k1_hw4 => k1_hw4.1
theorem k1_idx11_inb : ∀ (v79 : IVec S16 32) (v84 : IVec S16 32) (v89 : IVec S16 32) (v224 : IVec S16 32) (k1_hw4 : k1_chk4 v79 v84 v89 v224), ∀ a x, ((![v224, v84] : Fin 2 → IVec S16 32) a x).toNat < S120x128.size a := fun v79 v84 v89 v224 k1_hw4 => k1_hw4.2.1
theorem k1_idx12_inb : ∀ (v79 : IVec S16 32) (v84 : IVec S16 32) (v89 : IVec S16 32) (v224 : IVec S16 32) (k1_hw4 : k1_chk4 v79 v84 v89 v224), ∀ a x, ((![v224, v89] : Fin 2 → IVec S16 32) a x).toNat < S120x128.size a := fun v79 v84 v89 v224 k1_hw4 => k1_hw4.2.2
def k1_off14 (k1_t2 : Fin k1_t2_loop.trips) : Fin 2 → Nat :=
  let c2_i32_128 : BitVec 32 := 2#32
  let v237 : Index := Scalar.indexCast c2_i32_128
  let c0_i32_71 : BitVec 32 := 0#32
  let c1_i32_73 : BitVec 32 := 1#32
  let arg14 : BitVec 32 := Scf.iv c0_i32_71 c1_i32_73 k1_t2
  let c8_i32_120 : BitVec 32 := 8#32
  let v220 : BitVec 32 := Scalar.muli arg14 c8_i32_120
  let c3_i32_121 : BitVec 32 := 3#32
  let v221 : BitVec 32 := Scalar.addi v220 c3_i32_121
  let c16_i32_127 : BitVec 32 := 16#32
  let v236 : BitVec 32 := Scalar.muli v221 c16_i32_127
  let v238 : Index := Scalar.indexCast v236
  ![2, v238.toNat]
def k1_off15 (k1_t2 : Fin k1_t2_loop.trips) : Fin 2 → Nat :=
  let c0_i32_132 : BitVec 32 := 0#32
  let v247 : Index := Scalar.indexCast c0_i32_132
  let c0_i32_71 : BitVec 32 := 0#32
  let c1_i32_73 : BitVec 32 := 1#32
  let arg14 : BitVec 32 := Scf.iv c0_i32_71 c1_i32_73 k1_t2
  let c8_i32_129 : BitVec 32 := 8#32
  let v240 : BitVec 32 := Scalar.muli arg14 c8_i32_129
  let c4_i32 : BitVec 32 := 4#32
  let v241 : BitVec 32 := Scalar.addi v240 c4_i32
  let c16_i32_131 : BitVec 32 := 16#32
  let v246 : BitVec 32 := Scalar.muli v241 c16_i32_131
  let v248 : Index := Scalar.indexCast v246
  ![0, v248.toNat]
def k1_off16 (k1_t2 : Fin k1_t2_loop.trips) : Fin 2 → Nat :=
  let c1_i32_134 : BitVec 32 := 1#32
  let v252 : Index := Scalar.indexCast c1_i32_134
  let c0_i32_71 : BitVec 32 := 0#32
  let c1_i32_73 : BitVec 32 := 1#32
  let arg14 : BitVec 32 := Scf.iv c0_i32_71 c1_i32_73 k1_t2
  let c8_i32_129 : BitVec 32 := 8#32
  let v240 : BitVec 32 := Scalar.muli arg14 c8_i32_129
  let c4_i32 : BitVec 32 := 4#32
  let v241 : BitVec 32 := Scalar.addi v240 c4_i32
  let c16_i32_133 : BitVec 32 := 16#32
  let v251 : BitVec 32 := Scalar.muli v241 c16_i32_133
  let v253 : Index := Scalar.indexCast v251
  ![1, v253.toNat]

def k1_chk5 (v79 : IVec S16 32) (v84 : IVec S16 32) (v89 : IVec S16 32) (v244 : IVec S16 32) : Prop :=
  (∀ a x, ((![v244, v79] : Fin 2 → IVec S16 32) a x).toNat < S120x128.size a) ∧
  (∀ a x, ((![v244, v84] : Fin 2 → IVec S16 32) a x).toNat < S120x128.size a) ∧
  (∀ a x, ((![v244, v89] : Fin 2 → IVec S16 32) a x).toNat < S120x128.size a)
theorem k1_idx13_inb : ∀ (v79 : IVec S16 32) (v84 : IVec S16 32) (v89 : IVec S16 32) (v244 : IVec S16 32) (k1_hw5 : k1_chk5 v79 v84 v89 v244), ∀ a x, ((![v244, v79] : Fin 2 → IVec S16 32) a x).toNat < S120x128.size a := fun v79 v84 v89 v244 k1_hw5 => k1_hw5.1
theorem k1_idx14_inb : ∀ (v79 : IVec S16 32) (v84 : IVec S16 32) (v89 : IVec S16 32) (v244 : IVec S16 32) (k1_hw5 : k1_chk5 v79 v84 v89 v244), ∀ a x, ((![v244, v84] : Fin 2 → IVec S16 32) a x).toNat < S120x128.size a := fun v79 v84 v89 v244 k1_hw5 => k1_hw5.2.1
theorem k1_idx15_inb : ∀ (v79 : IVec S16 32) (v84 : IVec S16 32) (v89 : IVec S16 32) (v244 : IVec S16 32) (k1_hw5 : k1_chk5 v79 v84 v89 v244), ∀ a x, ((![v244, v89] : Fin 2 → IVec S16 32) a x).toNat < S120x128.size a := fun v79 v84 v89 v244 k1_hw5 => k1_hw5.2.2
def k1_off17 (k1_t2 : Fin k1_t2_loop.trips) : Fin 2 → Nat :=
  let c2_i32_136 : BitVec 32 := 2#32
  let v257 : Index := Scalar.indexCast c2_i32_136
  let c0_i32_71 : BitVec 32 := 0#32
  let c1_i32_73 : BitVec 32 := 1#32
  let arg14 : BitVec 32 := Scf.iv c0_i32_71 c1_i32_73 k1_t2
  let c8_i32_129 : BitVec 32 := 8#32
  let v240 : BitVec 32 := Scalar.muli arg14 c8_i32_129
  let c4_i32 : BitVec 32 := 4#32
  let v241 : BitVec 32 := Scalar.addi v240 c4_i32
  let c16_i32_135 : BitVec 32 := 16#32
  let v256 : BitVec 32 := Scalar.muli v241 c16_i32_135
  let v258 : Index := Scalar.indexCast v256
  ![2, v258.toNat]
def k1_off18 (k1_t2 : Fin k1_t2_loop.trips) : Fin 2 → Nat :=
  let c0_i32_140 : BitVec 32 := 0#32
  let v267 : Index := Scalar.indexCast c0_i32_140
  let c0_i32_71 : BitVec 32 := 0#32
  let c1_i32_73 : BitVec 32 := 1#32
  let arg14 : BitVec 32 := Scf.iv c0_i32_71 c1_i32_73 k1_t2
  let c8_i32_137 : BitVec 32 := 8#32
  let v260 : BitVec 32 := Scalar.muli arg14 c8_i32_137
  let c5_i32 : BitVec 32 := 5#32
  let v261 : BitVec 32 := Scalar.addi v260 c5_i32
  let c16_i32_139 : BitVec 32 := 16#32
  let v266 : BitVec 32 := Scalar.muli v261 c16_i32_139
  let v268 : Index := Scalar.indexCast v266
  ![0, v268.toNat]
def k1_off19 (k1_t2 : Fin k1_t2_loop.trips) : Fin 2 → Nat :=
  let c1_i32_142 : BitVec 32 := 1#32
  let v272 : Index := Scalar.indexCast c1_i32_142
  let c0_i32_71 : BitVec 32 := 0#32
  let c1_i32_73 : BitVec 32 := 1#32
  let arg14 : BitVec 32 := Scf.iv c0_i32_71 c1_i32_73 k1_t2
  let c8_i32_137 : BitVec 32 := 8#32
  let v260 : BitVec 32 := Scalar.muli arg14 c8_i32_137
  let c5_i32 : BitVec 32 := 5#32
  let v261 : BitVec 32 := Scalar.addi v260 c5_i32
  let c16_i32_141 : BitVec 32 := 16#32
  let v271 : BitVec 32 := Scalar.muli v261 c16_i32_141
  let v273 : Index := Scalar.indexCast v271
  ![1, v273.toNat]

def k1_chk6 (v79 : IVec S16 32) (v84 : IVec S16 32) (v89 : IVec S16 32) (v264 : IVec S16 32) : Prop :=
  (∀ a x, ((![v264, v79] : Fin 2 → IVec S16 32) a x).toNat < S120x128.size a) ∧
  (∀ a x, ((![v264, v84] : Fin 2 → IVec S16 32) a x).toNat < S120x128.size a) ∧
  (∀ a x, ((![v264, v89] : Fin 2 → IVec S16 32) a x).toNat < S120x128.size a)
theorem k1_idx16_inb : ∀ (v79 : IVec S16 32) (v84 : IVec S16 32) (v89 : IVec S16 32) (v264 : IVec S16 32) (k1_hw6 : k1_chk6 v79 v84 v89 v264), ∀ a x, ((![v264, v79] : Fin 2 → IVec S16 32) a x).toNat < S120x128.size a := fun v79 v84 v89 v264 k1_hw6 => k1_hw6.1
theorem k1_idx17_inb : ∀ (v79 : IVec S16 32) (v84 : IVec S16 32) (v89 : IVec S16 32) (v264 : IVec S16 32) (k1_hw6 : k1_chk6 v79 v84 v89 v264), ∀ a x, ((![v264, v84] : Fin 2 → IVec S16 32) a x).toNat < S120x128.size a := fun v79 v84 v89 v264 k1_hw6 => k1_hw6.2.1
theorem k1_idx18_inb : ∀ (v79 : IVec S16 32) (v84 : IVec S16 32) (v89 : IVec S16 32) (v264 : IVec S16 32) (k1_hw6 : k1_chk6 v79 v84 v89 v264), ∀ a x, ((![v264, v89] : Fin 2 → IVec S16 32) a x).toNat < S120x128.size a := fun v79 v84 v89 v264 k1_hw6 => k1_hw6.2.2
def k1_off20 (k1_t2 : Fin k1_t2_loop.trips) : Fin 2 → Nat :=
  let c2_i32_144 : BitVec 32 := 2#32
  let v277 : Index := Scalar.indexCast c2_i32_144
  let c0_i32_71 : BitVec 32 := 0#32
  let c1_i32_73 : BitVec 32 := 1#32
  let arg14 : BitVec 32 := Scf.iv c0_i32_71 c1_i32_73 k1_t2
  let c8_i32_137 : BitVec 32 := 8#32
  let v260 : BitVec 32 := Scalar.muli arg14 c8_i32_137
  let c5_i32 : BitVec 32 := 5#32
  let v261 : BitVec 32 := Scalar.addi v260 c5_i32
  let c16_i32_143 : BitVec 32 := 16#32
  let v276 : BitVec 32 := Scalar.muli v261 c16_i32_143
  let v278 : Index := Scalar.indexCast v276
  ![2, v278.toNat]
def k1_off21 (k1_t2 : Fin k1_t2_loop.trips) : Fin 2 → Nat :=
  let c0_i32_149 : BitVec 32 := 0#32
  let v287 : Index := Scalar.indexCast c0_i32_149
  let c0_i32_71 : BitVec 32 := 0#32
  let c1_i32_73 : BitVec 32 := 1#32
  let arg14 : BitVec 32 := Scf.iv c0_i32_71 c1_i32_73 k1_t2
  let c8_i32_145 : BitVec 32 := 8#32
  let v280 : BitVec 32 := Scalar.muli arg14 c8_i32_145
  let c6_i32_146 : BitVec 32 := 6#32
  let v281 : BitVec 32 := Scalar.addi v280 c6_i32_146
  let c16_i32_148 : BitVec 32 := 16#32
  let v286 : BitVec 32 := Scalar.muli v281 c16_i32_148
  let v288 : Index := Scalar.indexCast v286
  ![0, v288.toNat]
def k1_off22 (k1_t2 : Fin k1_t2_loop.trips) : Fin 2 → Nat :=
  let c1_i32_151 : BitVec 32 := 1#32
  let v292 : Index := Scalar.indexCast c1_i32_151
  let c0_i32_71 : BitVec 32 := 0#32
  let c1_i32_73 : BitVec 32 := 1#32
  let arg14 : BitVec 32 := Scf.iv c0_i32_71 c1_i32_73 k1_t2
  let c8_i32_145 : BitVec 32 := 8#32
  let v280 : BitVec 32 := Scalar.muli arg14 c8_i32_145
  let c6_i32_146 : BitVec 32 := 6#32
  let v281 : BitVec 32 := Scalar.addi v280 c6_i32_146
  let c16_i32_150 : BitVec 32 := 16#32
  let v291 : BitVec 32 := Scalar.muli v281 c16_i32_150
  let v293 : Index := Scalar.indexCast v291
  ![1, v293.toNat]

def k1_chk7 (v79 : IVec S16 32) (v84 : IVec S16 32) (v89 : IVec S16 32) (v284 : IVec S16 32) : Prop :=
  (∀ a x, ((![v284, v79] : Fin 2 → IVec S16 32) a x).toNat < S120x128.size a) ∧
  (∀ a x, ((![v284, v84] : Fin 2 → IVec S16 32) a x).toNat < S120x128.size a) ∧
  (∀ a x, ((![v284, v89] : Fin 2 → IVec S16 32) a x).toNat < S120x128.size a)
theorem k1_idx19_inb : ∀ (v79 : IVec S16 32) (v84 : IVec S16 32) (v89 : IVec S16 32) (v284 : IVec S16 32) (k1_hw7 : k1_chk7 v79 v84 v89 v284), ∀ a x, ((![v284, v79] : Fin 2 → IVec S16 32) a x).toNat < S120x128.size a := fun v79 v84 v89 v284 k1_hw7 => k1_hw7.1
theorem k1_idx20_inb : ∀ (v79 : IVec S16 32) (v84 : IVec S16 32) (v89 : IVec S16 32) (v284 : IVec S16 32) (k1_hw7 : k1_chk7 v79 v84 v89 v284), ∀ a x, ((![v284, v84] : Fin 2 → IVec S16 32) a x).toNat < S120x128.size a := fun v79 v84 v89 v284 k1_hw7 => k1_hw7.2.1
theorem k1_idx21_inb : ∀ (v79 : IVec S16 32) (v84 : IVec S16 32) (v89 : IVec S16 32) (v284 : IVec S16 32) (k1_hw7 : k1_chk7 v79 v84 v89 v284), ∀ a x, ((![v284, v89] : Fin 2 → IVec S16 32) a x).toNat < S120x128.size a := fun v79 v84 v89 v284 k1_hw7 => k1_hw7.2.2
def k1_off23 (k1_t2 : Fin k1_t2_loop.trips) : Fin 2 → Nat :=
  let c2_i32_153 : BitVec 32 := 2#32
  let v297 : Index := Scalar.indexCast c2_i32_153
  let c0_i32_71 : BitVec 32 := 0#32
  let c1_i32_73 : BitVec 32 := 1#32
  let arg14 : BitVec 32 := Scf.iv c0_i32_71 c1_i32_73 k1_t2
  let c8_i32_145 : BitVec 32 := 8#32
  let v280 : BitVec 32 := Scalar.muli arg14 c8_i32_145
  let c6_i32_146 : BitVec 32 := 6#32
  let v281 : BitVec 32 := Scalar.addi v280 c6_i32_146
  let c16_i32_152 : BitVec 32 := 16#32
  let v296 : BitVec 32 := Scalar.muli v281 c16_i32_152
  let v298 : Index := Scalar.indexCast v296
  ![2, v298.toNat]
def k1_off24 (k1_t2 : Fin k1_t2_loop.trips) : Fin 2 → Nat :=
  let c0_i32_157 : BitVec 32 := 0#32
  let v307 : Index := Scalar.indexCast c0_i32_157
  let c0_i32_71 : BitVec 32 := 0#32
  let c1_i32_73 : BitVec 32 := 1#32
  let arg14 : BitVec 32 := Scf.iv c0_i32_71 c1_i32_73 k1_t2
  let c8_i32_154 : BitVec 32 := 8#32
  let v300 : BitVec 32 := Scalar.muli arg14 c8_i32_154
  let c7_i32 : BitVec 32 := 7#32
  let v301 : BitVec 32 := Scalar.addi v300 c7_i32
  let c16_i32_156 : BitVec 32 := 16#32
  let v306 : BitVec 32 := Scalar.muli v301 c16_i32_156
  let v308 : Index := Scalar.indexCast v306
  ![0, v308.toNat]
def k1_off25 (k1_t2 : Fin k1_t2_loop.trips) : Fin 2 → Nat :=
  let c1_i32_159 : BitVec 32 := 1#32
  let v312 : Index := Scalar.indexCast c1_i32_159
  let c0_i32_71 : BitVec 32 := 0#32
  let c1_i32_73 : BitVec 32 := 1#32
  let arg14 : BitVec 32 := Scf.iv c0_i32_71 c1_i32_73 k1_t2
  let c8_i32_154 : BitVec 32 := 8#32
  let v300 : BitVec 32 := Scalar.muli arg14 c8_i32_154
  let c7_i32 : BitVec 32 := 7#32
  let v301 : BitVec 32 := Scalar.addi v300 c7_i32
  let c16_i32_158 : BitVec 32 := 16#32
  let v311 : BitVec 32 := Scalar.muli v301 c16_i32_158
  let v313 : Index := Scalar.indexCast v311
  ![1, v313.toNat]

def k1_chk8 (v79 : IVec S16 32) (v84 : IVec S16 32) (v89 : IVec S16 32) (v304 : IVec S16 32) : Prop :=
  (∀ a x, ((![v304, v79] : Fin 2 → IVec S16 32) a x).toNat < S120x128.size a) ∧
  (∀ a x, ((![v304, v84] : Fin 2 → IVec S16 32) a x).toNat < S120x128.size a) ∧
  (∀ a x, ((![v304, v89] : Fin 2 → IVec S16 32) a x).toNat < S120x128.size a)
theorem k1_idx22_inb : ∀ (v79 : IVec S16 32) (v84 : IVec S16 32) (v89 : IVec S16 32) (v304 : IVec S16 32) (k1_hw8 : k1_chk8 v79 v84 v89 v304), ∀ a x, ((![v304, v79] : Fin 2 → IVec S16 32) a x).toNat < S120x128.size a := fun v79 v84 v89 v304 k1_hw8 => k1_hw8.1
theorem k1_idx23_inb : ∀ (v79 : IVec S16 32) (v84 : IVec S16 32) (v89 : IVec S16 32) (v304 : IVec S16 32) (k1_hw8 : k1_chk8 v79 v84 v89 v304), ∀ a x, ((![v304, v84] : Fin 2 → IVec S16 32) a x).toNat < S120x128.size a := fun v79 v84 v89 v304 k1_hw8 => k1_hw8.2.1
theorem k1_idx24_inb : ∀ (v79 : IVec S16 32) (v84 : IVec S16 32) (v89 : IVec S16 32) (v304 : IVec S16 32) (k1_hw8 : k1_chk8 v79 v84 v89 v304), ∀ a x, ((![v304, v89] : Fin 2 → IVec S16 32) a x).toNat < S120x128.size a := fun v79 v84 v89 v304 k1_hw8 => k1_hw8.2.2
def k1_off26 (k1_t2 : Fin k1_t2_loop.trips) : Fin 2 → Nat :=
  let c2_i32_161 : BitVec 32 := 2#32
  let v317 : Index := Scalar.indexCast c2_i32_161
  let c0_i32_71 : BitVec 32 := 0#32
  let c1_i32_73 : BitVec 32 := 1#32
  let arg14 : BitVec 32 := Scf.iv c0_i32_71 c1_i32_73 k1_t2
  let c8_i32_154 : BitVec 32 := 8#32
  let v300 : BitVec 32 := Scalar.muli arg14 c8_i32_154
  let c7_i32 : BitVec 32 := 7#32
  let v301 : BitVec 32 := Scalar.addi v300 c7_i32
  let c16_i32_160 : BitVec 32 := 16#32
  let v316 : BitVec 32 := Scalar.muli v301 c16_i32_160
  let v318 : Index := Scalar.indexCast v316
  ![2, v318.toNat]
def k1_off27 (i : grid1.Coords) (k1_t1 : Fin k1_t1_loop.trips) (c0_i32_65 : BitVec 32) : Fin 2 → Nat :=
  let c0_i32_95_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg13 : BitVec 32 := Scf.iv c0_i32_39 c1_i32_40 k1_t1
  let c2_i32_64 : BitVec 32 := 2#32
  let v132 : BitVec 32 := Scalar.muli arg13 c2_i32_64
  let v133 : BitVec 32 := Scalar.addi v132 c0_i32_65
  let c120_i32_69 : BitVec 32 := 120#32
  let v138 : BitVec 32 := Scalar.muli v133 c120_i32_69
  let v139 : BitVec 32 := Scalar.addi v37 v138
  let c16_i32_75 : BitVec 32 := 16#32
  let v141 : BitVec 32 := Scalar.muli v139 c16_i32_75
  ![0, v141.toNat]
def k1_cond1 (k1_t1 : Fin k1_t1_loop.trips) : BitVec 1 :=
  let c0_i32_39 : BitVec 32 := 0#32
  let c1_i32_40 : BitVec 32 := 1#32
  let arg13 : BitVec 32 := Scf.iv c0_i32_39 c1_i32_40 k1_t1
  let c2_i32_64 : BitVec 32 := 2#32
  let v132 : BitVec 32 := Scalar.muli arg13 c2_i32_64
  let c0_i32_65 : BitVec 32 := 0#32
  let v133 : BitVec 32 := Scalar.addi v132 c0_i32_65
  let c2_i32_76 : BitVec 32 := 2#32
  let v142 : BitVec 32 := Scalar.addi v133 c2_i32_76
  let c13_i32 : BitVec 32 := 13#32
  let v143 : BitVec 1 := Scalar.cmpi .slt v142 c13_i32
  let v144 : BitVec 32 := Scalar.extui v143
  let c0_i32_77 : BitVec 32 := 0#32
  let v145 : BitVec 1 := Scalar.cmpi .ne v144 c0_i32_77
  v145

def k1_off28 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg13 : BitVec 32 := Scf.iv c0_i32_39 c1_i32_40 k1_t1
  let c2_i32_64 : BitVec 32 := 2#32
  let v132 : BitVec 32 := Scalar.muli arg13 c2_i32_64
  let c0_i32_65 : BitVec 32 := 0#32
  let v133 : BitVec 32 := Scalar.addi v132 c0_i32_65
  let c2_i32_93 : BitVec 32 := 2#32
  let v160 : BitVec 32 := Scalar.addi v133 c2_i32_93
  let c120_i32_94 : BitVec 32 := 120#32
  let v161 : BitVec 32 := Scalar.muli v160 c120_i32_94
  let v162 : BitVec 32 := Scalar.addi v37 v161
  let c0_i32_95 : BitVec 32 := 0#32
  ![v162.toNat, 0]
def k1_off29 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg13 : BitVec 32 := Scf.iv c0_i32_39 c1_i32_40 k1_t1
  let c2_i32_78 : BitVec 32 := 2#32
  let v146 : BitVec 32 := Scalar.muli arg13 c2_i32_78
  let c1_i32_79 : BitVec 32 := 1#32
  let v147 : BitVec 32 := Scalar.addi v146 c1_i32_79
  let c120_i32_80 : BitVec 32 := 120#32
  let v148 : BitVec 32 := Scalar.muli v147 c120_i32_80
  let v149 : BitVec 32 := Scalar.addi v37 v148
  let c0_i32_81 : BitVec 32 := 0#32
  ![v149.toNat, 0]
@[reducible] def k1_t3_loop : Scf.Loop 32 :=
  let c0_i32_85 : BitVec 32 := 0#32
  let c15_i32_86 : BitVec 32 := 15#32
  let v154 : BitVec 32 := Scalar.addi c0_i32_85 c15_i32_86
  let c1_i32_87 : BitVec 32 := 1#32
  ⟨c0_i32_85, v154, c1_i32_87⟩
def k1_off30 (k1_t3 : Fin k1_t3_loop.trips) : Fin 2 → Nat :=
  let c0_i32_97 : BitVec 32 := 0#32
  let v167 : Index := Scalar.indexCast c0_i32_97
  let c0_i32_85 : BitVec 32 := 0#32
  let c1_i32_87 : BitVec 32 := 1#32
  let arg14 : BitVec 32 := Scf.iv c0_i32_85 c1_i32_87 k1_t3
  let c8_i32_93 : BitVec 32 := 8#32
  let v160 : BitVec 32 := Scalar.muli arg14 c8_i32_93
  let c0_i32_94 : BitVec 32 := 0#32
  let v161 : BitVec 32 := Scalar.addi v160 c0_i32_94
  let c16_i32_96 : BitVec 32 := 16#32
  let v166 : BitVec 32 := Scalar.muli v161 c16_i32_96
  let v168 : Index := Scalar.indexCast v166
  ![0, v168.toNat]
def k1_off31 (k1_t3 : Fin k1_t3_loop.trips) : Fin 2 → Nat :=
  let c1_i32_99 : BitVec 32 := 1#32
  let v172 : Index := Scalar.indexCast c1_i32_99
  let c0_i32_85 : BitVec 32 := 0#32
  let c1_i32_87 : BitVec 32 := 1#32
  let arg14 : BitVec 32 := Scf.iv c0_i32_85 c1_i32_87 k1_t3
  let c8_i32_93 : BitVec 32 := 8#32
  let v160 : BitVec 32 := Scalar.muli arg14 c8_i32_93
  let c0_i32_94 : BitVec 32 := 0#32
  let v161 : BitVec 32 := Scalar.addi v160 c0_i32_94
  let c16_i32_98 : BitVec 32 := 16#32
  let v171 : BitVec 32 := Scalar.muli v161 c16_i32_98
  let v173 : Index := Scalar.indexCast v171
  ![1, v173.toNat]

def k1_chk9 (v79 : IVec S16 32) (v84 : IVec S16 32) (v89 : IVec S16 32) (v164 : IVec S16 32) : Prop :=
  (∀ a x, ((![v164, v79] : Fin 2 → IVec S16 32) a x).toNat < S120x128.size a) ∧
  (∀ a x, ((![v164, v84] : Fin 2 → IVec S16 32) a x).toNat < S120x128.size a) ∧
  (∀ a x, ((![v164, v89] : Fin 2 → IVec S16 32) a x).toNat < S120x128.size a)
theorem k1_idx25_inb : ∀ (v79 : IVec S16 32) (v84 : IVec S16 32) (v89 : IVec S16 32) (v164 : IVec S16 32) (k1_hw9 : k1_chk9 v79 v84 v89 v164), ∀ a x, ((![v164, v79] : Fin 2 → IVec S16 32) a x).toNat < S120x128.size a := fun v79 v84 v89 v164 k1_hw9 => k1_hw9.1
theorem k1_idx26_inb : ∀ (v79 : IVec S16 32) (v84 : IVec S16 32) (v89 : IVec S16 32) (v164 : IVec S16 32) (k1_hw9 : k1_chk9 v79 v84 v89 v164), ∀ a x, ((![v164, v84] : Fin 2 → IVec S16 32) a x).toNat < S120x128.size a := fun v79 v84 v89 v164 k1_hw9 => k1_hw9.2.1
theorem k1_idx27_inb : ∀ (v79 : IVec S16 32) (v84 : IVec S16 32) (v89 : IVec S16 32) (v164 : IVec S16 32) (k1_hw9 : k1_chk9 v79 v84 v89 v164), ∀ a x, ((![v164, v89] : Fin 2 → IVec S16 32) a x).toNat < S120x128.size a := fun v79 v84 v89 v164 k1_hw9 => k1_hw9.2.2
def k1_off32 (k1_t3 : Fin k1_t3_loop.trips) : Fin 2 → Nat :=
  let c2_i32_101 : BitVec 32 := 2#32
  let v177 : Index := Scalar.indexCast c2_i32_101
  let c0_i32_85 : BitVec 32 := 0#32
  let c1_i32_87 : BitVec 32 := 1#32
  let arg14 : BitVec 32 := Scf.iv c0_i32_85 c1_i32_87 k1_t3
  let c8_i32_93 : BitVec 32 := 8#32
  let v160 : BitVec 32 := Scalar.muli arg14 c8_i32_93
  let c0_i32_94 : BitVec 32 := 0#32
  let v161 : BitVec 32 := Scalar.addi v160 c0_i32_94
  let c16_i32_100 : BitVec 32 := 16#32
  let v176 : BitVec 32 := Scalar.muli v161 c16_i32_100
  let v178 : Index := Scalar.indexCast v176
  ![2, v178.toNat]
def k1_off33 (k1_t3 : Fin k1_t3_loop.trips) : Fin 2 → Nat :=
  let c0_i32_106 : BitVec 32 := 0#32
  let v187 : Index := Scalar.indexCast c0_i32_106
  let c0_i32_85 : BitVec 32 := 0#32
  let c1_i32_87 : BitVec 32 := 1#32
  let arg14 : BitVec 32 := Scf.iv c0_i32_85 c1_i32_87 k1_t3
  let c8_i32_102 : BitVec 32 := 8#32
  let v180 : BitVec 32 := Scalar.muli arg14 c8_i32_102
  let c1_i32_103 : BitVec 32 := 1#32
  let v181 : BitVec 32 := Scalar.addi v180 c1_i32_103
  let c16_i32_105 : BitVec 32 := 16#32
  let v186 : BitVec 32 := Scalar.muli v181 c16_i32_105
  let v188 : Index := Scalar.indexCast v186
  ![0, v188.toNat]
def k1_off34 (k1_t3 : Fin k1_t3_loop.trips) : Fin 2 → Nat :=
  let c1_i32_108 : BitVec 32 := 1#32
  let v192 : Index := Scalar.indexCast c1_i32_108
  let c0_i32_85 : BitVec 32 := 0#32
  let c1_i32_87 : BitVec 32 := 1#32
  let arg14 : BitVec 32 := Scf.iv c0_i32_85 c1_i32_87 k1_t3
  let c8_i32_102 : BitVec 32 := 8#32
  let v180 : BitVec 32 := Scalar.muli arg14 c8_i32_102
  let c1_i32_103 : BitVec 32 := 1#32
  let v181 : BitVec 32 := Scalar.addi v180 c1_i32_103
  let c16_i32_107 : BitVec 32 := 16#32
  let v191 : BitVec 32 := Scalar.muli v181 c16_i32_107
  let v193 : Index := Scalar.indexCast v191
  ![1, v193.toNat]

def k1_chk10 (v79 : IVec S16 32) (v84 : IVec S16 32) (v89 : IVec S16 32) (v184 : IVec S16 32) : Prop :=
  (∀ a x, ((![v184, v79] : Fin 2 → IVec S16 32) a x).toNat < S120x128.size a) ∧
  (∀ a x, ((![v184, v84] : Fin 2 → IVec S16 32) a x).toNat < S120x128.size a) ∧
  (∀ a x, ((![v184, v89] : Fin 2 → IVec S16 32) a x).toNat < S120x128.size a)
theorem k1_idx28_inb : ∀ (v79 : IVec S16 32) (v84 : IVec S16 32) (v89 : IVec S16 32) (v184 : IVec S16 32) (k1_hw10 : k1_chk10 v79 v84 v89 v184), ∀ a x, ((![v184, v79] : Fin 2 → IVec S16 32) a x).toNat < S120x128.size a := fun v79 v84 v89 v184 k1_hw10 => k1_hw10.1
theorem k1_idx29_inb : ∀ (v79 : IVec S16 32) (v84 : IVec S16 32) (v89 : IVec S16 32) (v184 : IVec S16 32) (k1_hw10 : k1_chk10 v79 v84 v89 v184), ∀ a x, ((![v184, v84] : Fin 2 → IVec S16 32) a x).toNat < S120x128.size a := fun v79 v84 v89 v184 k1_hw10 => k1_hw10.2.1
theorem k1_idx30_inb : ∀ (v79 : IVec S16 32) (v84 : IVec S16 32) (v89 : IVec S16 32) (v184 : IVec S16 32) (k1_hw10 : k1_chk10 v79 v84 v89 v184), ∀ a x, ((![v184, v89] : Fin 2 → IVec S16 32) a x).toNat < S120x128.size a := fun v79 v84 v89 v184 k1_hw10 => k1_hw10.2.2
def k1_off35 (k1_t3 : Fin k1_t3_loop.trips) : Fin 2 → Nat :=
  let c2_i32_110 : BitVec 32 := 2#32
  let v197 : Index := Scalar.indexCast c2_i32_110
  let c0_i32_85 : BitVec 32 := 0#32
  let c1_i32_87 : BitVec 32 := 1#32
  let arg14 : BitVec 32 := Scf.iv c0_i32_85 c1_i32_87 k1_t3
  let c8_i32_102 : BitVec 32 := 8#32
  let v180 : BitVec 32 := Scalar.muli arg14 c8_i32_102
  let c1_i32_103 : BitVec 32 := 1#32
  let v181 : BitVec 32 := Scalar.addi v180 c1_i32_103
  let c16_i32_109 : BitVec 32 := 16#32
  let v196 : BitVec 32 := Scalar.muli v181 c16_i32_109
  let v198 : Index := Scalar.indexCast v196
  ![2, v198.toNat]
def k1_off36 (k1_t3 : Fin k1_t3_loop.trips) : Fin 2 → Nat :=
  let c0_i32_115 : BitVec 32 := 0#32
  let v207 : Index := Scalar.indexCast c0_i32_115
  let c0_i32_85 : BitVec 32 := 0#32
  let c1_i32_87 : BitVec 32 := 1#32
  let arg14 : BitVec 32 := Scf.iv c0_i32_85 c1_i32_87 k1_t3
  let c8_i32_111 : BitVec 32 := 8#32
  let v200 : BitVec 32 := Scalar.muli arg14 c8_i32_111
  let c2_i32_112 : BitVec 32 := 2#32
  let v201 : BitVec 32 := Scalar.addi v200 c2_i32_112
  let c16_i32_114 : BitVec 32 := 16#32
  let v206 : BitVec 32 := Scalar.muli v201 c16_i32_114
  let v208 : Index := Scalar.indexCast v206
  ![0, v208.toNat]
def k1_off37 (k1_t3 : Fin k1_t3_loop.trips) : Fin 2 → Nat :=
  let c1_i32_117 : BitVec 32 := 1#32
  let v212 : Index := Scalar.indexCast c1_i32_117
  let c0_i32_85 : BitVec 32 := 0#32
  let c1_i32_87 : BitVec 32 := 1#32
  let arg14 : BitVec 32 := Scf.iv c0_i32_85 c1_i32_87 k1_t3
  let c8_i32_111 : BitVec 32 := 8#32
  let v200 : BitVec 32 := Scalar.muli arg14 c8_i32_111
  let c2_i32_112 : BitVec 32 := 2#32
  let v201 : BitVec 32 := Scalar.addi v200 c2_i32_112
  let c16_i32_116 : BitVec 32 := 16#32
  let v211 : BitVec 32 := Scalar.muli v201 c16_i32_116
  let v213 : Index := Scalar.indexCast v211
  ![1, v213.toNat]

def k1_chk11 (v79 : IVec S16 32) (v84 : IVec S16 32) (v89 : IVec S16 32) (v204 : IVec S16 32) : Prop :=
  (∀ a x, ((![v204, v79] : Fin 2 → IVec S16 32) a x).toNat < S120x128.size a) ∧
  (∀ a x, ((![v204, v84] : Fin 2 → IVec S16 32) a x).toNat < S120x128.size a) ∧
  (∀ a x, ((![v204, v89] : Fin 2 → IVec S16 32) a x).toNat < S120x128.size a)
theorem k1_idx31_inb : ∀ (v79 : IVec S16 32) (v84 : IVec S16 32) (v89 : IVec S16 32) (v204 : IVec S16 32) (k1_hw11 : k1_chk11 v79 v84 v89 v204), ∀ a x, ((![v204, v79] : Fin 2 → IVec S16 32) a x).toNat < S120x128.size a := fun v79 v84 v89 v204 k1_hw11 => k1_hw11.1
theorem k1_idx32_inb : ∀ (v79 : IVec S16 32) (v84 : IVec S16 32) (v89 : IVec S16 32) (v204 : IVec S16 32) (k1_hw11 : k1_chk11 v79 v84 v89 v204), ∀ a x, ((![v204, v84] : Fin 2 → IVec S16 32) a x).toNat < S120x128.size a := fun v79 v84 v89 v204 k1_hw11 => k1_hw11.2.1
theorem k1_idx33_inb : ∀ (v79 : IVec S16 32) (v84 : IVec S16 32) (v89 : IVec S16 32) (v204 : IVec S16 32) (k1_hw11 : k1_chk11 v79 v84 v89 v204), ∀ a x, ((![v204, v89] : Fin 2 → IVec S16 32) a x).toNat < S120x128.size a := fun v79 v84 v89 v204 k1_hw11 => k1_hw11.2.2
def k1_off38 (k1_t3 : Fin k1_t3_loop.trips) : Fin 2 → Nat :=
  let c2_i32_119 : BitVec 32 := 2#32
  let v217 : Index := Scalar.indexCast c2_i32_119
  let c0_i32_85 : BitVec 32 := 0#32
  let c1_i32_87 : BitVec 32 := 1#32
  let arg14 : BitVec 32 := Scf.iv c0_i32_85 c1_i32_87 k1_t3
  let c8_i32_111 : BitVec 32 := 8#32
  let v200 : BitVec 32 := Scalar.muli arg14 c8_i32_111
  let c2_i32_112 : BitVec 32 := 2#32
  let v201 : BitVec 32 := Scalar.addi v200 c2_i32_112
  let c16_i32_118 : BitVec 32 := 16#32
  let v216 : BitVec 32 := Scalar.muli v201 c16_i32_118
  let v218 : Index := Scalar.indexCast v216
  ![2, v218.toNat]
def k1_off39 (k1_t3 : Fin k1_t3_loop.trips) : Fin 2 → Nat :=
  let c0_i32_124 : BitVec 32 := 0#32
  let v227 : Index := Scalar.indexCast c0_i32_124
  let c0_i32_85 : BitVec 32 := 0#32
  let c1_i32_87 : BitVec 32 := 1#32
  let arg14 : BitVec 32 := Scf.iv c0_i32_85 c1_i32_87 k1_t3
  let c8_i32_120 : BitVec 32 := 8#32
  let v220 : BitVec 32 := Scalar.muli arg14 c8_i32_120
  let c3_i32_121 : BitVec 32 := 3#32
  let v221 : BitVec 32 := Scalar.addi v220 c3_i32_121
  let c16_i32_123 : BitVec 32 := 16#32
  let v226 : BitVec 32 := Scalar.muli v221 c16_i32_123
  let v228 : Index := Scalar.indexCast v226
  ![0, v228.toNat]
def k1_off40 (k1_t3 : Fin k1_t3_loop.trips) : Fin 2 → Nat :=
  let c1_i32_126 : BitVec 32 := 1#32
  let v232 : Index := Scalar.indexCast c1_i32_126
  let c0_i32_85 : BitVec 32 := 0#32
  let c1_i32_87 : BitVec 32 := 1#32
  let arg14 : BitVec 32 := Scf.iv c0_i32_85 c1_i32_87 k1_t3
  let c8_i32_120 : BitVec 32 := 8#32
  let v220 : BitVec 32 := Scalar.muli arg14 c8_i32_120
  let c3_i32_121 : BitVec 32 := 3#32
  let v221 : BitVec 32 := Scalar.addi v220 c3_i32_121
  let c16_i32_125 : BitVec 32 := 16#32
  let v231 : BitVec 32 := Scalar.muli v221 c16_i32_125
  let v233 : Index := Scalar.indexCast v231
  ![1, v233.toNat]

def k1_chk12 (v79 : IVec S16 32) (v84 : IVec S16 32) (v89 : IVec S16 32) (v224 : IVec S16 32) : Prop :=
  (∀ a x, ((![v224, v79] : Fin 2 → IVec S16 32) a x).toNat < S120x128.size a) ∧
  (∀ a x, ((![v224, v84] : Fin 2 → IVec S16 32) a x).toNat < S120x128.size a) ∧
  (∀ a x, ((![v224, v89] : Fin 2 → IVec S16 32) a x).toNat < S120x128.size a)
theorem k1_idx34_inb : ∀ (v79 : IVec S16 32) (v84 : IVec S16 32) (v89 : IVec S16 32) (v224 : IVec S16 32) (k1_hw12 : k1_chk12 v79 v84 v89 v224), ∀ a x, ((![v224, v79] : Fin 2 → IVec S16 32) a x).toNat < S120x128.size a := fun v79 v84 v89 v224 k1_hw12 => k1_hw12.1
theorem k1_idx35_inb : ∀ (v79 : IVec S16 32) (v84 : IVec S16 32) (v89 : IVec S16 32) (v224 : IVec S16 32) (k1_hw12 : k1_chk12 v79 v84 v89 v224), ∀ a x, ((![v224, v84] : Fin 2 → IVec S16 32) a x).toNat < S120x128.size a := fun v79 v84 v89 v224 k1_hw12 => k1_hw12.2.1
theorem k1_idx36_inb : ∀ (v79 : IVec S16 32) (v84 : IVec S16 32) (v89 : IVec S16 32) (v224 : IVec S16 32) (k1_hw12 : k1_chk12 v79 v84 v89 v224), ∀ a x, ((![v224, v89] : Fin 2 → IVec S16 32) a x).toNat < S120x128.size a := fun v79 v84 v89 v224 k1_hw12 => k1_hw12.2.2
def k1_off41 (k1_t3 : Fin k1_t3_loop.trips) : Fin 2 → Nat :=
  let c2_i32_128 : BitVec 32 := 2#32
  let v237 : Index := Scalar.indexCast c2_i32_128
  let c0_i32_85 : BitVec 32 := 0#32
  let c1_i32_87 : BitVec 32 := 1#32
  let arg14 : BitVec 32 := Scf.iv c0_i32_85 c1_i32_87 k1_t3
  let c8_i32_120 : BitVec 32 := 8#32
  let v220 : BitVec 32 := Scalar.muli arg14 c8_i32_120
  let c3_i32_121 : BitVec 32 := 3#32
  let v221 : BitVec 32 := Scalar.addi v220 c3_i32_121
  let c16_i32_127 : BitVec 32 := 16#32
  let v236 : BitVec 32 := Scalar.muli v221 c16_i32_127
  let v238 : Index := Scalar.indexCast v236
  ![2, v238.toNat]
def k1_off42 (k1_t3 : Fin k1_t3_loop.trips) : Fin 2 → Nat :=
  let c0_i32_132 : BitVec 32 := 0#32
  let v247 : Index := Scalar.indexCast c0_i32_132
  let c0_i32_85 : BitVec 32 := 0#32
  let c1_i32_87 : BitVec 32 := 1#32
  let arg14 : BitVec 32 := Scf.iv c0_i32_85 c1_i32_87 k1_t3
  let c8_i32_129 : BitVec 32 := 8#32
  let v240 : BitVec 32 := Scalar.muli arg14 c8_i32_129
  let c4_i32 : BitVec 32 := 4#32
  let v241 : BitVec 32 := Scalar.addi v240 c4_i32
  let c16_i32_131 : BitVec 32 := 16#32
  let v246 : BitVec 32 := Scalar.muli v241 c16_i32_131
  let v248 : Index := Scalar.indexCast v246
  ![0, v248.toNat]
def k1_off43 (k1_t3 : Fin k1_t3_loop.trips) : Fin 2 → Nat :=
  let c1_i32_134 : BitVec 32 := 1#32
  let v252 : Index := Scalar.indexCast c1_i32_134
  let c0_i32_85 : BitVec 32 := 0#32
  let c1_i32_87 : BitVec 32 := 1#32
  let arg14 : BitVec 32 := Scf.iv c0_i32_85 c1_i32_87 k1_t3
  let c8_i32_129 : BitVec 32 := 8#32
  let v240 : BitVec 32 := Scalar.muli arg14 c8_i32_129
  let c4_i32 : BitVec 32 := 4#32
  let v241 : BitVec 32 := Scalar.addi v240 c4_i32
  let c16_i32_133 : BitVec 32 := 16#32
  let v251 : BitVec 32 := Scalar.muli v241 c16_i32_133
  let v253 : Index := Scalar.indexCast v251
  ![1, v253.toNat]

def k1_chk13 (v79 : IVec S16 32) (v84 : IVec S16 32) (v89 : IVec S16 32) (v244 : IVec S16 32) : Prop :=
  (∀ a x, ((![v244, v79] : Fin 2 → IVec S16 32) a x).toNat < S120x128.size a) ∧
  (∀ a x, ((![v244, v84] : Fin 2 → IVec S16 32) a x).toNat < S120x128.size a) ∧
  (∀ a x, ((![v244, v89] : Fin 2 → IVec S16 32) a x).toNat < S120x128.size a)
theorem k1_idx37_inb : ∀ (v79 : IVec S16 32) (v84 : IVec S16 32) (v89 : IVec S16 32) (v244 : IVec S16 32) (k1_hw13 : k1_chk13 v79 v84 v89 v244), ∀ a x, ((![v244, v79] : Fin 2 → IVec S16 32) a x).toNat < S120x128.size a := fun v79 v84 v89 v244 k1_hw13 => k1_hw13.1
theorem k1_idx38_inb : ∀ (v79 : IVec S16 32) (v84 : IVec S16 32) (v89 : IVec S16 32) (v244 : IVec S16 32) (k1_hw13 : k1_chk13 v79 v84 v89 v244), ∀ a x, ((![v244, v84] : Fin 2 → IVec S16 32) a x).toNat < S120x128.size a := fun v79 v84 v89 v244 k1_hw13 => k1_hw13.2.1
theorem k1_idx39_inb : ∀ (v79 : IVec S16 32) (v84 : IVec S16 32) (v89 : IVec S16 32) (v244 : IVec S16 32) (k1_hw13 : k1_chk13 v79 v84 v89 v244), ∀ a x, ((![v244, v89] : Fin 2 → IVec S16 32) a x).toNat < S120x128.size a := fun v79 v84 v89 v244 k1_hw13 => k1_hw13.2.2
def k1_off44 (k1_t3 : Fin k1_t3_loop.trips) : Fin 2 → Nat :=
  let c2_i32_136 : BitVec 32 := 2#32
  let v257 : Index := Scalar.indexCast c2_i32_136
  let c0_i32_85 : BitVec 32 := 0#32
  let c1_i32_87 : BitVec 32 := 1#32
  let arg14 : BitVec 32 := Scf.iv c0_i32_85 c1_i32_87 k1_t3
  let c8_i32_129 : BitVec 32 := 8#32
  let v240 : BitVec 32 := Scalar.muli arg14 c8_i32_129
  let c4_i32 : BitVec 32 := 4#32
  let v241 : BitVec 32 := Scalar.addi v240 c4_i32
  let c16_i32_135 : BitVec 32 := 16#32
  let v256 : BitVec 32 := Scalar.muli v241 c16_i32_135
  let v258 : Index := Scalar.indexCast v256
  ![2, v258.toNat]
def k1_off45 (k1_t3 : Fin k1_t3_loop.trips) : Fin 2 → Nat :=
  let c0_i32_140 : BitVec 32 := 0#32
  let v267 : Index := Scalar.indexCast c0_i32_140
  let c0_i32_85 : BitVec 32 := 0#32
  let c1_i32_87 : BitVec 32 := 1#32
  let arg14 : BitVec 32 := Scf.iv c0_i32_85 c1_i32_87 k1_t3
  let c8_i32_137 : BitVec 32 := 8#32
  let v260 : BitVec 32 := Scalar.muli arg14 c8_i32_137
  let c5_i32 : BitVec 32 := 5#32
  let v261 : BitVec 32 := Scalar.addi v260 c5_i32
  let c16_i32_139 : BitVec 32 := 16#32
  let v266 : BitVec 32 := Scalar.muli v261 c16_i32_139
  let v268 : Index := Scalar.indexCast v266
  ![0, v268.toNat]
def k1_off46 (k1_t3 : Fin k1_t3_loop.trips) : Fin 2 → Nat :=
  let c1_i32_142 : BitVec 32 := 1#32
  let v272 : Index := Scalar.indexCast c1_i32_142
  let c0_i32_85 : BitVec 32 := 0#32
  let c1_i32_87 : BitVec 32 := 1#32
  let arg14 : BitVec 32 := Scf.iv c0_i32_85 c1_i32_87 k1_t3
  let c8_i32_137 : BitVec 32 := 8#32
  let v260 : BitVec 32 := Scalar.muli arg14 c8_i32_137
  let c5_i32 : BitVec 32 := 5#32
  let v261 : BitVec 32 := Scalar.addi v260 c5_i32
  let c16_i32_141 : BitVec 32 := 16#32
  let v271 : BitVec 32 := Scalar.muli v261 c16_i32_141
  let v273 : Index := Scalar.indexCast v271
  ![1, v273.toNat]

def k1_chk14 (v79 : IVec S16 32) (v84 : IVec S16 32) (v89 : IVec S16 32) (v264 : IVec S16 32) : Prop :=
  (∀ a x, ((![v264, v79] : Fin 2 → IVec S16 32) a x).toNat < S120x128.size a) ∧
  (∀ a x, ((![v264, v84] : Fin 2 → IVec S16 32) a x).toNat < S120x128.size a) ∧
  (∀ a x, ((![v264, v89] : Fin 2 → IVec S16 32) a x).toNat < S120x128.size a)
theorem k1_idx40_inb : ∀ (v79 : IVec S16 32) (v84 : IVec S16 32) (v89 : IVec S16 32) (v264 : IVec S16 32) (k1_hw14 : k1_chk14 v79 v84 v89 v264), ∀ a x, ((![v264, v79] : Fin 2 → IVec S16 32) a x).toNat < S120x128.size a := fun v79 v84 v89 v264 k1_hw14 => k1_hw14.1
theorem k1_idx41_inb : ∀ (v79 : IVec S16 32) (v84 : IVec S16 32) (v89 : IVec S16 32) (v264 : IVec S16 32) (k1_hw14 : k1_chk14 v79 v84 v89 v264), ∀ a x, ((![v264, v84] : Fin 2 → IVec S16 32) a x).toNat < S120x128.size a := fun v79 v84 v89 v264 k1_hw14 => k1_hw14.2.1
theorem k1_idx42_inb : ∀ (v79 : IVec S16 32) (v84 : IVec S16 32) (v89 : IVec S16 32) (v264 : IVec S16 32) (k1_hw14 : k1_chk14 v79 v84 v89 v264), ∀ a x, ((![v264, v89] : Fin 2 → IVec S16 32) a x).toNat < S120x128.size a := fun v79 v84 v89 v264 k1_hw14 => k1_hw14.2.2
def k1_off47 (k1_t3 : Fin k1_t3_loop.trips) : Fin 2 → Nat :=
  let c2_i32_144 : BitVec 32 := 2#32
  let v277 : Index := Scalar.indexCast c2_i32_144
  let c0_i32_85 : BitVec 32 := 0#32
  let c1_i32_87 : BitVec 32 := 1#32
  let arg14 : BitVec 32 := Scf.iv c0_i32_85 c1_i32_87 k1_t3
  let c8_i32_137 : BitVec 32 := 8#32
  let v260 : BitVec 32 := Scalar.muli arg14 c8_i32_137
  let c5_i32 : BitVec 32 := 5#32
  let v261 : BitVec 32 := Scalar.addi v260 c5_i32
  let c16_i32_143 : BitVec 32 := 16#32
  let v276 : BitVec 32 := Scalar.muli v261 c16_i32_143
  let v278 : Index := Scalar.indexCast v276
  ![2, v278.toNat]
def k1_off48 (k1_t3 : Fin k1_t3_loop.trips) : Fin 2 → Nat :=
  let c0_i32_149 : BitVec 32 := 0#32
  let v287 : Index := Scalar.indexCast c0_i32_149
  let c0_i32_85 : BitVec 32 := 0#32
  let c1_i32_87 : BitVec 32 := 1#32
  let arg14 : BitVec 32 := Scf.iv c0_i32_85 c1_i32_87 k1_t3
  let c8_i32_145 : BitVec 32 := 8#32
  let v280 : BitVec 32 := Scalar.muli arg14 c8_i32_145
  let c6_i32_146 : BitVec 32 := 6#32
  let v281 : BitVec 32 := Scalar.addi v280 c6_i32_146
  let c16_i32_148 : BitVec 32 := 16#32
  let v286 : BitVec 32 := Scalar.muli v281 c16_i32_148
  let v288 : Index := Scalar.indexCast v286
  ![0, v288.toNat]
def k1_off49 (k1_t3 : Fin k1_t3_loop.trips) : Fin 2 → Nat :=
  let c1_i32_151 : BitVec 32 := 1#32
  let v292 : Index := Scalar.indexCast c1_i32_151
  let c0_i32_85 : BitVec 32 := 0#32
  let c1_i32_87 : BitVec 32 := 1#32
  let arg14 : BitVec 32 := Scf.iv c0_i32_85 c1_i32_87 k1_t3
  let c8_i32_145 : BitVec 32 := 8#32
  let v280 : BitVec 32 := Scalar.muli arg14 c8_i32_145
  let c6_i32_146 : BitVec 32 := 6#32
  let v281 : BitVec 32 := Scalar.addi v280 c6_i32_146
  let c16_i32_150 : BitVec 32 := 16#32
  let v291 : BitVec 32 := Scalar.muli v281 c16_i32_150
  let v293 : Index := Scalar.indexCast v291
  ![1, v293.toNat]

def k1_chk15 (v79 : IVec S16 32) (v84 : IVec S16 32) (v89 : IVec S16 32) (v284 : IVec S16 32) : Prop :=
  (∀ a x, ((![v284, v79] : Fin 2 → IVec S16 32) a x).toNat < S120x128.size a) ∧
  (∀ a x, ((![v284, v84] : Fin 2 → IVec S16 32) a x).toNat < S120x128.size a) ∧
  (∀ a x, ((![v284, v89] : Fin 2 → IVec S16 32) a x).toNat < S120x128.size a)
theorem k1_idx43_inb : ∀ (v79 : IVec S16 32) (v84 : IVec S16 32) (v89 : IVec S16 32) (v284 : IVec S16 32) (k1_hw15 : k1_chk15 v79 v84 v89 v284), ∀ a x, ((![v284, v79] : Fin 2 → IVec S16 32) a x).toNat < S120x128.size a := fun v79 v84 v89 v284 k1_hw15 => k1_hw15.1
theorem k1_idx44_inb : ∀ (v79 : IVec S16 32) (v84 : IVec S16 32) (v89 : IVec S16 32) (v284 : IVec S16 32) (k1_hw15 : k1_chk15 v79 v84 v89 v284), ∀ a x, ((![v284, v84] : Fin 2 → IVec S16 32) a x).toNat < S120x128.size a := fun v79 v84 v89 v284 k1_hw15 => k1_hw15.2.1
theorem k1_idx45_inb : ∀ (v79 : IVec S16 32) (v84 : IVec S16 32) (v89 : IVec S16 32) (v284 : IVec S16 32) (k1_hw15 : k1_chk15 v79 v84 v89 v284), ∀ a x, ((![v284, v89] : Fin 2 → IVec S16 32) a x).toNat < S120x128.size a := fun v79 v84 v89 v284 k1_hw15 => k1_hw15.2.2
def k1_off50 (k1_t3 : Fin k1_t3_loop.trips) : Fin 2 → Nat :=
  let c2_i32_153 : BitVec 32 := 2#32
  let v297 : Index := Scalar.indexCast c2_i32_153
  let c0_i32_85 : BitVec 32 := 0#32
  let c1_i32_87 : BitVec 32 := 1#32
  let arg14 : BitVec 32 := Scf.iv c0_i32_85 c1_i32_87 k1_t3
  let c8_i32_145 : BitVec 32 := 8#32
  let v280 : BitVec 32 := Scalar.muli arg14 c8_i32_145
  let c6_i32_146 : BitVec 32 := 6#32
  let v281 : BitVec 32 := Scalar.addi v280 c6_i32_146
  let c16_i32_152 : BitVec 32 := 16#32
  let v296 : BitVec 32 := Scalar.muli v281 c16_i32_152
  let v298 : Index := Scalar.indexCast v296
  ![2, v298.toNat]
def k1_off51 (k1_t3 : Fin k1_t3_loop.trips) : Fin 2 → Nat :=
  let c0_i32_157 : BitVec 32 := 0#32
  let v307 : Index := Scalar.indexCast c0_i32_157
  let c0_i32_85 : BitVec 32 := 0#32
  let c1_i32_87 : BitVec 32 := 1#32
  let arg14 : BitVec 32 := Scf.iv c0_i32_85 c1_i32_87 k1_t3
  let c8_i32_154 : BitVec 32 := 8#32
  let v300 : BitVec 32 := Scalar.muli arg14 c8_i32_154
  let c7_i32 : BitVec 32 := 7#32
  let v301 : BitVec 32 := Scalar.addi v300 c7_i32
  let c16_i32_156 : BitVec 32 := 16#32
  let v306 : BitVec 32 := Scalar.muli v301 c16_i32_156
  let v308 : Index := Scalar.indexCast v306
  ![0, v308.toNat]
def k1_off52 (k1_t3 : Fin k1_t3_loop.trips) : Fin 2 → Nat :=
  let c1_i32_159 : BitVec 32 := 1#32
  let v312 : Index := Scalar.indexCast c1_i32_159
  let c0_i32_85 : BitVec 32 := 0#32
  let c1_i32_87 : BitVec 32 := 1#32
  let arg14 : BitVec 32 := Scf.iv c0_i32_85 c1_i32_87 k1_t3
  let c8_i32_154 : BitVec 32 := 8#32
  let v300 : BitVec 32 := Scalar.muli arg14 c8_i32_154
  let c7_i32 : BitVec 32 := 7#32
  let v301 : BitVec 32 := Scalar.addi v300 c7_i32
  let c16_i32_158 : BitVec 32 := 16#32
  let v311 : BitVec 32 := Scalar.muli v301 c16_i32_158
  let v313 : Index := Scalar.indexCast v311
  ![1, v313.toNat]

def k1_chk16 (v79 : IVec S16 32) (v84 : IVec S16 32) (v89 : IVec S16 32) (v304 : IVec S16 32) : Prop :=
  (∀ a x, ((![v304, v79] : Fin 2 → IVec S16 32) a x).toNat < S120x128.size a) ∧
  (∀ a x, ((![v304, v84] : Fin 2 → IVec S16 32) a x).toNat < S120x128.size a) ∧
  (∀ a x, ((![v304, v89] : Fin 2 → IVec S16 32) a x).toNat < S120x128.size a)
theorem k1_idx46_inb : ∀ (v79 : IVec S16 32) (v84 : IVec S16 32) (v89 : IVec S16 32) (v304 : IVec S16 32) (k1_hw16 : k1_chk16 v79 v84 v89 v304), ∀ a x, ((![v304, v79] : Fin 2 → IVec S16 32) a x).toNat < S120x128.size a := fun v79 v84 v89 v304 k1_hw16 => k1_hw16.1
theorem k1_idx47_inb : ∀ (v79 : IVec S16 32) (v84 : IVec S16 32) (v89 : IVec S16 32) (v304 : IVec S16 32) (k1_hw16 : k1_chk16 v79 v84 v89 v304), ∀ a x, ((![v304, v84] : Fin 2 → IVec S16 32) a x).toNat < S120x128.size a := fun v79 v84 v89 v304 k1_hw16 => k1_hw16.2.1
theorem k1_idx48_inb : ∀ (v79 : IVec S16 32) (v84 : IVec S16 32) (v89 : IVec S16 32) (v304 : IVec S16 32) (k1_hw16 : k1_chk16 v79 v84 v89 v304), ∀ a x, ((![v304, v89] : Fin 2 → IVec S16 32) a x).toNat < S120x128.size a := fun v79 v84 v89 v304 k1_hw16 => k1_hw16.2.2
def k1_off53 (k1_t3 : Fin k1_t3_loop.trips) : Fin 2 → Nat :=
  let c2_i32_161 : BitVec 32 := 2#32
  let v317 : Index := Scalar.indexCast c2_i32_161
  let c0_i32_85 : BitVec 32 := 0#32
  let c1_i32_87 : BitVec 32 := 1#32
  let arg14 : BitVec 32 := Scf.iv c0_i32_85 c1_i32_87 k1_t3
  let c8_i32_154 : BitVec 32 := 8#32
  let v300 : BitVec 32 := Scalar.muli arg14 c8_i32_154
  let c7_i32 : BitVec 32 := 7#32
  let v301 : BitVec 32 := Scalar.addi v300 c7_i32
  let c16_i32_160 : BitVec 32 := 16#32
  let v316 : BitVec 32 := Scalar.muli v301 c16_i32_160
  let v318 : Index := Scalar.indexCast v316
  ![2, v318.toNat]
def k1_cond2 (k1_t1 : Fin k1_t1_loop.trips) : BitVec 1 :=
  let c0_i32_39 : BitVec 32 := 0#32
  let c1_i32_40 : BitVec 32 := 1#32
  let arg13 : BitVec 32 := Scf.iv c0_i32_39 c1_i32_40 k1_t1
  let c2_i32_78 : BitVec 32 := 2#32
  let v146 : BitVec 32 := Scalar.muli arg13 c2_i32_78
  let c1_i32_79 : BitVec 32 := 1#32
  let v147 : BitVec 32 := Scalar.addi v146 c1_i32_79
  let c2_i32_90 : BitVec 32 := 2#32
  let v156 : BitVec 32 := Scalar.addi v147 c2_i32_90
  let c13_i32_91 : BitVec 32 := 13#32
  let v157 : BitVec 1 := Scalar.cmpi .slt v156 c13_i32_91
  let v158 : BitVec 32 := Scalar.extui v157
  let c0_i32_92 : BitVec 32 := 0#32
  let v159 : BitVec 1 := Scalar.cmpi .ne v158 c0_i32_92
  v159

def k1_off54 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg13 : BitVec 32 := Scf.iv c0_i32_39 c1_i32_40 k1_t1
  let c2_i32_78 : BitVec 32 := 2#32
  let v146 : BitVec 32 := Scalar.muli arg13 c2_i32_78
  let c1_i32_79 : BitVec 32 := 1#32
  let v147 : BitVec 32 := Scalar.addi v146 c1_i32_79
  let c2_i32_93 : BitVec 32 := 2#32
  let v160 : BitVec 32 := Scalar.addi v147 c2_i32_93
  let c120_i32_94 : BitVec 32 := 120#32
  let v161 : BitVec 32 := Scalar.muli v160 c120_i32_94
  let v162 : BitVec 32 := Scalar.addi v37 v161
  let c0_i32_95 : BitVec 32 := 0#32
  ![v162.toNat, 0]
def k1_off55 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1440_i32 : BitVec 32 := 1440#32
  let v97 : BitVec 32 := Scalar.addi v37 c1440_i32
  let c0_i32_42 : BitVec 32 := 0#32
  ![v97.toNat, 0]
@[reducible] def k1_t4_loop : Scf.Loop 32 :=
  let c0_i32_46 : BitVec 32 := 0#32
  let c15_i32 : BitVec 32 := 15#32
  let v101 : BitVec 32 := Scalar.addi c0_i32_46 c15_i32
  let c1_i32_47 : BitVec 32 := 1#32
  ⟨c0_i32_46, v101, c1_i32_47⟩
def k1_off56 (k1_t4 : Fin k1_t4_loop.trips) : Fin 2 → Nat :=
  let c0_i32_68 : BitVec 32 := 0#32
  let v139 : Index := Scalar.indexCast c0_i32_68
  let c0_i32_46 : BitVec 32 := 0#32
  let c1_i32_47 : BitVec 32 := 1#32
  let arg13 : BitVec 32 := Scf.iv c0_i32_46 c1_i32_47 k1_t4
  let c8_i32_64 : BitVec 32 := 8#32
  let v132 : BitVec 32 := Scalar.muli arg13 c8_i32_64
  let c0_i32_65 : BitVec 32 := 0#32
  let v133 : BitVec 32 := Scalar.addi v132 c0_i32_65
  let c16_i32_67 : BitVec 32 := 16#32
  let v138 : BitVec 32 := Scalar.muli v133 c16_i32_67
  let v140 : Index := Scalar.indexCast v138
  ![0, v140.toNat]
def k1_off57 (k1_t4 : Fin k1_t4_loop.trips) : Fin 2 → Nat :=
  let c1_i32_70 : BitVec 32 := 1#32
  let v144 : Index := Scalar.indexCast c1_i32_70
  let c0_i32_46 : BitVec 32 := 0#32
  let c1_i32_47 : BitVec 32 := 1#32
  let arg13 : BitVec 32 := Scf.iv c0_i32_46 c1_i32_47 k1_t4
  let c8_i32_64 : BitVec 32 := 8#32
  let v132 : BitVec 32 := Scalar.muli arg13 c8_i32_64
  let c0_i32_65 : BitVec 32 := 0#32
  let v133 : BitVec 32 := Scalar.addi v132 c0_i32_65
  let c16_i32_69 : BitVec 32 := 16#32
  let v143 : BitVec 32 := Scalar.muli v133 c16_i32_69
  let v145 : Index := Scalar.indexCast v143
  ![1, v145.toNat]

def k1_chk17 (v79 : IVec S16 32) (v84 : IVec S16 32) (v89 : IVec S16 32) (v136 : IVec S16 32) : Prop :=
  (∀ a x, ((![v136, v79] : Fin 2 → IVec S16 32) a x).toNat < S120x128.size a) ∧
  (∀ a x, ((![v136, v84] : Fin 2 → IVec S16 32) a x).toNat < S120x128.size a) ∧
  (∀ a x, ((![v136, v89] : Fin 2 → IVec S16 32) a x).toNat < S120x128.size a)
theorem k1_idx49_inb : ∀ (v79 : IVec S16 32) (v84 : IVec S16 32) (v89 : IVec S16 32) (v136 : IVec S16 32) (k1_hw17 : k1_chk17 v79 v84 v89 v136), ∀ a x, ((![v136, v79] : Fin 2 → IVec S16 32) a x).toNat < S120x128.size a := fun v79 v84 v89 v136 k1_hw17 => k1_hw17.1
theorem k1_idx50_inb : ∀ (v79 : IVec S16 32) (v84 : IVec S16 32) (v89 : IVec S16 32) (v136 : IVec S16 32) (k1_hw17 : k1_chk17 v79 v84 v89 v136), ∀ a x, ((![v136, v84] : Fin 2 → IVec S16 32) a x).toNat < S120x128.size a := fun v79 v84 v89 v136 k1_hw17 => k1_hw17.2.1
theorem k1_idx51_inb : ∀ (v79 : IVec S16 32) (v84 : IVec S16 32) (v89 : IVec S16 32) (v136 : IVec S16 32) (k1_hw17 : k1_chk17 v79 v84 v89 v136), ∀ a x, ((![v136, v89] : Fin 2 → IVec S16 32) a x).toNat < S120x128.size a := fun v79 v84 v89 v136 k1_hw17 => k1_hw17.2.2
def k1_off58 (k1_t4 : Fin k1_t4_loop.trips) : Fin 2 → Nat :=
  let c2_i32_72 : BitVec 32 := 2#32
  let v149 : Index := Scalar.indexCast c2_i32_72
  let c0_i32_46 : BitVec 32 := 0#32
  let c1_i32_47 : BitVec 32 := 1#32
  let arg13 : BitVec 32 := Scf.iv c0_i32_46 c1_i32_47 k1_t4
  let c8_i32_64 : BitVec 32 := 8#32
  let v132 : BitVec 32 := Scalar.muli arg13 c8_i32_64
  let c0_i32_65 : BitVec 32 := 0#32
  let v133 : BitVec 32 := Scalar.addi v132 c0_i32_65
  let c16_i32_71 : BitVec 32 := 16#32
  let v148 : BitVec 32 := Scalar.muli v133 c16_i32_71
  let v150 : Index := Scalar.indexCast v148
  ![2, v150.toNat]
def k1_off59 (k1_t4 : Fin k1_t4_loop.trips) : Fin 2 → Nat :=
  let c0_i32_77 : BitVec 32 := 0#32
  let v159 : Index := Scalar.indexCast c0_i32_77
  let c0_i32_46 : BitVec 32 := 0#32
  let c1_i32_47 : BitVec 32 := 1#32
  let arg13 : BitVec 32 := Scf.iv c0_i32_46 c1_i32_47 k1_t4
  let c8_i32_73 : BitVec 32 := 8#32
  let v152 : BitVec 32 := Scalar.muli arg13 c8_i32_73
  let c1_i32_74 : BitVec 32 := 1#32
  let v153 : BitVec 32 := Scalar.addi v152 c1_i32_74
  let c16_i32_76 : BitVec 32 := 16#32
  let v158 : BitVec 32 := Scalar.muli v153 c16_i32_76
  let v160 : Index := Scalar.indexCast v158
  ![0, v160.toNat]
def k1_off60 (k1_t4 : Fin k1_t4_loop.trips) : Fin 2 → Nat :=
  let c1_i32_79 : BitVec 32 := 1#32
  let v164 : Index := Scalar.indexCast c1_i32_79
  let c0_i32_46 : BitVec 32 := 0#32
  let c1_i32_47 : BitVec 32 := 1#32
  let arg13 : BitVec 32 := Scf.iv c0_i32_46 c1_i32_47 k1_t4
  let c8_i32_73 : BitVec 32 := 8#32
  let v152 : BitVec 32 := Scalar.muli arg13 c8_i32_73
  let c1_i32_74 : BitVec 32 := 1#32
  let v153 : BitVec 32 := Scalar.addi v152 c1_i32_74
  let c16_i32_78 : BitVec 32 := 16#32
  let v163 : BitVec 32 := Scalar.muli v153 c16_i32_78
  let v165 : Index := Scalar.indexCast v163
  ![1, v165.toNat]

def k1_chk18 (v79 : IVec S16 32) (v84 : IVec S16 32) (v89 : IVec S16 32) (v156 : IVec S16 32) : Prop :=
  (∀ a x, ((![v156, v79] : Fin 2 → IVec S16 32) a x).toNat < S120x128.size a) ∧
  (∀ a x, ((![v156, v84] : Fin 2 → IVec S16 32) a x).toNat < S120x128.size a) ∧
  (∀ a x, ((![v156, v89] : Fin 2 → IVec S16 32) a x).toNat < S120x128.size a)
theorem k1_idx52_inb : ∀ (v79 : IVec S16 32) (v84 : IVec S16 32) (v89 : IVec S16 32) (v156 : IVec S16 32) (k1_hw18 : k1_chk18 v79 v84 v89 v156), ∀ a x, ((![v156, v79] : Fin 2 → IVec S16 32) a x).toNat < S120x128.size a := fun v79 v84 v89 v156 k1_hw18 => k1_hw18.1
theorem k1_idx53_inb : ∀ (v79 : IVec S16 32) (v84 : IVec S16 32) (v89 : IVec S16 32) (v156 : IVec S16 32) (k1_hw18 : k1_chk18 v79 v84 v89 v156), ∀ a x, ((![v156, v84] : Fin 2 → IVec S16 32) a x).toNat < S120x128.size a := fun v79 v84 v89 v156 k1_hw18 => k1_hw18.2.1
theorem k1_idx54_inb : ∀ (v79 : IVec S16 32) (v84 : IVec S16 32) (v89 : IVec S16 32) (v156 : IVec S16 32) (k1_hw18 : k1_chk18 v79 v84 v89 v156), ∀ a x, ((![v156, v89] : Fin 2 → IVec S16 32) a x).toNat < S120x128.size a := fun v79 v84 v89 v156 k1_hw18 => k1_hw18.2.2
def k1_off61 (k1_t4 : Fin k1_t4_loop.trips) : Fin 2 → Nat :=
  let c2_i32_81 : BitVec 32 := 2#32
  let v169 : Index := Scalar.indexCast c2_i32_81
  let c0_i32_46 : BitVec 32 := 0#32
  let c1_i32_47 : BitVec 32 := 1#32
  let arg13 : BitVec 32 := Scf.iv c0_i32_46 c1_i32_47 k1_t4
  let c8_i32_73 : BitVec 32 := 8#32
  let v152 : BitVec 32 := Scalar.muli arg13 c8_i32_73
  let c1_i32_74 : BitVec 32 := 1#32
  let v153 : BitVec 32 := Scalar.addi v152 c1_i32_74
  let c16_i32_80 : BitVec 32 := 16#32
  let v168 : BitVec 32 := Scalar.muli v153 c16_i32_80
  let v170 : Index := Scalar.indexCast v168
  ![2, v170.toNat]
def k1_off62 (k1_t4 : Fin k1_t4_loop.trips) : Fin 2 → Nat :=
  let c0_i32_86 : BitVec 32 := 0#32
  let v179 : Index := Scalar.indexCast c0_i32_86
  let c0_i32_46 : BitVec 32 := 0#32
  let c1_i32_47 : BitVec 32 := 1#32
  let arg13 : BitVec 32 := Scf.iv c0_i32_46 c1_i32_47 k1_t4
  let c8_i32_82 : BitVec 32 := 8#32
  let v172 : BitVec 32 := Scalar.muli arg13 c8_i32_82
  let c2_i32_83 : BitVec 32 := 2#32
  let v173 : BitVec 32 := Scalar.addi v172 c2_i32_83
  let c16_i32_85 : BitVec 32 := 16#32
  let v178 : BitVec 32 := Scalar.muli v173 c16_i32_85
  let v180 : Index := Scalar.indexCast v178
  ![0, v180.toNat]
def k1_off63 (k1_t4 : Fin k1_t4_loop.trips) : Fin 2 → Nat :=
  let c1_i32_88 : BitVec 32 := 1#32
  let v184 : Index := Scalar.indexCast c1_i32_88
  let c0_i32_46 : BitVec 32 := 0#32
  let c1_i32_47 : BitVec 32 := 1#32
  let arg13 : BitVec 32 := Scf.iv c0_i32_46 c1_i32_47 k1_t4
  let c8_i32_82 : BitVec 32 := 8#32
  let v172 : BitVec 32 := Scalar.muli arg13 c8_i32_82
  let c2_i32_83 : BitVec 32 := 2#32
  let v173 : BitVec 32 := Scalar.addi v172 c2_i32_83
  let c16_i32_87 : BitVec 32 := 16#32
  let v183 : BitVec 32 := Scalar.muli v173 c16_i32_87
  let v185 : Index := Scalar.indexCast v183
  ![1, v185.toNat]

def k1_chk19 (v79 : IVec S16 32) (v84 : IVec S16 32) (v89 : IVec S16 32) (v176 : IVec S16 32) : Prop :=
  (∀ a x, ((![v176, v79] : Fin 2 → IVec S16 32) a x).toNat < S120x128.size a) ∧
  (∀ a x, ((![v176, v84] : Fin 2 → IVec S16 32) a x).toNat < S120x128.size a) ∧
  (∀ a x, ((![v176, v89] : Fin 2 → IVec S16 32) a x).toNat < S120x128.size a)
theorem k1_idx55_inb : ∀ (v79 : IVec S16 32) (v84 : IVec S16 32) (v89 : IVec S16 32) (v176 : IVec S16 32) (k1_hw19 : k1_chk19 v79 v84 v89 v176), ∀ a x, ((![v176, v79] : Fin 2 → IVec S16 32) a x).toNat < S120x128.size a := fun v79 v84 v89 v176 k1_hw19 => k1_hw19.1
theorem k1_idx56_inb : ∀ (v79 : IVec S16 32) (v84 : IVec S16 32) (v89 : IVec S16 32) (v176 : IVec S16 32) (k1_hw19 : k1_chk19 v79 v84 v89 v176), ∀ a x, ((![v176, v84] : Fin 2 → IVec S16 32) a x).toNat < S120x128.size a := fun v79 v84 v89 v176 k1_hw19 => k1_hw19.2.1
theorem k1_idx57_inb : ∀ (v79 : IVec S16 32) (v84 : IVec S16 32) (v89 : IVec S16 32) (v176 : IVec S16 32) (k1_hw19 : k1_chk19 v79 v84 v89 v176), ∀ a x, ((![v176, v89] : Fin 2 → IVec S16 32) a x).toNat < S120x128.size a := fun v79 v84 v89 v176 k1_hw19 => k1_hw19.2.2
def k1_off64 (k1_t4 : Fin k1_t4_loop.trips) : Fin 2 → Nat :=
  let c2_i32_90 : BitVec 32 := 2#32
  let v189 : Index := Scalar.indexCast c2_i32_90
  let c0_i32_46 : BitVec 32 := 0#32
  let c1_i32_47 : BitVec 32 := 1#32
  let arg13 : BitVec 32 := Scf.iv c0_i32_46 c1_i32_47 k1_t4
  let c8_i32_82 : BitVec 32 := 8#32
  let v172 : BitVec 32 := Scalar.muli arg13 c8_i32_82
  let c2_i32_83 : BitVec 32 := 2#32
  let v173 : BitVec 32 := Scalar.addi v172 c2_i32_83
  let c16_i32_89 : BitVec 32 := 16#32
  let v188 : BitVec 32 := Scalar.muli v173 c16_i32_89
  let v190 : Index := Scalar.indexCast v188
  ![2, v190.toNat]
def k1_off65 (k1_t4 : Fin k1_t4_loop.trips) : Fin 2 → Nat :=
  let c0_i32_95 : BitVec 32 := 0#32
  let v199 : Index := Scalar.indexCast c0_i32_95
  let c0_i32_46 : BitVec 32 := 0#32
  let c1_i32_47 : BitVec 32 := 1#32
  let arg13 : BitVec 32 := Scf.iv c0_i32_46 c1_i32_47 k1_t4
  let c8_i32_91 : BitVec 32 := 8#32
  let v192 : BitVec 32 := Scalar.muli arg13 c8_i32_91
  let c3_i32_92 : BitVec 32 := 3#32
  let v193 : BitVec 32 := Scalar.addi v192 c3_i32_92
  let c16_i32_94 : BitVec 32 := 16#32
  let v198 : BitVec 32 := Scalar.muli v193 c16_i32_94
  let v200 : Index := Scalar.indexCast v198
  ![0, v200.toNat]
def k1_off66 (k1_t4 : Fin k1_t4_loop.trips) : Fin 2 → Nat :=
  let c1_i32_97 : BitVec 32 := 1#32
  let v204 : Index := Scalar.indexCast c1_i32_97
  let c0_i32_46 : BitVec 32 := 0#32
  let c1_i32_47 : BitVec 32 := 1#32
  let arg13 : BitVec 32 := Scf.iv c0_i32_46 c1_i32_47 k1_t4
  let c8_i32_91 : BitVec 32 := 8#32
  let v192 : BitVec 32 := Scalar.muli arg13 c8_i32_91
  let c3_i32_92 : BitVec 32 := 3#32
  let v193 : BitVec 32 := Scalar.addi v192 c3_i32_92
  let c16_i32_96 : BitVec 32 := 16#32
  let v203 : BitVec 32 := Scalar.muli v193 c16_i32_96
  let v205 : Index := Scalar.indexCast v203
  ![1, v205.toNat]

def k1_chk20 (v79 : IVec S16 32) (v84 : IVec S16 32) (v89 : IVec S16 32) (v196 : IVec S16 32) : Prop :=
  (∀ a x, ((![v196, v79] : Fin 2 → IVec S16 32) a x).toNat < S120x128.size a) ∧
  (∀ a x, ((![v196, v84] : Fin 2 → IVec S16 32) a x).toNat < S120x128.size a) ∧
  (∀ a x, ((![v196, v89] : Fin 2 → IVec S16 32) a x).toNat < S120x128.size a)
theorem k1_idx58_inb : ∀ (v79 : IVec S16 32) (v84 : IVec S16 32) (v89 : IVec S16 32) (v196 : IVec S16 32) (k1_hw20 : k1_chk20 v79 v84 v89 v196), ∀ a x, ((![v196, v79] : Fin 2 → IVec S16 32) a x).toNat < S120x128.size a := fun v79 v84 v89 v196 k1_hw20 => k1_hw20.1
theorem k1_idx59_inb : ∀ (v79 : IVec S16 32) (v84 : IVec S16 32) (v89 : IVec S16 32) (v196 : IVec S16 32) (k1_hw20 : k1_chk20 v79 v84 v89 v196), ∀ a x, ((![v196, v84] : Fin 2 → IVec S16 32) a x).toNat < S120x128.size a := fun v79 v84 v89 v196 k1_hw20 => k1_hw20.2.1
theorem k1_idx60_inb : ∀ (v79 : IVec S16 32) (v84 : IVec S16 32) (v89 : IVec S16 32) (v196 : IVec S16 32) (k1_hw20 : k1_chk20 v79 v84 v89 v196), ∀ a x, ((![v196, v89] : Fin 2 → IVec S16 32) a x).toNat < S120x128.size a := fun v79 v84 v89 v196 k1_hw20 => k1_hw20.2.2
def k1_off67 (k1_t4 : Fin k1_t4_loop.trips) : Fin 2 → Nat :=
  let c2_i32_99 : BitVec 32 := 2#32
  let v209 : Index := Scalar.indexCast c2_i32_99
  let c0_i32_46 : BitVec 32 := 0#32
  let c1_i32_47 : BitVec 32 := 1#32
  let arg13 : BitVec 32 := Scf.iv c0_i32_46 c1_i32_47 k1_t4
  let c8_i32_91 : BitVec 32 := 8#32
  let v192 : BitVec 32 := Scalar.muli arg13 c8_i32_91
  let c3_i32_92 : BitVec 32 := 3#32
  let v193 : BitVec 32 := Scalar.addi v192 c3_i32_92
  let c16_i32_98 : BitVec 32 := 16#32
  let v208 : BitVec 32 := Scalar.muli v193 c16_i32_98
  let v210 : Index := Scalar.indexCast v208
  ![2, v210.toNat]
def k1_off68 (k1_t4 : Fin k1_t4_loop.trips) : Fin 2 → Nat :=
  let c0_i32_103 : BitVec 32 := 0#32
  let v219 : Index := Scalar.indexCast c0_i32_103
  let c0_i32_46 : BitVec 32 := 0#32
  let c1_i32_47 : BitVec 32 := 1#32
  let arg13 : BitVec 32 := Scf.iv c0_i32_46 c1_i32_47 k1_t4
  let c8_i32_100 : BitVec 32 := 8#32
  let v212 : BitVec 32 := Scalar.muli arg13 c8_i32_100
  let c4_i32 : BitVec 32 := 4#32
  let v213 : BitVec 32 := Scalar.addi v212 c4_i32
  let c16_i32_102 : BitVec 32 := 16#32
  let v218 : BitVec 32 := Scalar.muli v213 c16_i32_102
  let v220 : Index := Scalar.indexCast v218
  ![0, v220.toNat]
def k1_off69 (k1_t4 : Fin k1_t4_loop.trips) : Fin 2 → Nat :=
  let c1_i32_105 : BitVec 32 := 1#32
  let v224 : Index := Scalar.indexCast c1_i32_105
  let c0_i32_46 : BitVec 32 := 0#32
  let c1_i32_47 : BitVec 32 := 1#32
  let arg13 : BitVec 32 := Scf.iv c0_i32_46 c1_i32_47 k1_t4
  let c8_i32_100 : BitVec 32 := 8#32
  let v212 : BitVec 32 := Scalar.muli arg13 c8_i32_100
  let c4_i32 : BitVec 32 := 4#32
  let v213 : BitVec 32 := Scalar.addi v212 c4_i32
  let c16_i32_104 : BitVec 32 := 16#32
  let v223 : BitVec 32 := Scalar.muli v213 c16_i32_104
  let v225 : Index := Scalar.indexCast v223
  ![1, v225.toNat]

def k1_chk21 (v79 : IVec S16 32) (v84 : IVec S16 32) (v89 : IVec S16 32) (v216 : IVec S16 32) : Prop :=
  (∀ a x, ((![v216, v79] : Fin 2 → IVec S16 32) a x).toNat < S120x128.size a) ∧
  (∀ a x, ((![v216, v84] : Fin 2 → IVec S16 32) a x).toNat < S120x128.size a) ∧
  (∀ a x, ((![v216, v89] : Fin 2 → IVec S16 32) a x).toNat < S120x128.size a)
theorem k1_idx61_inb : ∀ (v79 : IVec S16 32) (v84 : IVec S16 32) (v89 : IVec S16 32) (v216 : IVec S16 32) (k1_hw21 : k1_chk21 v79 v84 v89 v216), ∀ a x, ((![v216, v79] : Fin 2 → IVec S16 32) a x).toNat < S120x128.size a := fun v79 v84 v89 v216 k1_hw21 => k1_hw21.1
theorem k1_idx62_inb : ∀ (v79 : IVec S16 32) (v84 : IVec S16 32) (v89 : IVec S16 32) (v216 : IVec S16 32) (k1_hw21 : k1_chk21 v79 v84 v89 v216), ∀ a x, ((![v216, v84] : Fin 2 → IVec S16 32) a x).toNat < S120x128.size a := fun v79 v84 v89 v216 k1_hw21 => k1_hw21.2.1
theorem k1_idx63_inb : ∀ (v79 : IVec S16 32) (v84 : IVec S16 32) (v89 : IVec S16 32) (v216 : IVec S16 32) (k1_hw21 : k1_chk21 v79 v84 v89 v216), ∀ a x, ((![v216, v89] : Fin 2 → IVec S16 32) a x).toNat < S120x128.size a := fun v79 v84 v89 v216 k1_hw21 => k1_hw21.2.2
def k1_off70 (k1_t4 : Fin k1_t4_loop.trips) : Fin 2 → Nat :=
  let c2_i32_107 : BitVec 32 := 2#32
  let v229 : Index := Scalar.indexCast c2_i32_107
  let c0_i32_46 : BitVec 32 := 0#32
  let c1_i32_47 : BitVec 32 := 1#32
  let arg13 : BitVec 32 := Scf.iv c0_i32_46 c1_i32_47 k1_t4
  let c8_i32_100 : BitVec 32 := 8#32
  let v212 : BitVec 32 := Scalar.muli arg13 c8_i32_100
  let c4_i32 : BitVec 32 := 4#32
  let v213 : BitVec 32 := Scalar.addi v212 c4_i32
  let c16_i32_106 : BitVec 32 := 16#32
  let v228 : BitVec 32 := Scalar.muli v213 c16_i32_106
  let v230 : Index := Scalar.indexCast v228
  ![2, v230.toNat]
def k1_off71 (k1_t4 : Fin k1_t4_loop.trips) : Fin 2 → Nat :=
  let c0_i32_111 : BitVec 32 := 0#32
  let v239 : Index := Scalar.indexCast c0_i32_111
  let c0_i32_46 : BitVec 32 := 0#32
  let c1_i32_47 : BitVec 32 := 1#32
  let arg13 : BitVec 32 := Scf.iv c0_i32_46 c1_i32_47 k1_t4
  let c8_i32_108 : BitVec 32 := 8#32
  let v232 : BitVec 32 := Scalar.muli arg13 c8_i32_108
  let c5_i32 : BitVec 32 := 5#32
  let v233 : BitVec 32 := Scalar.addi v232 c5_i32
  let c16_i32_110 : BitVec 32 := 16#32
  let v238 : BitVec 32 := Scalar.muli v233 c16_i32_110
  let v240 : Index := Scalar.indexCast v238
  ![0, v240.toNat]
def k1_off72 (k1_t4 : Fin k1_t4_loop.trips) : Fin 2 → Nat :=
  let c1_i32_113 : BitVec 32 := 1#32
  let v244 : Index := Scalar.indexCast c1_i32_113
  let c0_i32_46 : BitVec 32 := 0#32
  let c1_i32_47 : BitVec 32 := 1#32
  let arg13 : BitVec 32 := Scf.iv c0_i32_46 c1_i32_47 k1_t4
  let c8_i32_108 : BitVec 32 := 8#32
  let v232 : BitVec 32 := Scalar.muli arg13 c8_i32_108
  let c5_i32 : BitVec 32 := 5#32
  let v233 : BitVec 32 := Scalar.addi v232 c5_i32
  let c16_i32_112 : BitVec 32 := 16#32
  let v243 : BitVec 32 := Scalar.muli v233 c16_i32_112
  let v245 : Index := Scalar.indexCast v243
  ![1, v245.toNat]

def k1_chk22 (v79 : IVec S16 32) (v84 : IVec S16 32) (v89 : IVec S16 32) (v236 : IVec S16 32) : Prop :=
  (∀ a x, ((![v236, v79] : Fin 2 → IVec S16 32) a x).toNat < S120x128.size a) ∧
  (∀ a x, ((![v236, v84] : Fin 2 → IVec S16 32) a x).toNat < S120x128.size a) ∧
  (∀ a x, ((![v236, v89] : Fin 2 → IVec S16 32) a x).toNat < S120x128.size a)
theorem k1_idx64_inb : ∀ (v79 : IVec S16 32) (v84 : IVec S16 32) (v89 : IVec S16 32) (v236 : IVec S16 32) (k1_hw22 : k1_chk22 v79 v84 v89 v236), ∀ a x, ((![v236, v79] : Fin 2 → IVec S16 32) a x).toNat < S120x128.size a := fun v79 v84 v89 v236 k1_hw22 => k1_hw22.1
theorem k1_idx65_inb : ∀ (v79 : IVec S16 32) (v84 : IVec S16 32) (v89 : IVec S16 32) (v236 : IVec S16 32) (k1_hw22 : k1_chk22 v79 v84 v89 v236), ∀ a x, ((![v236, v84] : Fin 2 → IVec S16 32) a x).toNat < S120x128.size a := fun v79 v84 v89 v236 k1_hw22 => k1_hw22.2.1
theorem k1_idx66_inb : ∀ (v79 : IVec S16 32) (v84 : IVec S16 32) (v89 : IVec S16 32) (v236 : IVec S16 32) (k1_hw22 : k1_chk22 v79 v84 v89 v236), ∀ a x, ((![v236, v89] : Fin 2 → IVec S16 32) a x).toNat < S120x128.size a := fun v79 v84 v89 v236 k1_hw22 => k1_hw22.2.2
def k1_off73 (k1_t4 : Fin k1_t4_loop.trips) : Fin 2 → Nat :=
  let c2_i32_115 : BitVec 32 := 2#32
  let v249 : Index := Scalar.indexCast c2_i32_115
  let c0_i32_46 : BitVec 32 := 0#32
  let c1_i32_47 : BitVec 32 := 1#32
  let arg13 : BitVec 32 := Scf.iv c0_i32_46 c1_i32_47 k1_t4
  let c8_i32_108 : BitVec 32 := 8#32
  let v232 : BitVec 32 := Scalar.muli arg13 c8_i32_108
  let c5_i32 : BitVec 32 := 5#32
  let v233 : BitVec 32 := Scalar.addi v232 c5_i32
  let c16_i32_114 : BitVec 32 := 16#32
  let v248 : BitVec 32 := Scalar.muli v233 c16_i32_114
  let v250 : Index := Scalar.indexCast v248
  ![2, v250.toNat]
def k1_off74 (k1_t4 : Fin k1_t4_loop.trips) : Fin 2 → Nat :=
  let c0_i32_120 : BitVec 32 := 0#32
  let v259 : Index := Scalar.indexCast c0_i32_120
  let c0_i32_46 : BitVec 32 := 0#32
  let c1_i32_47 : BitVec 32 := 1#32
  let arg13 : BitVec 32 := Scf.iv c0_i32_46 c1_i32_47 k1_t4
  let c8_i32_116 : BitVec 32 := 8#32
  let v252 : BitVec 32 := Scalar.muli arg13 c8_i32_116
  let c6_i32_117 : BitVec 32 := 6#32
  let v253 : BitVec 32 := Scalar.addi v252 c6_i32_117
  let c16_i32_119 : BitVec 32 := 16#32
  let v258 : BitVec 32 := Scalar.muli v253 c16_i32_119
  let v260 : Index := Scalar.indexCast v258
  ![0, v260.toNat]
def k1_off75 (k1_t4 : Fin k1_t4_loop.trips) : Fin 2 → Nat :=
  let c1_i32_122 : BitVec 32 := 1#32
  let v264 : Index := Scalar.indexCast c1_i32_122
  let c0_i32_46 : BitVec 32 := 0#32
  let c1_i32_47 : BitVec 32 := 1#32
  let arg13 : BitVec 32 := Scf.iv c0_i32_46 c1_i32_47 k1_t4
  let c8_i32_116 : BitVec 32 := 8#32
  let v252 : BitVec 32 := Scalar.muli arg13 c8_i32_116
  let c6_i32_117 : BitVec 32 := 6#32
  let v253 : BitVec 32 := Scalar.addi v252 c6_i32_117
  let c16_i32_121 : BitVec 32 := 16#32
  let v263 : BitVec 32 := Scalar.muli v253 c16_i32_121
  let v265 : Index := Scalar.indexCast v263
  ![1, v265.toNat]

def k1_chk23 (v79 : IVec S16 32) (v84 : IVec S16 32) (v89 : IVec S16 32) (v256 : IVec S16 32) : Prop :=
  (∀ a x, ((![v256, v79] : Fin 2 → IVec S16 32) a x).toNat < S120x128.size a) ∧
  (∀ a x, ((![v256, v84] : Fin 2 → IVec S16 32) a x).toNat < S120x128.size a) ∧
  (∀ a x, ((![v256, v89] : Fin 2 → IVec S16 32) a x).toNat < S120x128.size a)
theorem k1_idx67_inb : ∀ (v79 : IVec S16 32) (v84 : IVec S16 32) (v89 : IVec S16 32) (v256 : IVec S16 32) (k1_hw23 : k1_chk23 v79 v84 v89 v256), ∀ a x, ((![v256, v79] : Fin 2 → IVec S16 32) a x).toNat < S120x128.size a := fun v79 v84 v89 v256 k1_hw23 => k1_hw23.1
theorem k1_idx68_inb : ∀ (v79 : IVec S16 32) (v84 : IVec S16 32) (v89 : IVec S16 32) (v256 : IVec S16 32) (k1_hw23 : k1_chk23 v79 v84 v89 v256), ∀ a x, ((![v256, v84] : Fin 2 → IVec S16 32) a x).toNat < S120x128.size a := fun v79 v84 v89 v256 k1_hw23 => k1_hw23.2.1
theorem k1_idx69_inb : ∀ (v79 : IVec S16 32) (v84 : IVec S16 32) (v89 : IVec S16 32) (v256 : IVec S16 32) (k1_hw23 : k1_chk23 v79 v84 v89 v256), ∀ a x, ((![v256, v89] : Fin 2 → IVec S16 32) a x).toNat < S120x128.size a := fun v79 v84 v89 v256 k1_hw23 => k1_hw23.2.2
def k1_off76 (k1_t4 : Fin k1_t4_loop.trips) : Fin 2 → Nat :=
  let c2_i32_124 : BitVec 32 := 2#32
  let v269 : Index := Scalar.indexCast c2_i32_124
  let c0_i32_46 : BitVec 32 := 0#32
  let c1_i32_47 : BitVec 32 := 1#32
  let arg13 : BitVec 32 := Scf.iv c0_i32_46 c1_i32_47 k1_t4
  let c8_i32_116 : BitVec 32 := 8#32
  let v252 : BitVec 32 := Scalar.muli arg13 c8_i32_116
  let c6_i32_117 : BitVec 32 := 6#32
  let v253 : BitVec 32 := Scalar.addi v252 c6_i32_117
  let c16_i32_123 : BitVec 32 := 16#32
  let v268 : BitVec 32 := Scalar.muli v253 c16_i32_123
  let v270 : Index := Scalar.indexCast v268
  ![2, v270.toNat]
def k1_off77 (k1_t4 : Fin k1_t4_loop.trips) : Fin 2 → Nat :=
  let c0_i32_128 : BitVec 32 := 0#32
  let v279 : Index := Scalar.indexCast c0_i32_128
  let c0_i32_46 : BitVec 32 := 0#32
  let c1_i32_47 : BitVec 32 := 1#32
  let arg13 : BitVec 32 := Scf.iv c0_i32_46 c1_i32_47 k1_t4
  let c8_i32_125 : BitVec 32 := 8#32
  let v272 : BitVec 32 := Scalar.muli arg13 c8_i32_125
  let c7_i32 : BitVec 32 := 7#32
  let v273 : BitVec 32 := Scalar.addi v272 c7_i32
  let c16_i32_127 : BitVec 32 := 16#32
  let v278 : BitVec 32 := Scalar.muli v273 c16_i32_127
  let v280 : Index := Scalar.indexCast v278
  ![0, v280.toNat]
def k1_off78 (k1_t4 : Fin k1_t4_loop.trips) : Fin 2 → Nat :=
  let c1_i32_130 : BitVec 32 := 1#32
  let v284 : Index := Scalar.indexCast c1_i32_130
  let c0_i32_46 : BitVec 32 := 0#32
  let c1_i32_47 : BitVec 32 := 1#32
  let arg13 : BitVec 32 := Scf.iv c0_i32_46 c1_i32_47 k1_t4
  let c8_i32_125 : BitVec 32 := 8#32
  let v272 : BitVec 32 := Scalar.muli arg13 c8_i32_125
  let c7_i32 : BitVec 32 := 7#32
  let v273 : BitVec 32 := Scalar.addi v272 c7_i32
  let c16_i32_129 : BitVec 32 := 16#32
  let v283 : BitVec 32 := Scalar.muli v273 c16_i32_129
  let v285 : Index := Scalar.indexCast v283
  ![1, v285.toNat]

def k1_chk24 (v79 : IVec S16 32) (v84 : IVec S16 32) (v89 : IVec S16 32) (v276 : IVec S16 32) : Prop :=
  (∀ a x, ((![v276, v79] : Fin 2 → IVec S16 32) a x).toNat < S120x128.size a) ∧
  (∀ a x, ((![v276, v84] : Fin 2 → IVec S16 32) a x).toNat < S120x128.size a) ∧
  (∀ a x, ((![v276, v89] : Fin 2 → IVec S16 32) a x).toNat < S120x128.size a)
theorem k1_idx70_inb : ∀ (v79 : IVec S16 32) (v84 : IVec S16 32) (v89 : IVec S16 32) (v276 : IVec S16 32) (k1_hw24 : k1_chk24 v79 v84 v89 v276), ∀ a x, ((![v276, v79] : Fin 2 → IVec S16 32) a x).toNat < S120x128.size a := fun v79 v84 v89 v276 k1_hw24 => k1_hw24.1
theorem k1_idx71_inb : ∀ (v79 : IVec S16 32) (v84 : IVec S16 32) (v89 : IVec S16 32) (v276 : IVec S16 32) (k1_hw24 : k1_chk24 v79 v84 v89 v276), ∀ a x, ((![v276, v84] : Fin 2 → IVec S16 32) a x).toNat < S120x128.size a := fun v79 v84 v89 v276 k1_hw24 => k1_hw24.2.1
theorem k1_idx72_inb : ∀ (v79 : IVec S16 32) (v84 : IVec S16 32) (v89 : IVec S16 32) (v276 : IVec S16 32) (k1_hw24 : k1_chk24 v79 v84 v89 v276), ∀ a x, ((![v276, v89] : Fin 2 → IVec S16 32) a x).toNat < S120x128.size a := fun v79 v84 v89 v276 k1_hw24 => k1_hw24.2.2
def k1_off79 (k1_t4 : Fin k1_t4_loop.trips) : Fin 2 → Nat :=
  let c2_i32_132 : BitVec 32 := 2#32
  let v289 : Index := Scalar.indexCast c2_i32_132
  let c0_i32_46 : BitVec 32 := 0#32
  let c1_i32_47 : BitVec 32 := 1#32
  let arg13 : BitVec 32 := Scf.iv c0_i32_46 c1_i32_47 k1_t4
  let c8_i32_125 : BitVec 32 := 8#32
  let v272 : BitVec 32 := Scalar.muli arg13 c8_i32_125
  let c7_i32 : BitVec 32 := 7#32
  let v273 : BitVec 32 := Scalar.addi v272 c7_i32
  let c16_i32_131 : BitVec 32 := 16#32
  let v288 : BitVec 32 := Scalar.muli v273 c16_i32_131
  let v290 : Index := Scalar.indexCast v288
  ![2, v290.toNat]
def k1_off80 (i : grid1.Coords) : Fin 2 → Nat :=
  let c0_i32_66_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1440_i32_44 : BitVec 32 := 1440#32
  let v100 : BitVec 32 := Scalar.addi v37 c1440_i32_44
  let c16_i32 : BitVec 32 := 16#32
  let v102 : BitVec 32 := Scalar.muli v100 c16_i32
  ![0, v102.toNat]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_11 : BitVec 32 := 1#32
  let v38 : BitVec 32 := Scalar.addi v1 c1_i32_11
  let c50000_i32_12 : BitVec 32 := 50000#32
  let v39 : BitVec 32 := Scalar.muli v38 c50000_i32_12
  let c0_i32_14 : BitVec 32 := 0#32
  let v41 : BitVec 1 := Scalar.cmpi .sgt v39 c0_i32_14
  let v42 : BitVec 32 := Scalar.extui v41
  let c0_i32_15 : BitVec 32 := 0#32
  let v43 : BitVec 1 := Scalar.cmpi .slt v39 c0_i32_15
  let v44 : BitVec 32 := Scalar.extui v43
  let v45 : BitVec 32 := Scalar.subi v42 v44
  let c32_i32_13 : BitVec 32 := 32#32
  let c0_i32_16 : BitVec 32 := 0#32
  let v46 : BitVec 1 := Scalar.cmpi .sgt c32_i32_13 c0_i32_16
  let v47 : BitVec 32 := Scalar.extui v46
  let c0_i32_17 : BitVec 32 := 0#32
  let v48 : BitVec 1 := Scalar.cmpi .slt c32_i32_13 c0_i32_17
  let v49 : BitVec 32 := Scalar.extui v48
  let v50 : BitVec 32 := Scalar.subi v47 v49
  let v51 : BitVec 1 := Scalar.cmpi .ne v45 v50
  let v52 : BitVec 32 := Scalar.remsi v39 c32_i32_13
  let c0_i32_18 : BitVec 32 := 0#32
  let v53 : BitVec 1 := Scalar.cmpi .ne v52 c0_i32_18
  let v54 : BitVec 1 := Scalar.andi v51 v53
  let v40 : BitVec 32 := Scalar.divsi v39 c32_i32_13
  let c1_i32_19 : BitVec 32 := 1#32
  let v55 : BitVec 32 := Scalar.subi v40 c1_i32_19
  let v56 : BitVec 32 := Scalar.select v54 v55 v40
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c8_i32_20 : BitVec 32 := 8#32
  let c0_i32_23 : BitVec 32 := 0#32
  let v63 : BitVec 1 := Scalar.cmpi .sgt c8_i32_20 c0_i32_23
  let v64 : BitVec 32 := Scalar.extui v63
  let c0_i32_24 : BitVec 32 := 0#32
  let v65 : BitVec 1 := Scalar.cmpi .slt c8_i32_20 c0_i32_24
  let v66 : BitVec 32 := Scalar.extui v65
  let v67 : BitVec 32 := Scalar.subi v64 v66
  let v68 : BitVec 1 := Scalar.cmpi .ne v62 v67
  let v69 : BitVec 32 := Scalar.remsi v56 c8_i32_20
  let c0_i32_25 : BitVec 32 := 0#32
  let v70 : BitVec 1 := Scalar.cmpi .ne v69 c0_i32_25
  let v71 : BitVec 1 := Scalar.andi v68 v70
  let v57 : BitVec 32 := Scalar.divsi v56 c8_i32_20
  let c1_i32_26 : BitVec 32 := 1#32
  let v72 : BitVec 32 := Scalar.subi v57 c1_i32_26
  let v73 : BitVec 32 := Scalar.select v71 v72 v57
  let c8_i32_27 : BitVec 32 := 8#32
  let v74 : BitVec 32 := Scalar.muli v73 c8_i32_27
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v103 : BitVec 32 := Scalar.subi v74 v37
  let c1560_i32 : BitVec 32 := 1560#32
  let v104 : BitVec 32 := Scalar.subi v103 c1560_i32
  let c8_i32_49 : BitVec 32 := 8#32
  let v105 : BitVec 1 := Scalar.cmpi .eq v104 c8_i32_49
  let v106 : BitVec 32 := Scalar.extui v105
  let c0_i32_50 : BitVec 32 := 0#32
  let v107 : BitVec 1 := Scalar.cmpi .ne v106 c0_i32_50
  v107

def k1_off81 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1560_i32_64 : BitVec 32 := 1560#32
  let v132 : BitVec 32 := Scalar.addi v37 c1560_i32_64
  let c0_i32_140_r3 : BitVec 32 := 0#32
  ![v132.toNat, 0]
def k1_off82 : Fin 2 → Nat :=
  let c0_i32_71 : BitVec 32 := 0#32
  let v140 : Index := Scalar.indexCast c0_i32_71
  let c0_i32_66 : BitVec 32 := 0#32
  let c8_i32_67 : BitVec 32 := 8#32
  let v133 : BitVec 32 := Scalar.muli c0_i32_66 c8_i32_67
  let c0_i32_68 : BitVec 32 := 0#32
  let v134 : BitVec 32 := Scalar.addi v133 c0_i32_68
  let c16_i32_70 : BitVec 32 := 16#32
  let v139 : BitVec 32 := Scalar.muli v134 c16_i32_70
  let v141 : Index := Scalar.indexCast v139
  ![0, v141.toNat]
def k1_off83 : Fin 2 → Nat :=
  let c1_i32_73 : BitVec 32 := 1#32
  let v145 : Index := Scalar.indexCast c1_i32_73
  let c0_i32_66 : BitVec 32 := 0#32
  let c8_i32_67 : BitVec 32 := 8#32
  let v133 : BitVec 32 := Scalar.muli c0_i32_66 c8_i32_67
  let c0_i32_68 : BitVec 32 := 0#32
  let v134 : BitVec 32 := Scalar.addi v133 c0_i32_68
  let c16_i32_72 : BitVec 32 := 16#32
  let v144 : BitVec 32 := Scalar.muli v134 c16_i32_72
  let v146 : Index := Scalar.indexCast v144
  ![1, v146.toNat]

def k1_chk25 (i : grid1.Coords) (v79 : IVec S16 32) (v84 : IVec S16 32) (v89 : IVec S16 32) (v137 : IVec S16 32) : Prop :=
  (∀ (k1_h3 : k1_cond3 i = 1#1), ∀ a x, ((![v137, v79] : Fin 2 → IVec S16 32) a x).toNat < S120x128.size a) ∧
  (∀ (k1_h3 : k1_cond3 i = 1#1), ∀ a x, ((![v137, v84] : Fin 2 → IVec S16 32) a x).toNat < S120x128.size a) ∧
  (∀ (k1_h3 : k1_cond3 i = 1#1), ∀ a x, ((![v137, v89] : Fin 2 → IVec S16 32) a x).toNat < S120x128.size a)
theorem k1_idx73_inb : ∀ (i : grid1.Coords) (v79 : IVec S16 32) (v84 : IVec S16 32) (v89 : IVec S16 32) (v137 : IVec S16 32) (k1_hw25 : k1_chk25 i v79 v84 v89 v137), ∀ (k1_h3 : k1_cond3 i = 1#1), ∀ a x, ((![v137, v79] : Fin 2 → IVec S16 32) a x).toNat < S120x128.size a := fun i v79 v84 v89 v137 k1_hw25 k1_h3 => k1_hw25.1 k1_h3
theorem k1_idx74_inb : ∀ (i : grid1.Coords) (v79 : IVec S16 32) (v84 : IVec S16 32) (v89 : IVec S16 32) (v137 : IVec S16 32) (k1_hw25 : k1_chk25 i v79 v84 v89 v137), ∀ (k1_h3 : k1_cond3 i = 1#1), ∀ a x, ((![v137, v84] : Fin 2 → IVec S16 32) a x).toNat < S120x128.size a := fun i v79 v84 v89 v137 k1_hw25 k1_h3 => k1_hw25.2.1 k1_h3
theorem k1_idx75_inb : ∀ (i : grid1.Coords) (v79 : IVec S16 32) (v84 : IVec S16 32) (v89 : IVec S16 32) (v137 : IVec S16 32) (k1_hw25 : k1_chk25 i v79 v84 v89 v137), ∀ (k1_h3 : k1_cond3 i = 1#1), ∀ a x, ((![v137, v89] : Fin 2 → IVec S16 32) a x).toNat < S120x128.size a := fun i v79 v84 v89 v137 k1_hw25 k1_h3 => k1_hw25.2.2 k1_h3
def k1_off84 : Fin 2 → Nat :=
  let c2_i32_75 : BitVec 32 := 2#32
  let v150 : Index := Scalar.indexCast c2_i32_75
  let c0_i32_66 : BitVec 32 := 0#32
  let c8_i32_67 : BitVec 32 := 8#32
  let v133 : BitVec 32 := Scalar.muli c0_i32_66 c8_i32_67
  let c0_i32_68 : BitVec 32 := 0#32
  let v134 : BitVec 32 := Scalar.addi v133 c0_i32_68
  let c16_i32_74 : BitVec 32 := 16#32
  let v149 : BitVec 32 := Scalar.muli v134 c16_i32_74
  let v151 : Index := Scalar.indexCast v149
  ![2, v151.toNat]
def k1_off85 : Fin 2 → Nat :=
  let c0_i32_80 : BitVec 32 := 0#32
  let v160 : Index := Scalar.indexCast c0_i32_80
  let c0_i32_66 : BitVec 32 := 0#32
  let c8_i32_76 : BitVec 32 := 8#32
  let v153 : BitVec 32 := Scalar.muli c0_i32_66 c8_i32_76
  let c1_i32_77 : BitVec 32 := 1#32
  let v154 : BitVec 32 := Scalar.addi v153 c1_i32_77
  let c16_i32_79 : BitVec 32 := 16#32
  let v159 : BitVec 32 := Scalar.muli v154 c16_i32_79
  let v161 : Index := Scalar.indexCast v159
  ![0, v161.toNat]
def k1_off86 : Fin 2 → Nat :=
  let c1_i32_82 : BitVec 32 := 1#32
  let v165 : Index := Scalar.indexCast c1_i32_82
  let c0_i32_66 : BitVec 32 := 0#32
  let c8_i32_76 : BitVec 32 := 8#32
  let v153 : BitVec 32 := Scalar.muli c0_i32_66 c8_i32_76
  let c1_i32_77 : BitVec 32 := 1#32
  let v154 : BitVec 32 := Scalar.addi v153 c1_i32_77
  let c16_i32_81 : BitVec 32 := 16#32
  let v164 : BitVec 32 := Scalar.muli v154 c16_i32_81
  let v166 : Index := Scalar.indexCast v164
  ![1, v166.toNat]

def k1_chk26 (i : grid1.Coords) (v79 : IVec S16 32) (v84 : IVec S16 32) (v89 : IVec S16 32) (v157 : IVec S16 32) : Prop :=
  (∀ (k1_h3 : k1_cond3 i = 1#1), ∀ a x, ((![v157, v79] : Fin 2 → IVec S16 32) a x).toNat < S120x128.size a) ∧
  (∀ (k1_h3 : k1_cond3 i = 1#1), ∀ a x, ((![v157, v84] : Fin 2 → IVec S16 32) a x).toNat < S120x128.size a) ∧
  (∀ (k1_h3 : k1_cond3 i = 1#1), ∀ a x, ((![v157, v89] : Fin 2 → IVec S16 32) a x).toNat < S120x128.size a)
theorem k1_idx76_inb : ∀ (i : grid1.Coords) (v79 : IVec S16 32) (v84 : IVec S16 32) (v89 : IVec S16 32) (v157 : IVec S16 32) (k1_hw26 : k1_chk26 i v79 v84 v89 v157), ∀ (k1_h3 : k1_cond3 i = 1#1), ∀ a x, ((![v157, v79] : Fin 2 → IVec S16 32) a x).toNat < S120x128.size a := fun i v79 v84 v89 v157 k1_hw26 k1_h3 => k1_hw26.1 k1_h3
theorem k1_idx77_inb : ∀ (i : grid1.Coords) (v79 : IVec S16 32) (v84 : IVec S16 32) (v89 : IVec S16 32) (v157 : IVec S16 32) (k1_hw26 : k1_chk26 i v79 v84 v89 v157), ∀ (k1_h3 : k1_cond3 i = 1#1), ∀ a x, ((![v157, v84] : Fin 2 → IVec S16 32) a x).toNat < S120x128.size a := fun i v79 v84 v89 v157 k1_hw26 k1_h3 => k1_hw26.2.1 k1_h3
theorem k1_idx78_inb : ∀ (i : grid1.Coords) (v79 : IVec S16 32) (v84 : IVec S16 32) (v89 : IVec S16 32) (v157 : IVec S16 32) (k1_hw26 : k1_chk26 i v79 v84 v89 v157), ∀ (k1_h3 : k1_cond3 i = 1#1), ∀ a x, ((![v157, v89] : Fin 2 → IVec S16 32) a x).toNat < S120x128.size a := fun i v79 v84 v89 v157 k1_hw26 k1_h3 => k1_hw26.2.2 k1_h3
def k1_off87 : Fin 2 → Nat :=
  let c2_i32_84 : BitVec 32 := 2#32
  let v170 : Index := Scalar.indexCast c2_i32_84
  let c0_i32_66 : BitVec 32 := 0#32
  let c8_i32_76 : BitVec 32 := 8#32
  let v153 : BitVec 32 := Scalar.muli c0_i32_66 c8_i32_76
  let c1_i32_77 : BitVec 32 := 1#32
  let v154 : BitVec 32 := Scalar.addi v153 c1_i32_77
  let c16_i32_83 : BitVec 32 := 16#32
  let v169 : BitVec 32 := Scalar.muli v154 c16_i32_83
  let v171 : Index := Scalar.indexCast v169
  ![2, v171.toNat]
def k1_off88 : Fin 2 → Nat :=
  let c0_i32_89 : BitVec 32 := 0#32
  let v180 : Index := Scalar.indexCast c0_i32_89
  let c0_i32_66 : BitVec 32 := 0#32
  let c8_i32_85 : BitVec 32 := 8#32
  let v173 : BitVec 32 := Scalar.muli c0_i32_66 c8_i32_85
  let c2_i32_86 : BitVec 32 := 2#32
  let v174 : BitVec 32 := Scalar.addi v173 c2_i32_86
  let c16_i32_88 : BitVec 32 := 16#32
  let v179 : BitVec 32 := Scalar.muli v174 c16_i32_88
  let v181 : Index := Scalar.indexCast v179
  ![0, v181.toNat]
def k1_off89 : Fin 2 → Nat :=
  let c1_i32_91 : BitVec 32 := 1#32
  let v185 : Index := Scalar.indexCast c1_i32_91
  let c0_i32_66 : BitVec 32 := 0#32
  let c8_i32_85 : BitVec 32 := 8#32
  let v173 : BitVec 32 := Scalar.muli c0_i32_66 c8_i32_85
  let c2_i32_86 : BitVec 32 := 2#32
  let v174 : BitVec 32 := Scalar.addi v173 c2_i32_86
  let c16_i32_90 : BitVec 32 := 16#32
  let v184 : BitVec 32 := Scalar.muli v174 c16_i32_90
  let v186 : Index := Scalar.indexCast v184
  ![1, v186.toNat]

def k1_chk27 (i : grid1.Coords) (v79 : IVec S16 32) (v84 : IVec S16 32) (v89 : IVec S16 32) (v177 : IVec S16 32) : Prop :=
  (∀ (k1_h3 : k1_cond3 i = 1#1), ∀ a x, ((![v177, v79] : Fin 2 → IVec S16 32) a x).toNat < S120x128.size a) ∧
  (∀ (k1_h3 : k1_cond3 i = 1#1), ∀ a x, ((![v177, v84] : Fin 2 → IVec S16 32) a x).toNat < S120x128.size a) ∧
  (∀ (k1_h3 : k1_cond3 i = 1#1), ∀ a x, ((![v177, v89] : Fin 2 → IVec S16 32) a x).toNat < S120x128.size a)
theorem k1_idx79_inb : ∀ (i : grid1.Coords) (v79 : IVec S16 32) (v84 : IVec S16 32) (v89 : IVec S16 32) (v177 : IVec S16 32) (k1_hw27 : k1_chk27 i v79 v84 v89 v177), ∀ (k1_h3 : k1_cond3 i = 1#1), ∀ a x, ((![v177, v79] : Fin 2 → IVec S16 32) a x).toNat < S120x128.size a := fun i v79 v84 v89 v177 k1_hw27 k1_h3 => k1_hw27.1 k1_h3
theorem k1_idx80_inb : ∀ (i : grid1.Coords) (v79 : IVec S16 32) (v84 : IVec S16 32) (v89 : IVec S16 32) (v177 : IVec S16 32) (k1_hw27 : k1_chk27 i v79 v84 v89 v177), ∀ (k1_h3 : k1_cond3 i = 1#1), ∀ a x, ((![v177, v84] : Fin 2 → IVec S16 32) a x).toNat < S120x128.size a := fun i v79 v84 v89 v177 k1_hw27 k1_h3 => k1_hw27.2.1 k1_h3
theorem k1_idx81_inb : ∀ (i : grid1.Coords) (v79 : IVec S16 32) (v84 : IVec S16 32) (v89 : IVec S16 32) (v177 : IVec S16 32) (k1_hw27 : k1_chk27 i v79 v84 v89 v177), ∀ (k1_h3 : k1_cond3 i = 1#1), ∀ a x, ((![v177, v89] : Fin 2 → IVec S16 32) a x).toNat < S120x128.size a := fun i v79 v84 v89 v177 k1_hw27 k1_h3 => k1_hw27.2.2 k1_h3
def k1_off90 : Fin 2 → Nat :=
  let c2_i32_93 : BitVec 32 := 2#32
  let v190 : Index := Scalar.indexCast c2_i32_93
  let c0_i32_66 : BitVec 32 := 0#32
  let c8_i32_85 : BitVec 32 := 8#32
  let v173 : BitVec 32 := Scalar.muli c0_i32_66 c8_i32_85
  let c2_i32_86 : BitVec 32 := 2#32
  let v174 : BitVec 32 := Scalar.addi v173 c2_i32_86
  let c16_i32_92 : BitVec 32 := 16#32
  let v189 : BitVec 32 := Scalar.muli v174 c16_i32_92
  let v191 : Index := Scalar.indexCast v189
  ![2, v191.toNat]
def k1_off91 : Fin 2 → Nat :=
  let c0_i32_98 : BitVec 32 := 0#32
  let v200 : Index := Scalar.indexCast c0_i32_98
  let c0_i32_66 : BitVec 32 := 0#32
  let c8_i32_94 : BitVec 32 := 8#32
  let v193 : BitVec 32 := Scalar.muli c0_i32_66 c8_i32_94
  let c3_i32_95 : BitVec 32 := 3#32
  let v194 : BitVec 32 := Scalar.addi v193 c3_i32_95
  let c16_i32_97 : BitVec 32 := 16#32
  let v199 : BitVec 32 := Scalar.muli v194 c16_i32_97
  let v201 : Index := Scalar.indexCast v199
  ![0, v201.toNat]
def k1_off92 : Fin 2 → Nat :=
  let c1_i32_100 : BitVec 32 := 1#32
  let v205 : Index := Scalar.indexCast c1_i32_100
  let c0_i32_66 : BitVec 32 := 0#32
  let c8_i32_94 : BitVec 32 := 8#32
  let v193 : BitVec 32 := Scalar.muli c0_i32_66 c8_i32_94
  let c3_i32_95 : BitVec 32 := 3#32
  let v194 : BitVec 32 := Scalar.addi v193 c3_i32_95
  let c16_i32_99 : BitVec 32 := 16#32
  let v204 : BitVec 32 := Scalar.muli v194 c16_i32_99
  let v206 : Index := Scalar.indexCast v204
  ![1, v206.toNat]

def k1_chk28 (i : grid1.Coords) (v79 : IVec S16 32) (v84 : IVec S16 32) (v89 : IVec S16 32) (v197 : IVec S16 32) : Prop :=
  (∀ (k1_h3 : k1_cond3 i = 1#1), ∀ a x, ((![v197, v79] : Fin 2 → IVec S16 32) a x).toNat < S120x128.size a) ∧
  (∀ (k1_h3 : k1_cond3 i = 1#1), ∀ a x, ((![v197, v84] : Fin 2 → IVec S16 32) a x).toNat < S120x128.size a) ∧
  (∀ (k1_h3 : k1_cond3 i = 1#1), ∀ a x, ((![v197, v89] : Fin 2 → IVec S16 32) a x).toNat < S120x128.size a)
theorem k1_idx82_inb : ∀ (i : grid1.Coords) (v79 : IVec S16 32) (v84 : IVec S16 32) (v89 : IVec S16 32) (v197 : IVec S16 32) (k1_hw28 : k1_chk28 i v79 v84 v89 v197), ∀ (k1_h3 : k1_cond3 i = 1#1), ∀ a x, ((![v197, v79] : Fin 2 → IVec S16 32) a x).toNat < S120x128.size a := fun i v79 v84 v89 v197 k1_hw28 k1_h3 => k1_hw28.1 k1_h3
theorem k1_idx83_inb : ∀ (i : grid1.Coords) (v79 : IVec S16 32) (v84 : IVec S16 32) (v89 : IVec S16 32) (v197 : IVec S16 32) (k1_hw28 : k1_chk28 i v79 v84 v89 v197), ∀ (k1_h3 : k1_cond3 i = 1#1), ∀ a x, ((![v197, v84] : Fin 2 → IVec S16 32) a x).toNat < S120x128.size a := fun i v79 v84 v89 v197 k1_hw28 k1_h3 => k1_hw28.2.1 k1_h3
theorem k1_idx84_inb : ∀ (i : grid1.Coords) (v79 : IVec S16 32) (v84 : IVec S16 32) (v89 : IVec S16 32) (v197 : IVec S16 32) (k1_hw28 : k1_chk28 i v79 v84 v89 v197), ∀ (k1_h3 : k1_cond3 i = 1#1), ∀ a x, ((![v197, v89] : Fin 2 → IVec S16 32) a x).toNat < S120x128.size a := fun i v79 v84 v89 v197 k1_hw28 k1_h3 => k1_hw28.2.2 k1_h3
def k1_off93 : Fin 2 → Nat :=
  let c2_i32_102 : BitVec 32 := 2#32
  let v210 : Index := Scalar.indexCast c2_i32_102
  let c0_i32_66 : BitVec 32 := 0#32
  let c8_i32_94 : BitVec 32 := 8#32
  let v193 : BitVec 32 := Scalar.muli c0_i32_66 c8_i32_94
  let c3_i32_95 : BitVec 32 := 3#32
  let v194 : BitVec 32 := Scalar.addi v193 c3_i32_95
  let c16_i32_101 : BitVec 32 := 16#32
  let v209 : BitVec 32 := Scalar.muli v194 c16_i32_101
  let v211 : Index := Scalar.indexCast v209
  ![2, v211.toNat]
def k1_off94 : Fin 2 → Nat :=
  let c0_i32_106 : BitVec 32 := 0#32
  let v220 : Index := Scalar.indexCast c0_i32_106
  let c0_i32_66 : BitVec 32 := 0#32
  let c8_i32_103 : BitVec 32 := 8#32
  let v213 : BitVec 32 := Scalar.muli c0_i32_66 c8_i32_103
  let c4_i32 : BitVec 32 := 4#32
  let v214 : BitVec 32 := Scalar.addi v213 c4_i32
  let c16_i32_105 : BitVec 32 := 16#32
  let v219 : BitVec 32 := Scalar.muli v214 c16_i32_105
  let v221 : Index := Scalar.indexCast v219
  ![0, v221.toNat]
def k1_off95 : Fin 2 → Nat :=
  let c1_i32_108 : BitVec 32 := 1#32
  let v225 : Index := Scalar.indexCast c1_i32_108
  let c0_i32_66 : BitVec 32 := 0#32
  let c8_i32_103 : BitVec 32 := 8#32
  let v213 : BitVec 32 := Scalar.muli c0_i32_66 c8_i32_103
  let c4_i32 : BitVec 32 := 4#32
  let v214 : BitVec 32 := Scalar.addi v213 c4_i32
  let c16_i32_107 : BitVec 32 := 16#32
  let v224 : BitVec 32 := Scalar.muli v214 c16_i32_107
  let v226 : Index := Scalar.indexCast v224
  ![1, v226.toNat]

def k1_chk29 (i : grid1.Coords) (v79 : IVec S16 32) (v84 : IVec S16 32) (v89 : IVec S16 32) (v217 : IVec S16 32) : Prop :=
  (∀ (k1_h3 : k1_cond3 i = 1#1), ∀ a x, ((![v217, v79] : Fin 2 → IVec S16 32) a x).toNat < S120x128.size a) ∧
  (∀ (k1_h3 : k1_cond3 i = 1#1), ∀ a x, ((![v217, v84] : Fin 2 → IVec S16 32) a x).toNat < S120x128.size a) ∧
  (∀ (k1_h3 : k1_cond3 i = 1#1), ∀ a x, ((![v217, v89] : Fin 2 → IVec S16 32) a x).toNat < S120x128.size a)
theorem k1_idx85_inb : ∀ (i : grid1.Coords) (v79 : IVec S16 32) (v84 : IVec S16 32) (v89 : IVec S16 32) (v217 : IVec S16 32) (k1_hw29 : k1_chk29 i v79 v84 v89 v217), ∀ (k1_h3 : k1_cond3 i = 1#1), ∀ a x, ((![v217, v79] : Fin 2 → IVec S16 32) a x).toNat < S120x128.size a := fun i v79 v84 v89 v217 k1_hw29 k1_h3 => k1_hw29.1 k1_h3
theorem k1_idx86_inb : ∀ (i : grid1.Coords) (v79 : IVec S16 32) (v84 : IVec S16 32) (v89 : IVec S16 32) (v217 : IVec S16 32) (k1_hw29 : k1_chk29 i v79 v84 v89 v217), ∀ (k1_h3 : k1_cond3 i = 1#1), ∀ a x, ((![v217, v84] : Fin 2 → IVec S16 32) a x).toNat < S120x128.size a := fun i v79 v84 v89 v217 k1_hw29 k1_h3 => k1_hw29.2.1 k1_h3
theorem k1_idx87_inb : ∀ (i : grid1.Coords) (v79 : IVec S16 32) (v84 : IVec S16 32) (v89 : IVec S16 32) (v217 : IVec S16 32) (k1_hw29 : k1_chk29 i v79 v84 v89 v217), ∀ (k1_h3 : k1_cond3 i = 1#1), ∀ a x, ((![v217, v89] : Fin 2 → IVec S16 32) a x).toNat < S120x128.size a := fun i v79 v84 v89 v217 k1_hw29 k1_h3 => k1_hw29.2.2 k1_h3
def k1_off96 : Fin 2 → Nat :=
  let c2_i32_110 : BitVec 32 := 2#32
  let v230 : Index := Scalar.indexCast c2_i32_110
  let c0_i32_66 : BitVec 32 := 0#32
  let c8_i32_103 : BitVec 32 := 8#32
  let v213 : BitVec 32 := Scalar.muli c0_i32_66 c8_i32_103
  let c4_i32 : BitVec 32 := 4#32
  let v214 : BitVec 32 := Scalar.addi v213 c4_i32
  let c16_i32_109 : BitVec 32 := 16#32
  let v229 : BitVec 32 := Scalar.muli v214 c16_i32_109
  let v231 : Index := Scalar.indexCast v229
  ![2, v231.toNat]
def k1_off97 : Fin 2 → Nat :=
  let c0_i32_114 : BitVec 32 := 0#32
  let v240 : Index := Scalar.indexCast c0_i32_114
  let c0_i32_66 : BitVec 32 := 0#32
  let c8_i32_111 : BitVec 32 := 8#32
  let v233 : BitVec 32 := Scalar.muli c0_i32_66 c8_i32_111
  let c5_i32 : BitVec 32 := 5#32
  let v234 : BitVec 32 := Scalar.addi v233 c5_i32
  let c16_i32_113 : BitVec 32 := 16#32
  let v239 : BitVec 32 := Scalar.muli v234 c16_i32_113
  let v241 : Index := Scalar.indexCast v239
  ![0, v241.toNat]
def k1_off98 : Fin 2 → Nat :=
  let c1_i32_116 : BitVec 32 := 1#32
  let v245 : Index := Scalar.indexCast c1_i32_116
  let c0_i32_66 : BitVec 32 := 0#32
  let c8_i32_111 : BitVec 32 := 8#32
  let v233 : BitVec 32 := Scalar.muli c0_i32_66 c8_i32_111
  let c5_i32 : BitVec 32 := 5#32
  let v234 : BitVec 32 := Scalar.addi v233 c5_i32
  let c16_i32_115 : BitVec 32 := 16#32
  let v244 : BitVec 32 := Scalar.muli v234 c16_i32_115
  let v246 : Index := Scalar.indexCast v244
  ![1, v246.toNat]

def k1_chk30 (i : grid1.Coords) (v79 : IVec S16 32) (v84 : IVec S16 32) (v89 : IVec S16 32) (v237 : IVec S16 32) : Prop :=
  (∀ (k1_h3 : k1_cond3 i = 1#1), ∀ a x, ((![v237, v79] : Fin 2 → IVec S16 32) a x).toNat < S120x128.size a) ∧
  (∀ (k1_h3 : k1_cond3 i = 1#1), ∀ a x, ((![v237, v84] : Fin 2 → IVec S16 32) a x).toNat < S120x128.size a) ∧
  (∀ (k1_h3 : k1_cond3 i = 1#1), ∀ a x, ((![v237, v89] : Fin 2 → IVec S16 32) a x).toNat < S120x128.size a)
theorem k1_idx88_inb : ∀ (i : grid1.Coords) (v79 : IVec S16 32) (v84 : IVec S16 32) (v89 : IVec S16 32) (v237 : IVec S16 32) (k1_hw30 : k1_chk30 i v79 v84 v89 v237), ∀ (k1_h3 : k1_cond3 i = 1#1), ∀ a x, ((![v237, v79] : Fin 2 → IVec S16 32) a x).toNat < S120x128.size a := fun i v79 v84 v89 v237 k1_hw30 k1_h3 => k1_hw30.1 k1_h3
theorem k1_idx89_inb : ∀ (i : grid1.Coords) (v79 : IVec S16 32) (v84 : IVec S16 32) (v89 : IVec S16 32) (v237 : IVec S16 32) (k1_hw30 : k1_chk30 i v79 v84 v89 v237), ∀ (k1_h3 : k1_cond3 i = 1#1), ∀ a x, ((![v237, v84] : Fin 2 → IVec S16 32) a x).toNat < S120x128.size a := fun i v79 v84 v89 v237 k1_hw30 k1_h3 => k1_hw30.2.1 k1_h3
theorem k1_idx90_inb : ∀ (i : grid1.Coords) (v79 : IVec S16 32) (v84 : IVec S16 32) (v89 : IVec S16 32) (v237 : IVec S16 32) (k1_hw30 : k1_chk30 i v79 v84 v89 v237), ∀ (k1_h3 : k1_cond3 i = 1#1), ∀ a x, ((![v237, v89] : Fin 2 → IVec S16 32) a x).toNat < S120x128.size a := fun i v79 v84 v89 v237 k1_hw30 k1_h3 => k1_hw30.2.2 k1_h3
def k1_off99 : Fin 2 → Nat :=
  let c2_i32_118 : BitVec 32 := 2#32
  let v250 : Index := Scalar.indexCast c2_i32_118
  let c0_i32_66 : BitVec 32 := 0#32
  let c8_i32_111 : BitVec 32 := 8#32
  let v233 : BitVec 32 := Scalar.muli c0_i32_66 c8_i32_111
  let c5_i32 : BitVec 32 := 5#32
  let v234 : BitVec 32 := Scalar.addi v233 c5_i32
  let c16_i32_117 : BitVec 32 := 16#32
  let v249 : BitVec 32 := Scalar.muli v234 c16_i32_117
  let v251 : Index := Scalar.indexCast v249
  ![2, v251.toNat]
def k1_off100 : Fin 2 → Nat :=
  let c0_i32_123 : BitVec 32 := 0#32
  let v260 : Index := Scalar.indexCast c0_i32_123
  let c0_i32_66 : BitVec 32 := 0#32
  let c8_i32_119 : BitVec 32 := 8#32
  let v253 : BitVec 32 := Scalar.muli c0_i32_66 c8_i32_119
  let c6_i32_120 : BitVec 32 := 6#32
  let v254 : BitVec 32 := Scalar.addi v253 c6_i32_120
  let c16_i32_122 : BitVec 32 := 16#32
  let v259 : BitVec 32 := Scalar.muli v254 c16_i32_122
  let v261 : Index := Scalar.indexCast v259
  ![0, v261.toNat]
def k1_off101 : Fin 2 → Nat :=
  let c1_i32_125 : BitVec 32 := 1#32
  let v265 : Index := Scalar.indexCast c1_i32_125
  let c0_i32_66 : BitVec 32 := 0#32
  let c8_i32_119 : BitVec 32 := 8#32
  let v253 : BitVec 32 := Scalar.muli c0_i32_66 c8_i32_119
  let c6_i32_120 : BitVec 32 := 6#32
  let v254 : BitVec 32 := Scalar.addi v253 c6_i32_120
  let c16_i32_124 : BitVec 32 := 16#32
  let v264 : BitVec 32 := Scalar.muli v254 c16_i32_124
  let v266 : Index := Scalar.indexCast v264
  ![1, v266.toNat]

def k1_chk31 (i : grid1.Coords) (v79 : IVec S16 32) (v84 : IVec S16 32) (v89 : IVec S16 32) (v257 : IVec S16 32) : Prop :=
  (∀ (k1_h3 : k1_cond3 i = 1#1), ∀ a x, ((![v257, v79] : Fin 2 → IVec S16 32) a x).toNat < S120x128.size a) ∧
  (∀ (k1_h3 : k1_cond3 i = 1#1), ∀ a x, ((![v257, v84] : Fin 2 → IVec S16 32) a x).toNat < S120x128.size a) ∧
  (∀ (k1_h3 : k1_cond3 i = 1#1), ∀ a x, ((![v257, v89] : Fin 2 → IVec S16 32) a x).toNat < S120x128.size a)
theorem k1_idx91_inb : ∀ (i : grid1.Coords) (v79 : IVec S16 32) (v84 : IVec S16 32) (v89 : IVec S16 32) (v257 : IVec S16 32) (k1_hw31 : k1_chk31 i v79 v84 v89 v257), ∀ (k1_h3 : k1_cond3 i = 1#1), ∀ a x, ((![v257, v79] : Fin 2 → IVec S16 32) a x).toNat < S120x128.size a := fun i v79 v84 v89 v257 k1_hw31 k1_h3 => k1_hw31.1 k1_h3
theorem k1_idx92_inb : ∀ (i : grid1.Coords) (v79 : IVec S16 32) (v84 : IVec S16 32) (v89 : IVec S16 32) (v257 : IVec S16 32) (k1_hw31 : k1_chk31 i v79 v84 v89 v257), ∀ (k1_h3 : k1_cond3 i = 1#1), ∀ a x, ((![v257, v84] : Fin 2 → IVec S16 32) a x).toNat < S120x128.size a := fun i v79 v84 v89 v257 k1_hw31 k1_h3 => k1_hw31.2.1 k1_h3
theorem k1_idx93_inb : ∀ (i : grid1.Coords) (v79 : IVec S16 32) (v84 : IVec S16 32) (v89 : IVec S16 32) (v257 : IVec S16 32) (k1_hw31 : k1_chk31 i v79 v84 v89 v257), ∀ (k1_h3 : k1_cond3 i = 1#1), ∀ a x, ((![v257, v89] : Fin 2 → IVec S16 32) a x).toNat < S120x128.size a := fun i v79 v84 v89 v257 k1_hw31 k1_h3 => k1_hw31.2.2 k1_h3
def k1_off102 : Fin 2 → Nat :=
  let c2_i32_127 : BitVec 32 := 2#32
  let v270 : Index := Scalar.indexCast c2_i32_127
  let c0_i32_66 : BitVec 32 := 0#32
  let c8_i32_119 : BitVec 32 := 8#32
  let v253 : BitVec 32 := Scalar.muli c0_i32_66 c8_i32_119
  let c6_i32_120 : BitVec 32 := 6#32
  let v254 : BitVec 32 := Scalar.addi v253 c6_i32_120
  let c16_i32_126 : BitVec 32 := 16#32
  let v269 : BitVec 32 := Scalar.muli v254 c16_i32_126
  let v271 : Index := Scalar.indexCast v269
  ![2, v271.toNat]
def k1_off103 : Fin 2 → Nat :=
  let c0_i32_131 : BitVec 32 := 0#32
  let v280 : Index := Scalar.indexCast c0_i32_131
  let c0_i32_66 : BitVec 32 := 0#32
  let c8_i32_128 : BitVec 32 := 8#32
  let v273 : BitVec 32 := Scalar.muli c0_i32_66 c8_i32_128
  let c7_i32 : BitVec 32 := 7#32
  let v274 : BitVec 32 := Scalar.addi v273 c7_i32
  let c16_i32_130 : BitVec 32 := 16#32
  let v279 : BitVec 32 := Scalar.muli v274 c16_i32_130
  let v281 : Index := Scalar.indexCast v279
  ![0, v281.toNat]
def k1_off104 : Fin 2 → Nat :=
  let c1_i32_133 : BitVec 32 := 1#32
  let v285 : Index := Scalar.indexCast c1_i32_133
  let c0_i32_66 : BitVec 32 := 0#32
  let c8_i32_128 : BitVec 32 := 8#32
  let v273 : BitVec 32 := Scalar.muli c0_i32_66 c8_i32_128
  let c7_i32 : BitVec 32 := 7#32
  let v274 : BitVec 32 := Scalar.addi v273 c7_i32
  let c16_i32_132 : BitVec 32 := 16#32
  let v284 : BitVec 32 := Scalar.muli v274 c16_i32_132
  let v286 : Index := Scalar.indexCast v284
  ![1, v286.toNat]

def k1_chk32 (i : grid1.Coords) (v79 : IVec S16 32) (v84 : IVec S16 32) (v89 : IVec S16 32) (v277 : IVec S16 32) : Prop :=
  (∀ (k1_h3 : k1_cond3 i = 1#1), ∀ a x, ((![v277, v79] : Fin 2 → IVec S16 32) a x).toNat < S120x128.size a) ∧
  (∀ (k1_h3 : k1_cond3 i = 1#1), ∀ a x, ((![v277, v84] : Fin 2 → IVec S16 32) a x).toNat < S120x128.size a) ∧
  (∀ (k1_h3 : k1_cond3 i = 1#1), ∀ a x, ((![v277, v89] : Fin 2 → IVec S16 32) a x).toNat < S120x128.size a)
theorem k1_idx94_inb : ∀ (i : grid1.Coords) (v79 : IVec S16 32) (v84 : IVec S16 32) (v89 : IVec S16 32) (v277 : IVec S16 32) (k1_hw32 : k1_chk32 i v79 v84 v89 v277), ∀ (k1_h3 : k1_cond3 i = 1#1), ∀ a x, ((![v277, v79] : Fin 2 → IVec S16 32) a x).toNat < S120x128.size a := fun i v79 v84 v89 v277 k1_hw32 k1_h3 => k1_hw32.1 k1_h3
theorem k1_idx95_inb : ∀ (i : grid1.Coords) (v79 : IVec S16 32) (v84 : IVec S16 32) (v89 : IVec S16 32) (v277 : IVec S16 32) (k1_hw32 : k1_chk32 i v79 v84 v89 v277), ∀ (k1_h3 : k1_cond3 i = 1#1), ∀ a x, ((![v277, v84] : Fin 2 → IVec S16 32) a x).toNat < S120x128.size a := fun i v79 v84 v89 v277 k1_hw32 k1_h3 => k1_hw32.2.1 k1_h3
theorem k1_idx96_inb : ∀ (i : grid1.Coords) (v79 : IVec S16 32) (v84 : IVec S16 32) (v89 : IVec S16 32) (v277 : IVec S16 32) (k1_hw32 : k1_chk32 i v79 v84 v89 v277), ∀ (k1_h3 : k1_cond3 i = 1#1), ∀ a x, ((![v277, v89] : Fin 2 → IVec S16 32) a x).toNat < S120x128.size a := fun i v79 v84 v89 v277 k1_hw32 k1_h3 => k1_hw32.2.2 k1_h3
def k1_off105 : Fin 2 → Nat :=
  let c2_i32_135 : BitVec 32 := 2#32
  let v290 : Index := Scalar.indexCast c2_i32_135
  let c0_i32_66 : BitVec 32 := 0#32
  let c8_i32_128 : BitVec 32 := 8#32
  let v273 : BitVec 32 := Scalar.muli c0_i32_66 c8_i32_128
  let c7_i32 : BitVec 32 := 7#32
  let v274 : BitVec 32 := Scalar.addi v273 c7_i32
  let c16_i32_134 : BitVec 32 := 16#32
  let v289 : BitVec 32 := Scalar.muli v274 c16_i32_134
  let v291 : Index := Scalar.indexCast v289
  ![2, v291.toNat]
def k1_off106 (i : grid1.Coords) : Fin 2 → Nat :=
  let c0_i32_140_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1560_i32_64 : BitVec 32 := 1560#32
  let v132 : BitVec 32 := Scalar.addi v37 c1560_i32_64
  let c16_i32_137 : BitVec 32 := 16#32
  let v293 : BitVec 32 := Scalar.muli v132 c16_i32_137
  ![0, v293.toNat]
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v108 : BitVec 32 := Scalar.muli v1 c3125_i32
  let c0_i32_52 : BitVec 32 := 0#32
  let v110 : BitVec 1 := Scalar.cmpi .sgt v108 c0_i32_52
  let v111 : BitVec 32 := Scalar.extui v110
  let c0_i32_53 : BitVec 32 := 0#32
  let v112 : BitVec 1 := Scalar.cmpi .slt v108 c0_i32_53
  let v113 : BitVec 32 := Scalar.extui v112
  let v114 : BitVec 32 := Scalar.subi v111 v113
  let c8_i32_51 : BitVec 32 := 8#32
  let c0_i32_54 : BitVec 32 := 0#32
  let v115 : BitVec 1 := Scalar.cmpi .sgt c8_i32_51 c0_i32_54
  let v116 : BitVec 32 := Scalar.extui v115
  let c0_i32_55 : BitVec 32 := 0#32
  let v117 : BitVec 1 := Scalar.cmpi .slt c8_i32_51 c0_i32_55
  let v118 : BitVec 32 := Scalar.extui v117
  let v119 : BitVec 32 := Scalar.subi v116 v118
  let v120 : BitVec 1 := Scalar.cmpi .ne v114 v119
  let v121 : BitVec 32 := Scalar.remsi v108 c8_i32_51
  let c0_i32_56 : BitVec 32 := 0#32
  let v122 : BitVec 1 := Scalar.cmpi .ne v121 c0_i32_56
  let v123 : BitVec 1 := Scalar.andi v120 v122
  let v109 : BitVec 32 := Scalar.divsi v108 c8_i32_51
  let c1_i32_57 : BitVec 32 := 1#32
  let v124 : BitVec 32 := Scalar.subi v109 c1_i32_57
  let v125 : BitVec 32 := Scalar.select v123 v124 v109
  let c8_i32_58 : BitVec 32 := 8#32
  let v126 : BitVec 32 := Scalar.muli v125 c8_i32_58
  let c96864_i32 : BitVec 32 := 96864#32
  let v127 : BitVec 32 := Scalar.minsi v126 c96864_i32
  v127
def k1_off107 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v108 : BitVec 32 := Scalar.muli v1 c3125_i32
  let c0_i32_52 : BitVec 32 := 0#32
  let v110 : BitVec 1 := Scalar.cmpi .sgt v108 c0_i32_52
  let v111 : BitVec 32 := Scalar.extui v110
  let c0_i32_53 : BitVec 32 := 0#32
  let v112 : BitVec 1 := Scalar.cmpi .slt v108 c0_i32_53
  let v113 : BitVec 32 := Scalar.extui v112
  let v114 : BitVec 32 := Scalar.subi v111 v113
  let c8_i32_51 : BitVec 32 := 8#32
  let c0_i32_54 : BitVec 32 := 0#32
  let v115 : BitVec 1 := Scalar.cmpi .sgt c8_i32_51 c0_i32_54
  let v116 : BitVec 32 := Scalar.extui v115
  let c0_i32_55 : BitVec 32 := 0#32
  let v117 : BitVec 1 := Scalar.cmpi .slt c8_i32_51 c0_i32_55
  let v118 : BitVec 32 := Scalar.extui v117
  let v119 : BitVec 32 := Scalar.subi v116 v118
  let v120 : BitVec 1 := Scalar.cmpi .ne v114 v119
  let v121 : BitVec 32 := Scalar.remsi v108 c8_i32_51
  let c0_i32_56 : BitVec 32 := 0#32
  let v122 : BitVec 1 := Scalar.cmpi .ne v121 c0_i32_56
  let v123 : BitVec 1 := Scalar.andi v120 v122
  let v109 : BitVec 32 := Scalar.divsi v108 c8_i32_51
  let c1_i32_57 : BitVec 32 := 1#32
  let v124 : BitVec 32 := Scalar.subi v109 c1_i32_57
  let v125 : BitVec 32 := Scalar.select v123 v124 v109
  let c8_i32_58 : BitVec 32 := 8#32
  let v126 : BitVec 32 := Scalar.muli v125 c8_i32_58
  let c96864_i32 : BitVec 32 := 96864#32
  let v127 : BitVec 32 := Scalar.minsi v126 c96864_i32
  let v128 : BitVec 32 := v127
  ![v128.toNat]
@[reducible] def k1_t5_loop : Scf.Loop 32 :=
  let c0_i32_60 : BitVec 32 := 0#32
  let c625_i32 : BitVec 32 := 625#32
  let v130 : BitVec 32 := Scalar.addi c0_i32_60 c625_i32
  let c1_i32_61 : BitVec 32 := 1#32
  ⟨c0_i32_60, v130, c1_i32_61⟩

def k1_chk33 (v137 : IVec S16 32) : Prop :=
  (∀ a x, ((![v137] : Fin 1 → IVec S16 32) a x).toNat < S3136.size a)
theorem k1_idx97_inb : ∀ (v137 : IVec S16 32) (k1_hw33 : k1_chk33 v137), ∀ a x, ((![v137] : Fin 1 → IVec S16 32) a x).toNat < S3136.size a := fun v137 k1_hw33 => k1_hw33
def k1_off108 (k1_t5 : Fin k1_t5_loop.trips) : Fin 1 → Nat :=
  let c0_i32_60 : BitVec 32 := 0#32
  let c1_i32_61 : BitVec 32 := 1#32
  let arg13 : BitVec 32 := Scf.iv c0_i32_60 c1_i32_61 k1_t5
  let c5_i32 : BitVec 32 := 5#32
  let v132 : BitVec 32 := Scalar.muli arg13 c5_i32
  let c0_i32_64 : BitVec 32 := 0#32
  let v133 : BitVec 32 := Scalar.addi v132 c0_i32_64
  let c16_i32_66 : BitVec 32 := 16#32
  let v139 : BitVec 32 := Scalar.muli v133 c16_i32_66
  let v140 : Index := Scalar.indexCast v139
  ![v140.toNat]

def k1_chk34 (v147 : IVec S16 32) : Prop :=
  (∀ a x, ((![v147] : Fin 1 → IVec S16 32) a x).toNat < S3136.size a)
theorem k1_idx98_inb : ∀ (v147 : IVec S16 32) (k1_hw34 : k1_chk34 v147), ∀ a x, ((![v147] : Fin 1 → IVec S16 32) a x).toNat < S3136.size a := fun v147 k1_hw34 => k1_hw34
def k1_off109 (k1_t5 : Fin k1_t5_loop.trips) : Fin 1 → Nat :=
  let c0_i32_60 : BitVec 32 := 0#32
  let c1_i32_61 : BitVec 32 := 1#32
  let arg13 : BitVec 32 := Scf.iv c0_i32_60 c1_i32_61 k1_t5
  let c5_i32_67 : BitVec 32 := 5#32
  let v142 : BitVec 32 := Scalar.muli arg13 c5_i32_67
  let c1_i32_68 : BitVec 32 := 1#32
  let v143 : BitVec 32 := Scalar.addi v142 c1_i32_68
  let c16_i32_70 : BitVec 32 := 16#32
  let v149 : BitVec 32 := Scalar.muli v143 c16_i32_70
  let v150 : Index := Scalar.indexCast v149
  ![v150.toNat]

def k1_chk35 (v157 : IVec S16 32) : Prop :=
  (∀ a x, ((![v157] : Fin 1 → IVec S16 32) a x).toNat < S3136.size a)
theorem k1_idx99_inb : ∀ (v157 : IVec S16 32) (k1_hw35 : k1_chk35 v157), ∀ a x, ((![v157] : Fin 1 → IVec S16 32) a x).toNat < S3136.size a := fun v157 k1_hw35 => k1_hw35
def k1_off110 (k1_t5 : Fin k1_t5_loop.trips) : Fin 1 → Nat :=
  let c0_i32_60 : BitVec 32 := 0#32
  let c1_i32_61 : BitVec 32 := 1#32
  let arg13 : BitVec 32 := Scf.iv c0_i32_60 c1_i32_61 k1_t5
  let c5_i32_71 : BitVec 32 := 5#32
  let v152 : BitVec 32 := Scalar.muli arg13 c5_i32_71
  let c2_i32_72 : BitVec 32 := 2#32
  let v153 : BitVec 32 := Scalar.addi v152 c2_i32_72
  let c16_i32_74 : BitVec 32 := 16#32
  let v159 : BitVec 32 := Scalar.muli v153 c16_i32_74
  let v160 : Index := Scalar.indexCast v159
  ![v160.toNat]

def k1_chk36 (v167 : IVec S16 32) : Prop :=
  (∀ a x, ((![v167] : Fin 1 → IVec S16 32) a x).toNat < S3136.size a)
theorem k1_idx100_inb : ∀ (v167 : IVec S16 32) (k1_hw36 : k1_chk36 v167), ∀ a x, ((![v167] : Fin 1 → IVec S16 32) a x).toNat < S3136.size a := fun v167 k1_hw36 => k1_hw36
def k1_off111 (k1_t5 : Fin k1_t5_loop.trips) : Fin 1 → Nat :=
  let c0_i32_60 : BitVec 32 := 0#32
  let c1_i32_61 : BitVec 32 := 1#32
  let arg13 : BitVec 32 := Scf.iv c0_i32_60 c1_i32_61 k1_t5
  let c5_i32_75 : BitVec 32 := 5#32
  let v162 : BitVec 32 := Scalar.muli arg13 c5_i32_75
  let c3_i32_76 : BitVec 32 := 3#32
  let v163 : BitVec 32 := Scalar.addi v162 c3_i32_76
  let c16_i32_78 : BitVec 32 := 16#32
  let v169 : BitVec 32 := Scalar.muli v163 c16_i32_78
  let v170 : Index := Scalar.indexCast v169
  ![v170.toNat]

def k1_chk37 (v177 : IVec S16 32) : Prop :=
  (∀ a x, ((![v177] : Fin 1 → IVec S16 32) a x).toNat < S3136.size a)
theorem k1_idx101_inb : ∀ (v177 : IVec S16 32) (k1_hw37 : k1_chk37 v177), ∀ a x, ((![v177] : Fin 1 → IVec S16 32) a x).toNat < S3136.size a := fun v177 k1_hw37 => k1_hw37
def k1_off112 (k1_t5 : Fin k1_t5_loop.trips) : Fin 1 → Nat :=
  let c0_i32_60 : BitVec 32 := 0#32
  let c1_i32_61 : BitVec 32 := 1#32
  let arg13 : BitVec 32 := Scf.iv c0_i32_60 c1_i32_61 k1_t5
  let c5_i32_79 : BitVec 32 := 5#32
  let v172 : BitVec 32 := Scalar.muli arg13 c5_i32_79
  let c4_i32 : BitVec 32 := 4#32
  let v173 : BitVec 32 := Scalar.addi v172 c4_i32
  let c16_i32_81 : BitVec 32 := 16#32
  let v179 : BitVec 32 := Scalar.muli v173 c16_i32_81
  let v180 : Index := Scalar.indexCast v179
  ![v180.toNat]
def k1_off113 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v108 : BitVec 32 := Scalar.muli v1 c3125_i32
  let c16_i32_63 : BitVec 32 := 16#32
  let v131 : BitVec 32 := Scalar.muli v108 c16_i32_63
  ![v131.toNat]
abbrev grid2 : Pipeline.Grid := ⟨1, ![25], ![false]⟩

def cc2_transform_0 (i : grid2.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x48 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x48 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

def k3_off1 (i : grid3.Coords) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v90 : BitVec 32 := Scalar.addi v37 c0_i32_33
  let c0_i32_34 : BitVec 32 := 0#32
  ![v90.toNat, 0]
@[reducible] def k3_t1_loop : Scf.Loop 32 :=
  let c0_i32_39 : BitVec 32 := 0#32
  let c6_i32 : BitVec 32 := 6#32
  let v96 : BitVec 32 := Scalar.addi c0_i32_39 c6_i32
  let c1_i32_40 : BitVec 32 := 1#32
  ⟨c0_i32_39, v96, c1_i32_40⟩
def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg9 : BitVec 32 := Scf.iv c0_i32_39 c1_i32_40 k3_t1
  let c2_i32_51 : BitVec 32 := 2#32
  let v108 : BitVec 32 := Scalar.muli arg9 c2_i32_51
  let c0_i32_52 : BitVec 32 := 0#32
  let v109 : BitVec 32 := Scalar.addi v108 c0_i32_52
  let c120_i32_53 : BitVec 32 := 120#32
  let v110 : BitVec 32 := Scalar.muli v109 c120_i32_53
  let v111 : BitVec 32 := Scalar.addi v37 v110
  let c0_i32_54 : BitVec 32 := 0#32
  ![v111.toNat, 0]
@[reducible] def k3_t2_loop : Scf.Loop 32 :=
  let c0_i32_58 : BitVec 32 := 0#32
  let c15_i32_59 : BitVec 32 := 15#32
  let v116 : BitVec 32 := Scalar.addi c0_i32_58 c15_i32_59
  let c1_i32_60 : BitVec 32 := 1#32
  ⟨c0_i32_58, v116, c1_i32_60⟩
def k3_off3 (k3_t2 : Fin k3_t2_loop.trips) : Fin 2 → Nat :=
  let c0_i32_84 : BitVec 32 := 0#32
  let v143 : Index := Scalar.indexCast c0_i32_84
  let c0_i32_58 : BitVec 32 := 0#32
  let c1_i32_60 : BitVec 32 := 1#32
  let arg10 : BitVec 32 := Scf.iv c0_i32_58 c1_i32_60 k3_t2
  let c8_i32_80 : BitVec 32 := 8#32
  let v136 : BitVec 32 := Scalar.muli arg10 c8_i32_80
  let c0_i32_81 : BitVec 32 := 0#32
  let v137 : BitVec 32 := Scalar.addi v136 c0_i32_81
  let c16_i32_83 : BitVec 32 := 16#32
  let v142 : BitVec 32 := Scalar.muli v137 c16_i32_83
  let v144 : Index := Scalar.indexCast v142
  ![0, v144.toNat]
def k3_off4 (k3_t2 : Fin k3_t2_loop.trips) : Fin 2 → Nat :=
  let c1_i32_86 : BitVec 32 := 1#32
  let v148 : Index := Scalar.indexCast c1_i32_86
  let c0_i32_58 : BitVec 32 := 0#32
  let c1_i32_60 : BitVec 32 := 1#32
  let arg10 : BitVec 32 := Scf.iv c0_i32_58 c1_i32_60 k3_t2
  let c8_i32_80 : BitVec 32 := 8#32
  let v136 : BitVec 32 := Scalar.muli arg10 c8_i32_80
  let c0_i32_81 : BitVec 32 := 0#32
  let v137 : BitVec 32 := Scalar.addi v136 c0_i32_81
  let c16_i32_85 : BitVec 32 := 16#32
  let v147 : BitVec 32 := Scalar.muli v137 c16_i32_85
  let v149 : Index := Scalar.indexCast v147
  ![1, v149.toNat]

def k3_chk1 (v79 : IVec S16 32) (v84 : IVec S16 32) (v89 : IVec S16 32) (v140 : IVec S16 32) : Prop :=
  (∀ a x, ((![v140, v79] : Fin 2 → IVec S16 32) a x).toNat < S120x128.size a) ∧
  (∀ a x, ((![v140, v84] : Fin 2 → IVec S16 32) a x).toNat < S120x128.size a) ∧
  (∀ a x, ((![v140, v89] : Fin 2 → IVec S16 32) a x).toNat < S120x128.size a)
theorem k3_idx1_inb : ∀ (v79 : IVec S16 32) (v84 : IVec S16 32) (v89 : IVec S16 32) (v140 : IVec S16 32) (k3_hw1 : k3_chk1 v79 v84 v89 v140), ∀ a x, ((![v140, v79] : Fin 2 → IVec S16 32) a x).toNat < S120x128.size a := fun v79 v84 v89 v140 k3_hw1 => k3_hw1.1
theorem k3_idx2_inb : ∀ (v79 : IVec S16 32) (v84 : IVec S16 32) (v89 : IVec S16 32) (v140 : IVec S16 32) (k3_hw1 : k3_chk1 v79 v84 v89 v140), ∀ a x, ((![v140, v84] : Fin 2 → IVec S16 32) a x).toNat < S120x128.size a := fun v79 v84 v89 v140 k3_hw1 => k3_hw1.2.1
theorem k3_idx3_inb : ∀ (v79 : IVec S16 32) (v84 : IVec S16 32) (v89 : IVec S16 32) (v140 : IVec S16 32) (k3_hw1 : k3_chk1 v79 v84 v89 v140), ∀ a x, ((![v140, v89] : Fin 2 → IVec S16 32) a x).toNat < S120x128.size a := fun v79 v84 v89 v140 k3_hw1 => k3_hw1.2.2
def k3_off5 (k3_t2 : Fin k3_t2_loop.trips) : Fin 2 → Nat :=
  let c2_i32_88 : BitVec 32 := 2#32
  let v153 : Index := Scalar.indexCast c2_i32_88
  let c0_i32_58 : BitVec 32 := 0#32
  let c1_i32_60 : BitVec 32 := 1#32
  let arg10 : BitVec 32 := Scf.iv c0_i32_58 c1_i32_60 k3_t2
  let c8_i32_80 : BitVec 32 := 8#32
  let v136 : BitVec 32 := Scalar.muli arg10 c8_i32_80
  let c0_i32_81 : BitVec 32 := 0#32
  let v137 : BitVec 32 := Scalar.addi v136 c0_i32_81
  let c16_i32_87 : BitVec 32 := 16#32
  let v152 : BitVec 32 := Scalar.muli v137 c16_i32_87
  let v154 : Index := Scalar.indexCast v152
  ![2, v154.toNat]
def k3_off6 (k3_t2 : Fin k3_t2_loop.trips) : Fin 2 → Nat :=
  let c0_i32_93 : BitVec 32 := 0#32
  let v163 : Index := Scalar.indexCast c0_i32_93
  let c0_i32_58 : BitVec 32 := 0#32
  let c1_i32_60 : BitVec 32 := 1#32
  let arg10 : BitVec 32 := Scf.iv c0_i32_58 c1_i32_60 k3_t2
  let c8_i32_89 : BitVec 32 := 8#32
  let v156 : BitVec 32 := Scalar.muli arg10 c8_i32_89
  let c1_i32_90 : BitVec 32 := 1#32
  let v157 : BitVec 32 := Scalar.addi v156 c1_i32_90
  let c16_i32_92 : BitVec 32 := 16#32
  let v162 : BitVec 32 := Scalar.muli v157 c16_i32_92
  let v164 : Index := Scalar.indexCast v162
  ![0, v164.toNat]
def k3_off7 (k3_t2 : Fin k3_t2_loop.trips) : Fin 2 → Nat :=
  let c1_i32_95 : BitVec 32 := 1#32
  let v168 : Index := Scalar.indexCast c1_i32_95
  let c0_i32_58 : BitVec 32 := 0#32
  let c1_i32_60 : BitVec 32 := 1#32
  let arg10 : BitVec 32 := Scf.iv c0_i32_58 c1_i32_60 k3_t2
  let c8_i32_89 : BitVec 32 := 8#32
  let v156 : BitVec 32 := Scalar.muli arg10 c8_i32_89
  let c1_i32_90 : BitVec 32 := 1#32
  let v157 : BitVec 32 := Scalar.addi v156 c1_i32_90
  let c16_i32_94 : BitVec 32 := 16#32
  let v167 : BitVec 32 := Scalar.muli v157 c16_i32_94
  let v169 : Index := Scalar.indexCast v167
  ![1, v169.toNat]

def k3_chk2 (v79 : IVec S16 32) (v84 : IVec S16 32) (v89 : IVec S16 32) (v160 : IVec S16 32) : Prop :=
  (∀ a x, ((![v160, v79] : Fin 2 → IVec S16 32) a x).toNat < S120x128.size a) ∧
  (∀ a x, ((![v160, v84] : Fin 2 → IVec S16 32) a x).toNat < S120x128.size a) ∧
  (∀ a x, ((![v160, v89] : Fin 2 → IVec S16 32) a x).toNat < S120x128.size a)
theorem k3_idx4_inb : ∀ (v79 : IVec S16 32) (v84 : IVec S16 32) (v89 : IVec S16 32) (v160 : IVec S16 32) (k3_hw2 : k3_chk2 v79 v84 v89 v160), ∀ a x, ((![v160, v79] : Fin 2 → IVec S16 32) a x).toNat < S120x128.size a := fun v79 v84 v89 v160 k3_hw2 => k3_hw2.1
theorem k3_idx5_inb : ∀ (v79 : IVec S16 32) (v84 : IVec S16 32) (v89 : IVec S16 32) (v160 : IVec S16 32) (k3_hw2 : k3_chk2 v79 v84 v89 v160), ∀ a x, ((![v160, v84] : Fin 2 → IVec S16 32) a x).toNat < S120x128.size a := fun v79 v84 v89 v160 k3_hw2 => k3_hw2.2.1
theorem k3_idx6_inb : ∀ (v79 : IVec S16 32) (v84 : IVec S16 32) (v89 : IVec S16 32) (v160 : IVec S16 32) (k3_hw2 : k3_chk2 v79 v84 v89 v160), ∀ a x, ((![v160, v89] : Fin 2 → IVec S16 32) a x).toNat < S120x128.size a := fun v79 v84 v89 v160 k3_hw2 => k3_hw2.2.2
def k3_off8 (k3_t2 : Fin k3_t2_loop.trips) : Fin 2 → Nat :=
  let c2_i32_97 : BitVec 32 := 2#32
  let v173 : Index := Scalar.indexCast c2_i32_97
  let c0_i32_58 : BitVec 32 := 0#32
  let c1_i32_60 : BitVec 32 := 1#32
  let arg10 : BitVec 32 := Scf.iv c0_i32_58 c1_i32_60 k3_t2
  let c8_i32_89 : BitVec 32 := 8#32
  let v156 : BitVec 32 := Scalar.muli arg10 c8_i32_89
  let c1_i32_90 : BitVec 32 := 1#32
  let v157 : BitVec 32 := Scalar.addi v156 c1_i32_90
  let c16_i32_96 : BitVec 32 := 16#32
  let v172 : BitVec 32 := Scalar.muli v157 c16_i32_96
  let v174 : Index := Scalar.indexCast v172
  ![2, v174.toNat]
def k3_off9 (k3_t2 : Fin k3_t2_loop.trips) : Fin 2 → Nat :=
  let c0_i32_102 : BitVec 32 := 0#32
  let v183 : Index := Scalar.indexCast c0_i32_102
  let c0_i32_58 : BitVec 32 := 0#32
  let c1_i32_60 : BitVec 32 := 1#32
  let arg10 : BitVec 32 := Scf.iv c0_i32_58 c1_i32_60 k3_t2
  let c8_i32_98 : BitVec 32 := 8#32
  let v176 : BitVec 32 := Scalar.muli arg10 c8_i32_98
  let c2_i32_99 : BitVec 32 := 2#32
  let v177 : BitVec 32 := Scalar.addi v176 c2_i32_99
  let c16_i32_101 : BitVec 32 := 16#32
  let v182 : BitVec 32 := Scalar.muli v177 c16_i32_101
  let v184 : Index := Scalar.indexCast v182
  ![0, v184.toNat]
def k3_off10 (k3_t2 : Fin k3_t2_loop.trips) : Fin 2 → Nat :=
  let c1_i32_104 : BitVec 32 := 1#32
  let v188 : Index := Scalar.indexCast c1_i32_104
  let c0_i32_58 : BitVec 32 := 0#32
  let c1_i32_60 : BitVec 32 := 1#32
  let arg10 : BitVec 32 := Scf.iv c0_i32_58 c1_i32_60 k3_t2
  let c8_i32_98 : BitVec 32 := 8#32
  let v176 : BitVec 32 := Scalar.muli arg10 c8_i32_98
  let c2_i32_99 : BitVec 32 := 2#32
  let v177 : BitVec 32 := Scalar.addi v176 c2_i32_99
  let c16_i32_103 : BitVec 32 := 16#32
  let v187 : BitVec 32 := Scalar.muli v177 c16_i32_103
  let v189 : Index := Scalar.indexCast v187
  ![1, v189.toNat]

def k3_chk3 (v79 : IVec S16 32) (v84 : IVec S16 32) (v89 : IVec S16 32) (v180 : IVec S16 32) : Prop :=
  (∀ a x, ((![v180, v79] : Fin 2 → IVec S16 32) a x).toNat < S120x128.size a) ∧
  (∀ a x, ((![v180, v84] : Fin 2 → IVec S16 32) a x).toNat < S120x128.size a) ∧
  (∀ a x, ((![v180, v89] : Fin 2 → IVec S16 32) a x).toNat < S120x128.size a)
theorem k3_idx7_inb : ∀ (v79 : IVec S16 32) (v84 : IVec S16 32) (v89 : IVec S16 32) (v180 : IVec S16 32) (k3_hw3 : k3_chk3 v79 v84 v89 v180), ∀ a x, ((![v180, v79] : Fin 2 → IVec S16 32) a x).toNat < S120x128.size a := fun v79 v84 v89 v180 k3_hw3 => k3_hw3.1
theorem k3_idx8_inb : ∀ (v79 : IVec S16 32) (v84 : IVec S16 32) (v89 : IVec S16 32) (v180 : IVec S16 32) (k3_hw3 : k3_chk3 v79 v84 v89 v180), ∀ a x, ((![v180, v84] : Fin 2 → IVec S16 32) a x).toNat < S120x128.size a := fun v79 v84 v89 v180 k3_hw3 => k3_hw3.2.1
theorem k3_idx9_inb : ∀ (v79 : IVec S16 32) (v84 : IVec S16 32) (v89 : IVec S16 32) (v180 : IVec S16 32) (k3_hw3 : k3_chk3 v79 v84 v89 v180), ∀ a x, ((![v180, v89] : Fin 2 → IVec S16 32) a x).toNat < S120x128.size a := fun v79 v84 v89 v180 k3_hw3 => k3_hw3.2.2
def k3_off11 (k3_t2 : Fin k3_t2_loop.trips) : Fin 2 → Nat :=
  let c2_i32_106 : BitVec 32 := 2#32
  let v193 : Index := Scalar.indexCast c2_i32_106
  let c0_i32_58 : BitVec 32 := 0#32
  let c1_i32_60 : BitVec 32 := 1#32
  let arg10 : BitVec 32 := Scf.iv c0_i32_58 c1_i32_60 k3_t2
  let c8_i32_98 : BitVec 32 := 8#32
  let v176 : BitVec 32 := Scalar.muli arg10 c8_i32_98
  let c2_i32_99 : BitVec 32 := 2#32
  let v177 : BitVec 32 := Scalar.addi v176 c2_i32_99
  let c16_i32_105 : BitVec 32 := 16#32
  let v192 : BitVec 32 := Scalar.muli v177 c16_i32_105
  let v194 : Index := Scalar.indexCast v192
  ![2, v194.toNat]
def k3_off12 (k3_t2 : Fin k3_t2_loop.trips) : Fin 2 → Nat :=
  let c0_i32_111 : BitVec 32 := 0#32
  let v203 : Index := Scalar.indexCast c0_i32_111
  let c0_i32_58 : BitVec 32 := 0#32
  let c1_i32_60 : BitVec 32 := 1#32
  let arg10 : BitVec 32 := Scf.iv c0_i32_58 c1_i32_60 k3_t2
  let c8_i32_107 : BitVec 32 := 8#32
  let v196 : BitVec 32 := Scalar.muli arg10 c8_i32_107
  let c3_i32_108 : BitVec 32 := 3#32
  let v197 : BitVec 32 := Scalar.addi v196 c3_i32_108
  let c16_i32_110 : BitVec 32 := 16#32
  let v202 : BitVec 32 := Scalar.muli v197 c16_i32_110
  let v204 : Index := Scalar.indexCast v202
  ![0, v204.toNat]
def k3_off13 (k3_t2 : Fin k3_t2_loop.trips) : Fin 2 → Nat :=
  let c1_i32_113 : BitVec 32 := 1#32
  let v208 : Index := Scalar.indexCast c1_i32_113
  let c0_i32_58 : BitVec 32 := 0#32
  let c1_i32_60 : BitVec 32 := 1#32
  let arg10 : BitVec 32 := Scf.iv c0_i32_58 c1_i32_60 k3_t2
  let c8_i32_107 : BitVec 32 := 8#32
  let v196 : BitVec 32 := Scalar.muli arg10 c8_i32_107
  let c3_i32_108 : BitVec 32 := 3#32
  let v197 : BitVec 32 := Scalar.addi v196 c3_i32_108
  let c16_i32_112 : BitVec 32 := 16#32
  let v207 : BitVec 32 := Scalar.muli v197 c16_i32_112
  let v209 : Index := Scalar.indexCast v207
  ![1, v209.toNat]

def k3_chk4 (v79 : IVec S16 32) (v84 : IVec S16 32) (v89 : IVec S16 32) (v200 : IVec S16 32) : Prop :=
  (∀ a x, ((![v200, v79] : Fin 2 → IVec S16 32) a x).toNat < S120x128.size a) ∧
  (∀ a x, ((![v200, v84] : Fin 2 → IVec S16 32) a x).toNat < S120x128.size a) ∧
  (∀ a x, ((![v200, v89] : Fin 2 → IVec S16 32) a x).toNat < S120x128.size a)
theorem k3_idx10_inb : ∀ (v79 : IVec S16 32) (v84 : IVec S16 32) (v89 : IVec S16 32) (v200 : IVec S16 32) (k3_hw4 : k3_chk4 v79 v84 v89 v200), ∀ a x, ((![v200, v79] : Fin 2 → IVec S16 32) a x).toNat < S120x128.size a := fun v79 v84 v89 v200 k3_hw4 => k3_hw4.1
theorem k3_idx11_inb : ∀ (v79 : IVec S16 32) (v84 : IVec S16 32) (v89 : IVec S16 32) (v200 : IVec S16 32) (k3_hw4 : k3_chk4 v79 v84 v89 v200), ∀ a x, ((![v200, v84] : Fin 2 → IVec S16 32) a x).toNat < S120x128.size a := fun v79 v84 v89 v200 k3_hw4 => k3_hw4.2.1
theorem k3_idx12_inb : ∀ (v79 : IVec S16 32) (v84 : IVec S16 32) (v89 : IVec S16 32) (v200 : IVec S16 32) (k3_hw4 : k3_chk4 v79 v84 v89 v200), ∀ a x, ((![v200, v89] : Fin 2 → IVec S16 32) a x).toNat < S120x128.size a := fun v79 v84 v89 v200 k3_hw4 => k3_hw4.2.2
def k3_off14 (k3_t2 : Fin k3_t2_loop.trips) : Fin 2 → Nat :=
  let c2_i32_115 : BitVec 32 := 2#32
  let v213 : Index := Scalar.indexCast c2_i32_115
  let c0_i32_58 : BitVec 32 := 0#32
  let c1_i32_60 : BitVec 32 := 1#32
  let arg10 : BitVec 32 := Scf.iv c0_i32_58 c1_i32_60 k3_t2
  let c8_i32_107 : BitVec 32 := 8#32
  let v196 : BitVec 32 := Scalar.muli arg10 c8_i32_107
  let c3_i32_108 : BitVec 32 := 3#32
  let v197 : BitVec 32 := Scalar.addi v196 c3_i32_108
  let c16_i32_114 : BitVec 32 := 16#32
  let v212 : BitVec 32 := Scalar.muli v197 c16_i32_114
  let v214 : Index := Scalar.indexCast v212
  ![2, v214.toNat]
def k3_off15 (k3_t2 : Fin k3_t2_loop.trips) : Fin 2 → Nat :=
  let c0_i32_119 : BitVec 32 := 0#32
  let v223 : Index := Scalar.indexCast c0_i32_119
  let c0_i32_58 : BitVec 32 := 0#32
  let c1_i32_60 : BitVec 32 := 1#32
  let arg10 : BitVec 32 := Scf.iv c0_i32_58 c1_i32_60 k3_t2
  let c8_i32_116 : BitVec 32 := 8#32
  let v216 : BitVec 32 := Scalar.muli arg10 c8_i32_116
  let c4_i32 : BitVec 32 := 4#32
  let v217 : BitVec 32 := Scalar.addi v216 c4_i32
  let c16_i32_118 : BitVec 32 := 16#32
  let v222 : BitVec 32 := Scalar.muli v217 c16_i32_118
  let v224 : Index := Scalar.indexCast v222
  ![0, v224.toNat]
def k3_off16 (k3_t2 : Fin k3_t2_loop.trips) : Fin 2 → Nat :=
  let c1_i32_121 : BitVec 32 := 1#32
  let v228 : Index := Scalar.indexCast c1_i32_121
  let c0_i32_58 : BitVec 32 := 0#32
  let c1_i32_60 : BitVec 32 := 1#32
  let arg10 : BitVec 32 := Scf.iv c0_i32_58 c1_i32_60 k3_t2
  let c8_i32_116 : BitVec 32 := 8#32
  let v216 : BitVec 32 := Scalar.muli arg10 c8_i32_116
  let c4_i32 : BitVec 32 := 4#32
  let v217 : BitVec 32 := Scalar.addi v216 c4_i32
  let c16_i32_120 : BitVec 32 := 16#32
  let v227 : BitVec 32 := Scalar.muli v217 c16_i32_120
  let v229 : Index := Scalar.indexCast v227
  ![1, v229.toNat]

def k3_chk5 (v79 : IVec S16 32) (v84 : IVec S16 32) (v89 : IVec S16 32) (v220 : IVec S16 32) : Prop :=
  (∀ a x, ((![v220, v79] : Fin 2 → IVec S16 32) a x).toNat < S120x128.size a) ∧
  (∀ a x, ((![v220, v84] : Fin 2 → IVec S16 32) a x).toNat < S120x128.size a) ∧
  (∀ a x, ((![v220, v89] : Fin 2 → IVec S16 32) a x).toNat < S120x128.size a)
theorem k3_idx13_inb : ∀ (v79 : IVec S16 32) (v84 : IVec S16 32) (v89 : IVec S16 32) (v220 : IVec S16 32) (k3_hw5 : k3_chk5 v79 v84 v89 v220), ∀ a x, ((![v220, v79] : Fin 2 → IVec S16 32) a x).toNat < S120x128.size a := fun v79 v84 v89 v220 k3_hw5 => k3_hw5.1
theorem k3_idx14_inb : ∀ (v79 : IVec S16 32) (v84 : IVec S16 32) (v89 : IVec S16 32) (v220 : IVec S16 32) (k3_hw5 : k3_chk5 v79 v84 v89 v220), ∀ a x, ((![v220, v84] : Fin 2 → IVec S16 32) a x).toNat < S120x128.size a := fun v79 v84 v89 v220 k3_hw5 => k3_hw5.2.1
theorem k3_idx15_inb : ∀ (v79 : IVec S16 32) (v84 : IVec S16 32) (v89 : IVec S16 32) (v220 : IVec S16 32) (k3_hw5 : k3_chk5 v79 v84 v89 v220), ∀ a x, ((![v220, v89] : Fin 2 → IVec S16 32) a x).toNat < S120x128.size a := fun v79 v84 v89 v220 k3_hw5 => k3_hw5.2.2
def k3_off17 (k3_t2 : Fin k3_t2_loop.trips) : Fin 2 → Nat :=
  let c2_i32_123 : BitVec 32 := 2#32
  let v233 : Index := Scalar.indexCast c2_i32_123
  let c0_i32_58 : BitVec 32 := 0#32
  let c1_i32_60 : BitVec 32 := 1#32
  let arg10 : BitVec 32 := Scf.iv c0_i32_58 c1_i32_60 k3_t2
  let c8_i32_116 : BitVec 32 := 8#32
  let v216 : BitVec 32 := Scalar.muli arg10 c8_i32_116
  let c4_i32 : BitVec 32 := 4#32
  let v217 : BitVec 32 := Scalar.addi v216 c4_i32
  let c16_i32_122 : BitVec 32 := 16#32
  let v232 : BitVec 32 := Scalar.muli v217 c16_i32_122
  let v234 : Index := Scalar.indexCast v232
  ![2, v234.toNat]
def k3_off18 (k3_t2 : Fin k3_t2_loop.trips) : Fin 2 → Nat :=
  let c0_i32_127 : BitVec 32 := 0#32
  let v243 : Index := Scalar.indexCast c0_i32_127
  let c0_i32_58 : BitVec 32 := 0#32
  let c1_i32_60 : BitVec 32 := 1#32
  let arg10 : BitVec 32 := Scf.iv c0_i32_58 c1_i32_60 k3_t2
  let c8_i32_124 : BitVec 32 := 8#32
  let v236 : BitVec 32 := Scalar.muli arg10 c8_i32_124
  let c5_i32 : BitVec 32 := 5#32
  let v237 : BitVec 32 := Scalar.addi v236 c5_i32
  let c16_i32_126 : BitVec 32 := 16#32
  let v242 : BitVec 32 := Scalar.muli v237 c16_i32_126
  let v244 : Index := Scalar.indexCast v242
  ![0, v244.toNat]
def k3_off19 (k3_t2 : Fin k3_t2_loop.trips) : Fin 2 → Nat :=
  let c1_i32_129 : BitVec 32 := 1#32
  let v248 : Index := Scalar.indexCast c1_i32_129
  let c0_i32_58 : BitVec 32 := 0#32
  let c1_i32_60 : BitVec 32 := 1#32
  let arg10 : BitVec 32 := Scf.iv c0_i32_58 c1_i32_60 k3_t2
  let c8_i32_124 : BitVec 32 := 8#32
  let v236 : BitVec 32 := Scalar.muli arg10 c8_i32_124
  let c5_i32 : BitVec 32 := 5#32
  let v237 : BitVec 32 := Scalar.addi v236 c5_i32
  let c16_i32_128 : BitVec 32 := 16#32
  let v247 : BitVec 32 := Scalar.muli v237 c16_i32_128
  let v249 : Index := Scalar.indexCast v247
  ![1, v249.toNat]

def k3_chk6 (v79 : IVec S16 32) (v84 : IVec S16 32) (v89 : IVec S16 32) (v240 : IVec S16 32) : Prop :=
  (∀ a x, ((![v240, v79] : Fin 2 → IVec S16 32) a x).toNat < S120x128.size a) ∧
  (∀ a x, ((![v240, v84] : Fin 2 → IVec S16 32) a x).toNat < S120x128.size a) ∧
  (∀ a x, ((![v240, v89] : Fin 2 → IVec S16 32) a x).toNat < S120x128.size a)
theorem k3_idx16_inb : ∀ (v79 : IVec S16 32) (v84 : IVec S16 32) (v89 : IVec S16 32) (v240 : IVec S16 32) (k3_hw6 : k3_chk6 v79 v84 v89 v240), ∀ a x, ((![v240, v79] : Fin 2 → IVec S16 32) a x).toNat < S120x128.size a := fun v79 v84 v89 v240 k3_hw6 => k3_hw6.1
theorem k3_idx17_inb : ∀ (v79 : IVec S16 32) (v84 : IVec S16 32) (v89 : IVec S16 32) (v240 : IVec S16 32) (k3_hw6 : k3_chk6 v79 v84 v89 v240), ∀ a x, ((![v240, v84] : Fin 2 → IVec S16 32) a x).toNat < S120x128.size a := fun v79 v84 v89 v240 k3_hw6 => k3_hw6.2.1
theorem k3_idx18_inb : ∀ (v79 : IVec S16 32) (v84 : IVec S16 32) (v89 : IVec S16 32) (v240 : IVec S16 32) (k3_hw6 : k3_chk6 v79 v84 v89 v240), ∀ a x, ((![v240, v89] : Fin 2 → IVec S16 32) a x).toNat < S120x128.size a := fun v79 v84 v89 v240 k3_hw6 => k3_hw6.2.2
def k3_off20 (k3_t2 : Fin k3_t2_loop.trips) : Fin 2 → Nat :=
  let c2_i32_131 : BitVec 32 := 2#32
  let v253 : Index := Scalar.indexCast c2_i32_131
  let c0_i32_58 : BitVec 32 := 0#32
  let c1_i32_60 : BitVec 32 := 1#32
  let arg10 : BitVec 32 := Scf.iv c0_i32_58 c1_i32_60 k3_t2
  let c8_i32_124 : BitVec 32 := 8#32
  let v236 : BitVec 32 := Scalar.muli arg10 c8_i32_124
  let c5_i32 : BitVec 32 := 5#32
  let v237 : BitVec 32 := Scalar.addi v236 c5_i32
  let c16_i32_130 : BitVec 32 := 16#32
  let v252 : BitVec 32 := Scalar.muli v237 c16_i32_130
  let v254 : Index := Scalar.indexCast v252
  ![2, v254.toNat]
def k3_off21 (k3_t2 : Fin k3_t2_loop.trips) : Fin 2 → Nat :=
  let c0_i32_136 : BitVec 32 := 0#32
  let v263 : Index := Scalar.indexCast c0_i32_136
  let c0_i32_58 : BitVec 32 := 0#32
  let c1_i32_60 : BitVec 32 := 1#32
  let arg10 : BitVec 32 := Scf.iv c0_i32_58 c1_i32_60 k3_t2
  let c8_i32_132 : BitVec 32 := 8#32
  let v256 : BitVec 32 := Scalar.muli arg10 c8_i32_132
  let c6_i32_133 : BitVec 32 := 6#32
  let v257 : BitVec 32 := Scalar.addi v256 c6_i32_133
  let c16_i32_135 : BitVec 32 := 16#32
  let v262 : BitVec 32 := Scalar.muli v257 c16_i32_135
  let v264 : Index := Scalar.indexCast v262
  ![0, v264.toNat]
def k3_off22 (k3_t2 : Fin k3_t2_loop.trips) : Fin 2 → Nat :=
  let c1_i32_138 : BitVec 32 := 1#32
  let v268 : Index := Scalar.indexCast c1_i32_138
  let c0_i32_58 : BitVec 32 := 0#32
  let c1_i32_60 : BitVec 32 := 1#32
  let arg10 : BitVec 32 := Scf.iv c0_i32_58 c1_i32_60 k3_t2
  let c8_i32_132 : BitVec 32 := 8#32
  let v256 : BitVec 32 := Scalar.muli arg10 c8_i32_132
  let c6_i32_133 : BitVec 32 := 6#32
  let v257 : BitVec 32 := Scalar.addi v256 c6_i32_133
  let c16_i32_137 : BitVec 32 := 16#32
  let v267 : BitVec 32 := Scalar.muli v257 c16_i32_137
  let v269 : Index := Scalar.indexCast v267
  ![1, v269.toNat]

def k3_chk7 (v79 : IVec S16 32) (v84 : IVec S16 32) (v89 : IVec S16 32) (v260 : IVec S16 32) : Prop :=
  (∀ a x, ((![v260, v79] : Fin 2 → IVec S16 32) a x).toNat < S120x128.size a) ∧
  (∀ a x, ((![v260, v84] : Fin 2 → IVec S16 32) a x).toNat < S120x128.size a) ∧
  (∀ a x, ((![v260, v89] : Fin 2 → IVec S16 32) a x).toNat < S120x128.size a)
theorem k3_idx19_inb : ∀ (v79 : IVec S16 32) (v84 : IVec S16 32) (v89 : IVec S16 32) (v260 : IVec S16 32) (k3_hw7 : k3_chk7 v79 v84 v89 v260), ∀ a x, ((![v260, v79] : Fin 2 → IVec S16 32) a x).toNat < S120x128.size a := fun v79 v84 v89 v260 k3_hw7 => k3_hw7.1
theorem k3_idx20_inb : ∀ (v79 : IVec S16 32) (v84 : IVec S16 32) (v89 : IVec S16 32) (v260 : IVec S16 32) (k3_hw7 : k3_chk7 v79 v84 v89 v260), ∀ a x, ((![v260, v84] : Fin 2 → IVec S16 32) a x).toNat < S120x128.size a := fun v79 v84 v89 v260 k3_hw7 => k3_hw7.2.1
theorem k3_idx21_inb : ∀ (v79 : IVec S16 32) (v84 : IVec S16 32) (v89 : IVec S16 32) (v260 : IVec S16 32) (k3_hw7 : k3_chk7 v79 v84 v89 v260), ∀ a x, ((![v260, v89] : Fin 2 → IVec S16 32) a x).toNat < S120x128.size a := fun v79 v84 v89 v260 k3_hw7 => k3_hw7.2.2
def k3_off23 (k3_t2 : Fin k3_t2_loop.trips) : Fin 2 → Nat :=
  let c2_i32_140 : BitVec 32 := 2#32
  let v273 : Index := Scalar.indexCast c2_i32_140
  let c0_i32_58 : BitVec 32 := 0#32
  let c1_i32_60 : BitVec 32 := 1#32
  let arg10 : BitVec 32 := Scf.iv c0_i32_58 c1_i32_60 k3_t2
  let c8_i32_132 : BitVec 32 := 8#32
  let v256 : BitVec 32 := Scalar.muli arg10 c8_i32_132
  let c6_i32_133 : BitVec 32 := 6#32
  let v257 : BitVec 32 := Scalar.addi v256 c6_i32_133
  let c16_i32_139 : BitVec 32 := 16#32
  let v272 : BitVec 32 := Scalar.muli v257 c16_i32_139
  let v274 : Index := Scalar.indexCast v272
  ![2, v274.toNat]
def k3_off24 (k3_t2 : Fin k3_t2_loop.trips) : Fin 2 → Nat :=
  let c0_i32_144 : BitVec 32 := 0#32
  let v283 : Index := Scalar.indexCast c0_i32_144
  let c0_i32_58 : BitVec 32 := 0#32
  let c1_i32_60 : BitVec 32 := 1#32
  let arg10 : BitVec 32 := Scf.iv c0_i32_58 c1_i32_60 k3_t2
  let c8_i32_141 : BitVec 32 := 8#32
  let v276 : BitVec 32 := Scalar.muli arg10 c8_i32_141
  let c7_i32 : BitVec 32 := 7#32
  let v277 : BitVec 32 := Scalar.addi v276 c7_i32
  let c16_i32_143 : BitVec 32 := 16#32
  let v282 : BitVec 32 := Scalar.muli v277 c16_i32_143
  let v284 : Index := Scalar.indexCast v282
  ![0, v284.toNat]
def k3_off25 (k3_t2 : Fin k3_t2_loop.trips) : Fin 2 → Nat :=
  let c1_i32_146 : BitVec 32 := 1#32
  let v288 : Index := Scalar.indexCast c1_i32_146
  let c0_i32_58 : BitVec 32 := 0#32
  let c1_i32_60 : BitVec 32 := 1#32
  let arg10 : BitVec 32 := Scf.iv c0_i32_58 c1_i32_60 k3_t2
  let c8_i32_141 : BitVec 32 := 8#32
  let v276 : BitVec 32 := Scalar.muli arg10 c8_i32_141
  let c7_i32 : BitVec 32 := 7#32
  let v277 : BitVec 32 := Scalar.addi v276 c7_i32
  let c16_i32_145 : BitVec 32 := 16#32
  let v287 : BitVec 32 := Scalar.muli v277 c16_i32_145
  let v289 : Index := Scalar.indexCast v287
  ![1, v289.toNat]

def k3_chk8 (v79 : IVec S16 32) (v84 : IVec S16 32) (v89 : IVec S16 32) (v280 : IVec S16 32) : Prop :=
  (∀ a x, ((![v280, v79] : Fin 2 → IVec S16 32) a x).toNat < S120x128.size a) ∧
  (∀ a x, ((![v280, v84] : Fin 2 → IVec S16 32) a x).toNat < S120x128.size a) ∧
  (∀ a x, ((![v280, v89] : Fin 2 → IVec S16 32) a x).toNat < S120x128.size a)
theorem k3_idx22_inb : ∀ (v79 : IVec S16 32) (v84 : IVec S16 32) (v89 : IVec S16 32) (v280 : IVec S16 32) (k3_hw8 : k3_chk8 v79 v84 v89 v280), ∀ a x, ((![v280, v79] : Fin 2 → IVec S16 32) a x).toNat < S120x128.size a := fun v79 v84 v89 v280 k3_hw8 => k3_hw8.1
theorem k3_idx23_inb : ∀ (v79 : IVec S16 32) (v84 : IVec S16 32) (v89 : IVec S16 32) (v280 : IVec S16 32) (k3_hw8 : k3_chk8 v79 v84 v89 v280), ∀ a x, ((![v280, v84] : Fin 2 → IVec S16 32) a x).toNat < S120x128.size a := fun v79 v84 v89 v280 k3_hw8 => k3_hw8.2.1
theorem k3_idx24_inb : ∀ (v79 : IVec S16 32) (v84 : IVec S16 32) (v89 : IVec S16 32) (v280 : IVec S16 32) (k3_hw8 : k3_chk8 v79 v84 v89 v280), ∀ a x, ((![v280, v89] : Fin 2 → IVec S16 32) a x).toNat < S120x128.size a := fun v79 v84 v89 v280 k3_hw8 => k3_hw8.2.2
def k3_off26 (k3_t2 : Fin k3_t2_loop.trips) : Fin 2 → Nat :=
  let c2_i32_148 : BitVec 32 := 2#32
  let v293 : Index := Scalar.indexCast c2_i32_148
  let c0_i32_58 : BitVec 32 := 0#32
  let c1_i32_60 : BitVec 32 := 1#32
  let arg10 : BitVec 32 := Scf.iv c0_i32_58 c1_i32_60 k3_t2
  let c8_i32_141 : BitVec 32 := 8#32
  let v276 : BitVec 32 := Scalar.muli arg10 c8_i32_141
  let c7_i32 : BitVec 32 := 7#32
  let v277 : BitVec 32 := Scalar.addi v276 c7_i32
  let c16_i32_147 : BitVec 32 := 16#32
  let v292 : BitVec 32 := Scalar.muli v277 c16_i32_147
  let v294 : Index := Scalar.indexCast v292
  ![2, v294.toNat]
def k3_off27 (i : grid3.Coords) (k3_t1 : Fin k3_t1_loop.trips) (c0_i32_52 : BitVec 32) : Fin 2 → Nat :=
  let c0_i32_82_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg9 : BitVec 32 := Scf.iv c0_i32_39 c1_i32_40 k3_t1
  let c2_i32_51 : BitVec 32 := 2#32
  let v108 : BitVec 32 := Scalar.muli arg9 c2_i32_51
  let v109 : BitVec 32 := Scalar.addi v108 c0_i32_52
  let c120_i32_56 : BitVec 32 := 120#32
  let v114 : BitVec 32 := Scalar.muli v109 c120_i32_56
  let v115 : BitVec 32 := Scalar.addi v37 v114
  let c16_i32_62 : BitVec 32 := 16#32
  let v117 : BitVec 32 := Scalar.muli v115 c16_i32_62
  ![0, v117.toNat]
def k3_cond1 (k3_t1 : Fin k3_t1_loop.trips) : BitVec 1 :=
  let c0_i32_39 : BitVec 32 := 0#32
  let c1_i32_40 : BitVec 32 := 1#32
  let arg9 : BitVec 32 := Scf.iv c0_i32_39 c1_i32_40 k3_t1
  let c2_i32_51 : BitVec 32 := 2#32
  let v108 : BitVec 32 := Scalar.muli arg9 c2_i32_51
  let c0_i32_52 : BitVec 32 := 0#32
  let v109 : BitVec 32 := Scalar.addi v108 c0_i32_52
  let c2_i32_63 : BitVec 32 := 2#32
  let v118 : BitVec 32 := Scalar.addi v109 c2_i32_63
  let c13_i32 : BitVec 32 := 13#32
  let v119 : BitVec 1 := Scalar.cmpi .slt v118 c13_i32
  let v120 : BitVec 32 := Scalar.extui v119
  let c0_i32_64 : BitVec 32 := 0#32
  let v121 : BitVec 1 := Scalar.cmpi .ne v120 c0_i32_64
  v121

def k3_off28 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg9 : BitVec 32 := Scf.iv c0_i32_39 c1_i32_40 k3_t1
  let c2_i32_51 : BitVec 32 := 2#32
  let v108 : BitVec 32 := Scalar.muli arg9 c2_i32_51
  let c0_i32_52 : BitVec 32 := 0#32
  let v109 : BitVec 32 := Scalar.addi v108 c0_i32_52
  let c2_i32_80 : BitVec 32 := 2#32
  let v136 : BitVec 32 := Scalar.addi v109 c2_i32_80
  let c120_i32_81 : BitVec 32 := 120#32
  let v137 : BitVec 32 := Scalar.muli v136 c120_i32_81
  let v138 : BitVec 32 := Scalar.addi v37 v137
  let c0_i32_82 : BitVec 32 := 0#32
  ![v138.toNat, 0]
def k3_off29 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg9 : BitVec 32 := Scf.iv c0_i32_39 c1_i32_40 k3_t1
  let c2_i32_65 : BitVec 32 := 2#32
  let v122 : BitVec 32 := Scalar.muli arg9 c2_i32_65
  let c1_i32_66 : BitVec 32 := 1#32
  let v123 : BitVec 32 := Scalar.addi v122 c1_i32_66
  let c120_i32_67 : BitVec 32 := 120#32
  let v124 : BitVec 32 := Scalar.muli v123 c120_i32_67
  let v125 : BitVec 32 := Scalar.addi v37 v124
  let c0_i32_68 : BitVec 32 := 0#32
  ![v125.toNat, 0]
@[reducible] def k3_t3_loop : Scf.Loop 32 :=
  let c0_i32_72 : BitVec 32 := 0#32
  let c15_i32_73 : BitVec 32 := 15#32
  let v130 : BitVec 32 := Scalar.addi c0_i32_72 c15_i32_73
  let c1_i32_74 : BitVec 32 := 1#32
  ⟨c0_i32_72, v130, c1_i32_74⟩
def k3_off30 (k3_t3 : Fin k3_t3_loop.trips) : Fin 2 → Nat :=
  let c0_i32_84 : BitVec 32 := 0#32
  let v143 : Index := Scalar.indexCast c0_i32_84
  let c0_i32_72 : BitVec 32 := 0#32
  let c1_i32_74 : BitVec 32 := 1#32
  let arg10 : BitVec 32 := Scf.iv c0_i32_72 c1_i32_74 k3_t3
  let c8_i32_80 : BitVec 32 := 8#32
  let v136 : BitVec 32 := Scalar.muli arg10 c8_i32_80
  let c0_i32_81 : BitVec 32 := 0#32
  let v137 : BitVec 32 := Scalar.addi v136 c0_i32_81
  let c16_i32_83 : BitVec 32 := 16#32
  let v142 : BitVec 32 := Scalar.muli v137 c16_i32_83
  let v144 : Index := Scalar.indexCast v142
  ![0, v144.toNat]
def k3_off31 (k3_t3 : Fin k3_t3_loop.trips) : Fin 2 → Nat :=
  let c1_i32_86 : BitVec 32 := 1#32
  let v148 : Index := Scalar.indexCast c1_i32_86
  let c0_i32_72 : BitVec 32 := 0#32
  let c1_i32_74 : BitVec 32 := 1#32
  let arg10 : BitVec 32 := Scf.iv c0_i32_72 c1_i32_74 k3_t3
  let c8_i32_80 : BitVec 32 := 8#32
  let v136 : BitVec 32 := Scalar.muli arg10 c8_i32_80
  let c0_i32_81 : BitVec 32 := 0#32
  let v137 : BitVec 32 := Scalar.addi v136 c0_i32_81
  let c16_i32_85 : BitVec 32 := 16#32
  let v147 : BitVec 32 := Scalar.muli v137 c16_i32_85
  let v149 : Index := Scalar.indexCast v147
  ![1, v149.toNat]

def k3_chk9 (v79 : IVec S16 32) (v84 : IVec S16 32) (v89 : IVec S16 32) (v140 : IVec S16 32) : Prop :=
  (∀ a x, ((![v140, v79] : Fin 2 → IVec S16 32) a x).toNat < S120x128.size a) ∧
  (∀ a x, ((![v140, v84] : Fin 2 → IVec S16 32) a x).toNat < S120x128.size a) ∧
  (∀ a x, ((![v140, v89] : Fin 2 → IVec S16 32) a x).toNat < S120x128.size a)
theorem k3_idx25_inb : ∀ (v79 : IVec S16 32) (v84 : IVec S16 32) (v89 : IVec S16 32) (v140 : IVec S16 32) (k3_hw9 : k3_chk9 v79 v84 v89 v140), ∀ a x, ((![v140, v79] : Fin 2 → IVec S16 32) a x).toNat < S120x128.size a := fun v79 v84 v89 v140 k3_hw9 => k3_hw9.1
theorem k3_idx26_inb : ∀ (v79 : IVec S16 32) (v84 : IVec S16 32) (v89 : IVec S16 32) (v140 : IVec S16 32) (k3_hw9 : k3_chk9 v79 v84 v89 v140), ∀ a x, ((![v140, v84] : Fin 2 → IVec S16 32) a x).toNat < S120x128.size a := fun v79 v84 v89 v140 k3_hw9 => k3_hw9.2.1
theorem k3_idx27_inb : ∀ (v79 : IVec S16 32) (v84 : IVec S16 32) (v89 : IVec S16 32) (v140 : IVec S16 32) (k3_hw9 : k3_chk9 v79 v84 v89 v140), ∀ a x, ((![v140, v89] : Fin 2 → IVec S16 32) a x).toNat < S120x128.size a := fun v79 v84 v89 v140 k3_hw9 => k3_hw9.2.2
def k3_off32 (k3_t3 : Fin k3_t3_loop.trips) : Fin 2 → Nat :=
  let c2_i32_88 : BitVec 32 := 2#32
  let v153 : Index := Scalar.indexCast c2_i32_88
  let c0_i32_72 : BitVec 32 := 0#32
  let c1_i32_74 : BitVec 32 := 1#32
  let arg10 : BitVec 32 := Scf.iv c0_i32_72 c1_i32_74 k3_t3
  let c8_i32_80 : BitVec 32 := 8#32
  let v136 : BitVec 32 := Scalar.muli arg10 c8_i32_80
  let c0_i32_81 : BitVec 32 := 0#32
  let v137 : BitVec 32 := Scalar.addi v136 c0_i32_81
  let c16_i32_87 : BitVec 32 := 16#32
  let v152 : BitVec 32 := Scalar.muli v137 c16_i32_87
  let v154 : Index := Scalar.indexCast v152
  ![2, v154.toNat]
def k3_off33 (k3_t3 : Fin k3_t3_loop.trips) : Fin 2 → Nat :=
  let c0_i32_93 : BitVec 32 := 0#32
  let v163 : Index := Scalar.indexCast c0_i32_93
  let c0_i32_72 : BitVec 32 := 0#32
  let c1_i32_74 : BitVec 32 := 1#32
  let arg10 : BitVec 32 := Scf.iv c0_i32_72 c1_i32_74 k3_t3
  let c8_i32_89 : BitVec 32 := 8#32
  let v156 : BitVec 32 := Scalar.muli arg10 c8_i32_89
  let c1_i32_90 : BitVec 32 := 1#32
  let v157 : BitVec 32 := Scalar.addi v156 c1_i32_90
  let c16_i32_92 : BitVec 32 := 16#32
  let v162 : BitVec 32 := Scalar.muli v157 c16_i32_92
  let v164 : Index := Scalar.indexCast v162
  ![0, v164.toNat]
def k3_off34 (k3_t3 : Fin k3_t3_loop.trips) : Fin 2 → Nat :=
  let c1_i32_95 : BitVec 32 := 1#32
  let v168 : Index := Scalar.indexCast c1_i32_95
  let c0_i32_72 : BitVec 32 := 0#32
  let c1_i32_74 : BitVec 32 := 1#32
  let arg10 : BitVec 32 := Scf.iv c0_i32_72 c1_i32_74 k3_t3
  let c8_i32_89 : BitVec 32 := 8#32
  let v156 : BitVec 32 := Scalar.muli arg10 c8_i32_89
  let c1_i32_90 : BitVec 32 := 1#32
  let v157 : BitVec 32 := Scalar.addi v156 c1_i32_90
  let c16_i32_94 : BitVec 32 := 16#32
  let v167 : BitVec 32 := Scalar.muli v157 c16_i32_94
  let v169 : Index := Scalar.indexCast v167
  ![1, v169.toNat]

def k3_chk10 (v79 : IVec S16 32) (v84 : IVec S16 32) (v89 : IVec S16 32) (v160 : IVec S16 32) : Prop :=
  (∀ a x, ((![v160, v79] : Fin 2 → IVec S16 32) a x).toNat < S120x128.size a) ∧
  (∀ a x, ((![v160, v84] : Fin 2 → IVec S16 32) a x).toNat < S120x128.size a) ∧
  (∀ a x, ((![v160, v89] : Fin 2 → IVec S16 32) a x).toNat < S120x128.size a)
theorem k3_idx28_inb : ∀ (v79 : IVec S16 32) (v84 : IVec S16 32) (v89 : IVec S16 32) (v160 : IVec S16 32) (k3_hw10 : k3_chk10 v79 v84 v89 v160), ∀ a x, ((![v160, v79] : Fin 2 → IVec S16 32) a x).toNat < S120x128.size a := fun v79 v84 v89 v160 k3_hw10 => k3_hw10.1
theorem k3_idx29_inb : ∀ (v79 : IVec S16 32) (v84 : IVec S16 32) (v89 : IVec S16 32) (v160 : IVec S16 32) (k3_hw10 : k3_chk10 v79 v84 v89 v160), ∀ a x, ((![v160, v84] : Fin 2 → IVec S16 32) a x).toNat < S120x128.size a := fun v79 v84 v89 v160 k3_hw10 => k3_hw10.2.1
theorem k3_idx30_inb : ∀ (v79 : IVec S16 32) (v84 : IVec S16 32) (v89 : IVec S16 32) (v160 : IVec S16 32) (k3_hw10 : k3_chk10 v79 v84 v89 v160), ∀ a x, ((![v160, v89] : Fin 2 → IVec S16 32) a x).toNat < S120x128.size a := fun v79 v84 v89 v160 k3_hw10 => k3_hw10.2.2
def k3_off35 (k3_t3 : Fin k3_t3_loop.trips) : Fin 2 → Nat :=
  let c2_i32_97 : BitVec 32 := 2#32
  let v173 : Index := Scalar.indexCast c2_i32_97
  let c0_i32_72 : BitVec 32 := 0#32
  let c1_i32_74 : BitVec 32 := 1#32
  let arg10 : BitVec 32 := Scf.iv c0_i32_72 c1_i32_74 k3_t3
  let c8_i32_89 : BitVec 32 := 8#32
  let v156 : BitVec 32 := Scalar.muli arg10 c8_i32_89
  let c1_i32_90 : BitVec 32 := 1#32
  let v157 : BitVec 32 := Scalar.addi v156 c1_i32_90
  let c16_i32_96 : BitVec 32 := 16#32
  let v172 : BitVec 32 := Scalar.muli v157 c16_i32_96
  let v174 : Index := Scalar.indexCast v172
  ![2, v174.toNat]
def k3_off36 (k3_t3 : Fin k3_t3_loop.trips) : Fin 2 → Nat :=
  let c0_i32_102 : BitVec 32 := 0#32
  let v183 : Index := Scalar.indexCast c0_i32_102
  let c0_i32_72 : BitVec 32 := 0#32
  let c1_i32_74 : BitVec 32 := 1#32
  let arg10 : BitVec 32 := Scf.iv c0_i32_72 c1_i32_74 k3_t3
  let c8_i32_98 : BitVec 32 := 8#32
  let v176 : BitVec 32 := Scalar.muli arg10 c8_i32_98
  let c2_i32_99 : BitVec 32 := 2#32
  let v177 : BitVec 32 := Scalar.addi v176 c2_i32_99
  let c16_i32_101 : BitVec 32 := 16#32
  let v182 : BitVec 32 := Scalar.muli v177 c16_i32_101
  let v184 : Index := Scalar.indexCast v182
  ![0, v184.toNat]
def k3_off37 (k3_t3 : Fin k3_t3_loop.trips) : Fin 2 → Nat :=
  let c1_i32_104 : BitVec 32 := 1#32
  let v188 : Index := Scalar.indexCast c1_i32_104
  let c0_i32_72 : BitVec 32 := 0#32
  let c1_i32_74 : BitVec 32 := 1#32
  let arg10 : BitVec 32 := Scf.iv c0_i32_72 c1_i32_74 k3_t3
  let c8_i32_98 : BitVec 32 := 8#32
  let v176 : BitVec 32 := Scalar.muli arg10 c8_i32_98
  let c2_i32_99 : BitVec 32 := 2#32
  let v177 : BitVec 32 := Scalar.addi v176 c2_i32_99
  let c16_i32_103 : BitVec 32 := 16#32
  let v187 : BitVec 32 := Scalar.muli v177 c16_i32_103
  let v189 : Index := Scalar.indexCast v187
  ![1, v189.toNat]

def k3_chk11 (v79 : IVec S16 32) (v84 : IVec S16 32) (v89 : IVec S16 32) (v180 : IVec S16 32) : Prop :=
  (∀ a x, ((![v180, v79] : Fin 2 → IVec S16 32) a x).toNat < S120x128.size a) ∧
  (∀ a x, ((![v180, v84] : Fin 2 → IVec S16 32) a x).toNat < S120x128.size a) ∧
  (∀ a x, ((![v180, v89] : Fin 2 → IVec S16 32) a x).toNat < S120x128.size a)
theorem k3_idx31_inb : ∀ (v79 : IVec S16 32) (v84 : IVec S16 32) (v89 : IVec S16 32) (v180 : IVec S16 32) (k3_hw11 : k3_chk11 v79 v84 v89 v180), ∀ a x, ((![v180, v79] : Fin 2 → IVec S16 32) a x).toNat < S120x128.size a := fun v79 v84 v89 v180 k3_hw11 => k3_hw11.1
theorem k3_idx32_inb : ∀ (v79 : IVec S16 32) (v84 : IVec S16 32) (v89 : IVec S16 32) (v180 : IVec S16 32) (k3_hw11 : k3_chk11 v79 v84 v89 v180), ∀ a x, ((![v180, v84] : Fin 2 → IVec S16 32) a x).toNat < S120x128.size a := fun v79 v84 v89 v180 k3_hw11 => k3_hw11.2.1
theorem k3_idx33_inb : ∀ (v79 : IVec S16 32) (v84 : IVec S16 32) (v89 : IVec S16 32) (v180 : IVec S16 32) (k3_hw11 : k3_chk11 v79 v84 v89 v180), ∀ a x, ((![v180, v89] : Fin 2 → IVec S16 32) a x).toNat < S120x128.size a := fun v79 v84 v89 v180 k3_hw11 => k3_hw11.2.2
def k3_off38 (k3_t3 : Fin k3_t3_loop.trips) : Fin 2 → Nat :=
  let c2_i32_106 : BitVec 32 := 2#32
  let v193 : Index := Scalar.indexCast c2_i32_106
  let c0_i32_72 : BitVec 32 := 0#32
  let c1_i32_74 : BitVec 32 := 1#32
  let arg10 : BitVec 32 := Scf.iv c0_i32_72 c1_i32_74 k3_t3
  let c8_i32_98 : BitVec 32 := 8#32
  let v176 : BitVec 32 := Scalar.muli arg10 c8_i32_98
  let c2_i32_99 : BitVec 32 := 2#32
  let v177 : BitVec 32 := Scalar.addi v176 c2_i32_99
  let c16_i32_105 : BitVec 32 := 16#32
  let v192 : BitVec 32 := Scalar.muli v177 c16_i32_105
  let v194 : Index := Scalar.indexCast v192
  ![2, v194.toNat]
def k3_off39 (k3_t3 : Fin k3_t3_loop.trips) : Fin 2 → Nat :=
  let c0_i32_111 : BitVec 32 := 0#32
  let v203 : Index := Scalar.indexCast c0_i32_111
  let c0_i32_72 : BitVec 32 := 0#32
  let c1_i32_74 : BitVec 32 := 1#32
  let arg10 : BitVec 32 := Scf.iv c0_i32_72 c1_i32_74 k3_t3
  let c8_i32_107 : BitVec 32 := 8#32
  let v196 : BitVec 32 := Scalar.muli arg10 c8_i32_107
  let c3_i32_108 : BitVec 32 := 3#32
  let v197 : BitVec 32 := Scalar.addi v196 c3_i32_108
  let c16_i32_110 : BitVec 32 := 16#32
  let v202 : BitVec 32 := Scalar.muli v197 c16_i32_110
  let v204 : Index := Scalar.indexCast v202
  ![0, v204.toNat]
def k3_off40 (k3_t3 : Fin k3_t3_loop.trips) : Fin 2 → Nat :=
  let c1_i32_113 : BitVec 32 := 1#32
  let v208 : Index := Scalar.indexCast c1_i32_113
  let c0_i32_72 : BitVec 32 := 0#32
  let c1_i32_74 : BitVec 32 := 1#32
  let arg10 : BitVec 32 := Scf.iv c0_i32_72 c1_i32_74 k3_t3
  let c8_i32_107 : BitVec 32 := 8#32
  let v196 : BitVec 32 := Scalar.muli arg10 c8_i32_107
  let c3_i32_108 : BitVec 32 := 3#32
  let v197 : BitVec 32 := Scalar.addi v196 c3_i32_108
  let c16_i32_112 : BitVec 32 := 16#32
  let v207 : BitVec 32 := Scalar.muli v197 c16_i32_112
  let v209 : Index := Scalar.indexCast v207
  ![1, v209.toNat]

def k3_chk12 (v79 : IVec S16 32) (v84 : IVec S16 32) (v89 : IVec S16 32) (v200 : IVec S16 32) : Prop :=
  (∀ a x, ((![v200, v79] : Fin 2 → IVec S16 32) a x).toNat < S120x128.size a) ∧
  (∀ a x, ((![v200, v84] : Fin 2 → IVec S16 32) a x).toNat < S120x128.size a) ∧
  (∀ a x, ((![v200, v89] : Fin 2 → IVec S16 32) a x).toNat < S120x128.size a)
theorem k3_idx34_inb : ∀ (v79 : IVec S16 32) (v84 : IVec S16 32) (v89 : IVec S16 32) (v200 : IVec S16 32) (k3_hw12 : k3_chk12 v79 v84 v89 v200), ∀ a x, ((![v200, v79] : Fin 2 → IVec S16 32) a x).toNat < S120x128.size a := fun v79 v84 v89 v200 k3_hw12 => k3_hw12.1
theorem k3_idx35_inb : ∀ (v79 : IVec S16 32) (v84 : IVec S16 32) (v89 : IVec S16 32) (v200 : IVec S16 32) (k3_hw12 : k3_chk12 v79 v84 v89 v200), ∀ a x, ((![v200, v84] : Fin 2 → IVec S16 32) a x).toNat < S120x128.size a := fun v79 v84 v89 v200 k3_hw12 => k3_hw12.2.1
theorem k3_idx36_inb : ∀ (v79 : IVec S16 32) (v84 : IVec S16 32) (v89 : IVec S16 32) (v200 : IVec S16 32) (k3_hw12 : k3_chk12 v79 v84 v89 v200), ∀ a x, ((![v200, v89] : Fin 2 → IVec S16 32) a x).toNat < S120x128.size a := fun v79 v84 v89 v200 k3_hw12 => k3_hw12.2.2
def k3_off41 (k3_t3 : Fin k3_t3_loop.trips) : Fin 2 → Nat :=
  let c2_i32_115 : BitVec 32 := 2#32
  let v213 : Index := Scalar.indexCast c2_i32_115
  let c0_i32_72 : BitVec 32 := 0#32
  let c1_i32_74 : BitVec 32 := 1#32
  let arg10 : BitVec 32 := Scf.iv c0_i32_72 c1_i32_74 k3_t3
  let c8_i32_107 : BitVec 32 := 8#32
  let v196 : BitVec 32 := Scalar.muli arg10 c8_i32_107
  let c3_i32_108 : BitVec 32 := 3#32
  let v197 : BitVec 32 := Scalar.addi v196 c3_i32_108
  let c16_i32_114 : BitVec 32 := 16#32
  let v212 : BitVec 32 := Scalar.muli v197 c16_i32_114
  let v214 : Index := Scalar.indexCast v212
  ![2, v214.toNat]
def k3_off42 (k3_t3 : Fin k3_t3_loop.trips) : Fin 2 → Nat :=
  let c0_i32_119 : BitVec 32 := 0#32
  let v223 : Index := Scalar.indexCast c0_i32_119
  let c0_i32_72 : BitVec 32 := 0#32
  let c1_i32_74 : BitVec 32 := 1#32
  let arg10 : BitVec 32 := Scf.iv c0_i32_72 c1_i32_74 k3_t3
  let c8_i32_116 : BitVec 32 := 8#32
  let v216 : BitVec 32 := Scalar.muli arg10 c8_i32_116
  let c4_i32 : BitVec 32 := 4#32
  let v217 : BitVec 32 := Scalar.addi v216 c4_i32
  let c16_i32_118 : BitVec 32 := 16#32
  let v222 : BitVec 32 := Scalar.muli v217 c16_i32_118
  let v224 : Index := Scalar.indexCast v222
  ![0, v224.toNat]
def k3_off43 (k3_t3 : Fin k3_t3_loop.trips) : Fin 2 → Nat :=
  let c1_i32_121 : BitVec 32 := 1#32
  let v228 : Index := Scalar.indexCast c1_i32_121
  let c0_i32_72 : BitVec 32 := 0#32
  let c1_i32_74 : BitVec 32 := 1#32
  let arg10 : BitVec 32 := Scf.iv c0_i32_72 c1_i32_74 k3_t3
  let c8_i32_116 : BitVec 32 := 8#32
  let v216 : BitVec 32 := Scalar.muli arg10 c8_i32_116
  let c4_i32 : BitVec 32 := 4#32
  let v217 : BitVec 32 := Scalar.addi v216 c4_i32
  let c16_i32_120 : BitVec 32 := 16#32
  let v227 : BitVec 32 := Scalar.muli v217 c16_i32_120
  let v229 : Index := Scalar.indexCast v227
  ![1, v229.toNat]

def k3_chk13 (v79 : IVec S16 32) (v84 : IVec S16 32) (v89 : IVec S16 32) (v220 : IVec S16 32) : Prop :=
  (∀ a x, ((![v220, v79] : Fin 2 → IVec S16 32) a x).toNat < S120x128.size a) ∧
  (∀ a x, ((![v220, v84] : Fin 2 → IVec S16 32) a x).toNat < S120x128.size a) ∧
  (∀ a x, ((![v220, v89] : Fin 2 → IVec S16 32) a x).toNat < S120x128.size a)
theorem k3_idx37_inb : ∀ (v79 : IVec S16 32) (v84 : IVec S16 32) (v89 : IVec S16 32) (v220 : IVec S16 32) (k3_hw13 : k3_chk13 v79 v84 v89 v220), ∀ a x, ((![v220, v79] : Fin 2 → IVec S16 32) a x).toNat < S120x128.size a := fun v79 v84 v89 v220 k3_hw13 => k3_hw13.1
theorem k3_idx38_inb : ∀ (v79 : IVec S16 32) (v84 : IVec S16 32) (v89 : IVec S16 32) (v220 : IVec S16 32) (k3_hw13 : k3_chk13 v79 v84 v89 v220), ∀ a x, ((![v220, v84] : Fin 2 → IVec S16 32) a x).toNat < S120x128.size a := fun v79 v84 v89 v220 k3_hw13 => k3_hw13.2.1
theorem k3_idx39_inb : ∀ (v79 : IVec S16 32) (v84 : IVec S16 32) (v89 : IVec S16 32) (v220 : IVec S16 32) (k3_hw13 : k3_chk13 v79 v84 v89 v220), ∀ a x, ((![v220, v89] : Fin 2 → IVec S16 32) a x).toNat < S120x128.size a := fun v79 v84 v89 v220 k3_hw13 => k3_hw13.2.2
def k3_off44 (k3_t3 : Fin k3_t3_loop.trips) : Fin 2 → Nat :=
  let c2_i32_123 : BitVec 32 := 2#32
  let v233 : Index := Scalar.indexCast c2_i32_123
  let c0_i32_72 : BitVec 32 := 0#32
  let c1_i32_74 : BitVec 32 := 1#32
  let arg10 : BitVec 32 := Scf.iv c0_i32_72 c1_i32_74 k3_t3
  let c8_i32_116 : BitVec 32 := 8#32
  let v216 : BitVec 32 := Scalar.muli arg10 c8_i32_116
  let c4_i32 : BitVec 32 := 4#32
  let v217 : BitVec 32 := Scalar.addi v216 c4_i32
  let c16_i32_122 : BitVec 32 := 16#32
  let v232 : BitVec 32 := Scalar.muli v217 c16_i32_122
  let v234 : Index := Scalar.indexCast v232
  ![2, v234.toNat]
def k3_off45 (k3_t3 : Fin k3_t3_loop.trips) : Fin 2 → Nat :=
  let c0_i32_127 : BitVec 32 := 0#32
  let v243 : Index := Scalar.indexCast c0_i32_127
  let c0_i32_72 : BitVec 32 := 0#32
  let c1_i32_74 : BitVec 32 := 1#32
  let arg10 : BitVec 32 := Scf.iv c0_i32_72 c1_i32_74 k3_t3
  let c8_i32_124 : BitVec 32 := 8#32
  let v236 : BitVec 32 := Scalar.muli arg10 c8_i32_124
  let c5_i32 : BitVec 32 := 5#32
  let v237 : BitVec 32 := Scalar.addi v236 c5_i32
  let c16_i32_126 : BitVec 32 := 16#32
  let v242 : BitVec 32 := Scalar.muli v237 c16_i32_126
  let v244 : Index := Scalar.indexCast v242
  ![0, v244.toNat]
def k3_off46 (k3_t3 : Fin k3_t3_loop.trips) : Fin 2 → Nat :=
  let c1_i32_129 : BitVec 32 := 1#32
  let v248 : Index := Scalar.indexCast c1_i32_129
  let c0_i32_72 : BitVec 32 := 0#32
  let c1_i32_74 : BitVec 32 := 1#32
  let arg10 : BitVec 32 := Scf.iv c0_i32_72 c1_i32_74 k3_t3
  let c8_i32_124 : BitVec 32 := 8#32
  let v236 : BitVec 32 := Scalar.muli arg10 c8_i32_124
  let c5_i32 : BitVec 32 := 5#32
  let v237 : BitVec 32 := Scalar.addi v236 c5_i32
  let c16_i32_128 : BitVec 32 := 16#32
  let v247 : BitVec 32 := Scalar.muli v237 c16_i32_128
  let v249 : Index := Scalar.indexCast v247
  ![1, v249.toNat]

def k3_chk14 (v79 : IVec S16 32) (v84 : IVec S16 32) (v89 : IVec S16 32) (v240 : IVec S16 32) : Prop :=
  (∀ a x, ((![v240, v79] : Fin 2 → IVec S16 32) a x).toNat < S120x128.size a) ∧
  (∀ a x, ((![v240, v84] : Fin 2 → IVec S16 32) a x).toNat < S120x128.size a) ∧
  (∀ a x, ((![v240, v89] : Fin 2 → IVec S16 32) a x).toNat < S120x128.size a)
theorem k3_idx40_inb : ∀ (v79 : IVec S16 32) (v84 : IVec S16 32) (v89 : IVec S16 32) (v240 : IVec S16 32) (k3_hw14 : k3_chk14 v79 v84 v89 v240), ∀ a x, ((![v240, v79] : Fin 2 → IVec S16 32) a x).toNat < S120x128.size a := fun v79 v84 v89 v240 k3_hw14 => k3_hw14.1
theorem k3_idx41_inb : ∀ (v79 : IVec S16 32) (v84 : IVec S16 32) (v89 : IVec S16 32) (v240 : IVec S16 32) (k3_hw14 : k3_chk14 v79 v84 v89 v240), ∀ a x, ((![v240, v84] : Fin 2 → IVec S16 32) a x).toNat < S120x128.size a := fun v79 v84 v89 v240 k3_hw14 => k3_hw14.2.1
theorem k3_idx42_inb : ∀ (v79 : IVec S16 32) (v84 : IVec S16 32) (v89 : IVec S16 32) (v240 : IVec S16 32) (k3_hw14 : k3_chk14 v79 v84 v89 v240), ∀ a x, ((![v240, v89] : Fin 2 → IVec S16 32) a x).toNat < S120x128.size a := fun v79 v84 v89 v240 k3_hw14 => k3_hw14.2.2
def k3_off47 (k3_t3 : Fin k3_t3_loop.trips) : Fin 2 → Nat :=
  let c2_i32_131 : BitVec 32 := 2#32
  let v253 : Index := Scalar.indexCast c2_i32_131
  let c0_i32_72 : BitVec 32 := 0#32
  let c1_i32_74 : BitVec 32 := 1#32
  let arg10 : BitVec 32 := Scf.iv c0_i32_72 c1_i32_74 k3_t3
  let c8_i32_124 : BitVec 32 := 8#32
  let v236 : BitVec 32 := Scalar.muli arg10 c8_i32_124
  let c5_i32 : BitVec 32 := 5#32
  let v237 : BitVec 32 := Scalar.addi v236 c5_i32
  let c16_i32_130 : BitVec 32 := 16#32
  let v252 : BitVec 32 := Scalar.muli v237 c16_i32_130
  let v254 : Index := Scalar.indexCast v252
  ![2, v254.toNat]
def k3_off48 (k3_t3 : Fin k3_t3_loop.trips) : Fin 2 → Nat :=
  let c0_i32_136 : BitVec 32 := 0#32
  let v263 : Index := Scalar.indexCast c0_i32_136
  let c0_i32_72 : BitVec 32 := 0#32
  let c1_i32_74 : BitVec 32 := 1#32
  let arg10 : BitVec 32 := Scf.iv c0_i32_72 c1_i32_74 k3_t3
  let c8_i32_132 : BitVec 32 := 8#32
  let v256 : BitVec 32 := Scalar.muli arg10 c8_i32_132
  let c6_i32_133 : BitVec 32 := 6#32
  let v257 : BitVec 32 := Scalar.addi v256 c6_i32_133
  let c16_i32_135 : BitVec 32 := 16#32
  let v262 : BitVec 32 := Scalar.muli v257 c16_i32_135
  let v264 : Index := Scalar.indexCast v262
  ![0, v264.toNat]
def k3_off49 (k3_t3 : Fin k3_t3_loop.trips) : Fin 2 → Nat :=
  let c1_i32_138 : BitVec 32 := 1#32
  let v268 : Index := Scalar.indexCast c1_i32_138
  let c0_i32_72 : BitVec 32 := 0#32
  let c1_i32_74 : BitVec 32 := 1#32
  let arg10 : BitVec 32 := Scf.iv c0_i32_72 c1_i32_74 k3_t3
  let c8_i32_132 : BitVec 32 := 8#32
  let v256 : BitVec 32 := Scalar.muli arg10 c8_i32_132
  let c6_i32_133 : BitVec 32 := 6#32
  let v257 : BitVec 32 := Scalar.addi v256 c6_i32_133
  let c16_i32_137 : BitVec 32 := 16#32
  let v267 : BitVec 32 := Scalar.muli v257 c16_i32_137
  let v269 : Index := Scalar.indexCast v267
  ![1, v269.toNat]

def k3_chk15 (v79 : IVec S16 32) (v84 : IVec S16 32) (v89 : IVec S16 32) (v260 : IVec S16 32) : Prop :=
  (∀ a x, ((![v260, v79] : Fin 2 → IVec S16 32) a x).toNat < S120x128.size a) ∧
  (∀ a x, ((![v260, v84] : Fin 2 → IVec S16 32) a x).toNat < S120x128.size a) ∧
  (∀ a x, ((![v260, v89] : Fin 2 → IVec S16 32) a x).toNat < S120x128.size a)
theorem k3_idx43_inb : ∀ (v79 : IVec S16 32) (v84 : IVec S16 32) (v89 : IVec S16 32) (v260 : IVec S16 32) (k3_hw15 : k3_chk15 v79 v84 v89 v260), ∀ a x, ((![v260, v79] : Fin 2 → IVec S16 32) a x).toNat < S120x128.size a := fun v79 v84 v89 v260 k3_hw15 => k3_hw15.1
theorem k3_idx44_inb : ∀ (v79 : IVec S16 32) (v84 : IVec S16 32) (v89 : IVec S16 32) (v260 : IVec S16 32) (k3_hw15 : k3_chk15 v79 v84 v89 v260), ∀ a x, ((![v260, v84] : Fin 2 → IVec S16 32) a x).toNat < S120x128.size a := fun v79 v84 v89 v260 k3_hw15 => k3_hw15.2.1
theorem k3_idx45_inb : ∀ (v79 : IVec S16 32) (v84 : IVec S16 32) (v89 : IVec S16 32) (v260 : IVec S16 32) (k3_hw15 : k3_chk15 v79 v84 v89 v260), ∀ a x, ((![v260, v89] : Fin 2 → IVec S16 32) a x).toNat < S120x128.size a := fun v79 v84 v89 v260 k3_hw15 => k3_hw15.2.2
def k3_off50 (k3_t3 : Fin k3_t3_loop.trips) : Fin 2 → Nat :=
  let c2_i32_140 : BitVec 32 := 2#32
  let v273 : Index := Scalar.indexCast c2_i32_140
  let c0_i32_72 : BitVec 32 := 0#32
  let c1_i32_74 : BitVec 32 := 1#32
  let arg10 : BitVec 32 := Scf.iv c0_i32_72 c1_i32_74 k3_t3
  let c8_i32_132 : BitVec 32 := 8#32
  let v256 : BitVec 32 := Scalar.muli arg10 c8_i32_132
  let c6_i32_133 : BitVec 32 := 6#32
  let v257 : BitVec 32 := Scalar.addi v256 c6_i32_133
  let c16_i32_139 : BitVec 32 := 16#32
  let v272 : BitVec 32 := Scalar.muli v257 c16_i32_139
  let v274 : Index := Scalar.indexCast v272
  ![2, v274.toNat]
def k3_off51 (k3_t3 : Fin k3_t3_loop.trips) : Fin 2 → Nat :=
  let c0_i32_144 : BitVec 32 := 0#32
  let v283 : Index := Scalar.indexCast c0_i32_144
  let c0_i32_72 : BitVec 32 := 0#32
  let c1_i32_74 : BitVec 32 := 1#32
  let arg10 : BitVec 32 := Scf.iv c0_i32_72 c1_i32_74 k3_t3
  let c8_i32_141 : BitVec 32 := 8#32
  let v276 : BitVec 32 := Scalar.muli arg10 c8_i32_141
  let c7_i32 : BitVec 32 := 7#32
  let v277 : BitVec 32 := Scalar.addi v276 c7_i32
  let c16_i32_143 : BitVec 32 := 16#32
  let v282 : BitVec 32 := Scalar.muli v277 c16_i32_143
  let v284 : Index := Scalar.indexCast v282
  ![0, v284.toNat]
def k3_off52 (k3_t3 : Fin k3_t3_loop.trips) : Fin 2 → Nat :=
  let c1_i32_146 : BitVec 32 := 1#32
  let v288 : Index := Scalar.indexCast c1_i32_146
  let c0_i32_72 : BitVec 32 := 0#32
  let c1_i32_74 : BitVec 32 := 1#32
  let arg10 : BitVec 32 := Scf.iv c0_i32_72 c1_i32_74 k3_t3
  let c8_i32_141 : BitVec 32 := 8#32
  let v276 : BitVec 32 := Scalar.muli arg10 c8_i32_141
  let c7_i32 : BitVec 32 := 7#32
  let v277 : BitVec 32 := Scalar.addi v276 c7_i32
  let c16_i32_145 : BitVec 32 := 16#32
  let v287 : BitVec 32 := Scalar.muli v277 c16_i32_145
  let v289 : Index := Scalar.indexCast v287
  ![1, v289.toNat]

def k3_chk16 (v79 : IVec S16 32) (v84 : IVec S16 32) (v89 : IVec S16 32) (v280 : IVec S16 32) : Prop :=
  (∀ a x, ((![v280, v79] : Fin 2 → IVec S16 32) a x).toNat < S120x128.size a) ∧
  (∀ a x, ((![v280, v84] : Fin 2 → IVec S16 32) a x).toNat < S120x128.size a) ∧
  (∀ a x, ((![v280, v89] : Fin 2 → IVec S16 32) a x).toNat < S120x128.size a)
theorem k3_idx46_inb : ∀ (v79 : IVec S16 32) (v84 : IVec S16 32) (v89 : IVec S16 32) (v280 : IVec S16 32) (k3_hw16 : k3_chk16 v79 v84 v89 v280), ∀ a x, ((![v280, v79] : Fin 2 → IVec S16 32) a x).toNat < S120x128.size a := fun v79 v84 v89 v280 k3_hw16 => k3_hw16.1
theorem k3_idx47_inb : ∀ (v79 : IVec S16 32) (v84 : IVec S16 32) (v89 : IVec S16 32) (v280 : IVec S16 32) (k3_hw16 : k3_chk16 v79 v84 v89 v280), ∀ a x, ((![v280, v84] : Fin 2 → IVec S16 32) a x).toNat < S120x128.size a := fun v79 v84 v89 v280 k3_hw16 => k3_hw16.2.1
theorem k3_idx48_inb : ∀ (v79 : IVec S16 32) (v84 : IVec S16 32) (v89 : IVec S16 32) (v280 : IVec S16 32) (k3_hw16 : k3_chk16 v79 v84 v89 v280), ∀ a x, ((![v280, v89] : Fin 2 → IVec S16 32) a x).toNat < S120x128.size a := fun v79 v84 v89 v280 k3_hw16 => k3_hw16.2.2
def k3_off53 (k3_t3 : Fin k3_t3_loop.trips) : Fin 2 → Nat :=
  let c2_i32_148 : BitVec 32 := 2#32
  let v293 : Index := Scalar.indexCast c2_i32_148
  let c0_i32_72 : BitVec 32 := 0#32
  let c1_i32_74 : BitVec 32 := 1#32
  let arg10 : BitVec 32 := Scf.iv c0_i32_72 c1_i32_74 k3_t3
  let c8_i32_141 : BitVec 32 := 8#32
  let v276 : BitVec 32 := Scalar.muli arg10 c8_i32_141
  let c7_i32 : BitVec 32 := 7#32
  let v277 : BitVec 32 := Scalar.addi v276 c7_i32
  let c16_i32_147 : BitVec 32 := 16#32
  let v292 : BitVec 32 := Scalar.muli v277 c16_i32_147
  let v294 : Index := Scalar.indexCast v292
  ![2, v294.toNat]
def k3_cond2 (k3_t1 : Fin k3_t1_loop.trips) : BitVec 1 :=
  let c0_i32_39 : BitVec 32 := 0#32
  let c1_i32_40 : BitVec 32 := 1#32
  let arg9 : BitVec 32 := Scf.iv c0_i32_39 c1_i32_40 k3_t1
  let c2_i32_65 : BitVec 32 := 2#32
  let v122 : BitVec 32 := Scalar.muli arg9 c2_i32_65
  let c1_i32_66 : BitVec 32 := 1#32
  let v123 : BitVec 32 := Scalar.addi v122 c1_i32_66
  let c2_i32_77 : BitVec 32 := 2#32
  let v132 : BitVec 32 := Scalar.addi v123 c2_i32_77
  let c13_i32_78 : BitVec 32 := 13#32
  let v133 : BitVec 1 := Scalar.cmpi .slt v132 c13_i32_78
  let v134 : BitVec 32 := Scalar.extui v133
  let c0_i32_79 : BitVec 32 := 0#32
  let v135 : BitVec 1 := Scalar.cmpi .ne v134 c0_i32_79
  v135

def k3_off54 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c0_i32_39 : BitVec 32 := 0#32
  let c1_i32_40 : BitVec 32 := 1#32
  let arg9 : BitVec 32 := Scf.iv c0_i32_39 c1_i32_40 k3_t1
  let c2_i32_65 : BitVec 32 := 2#32
  let v122 : BitVec 32 := Scalar.muli arg9 c2_i32_65
  let c1_i32_66 : BitVec 32 := 1#32
  let v123 : BitVec 32 := Scalar.addi v122 c1_i32_66
  let c2_i32_80 : BitVec 32 := 2#32
  let v136 : BitVec 32 := Scalar.addi v123 c2_i32_80
  let c120_i32_81 : BitVec 32 := 120#32
  let v137 : BitVec 32 := Scalar.muli v136 c120_i32_81
  let v138 : BitVec 32 := Scalar.addi v37 v137
  let c0_i32_82 : BitVec 32 := 0#32
  ![v138.toNat, 0]
def k3_off55 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1440_i32 : BitVec 32 := 1440#32
  let v97 : BitVec 32 := Scalar.addi v37 c1440_i32
  let c0_i32_42 : BitVec 32 := 0#32
  ![v97.toNat, 0]
@[reducible] def k3_t4_loop : Scf.Loop 32 :=
  let c0_i32_46 : BitVec 32 := 0#32
  let c15_i32 : BitVec 32 := 15#32
  let v101 : BitVec 32 := Scalar.addi c0_i32_46 c15_i32
  let c1_i32_47 : BitVec 32 := 1#32
  ⟨c0_i32_46, v101, c1_i32_47⟩
def k3_off56 (k3_t4 : Fin k3_t4_loop.trips) : Fin 2 → Nat :=
  let c0_i32_55 : BitVec 32 := 0#32
  let v115 : Index := Scalar.indexCast c0_i32_55
  let c0_i32_46 : BitVec 32 := 0#32
  let c1_i32_47 : BitVec 32 := 1#32
  let arg9 : BitVec 32 := Scf.iv c0_i32_46 c1_i32_47 k3_t4
  let c8_i32_51 : BitVec 32 := 8#32
  let v108 : BitVec 32 := Scalar.muli arg9 c8_i32_51
  let c0_i32_52 : BitVec 32 := 0#32
  let v109 : BitVec 32 := Scalar.addi v108 c0_i32_52
  let c16_i32_54 : BitVec 32 := 16#32
  let v114 : BitVec 32 := Scalar.muli v109 c16_i32_54
  let v116 : Index := Scalar.indexCast v114
  ![0, v116.toNat]
def k3_off57 (k3_t4 : Fin k3_t4_loop.trips) : Fin 2 → Nat :=
  let c1_i32_57 : BitVec 32 := 1#32
  let v120 : Index := Scalar.indexCast c1_i32_57
  let c0_i32_46 : BitVec 32 := 0#32
  let c1_i32_47 : BitVec 32 := 1#32
  let arg9 : BitVec 32 := Scf.iv c0_i32_46 c1_i32_47 k3_t4
  let c8_i32_51 : BitVec 32 := 8#32
  let v108 : BitVec 32 := Scalar.muli arg9 c8_i32_51
  let c0_i32_52 : BitVec 32 := 0#32
  let v109 : BitVec 32 := Scalar.addi v108 c0_i32_52
  let c16_i32_56 : BitVec 32 := 16#32
  let v119 : BitVec 32 := Scalar.muli v109 c16_i32_56
  let v121 : Index := Scalar.indexCast v119
  ![1, v121.toNat]

def k3_chk17 (v79 : IVec S16 32) (v84 : IVec S16 32) (v89 : IVec S16 32) (v112 : IVec S16 32) : Prop :=
  (∀ a x, ((![v112, v79] : Fin 2 → IVec S16 32) a x).toNat < S120x128.size a) ∧
  (∀ a x, ((![v112, v84] : Fin 2 → IVec S16 32) a x).toNat < S120x128.size a) ∧
  (∀ a x, ((![v112, v89] : Fin 2 → IVec S16 32) a x).toNat < S120x128.size a)
theorem k3_idx49_inb : ∀ (v79 : IVec S16 32) (v84 : IVec S16 32) (v89 : IVec S16 32) (v112 : IVec S16 32) (k3_hw17 : k3_chk17 v79 v84 v89 v112), ∀ a x, ((![v112, v79] : Fin 2 → IVec S16 32) a x).toNat < S120x128.size a := fun v79 v84 v89 v112 k3_hw17 => k3_hw17.1
theorem k3_idx50_inb : ∀ (v79 : IVec S16 32) (v84 : IVec S16 32) (v89 : IVec S16 32) (v112 : IVec S16 32) (k3_hw17 : k3_chk17 v79 v84 v89 v112), ∀ a x, ((![v112, v84] : Fin 2 → IVec S16 32) a x).toNat < S120x128.size a := fun v79 v84 v89 v112 k3_hw17 => k3_hw17.2.1
theorem k3_idx51_inb : ∀ (v79 : IVec S16 32) (v84 : IVec S16 32) (v89 : IVec S16 32) (v112 : IVec S16 32) (k3_hw17 : k3_chk17 v79 v84 v89 v112), ∀ a x, ((![v112, v89] : Fin 2 → IVec S16 32) a x).toNat < S120x128.size a := fun v79 v84 v89 v112 k3_hw17 => k3_hw17.2.2
def k3_off58 (k3_t4 : Fin k3_t4_loop.trips) : Fin 2 → Nat :=
  let c2_i32_59 : BitVec 32 := 2#32
  let v125 : Index := Scalar.indexCast c2_i32_59
  let c0_i32_46 : BitVec 32 := 0#32
  let c1_i32_47 : BitVec 32 := 1#32
  let arg9 : BitVec 32 := Scf.iv c0_i32_46 c1_i32_47 k3_t4
  let c8_i32_51 : BitVec 32 := 8#32
  let v108 : BitVec 32 := Scalar.muli arg9 c8_i32_51
  let c0_i32_52 : BitVec 32 := 0#32
  let v109 : BitVec 32 := Scalar.addi v108 c0_i32_52
  let c16_i32_58 : BitVec 32 := 16#32
  let v124 : BitVec 32 := Scalar.muli v109 c16_i32_58
  let v126 : Index := Scalar.indexCast v124
  ![2, v126.toNat]
def k3_off59 (k3_t4 : Fin k3_t4_loop.trips) : Fin 2 → Nat :=
  let c0_i32_64 : BitVec 32 := 0#32
  let v135 : Index := Scalar.indexCast c0_i32_64
  let c0_i32_46 : BitVec 32 := 0#32
  let c1_i32_47 : BitVec 32 := 1#32
  let arg9 : BitVec 32 := Scf.iv c0_i32_46 c1_i32_47 k3_t4
  let c8_i32_60 : BitVec 32 := 8#32
  let v128 : BitVec 32 := Scalar.muli arg9 c8_i32_60
  let c1_i32_61 : BitVec 32 := 1#32
  let v129 : BitVec 32 := Scalar.addi v128 c1_i32_61
  let c16_i32_63 : BitVec 32 := 16#32
  let v134 : BitVec 32 := Scalar.muli v129 c16_i32_63
  let v136 : Index := Scalar.indexCast v134
  ![0, v136.toNat]
def k3_off60 (k3_t4 : Fin k3_t4_loop.trips) : Fin 2 → Nat :=
  let c1_i32_66 : BitVec 32 := 1#32
  let v140 : Index := Scalar.indexCast c1_i32_66
  let c0_i32_46 : BitVec 32 := 0#32
  let c1_i32_47 : BitVec 32 := 1#32
  let arg9 : BitVec 32 := Scf.iv c0_i32_46 c1_i32_47 k3_t4
  let c8_i32_60 : BitVec 32 := 8#32
  let v128 : BitVec 32 := Scalar.muli arg9 c8_i32_60
  let c1_i32_61 : BitVec 32 := 1#32
  let v129 : BitVec 32 := Scalar.addi v128 c1_i32_61
  let c16_i32_65 : BitVec 32 := 16#32
  let v139 : BitVec 32 := Scalar.muli v129 c16_i32_65
  let v141 : Index := Scalar.indexCast v139
  ![1, v141.toNat]

def k3_chk18 (v79 : IVec S16 32) (v84 : IVec S16 32) (v89 : IVec S16 32) (v132 : IVec S16 32) : Prop :=
  (∀ a x, ((![v132, v79] : Fin 2 → IVec S16 32) a x).toNat < S120x128.size a) ∧
  (∀ a x, ((![v132, v84] : Fin 2 → IVec S16 32) a x).toNat < S120x128.size a) ∧
  (∀ a x, ((![v132, v89] : Fin 2 → IVec S16 32) a x).toNat < S120x128.size a)
theorem k3_idx52_inb : ∀ (v79 : IVec S16 32) (v84 : IVec S16 32) (v89 : IVec S16 32) (v132 : IVec S16 32) (k3_hw18 : k3_chk18 v79 v84 v89 v132), ∀ a x, ((![v132, v79] : Fin 2 → IVec S16 32) a x).toNat < S120x128.size a := fun v79 v84 v89 v132 k3_hw18 => k3_hw18.1
theorem k3_idx53_inb : ∀ (v79 : IVec S16 32) (v84 : IVec S16 32) (v89 : IVec S16 32) (v132 : IVec S16 32) (k3_hw18 : k3_chk18 v79 v84 v89 v132), ∀ a x, ((![v132, v84] : Fin 2 → IVec S16 32) a x).toNat < S120x128.size a := fun v79 v84 v89 v132 k3_hw18 => k3_hw18.2.1
theorem k3_idx54_inb : ∀ (v79 : IVec S16 32) (v84 : IVec S16 32) (v89 : IVec S16 32) (v132 : IVec S16 32) (k3_hw18 : k3_chk18 v79 v84 v89 v132), ∀ a x, ((![v132, v89] : Fin 2 → IVec S16 32) a x).toNat < S120x128.size a := fun v79 v84 v89 v132 k3_hw18 => k3_hw18.2.2
def k3_off61 (k3_t4 : Fin k3_t4_loop.trips) : Fin 2 → Nat :=
  let c2_i32_68 : BitVec 32 := 2#32
  let v145 : Index := Scalar.indexCast c2_i32_68
  let c0_i32_46 : BitVec 32 := 0#32
  let c1_i32_47 : BitVec 32 := 1#32
  let arg9 : BitVec 32 := Scf.iv c0_i32_46 c1_i32_47 k3_t4
  let c8_i32_60 : BitVec 32 := 8#32
  let v128 : BitVec 32 := Scalar.muli arg9 c8_i32_60
  let c1_i32_61 : BitVec 32 := 1#32
  let v129 : BitVec 32 := Scalar.addi v128 c1_i32_61
  let c16_i32_67 : BitVec 32 := 16#32
  let v144 : BitVec 32 := Scalar.muli v129 c16_i32_67
  let v146 : Index := Scalar.indexCast v144
  ![2, v146.toNat]
def k3_off62 (k3_t4 : Fin k3_t4_loop.trips) : Fin 2 → Nat :=
  let c0_i32_73 : BitVec 32 := 0#32
  let v155 : Index := Scalar.indexCast c0_i32_73
  let c0_i32_46 : BitVec 32 := 0#32
  let c1_i32_47 : BitVec 32 := 1#32
  let arg9 : BitVec 32 := Scf.iv c0_i32_46 c1_i32_47 k3_t4
  let c8_i32_69 : BitVec 32 := 8#32
  let v148 : BitVec 32 := Scalar.muli arg9 c8_i32_69
  let c2_i32_70 : BitVec 32 := 2#32
  let v149 : BitVec 32 := Scalar.addi v148 c2_i32_70
  let c16_i32_72 : BitVec 32 := 16#32
  let v154 : BitVec 32 := Scalar.muli v149 c16_i32_72
  let v156 : Index := Scalar.indexCast v154
  ![0, v156.toNat]
def k3_off63 (k3_t4 : Fin k3_t4_loop.trips) : Fin 2 → Nat :=
  let c1_i32_75 : BitVec 32 := 1#32
  let v160 : Index := Scalar.indexCast c1_i32_75
  let c0_i32_46 : BitVec 32 := 0#32
  let c1_i32_47 : BitVec 32 := 1#32
  let arg9 : BitVec 32 := Scf.iv c0_i32_46 c1_i32_47 k3_t4
  let c8_i32_69 : BitVec 32 := 8#32
  let v148 : BitVec 32 := Scalar.muli arg9 c8_i32_69
  let c2_i32_70 : BitVec 32 := 2#32
  let v149 : BitVec 32 := Scalar.addi v148 c2_i32_70
  let c16_i32_74 : BitVec 32 := 16#32
  let v159 : BitVec 32 := Scalar.muli v149 c16_i32_74
  let v161 : Index := Scalar.indexCast v159
  ![1, v161.toNat]

def k3_chk19 (v79 : IVec S16 32) (v84 : IVec S16 32) (v89 : IVec S16 32) (v152 : IVec S16 32) : Prop :=
  (∀ a x, ((![v152, v79] : Fin 2 → IVec S16 32) a x).toNat < S120x128.size a) ∧
  (∀ a x, ((![v152, v84] : Fin 2 → IVec S16 32) a x).toNat < S120x128.size a) ∧
  (∀ a x, ((![v152, v89] : Fin 2 → IVec S16 32) a x).toNat < S120x128.size a)
theorem k3_idx55_inb : ∀ (v79 : IVec S16 32) (v84 : IVec S16 32) (v89 : IVec S16 32) (v152 : IVec S16 32) (k3_hw19 : k3_chk19 v79 v84 v89 v152), ∀ a x, ((![v152, v79] : Fin 2 → IVec S16 32) a x).toNat < S120x128.size a := fun v79 v84 v89 v152 k3_hw19 => k3_hw19.1
theorem k3_idx56_inb : ∀ (v79 : IVec S16 32) (v84 : IVec S16 32) (v89 : IVec S16 32) (v152 : IVec S16 32) (k3_hw19 : k3_chk19 v79 v84 v89 v152), ∀ a x, ((![v152, v84] : Fin 2 → IVec S16 32) a x).toNat < S120x128.size a := fun v79 v84 v89 v152 k3_hw19 => k3_hw19.2.1
theorem k3_idx57_inb : ∀ (v79 : IVec S16 32) (v84 : IVec S16 32) (v89 : IVec S16 32) (v152 : IVec S16 32) (k3_hw19 : k3_chk19 v79 v84 v89 v152), ∀ a x, ((![v152, v89] : Fin 2 → IVec S16 32) a x).toNat < S120x128.size a := fun v79 v84 v89 v152 k3_hw19 => k3_hw19.2.2
def k3_off64 (k3_t4 : Fin k3_t4_loop.trips) : Fin 2 → Nat :=
  let c2_i32_77 : BitVec 32 := 2#32
  let v165 : Index := Scalar.indexCast c2_i32_77
  let c0_i32_46 : BitVec 32 := 0#32
  let c1_i32_47 : BitVec 32 := 1#32
  let arg9 : BitVec 32 := Scf.iv c0_i32_46 c1_i32_47 k3_t4
  let c8_i32_69 : BitVec 32 := 8#32
  let v148 : BitVec 32 := Scalar.muli arg9 c8_i32_69
  let c2_i32_70 : BitVec 32 := 2#32
  let v149 : BitVec 32 := Scalar.addi v148 c2_i32_70
  let c16_i32_76 : BitVec 32 := 16#32
  let v164 : BitVec 32 := Scalar.muli v149 c16_i32_76
  let v166 : Index := Scalar.indexCast v164
  ![2, v166.toNat]
def k3_off65 (k3_t4 : Fin k3_t4_loop.trips) : Fin 2 → Nat :=
  let c0_i32_82 : BitVec 32 := 0#32
  let v175 : Index := Scalar.indexCast c0_i32_82
  let c0_i32_46 : BitVec 32 := 0#32
  let c1_i32_47 : BitVec 32 := 1#32
  let arg9 : BitVec 32 := Scf.iv c0_i32_46 c1_i32_47 k3_t4
  let c8_i32_78 : BitVec 32 := 8#32
  let v168 : BitVec 32 := Scalar.muli arg9 c8_i32_78
  let c3_i32_79 : BitVec 32 := 3#32
  let v169 : BitVec 32 := Scalar.addi v168 c3_i32_79
  let c16_i32_81 : BitVec 32 := 16#32
  let v174 : BitVec 32 := Scalar.muli v169 c16_i32_81
  let v176 : Index := Scalar.indexCast v174
  ![0, v176.toNat]
def k3_off66 (k3_t4 : Fin k3_t4_loop.trips) : Fin 2 → Nat :=
  let c1_i32_84 : BitVec 32 := 1#32
  let v180 : Index := Scalar.indexCast c1_i32_84
  let c0_i32_46 : BitVec 32 := 0#32
  let c1_i32_47 : BitVec 32 := 1#32
  let arg9 : BitVec 32 := Scf.iv c0_i32_46 c1_i32_47 k3_t4
  let c8_i32_78 : BitVec 32 := 8#32
  let v168 : BitVec 32 := Scalar.muli arg9 c8_i32_78
  let c3_i32_79 : BitVec 32 := 3#32
  let v169 : BitVec 32 := Scalar.addi v168 c3_i32_79
  let c16_i32_83 : BitVec 32 := 16#32
  let v179 : BitVec 32 := Scalar.muli v169 c16_i32_83
  let v181 : Index := Scalar.indexCast v179
  ![1, v181.toNat]

def k3_chk20 (v79 : IVec S16 32) (v84 : IVec S16 32) (v89 : IVec S16 32) (v172 : IVec S16 32) : Prop :=
  (∀ a x, ((![v172, v79] : Fin 2 → IVec S16 32) a x).toNat < S120x128.size a) ∧
  (∀ a x, ((![v172, v84] : Fin 2 → IVec S16 32) a x).toNat < S120x128.size a) ∧
  (∀ a x, ((![v172, v89] : Fin 2 → IVec S16 32) a x).toNat < S120x128.size a)
theorem k3_idx58_inb : ∀ (v79 : IVec S16 32) (v84 : IVec S16 32) (v89 : IVec S16 32) (v172 : IVec S16 32) (k3_hw20 : k3_chk20 v79 v84 v89 v172), ∀ a x, ((![v172, v79] : Fin 2 → IVec S16 32) a x).toNat < S120x128.size a := fun v79 v84 v89 v172 k3_hw20 => k3_hw20.1
theorem k3_idx59_inb : ∀ (v79 : IVec S16 32) (v84 : IVec S16 32) (v89 : IVec S16 32) (v172 : IVec S16 32) (k3_hw20 : k3_chk20 v79 v84 v89 v172), ∀ a x, ((![v172, v84] : Fin 2 → IVec S16 32) a x).toNat < S120x128.size a := fun v79 v84 v89 v172 k3_hw20 => k3_hw20.2.1
theorem k3_idx60_inb : ∀ (v79 : IVec S16 32) (v84 : IVec S16 32) (v89 : IVec S16 32) (v172 : IVec S16 32) (k3_hw20 : k3_chk20 v79 v84 v89 v172), ∀ a x, ((![v172, v89] : Fin 2 → IVec S16 32) a x).toNat < S120x128.size a := fun v79 v84 v89 v172 k3_hw20 => k3_hw20.2.2
def k3_off67 (k3_t4 : Fin k3_t4_loop.trips) : Fin 2 → Nat :=
  let c2_i32_86 : BitVec 32 := 2#32
  let v185 : Index := Scalar.indexCast c2_i32_86
  let c0_i32_46 : BitVec 32 := 0#32
  let c1_i32_47 : BitVec 32 := 1#32
  let arg9 : BitVec 32 := Scf.iv c0_i32_46 c1_i32_47 k3_t4
  let c8_i32_78 : BitVec 32 := 8#32
  let v168 : BitVec 32 := Scalar.muli arg9 c8_i32_78
  let c3_i32_79 : BitVec 32 := 3#32
  let v169 : BitVec 32 := Scalar.addi v168 c3_i32_79
  let c16_i32_85 : BitVec 32 := 16#32
  let v184 : BitVec 32 := Scalar.muli v169 c16_i32_85
  let v186 : Index := Scalar.indexCast v184
  ![2, v186.toNat]
def k3_off68 (k3_t4 : Fin k3_t4_loop.trips) : Fin 2 → Nat :=
  let c0_i32_90 : BitVec 32 := 0#32
  let v195 : Index := Scalar.indexCast c0_i32_90
  let c0_i32_46 : BitVec 32 := 0#32
  let c1_i32_47 : BitVec 32 := 1#32
  let arg9 : BitVec 32 := Scf.iv c0_i32_46 c1_i32_47 k3_t4
  let c8_i32_87 : BitVec 32 := 8#32
  let v188 : BitVec 32 := Scalar.muli arg9 c8_i32_87
  let c4_i32 : BitVec 32 := 4#32
  let v189 : BitVec 32 := Scalar.addi v188 c4_i32
  let c16_i32_89 : BitVec 32 := 16#32
  let v194 : BitVec 32 := Scalar.muli v189 c16_i32_89
  let v196 : Index := Scalar.indexCast v194
  ![0, v196.toNat]
def k3_off69 (k3_t4 : Fin k3_t4_loop.trips) : Fin 2 → Nat :=
  let c1_i32_92 : BitVec 32 := 1#32
  let v200 : Index := Scalar.indexCast c1_i32_92
  let c0_i32_46 : BitVec 32 := 0#32
  let c1_i32_47 : BitVec 32 := 1#32
  let arg9 : BitVec 32 := Scf.iv c0_i32_46 c1_i32_47 k3_t4
  let c8_i32_87 : BitVec 32 := 8#32
  let v188 : BitVec 32 := Scalar.muli arg9 c8_i32_87
  let c4_i32 : BitVec 32 := 4#32
  let v189 : BitVec 32 := Scalar.addi v188 c4_i32
  let c16_i32_91 : BitVec 32 := 16#32
  let v199 : BitVec 32 := Scalar.muli v189 c16_i32_91
  let v201 : Index := Scalar.indexCast v199
  ![1, v201.toNat]

def k3_chk21 (v79 : IVec S16 32) (v84 : IVec S16 32) (v89 : IVec S16 32) (v192 : IVec S16 32) : Prop :=
  (∀ a x, ((![v192, v79] : Fin 2 → IVec S16 32) a x).toNat < S120x128.size a) ∧
  (∀ a x, ((![v192, v84] : Fin 2 → IVec S16 32) a x).toNat < S120x128.size a) ∧
  (∀ a x, ((![v192, v89] : Fin 2 → IVec S16 32) a x).toNat < S120x128.size a)
theorem k3_idx61_inb : ∀ (v79 : IVec S16 32) (v84 : IVec S16 32) (v89 : IVec S16 32) (v192 : IVec S16 32) (k3_hw21 : k3_chk21 v79 v84 v89 v192), ∀ a x, ((![v192, v79] : Fin 2 → IVec S16 32) a x).toNat < S120x128.size a := fun v79 v84 v89 v192 k3_hw21 => k3_hw21.1
theorem k3_idx62_inb : ∀ (v79 : IVec S16 32) (v84 : IVec S16 32) (v89 : IVec S16 32) (v192 : IVec S16 32) (k3_hw21 : k3_chk21 v79 v84 v89 v192), ∀ a x, ((![v192, v84] : Fin 2 → IVec S16 32) a x).toNat < S120x128.size a := fun v79 v84 v89 v192 k3_hw21 => k3_hw21.2.1
theorem k3_idx63_inb : ∀ (v79 : IVec S16 32) (v84 : IVec S16 32) (v89 : IVec S16 32) (v192 : IVec S16 32) (k3_hw21 : k3_chk21 v79 v84 v89 v192), ∀ a x, ((![v192, v89] : Fin 2 → IVec S16 32) a x).toNat < S120x128.size a := fun v79 v84 v89 v192 k3_hw21 => k3_hw21.2.2
def k3_off70 (k3_t4 : Fin k3_t4_loop.trips) : Fin 2 → Nat :=
  let c2_i32_94 : BitVec 32 := 2#32
  let v205 : Index := Scalar.indexCast c2_i32_94
  let c0_i32_46 : BitVec 32 := 0#32
  let c1_i32_47 : BitVec 32 := 1#32
  let arg9 : BitVec 32 := Scf.iv c0_i32_46 c1_i32_47 k3_t4
  let c8_i32_87 : BitVec 32 := 8#32
  let v188 : BitVec 32 := Scalar.muli arg9 c8_i32_87
  let c4_i32 : BitVec 32 := 4#32
  let v189 : BitVec 32 := Scalar.addi v188 c4_i32
  let c16_i32_93 : BitVec 32 := 16#32
  let v204 : BitVec 32 := Scalar.muli v189 c16_i32_93
  let v206 : Index := Scalar.indexCast v204
  ![2, v206.toNat]
def k3_off71 (k3_t4 : Fin k3_t4_loop.trips) : Fin 2 → Nat :=
  let c0_i32_98 : BitVec 32 := 0#32
  let v215 : Index := Scalar.indexCast c0_i32_98
  let c0_i32_46 : BitVec 32 := 0#32
  let c1_i32_47 : BitVec 32 := 1#32
  let arg9 : BitVec 32 := Scf.iv c0_i32_46 c1_i32_47 k3_t4
  let c8_i32_95 : BitVec 32 := 8#32
  let v208 : BitVec 32 := Scalar.muli arg9 c8_i32_95
  let c5_i32 : BitVec 32 := 5#32
  let v209 : BitVec 32 := Scalar.addi v208 c5_i32
  let c16_i32_97 : BitVec 32 := 16#32
  let v214 : BitVec 32 := Scalar.muli v209 c16_i32_97
  let v216 : Index := Scalar.indexCast v214
  ![0, v216.toNat]
def k3_off72 (k3_t4 : Fin k3_t4_loop.trips) : Fin 2 → Nat :=
  let c1_i32_100 : BitVec 32 := 1#32
  let v220 : Index := Scalar.indexCast c1_i32_100
  let c0_i32_46 : BitVec 32 := 0#32
  let c1_i32_47 : BitVec 32 := 1#32
  let arg9 : BitVec 32 := Scf.iv c0_i32_46 c1_i32_47 k3_t4
  let c8_i32_95 : BitVec 32 := 8#32
  let v208 : BitVec 32 := Scalar.muli arg9 c8_i32_95
  let c5_i32 : BitVec 32 := 5#32
  let v209 : BitVec 32 := Scalar.addi v208 c5_i32
  let c16_i32_99 : BitVec 32 := 16#32
  let v219 : BitVec 32 := Scalar.muli v209 c16_i32_99
  let v221 : Index := Scalar.indexCast v219
  ![1, v221.toNat]

def k3_chk22 (v79 : IVec S16 32) (v84 : IVec S16 32) (v89 : IVec S16 32) (v212 : IVec S16 32) : Prop :=
  (∀ a x, ((![v212, v79] : Fin 2 → IVec S16 32) a x).toNat < S120x128.size a) ∧
  (∀ a x, ((![v212, v84] : Fin 2 → IVec S16 32) a x).toNat < S120x128.size a) ∧
  (∀ a x, ((![v212, v89] : Fin 2 → IVec S16 32) a x).toNat < S120x128.size a)
theorem k3_idx64_inb : ∀ (v79 : IVec S16 32) (v84 : IVec S16 32) (v89 : IVec S16 32) (v212 : IVec S16 32) (k3_hw22 : k3_chk22 v79 v84 v89 v212), ∀ a x, ((![v212, v79] : Fin 2 → IVec S16 32) a x).toNat < S120x128.size a := fun v79 v84 v89 v212 k3_hw22 => k3_hw22.1
theorem k3_idx65_inb : ∀ (v79 : IVec S16 32) (v84 : IVec S16 32) (v89 : IVec S16 32) (v212 : IVec S16 32) (k3_hw22 : k3_chk22 v79 v84 v89 v212), ∀ a x, ((![v212, v84] : Fin 2 → IVec S16 32) a x).toNat < S120x128.size a := fun v79 v84 v89 v212 k3_hw22 => k3_hw22.2.1
theorem k3_idx66_inb : ∀ (v79 : IVec S16 32) (v84 : IVec S16 32) (v89 : IVec S16 32) (v212 : IVec S16 32) (k3_hw22 : k3_chk22 v79 v84 v89 v212), ∀ a x, ((![v212, v89] : Fin 2 → IVec S16 32) a x).toNat < S120x128.size a := fun v79 v84 v89 v212 k3_hw22 => k3_hw22.2.2
def k3_off73 (k3_t4 : Fin k3_t4_loop.trips) : Fin 2 → Nat :=
  let c2_i32_102 : BitVec 32 := 2#32
  let v225 : Index := Scalar.indexCast c2_i32_102
  let c0_i32_46 : BitVec 32 := 0#32
  let c1_i32_47 : BitVec 32 := 1#32
  let arg9 : BitVec 32 := Scf.iv c0_i32_46 c1_i32_47 k3_t4
  let c8_i32_95 : BitVec 32 := 8#32
  let v208 : BitVec 32 := Scalar.muli arg9 c8_i32_95
  let c5_i32 : BitVec 32 := 5#32
  let v209 : BitVec 32 := Scalar.addi v208 c5_i32
  let c16_i32_101 : BitVec 32 := 16#32
  let v224 : BitVec 32 := Scalar.muli v209 c16_i32_101
  let v226 : Index := Scalar.indexCast v224
  ![2, v226.toNat]
def k3_off74 (k3_t4 : Fin k3_t4_loop.trips) : Fin 2 → Nat :=
  let c0_i32_107 : BitVec 32 := 0#32
  let v235 : Index := Scalar.indexCast c0_i32_107
  let c0_i32_46 : BitVec 32 := 0#32
  let c1_i32_47 : BitVec 32 := 1#32
  let arg9 : BitVec 32 := Scf.iv c0_i32_46 c1_i32_47 k3_t4
  let c8_i32_103 : BitVec 32 := 8#32
  let v228 : BitVec 32 := Scalar.muli arg9 c8_i32_103
  let c6_i32_104 : BitVec 32 := 6#32
  let v229 : BitVec 32 := Scalar.addi v228 c6_i32_104
  let c16_i32_106 : BitVec 32 := 16#32
  let v234 : BitVec 32 := Scalar.muli v229 c16_i32_106
  let v236 : Index := Scalar.indexCast v234
  ![0, v236.toNat]
def k3_off75 (k3_t4 : Fin k3_t4_loop.trips) : Fin 2 → Nat :=
  let c1_i32_109 : BitVec 32 := 1#32
  let v240 : Index := Scalar.indexCast c1_i32_109
  let c0_i32_46 : BitVec 32 := 0#32
  let c1_i32_47 : BitVec 32 := 1#32
  let arg9 : BitVec 32 := Scf.iv c0_i32_46 c1_i32_47 k3_t4
  let c8_i32_103 : BitVec 32 := 8#32
  let v228 : BitVec 32 := Scalar.muli arg9 c8_i32_103
  let c6_i32_104 : BitVec 32 := 6#32
  let v229 : BitVec 32 := Scalar.addi v228 c6_i32_104
  let c16_i32_108 : BitVec 32 := 16#32
  let v239 : BitVec 32 := Scalar.muli v229 c16_i32_108
  let v241 : Index := Scalar.indexCast v239
  ![1, v241.toNat]

def k3_chk23 (v79 : IVec S16 32) (v84 : IVec S16 32) (v89 : IVec S16 32) (v232 : IVec S16 32) : Prop :=
  (∀ a x, ((![v232, v79] : Fin 2 → IVec S16 32) a x).toNat < S120x128.size a) ∧
  (∀ a x, ((![v232, v84] : Fin 2 → IVec S16 32) a x).toNat < S120x128.size a) ∧
  (∀ a x, ((![v232, v89] : Fin 2 → IVec S16 32) a x).toNat < S120x128.size a)
theorem k3_idx67_inb : ∀ (v79 : IVec S16 32) (v84 : IVec S16 32) (v89 : IVec S16 32) (v232 : IVec S16 32) (k3_hw23 : k3_chk23 v79 v84 v89 v232), ∀ a x, ((![v232, v79] : Fin 2 → IVec S16 32) a x).toNat < S120x128.size a := fun v79 v84 v89 v232 k3_hw23 => k3_hw23.1
theorem k3_idx68_inb : ∀ (v79 : IVec S16 32) (v84 : IVec S16 32) (v89 : IVec S16 32) (v232 : IVec S16 32) (k3_hw23 : k3_chk23 v79 v84 v89 v232), ∀ a x, ((![v232, v84] : Fin 2 → IVec S16 32) a x).toNat < S120x128.size a := fun v79 v84 v89 v232 k3_hw23 => k3_hw23.2.1
theorem k3_idx69_inb : ∀ (v79 : IVec S16 32) (v84 : IVec S16 32) (v89 : IVec S16 32) (v232 : IVec S16 32) (k3_hw23 : k3_chk23 v79 v84 v89 v232), ∀ a x, ((![v232, v89] : Fin 2 → IVec S16 32) a x).toNat < S120x128.size a := fun v79 v84 v89 v232 k3_hw23 => k3_hw23.2.2
def k3_off76 (k3_t4 : Fin k3_t4_loop.trips) : Fin 2 → Nat :=
  let c2_i32_111 : BitVec 32 := 2#32
  let v245 : Index := Scalar.indexCast c2_i32_111
  let c0_i32_46 : BitVec 32 := 0#32
  let c1_i32_47 : BitVec 32 := 1#32
  let arg9 : BitVec 32 := Scf.iv c0_i32_46 c1_i32_47 k3_t4
  let c8_i32_103 : BitVec 32 := 8#32
  let v228 : BitVec 32 := Scalar.muli arg9 c8_i32_103
  let c6_i32_104 : BitVec 32 := 6#32
  let v229 : BitVec 32 := Scalar.addi v228 c6_i32_104
  let c16_i32_110 : BitVec 32 := 16#32
  let v244 : BitVec 32 := Scalar.muli v229 c16_i32_110
  let v246 : Index := Scalar.indexCast v244
  ![2, v246.toNat]
def k3_off77 (k3_t4 : Fin k3_t4_loop.trips) : Fin 2 → Nat :=
  let c0_i32_115 : BitVec 32 := 0#32
  let v255 : Index := Scalar.indexCast c0_i32_115
  let c0_i32_46 : BitVec 32 := 0#32
  let c1_i32_47 : BitVec 32 := 1#32
  let arg9 : BitVec 32 := Scf.iv c0_i32_46 c1_i32_47 k3_t4
  let c8_i32_112 : BitVec 32 := 8#32
  let v248 : BitVec 32 := Scalar.muli arg9 c8_i32_112
  let c7_i32 : BitVec 32 := 7#32
  let v249 : BitVec 32 := Scalar.addi v248 c7_i32
  let c16_i32_114 : BitVec 32 := 16#32
  let v254 : BitVec 32 := Scalar.muli v249 c16_i32_114
  let v256 : Index := Scalar.indexCast v254
  ![0, v256.toNat]
def k3_off78 (k3_t4 : Fin k3_t4_loop.trips) : Fin 2 → Nat :=
  let c1_i32_117 : BitVec 32 := 1#32
  let v260 : Index := Scalar.indexCast c1_i32_117
  let c0_i32_46 : BitVec 32 := 0#32
  let c1_i32_47 : BitVec 32 := 1#32
  let arg9 : BitVec 32 := Scf.iv c0_i32_46 c1_i32_47 k3_t4
  let c8_i32_112 : BitVec 32 := 8#32
  let v248 : BitVec 32 := Scalar.muli arg9 c8_i32_112
  let c7_i32 : BitVec 32 := 7#32
  let v249 : BitVec 32 := Scalar.addi v248 c7_i32
  let c16_i32_116 : BitVec 32 := 16#32
  let v259 : BitVec 32 := Scalar.muli v249 c16_i32_116
  let v261 : Index := Scalar.indexCast v259
  ![1, v261.toNat]

def k3_chk24 (v79 : IVec S16 32) (v84 : IVec S16 32) (v89 : IVec S16 32) (v252 : IVec S16 32) : Prop :=
  (∀ a x, ((![v252, v79] : Fin 2 → IVec S16 32) a x).toNat < S120x128.size a) ∧
  (∀ a x, ((![v252, v84] : Fin 2 → IVec S16 32) a x).toNat < S120x128.size a) ∧
  (∀ a x, ((![v252, v89] : Fin 2 → IVec S16 32) a x).toNat < S120x128.size a)
theorem k3_idx70_inb : ∀ (v79 : IVec S16 32) (v84 : IVec S16 32) (v89 : IVec S16 32) (v252 : IVec S16 32) (k3_hw24 : k3_chk24 v79 v84 v89 v252), ∀ a x, ((![v252, v79] : Fin 2 → IVec S16 32) a x).toNat < S120x128.size a := fun v79 v84 v89 v252 k3_hw24 => k3_hw24.1
theorem k3_idx71_inb : ∀ (v79 : IVec S16 32) (v84 : IVec S16 32) (v89 : IVec S16 32) (v252 : IVec S16 32) (k3_hw24 : k3_chk24 v79 v84 v89 v252), ∀ a x, ((![v252, v84] : Fin 2 → IVec S16 32) a x).toNat < S120x128.size a := fun v79 v84 v89 v252 k3_hw24 => k3_hw24.2.1
theorem k3_idx72_inb : ∀ (v79 : IVec S16 32) (v84 : IVec S16 32) (v89 : IVec S16 32) (v252 : IVec S16 32) (k3_hw24 : k3_chk24 v79 v84 v89 v252), ∀ a x, ((![v252, v89] : Fin 2 → IVec S16 32) a x).toNat < S120x128.size a := fun v79 v84 v89 v252 k3_hw24 => k3_hw24.2.2
def k3_off79 (k3_t4 : Fin k3_t4_loop.trips) : Fin 2 → Nat :=
  let c2_i32_119 : BitVec 32 := 2#32
  let v265 : Index := Scalar.indexCast c2_i32_119
  let c0_i32_46 : BitVec 32 := 0#32
  let c1_i32_47 : BitVec 32 := 1#32
  let arg9 : BitVec 32 := Scf.iv c0_i32_46 c1_i32_47 k3_t4
  let c8_i32_112 : BitVec 32 := 8#32
  let v248 : BitVec 32 := Scalar.muli arg9 c8_i32_112
  let c7_i32 : BitVec 32 := 7#32
  let v249 : BitVec 32 := Scalar.addi v248 c7_i32
  let c16_i32_118 : BitVec 32 := 16#32
  let v264 : BitVec 32 := Scalar.muli v249 c16_i32_118
  let v266 : Index := Scalar.indexCast v264
  ![2, v266.toNat]
def k3_off80 (i : grid3.Coords) : Fin 2 → Nat :=
  let c0_i32_53_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1440_i32_44 : BitVec 32 := 1440#32
  let v100 : BitVec 32 := Scalar.addi v37 c1440_i32_44
  let c16_i32 : BitVec 32 := 16#32
  let v102 : BitVec 32 := Scalar.muli v100 c16_i32
  ![0, v102.toNat]
def k3_cond3 (i : grid3.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_11 : BitVec 32 := 1#32
  let v38 : BitVec 32 := Scalar.addi v1 c1_i32_11
  let c50000_i32_12 : BitVec 32 := 50000#32
  let v39 : BitVec 32 := Scalar.muli v38 c50000_i32_12
  let c0_i32_14 : BitVec 32 := 0#32
  let v41 : BitVec 1 := Scalar.cmpi .sgt v39 c0_i32_14
  let v42 : BitVec 32 := Scalar.extui v41
  let c0_i32_15 : BitVec 32 := 0#32
  let v43 : BitVec 1 := Scalar.cmpi .slt v39 c0_i32_15
  let v44 : BitVec 32 := Scalar.extui v43
  let v45 : BitVec 32 := Scalar.subi v42 v44
  let c32_i32_13 : BitVec 32 := 32#32
  let c0_i32_16 : BitVec 32 := 0#32
  let v46 : BitVec 1 := Scalar.cmpi .sgt c32_i32_13 c0_i32_16
  let v47 : BitVec 32 := Scalar.extui v46
  let c0_i32_17 : BitVec 32 := 0#32
  let v48 : BitVec 1 := Scalar.cmpi .slt c32_i32_13 c0_i32_17
  let v49 : BitVec 32 := Scalar.extui v48
  let v50 : BitVec 32 := Scalar.subi v47 v49
  let v51 : BitVec 1 := Scalar.cmpi .ne v45 v50
  let v52 : BitVec 32 := Scalar.remsi v39 c32_i32_13
  let c0_i32_18 : BitVec 32 := 0#32
  let v53 : BitVec 1 := Scalar.cmpi .ne v52 c0_i32_18
  let v54 : BitVec 1 := Scalar.andi v51 v53
  let v40 : BitVec 32 := Scalar.divsi v39 c32_i32_13
  let c1_i32_19 : BitVec 32 := 1#32
  let v55 : BitVec 32 := Scalar.subi v40 c1_i32_19
  let v56 : BitVec 32 := Scalar.select v54 v55 v40
  let c0_i32_21 : BitVec 32 := 0#32
  let v58 : BitVec 1 := Scalar.cmpi .sgt v56 c0_i32_21
  let v59 : BitVec 32 := Scalar.extui v58
  let c0_i32_22 : BitVec 32 := 0#32
  let v60 : BitVec 1 := Scalar.cmpi .slt v56 c0_i32_22
  let v61 : BitVec 32 := Scalar.extui v60
  let v62 : BitVec 32 := Scalar.subi v59 v61
  let c8_i32_20 : BitVec 32 := 8#32
  let c0_i32_23 : BitVec 32 := 0#32
  let v63 : BitVec 1 := Scalar.cmpi .sgt c8_i32_20 c0_i32_23
  let v64 : BitVec 32 := Scalar.extui v63
  let c0_i32_24 : BitVec 32 := 0#32
  let v65 : BitVec 1 := Scalar.cmpi .slt c8_i32_20 c0_i32_24
  let v66 : BitVec 32 := Scalar.extui v65
  let v67 : BitVec 32 := Scalar.subi v64 v66
  let v68 : BitVec 1 := Scalar.cmpi .ne v62 v67
  let v69 : BitVec 32 := Scalar.remsi v56 c8_i32_20
  let c0_i32_25 : BitVec 32 := 0#32
  let v70 : BitVec 1 := Scalar.cmpi .ne v69 c0_i32_25
  let v71 : BitVec 1 := Scalar.andi v68 v70
  let v57 : BitVec 32 := Scalar.divsi v56 c8_i32_20
  let c1_i32_26 : BitVec 32 := 1#32
  let v72 : BitVec 32 := Scalar.subi v57 c1_i32_26
  let v73 : BitVec 32 := Scalar.select v71 v72 v57
  let c8_i32_27 : BitVec 32 := 8#32
  let v74 : BitVec 32 := Scalar.muli v73 c8_i32_27
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v103 : BitVec 32 := Scalar.subi v74 v37
  let c1560_i32 : BitVec 32 := 1560#32
  let v104 : BitVec 32 := Scalar.subi v103 c1560_i32
  let c8_i32_49 : BitVec 32 := 8#32
  let v105 : BitVec 1 := Scalar.cmpi .eq v104 c8_i32_49
  let v106 : BitVec 32 := Scalar.extui v105
  let c0_i32_50 : BitVec 32 := 0#32
  let v107 : BitVec 1 := Scalar.cmpi .ne v106 c0_i32_50
  v107

def k3_off81 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1560_i32_51 : BitVec 32 := 1560#32
  let v108 : BitVec 32 := Scalar.addi v37 c1560_i32_51
  let c0_i32_127_r3 : BitVec 32 := 0#32
  ![v108.toNat, 0]
def k3_off82 : Fin 2 → Nat :=
  let c0_i32_58 : BitVec 32 := 0#32
  let v116 : Index := Scalar.indexCast c0_i32_58
  let c0_i32_53 : BitVec 32 := 0#32
  let c8_i32_54 : BitVec 32 := 8#32
  let v109 : BitVec 32 := Scalar.muli c0_i32_53 c8_i32_54
  let c0_i32_55 : BitVec 32 := 0#32
  let v110 : BitVec 32 := Scalar.addi v109 c0_i32_55
  let c16_i32_57 : BitVec 32 := 16#32
  let v115 : BitVec 32 := Scalar.muli v110 c16_i32_57
  let v117 : Index := Scalar.indexCast v115
  ![0, v117.toNat]
def k3_off83 : Fin 2 → Nat :=
  let c1_i32_60 : BitVec 32 := 1#32
  let v121 : Index := Scalar.indexCast c1_i32_60
  let c0_i32_53 : BitVec 32 := 0#32
  let c8_i32_54 : BitVec 32 := 8#32
  let v109 : BitVec 32 := Scalar.muli c0_i32_53 c8_i32_54
  let c0_i32_55 : BitVec 32 := 0#32
  let v110 : BitVec 32 := Scalar.addi v109 c0_i32_55
  let c16_i32_59 : BitVec 32 := 16#32
  let v120 : BitVec 32 := Scalar.muli v110 c16_i32_59
  let v122 : Index := Scalar.indexCast v120
  ![1, v122.toNat]

def k3_chk25 (i : grid3.Coords) (v79 : IVec S16 32) (v84 : IVec S16 32) (v89 : IVec S16 32) (v113 : IVec S16 32) : Prop :=
  (∀ (k3_h3 : k3_cond3 i = 1#1), ∀ a x, ((![v113, v79] : Fin 2 → IVec S16 32) a x).toNat < S120x128.size a) ∧
  (∀ (k3_h3 : k3_cond3 i = 1#1), ∀ a x, ((![v113, v84] : Fin 2 → IVec S16 32) a x).toNat < S120x128.size a) ∧
  (∀ (k3_h3 : k3_cond3 i = 1#1), ∀ a x, ((![v113, v89] : Fin 2 → IVec S16 32) a x).toNat < S120x128.size a)
theorem k3_idx73_inb : ∀ (i : grid3.Coords) (v79 : IVec S16 32) (v84 : IVec S16 32) (v89 : IVec S16 32) (v113 : IVec S16 32) (k3_hw25 : k3_chk25 i v79 v84 v89 v113), ∀ (k3_h3 : k3_cond3 i = 1#1), ∀ a x, ((![v113, v79] : Fin 2 → IVec S16 32) a x).toNat < S120x128.size a := fun i v79 v84 v89 v113 k3_hw25 k3_h3 => k3_hw25.1 k3_h3
theorem k3_idx74_inb : ∀ (i : grid3.Coords) (v79 : IVec S16 32) (v84 : IVec S16 32) (v89 : IVec S16 32) (v113 : IVec S16 32) (k3_hw25 : k3_chk25 i v79 v84 v89 v113), ∀ (k3_h3 : k3_cond3 i = 1#1), ∀ a x, ((![v113, v84] : Fin 2 → IVec S16 32) a x).toNat < S120x128.size a := fun i v79 v84 v89 v113 k3_hw25 k3_h3 => k3_hw25.2.1 k3_h3
theorem k3_idx75_inb : ∀ (i : grid3.Coords) (v79 : IVec S16 32) (v84 : IVec S16 32) (v89 : IVec S16 32) (v113 : IVec S16 32) (k3_hw25 : k3_chk25 i v79 v84 v89 v113), ∀ (k3_h3 : k3_cond3 i = 1#1), ∀ a x, ((![v113, v89] : Fin 2 → IVec S16 32) a x).toNat < S120x128.size a := fun i v79 v84 v89 v113 k3_hw25 k3_h3 => k3_hw25.2.2 k3_h3
def k3_off84 : Fin 2 → Nat :=
  let c2_i32_62 : BitVec 32 := 2#32
  let v126 : Index := Scalar.indexCast c2_i32_62
  let c0_i32_53 : BitVec 32 := 0#32
  let c8_i32_54 : BitVec 32 := 8#32
  let v109 : BitVec 32 := Scalar.muli c0_i32_53 c8_i32_54
  let c0_i32_55 : BitVec 32 := 0#32
  let v110 : BitVec 32 := Scalar.addi v109 c0_i32_55
  let c16_i32_61 : BitVec 32 := 16#32
  let v125 : BitVec 32 := Scalar.muli v110 c16_i32_61
  let v127 : Index := Scalar.indexCast v125
  ![2, v127.toNat]
def k3_off85 : Fin 2 → Nat :=
  let c0_i32_67 : BitVec 32 := 0#32
  let v136 : Index := Scalar.indexCast c0_i32_67
  let c0_i32_53 : BitVec 32 := 0#32
  let c8_i32_63 : BitVec 32 := 8#32
  let v129 : BitVec 32 := Scalar.muli c0_i32_53 c8_i32_63
  let c1_i32_64 : BitVec 32 := 1#32
  let v130 : BitVec 32 := Scalar.addi v129 c1_i32_64
  let c16_i32_66 : BitVec 32 := 16#32
  let v135 : BitVec 32 := Scalar.muli v130 c16_i32_66
  let v137 : Index := Scalar.indexCast v135
  ![0, v137.toNat]
def k3_off86 : Fin 2 → Nat :=
  let c1_i32_69 : BitVec 32 := 1#32
  let v141 : Index := Scalar.indexCast c1_i32_69
  let c0_i32_53 : BitVec 32 := 0#32
  let c8_i32_63 : BitVec 32 := 8#32
  let v129 : BitVec 32 := Scalar.muli c0_i32_53 c8_i32_63
  let c1_i32_64 : BitVec 32 := 1#32
  let v130 : BitVec 32 := Scalar.addi v129 c1_i32_64
  let c16_i32_68 : BitVec 32 := 16#32
  let v140 : BitVec 32 := Scalar.muli v130 c16_i32_68
  let v142 : Index := Scalar.indexCast v140
  ![1, v142.toNat]

def k3_chk26 (i : grid3.Coords) (v79 : IVec S16 32) (v84 : IVec S16 32) (v89 : IVec S16 32) (v133 : IVec S16 32) : Prop :=
  (∀ (k3_h3 : k3_cond3 i = 1#1), ∀ a x, ((![v133, v79] : Fin 2 → IVec S16 32) a x).toNat < S120x128.size a) ∧
  (∀ (k3_h3 : k3_cond3 i = 1#1), ∀ a x, ((![v133, v84] : Fin 2 → IVec S16 32) a x).toNat < S120x128.size a) ∧
  (∀ (k3_h3 : k3_cond3 i = 1#1), ∀ a x, ((![v133, v89] : Fin 2 → IVec S16 32) a x).toNat < S120x128.size a)
theorem k3_idx76_inb : ∀ (i : grid3.Coords) (v79 : IVec S16 32) (v84 : IVec S16 32) (v89 : IVec S16 32) (v133 : IVec S16 32) (k3_hw26 : k3_chk26 i v79 v84 v89 v133), ∀ (k3_h3 : k3_cond3 i = 1#1), ∀ a x, ((![v133, v79] : Fin 2 → IVec S16 32) a x).toNat < S120x128.size a := fun i v79 v84 v89 v133 k3_hw26 k3_h3 => k3_hw26.1 k3_h3
theorem k3_idx77_inb : ∀ (i : grid3.Coords) (v79 : IVec S16 32) (v84 : IVec S16 32) (v89 : IVec S16 32) (v133 : IVec S16 32) (k3_hw26 : k3_chk26 i v79 v84 v89 v133), ∀ (k3_h3 : k3_cond3 i = 1#1), ∀ a x, ((![v133, v84] : Fin 2 → IVec S16 32) a x).toNat < S120x128.size a := fun i v79 v84 v89 v133 k3_hw26 k3_h3 => k3_hw26.2.1 k3_h3
theorem k3_idx78_inb : ∀ (i : grid3.Coords) (v79 : IVec S16 32) (v84 : IVec S16 32) (v89 : IVec S16 32) (v133 : IVec S16 32) (k3_hw26 : k3_chk26 i v79 v84 v89 v133), ∀ (k3_h3 : k3_cond3 i = 1#1), ∀ a x, ((![v133, v89] : Fin 2 → IVec S16 32) a x).toNat < S120x128.size a := fun i v79 v84 v89 v133 k3_hw26 k3_h3 => k3_hw26.2.2 k3_h3
def k3_off87 : Fin 2 → Nat :=
  let c2_i32_71 : BitVec 32 := 2#32
  let v146 : Index := Scalar.indexCast c2_i32_71
  let c0_i32_53 : BitVec 32 := 0#32
  let c8_i32_63 : BitVec 32 := 8#32
  let v129 : BitVec 32 := Scalar.muli c0_i32_53 c8_i32_63
  let c1_i32_64 : BitVec 32 := 1#32
  let v130 : BitVec 32 := Scalar.addi v129 c1_i32_64
  let c16_i32_70 : BitVec 32 := 16#32
  let v145 : BitVec 32 := Scalar.muli v130 c16_i32_70
  let v147 : Index := Scalar.indexCast v145
  ![2, v147.toNat]
def k3_off88 : Fin 2 → Nat :=
  let c0_i32_76 : BitVec 32 := 0#32
  let v156 : Index := Scalar.indexCast c0_i32_76
  let c0_i32_53 : BitVec 32 := 0#32
  let c8_i32_72 : BitVec 32 := 8#32
  let v149 : BitVec 32 := Scalar.muli c0_i32_53 c8_i32_72
  let c2_i32_73 : BitVec 32 := 2#32
  let v150 : BitVec 32 := Scalar.addi v149 c2_i32_73
  let c16_i32_75 : BitVec 32 := 16#32
  let v155 : BitVec 32 := Scalar.muli v150 c16_i32_75
  let v157 : Index := Scalar.indexCast v155
  ![0, v157.toNat]
def k3_off89 : Fin 2 → Nat :=
  let c1_i32_78 : BitVec 32 := 1#32
  let v161 : Index := Scalar.indexCast c1_i32_78
  let c0_i32_53 : BitVec 32 := 0#32
  let c8_i32_72 : BitVec 32 := 8#32
  let v149 : BitVec 32 := Scalar.muli c0_i32_53 c8_i32_72
  let c2_i32_73 : BitVec 32 := 2#32
  let v150 : BitVec 32 := Scalar.addi v149 c2_i32_73
  let c16_i32_77 : BitVec 32 := 16#32
  let v160 : BitVec 32 := Scalar.muli v150 c16_i32_77
  let v162 : Index := Scalar.indexCast v160
  ![1, v162.toNat]

def k3_chk27 (i : grid3.Coords) (v79 : IVec S16 32) (v84 : IVec S16 32) (v89 : IVec S16 32) (v153 : IVec S16 32) : Prop :=
  (∀ (k3_h3 : k3_cond3 i = 1#1), ∀ a x, ((![v153, v79] : Fin 2 → IVec S16 32) a x).toNat < S120x128.size a) ∧
  (∀ (k3_h3 : k3_cond3 i = 1#1), ∀ a x, ((![v153, v84] : Fin 2 → IVec S16 32) a x).toNat < S120x128.size a) ∧
  (∀ (k3_h3 : k3_cond3 i = 1#1), ∀ a x, ((![v153, v89] : Fin 2 → IVec S16 32) a x).toNat < S120x128.size a)
theorem k3_idx79_inb : ∀ (i : grid3.Coords) (v79 : IVec S16 32) (v84 : IVec S16 32) (v89 : IVec S16 32) (v153 : IVec S16 32) (k3_hw27 : k3_chk27 i v79 v84 v89 v153), ∀ (k3_h3 : k3_cond3 i = 1#1), ∀ a x, ((![v153, v79] : Fin 2 → IVec S16 32) a x).toNat < S120x128.size a := fun i v79 v84 v89 v153 k3_hw27 k3_h3 => k3_hw27.1 k3_h3
theorem k3_idx80_inb : ∀ (i : grid3.Coords) (v79 : IVec S16 32) (v84 : IVec S16 32) (v89 : IVec S16 32) (v153 : IVec S16 32) (k3_hw27 : k3_chk27 i v79 v84 v89 v153), ∀ (k3_h3 : k3_cond3 i = 1#1), ∀ a x, ((![v153, v84] : Fin 2 → IVec S16 32) a x).toNat < S120x128.size a := fun i v79 v84 v89 v153 k3_hw27 k3_h3 => k3_hw27.2.1 k3_h3
theorem k3_idx81_inb : ∀ (i : grid3.Coords) (v79 : IVec S16 32) (v84 : IVec S16 32) (v89 : IVec S16 32) (v153 : IVec S16 32) (k3_hw27 : k3_chk27 i v79 v84 v89 v153), ∀ (k3_h3 : k3_cond3 i = 1#1), ∀ a x, ((![v153, v89] : Fin 2 → IVec S16 32) a x).toNat < S120x128.size a := fun i v79 v84 v89 v153 k3_hw27 k3_h3 => k3_hw27.2.2 k3_h3
def k3_off90 : Fin 2 → Nat :=
  let c2_i32_80 : BitVec 32 := 2#32
  let v166 : Index := Scalar.indexCast c2_i32_80
  let c0_i32_53 : BitVec 32 := 0#32
  let c8_i32_72 : BitVec 32 := 8#32
  let v149 : BitVec 32 := Scalar.muli c0_i32_53 c8_i32_72
  let c2_i32_73 : BitVec 32 := 2#32
  let v150 : BitVec 32 := Scalar.addi v149 c2_i32_73
  let c16_i32_79 : BitVec 32 := 16#32
  let v165 : BitVec 32 := Scalar.muli v150 c16_i32_79
  let v167 : Index := Scalar.indexCast v165
  ![2, v167.toNat]
def k3_off91 : Fin 2 → Nat :=
  let c0_i32_85 : BitVec 32 := 0#32
  let v176 : Index := Scalar.indexCast c0_i32_85
  let c0_i32_53 : BitVec 32 := 0#32
  let c8_i32_81 : BitVec 32 := 8#32
  let v169 : BitVec 32 := Scalar.muli c0_i32_53 c8_i32_81
  let c3_i32_82 : BitVec 32 := 3#32
  let v170 : BitVec 32 := Scalar.addi v169 c3_i32_82
  let c16_i32_84 : BitVec 32 := 16#32
  let v175 : BitVec 32 := Scalar.muli v170 c16_i32_84
  let v177 : Index := Scalar.indexCast v175
  ![0, v177.toNat]
def k3_off92 : Fin 2 → Nat :=
  let c1_i32_87 : BitVec 32 := 1#32
  let v181 : Index := Scalar.indexCast c1_i32_87
  let c0_i32_53 : BitVec 32 := 0#32
  let c8_i32_81 : BitVec 32 := 8#32
  let v169 : BitVec 32 := Scalar.muli c0_i32_53 c8_i32_81
  let c3_i32_82 : BitVec 32 := 3#32
  let v170 : BitVec 32 := Scalar.addi v169 c3_i32_82
  let c16_i32_86 : BitVec 32 := 16#32
  let v180 : BitVec 32 := Scalar.muli v170 c16_i32_86
  let v182 : Index := Scalar.indexCast v180
  ![1, v182.toNat]

def k3_chk28 (i : grid3.Coords) (v79 : IVec S16 32) (v84 : IVec S16 32) (v89 : IVec S16 32) (v173 : IVec S16 32) : Prop :=
  (∀ (k3_h3 : k3_cond3 i = 1#1), ∀ a x, ((![v173, v79] : Fin 2 → IVec S16 32) a x).toNat < S120x128.size a) ∧
  (∀ (k3_h3 : k3_cond3 i = 1#1), ∀ a x, ((![v173, v84] : Fin 2 → IVec S16 32) a x).toNat < S120x128.size a) ∧
  (∀ (k3_h3 : k3_cond3 i = 1#1), ∀ a x, ((![v173, v89] : Fin 2 → IVec S16 32) a x).toNat < S120x128.size a)
theorem k3_idx82_inb : ∀ (i : grid3.Coords) (v79 : IVec S16 32) (v84 : IVec S16 32) (v89 : IVec S16 32) (v173 : IVec S16 32) (k3_hw28 : k3_chk28 i v79 v84 v89 v173), ∀ (k3_h3 : k3_cond3 i = 1#1), ∀ a x, ((![v173, v79] : Fin 2 → IVec S16 32) a x).toNat < S120x128.size a := fun i v79 v84 v89 v173 k3_hw28 k3_h3 => k3_hw28.1 k3_h3
theorem k3_idx83_inb : ∀ (i : grid3.Coords) (v79 : IVec S16 32) (v84 : IVec S16 32) (v89 : IVec S16 32) (v173 : IVec S16 32) (k3_hw28 : k3_chk28 i v79 v84 v89 v173), ∀ (k3_h3 : k3_cond3 i = 1#1), ∀ a x, ((![v173, v84] : Fin 2 → IVec S16 32) a x).toNat < S120x128.size a := fun i v79 v84 v89 v173 k3_hw28 k3_h3 => k3_hw28.2.1 k3_h3
theorem k3_idx84_inb : ∀ (i : grid3.Coords) (v79 : IVec S16 32) (v84 : IVec S16 32) (v89 : IVec S16 32) (v173 : IVec S16 32) (k3_hw28 : k3_chk28 i v79 v84 v89 v173), ∀ (k3_h3 : k3_cond3 i = 1#1), ∀ a x, ((![v173, v89] : Fin 2 → IVec S16 32) a x).toNat < S120x128.size a := fun i v79 v84 v89 v173 k3_hw28 k3_h3 => k3_hw28.2.2 k3_h3
def k3_off93 : Fin 2 → Nat :=
  let c2_i32_89 : BitVec 32 := 2#32
  let v186 : Index := Scalar.indexCast c2_i32_89
  let c0_i32_53 : BitVec 32 := 0#32
  let c8_i32_81 : BitVec 32 := 8#32
  let v169 : BitVec 32 := Scalar.muli c0_i32_53 c8_i32_81
  let c3_i32_82 : BitVec 32 := 3#32
  let v170 : BitVec 32 := Scalar.addi v169 c3_i32_82
  let c16_i32_88 : BitVec 32 := 16#32
  let v185 : BitVec 32 := Scalar.muli v170 c16_i32_88
  let v187 : Index := Scalar.indexCast v185
  ![2, v187.toNat]
def k3_off94 : Fin 2 → Nat :=
  let c0_i32_93 : BitVec 32 := 0#32
  let v196 : Index := Scalar.indexCast c0_i32_93
  let c0_i32_53 : BitVec 32 := 0#32
  let c8_i32_90 : BitVec 32 := 8#32
  let v189 : BitVec 32 := Scalar.muli c0_i32_53 c8_i32_90
  let c4_i32 : BitVec 32 := 4#32
  let v190 : BitVec 32 := Scalar.addi v189 c4_i32
  let c16_i32_92 : BitVec 32 := 16#32
  let v195 : BitVec 32 := Scalar.muli v190 c16_i32_92
  let v197 : Index := Scalar.indexCast v195
  ![0, v197.toNat]
def k3_off95 : Fin 2 → Nat :=
  let c1_i32_95 : BitVec 32 := 1#32
  let v201 : Index := Scalar.indexCast c1_i32_95
  let c0_i32_53 : BitVec 32 := 0#32
  let c8_i32_90 : BitVec 32 := 8#32
  let v189 : BitVec 32 := Scalar.muli c0_i32_53 c8_i32_90
  let c4_i32 : BitVec 32 := 4#32
  let v190 : BitVec 32 := Scalar.addi v189 c4_i32
  let c16_i32_94 : BitVec 32 := 16#32
  let v200 : BitVec 32 := Scalar.muli v190 c16_i32_94
  let v202 : Index := Scalar.indexCast v200
  ![1, v202.toNat]

def k3_chk29 (i : grid3.Coords) (v79 : IVec S16 32) (v84 : IVec S16 32) (v89 : IVec S16 32) (v193 : IVec S16 32) : Prop :=
  (∀ (k3_h3 : k3_cond3 i = 1#1), ∀ a x, ((![v193, v79] : Fin 2 → IVec S16 32) a x).toNat < S120x128.size a) ∧
  (∀ (k3_h3 : k3_cond3 i = 1#1), ∀ a x, ((![v193, v84] : Fin 2 → IVec S16 32) a x).toNat < S120x128.size a) ∧
  (∀ (k3_h3 : k3_cond3 i = 1#1), ∀ a x, ((![v193, v89] : Fin 2 → IVec S16 32) a x).toNat < S120x128.size a)
theorem k3_idx85_inb : ∀ (i : grid3.Coords) (v79 : IVec S16 32) (v84 : IVec S16 32) (v89 : IVec S16 32) (v193 : IVec S16 32) (k3_hw29 : k3_chk29 i v79 v84 v89 v193), ∀ (k3_h3 : k3_cond3 i = 1#1), ∀ a x, ((![v193, v79] : Fin 2 → IVec S16 32) a x).toNat < S120x128.size a := fun i v79 v84 v89 v193 k3_hw29 k3_h3 => k3_hw29.1 k3_h3
theorem k3_idx86_inb : ∀ (i : grid3.Coords) (v79 : IVec S16 32) (v84 : IVec S16 32) (v89 : IVec S16 32) (v193 : IVec S16 32) (k3_hw29 : k3_chk29 i v79 v84 v89 v193), ∀ (k3_h3 : k3_cond3 i = 1#1), ∀ a x, ((![v193, v84] : Fin 2 → IVec S16 32) a x).toNat < S120x128.size a := fun i v79 v84 v89 v193 k3_hw29 k3_h3 => k3_hw29.2.1 k3_h3
theorem k3_idx87_inb : ∀ (i : grid3.Coords) (v79 : IVec S16 32) (v84 : IVec S16 32) (v89 : IVec S16 32) (v193 : IVec S16 32) (k3_hw29 : k3_chk29 i v79 v84 v89 v193), ∀ (k3_h3 : k3_cond3 i = 1#1), ∀ a x, ((![v193, v89] : Fin 2 → IVec S16 32) a x).toNat < S120x128.size a := fun i v79 v84 v89 v193 k3_hw29 k3_h3 => k3_hw29.2.2 k3_h3
def k3_off96 : Fin 2 → Nat :=
  let c2_i32_97 : BitVec 32 := 2#32
  let v206 : Index := Scalar.indexCast c2_i32_97
  let c0_i32_53 : BitVec 32 := 0#32
  let c8_i32_90 : BitVec 32 := 8#32
  let v189 : BitVec 32 := Scalar.muli c0_i32_53 c8_i32_90
  let c4_i32 : BitVec 32 := 4#32
  let v190 : BitVec 32 := Scalar.addi v189 c4_i32
  let c16_i32_96 : BitVec 32 := 16#32
  let v205 : BitVec 32 := Scalar.muli v190 c16_i32_96
  let v207 : Index := Scalar.indexCast v205
  ![2, v207.toNat]
def k3_off97 : Fin 2 → Nat :=
  let c0_i32_101 : BitVec 32 := 0#32
  let v216 : Index := Scalar.indexCast c0_i32_101
  let c0_i32_53 : BitVec 32 := 0#32
  let c8_i32_98 : BitVec 32 := 8#32
  let v209 : BitVec 32 := Scalar.muli c0_i32_53 c8_i32_98
  let c5_i32 : BitVec 32 := 5#32
  let v210 : BitVec 32 := Scalar.addi v209 c5_i32
  let c16_i32_100 : BitVec 32 := 16#32
  let v215 : BitVec 32 := Scalar.muli v210 c16_i32_100
  let v217 : Index := Scalar.indexCast v215
  ![0, v217.toNat]
def k3_off98 : Fin 2 → Nat :=
  let c1_i32_103 : BitVec 32 := 1#32
  let v221 : Index := Scalar.indexCast c1_i32_103
  let c0_i32_53 : BitVec 32 := 0#32
  let c8_i32_98 : BitVec 32 := 8#32
  let v209 : BitVec 32 := Scalar.muli c0_i32_53 c8_i32_98
  let c5_i32 : BitVec 32 := 5#32
  let v210 : BitVec 32 := Scalar.addi v209 c5_i32
  let c16_i32_102 : BitVec 32 := 16#32
  let v220 : BitVec 32 := Scalar.muli v210 c16_i32_102
  let v222 : Index := Scalar.indexCast v220
  ![1, v222.toNat]

def k3_chk30 (i : grid3.Coords) (v79 : IVec S16 32) (v84 : IVec S16 32) (v89 : IVec S16 32) (v213 : IVec S16 32) : Prop :=
  (∀ (k3_h3 : k3_cond3 i = 1#1), ∀ a x, ((![v213, v79] : Fin 2 → IVec S16 32) a x).toNat < S120x128.size a) ∧
  (∀ (k3_h3 : k3_cond3 i = 1#1), ∀ a x, ((![v213, v84] : Fin 2 → IVec S16 32) a x).toNat < S120x128.size a) ∧
  (∀ (k3_h3 : k3_cond3 i = 1#1), ∀ a x, ((![v213, v89] : Fin 2 → IVec S16 32) a x).toNat < S120x128.size a)
theorem k3_idx88_inb : ∀ (i : grid3.Coords) (v79 : IVec S16 32) (v84 : IVec S16 32) (v89 : IVec S16 32) (v213 : IVec S16 32) (k3_hw30 : k3_chk30 i v79 v84 v89 v213), ∀ (k3_h3 : k3_cond3 i = 1#1), ∀ a x, ((![v213, v79] : Fin 2 → IVec S16 32) a x).toNat < S120x128.size a := fun i v79 v84 v89 v213 k3_hw30 k3_h3 => k3_hw30.1 k3_h3
theorem k3_idx89_inb : ∀ (i : grid3.Coords) (v79 : IVec S16 32) (v84 : IVec S16 32) (v89 : IVec S16 32) (v213 : IVec S16 32) (k3_hw30 : k3_chk30 i v79 v84 v89 v213), ∀ (k3_h3 : k3_cond3 i = 1#1), ∀ a x, ((![v213, v84] : Fin 2 → IVec S16 32) a x).toNat < S120x128.size a := fun i v79 v84 v89 v213 k3_hw30 k3_h3 => k3_hw30.2.1 k3_h3
theorem k3_idx90_inb : ∀ (i : grid3.Coords) (v79 : IVec S16 32) (v84 : IVec S16 32) (v89 : IVec S16 32) (v213 : IVec S16 32) (k3_hw30 : k3_chk30 i v79 v84 v89 v213), ∀ (k3_h3 : k3_cond3 i = 1#1), ∀ a x, ((![v213, v89] : Fin 2 → IVec S16 32) a x).toNat < S120x128.size a := fun i v79 v84 v89 v213 k3_hw30 k3_h3 => k3_hw30.2.2 k3_h3
def k3_off99 : Fin 2 → Nat :=
  let c2_i32_105 : BitVec 32 := 2#32
  let v226 : Index := Scalar.indexCast c2_i32_105
  let c0_i32_53 : BitVec 32 := 0#32
  let c8_i32_98 : BitVec 32 := 8#32
  let v209 : BitVec 32 := Scalar.muli c0_i32_53 c8_i32_98
  let c5_i32 : BitVec 32 := 5#32
  let v210 : BitVec 32 := Scalar.addi v209 c5_i32
  let c16_i32_104 : BitVec 32 := 16#32
  let v225 : BitVec 32 := Scalar.muli v210 c16_i32_104
  let v227 : Index := Scalar.indexCast v225
  ![2, v227.toNat]
def k3_off100 : Fin 2 → Nat :=
  let c0_i32_110 : BitVec 32 := 0#32
  let v236 : Index := Scalar.indexCast c0_i32_110
  let c0_i32_53 : BitVec 32 := 0#32
  let c8_i32_106 : BitVec 32 := 8#32
  let v229 : BitVec 32 := Scalar.muli c0_i32_53 c8_i32_106
  let c6_i32_107 : BitVec 32 := 6#32
  let v230 : BitVec 32 := Scalar.addi v229 c6_i32_107
  let c16_i32_109 : BitVec 32 := 16#32
  let v235 : BitVec 32 := Scalar.muli v230 c16_i32_109
  let v237 : Index := Scalar.indexCast v235
  ![0, v237.toNat]
def k3_off101 : Fin 2 → Nat :=
  let c1_i32_112 : BitVec 32 := 1#32
  let v241 : Index := Scalar.indexCast c1_i32_112
  let c0_i32_53 : BitVec 32 := 0#32
  let c8_i32_106 : BitVec 32 := 8#32
  let v229 : BitVec 32 := Scalar.muli c0_i32_53 c8_i32_106
  let c6_i32_107 : BitVec 32 := 6#32
  let v230 : BitVec 32 := Scalar.addi v229 c6_i32_107
  let c16_i32_111 : BitVec 32 := 16#32
  let v240 : BitVec 32 := Scalar.muli v230 c16_i32_111
  let v242 : Index := Scalar.indexCast v240
  ![1, v242.toNat]

def k3_chk31 (i : grid3.Coords) (v79 : IVec S16 32) (v84 : IVec S16 32) (v89 : IVec S16 32) (v233 : IVec S16 32) : Prop :=
  (∀ (k3_h3 : k3_cond3 i = 1#1), ∀ a x, ((![v233, v79] : Fin 2 → IVec S16 32) a x).toNat < S120x128.size a) ∧
  (∀ (k3_h3 : k3_cond3 i = 1#1), ∀ a x, ((![v233, v84] : Fin 2 → IVec S16 32) a x).toNat < S120x128.size a) ∧
  (∀ (k3_h3 : k3_cond3 i = 1#1), ∀ a x, ((![v233, v89] : Fin 2 → IVec S16 32) a x).toNat < S120x128.size a)
theorem k3_idx91_inb : ∀ (i : grid3.Coords) (v79 : IVec S16 32) (v84 : IVec S16 32) (v89 : IVec S16 32) (v233 : IVec S16 32) (k3_hw31 : k3_chk31 i v79 v84 v89 v233), ∀ (k3_h3 : k3_cond3 i = 1#1), ∀ a x, ((![v233, v79] : Fin 2 → IVec S16 32) a x).toNat < S120x128.size a := fun i v79 v84 v89 v233 k3_hw31 k3_h3 => k3_hw31.1 k3_h3
theorem k3_idx92_inb : ∀ (i : grid3.Coords) (v79 : IVec S16 32) (v84 : IVec S16 32) (v89 : IVec S16 32) (v233 : IVec S16 32) (k3_hw31 : k3_chk31 i v79 v84 v89 v233), ∀ (k3_h3 : k3_cond3 i = 1#1), ∀ a x, ((![v233, v84] : Fin 2 → IVec S16 32) a x).toNat < S120x128.size a := fun i v79 v84 v89 v233 k3_hw31 k3_h3 => k3_hw31.2.1 k3_h3
theorem k3_idx93_inb : ∀ (i : grid3.Coords) (v79 : IVec S16 32) (v84 : IVec S16 32) (v89 : IVec S16 32) (v233 : IVec S16 32) (k3_hw31 : k3_chk31 i v79 v84 v89 v233), ∀ (k3_h3 : k3_cond3 i = 1#1), ∀ a x, ((![v233, v89] : Fin 2 → IVec S16 32) a x).toNat < S120x128.size a := fun i v79 v84 v89 v233 k3_hw31 k3_h3 => k3_hw31.2.2 k3_h3
def k3_off102 : Fin 2 → Nat :=
  let c2_i32_114 : BitVec 32 := 2#32
  let v246 : Index := Scalar.indexCast c2_i32_114
  let c0_i32_53 : BitVec 32 := 0#32
  let c8_i32_106 : BitVec 32 := 8#32
  let v229 : BitVec 32 := Scalar.muli c0_i32_53 c8_i32_106
  let c6_i32_107 : BitVec 32 := 6#32
  let v230 : BitVec 32 := Scalar.addi v229 c6_i32_107
  let c16_i32_113 : BitVec 32 := 16#32
  let v245 : BitVec 32 := Scalar.muli v230 c16_i32_113
  let v247 : Index := Scalar.indexCast v245
  ![2, v247.toNat]
def k3_off103 : Fin 2 → Nat :=
  let c0_i32_118 : BitVec 32 := 0#32
  let v256 : Index := Scalar.indexCast c0_i32_118
  let c0_i32_53 : BitVec 32 := 0#32
  let c8_i32_115 : BitVec 32 := 8#32
  let v249 : BitVec 32 := Scalar.muli c0_i32_53 c8_i32_115
  let c7_i32 : BitVec 32 := 7#32
  let v250 : BitVec 32 := Scalar.addi v249 c7_i32
  let c16_i32_117 : BitVec 32 := 16#32
  let v255 : BitVec 32 := Scalar.muli v250 c16_i32_117
  let v257 : Index := Scalar.indexCast v255
  ![0, v257.toNat]
def k3_off104 : Fin 2 → Nat :=
  let c1_i32_120 : BitVec 32 := 1#32
  let v261 : Index := Scalar.indexCast c1_i32_120
  let c0_i32_53 : BitVec 32 := 0#32
  let c8_i32_115 : BitVec 32 := 8#32
  let v249 : BitVec 32 := Scalar.muli c0_i32_53 c8_i32_115
  let c7_i32 : BitVec 32 := 7#32
  let v250 : BitVec 32 := Scalar.addi v249 c7_i32
  let c16_i32_119 : BitVec 32 := 16#32
  let v260 : BitVec 32 := Scalar.muli v250 c16_i32_119
  let v262 : Index := Scalar.indexCast v260
  ![1, v262.toNat]

def k3_chk32 (i : grid3.Coords) (v79 : IVec S16 32) (v84 : IVec S16 32) (v89 : IVec S16 32) (v253 : IVec S16 32) : Prop :=
  (∀ (k3_h3 : k3_cond3 i = 1#1), ∀ a x, ((![v253, v79] : Fin 2 → IVec S16 32) a x).toNat < S120x128.size a) ∧
  (∀ (k3_h3 : k3_cond3 i = 1#1), ∀ a x, ((![v253, v84] : Fin 2 → IVec S16 32) a x).toNat < S120x128.size a) ∧
  (∀ (k3_h3 : k3_cond3 i = 1#1), ∀ a x, ((![v253, v89] : Fin 2 → IVec S16 32) a x).toNat < S120x128.size a)
theorem k3_idx94_inb : ∀ (i : grid3.Coords) (v79 : IVec S16 32) (v84 : IVec S16 32) (v89 : IVec S16 32) (v253 : IVec S16 32) (k3_hw32 : k3_chk32 i v79 v84 v89 v253), ∀ (k3_h3 : k3_cond3 i = 1#1), ∀ a x, ((![v253, v79] : Fin 2 → IVec S16 32) a x).toNat < S120x128.size a := fun i v79 v84 v89 v253 k3_hw32 k3_h3 => k3_hw32.1 k3_h3
theorem k3_idx95_inb : ∀ (i : grid3.Coords) (v79 : IVec S16 32) (v84 : IVec S16 32) (v89 : IVec S16 32) (v253 : IVec S16 32) (k3_hw32 : k3_chk32 i v79 v84 v89 v253), ∀ (k3_h3 : k3_cond3 i = 1#1), ∀ a x, ((![v253, v84] : Fin 2 → IVec S16 32) a x).toNat < S120x128.size a := fun i v79 v84 v89 v253 k3_hw32 k3_h3 => k3_hw32.2.1 k3_h3
theorem k3_idx96_inb : ∀ (i : grid3.Coords) (v79 : IVec S16 32) (v84 : IVec S16 32) (v89 : IVec S16 32) (v253 : IVec S16 32) (k3_hw32 : k3_chk32 i v79 v84 v89 v253), ∀ (k3_h3 : k3_cond3 i = 1#1), ∀ a x, ((![v253, v89] : Fin 2 → IVec S16 32) a x).toNat < S120x128.size a := fun i v79 v84 v89 v253 k3_hw32 k3_h3 => k3_hw32.2.2 k3_h3
def k3_off105 : Fin 2 → Nat :=
  let c2_i32_122 : BitVec 32 := 2#32
  let v266 : Index := Scalar.indexCast c2_i32_122
  let c0_i32_53 : BitVec 32 := 0#32
  let c8_i32_115 : BitVec 32 := 8#32
  let v249 : BitVec 32 := Scalar.muli c0_i32_53 c8_i32_115
  let c7_i32 : BitVec 32 := 7#32
  let v250 : BitVec 32 := Scalar.addi v249 c7_i32
  let c16_i32_121 : BitVec 32 := 16#32
  let v265 : BitVec 32 := Scalar.muli v250 c16_i32_121
  let v267 : Index := Scalar.indexCast v265
  ![2, v267.toNat]
def k3_off106 (i : grid3.Coords) : Fin 2 → Nat :=
  let c0_i32_127_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let c1560_i32_51 : BitVec 32 := 1560#32
  let v108 : BitVec 32 := Scalar.addi v37 c1560_i32_51
  let c16_i32_124 : BitVec 32 := 16#32
  let v269 : BitVec 32 := Scalar.muli v108 c16_i32_124
  ![0, v269.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x3 : Shape := ⟨2, ![100000, 3]⟩
abbrev S100000x512 : Shape := ⟨2, ![100000, 512]⟩
abbrev S100000 : Shape := ⟨1, ![100000]⟩
abbrev S512x48 : Shape := ⟨2, ![512, 48]⟩
abbrev S48 : Shape := ⟨1, ![48]⟩
abbrev S100000x48 : Shape := ⟨2, ![100000, 48]⟩
abbrev S1x48 : Shape := ⟨2, ![1, 48]⟩
abbrev S1600000x3 : Shape := ⟨2, ![1600000, 3]⟩
abbrev S100000x16 : Shape := ⟨2, ![100000, 16]⟩
abbrev S1600000 : Shape := ⟨1, ![1600000]⟩
abbrev S100000x16x3 : Shape := ⟨3, ![100000, 16, 3]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x512, .f32⟩
  | .hbm, ⟨2, _⟩ => ⟨S100000, .i32⟩
  | .hbm, ⟨3, _⟩ => ⟨S512x48, .f32⟩
  | .hbm, ⟨4, _⟩ => ⟨S48, .f32⟩
  | .hbm, ⟨5, _⟩ => ⟨S100000x48, .f32⟩
  | .hbm, ⟨6, _⟩ => ⟨S1x48, .f32⟩
  | .hbm, ⟨7, _⟩ => ⟨S100000x48, .f32⟩
  | .hbm, ⟨8, _⟩ => ⟨S100000x48, .f32⟩
  | .hbm, ⟨9, _⟩ => ⟨S1600000x3, .f32⟩
  | .hbm, ⟨10, _⟩ => ⟨S100000x16, .i32⟩
  | .hbm, ⟨11, _⟩ => ⟨S1600000, .i32⟩
  | .hbm, ⟨12, _⟩ => ⟨S100000x16x3, .f32⟩
  | .hbm, ⟨13, _⟩ => ⟨S1600000x3, .f32⟩
  | .hbm, ⟨14, _⟩ => ⟨S_, .f32⟩
  | .hbm, ⟨15, _⟩ => ⟨S1600000x3, .f32⟩
  | .hbm, ⟨16, _⟩ => ⟨S1600000x3, .f32⟩
  | .hbm, ⟨17, _⟩ => ⟨S1600000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Facts.lean ====
/- The side conditions the idealized kernel's program states, each closed by evaluation or over the integer chain,
   gathered as the instances `facts₀` and `facts`. -/
module

public import proofs.«01_k».proof.KernelIdeal
public import Idealize.ShloMosaic.Lib.Affine
public import Idealize.ShloMosaic.Lib.Decide
public import Idealize.ShloMosaic.Lib.Exec

@[expose] public section

set_option synthInstance.maxSize 4096
set_option Elab.async false

namespace Cert.KernelIdeal.Gen

open Idealize.ShloMosaic Idealize.SL.Sem
/-! ## The facts over the vocabulary (`Facts₀`) -/

theorem bcast_S_S512x48 : S_.BroadcastsInDim S512x48 (![] : Fin 0 → Fin S512x48.rank) := by decide
theorem bitsLt_bf16_f32 : FTy.bits .bf16 < FTy.bits .f32 := by decide
theorem bcast_S_S48 : S_.BroadcastsInDim S48 (![] : Fin 0 → Fin S48.rank) := by decide
theorem shapeCasts_S48_S1x48 : S48.ShapeCasts S1x48 := by decide
theorem inb_S2000x512_S2000x512_0_0 : ∀ a, (![0, 0] : Fin 2 → Nat) a + S2000x512.size a ≤ S2000x512.size a := by decide
theorem h_S2000x512 : 0 < S2000x512.numel := by decide
theorem inb_S512x48_S512x48_0_0 : ∀ a, (![0, 0] : Fin 2 → Nat) a + S512x48.size a ≤ S512x48.size a := by decide
theorem h_S512x48 : 0 < S512x48.numel := by decide
theorem shapeCasts_S512x48_S512x48 : S512x48.ShapeCasts S512x48 := by decide
theorem inb_S2000x3_S2000x3_0_0 : ∀ a, (![0, 0] : Fin 2 → Nat) a + S2000x3.size a ≤ S2000x3.size a := by decide
theorem h_S2000x3 : 0 < S2000x3.numel := by decide
theorem concatenates_S2000x3_S2000x3_S2000x3_S2000x3_S2000x3_S2000x3_S2000x3_S2000x3_S2000x3_S2000x3_S2000x3_S2000x3_S2000x3_S2000x3_S2000x3_S2000x3_S2000x48_d1 : Shape.Concatenates [S2000x3, S2000x3, S2000x3, S2000x3, S2000x3, S2000x3, S2000x3, S2000x3, S2000x3, S2000x3, S2000x3, S2000x3, S2000x3, S2000x3, S2000x3, S2000x3] S2000x48 1 := by decide
theorem inb_S1x48_S1x48_0_0 : ∀ a, (![0, 0] : Fin 2 → Nat) a + S1x48.size a ≤ S1x48.size a := by decide
theorem h_S1x48 : 0 < S1x48.numel := by decide
theorem shapeCasts_S1x48_S1x48 : S1x48.ShapeCasts S1x48 := by decide
theorem broadcasts_S1x48_S2000x48 : S1x48.Broadcasts S2000x48 := by decide
theorem inb_S2000x128_S2000x48_0_0 : ∀ a, (![0, 0] : Fin 2 → Nat) a + S2000x48.size a ≤ S2000x128.size a := by decide
theorem h_S2000x48 : 0 < S2000x48.numel := by decide
theorem iota_S16_d0_w32_scVector : S16.Iotas .scVector 32 [0] := by decide
theorem h_S120x128 : 0 < S120x128.numel := by decide
theorem h_S1x16 : 0 < S1x16.numel := by decide
theorem shapeCasts_S1x16_S16 : S1x16.ShapeCasts S16 := by decide
theorem shapeCasts_S16_S1x16 : S16.ShapeCasts S1x16 := by decide
theorem inb_S3x1920_S3x1920_0_0 : ∀ a, (![0, 0] : Fin 2 → Nat) a + S3x1920.size a ≤ S3x1920.size a := by decide
theorem inb_S120x128_S8x128_0_0 : ∀ a, (![0, 0] : Fin 2 → Nat) a + S8x128.size a ≤ S120x128.size a := by decide
theorem inb_S3x1920_S3x128_0_0 : ∀ a, (![0, 0] : Fin 2 → Nat) a + S3x128.size a ≤ S3x1920.size a := by decide
theorem h_S3136 : 0 < S3136.numel := by decide
theorem h_S16 : 0 < S16.numel := by decide
theorem concatenates_S3x800000_S3x800000_S3x1600000_d1 : Shape.Concatenates [S3x800000, S3x800000] S3x1600000 1 := by decide
theorem transposes_S3x1600000_S1600000x3_1_0 : S3x1600000.Transposes [1, 0] S1600000x3 := by decide
theorem dot_S2000x512_S512x48_S2000x48_1_0_0_1_n_n_wf : DotDims.WF S2000x512 S512x48 S2000x48 [1] [0] [0] [1] [] [] := by decide
theorem hcc1_scratch3 : 8 + S_.numel ≤ 32 := by decide
theorem hcc1_scratch4 : 9 + S_.numel ≤ 32 := by decide
theorem hcc1_scoped0 : 10 + S_.numel ≤ 32 := by decide
theorem hcc1_scoped1 : 11 + S_.numel ≤ 32 := by decide
theorem hcc1_scoped2 : 12 + S_.numel ≤ 32 := by decide
theorem hcc1_scoped3 : 13 + S_.numel ≤ 32 := by decide
theorem hcc1_scoped4 : 14 + S_.numel ≤ 32 := by decide
theorem hcc1_scoped5 : 15 + S_.numel ≤ 32 := by decide
theorem hcc1_scoped6 : 16 + S_.numel ≤ 32 := by decide
theorem hcc3_scratch3 : 25 + S_.numel ≤ 32 := by decide
theorem hcc3_scratch4 : 26 + S_.numel ≤ 32 := by decide
theorem hcc3_scoped0 : 27 + S_.numel ≤ 32 := by decide
theorem hcc3_scoped1 : 28 + S_.numel ≤ 32 := by decide
theorem hcc3_scoped2 : 29 + S_.numel ≤ 32 := by decide
theorem hcc3_scoped3 : 30 + S_.numel ≤ 32 := by decide
theorem hcc3_scoped4 : 31 + S_.numel ≤ 32 := by decide
theorem hscKind : ∀ q, scKind q ≠ .tc := by decide
theorem hscCore : ∀ q, scNCore q ≤ τ.nSC := by decide
theorem hscSub : ∀ q, scNSub q ≤ τ.nSub := by decide
theorem hrank0 : 0 < grid0.rank := by decide
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl]
theorem hinb0_0 : ∀ (i : grid0.Coords) a, (cc0_transform_0 i a + 1) * S2000x512.size a ≤ S100000x512.size a := by decide +kernel
theorem hwx0_0 : ∀ i : grid0.Coords, EltTy.bits .f32 = 32 ∨ (Rect.block (s := S100000x512) S2000x512.size (cc0_transform_0 i) (hinb0_0 i)).WholeWords (EltTy.packing .f32) := fun _ => .inl rfl
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl]
theorem hinb0_1 : ∀ (i : grid0.Coords) a, (cc0_transform_1 i a + 1) * S2000x3.size a ≤ S100000x3.size a := by decide +kernel
theorem hwx0_1 : ∀ i : grid0.Coords, EltTy.bits .f32 = 32 ∨ (Rect.block (s := S100000x3) S2000x3.size (cc0_transform_1 i) (hinb0_1 i)).WholeWords (EltTy.packing .f32) := fun _ => .inl rfl
theorem hstage0_2 : ∀ j, (stage0_2 j).IsWhole := fun | 0 => Memref.isWhole_whole _ | ⟨_ + 1, h⟩ => absurd h (Nat.not_lt.2 (Nat.le_add_left _ _))
theorem nbuf0_2 : grid0.bufCount reads0_2 true = 1 := by decide
theorem hreads0_2 : ∀ i i' : grid0.Coords, (∀ a, reads0_2 a = true → i a = i' a) → cc0_transform_2 i = cc0_transform_2 i' := fun _ _ _ => rfl
theorem hinb0_2 : ∀ (i : grid0.Coords) a, (cc0_transform_2 i a + 1) * S512x48.size a ≤ S512x48.size a := by decide +kernel
theorem hwx0_2 : ∀ i : grid0.Coords, EltTy.bits .bf16 = 32 ∨ (Rect.block (s := S512x48) S512x48.size (cc0_transform_2 i) (hinb0_2 i)).WholeWords (EltTy.packing .bf16) := fun _ => .inr (Affine.block_words_dvd (of_decide_eq_true rfl) (by decide))
theorem hstage0_3 : ∀ j, (stage0_3 j).IsWhole := fun | 0 => Memref.isWhole_whole _ | ⟨_ + 1, h⟩ => absurd h (Nat.not_lt.2 (Nat.le_add_left _ _))
theorem nbuf0_3 : grid0.bufCount reads0_3 true = 1 := by decide
theorem hreads0_3 : ∀ i i' : grid0.Coords, (∀ a, reads0_3 a = true → i a = i' a) → cc0_transform_3 i = cc0_transform_3 i' := fun _ _ _ => rfl
theorem hinb0_3 : ∀ (i : grid0.Coords) a, (cc0_transform_3 i a + 1) * S1x48.size a ≤ S1x48.size a := by decide +kernel
theorem hwx0_3 : ∀ i : grid0.Coords, EltTy.bits .f32 = 32 ∨ (Rect.block (s := S1x48) S1x48.size (cc0_transform_3 i) (hinb0_3 i)).WholeWords (EltTy.packing .f32) := fun _ => .inl rfl
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S2000x128.size a ≤ S50000x128.size a := by decide +kernel
theorem hwx0_4 : ∀ i : grid0.Coords, EltTy.bits .f32 = 32 ∨ (Rect.block (s := S50000x128) S2000x128.size (cc0_transform_4 i) (hinb0_4 i)).WholeWords (EltTy.packing .f32) := fun _ => .inl rfl
theorem hcore1 : grid1.bound 0 ≤ τ.nSC := by decide
theorem hsub1 : grid1.bound 1 ≤ τ.nSub := by decide
theorem k1_off1_inb : ∀ i : grid1.Coords, ∀ (r : Fin 2), ∀ a, (k1_off1 i (BitVec.ofNat 32 (120 * r.val))) a + S120x128.size a ≤ S50000x128.size a := by decide +kernel
theorem k1_t1_abs : k1_t1_loop.OK ∧ k1_t1_loop.trips ≤ 6 ∧ k1_t1_loop.ub.toInt ≤ 6 := by
  have h_c0_i32_39 : Affine.IsInt 0#32 (0) := Affine.ofNat _ (by omega)
  have h_c6_i32 : Affine.IsInt 6#32 (6) := Affine.ofNat _ (by omega)
  have h_v96 : Affine.IsInt _ (6) := Affine.addi h_c0_i32_39 h_c6_i32 (by omega)
  have h_c1_i32_40 : Affine.IsInt 1#32 (1) := Affine.ofNat _ (by omega)
  exact ⟨Affine.ok h_c0_i32_39 h_v96 h_c1_i32_40 (by omega), Affine.trips_le h_c0_i32_39 h_v96 h_c1_i32_40 _ (by omega), Affine.le_of h_v96 _ (by omega)⟩
theorem k1_t1_ok : k1_t1_loop.OK := k1_t1_abs.1
theorem k1_off2_inb : ∀ (i : grid1.Coords) (k1_t1 : Fin k1_t1_loop.trips), ∀ a, (k1_off2 i k1_t1) a + S120x128.size a ≤ S50000x128.size a := by decide +kernel
theorem k1_t2_abs : k1_t2_loop.OK ∧ k1_t2_loop.trips ≤ 15 ∧ k1_t2_loop.ub.toInt ≤ 15 := by
  have h_c0_i32_71 : Affine.IsInt 0#32 (0) := Affine.ofNat _ (by omega)
  have h_c15_i32_72 : Affine.IsInt 15#32 (15) := Affine.ofNat _ (by omega)
  have h_v140 : Affine.IsInt _ (15) := Affine.addi h_c0_i32_71 h_c15_i32_72 (by omega)
  have h_c1_i32_73 : Affine.IsInt 1#32 (1) := Affine.ofNat _ (by omega)
  exact ⟨Affine.ok h_c0_i32_71 h_v140 h_c1_i32_73 (by omega), Affine.trips_le h_c0_i32_71 h_v140 h_c1_i32_73 _ (by omega), Affine.le_of h_v140 _ (by omega)⟩
theorem k1_t2_ok : k1_t2_loop.OK := k1_t2_abs.1
theorem k1_off3_inb : ∀ k1_t2 : Fin k1_t2_loop.trips, ∀ a, (k1_off3 k1_t2) a + S1x16.size a ≤ S3x1920.size a := by decide +kernel
theorem k1_off4_inb : ∀ k1_t2 : Fin k1_t2_loop.trips, ∀ a, (k1_off4 k1_t2) a + S1x16.size a ≤ S3x1920.size a := by decide +kernel
theorem k1_off5_inb : ∀ k1_t2 : Fin k1_t2_loop.trips, ∀ a, (k1_off5 k1_t2) a + S1x16.size a ≤ S3x1920.size a := by decide +kernel
theorem k1_off6_inb : ∀ k1_t2 : Fin k1_t2_loop.trips, ∀ a, (k1_off6 k1_t2) a + S1x16.size a ≤ S3x1920.size a := by decide +kernel
theorem k1_off7_inb : ∀ k1_t2 : Fin k1_t2_loop.trips, ∀ a, (k1_off7 k1_t2) a + S1x16.size a ≤ S3x1920.size a := by decide +kernel
theorem k1_off8_inb : ∀ k1_t2 : Fin k1_t2_loop.trips, ∀ a, (k1_off8 k1_t2) a + S1x16.size a ≤ S3x1920.size a := by decide +kernel
theorem k1_off9_inb : ∀ k1_t2 : Fin k1_t2_loop.trips, ∀ a, (k1_off9 k1_t2) a + S1x16.size a ≤ S3x1920.size a := by decide +kernel
theorem k1_off10_inb : ∀ k1_t2 : Fin k1_t2_loop.trips, ∀ a, (k1_off10 k1_t2) a + S1x16.size a ≤ S3x1920.size a := by decide +kernel
theorem k1_off11_inb : ∀ k1_t2 : Fin k1_t2_loop.trips, ∀ a, (k1_off11 k1_t2) a + S1x16.size a ≤ S3x1920.size a := by decide +kernel
theorem k1_off12_inb : ∀ k1_t2 : Fin k1_t2_loop.trips, ∀ a, (k1_off12 k1_t2) a + S1x16.size a ≤ S3x1920.size a := by decide +kernel
theorem k1_off13_inb : ∀ k1_t2 : Fin k1_t2_loop.trips, ∀ a, (k1_off13 k1_t2) a + S1x16.size a ≤ S3x1920.size a := by decide +kernel
theorem k1_off14_inb : ∀ k1_t2 : Fin k1_t2_loop.trips, ∀ a, (k1_off14 k1_t2) a + S1x16.size a ≤ S3x1920.size a := by decide +kernel
theorem k1_off15_inb : ∀ k1_t2 : Fin k1_t2_loop.trips, ∀ a, (k1_off15 k1_t2) a + S1x16.size a ≤ S3x1920.size a := by decide +kernel
theorem k1_off16_inb : ∀ k1_t2 : Fin k1_t2_loop.trips, ∀ a, (k1_off16 k1_t2) a + S1x16.size a ≤ S3x1920.size a := by decide +kernel
theorem k1_off17_inb : ∀ k1_t2 : Fin k1_t2_loop.trips, ∀ a, (k1_off17 k1_t2) a + S1x16.size a ≤ S3x1920.size a := by decide +kernel
theorem k1_off18_inb : ∀ k1_t2 : Fin k1_t2_loop.trips, ∀ a, (k1_off18 k1_t2) a + S1x16.size a ≤ S3x1920.size a := by decide +kernel
theorem k1_off19_inb : ∀ k1_t2 : Fin k1_t2_loop.trips, ∀ a, (k1_off19 k1_t2) a + S1x16.size a ≤ S3x1920.size a := by decide +kernel
theorem k1_off20_inb : ∀ k1_t2 : Fin k1_t2_loop.trips, ∀ a, (k1_off20 k1_t2) a + S1x16.size a ≤ S3x1920.size a := by decide +kernel
theorem k1_off21_inb : ∀ k1_t2 : Fin k1_t2_loop.trips, ∀ a, (k1_off21 k1_t2) a + S1x16.size a ≤ S3x1920.size a := by decide +kernel
theorem k1_off22_inb : ∀ k1_t2 : Fin k1_t2_loop.trips, ∀ a, (k1_off22 k1_t2) a + S1x16.size a ≤ S3x1920.size a := by decide +kernel
theorem k1_off23_inb : ∀ k1_t2 : Fin k1_t2_loop.trips, ∀ a, (k1_off23 k1_t2) a + S1x16.size a ≤ S3x1920.size a := by decide +kernel
theorem k1_off24_inb : ∀ k1_t2 : Fin k1_t2_loop.trips, ∀ a, (k1_off24 k1_t2) a + S1x16.size a ≤ S3x1920.size a := by decide +kernel
theorem k1_off25_inb : ∀ k1_t2 : Fin k1_t2_loop.trips, ∀ a, (k1_off25 k1_t2) a + S1x16.size a ≤ S3x1920.size a := by decide +kernel
theorem k1_off26_inb : ∀ k1_t2 : Fin k1_t2_loop.trips, ∀ a, (k1_off26 k1_t2) a + S1x16.size a ≤ S3x1920.size a := by decide +kernel
theorem k1_off27_inb : ∀ (i : grid1.Coords) (k1_t1 : Fin k1_t1_loop.trips), ∀ (r : Fin 2), ∀ a, (k1_off27 i k1_t1 (BitVec.ofNat 32 r.val)) a + S3x1920.size a ≤ S3x800000.size a := by decide +kernel
theorem k1_off28_inb : ∀ (i : grid1.Coords) (k1_t1 : Fin k1_t1_loop.trips), ∀ (k1_h1 : k1_cond1 k1_t1 = 1#1), ∀ a, (k1_off28 i k1_t1) a + S120x128.size a ≤ S50000x128.size a := by decide +kernel
theorem k1_off29_inb : ∀ (i : grid1.Coords) (k1_t1 : Fin k1_t1_loop.trips), ∀ a, (k1_off29 i k1_t1) a + S120x128.size a ≤ S50000x128.size a := by decide +kernel
theorem k1_t3_abs : k1_t3_loop.OK ∧ k1_t3_loop.trips ≤ 15 ∧ k1_t3_loop.ub.toInt ≤ 15 := by
  have h_c0_i32_85 : Affine.IsInt 0#32 (0) := Affine.ofNat _ (by omega)
  have h_c15_i32_86 : Affine.IsInt 15#32 (15) := Affine.ofNat _ (by omega)
  have h_v154 : Affine.IsInt _ (15) := Affine.addi h_c0_i32_85 h_c15_i32_86 (by omega)
  have h_c1_i32_87 : Affine.IsInt 1#32 (1) := Affine.ofNat _ (by omega)
  exact ⟨Affine.ok h_c0_i32_85 h_v154 h_c1_i32_87 (by omega), Affine.trips_le h_c0_i32_85 h_v154 h_c1_i32_87 _ (by omega), Affine.le_of h_v154 _ (by omega)⟩
theorem k1_t3_ok : k1_t3_loop.OK := k1_t3_abs.1
theorem k1_off30_inb : ∀ k1_t3 : Fin k1_t3_loop.trips, ∀ a, (k1_off30 k1_t3) a + S1x16.size a ≤ S3x1920.size a := by decide +kernel
theorem k1_off31_inb : ∀ k1_t3 : Fin k1_t3_loop.trips, ∀ a, (k1_off31 k1_t3) a + S1x16.size a ≤ S3x1920.size a := by decide +kernel
theorem k1_off32_inb : ∀ k1_t3 : Fin k1_t3_loop.trips, ∀ a, (k1_off32 k1_t3) a + S1x16.size a ≤ S3x1920.size a := by decide +kernel
theorem k1_off33_inb : ∀ k1_t3 : Fin k1_t3_loop.trips, ∀ a, (k1_off33 k1_t3) a + S1x16.size a ≤ S3x1920.size a := by decide +kernel
theorem k1_off34_inb : ∀ k1_t3 : Fin k1_t3_loop.trips, ∀ a, (k1_off34 k1_t3) a + S1x16.size a ≤ S3x1920.size a := by decide +kernel
theorem k1_off35_inb : ∀ k1_t3 : Fin k1_t3_loop.trips, ∀ a, (k1_off35 k1_t3) a + S1x16.size a ≤ S3x1920.size a := by decide +kernel
theorem k1_off36_inb : ∀ k1_t3 : Fin k1_t3_loop.trips, ∀ a, (k1_off36 k1_t3) a + S1x16.size a ≤ S3x1920.size a := by decide +kernel
theorem k1_off37_inb : ∀ k1_t3 : Fin k1_t3_loop.trips, ∀ a, (k1_off37 k1_t3) a + S1x16.size a ≤ S3x1920.size a := by decide +kernel
theorem k1_off38_inb : ∀ k1_t3 : Fin k1_t3_loop.trips, ∀ a, (k1_off38 k1_t3) a + S1x16.size a ≤ S3x1920.size a := by decide +kernel
theorem k1_off39_inb : ∀ k1_t3 : Fin k1_t3_loop.trips, ∀ a, (k1_off39 k1_t3) a + S1x16.size a ≤ S3x1920.size a := by decide +kernel
theorem k1_off40_inb : ∀ k1_t3 : Fin k1_t3_loop.trips, ∀ a, (k1_off40 k1_t3) a + S1x16.size a ≤ S3x1920.size a := by decide +kernel
theorem k1_off41_inb : ∀ k1_t3 : Fin k1_t3_loop.trips, ∀ a, (k1_off41 k1_t3) a + S1x16.size a ≤ S3x1920.size a := by decide +kernel
theorem k1_off42_inb : ∀ k1_t3 : Fin k1_t3_loop.trips, ∀ a, (k1_off42 k1_t3) a + S1x16.size a ≤ S3x1920.size a := by decide +kernel
theorem k1_off43_inb : ∀ k1_t3 : Fin k1_t3_loop.trips, ∀ a, (k1_off43 k1_t3) a + S1x16.size a ≤ S3x1920.size a := by decide +kernel
theorem k1_off44_inb : ∀ k1_t3 : Fin k1_t3_loop.trips, ∀ a, (k1_off44 k1_t3) a + S1x16.size a ≤ S3x1920.size a := by decide +kernel
theorem k1_off45_inb : ∀ k1_t3 : Fin k1_t3_loop.trips, ∀ a, (k1_off45 k1_t3) a + S1x16.size a ≤ S3x1920.size a := by decide +kernel
theorem k1_off46_inb : ∀ k1_t3 : Fin k1_t3_loop.trips, ∀ a, (k1_off46 k1_t3) a + S1x16.size a ≤ S3x1920.size a := by decide +kernel
theorem k1_off47_inb : ∀ k1_t3 : Fin k1_t3_loop.trips, ∀ a, (k1_off47 k1_t3) a + S1x16.size a ≤ S3x1920.size a := by decide +kernel
theorem k1_off48_inb : ∀ k1_t3 : Fin k1_t3_loop.trips, ∀ a, (k1_off48 k1_t3) a + S1x16.size a ≤ S3x1920.size a := by decide +kernel
theorem k1_off49_inb : ∀ k1_t3 : Fin k1_t3_loop.trips, ∀ a, (k1_off49 k1_t3) a + S1x16.size a ≤ S3x1920.size a := by decide +kernel
theorem k1_off50_inb : ∀ k1_t3 : Fin k1_t3_loop.trips, ∀ a, (k1_off50 k1_t3) a + S1x16.size a ≤ S3x1920.size a := by decide +kernel
theorem k1_off51_inb : ∀ k1_t3 : Fin k1_t3_loop.trips, ∀ a, (k1_off51 k1_t3) a + S1x16.size a ≤ S3x1920.size a := by decide +kernel
theorem k1_off52_inb : ∀ k1_t3 : Fin k1_t3_loop.trips, ∀ a, (k1_off52 k1_t3) a + S1x16.size a ≤ S3x1920.size a := by decide +kernel
theorem k1_off53_inb : ∀ k1_t3 : Fin k1_t3_loop.trips, ∀ a, (k1_off53 k1_t3) a + S1x16.size a ≤ S3x1920.size a := by decide +kernel
theorem k1_off54_inb : ∀ (i : grid1.Coords) (k1_t1 : Fin k1_t1_loop.trips), ∀ (k1_h2 : k1_cond2 k1_t1 = 1#1), ∀ a, (k1_off54 i k1_t1) a + S120x128.size a ≤ S50000x128.size a := by decide +kernel
theorem k1_off55_inb : ∀ i : grid1.Coords, ∀ a, (k1_off55 i) a + S120x128.size a ≤ S50000x128.size a := by decide +kernel
theorem k1_t4_abs : k1_t4_loop.OK ∧ k1_t4_loop.trips ≤ 15 ∧ k1_t4_loop.ub.toInt ≤ 15 := by
  have h_c0_i32_46 : Affine.IsInt 0#32 (0) := Affine.ofNat _ (by omega)
  have h_c15_i32 : Affine.IsInt 15#32 (15) := Affine.ofNat _ (by omega)
  have h_v101 : Affine.IsInt _ (15) := Affine.addi h_c0_i32_46 h_c15_i32 (by omega)
  have h_c1_i32_47 : Affine.IsInt 1#32 (1) := Affine.ofNat _ (by omega)
  exact ⟨Affine.ok h_c0_i32_46 h_v101 h_c1_i32_47 (by omega), Affine.trips_le h_c0_i32_46 h_v101 h_c1_i32_47 _ (by omega), Affine.le_of h_v101 _ (by omega)⟩
theorem k1_t4_ok : k1_t4_loop.OK := k1_t4_abs.1
theorem k1_off56_inb : ∀ k1_t4 : Fin k1_t4_loop.trips, ∀ a, (k1_off56 k1_t4) a + S1x16.size a ≤ S3x1920.size a := by decide +kernel
theorem k1_off57_inb : ∀ k1_t4 : Fin k1_t4_loop.trips, ∀ a, (k1_off57 k1_t4) a + S1x16.size a ≤ S3x1920.size a := by decide +kernel
theorem k1_off58_inb : ∀ k1_t4 : Fin k1_t4_loop.trips, ∀ a, (k1_off58 k1_t4) a + S1x16.size a ≤ S3x1920.size a := by decide +kernel
theorem k1_off59_inb : ∀ k1_t4 : Fin k1_t4_loop.trips, ∀ a, (k1_off59 k1_t4) a + S1x16.size a ≤ S3x1920.size a := by decide +kernel
theorem k1_off60_inb : ∀ k1_t4 : Fin k1_t4_loop.trips, ∀ a, (k1_off60 k1_t4) a + S1x16.size a ≤ S3x1920.size a := by decide +kernel
theorem k1_off61_inb : ∀ k1_t4 : Fin k1_t4_loop.trips, ∀ a, (k1_off61 k1_t4) a + S1x16.size a ≤ S3x1920.size a := by decide +kernel
theorem k1_off62_inb : ∀ k1_t4 : Fin k1_t4_loop.trips, ∀ a, (k1_off62 k1_t4) a + S1x16.size a ≤ S3x1920.size a := by decide +kernel
theorem k1_off63_inb : ∀ k1_t4 : Fin k1_t4_loop.trips, ∀ a, (k1_off63 k1_t4) a + S1x16.size a ≤ S3x1920.size a := by decide +kernel
theorem k1_off64_inb : ∀ k1_t4 : Fin k1_t4_loop.trips, ∀ a, (k1_off64 k1_t4) a + S1x16.size a ≤ S3x1920.size a := by decide +kernel
theorem k1_off65_inb : ∀ k1_t4 : Fin k1_t4_loop.trips, ∀ a, (k1_off65 k1_t4) a + S1x16.size a ≤ S3x1920.size a := by decide +kernel
theorem k1_off66_inb : ∀ k1_t4 : Fin k1_t4_loop.trips, ∀ a, (k1_off66 k1_t4) a + S1x16.size a ≤ S3x1920.size a := by decide +kernel
theorem k1_off67_inb : ∀ k1_t4 : Fin k1_t4_loop.trips, ∀ a, (k1_off67 k1_t4) a + S1x16.size a ≤ S3x1920.size a := by decide +kernel
theorem k1_off68_inb : ∀ k1_t4 : Fin k1_t4_loop.trips, ∀ a, (k1_off68 k1_t4) a + S1x16.size a ≤ S3x1920.size a := by decide +kernel
theorem k1_off69_inb : ∀ k1_t4 : Fin k1_t4_loop.trips, ∀ a, (k1_off69 k1_t4) a + S1x16.size a ≤ S3x1920.size a := by decide +kernel
theorem k1_off70_inb : ∀ k1_t4 : Fin k1_t4_loop.trips, ∀ a, (k1_off70 k1_t4) a + S1x16.size a ≤ S3x1920.size a := by decide +kernel
theorem k1_off71_inb : ∀ k1_t4 : Fin k1_t4_loop.trips, ∀ a, (k1_off71 k1_t4) a + S1x16.size a ≤ S3x1920.size a := by decide +kernel
theorem k1_off72_inb : ∀ k1_t4 : Fin k1_t4_loop.trips, ∀ a, (k1_off72 k1_t4) a + S1x16.size a ≤ S3x1920.size a := by decide +kernel
theorem k1_off73_inb : ∀ k1_t4 : Fin k1_t4_loop.trips, ∀ a, (k1_off73 k1_t4) a + S1x16.size a ≤ S3x1920.size a := by decide +kernel
theorem k1_off74_inb : ∀ k1_t4 : Fin k1_t4_loop.trips, ∀ a, (k1_off74 k1_t4) a + S1x16.size a ≤ S3x1920.size a := by decide +kernel
theorem k1_off75_inb : ∀ k1_t4 : Fin k1_t4_loop.trips, ∀ a, (k1_off75 k1_t4) a + S1x16.size a ≤ S3x1920.size a := by decide +kernel
theorem k1_off76_inb : ∀ k1_t4 : Fin k1_t4_loop.trips, ∀ a, (k1_off76 k1_t4) a + S1x16.size a ≤ S3x1920.size a := by decide +kernel
theorem k1_off77_inb : ∀ k1_t4 : Fin k1_t4_loop.trips, ∀ a, (k1_off77 k1_t4) a + S1x16.size a ≤ S3x1920.size a := by decide +kernel
theorem k1_off78_inb : ∀ k1_t4 : Fin k1_t4_loop.trips, ∀ a, (k1_off78 k1_t4) a + S1x16.size a ≤ S3x1920.size a := by decide +kernel
theorem k1_off79_inb : ∀ k1_t4 : Fin k1_t4_loop.trips, ∀ a, (k1_off79 k1_t4) a + S1x16.size a ≤ S3x1920.size a := by decide +kernel
theorem k1_off80_inb : ∀ i : grid1.Coords, ∀ a, (k1_off80 i) a + S3x1920.size a ≤ S3x800000.size a := by decide +kernel
theorem k1_off81_inb : ∀ i : grid1.Coords, ∀ (k1_h3 : k1_cond3 i = 1#1), ∀ a, (k1_off81 i) a + S8x128.size a ≤ S50000x128.size a := by decide +kernel
theorem k1_off82_inb : ∀ i : grid1.Coords, ∀ (k1_h3 : k1_cond3 i = 1#1), ∀ a, k1_off82 a + S1x16.size a ≤ S3x1920.size a := by decide +kernel
theorem k1_off83_inb : ∀ i : grid1.Coords, ∀ (k1_h3 : k1_cond3 i = 1#1), ∀ a, k1_off83 a + S1x16.size a ≤ S3x1920.size a := by decide +kernel
theorem k1_off84_inb : ∀ i : grid1.Coords, ∀ (k1_h3 : k1_cond3 i = 1#1), ∀ a, k1_off84 a + S1x16.size a ≤ S3x1920.size a := by decide +kernel
theorem k1_off85_inb : ∀ i : grid1.Coords, ∀ (k1_h3 : k1_cond3 i = 1#1), ∀ a, k1_off85 a + S1x16.size a ≤ S3x1920.size a := by decide +kernel
theorem k1_off86_inb : ∀ i : grid1.Coords, ∀ (k1_h3 : k1_cond3 i = 1#1), ∀ a, k1_off86 a + S1x16.size a ≤ S3x1920.size a := by decide +kernel
theorem k1_off87_inb : ∀ i : grid1.Coords, ∀ (k1_h3 : k1_cond3 i = 1#1), ∀ a, k1_off87 a + S1x16.size a ≤ S3x1920.size a := by decide +kernel
theorem k1_off88_inb : ∀ i : grid1.Coords, ∀ (k1_h3 : k1_cond3 i = 1#1), ∀ a, k1_off88 a + S1x16.size a ≤ S3x1920.size a := by decide +kernel
theorem k1_off89_inb : ∀ i : grid1.Coords, ∀ (k1_h3 : k1_cond3 i = 1#1), ∀ a, k1_off89 a + S1x16.size a ≤ S3x1920.size a := by decide +kernel
theorem k1_off90_inb : ∀ i : grid1.Coords, ∀ (k1_h3 : k1_cond3 i = 1#1), ∀ a, k1_off90 a + S1x16.size a ≤ S3x1920.size a := by decide +kernel
theorem k1_off91_inb : ∀ i : grid1.Coords, ∀ (k1_h3 : k1_cond3 i = 1#1), ∀ a, k1_off91 a + S1x16.size a ≤ S3x1920.size a := by decide +kernel
theorem k1_off92_inb : ∀ i : grid1.Coords, ∀ (k1_h3 : k1_cond3 i = 1#1), ∀ a, k1_off92 a + S1x16.size a ≤ S3x1920.size a := by decide +kernel
theorem k1_off93_inb : ∀ i : grid1.Coords, ∀ (k1_h3 : k1_cond3 i = 1#1), ∀ a, k1_off93 a + S1x16.size a ≤ S3x1920.size a := by decide +kernel
theorem k1_off94_inb : ∀ i : grid1.Coords, ∀ (k1_h3 : k1_cond3 i = 1#1), ∀ a, k1_off94 a + S1x16.size a ≤ S3x1920.size a := by decide +kernel
theorem k1_off95_inb : ∀ i : grid1.Coords, ∀ (k1_h3 : k1_cond3 i = 1#1), ∀ a, k1_off95 a + S1x16.size a ≤ S3x1920.size a := by decide +kernel
theorem k1_off96_inb : ∀ i : grid1.Coords, ∀ (k1_h3 : k1_cond3 i = 1#1), ∀ a, k1_off96 a + S1x16.size a ≤ S3x1920.size a := by decide +kernel
theorem k1_off97_inb : ∀ i : grid1.Coords, ∀ (k1_h3 : k1_cond3 i = 1#1), ∀ a, k1_off97 a + S1x16.size a ≤ S3x1920.size a := by decide +kernel
theorem k1_off98_inb : ∀ i : grid1.Coords, ∀ (k1_h3 : k1_cond3 i = 1#1), ∀ a, k1_off98 a + S1x16.size a ≤ S3x1920.size a := by decide +kernel
theorem k1_off99_inb : ∀ i : grid1.Coords, ∀ (k1_h3 : k1_cond3 i = 1#1), ∀ a, k1_off99 a + S1x16.size a ≤ S3x1920.size a := by decide +kernel
theorem k1_off100_inb : ∀ i : grid1.Coords, ∀ (k1_h3 : k1_cond3 i = 1#1), ∀ a, k1_off100 a + S1x16.size a ≤ S3x1920.size a := by decide +kernel
theorem k1_off101_inb : ∀ i : grid1.Coords, ∀ (k1_h3 : k1_cond3 i = 1#1), ∀ a, k1_off101 a + S1x16.size a ≤ S3x1920.size a := by decide +kernel
theorem k1_off102_inb : ∀ i : grid1.Coords, ∀ (k1_h3 : k1_cond3 i = 1#1), ∀ a, k1_off102 a + S1x16.size a ≤ S3x1920.size a := by decide +kernel
theorem k1_off103_inb : ∀ i : grid1.Coords, ∀ (k1_h3 : k1_cond3 i = 1#1), ∀ a, k1_off103 a + S1x16.size a ≤ S3x1920.size a := by decide +kernel
theorem k1_off104_inb : ∀ i : grid1.Coords, ∀ (k1_h3 : k1_cond3 i = 1#1), ∀ a, k1_off104 a + S1x16.size a ≤ S3x1920.size a := by decide +kernel
theorem k1_off105_inb : ∀ i : grid1.Coords, ∀ (k1_h3 : k1_cond3 i = 1#1), ∀ a, k1_off105 a + S1x16.size a ≤ S3x1920.size a := by decide +kernel
theorem k1_off106_inb : ∀ i : grid1.Coords, ∀ (k1_h3 : k1_cond3 i = 1#1), ∀ a, (k1_off106 i) a + S3x128.size a ≤ S3x800000.size a := by decide +kernel
theorem k1_mult1_dvd : ∀ i : grid1.Coords, 8 ∣ (k1_mult1 i).toNat := by decide +kernel
theorem k1_off107_inb : ∀ i : grid1.Coords, ∀ a, (k1_off107 i) a + S3136.size a ≤ S100000.size a := by decide +kernel
theorem k1_t5_abs : k1_t5_loop.OK ∧ k1_t5_loop.trips ≤ 625 ∧ k1_t5_loop.ub.toInt ≤ 625 := by
  have h_c0_i32_60 : Affine.IsInt 0#32 (0) := Affine.ofNat _ (by omega)
  have h_c625_i32 : Affine.IsInt 625#32 (625) := Affine.ofNat _ (by omega)
  have h_v130 : Affine.IsInt _ (625) := Affine.addi h_c0_i32_60 h_c625_i32 (by omega)
  have h_c1_i32_61 : Affine.IsInt 1#32 (1) := Affine.ofNat _ (by omega)
  exact ⟨Affine.ok h_c0_i32_60 h_v130 h_c1_i32_61 (by omega), Affine.trips_le h_c0_i32_60 h_v130 h_c1_i32_61 _ (by omega), Affine.le_of h_v130 _ (by omega)⟩
theorem k1_t5_ok : k1_t5_loop.OK := k1_t5_abs.1
theorem k1_off108_inb : ∀ k1_t5 : Fin k1_t5_loop.trips, ∀ a, (k1_off108 k1_t5) a + S16.size a ≤ S50000.size a := by decide +kernel
theorem k1_off109_inb : ∀ k1_t5 : Fin k1_t5_loop.trips, ∀ a, (k1_off109 k1_t5) a + S16.size a ≤ S50000.size a := by decide +kernel
theorem k1_off110_inb : ∀ k1_t5 : Fin k1_t5_loop.trips, ∀ a, (k1_off110 k1_t5) a + S16.size a ≤ S50000.size a := by decide +kernel
theorem k1_off111_inb : ∀ k1_t5 : Fin k1_t5_loop.trips, ∀ a, (k1_off111 k1_t5) a + S16.size a ≤ S50000.size a := by decide +kernel
theorem k1_off112_inb : ∀ k1_t5 : Fin k1_t5_loop.trips, ∀ a, (k1_off112 k1_t5) a + S16.size a ≤ S50000.size a := by decide +kernel
theorem k1_off113_inb : ∀ i : grid1.Coords, ∀ a, (k1_off113 i) a + S50000.size a ≤ S1600000.size a := by decide +kernel
theorem hrank2 : 0 < grid2.rank := by decide
theorem hstage2_0 : ∀ j, (stage2_0 j).IsWhole := fun | 0 => Memref.isWhole_whole _ | 1 => Memref.isWhole_whole _ | ⟨_ + 2, h⟩ => absurd h (Nat.not_lt.2 (Nat.le_add_left _ _))
theorem nbuf2_0 : grid2.bufCount reads2_0 false = 2 := by decide
theorem hreads2_0 : ∀ i i' : grid2.Coords, (∀ a, reads2_0 a = true → i a = i' a) → cc2_transform_0 i = cc2_transform_0 i' := fun i i' h => by unfold cc2_transform_0; rw [h 0 rfl]
theorem hinb2_0 : ∀ (i : grid2.Coords) a, (cc2_transform_0 i a + 1) * S2000x512.size a ≤ S100000x512.size a := by decide +kernel
theorem hwx2_0 : ∀ i : grid2.Coords, EltTy.bits .f32 = 32 ∨ (Rect.block (s := S100000x512) S2000x512.size (cc2_transform_0 i) (hinb2_0 i)).WholeWords (EltTy.packing .f32) := fun _ => .inl rfl
theorem hstage2_1 : ∀ j, (stage2_1 j).IsWhole := fun | 0 => Memref.isWhole_whole _ | 1 => Memref.isWhole_whole _ | ⟨_ + 2, h⟩ => absurd h (Nat.not_lt.2 (Nat.le_add_left _ _))
theorem nbuf2_1 : grid2.bufCount reads2_1 false = 2 := by decide
theorem hreads2_1 : ∀ i i' : grid2.Coords, (∀ a, reads2_1 a = true → i a = i' a) → cc2_transform_1 i = cc2_transform_1 i' := fun i i' h => by unfold cc2_transform_1; rw [h 0 rfl]
theorem hinb2_1 : ∀ (i : grid2.Coords) a, (cc2_transform_1 i a + 1) * S2000x3.size a ≤ S100000x3.size a := by decide +kernel
theorem hwx2_1 : ∀ i : grid2.Coords, EltTy.bits .f32 = 32 ∨ (Rect.block (s := S100000x3) S2000x3.size (cc2_transform_1 i) (hinb2_1 i)).WholeWords (EltTy.packing .f32) := fun _ => .inl rfl
theorem hstage2_2 : ∀ j, (stage2_2 j).IsWhole := fun | 0 => Memref.isWhole_whole _ | ⟨_ + 1, h⟩ => absurd h (Nat.not_lt.2 (Nat.le_add_left _ _))
theorem nbuf2_2 : grid2.bufCount reads2_2 true = 1 := by decide
theorem hreads2_2 : ∀ i i' : grid2.Coords, (∀ a, reads2_2 a = true → i a = i' a) → cc2_transform_2 i = cc2_transform_2 i' := fun _ _ _ => rfl
theorem hinb2_2 : ∀ (i : grid2.Coords) a, (cc2_transform_2 i a + 1) * S512x48.size a ≤ S512x48.size a := by decide +kernel
theorem hwx2_2 : ∀ i : grid2.Coords, EltTy.bits .bf16 = 32 ∨ (Rect.block (s := S512x48) S512x48.size (cc2_transform_2 i) (hinb2_2 i)).WholeWords (EltTy.packing .bf16) := fun _ => .inr (Affine.block_words_dvd (of_decide_eq_true rfl) (by decide))
theorem hstage2_3 : ∀ j, (stage2_3 j).IsWhole := fun | 0 => Memref.isWhole_whole _ | ⟨_ + 1, h⟩ => absurd h (Nat.not_lt.2 (Nat.le_add_left _ _))
theorem nbuf2_3 : grid2.bufCount reads2_3 true = 1 := by decide
theorem hreads2_3 : ∀ i i' : grid2.Coords, (∀ a, reads2_3 a = true → i a = i' a) → cc2_transform_3 i = cc2_transform_3 i' := fun _ _ _ => rfl
theorem hinb2_3 : ∀ (i : grid2.Coords) a, (cc2_transform_3 i a + 1) * S1x48.size a ≤ S1x48.size a := by decide +kernel
theorem hwx2_3 : ∀ i : grid2.Coords, EltTy.bits .f32 = 32 ∨ (Rect.block (s := S1x48) S1x48.size (cc2_transform_3 i) (hinb2_3 i)).WholeWords (EltTy.packing .f32) := fun _ => .inl rfl
theorem hstage2_4 : ∀ j, (stage2_4 j).IsWhole := fun | 0 => Memref.isWhole_whole _ | 1 => Memref.isWhole_whole _ | ⟨_ + 2, h⟩ => absurd h (Nat.not_lt.2 (Nat.le_add_left _ _))
theorem nbuf2_4 : grid2.bufCount reads2_4 false = 2 := by decide
theorem hreads2_4 : ∀ i i' : grid2.Coords, (∀ a, reads2_4 a = true → i a = i' a) → cc2_transform_4 i = cc2_transform_4 i' := fun i i' h => by unfold cc2_transform_4; rw [h 0 rfl]
theorem hinb2_4 : ∀ (i : grid2.Coords) a, (cc2_transform_4 i a + 1) * S2000x128.size a ≤ S50000x128.size a := by decide +kernel
theorem hwx2_4 : ∀ i : grid2.Coords, EltTy.bits .f32 = 32 ∨ (Rect.block (s := S50000x128) S2000x128.size (cc2_transform_4 i) (hinb2_4 i)).WholeWords (EltTy.packing .f32) := fun _ => .inl rfl
theorem hcore3 : grid3.bound 0 ≤ τ.nSC := by decide
theorem hsub3 : grid3.bound 1 ≤ τ.nSub := by decide
theorem k3_off1_inb : ∀ i : grid3.Coords, ∀ (r : Fin 2), ∀ a, (k3_off1 i (BitVec.ofNat 32 (120 * r.val))) a + S120x128.size a ≤ S50000x128.size a := by decide +kernel
theorem k3_t1_abs : k3_t1_loop.OK ∧ k3_t1_loop.trips ≤ 6 ∧ k3_t1_loop.ub.toInt ≤ 6 := by
  have h_c0_i32_39 : Affine.IsInt 0#32 (0) := Affine.ofNat _ (by omega)
  have h_c6_i32 : Affine.IsInt 6#32 (6) := Affine.ofNat _ (by omega)
  have h_v96 : Affine.IsInt _ (6) := Affine.addi h_c0_i32_39 h_c6_i32 (by omega)
  have h_c1_i32_40 : Affine.IsInt 1#32 (1) := Affine.ofNat _ (by omega)
  exact ⟨Affine.ok h_c0_i32_39 h_v96 h_c1_i32_40 (by omega), Affine.trips_le h_c0_i32_39 h_v96 h_c1_i32_40 _ (by omega), Affine.le_of h_v96 _ (by omega)⟩
theorem k3_t1_ok : k3_t1_loop.OK := k3_t1_abs.1
theorem k3_off2_inb : ∀ (i : grid3.Coords) (k3_t1 : Fin k3_t1_loop.trips), ∀ a, (k3_off2 i k3_t1) a + S120x128.size a ≤ S50000x128.size a := by decide +kernel
theorem k3_t2_abs : k3_t2_loop.OK ∧ k3_t2_loop.trips ≤ 15 ∧ k3_t2_loop.ub.toInt ≤ 15 := by
  have h_c0_i32_58 : Affine.IsInt 0#32 (0) := Affine.ofNat _ (by omega)
  have h_c15_i32_59 : Affine.IsInt 15#32 (15) := Affine.ofNat _ (by omega)
  have h_v116 : Affine.IsInt _ (15) := Affine.addi h_c0_i32_58 h_c15_i32_59 (by omega)
  have h_c1_i32_60 : Affine.IsInt 1#32 (1) := Affine.ofNat _ (by omega)
  exact ⟨Affine.ok h_c0_i32_58 h_v116 h_c1_i32_60 (by omega), Affine.trips_le h_c0_i32_58 h_v116 h_c1_i32_60 _ (by omega), Affine.le_of h_v116 _ (by omega)⟩
theorem k3_t2_ok : k3_t2_loop.OK := k3_t2_abs.1
theorem k3_off3_inb : ∀ k3_t2 : Fin k3_t2_loop.trips, ∀ a, (k3_off3 k3_t2) a + S1x16.size a ≤ S3x1920.size a := by decide +kernel
theorem k3_off4_inb : ∀ k3_t2 : Fin k3_t2_loop.trips, ∀ a, (k3_off4 k3_t2) a + S1x16.size a ≤ S3x1920.size a := by decide +kernel
theorem k3_off5_inb : ∀ k3_t2 : Fin k3_t2_loop.trips, ∀ a, (k3_off5 k3_t2) a + S1x16.size a ≤ S3x1920.size a := by decide +kernel
theorem k3_off6_inb : ∀ k3_t2 : Fin k3_t2_loop.trips, ∀ a, (k3_off6 k3_t2) a + S1x16.size a ≤ S3x1920.size a := by decide +kernel
theorem k3_off7_inb : ∀ k3_t2 : Fin k3_t2_loop.trips, ∀ a, (k3_off7 k3_t2) a + S1x16.size a ≤ S3x1920.size a := by decide +kernel
theorem k3_off8_inb : ∀ k3_t2 : Fin k3_t2_loop.trips, ∀ a, (k3_off8 k3_t2) a + S1x16.size a ≤ S3x1920.size a := by decide +kernel
theorem k3_off9_inb : ∀ k3_t2 : Fin k3_t2_loop.trips, ∀ a, (k3_off9 k3_t2) a + S1x16.size a ≤ S3x1920.size a := by decide +kernel
theorem k3_off10_inb : ∀ k3_t2 : Fin k3_t2_loop.trips, ∀ a, (k3_off10 k3_t2) a + S1x16.size a ≤ S3x1920.size a := by decide +kernel
theorem k3_off11_inb : ∀ k3_t2 : Fin k3_t2_loop.trips, ∀ a, (k3_off11 k3_t2) a + S1x16.size a ≤ S3x1920.size a := by decide +kernel
theorem k3_off12_inb : ∀ k3_t2 : Fin k3_t2_loop.trips, ∀ a, (k3_off12 k3_t2) a + S1x16.size a ≤ S3x1920.size a := by decide +kernel
theorem k3_off13_inb : ∀ k3_t2 : Fin k3_t2_loop.trips, ∀ a, (k3_off13 k3_t2) a + S1x16.size a ≤ S3x1920.size a := by decide +kernel
theorem k3_off14_inb : ∀ k3_t2 : Fin k3_t2_loop.trips, ∀ a, (k3_off14 k3_t2) a + S1x16.size a ≤ S3x1920.size a := by decide +kernel
theorem k3_off15_inb : ∀ k3_t2 : Fin k3_t2_loop.trips, ∀ a, (k3_off15 k3_t2) a + S1x16.size a ≤ S3x1920.size a := by decide +kernel
theorem k3_off16_inb : ∀ k3_t2 : Fin k3_t2_loop.trips, ∀ a, (k3_off16 k3_t2) a + S1x16.size a ≤ S3x1920.size a := by decide +kernel
theorem k3_off17_inb : ∀ k3_t2 : Fin k3_t2_loop.trips, ∀ a, (k3_off17 k3_t2) a + S1x16.size a ≤ S3x1920.size a := by decide +kernel
theorem k3_off18_inb : ∀ k3_t2 : Fin k3_t2_loop.trips, ∀ a, (k3_off18 k3_t2) a + S1x16.size a ≤ S3x1920.size a := by decide +kernel
theorem k3_off19_inb : ∀ k3_t2 : Fin k3_t2_loop.trips, ∀ a, (k3_off19 k3_t2) a + S1x16.size a ≤ S3x1920.size a := by decide +kernel
theorem k3_off20_inb : ∀ k3_t2 : Fin k3_t2_loop.trips, ∀ a, (k3_off20 k3_t2) a + S1x16.size a ≤ S3x1920.size a := by decide +kernel
theorem k3_off21_inb : ∀ k3_t2 : Fin k3_t2_loop.trips, ∀ a, (k3_off21 k3_t2) a + S1x16.size a ≤ S3x1920.size a := by decide +kernel
theorem k3_off22_inb : ∀ k3_t2 : Fin k3_t2_loop.trips, ∀ a, (k3_off22 k3_t2) a + S1x16.size a ≤ S3x1920.size a := by decide +kernel
theorem k3_off23_inb : ∀ k3_t2 : Fin k3_t2_loop.trips, ∀ a, (k3_off23 k3_t2) a + S1x16.size a ≤ S3x1920.size a := by decide +kernel
theorem k3_off24_inb : ∀ k3_t2 : Fin k3_t2_loop.trips, ∀ a, (k3_off24 k3_t2) a + S1x16.size a ≤ S3x1920.size a := by decide +kernel
theorem k3_off25_inb : ∀ k3_t2 : Fin k3_t2_loop.trips, ∀ a, (k3_off25 k3_t2) a + S1x16.size a ≤ S3x1920.size a := by decide +kernel
theorem k3_off26_inb : ∀ k3_t2 : Fin k3_t2_loop.trips, ∀ a, (k3_off26 k3_t2) a + S1x16.size a ≤ S3x1920.size a := by decide +kernel
theorem k3_off27_inb : ∀ (i : grid3.Coords) (k3_t1 : Fin k3_t1_loop.trips), ∀ (r : Fin 2), ∀ a, (k3_off27 i k3_t1 (BitVec.ofNat 32 r.val)) a + S3x1920.size a ≤ S3x800000.size a := by decide +kernel
theorem k3_off28_inb : ∀ (i : grid3.Coords) (k3_t1 : Fin k3_t1_loop.trips), ∀ (k3_h1 : k3_cond1 k3_t1 = 1#1), ∀ a, (k3_off28 i k3_t1) a + S120x128.size a ≤ S50000x128.size a := by decide +kernel
theorem k3_off29_inb : ∀ (i : grid3.Coords) (k3_t1 : Fin k3_t1_loop.trips), ∀ a, (k3_off29 i k3_t1) a + S120x128.size a ≤ S50000x128.size a := by decide +kernel
theorem k3_t3_abs : k3_t3_loop.OK ∧ k3_t3_loop.trips ≤ 15 ∧ k3_t3_loop.ub.toInt ≤ 15 := by
  have h_c0_i32_72 : Affine.IsInt 0#32 (0) := Affine.ofNat _ (by omega)
  have h_c15_i32_73 : Affine.IsInt 15#32 (15) := Affine.ofNat _ (by omega)
  have h_v130 : Affine.IsInt _ (15) := Affine.addi h_c0_i32_72 h_c15_i32_73 (by omega)
  have h_c1_i32_74 : Affine.IsInt 1#32 (1) := Affine.ofNat _ (by omega)
  exact ⟨Affine.ok h_c0_i32_72 h_v130 h_c1_i32_74 (by omega), Affine.trips_le h_c0_i32_72 h_v130 h_c1_i32_74 _ (by omega), Affine.le_of h_v130 _ (by omega)⟩
theorem k3_t3_ok : k3_t3_loop.OK := k3_t3_abs.1
theorem k3_off30_inb : ∀ k3_t3 : Fin k3_t3_loop.trips, ∀ a, (k3_off30 k3_t3) a + S1x16.size a ≤ S3x1920.size a := by decide +kernel
theorem k3_off31_inb : ∀ k3_t3 : Fin k3_t3_loop.trips, ∀ a, (k3_off31 k3_t3) a + S1x16.size a ≤ S3x1920.size a := by decide +kernel
theorem k3_off32_inb : ∀ k3_t3 : Fin k3_t3_loop.trips, ∀ a, (k3_off32 k3_t3) a + S1x16.size a ≤ S3x1920.size a := by decide +kernel
theorem k3_off33_inb : ∀ k3_t3 : Fin k3_t3_loop.trips, ∀ a, (k3_off33 k3_t3) a + S1x16.size a ≤ S3x1920.size a := by decide +kernel
theorem k3_off34_inb : ∀ k3_t3 : Fin k3_t3_loop.trips, ∀ a, (k3_off34 k3_t3) a + S1x16.size a ≤ S3x1920.size a := by decide +kernel
theorem k3_off35_inb : ∀ k3_t3 : Fin k3_t3_loop.trips, ∀ a, (k3_off35 k3_t3) a + S1x16.size a ≤ S3x1920.size a := by decide +kernel
theorem k3_off36_inb : ∀ k3_t3 : Fin k3_t3_loop.trips, ∀ a, (k3_off36 k3_t3) a + S1x16.size a ≤ S3x1920.size a := by decide +kernel
theorem k3_off37_inb : ∀ k3_t3 : Fin k3_t3_loop.trips, ∀ a, (k3_off37 k3_t3) a + S1x16.size a ≤ S3x1920.size a := by decide +kernel
theorem k3_off38_inb : ∀ k3_t3 : Fin k3_t3_loop.trips, ∀ a, (k3_off38 k3_t3) a + S1x16.size a ≤ S3x1920.size a := by decide +kernel
theorem k3_off39_inb : ∀ k3_t3 : Fin k3_t3_loop.trips, ∀ a, (k3_off39 k3_t3) a + S1x16.size a ≤ S3x1920.size a := by decide +kernel
theorem k3_off40_inb : ∀ k3_t3 : Fin k3_t3_loop.trips, ∀ a, (k3_off40 k3_t3) a + S1x16.size a ≤ S3x1920.size a := by decide +kernel
theorem k3_off41_inb : ∀ k3_t3 : Fin k3_t3_loop.trips, ∀ a, (k3_off41 k3_t3) a + S1x16.size a ≤ S3x1920.size a := by decide +kernel
theorem k3_off42_inb : ∀ k3_t3 : Fin k3_t3_loop.trips, ∀ a, (k3_off42 k3_t3) a + S1x16.size a ≤ S3x1920.size a := by decide +kernel
theorem k3_off43_inb : ∀ k3_t3 : Fin k3_t3_loop.trips, ∀ a, (k3_off43 k3_t3) a + S1x16.size a ≤ S3x1920.size a := by decide +kernel
theorem k3_off44_inb : ∀ k3_t3 : Fin k3_t3_loop.trips, ∀ a, (k3_off44 k3_t3) a + S1x16.size a ≤ S3x1920.size a := by decide +kernel
theorem k3_off45_inb : ∀ k3_t3 : Fin k3_t3_loop.trips, ∀ a, (k3_off45 k3_t3) a + S1x16.size a ≤ S3x1920.size a := by decide +kernel
theorem k3_off46_inb : ∀ k3_t3 : Fin k3_t3_loop.trips, ∀ a, (k3_off46 k3_t3) a + S1x16.size a ≤ S3x1920.size a := by decide +kernel
theorem k3_off47_inb : ∀ k3_t3 : Fin k3_t3_loop.trips, ∀ a, (k3_off47 k3_t3) a + S1x16.size a ≤ S3x1920.size a := by decide +kernel
theorem k3_off48_inb : ∀ k3_t3 : Fin k3_t3_loop.trips, ∀ a, (k3_off48 k3_t3) a + S1x16.size a ≤ S3x1920.size a := by decide +kernel
theorem k3_off49_inb : ∀ k3_t3 : Fin k3_t3_loop.trips, ∀ a, (k3_off49 k3_t3) a + S1x16.size a ≤ S3x1920.size a := by decide +kernel
theorem k3_off50_inb : ∀ k3_t3 : Fin k3_t3_loop.trips, ∀ a, (k3_off50 k3_t3) a + S1x16.size a ≤ S3x1920.size a := by decide +kernel
theorem k3_off51_inb : ∀ k3_t3 : Fin k3_t3_loop.trips, ∀ a, (k3_off51 k3_t3) a + S1x16.size a ≤ S3x1920.size a := by decide +kernel
theorem k3_off52_inb : ∀ k3_t3 : Fin k3_t3_loop.trips, ∀ a, (k3_off52 k3_t3) a + S1x16.size a ≤ S3x1920.size a := by decide +kernel
theorem k3_off53_inb : ∀ k3_t3 : Fin k3_t3_loop.trips, ∀ a, (k3_off53 k3_t3) a + S1x16.size a ≤ S3x1920.size a := by decide +kernel
theorem k3_off54_inb : ∀ (i : grid3.Coords) (k3_t1 : Fin k3_t1_loop.trips), ∀ (k3_h2 : k3_cond2 k3_t1 = 1#1), ∀ a, (k3_off54 i k3_t1) a + S120x128.size a ≤ S50000x128.size a := by decide +kernel
theorem k3_off55_inb : ∀ i : grid3.Coords, ∀ a, (k3_off55 i) a + S120x128.size a ≤ S50000x128.size a := by decide +kernel
theorem k3_t4_abs : k3_t4_loop.OK ∧ k3_t4_loop.trips ≤ 15 ∧ k3_t4_loop.ub.toInt ≤ 15 := by
  have h_c0_i32_46 : Affine.IsInt 0#32 (0) := Affine.ofNat _ (by omega)
  have h_c15_i32 : Affine.IsInt 15#32 (15) := Affine.ofNat _ (by omega)
  have h_v101 : Affine.IsInt _ (15) := Affine.addi h_c0_i32_46 h_c15_i32 (by omega)
  have h_c1_i32_47 : Affine.IsInt 1#32 (1) := Affine.ofNat _ (by omega)
  exact ⟨Affine.ok h_c0_i32_46 h_v101 h_c1_i32_47 (by omega), Affine.trips_le h_c0_i32_46 h_v101 h_c1_i32_47 _ (by omega), Affine.le_of h_v101 _ (by omega)⟩
theorem k3_t4_ok : k3_t4_loop.OK := k3_t4_abs.1
theorem k3_off56_inb : ∀ k3_t4 : Fin k3_t4_loop.trips, ∀ a, (k3_off56 k3_t4) a + S1x16.size a ≤ S3x1920.size a := by decide +kernel
theorem k3_off57_inb : ∀ k3_t4 : Fin k3_t4_loop.trips, ∀ a, (k3_off57 k3_t4) a + S1x16.size a ≤ S3x1920.size a := by decide +kernel
theorem k3_off58_inb : ∀ k3_t4 : Fin k3_t4_loop.trips, ∀ a, (k3_off58 k3_t4) a + S1x16.size a ≤ S3x1920.size a := by decide +kernel
theorem k3_off59_inb : ∀ k3_t4 : Fin k3_t4_loop.trips, ∀ a, (k3_off59 k3_t4) a + S1x16.size a ≤ S3x1920.size a := by decide +kernel
theorem k3_off60_inb : ∀ k3_t4 : Fin k3_t4_loop.trips, ∀ a, (k3_off60 k3_t4) a + S1x16.size a ≤ S3x1920.size a := by decide +kernel
theorem k3_off61_inb : ∀ k3_t4 : Fin k3_t4_loop.trips, ∀ a, (k3_off61 k3_t4) a + S1x16.size a ≤ S3x1920.size a := by decide +kernel
theorem k3_off62_inb : ∀ k3_t4 : Fin k3_t4_loop.trips, ∀ a, (k3_off62 k3_t4) a + S1x16.size a ≤ S3x1920.size a := by decide +kernel
theorem k3_off63_inb : ∀ k3_t4 : Fin k3_t4_loop.trips, ∀ a, (k3_off63 k3_t4) a + S1x16.size a ≤ S3x1920.size a := by decide +kernel
theorem k3_off64_inb : ∀ k3_t4 : Fin k3_t4_loop.trips, ∀ a, (k3_off64 k3_t4) a + S1x16.size a ≤ S3x1920.size a := by decide +kernel
theorem k3_off65_inb : ∀ k3_t4 : Fin k3_t4_loop.trips, ∀ a, (k3_off65 k3_t4) a + S1x16.size a ≤ S3x1920.size a := by decide +kernel
theorem k3_off66_inb : ∀ k3_t4 : Fin k3_t4_loop.trips, ∀ a, (k3_off66 k3_t4) a + S1x16.size a ≤ S3x1920.size a := by decide +kernel
theorem k3_off67_inb : ∀ k3_t4 : Fin k3_t4_loop.trips, ∀ a, (k3_off67 k3_t4) a + S1x16.size a ≤ S3x1920.size a := by decide +kernel
theorem k3_off68_inb : ∀ k3_t4 : Fin k3_t4_loop.trips, ∀ a, (k3_off68 k3_t4) a + S1x16.size a ≤ S3x1920.size a := by decide +kernel
theorem k3_off69_inb : ∀ k3_t4 : Fin k3_t4_loop.trips, ∀ a, (k3_off69 k3_t4) a + S1x16.size a ≤ S3x1920.size a := by decide +kernel
theorem k3_off70_inb : ∀ k3_t4 : Fin k3_t4_loop.trips, ∀ a, (k3_off70 k3_t4) a + S1x16.size a ≤ S3x1920.size a := by decide +kernel
theorem k3_off71_inb : ∀ k3_t4 : Fin k3_t4_loop.trips, ∀ a, (k3_off71 k3_t4) a + S1x16.size a ≤ S3x1920.size a := by decide +kernel
theorem k3_off72_inb : ∀ k3_t4 : Fin k3_t4_loop.trips, ∀ a, (k3_off72 k3_t4) a + S1x16.size a ≤ S3x1920.size a := by decide +kernel
theorem k3_off73_inb : ∀ k3_t4 : Fin k3_t4_loop.trips, ∀ a, (k3_off73 k3_t4) a + S1x16.size a ≤ S3x1920.size a := by decide +kernel
theorem k3_off74_inb : ∀ k3_t4 : Fin k3_t4_loop.trips, ∀ a, (k3_off74 k3_t4) a + S1x16.size a ≤ S3x1920.size a := by decide +kernel
theorem k3_off75_inb : ∀ k3_t4 : Fin k3_t4_loop.trips, ∀ a, (k3_off75 k3_t4) a + S1x16.size a ≤ S3x1920.size a := by decide +kernel
theorem k3_off76_inb : ∀ k3_t4 : Fin k3_t4_loop.trips, ∀ a, (k3_off76 k3_t4) a + S1x16.size a ≤ S3x1920.size a := by decide +kernel
theorem k3_off77_inb : ∀ k3_t4 : Fin k3_t4_loop.trips, ∀ a, (k3_off77 k3_t4) a + S1x16.size a ≤ S3x1920.size a := by decide +kernel
theorem k3_off78_inb : ∀ k3_t4 : Fin k3_t4_loop.trips, ∀ a, (k3_off78 k3_t4) a + S1x16.size a ≤ S3x1920.size a := by decide +kernel
theorem k3_off79_inb : ∀ k3_t4 : Fin k3_t4_loop.trips, ∀ a, (k3_off79 k3_t4) a + S1x16.size a ≤ S3x1920.size a := by decide +kernel
theorem k3_off80_inb : ∀ i : grid3.Coords, ∀ a, (k3_off80 i) a + S3x1920.size a ≤ S3x800000.size a := by decide +kernel
theorem k3_off81_inb : ∀ i : grid3.Coords, ∀ (k3_h3 : k3_cond3 i = 1#1), ∀ a, (k3_off81 i) a + S8x128.size a ≤ S50000x128.size a := by decide +kernel
theorem k3_off82_inb : ∀ i : grid3.Coords, ∀ (k3_h3 : k3_cond3 i = 1#1), ∀ a, k3_off82 a + S1x16.size a ≤ S3x1920.size a := by decide +kernel
theorem k3_off83_inb : ∀ i : grid3.Coords, ∀ (k3_h3 : k3_cond3 i = 1#1), ∀ a, k3_off83 a + S1x16.size a ≤ S3x1920.size a := by decide +kernel
theorem k3_off84_inb : ∀ i : grid3.Coords, ∀ (k3_h3 : k3_cond3 i = 1#1), ∀ a, k3_off84 a + S1x16.size a ≤ S3x1920.size a := by decide +kernel
theorem k3_off85_inb : ∀ i : grid3.Coords, ∀ (k3_h3 : k3_cond3 i = 1#1), ∀ a, k3_off85 a + S1x16.size a ≤ S3x1920.size a := by decide +kernel
theorem k3_off86_inb : ∀ i : grid3.Coords, ∀ (k3_h3 : k3_cond3 i = 1#1), ∀ a, k3_off86 a + S1x16.size a ≤ S3x1920.size a := by decide +kernel
theorem k3_off87_inb : ∀ i : grid3.Coords, ∀ (k3_h3 : k3_cond3 i = 1#1), ∀ a, k3_off87 a + S1x16.size a ≤ S3x1920.size a := by decide +kernel
theorem k3_off88_inb : ∀ i : grid3.Coords, ∀ (k3_h3 : k3_cond3 i = 1#1), ∀ a, k3_off88 a + S1x16.size a ≤ S3x1920.size a := by decide +kernel
theorem k3_off89_inb : ∀ i : grid3.Coords, ∀ (k3_h3 : k3_cond3 i = 1#1), ∀ a, k3_off89 a + S1x16.size a ≤ S3x1920.size a := by decide +kernel
theorem k3_off90_inb : ∀ i : grid3.Coords, ∀ (k3_h3 : k3_cond3 i = 1#1), ∀ a, k3_off90 a + S1x16.size a ≤ S3x1920.size a := by decide +kernel
theorem k3_off91_inb : ∀ i : grid3.Coords, ∀ (k3_h3 : k3_cond3 i = 1#1), ∀ a, k3_off91 a + S1x16.size a ≤ S3x1920.size a := by decide +kernel
theorem k3_off92_inb : ∀ i : grid3.Coords, ∀ (k3_h3 : k3_cond3 i = 1#1), ∀ a, k3_off92 a + S1x16.size a ≤ S3x1920.size a := by decide +kernel
theorem k3_off93_inb : ∀ i : grid3.Coords, ∀ (k3_h3 : k3_cond3 i = 1#1), ∀ a, k3_off93 a + S1x16.size a ≤ S3x1920.size a := by decide +kernel
theorem k3_off94_inb : ∀ i : grid3.Coords, ∀ (k3_h3 : k3_cond3 i = 1#1), ∀ a, k3_off94 a + S1x16.size a ≤ S3x1920.size a := by decide +kernel
theorem k3_off95_inb : ∀ i : grid3.Coords, ∀ (k3_h3 : k3_cond3 i = 1#1), ∀ a, k3_off95 a + S1x16.size a ≤ S3x1920.size a := by decide +kernel
theorem k3_off96_inb : ∀ i : grid3.Coords, ∀ (k3_h3 : k3_cond3 i = 1#1), ∀ a, k3_off96 a + S1x16.size a ≤ S3x1920.size a := by decide +kernel
theorem k3_off97_inb : ∀ i : grid3.Coords, ∀ (k3_h3 : k3_cond3 i = 1#1), ∀ a, k3_off97 a + S1x16.size a ≤ S3x1920.size a := by decide +kernel
theorem k3_off98_inb : ∀ i : grid3.Coords, ∀ (k3_h3 : k3_cond3 i = 1#1), ∀ a, k3_off98 a + S1x16.size a ≤ S3x1920.size a := by decide +kernel
theorem k3_off99_inb : ∀ i : grid3.Coords, ∀ (k3_h3 : k3_cond3 i = 1#1), ∀ a, k3_off99 a + S1x16.size a ≤ S3x1920.size a := by decide +kernel
theorem k3_off100_inb : ∀ i : grid3.Coords, ∀ (k3_h3 : k3_cond3 i = 1#1), ∀ a, k3_off100 a + S1x16.size a ≤ S3x1920.size a := by decide +kernel
theorem k3_off101_inb : ∀ i : grid3.Coords, ∀ (k3_h3 : k3_cond3 i = 1#1), ∀ a, k3_off101 a + S1x16.size a ≤ S3x1920.size a := by decide +kernel
theorem k3_off102_inb : ∀ i : grid3.Coords, ∀ (k3_h3 : k3_cond3 i = 1#1), ∀ a, k3_off102 a + S1x16.size a ≤ S3x1920.size a := by decide +kernel
theorem k3_off103_inb : ∀ i : grid3.Coords, ∀ (k3_h3 : k3_cond3 i = 1#1), ∀ a, k3_off103 a + S1x16.size a ≤ S3x1920.size a := by decide +kernel
theorem k3_off104_inb : ∀ i : grid3.Coords, ∀ (k3_h3 : k3_cond3 i = 1#1), ∀ a, k3_off104 a + S1x16.size a ≤ S3x1920.size a := by decide +kernel
theorem k3_off105_inb : ∀ i : grid3.Coords, ∀ (k3_h3 : k3_cond3 i = 1#1), ∀ a, k3_off105 a + S1x16.size a ≤ S3x1920.size a := by decide +kernel
theorem k3_off106_inb : ∀ i : grid3.Coords, ∀ (k3_h3 : k3_cond3 i = 1#1), ∀ a, (k3_off106 i) a + S3x128.size a ≤ S3x800000.size a := by decide +kernel

/-- The program's facts over its vocabulary, proved: the instance its windows take. -/
instance facts₀ : Cert.KernelIdeal.Facts₀ :=
  { bcast_S_S512x48, bitsLt_bf16_f32, bcast_S_S48, shapeCasts_S48_S1x48, inb_S2000x512_S2000x512_0_0, h_S2000x512, inb_S512x48_S512x48_0_0,
    h_S512x48, shapeCasts_S512x48_S512x48, inb_S2000x3_S2000x3_0_0, h_S2000x3,
    concatenates_S2000x3_S2000x3_S2000x3_S2000x3_S2000x3_S2000x3_S2000x3_S2000x3_S2000x3_S2000x3_S2000x3_S2000x3_S2000x3_S2000x3_S2000x3_S2000x3_S2000x48_d1,
    inb_S1x48_S1x48_0_0, h_S1x48, shapeCasts_S1x48_S1x48, broadcasts_S1x48_S2000x48, inb_S2000x128_S2000x48_0_0, h_S2000x48,
    iota_S16_d0_w32_scVector, h_S120x128, h_S1x16, shapeCasts_S1x16_S16, shapeCasts_S16_S1x16, inb_S3x1920_S3x1920_0_0,
    inb_S120x128_S8x128_0_0, inb_S3x1920_S3x128_0_0, h_S3136, h_S16, concatenates_S3x800000_S3x800000_S3x1600000_d1,
    transposes_S3x1600000_S1600000x3_1_0, dot_S2000x512_S512x48_S2000x48_1_0_0_1_n_n_wf, hcc1_scratch3, hcc1_scratch4, hcc1_scoped0,
    hcc1_scoped1, hcc1_scoped2, hcc1_scoped3, hcc1_scoped4, hcc1_scoped5, hcc1_scoped6, hcc3_scratch3, hcc3_scratch4, hcc3_scoped0,
    hcc3_scoped1, hcc3_scoped2, hcc3_scoped3, hcc3_scoped4, hscKind, hscCore, hscSub, hrank0, hstage0_0, nbuf0_0, hreads0_0, hinb0_0,
    hwx0_0, hstage0_1, nbuf0_1, hreads0_1, hinb0_1, hwx0_1, hstage0_2, nbuf0_2, hreads0_2, hinb0_2, hwx0_2, hstage0_3, nbuf0_3, hreads0_3,
    hinb0_3, hwx0_3, hstage0_4, nbuf0_4, hreads0_4, hinb0_4, hwx0_4, hcore1, hsub1, k1_off1_inb, k1_t1_ok, k1_off2_inb, k1_t2_ok,
    k1_off3_inb, k1_off4_inb, k1_off5_inb, k1_off6_inb, k1_off7_inb, k1_off8_inb, k1_off9_inb, k1_off10_inb, k1_off11_inb, k1_off12_inb,
    k1_off13_inb, k1_off14_inb, k1_off15_inb, k1_off16_inb, k1_off17_inb, k1_off18_inb, k1_off19_inb, k1_off20_inb, k1_off21_inb,
    k1_off22_inb, k1_off23_inb, k1_off24_inb, k1_off25_inb, k1_off26_inb, k1_off27_inb, k1_off28_inb, k1_off29_inb, k1_t3_ok, k1_off30_inb,
    k1_off31_inb, k1_off32_inb, k1_off33_inb, k1_off34_inb, k1_off35_inb, k1_off36_inb, k1_off37_inb, k1_off38_inb, k1_off39_inb,
    k1_off40_inb, k1_off41_inb, k1_off42_inb, k1_off43_inb, k1_off44_inb, k1_off45_inb, k1_off46_inb, k1_off47_inb, k1_off48_inb,
    k1_off49_inb, k1_off50_inb, k1_off51_inb, k1_off52_inb, k1_off53_inb, k1_off54_inb, k1_off55_inb, k1_t4_ok, k1_off56_inb, k1_off57_inb,
    k1_off58_inb, k1_off59_inb, k1_off60_inb, k1_off61_inb, k1_off62_inb, k1_off63_inb, k1_off64_inb, k1_off65_inb, k1_off66_inb,
    k1_off67_inb, k1_off68_inb, k1_off69_inb, k1_off70_inb, k1_off71_inb, k1_off72_inb, k1_off73_inb, k1_off74_inb, k1_off75_inb,
    k1_off76_inb, k1_off77_inb, k1_off78_inb, k1_off79_inb, k1_off80_inb, k1_off81_inb, k1_off82_inb, k1_off83_inb, k1_off84_inb,
    k1_off85_inb, k1_off86_inb, k1_off87_inb, k1_off88_inb, k1_off89_inb, k1_off90_inb, k1_off91_inb, k1_off92_inb, k1_off93_inb,
    k1_off94_inb, k1_off95_inb, k1_off96_inb, k1_off97_inb, k1_off98_inb, k1_off99_inb, k1_off100_inb, k1_off101_inb, k1_off102_inb,
    k1_off103_inb, k1_off104_inb, k1_off105_inb, k1_off106_inb, k1_mult1_dvd, k1_off107_inb, k1_t5_ok, k1_off108_inb, k1_off109_inb,
    k1_off110_inb, k1_off111_inb, k1_off112_inb, k1_off113_inb, hrank2, hstage2_0, nbuf2_0, hreads2_0, hinb2_0, hwx2_0, hstage2_1, nbuf2_1,
    hreads2_1, hinb2_1, hwx2_1, hstage2_2, nbuf2_2, hreads2_2, hinb2_2, hwx2_2, hstage2_3, nbuf2_3, hreads2_3, hinb2_3, hwx2_3, hstage2_4,
    nbuf2_4, hreads2_4, hinb2_4, hwx2_4, hcore3, hsub3, k3_off1_inb, k3_t1_ok, k3_off2_inb, k3_t2_ok, k3_off3_inb, k3_off4_inb,
    k3_off5_inb, k3_off6_inb, k3_off7_inb, k3_off8_inb, k3_off9_inb, k3_off10_inb, k3_off11_inb, k3_off12_inb, k3_off13_inb, k3_off14_inb,
    k3_off15_inb, k3_off16_inb, k3_off17_inb, k3_off18_inb, k3_off19_inb, k3_off20_inb, k3_off21_inb, k3_off22_inb, k3_off23_inb,
    k3_off24_inb, k3_off25_inb, k3_off26_inb, k3_off27_inb, k3_off28_inb, k3_off29_inb, k3_t3_ok, k3_off30_inb, k3_off31_inb, k3_off32_inb,
    k3_off33_inb, k3_off34_inb, k3_off35_inb, k3_off36_inb, k3_off37_inb, k3_off38_inb, k3_off39_inb, k3_off40_inb, k3_off41_inb,
    k3_off42_inb, k3_off43_inb, k3_off44_inb, k3_off45_inb, k3_off46_inb, k3_off47_inb, k3_off48_inb, k3_off49_inb, k3_off50_inb,
    k3_off51_inb, k3_off52_inb, k3_off53_inb, k3_off54_inb, k3_off55_inb, k3_t4_ok, k3_off56_inb, k3_off57_inb, k3_off58_inb, k3_off59_inb,
    k3_off60_inb, k3_off61_inb, k3_off62_inb, k3_off63_inb, k3_off64_inb, k3_off65_inb, k3_off66_inb, k3_off67_inb, k3_off68_inb,
    k3_off69_inb, k3_off70_inb, k3_off71_inb, k3_off72_inb, k3_off73_inb, k3_off74_inb, k3_off75_inb, k3_off76_inb, k3_off77_inb,
    k3_off78_inb, k3_off79_inb, k3_off80_inb, k3_off81_inb, k3_off82_inb, k3_off83_inb, k3_off84_inb, k3_off85_inb, k3_off86_inb,
    k3_off87_inb, k3_off88_inb, k3_off89_inb, k3_off90_inb, k3_off91_inb, k3_off92_inb, k3_off93_inb, k3_off94_inb, k3_off95_inb,
    k3_off96_inb, k3_off97_inb, k3_off98_inb, k3_off99_inb, k3_off100_inb, k3_off101_inb, k3_off102_inb, k3_off103_inb, k3_off104_inb,
    k3_off105_inb, k3_off106_inb }

/-- Every fact the program states, proved: the instance its functions and a certificate's claims take. -/
instance facts : Cert.KernelIdeal.Facts where

end Cert.KernelIdeal.Gen
-- ==== Proof.KFacts.lean ====
/- The kernel's program is, statement by statement, the idealized one's: its side conditions are the same. -/
module

public import proofs.«01_k».proof.Kernel
public import proofs.«01_k».proof.Proof.Facts

@[expose] public section

namespace Cert.Kernel.Gen

instance facts₀ : Cert.Kernel.Facts₀ :=
  have h : Cert.KernelIdeal.Facts₀ := Cert.KernelIdeal.Gen.facts₀
  ⟨h.1, h.2, h.3, h.4, h.5, h.6, h.7, h.8, h.9, h.10, h.11, h.12, h.13, h.14, h.15, h.16, h.17, h.18, h.19, h.20, h.21, h.22, h.23, h.24,
    h.25, h.26, h.27, h.28, h.29, h.30, h.31, h.32, h.33, h.34, h.35, h.36, h.37, h.38, h.39, h.40, h.41, h.42, h.43, h.44, h.45, h.46,
    h.47, h.48, h.49, h.50, h.51, h.52, h.53, h.54, h.55, h.56, h.57, h.58, h.59, h.60, h.61, h.62, h.63, h.64, h.65, h.66, h.67, h.68,
    h.69, h.70, h.71, h.72, h.73, h.74, h.75, h.76, h.77, h.78, h.79, h.80, h.81, h.82, h.83, h.84, h.85, h.86, h.87, h.88, h.89, h.90,
    h.91, h.92, h.93, h.94, h.95, h.96, h.97, h.98, h.99, h.100, h.101, h.102, h.103, h.104, h.105, h.106, h.107, h.108, h.109, h.110,
    h.111, h.112, h.113, h.114, h.115, h.116, h.117, h.118, h.119, h.120, h.121, h.122, h.123, h.124, h.125, h.126, h.127, h.128, h.129,
    h.130, h.131, h.132, h.133, h.134, h.135, h.136, h.137, h.138, h.139, h.140, h.141, h.142, h.143, h.144, h.145, h.146, h.147, h.148,
    h.149, h.150, h.151, h.152, h.153, h.154, h.155, h.156, h.157, h.158, h.159, h.160, h.161, h.162, h.163, h.164, h.165, h.166, h.167,
    h.168, h.169, h.170, h.171, h.172, h.173, h.174, h.175, h.176, h.177, h.178, h.179, h.180, h.181, h.182, h.183, h.184, h.185, h.186,
    h.187, h.188, h.189, h.190, h.191, h.192, h.193, h.194, h.195, h.196, h.197, h.198, h.199, h.200, h.201, h.202, h.203, h.204, h.205,
    h.206, h.207, h.208, h.209, h.210, h.211, h.212, h.213, h.214, h.215, h.216, h.217, h.218, h.219, h.220, h.221, h.222, h.223, h.224,
    h.225, h.226, h.227, h.228, h.229, h.230, h.231, h.232, h.233, h.234, h.235, h.236, h.237, h.238, h.239, h.240, h.241, h.242, h.243,
    h.244, h.245, h.246, h.247, h.248, h.249, h.250, h.251, h.252, h.253, h.254, h.255, h.256, h.257, h.258, h.259, h.260, h.261, h.262,
    h.263, h.264, h.265, h.266, h.267, h.268, h.269, h.270, h.271, h.272, h.273, h.274, h.275, h.276, h.277, h.278, h.279, h.280, h.281,
    h.282, h.283, h.284, h.285, h.286, h.287, h.288, h.289, h.290, h.291, h.292, h.293, h.294, h.295, h.296, h.297, h.298, h.299, h.300,
    h.301, h.302, h.303, h.304, h.305, h.306, h.307, h.308, h.309, h.310, h.311, h.312, h.313, h.314, h.315, h.316, h.317, h.318, h.319,
    h.320, h.321, h.322, h.323, h.324, h.325, h.326, h.327, h.328, h.329, h.330, h.331, h.332, h.333, h.334, h.335⟩

instance facts : Cert.Kernel.Facts where

end Cert.Kernel.Gen
-- ==== Proof.Gather.lean ====
/-
  One step of the SparseCore kernels' transposition, as a rule of the program logic: sixteen lanes gathered out of the
  staged rows (`vectorLoadIdx` at row `a`, columns `3·l + j`), the output strip loaded (its value unused) and the
  gathered lanes stored at row `j`, columns `16·a …`. The output strip is held at SOME contents agreeing with the
  transposed rows at its first `n` sixteen-lane cells (`Strip`), cell `3·a + j` being row `j`, columns `16·a …`; a step
  at cell `n` leaves it agreeing at the first `n + 1`. The same for the batch indices, a cell sixteen copies of one index.
-/
module

public import proofs.«01_k».proof.KernelIdeal
public import Idealize.ShloMosaic.Lib.SparseCore.Quiescent
public import Idealize.ShloMosaic.Lib.SparseCore.Ops
public import Idealize.ShloMosaic.Lib.ValueLayout
public import Idealize.ShloMosaic.Lib.Pipeline.Kit
public import Idealize.ShloMosaic.Lib.Pipeline.Value
public import Idealize.ShloMosaic.Lib.Tactic

@[expose] public section

noncomputable section

namespace Cert.Proof.Knl

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the handshakes' rounds, the pipelines' rounds, the transfers' counters -/

abbrev UH : Type := URounds (GSem nD τ sig) ℕ
abbrev UE : Type := URounds (GSem nD τ sig) Unit
abbrev UU : Type := UH × (UE × Counters)

local notation "𝕄" => MT nD τ sig (HIx 2) (Elt F) ℕ UU ℕ

/-! ## The strip's first cells -/

/-- The strip `g` agrees with the transposed rows `A` at its first `n` cells. -/
def Done {α : Type} (A : S120x128.Idx → α) (n : ℕ) (g : S3x1920.Idx → α) : Prop :=
  ∀ (y : S3x1920.Idx) (x : S120x128.Idx), (x 0).val = (y 1).val / 16 → (x 1).val = 3 * ((y 1).val % 16) + (y 0).val →
    3 * ((y 1).val / 16) + (y 0).val < n → g y = A x

theorem Done.zero {α : Type} (A : S120x128.Idx → α) (g : S3x1920.Idx → α) : Done A 0 g :=
  fun _ _ _ _ h => absurd h (Nat.not_lt_zero _)

section
variable {Val : EltTy → Type} {sig' : RefSig} {κ : Kind} {sp sp' : Space}

theorem Done.step (v : View sig' κ sp S120x128 .f32) (v' : View sig' κ sp' S3x1920 .f32) (f : v.ty.Contents (Elt F)) (g : v'.ty.Contents (Elt F))
    {n a j : ℕ} (hn : n = 3 * a + j) (hj : j < 3)
    {off : Fin 2 → ℕ} {inb : ∀ b, off b + S1x16.size b ≤ S3x1920.size b} (hoff : off = ![j, 16 * a])
    {row col : IVec S16 32} (hrow : ∀ x, (row x).toNat = a) (hcol : ∀ x, (col x).toNat = 3 * (x 0).val + j)
    {h : ∀ b x, ((![row, col] : Fin 2 → IVec S16 32) b x).toNat < S120x128.size b} {hs : S16.ShapeCasts S1x16}
    (hD : Done (v.read (Elt F) f) n (v'.read (Elt F) g)) :
    Done (v.read (Elt F) f) (n + 1)
      (v'.read (Elt F) ((v'.slice (Rect.unit (s := S3x1920) off S1x16.size inb)).write (Elt F) g
        (shapeCast S1x16 (loadIdx (t := S16) ((v.slice (Rect.whole S120x128)).read (Elt F) f) ![row, col] h) hs) Finset.univ)) := by
  subst hoff
  intro y x h0 h1 hlt
  by_cases hy : y ∈ (Rect.unit (s := S3x1920) ![j, 16 * a] S1x16.size inb).set
  · obtain ⟨z, rfl⟩ : ∃ z, (Rect.unit (s := S3x1920) ![j, 16 * a] S1x16.size inb).emb z = y :=
      (Rect.unit (s := S3x1920) ![j, 16 * a] S1x16.size inb).exists_idx_of_mem hy
    rw [View.read_slice_write_emb _ _ _ (Finset.mem_univ z)]
    have z0 : (z 0).val = 0 := by have : (z 0).val < 1 := (z 0).isLt; omega
    have z1 : (z 1).val < 16 := (z 1).isLt
    have e0 : (((Rect.unit (s := S3x1920) ![j, 16 * a] S1x16.size inb).emb z) 0).val = j := by
      show j + 1 * (z 0).val = j; omega
    have e1 : (((Rect.unit (s := S3x1920) ![j, 16 * a] S1x16.size inb).emb z) 1).val = 16 * a + (z 1).val := by
      show 16 * a + 1 * (z 1).val = _; omega
    rw [e0, e1] at h1
    rw [e1] at h0
    have hz : z = ix2 (0 : Fin 1) (⟨(z 1).val, z1⟩ : Fin 16) := by
      funext b; apply Fin.ext
      match b with
      | 0 => exact z0
      | 1 => rfl
    rw [hz]
    refine (shapeCast_a_1a_apply (a := 16) _ hs _ (⟨(z 1).val, z1⟩ : Fin 16)).trans ?_
    rw [View.read_apply]
    show cast _ (f ((v.slice (Rect.whole S120x128)).emb (idxAt _ h (ix1 ⟨(z 1).val, z1⟩)))) = _
    have : (v.slice (Rect.whole S120x128)).emb (idxAt ![row, col] h (ix1 (⟨(z 1).val, z1⟩ : Fin 16))) = v.emb x := by
      show v.emb ((Rect.whole S120x128).emb _) = _
      rw [Rect.emb_whole_apply]
      congr 1
      funext b; apply Fin.ext
      match b with
      | 0 => show (row _).toNat = _; rw [hrow, h0]; omega
      | 1 =>
        show (col _).toNat = _; rw [hcol, h1]
        show 3 * (z 1).val + j = _; omega
    rw [this]
  · rw [View.read_slice_write_of_not_mem _ _ _ _ (by rwa [Rect.map_emb_univ])]
    refine hD y x h0 h1 ?_
    rcases Nat.lt_or_ge (3 * ((y 1).val / 16) + (y 0).val) n with h' | h'
    · exact h'
    · exfalso; apply hy
      have y0 : (y 0).val < 3 := (y 0).isLt
      rw [Rect.mem_set_unit]
      intro b
      match b with
      | 0 => show j ≤ (y 0).val ∧ (y 0).val < j + 1; omega
      | 1 => show 16 * a ≤ (y 1).val ∧ (y 1).val < 16 * a + 16; omega

/-- The copy `g` of the batch indices agrees, at its first `n` cells of sixteen, with the staged indices `A` from `o` on. -/
def DoneB {α : Type} (A : S3136.Idx → α) (o n : ℕ) (g : S50000.Idx → α) : Prop :=
  ∀ (y : S50000.Idx) (x : S3136.Idx), (x 0).val = (y 0).val / 16 + o → (y 0).val / 16 < n → g y = A x

theorem DoneB.zero {α : Type} (A : S3136.Idx → α) (o : ℕ) (g : S50000.Idx → α) : DoneB A o 0 g :=
  fun _ _ _ h => absurd h (Nat.not_lt_zero _)

theorem DoneB.step (v : View sig' κ sp S3136 .i32) (v' : View sig' κ sp' S50000 .i32) (f : v.ty.Contents (Elt F)) (g : v'.ty.Contents (Elt F))
    {o n : ℕ} {off : Fin 1 → ℕ} {inb : ∀ b, off b + S16.size b ≤ S50000.size b} (hoff : off = ![16 * n])
    {row : IVec S16 32} (hrow : ∀ x, (row x).toNat = n + o)
    {h : ∀ b x, ((![row] : Fin 1 → IVec S16 32) b x).toNat < S3136.size b}
    (hD : DoneB (v.read (Elt F) f) o n (v'.read (Elt F) g)) :
    DoneB (v.read (Elt F) f) o (n + 1)
      (v'.read (Elt F) ((v'.slice (Rect.unit (s := S50000) off S16.size inb)).write (Elt F) g
        (loadIdx (t := S16) ((v.slice (Rect.whole S3136)).read (Elt F) f) ![row] h) Finset.univ)) := by
  subst hoff
  intro y x h0 hlt
  by_cases hy : y ∈ (Rect.unit (s := S50000) ![16 * n] S16.size inb).set
  · obtain ⟨z, rfl⟩ : ∃ z, (Rect.unit (s := S50000) ![16 * n] S16.size inb).emb z = y :=
      (Rect.unit (s := S50000) ![16 * n] S16.size inb).exists_idx_of_mem hy
    rw [View.read_slice_write_emb _ _ _ (Finset.mem_univ z)]
    have z1 : (z 0).val < 16 := (z 0).isLt
    have e1 : (((Rect.unit (s := S50000) ![16 * n] S16.size inb).emb z) 0).val = 16 * n + (z 0).val := by
      show 16 * n + 1 * (z 0).val = _; omega
    rw [e1] at h0
    rw [View.read_apply]
    show cast _ (f ((v.slice (Rect.whole S3136)).emb (idxAt _ h z))) = _
    have : (v.slice (Rect.whole S3136)).emb (idxAt ![row] h z) = v.emb x := by
      show v.emb ((Rect.whole S3136).emb _) = _
      rw [Rect.emb_whole_apply]
      congr 1
      funext b; apply Fin.ext
      match b with
      | 0 => show (row _).toNat = _; rw [hrow, h0]; omega
    rw [this]
  · rw [View.read_slice_write_of_not_mem _ _ _ _ (by rwa [Rect.map_emb_univ])]
    refine hD y x h0 ?_
    rcases Nat.lt_or_ge ((y 0).val / 16) n with h' | h'
    · exact h'
    · exfalso; apply hy
      rw [Rect.mem_set_unit]
      intro b
      match b with
      | 0 => show 16 * n ≤ (y 0).val ∧ (y 0).val < 16 * n + 16; omega

end

/-! ## The step as a rule -/

section Rule

variable {Λ : Labels} {defs : Defs nD τ sig (Elt F) Λ} {𝒱 : Variants} {thr : Thread nD τ} {bd : Option 𝒱.V} {E : Set ℕ} {α : Type}

/-- The staged rows held at `f` under the share `q`, the strip at some contents whose first `n` cells agree with them. -/
def Strip (thr : Thread nD τ) (rows : Memref sig thr.2.kind .vmem S120x128 .f32) (out : Memref sig thr.2.kind .vmem S3x1920 .f32)
    (f : Buf (Elt F) (rows.view.loc thr)) (n : ℕ) : sProp 𝕄 :=
  iprop((rows.view.loc thr ↦[rows.view.set]{fullShare} f)
    ∗ ∃ g, ⌜Done (rows.view.read (Elt F) f) n (out.view.read (Elt F) g)⌝ ∗ (out.view.loc thr ↦[out.view.set]{fullShare} g))

/-- The staged rows read whole, for the lanes to be gathered of. -/
theorem strip_gather {rows : Memref sig thr.2.kind .vmem S120x128 .f32} {out : Memref sig thr.2.kind .vmem S3x1920 .f32}
    {f : Buf (Elt F) (rows.view.loc thr)} {n : ℕ} {hl : rows.view.LoadsAt (LoadRect.whole S120x128)}
    {k : Vec F S120x128 .f32 → Prog (TpuEff nD τ sig (Elt F) Λ thr.2) α} {Q : α → sProp 𝕄}
    (hk : Strip thr rows out f n ⊢ wp frame (wpE defs 𝒱 thr bd) E (k ((rows.access (Rect.whole S120x128)).read (Elt F) f)) Q) :
    Strip thr rows out f n ⊢ wp frame (wpE defs 𝒱 thr bd) E (.op (.load rows (LoadRect.whole S120x128) hl) k) Q := by
  unfold Strip at hk ⊢
  iintro ⟨Hr, Ho⟩
  iapply (wp_load_rect 𝒱 thr bd E (m := rows) (r := Rect.whole S120x128) (S := rows.view.set) (View.set_slice_subset _ _)) $$ Hr; iintro Hr
  iapply hk
  isplitl [Hr]; · iexact Hr
  iexact Ho

/-- The output strip loaded, its value not used. -/
theorem strip_peek {rows : Memref sig thr.2.kind .vmem S120x128 .f32} {out : Memref sig thr.2.kind .vmem S3x1920 .f32}
    {f : Buf (Elt F) (rows.view.loc thr)} {n : ℕ} {r : LoadRect S3x1920} {hl : out.view.LoadsAt r}
    {k : (r.shape.Idx → Elt F .f32) → Prog (TpuEff nD τ sig (Elt F) Λ thr.2) α} {Q : α → sProp 𝕄}
    (hk : ∀ w, Strip thr rows out f n ⊢ wp frame (wpE defs 𝒱 thr bd) E (k w) Q) :
    Strip thr rows out f n ⊢ wp frame (wpE defs 𝒱 thr bd) E (.op (.load out r hl) k) Q := by
  unfold Strip at hk ⊢
  iintro ⟨Hr, %g, %hD, Ho⟩
  iapply (wp_load 𝒱 thr bd E (m := out) (r := r) (S := out.view.set) (View.setOn_subset_set _ _)) $$ Ho; iintro Ho
  iapply (hk _)
  isplitl [Hr]; · iexact Hr
  iexists g
  isplitr
  · ipureintro; exact hD
  · iexact Ho

/-- The gathered lanes stored at cell `n = 3·a + j`. -/
theorem strip_put {rows : Memref sig thr.2.kind .vmem S120x128 .f32} {out : Memref sig thr.2.kind .vmem S3x1920 .f32}
    {f : Buf (Elt F) (rows.view.loc thr)} {n : ℕ} (a j : ℕ) (hn : n = 3 * a + j) (hj : j < 3)
    {off : Fin 2 → ℕ} {inb : ∀ b, off b + S1x16.size b ≤ S3x1920.size b} (hoff : off = ![j, 16 * a])
    {row col : IVec S16 32} (hrow : ∀ x, (row x).toNat = a) (hcol : ∀ x, (col x).toNat = 3 * (x 0).val + j)
    {h : ∀ b x, ((![row, col] : Fin 2 → IVec S16 32) b x).toNat < S120x128.size b} {hs : S16.ShapeCasts S1x16}
    {hx : (out.access (Rect.unit (s := S3x1920) off S1x16.size inb)).Stores Finset.univ} {hm : (Finset.univ : Finset (Rect.unit (s := S3x1920) off S1x16.size inb).shape.Idx) = Finset.univ ∨ ∀ b, (Rect.unit (s := S3x1920) off S1x16.size inb).stride b = 1}
    {k : PUnit → Prog (TpuEff nD τ sig (Elt F) Λ thr.2) α} {Q : α → sProp 𝕄}
    (hk : Strip thr rows out f (n + 1) ⊢ wp frame (wpE defs 𝒱 thr bd) E (k ⟨⟩) Q) :
    Strip thr rows out f n ⊢ wp frame (wpE defs 𝒱 thr bd) E
      (.op (.store out (Rect.unit (s := S3x1920) off S1x16.size inb)
          (shapeCast S1x16 (loadIdx (t := S16) ((rows.access (Rect.whole S120x128)).read (Elt F) f) ![row, col] h) hs) Finset.univ hx hm) k) Q := by
  unfold Strip at hk ⊢
  iintro ⟨Hr, %g, %hD, Ho⟩
  iapply (wp_store 𝒱 thr bd E (m := out) (r := Rect.unit (s := S3x1920) off S1x16.size inb) (Mk := Finset.univ) (S := out.view.set) (View.set_slice_subset _ _)) $$ Ho; iintro Ho
  iapply hk
  isplitl [Hr]; · iexact Hr
  iexists _
  isplitr
  rotate_left
  · iexact Ho
  · ipureintro
    exact Done.step rows.view out.view f g hn hj hoff hrow hcol (h := h) (hs := hs) hD

/-- The staged batch indices held at `f`, their copy at some contents whose first `n` cells agree with them from `o` on. -/
def Sheet (thr : Thread nD τ) (st : Memref sig thr.2.kind .vmem S3136 .i32) (out : Memref sig thr.2.kind .vmem S50000 .i32)
    (f : Buf (Elt F) (st.view.loc thr)) (o n : ℕ) : sProp 𝕄 :=
  iprop((st.view.loc thr ↦[st.view.set]{fullShare} f)
    ∗ ∃ g, ⌜DoneB (st.view.read (Elt F) f) o n (out.view.read (Elt F) g)⌝ ∗ (out.view.loc thr ↦[out.view.set]{fullShare} g))

/-- The staged indices read whole, for the lanes to be gathered of. -/
theorem sheet_gather {st : Memref sig thr.2.kind .vmem S3136 .i32} {out : Memref sig thr.2.kind .vmem S50000 .i32}
    {f : Buf (Elt F) (st.view.loc thr)} {o n : ℕ} {hl : st.view.LoadsAt (LoadRect.whole S3136)}
    {k : Vec F S3136 .i32 → Prog (TpuEff nD τ sig (Elt F) Λ thr.2) α} {Q : α → sProp 𝕄}
    (hk : Sheet thr st out f o n ⊢ wp frame (wpE defs 𝒱 thr bd) E (k ((st.access (Rect.whole S3136)).read (Elt F) f)) Q) :
    Sheet thr st out f o n ⊢ wp frame (wpE defs 𝒱 thr bd) E (.op (.load st (LoadRect.whole S3136) hl) k) Q := by
  unfold Sheet at hk ⊢
  iintro ⟨Hr, Ho⟩
  iapply (wp_load_rect 𝒱 thr bd E (m := st) (r := Rect.whole S3136) (S := st.view.set) (View.set_slice_subset _ _)) $$ Hr; iintro Hr
  iapply hk
  isplitl [Hr]; · iexact Hr
  iexact Ho

/-- The copies' buffer loaded, its value not used. -/
theorem sheet_peek {st : Memref sig thr.2.kind .vmem S3136 .i32} {out : Memref sig thr.2.kind .vmem S50000 .i32}
    {f : Buf (Elt F) (st.view.loc thr)} {o n : ℕ} {r : LoadRect S50000} {hl : out.view.LoadsAt r}
    {k : (r.shape.Idx → Elt F .i32) → Prog (TpuEff nD τ sig (Elt F) Λ thr.2) α} {Q : α → sProp 𝕄}
    (hk : ∀ w, Sheet thr st out f o n ⊢ wp frame (wpE defs 𝒱 thr bd) E (k w) Q) :
    Sheet thr st out f o n ⊢ wp frame (wpE defs 𝒱 thr bd) E (.op (.load out r hl) k) Q := by
  unfold Sheet at hk ⊢
  iintro ⟨Hr, %g, %hD, Ho⟩
  iapply (wp_load 𝒱 thr bd E (m := out) (r := r) (S := out.view.set) (View.setOn_subset_set _ _)) $$ Ho; iintro Ho
  iapply (hk _)
  isplitl [Hr]; · iexact Hr
  iexists g
  isplitr
  · ipureintro; exact hD
  · iexact Ho

/-- The gathered lanes stored at cell `n`. -/
theorem sheet_put {st : Memref sig thr.2.kind .vmem S3136 .i32} {out : Memref sig thr.2.kind .vmem S50000 .i32}
    {f : Buf (Elt F) (st.view.loc thr)} {o : ℕ} (n : ℕ)
    {off : Fin 1 → ℕ} {inb : ∀ b, off b + S16.size b ≤ S50000.size b} (hoff : off = ![16 * n])
    {row : IVec S16 32} (hrow : ∀ x, (row x).toNat = n + o)
    {h : ∀ b x, ((![row] : Fin 1 → IVec S16 32) b x).toNat < S3136.size b}
    {hx : (out.access (Rect.unit (s := S50000) off S16.size inb)).Stores Finset.univ} {hm : (Finset.univ : Finset (Rect.unit (s := S50000) off S16.size inb).shape.Idx) = Finset.univ ∨ ∀ b, (Rect.unit (s := S50000) off S16.size inb).stride b = 1}
    {k : PUnit → Prog (TpuEff nD τ sig (Elt F) Λ thr.2) α} {Q : α → sProp 𝕄}
    (hk : Sheet thr st out f o (n + 1) ⊢ wp frame (wpE defs 𝒱 thr bd) E (k ⟨⟩) Q) :
    Sheet thr st out f o n ⊢ wp frame (wpE defs 𝒱 thr bd) E
      (.op (.store out (Rect.unit (s := S50000) off S16.size inb)
          (loadIdx (t := S16) ((st.access (Rect.whole S3136)).read (Elt F) f) ![row] h) Finset.univ hx hm) k) Q := by
  unfold Sheet at hk ⊢
  iintro ⟨Hr, %g, %hD, Ho⟩
  iapply (wp_store 𝒱 thr bd E (m := out) (r := Rect.unit (s := S50000) off S16.size inb) (Mk := Finset.univ) (S := out.view.set) (View.set_slice_subset _ _)) $$ Ho; iintro Ho
  iapply hk
  isplitl [Hr]; · iexact Hr
  iexists _
  isplitr
  rotate_left
  · iexact Ho
  · ipureintro
    exact DoneB.step st.view out.view f g hoff hrow (h := h) hD

end Rule

end Cert.Proof.Knl
-- ==== Proof.Closed.lean ====
/- The offsets of the kernels' accesses in closed form, to rewrite the accesses' rectangles by. -/
module

public import proofs.«01_k».proof.Proof.Facts
public import Idealize.ShloMosaic.Lib.Affine
public import Idealize.ShloMosaic.Lib.Decide
public import Idealize.ShloMosaic.Lib.Exec

@[expose] public section

set_option synthInstance.maxSize 4096
set_option Elab.async false

namespace Cert.KernelIdeal.Gen

open Idealize.ShloMosaic Idealize.SL.Sem
theorem k1_off3_eq : ∀ k1_t2 : Fin k1_t2_loop.trips, k1_off3 k1_t2 = ![0, 128 * k1_t2.val] := by decide +kernel
instance closedOff_k1_off3 (k1_t2 : Fin k1_t2_loop.trips) : ClosedOff (k1_off3 k1_t2) := ⟨_, k1_off3_eq k1_t2⟩
theorem k1_off4_eq : ∀ k1_t2 : Fin k1_t2_loop.trips, k1_off4 k1_t2 = ![1, 128 * k1_t2.val] := by decide +kernel
instance closedOff_k1_off4 (k1_t2 : Fin k1_t2_loop.trips) : ClosedOff (k1_off4 k1_t2) := ⟨_, k1_off4_eq k1_t2⟩
theorem k1_off5_eq : ∀ k1_t2 : Fin k1_t2_loop.trips, k1_off5 k1_t2 = ![2, 128 * k1_t2.val] := by decide +kernel
instance closedOff_k1_off5 (k1_t2 : Fin k1_t2_loop.trips) : ClosedOff (k1_off5 k1_t2) := ⟨_, k1_off5_eq k1_t2⟩
theorem k1_off6_eq : ∀ k1_t2 : Fin k1_t2_loop.trips, k1_off6 k1_t2 = ![0, 128 * k1_t2.val + 16] := by decide +kernel
instance closedOff_k1_off6 (k1_t2 : Fin k1_t2_loop.trips) : ClosedOff (k1_off6 k1_t2) := ⟨_, k1_off6_eq k1_t2⟩
theorem k1_off7_eq : ∀ k1_t2 : Fin k1_t2_loop.trips, k1_off7 k1_t2 = ![1, 128 * k1_t2.val + 16] := by decide +kernel
instance closedOff_k1_off7 (k1_t2 : Fin k1_t2_loop.trips) : ClosedOff (k1_off7 k1_t2) := ⟨_, k1_off7_eq k1_t2⟩
theorem k1_off8_eq : ∀ k1_t2 : Fin k1_t2_loop.trips, k1_off8 k1_t2 = ![2, 128 * k1_t2.val + 16] := by decide +kernel
instance closedOff_k1_off8 (k1_t2 : Fin k1_t2_loop.trips) : ClosedOff (k1_off8 k1_t2) := ⟨_, k1_off8_eq k1_t2⟩
theorem k1_off9_eq : ∀ k1_t2 : Fin k1_t2_loop.trips, k1_off9 k1_t2 = ![0, 128 * k1_t2.val + 32] := by decide +kernel
instance closedOff_k1_off9 (k1_t2 : Fin k1_t2_loop.trips) : ClosedOff (k1_off9 k1_t2) := ⟨_, k1_off9_eq k1_t2⟩
theorem k1_off10_eq : ∀ k1_t2 : Fin k1_t2_loop.trips, k1_off10 k1_t2 = ![1, 128 * k1_t2.val + 32] := by decide +kernel
instance closedOff_k1_off10 (k1_t2 : Fin k1_t2_loop.trips) : ClosedOff (k1_off10 k1_t2) := ⟨_, k1_off10_eq k1_t2⟩
theorem k1_off11_eq : ∀ k1_t2 : Fin k1_t2_loop.trips, k1_off11 k1_t2 = ![2, 128 * k1_t2.val + 32] := by decide +kernel
instance closedOff_k1_off11 (k1_t2 : Fin k1_t2_loop.trips) : ClosedOff (k1_off11 k1_t2) := ⟨_, k1_off11_eq k1_t2⟩
theorem k1_off12_eq : ∀ k1_t2 : Fin k1_t2_loop.trips, k1_off12 k1_t2 = ![0, 128 * k1_t2.val + 48] := by decide +kernel
instance closedOff_k1_off12 (k1_t2 : Fin k1_t2_loop.trips) : ClosedOff (k1_off12 k1_t2) := ⟨_, k1_off12_eq k1_t2⟩
theorem k1_off13_eq : ∀ k1_t2 : Fin k1_t2_loop.trips, k1_off13 k1_t2 = ![1, 128 * k1_t2.val + 48] := by decide +kernel
instance closedOff_k1_off13 (k1_t2 : Fin k1_t2_loop.trips) : ClosedOff (k1_off13 k1_t2) := ⟨_, k1_off13_eq k1_t2⟩
theorem k1_off14_eq : ∀ k1_t2 : Fin k1_t2_loop.trips, k1_off14 k1_t2 = ![2, 128 * k1_t2.val + 48] := by decide +kernel
instance closedOff_k1_off14 (k1_t2 : Fin k1_t2_loop.trips) : ClosedOff (k1_off14 k1_t2) := ⟨_, k1_off14_eq k1_t2⟩
theorem k1_off15_eq : ∀ k1_t2 : Fin k1_t2_loop.trips, k1_off15 k1_t2 = ![0, 128 * k1_t2.val + 64] := by decide +kernel
instance closedOff_k1_off15 (k1_t2 : Fin k1_t2_loop.trips) : ClosedOff (k1_off15 k1_t2) := ⟨_, k1_off15_eq k1_t2⟩
theorem k1_off16_eq : ∀ k1_t2 : Fin k1_t2_loop.trips, k1_off16 k1_t2 = ![1, 128 * k1_t2.val + 64] := by decide +kernel
instance closedOff_k1_off16 (k1_t2 : Fin k1_t2_loop.trips) : ClosedOff (k1_off16 k1_t2) := ⟨_, k1_off16_eq k1_t2⟩
theorem k1_off17_eq : ∀ k1_t2 : Fin k1_t2_loop.trips, k1_off17 k1_t2 = ![2, 128 * k1_t2.val + 64] := by decide +kernel
instance closedOff_k1_off17 (k1_t2 : Fin k1_t2_loop.trips) : ClosedOff (k1_off17 k1_t2) := ⟨_, k1_off17_eq k1_t2⟩
theorem k1_off18_eq : ∀ k1_t2 : Fin k1_t2_loop.trips, k1_off18 k1_t2 = ![0, 128 * k1_t2.val + 80] := by decide +kernel
instance closedOff_k1_off18 (k1_t2 : Fin k1_t2_loop.trips) : ClosedOff (k1_off18 k1_t2) := ⟨_, k1_off18_eq k1_t2⟩
theorem k1_off19_eq : ∀ k1_t2 : Fin k1_t2_loop.trips, k1_off19 k1_t2 = ![1, 128 * k1_t2.val + 80] := by decide +kernel
instance closedOff_k1_off19 (k1_t2 : Fin k1_t2_loop.trips) : ClosedOff (k1_off19 k1_t2) := ⟨_, k1_off19_eq k1_t2⟩
theorem k1_off20_eq : ∀ k1_t2 : Fin k1_t2_loop.trips, k1_off20 k1_t2 = ![2, 128 * k1_t2.val + 80] := by decide +kernel
instance closedOff_k1_off20 (k1_t2 : Fin k1_t2_loop.trips) : ClosedOff (k1_off20 k1_t2) := ⟨_, k1_off20_eq k1_t2⟩
theorem k1_off21_eq : ∀ k1_t2 : Fin k1_t2_loop.trips, k1_off21 k1_t2 = ![0, 128 * k1_t2.val + 96] := by decide +kernel
instance closedOff_k1_off21 (k1_t2 : Fin k1_t2_loop.trips) : ClosedOff (k1_off21 k1_t2) := ⟨_, k1_off21_eq k1_t2⟩
theorem k1_off22_eq : ∀ k1_t2 : Fin k1_t2_loop.trips, k1_off22 k1_t2 = ![1, 128 * k1_t2.val + 96] := by decide +kernel
instance closedOff_k1_off22 (k1_t2 : Fin k1_t2_loop.trips) : ClosedOff (k1_off22 k1_t2) := ⟨_, k1_off22_eq k1_t2⟩
theorem k1_off23_eq : ∀ k1_t2 : Fin k1_t2_loop.trips, k1_off23 k1_t2 = ![2, 128 * k1_t2.val + 96] := by decide +kernel
instance closedOff_k1_off23 (k1_t2 : Fin k1_t2_loop.trips) : ClosedOff (k1_off23 k1_t2) := ⟨_, k1_off23_eq k1_t2⟩
theorem k1_off24_eq : ∀ k1_t2 : Fin k1_t2_loop.trips, k1_off24 k1_t2 = ![0, 128 * k1_t2.val + 112] := by decide +kernel
instance closedOff_k1_off24 (k1_t2 : Fin k1_t2_loop.trips) : ClosedOff (k1_off24 k1_t2) := ⟨_, k1_off24_eq k1_t2⟩
theorem k1_off25_eq : ∀ k1_t2 : Fin k1_t2_loop.trips, k1_off25 k1_t2 = ![1, 128 * k1_t2.val + 112] := by decide +kernel
instance closedOff_k1_off25 (k1_t2 : Fin k1_t2_loop.trips) : ClosedOff (k1_off25 k1_t2) := ⟨_, k1_off25_eq k1_t2⟩
theorem k1_off26_eq : ∀ k1_t2 : Fin k1_t2_loop.trips, k1_off26 k1_t2 = ![2, 128 * k1_t2.val + 112] := by decide +kernel
instance closedOff_k1_off26 (k1_t2 : Fin k1_t2_loop.trips) : ClosedOff (k1_off26 k1_t2) := ⟨_, k1_off26_eq k1_t2⟩
theorem k1_off30_eq : ∀ k1_t3 : Fin k1_t3_loop.trips, k1_off30 k1_t3 = ![0, 128 * k1_t3.val] := by decide +kernel
instance closedOff_k1_off30 (k1_t3 : Fin k1_t3_loop.trips) : ClosedOff (k1_off30 k1_t3) := ⟨_, k1_off30_eq k1_t3⟩
theorem k1_off31_eq : ∀ k1_t3 : Fin k1_t3_loop.trips, k1_off31 k1_t3 = ![1, 128 * k1_t3.val] := by decide +kernel
instance closedOff_k1_off31 (k1_t3 : Fin k1_t3_loop.trips) : ClosedOff (k1_off31 k1_t3) := ⟨_, k1_off31_eq k1_t3⟩
theorem k1_off32_eq : ∀ k1_t3 : Fin k1_t3_loop.trips, k1_off32 k1_t3 = ![2, 128 * k1_t3.val] := by decide +kernel
instance closedOff_k1_off32 (k1_t3 : Fin k1_t3_loop.trips) : ClosedOff (k1_off32 k1_t3) := ⟨_, k1_off32_eq k1_t3⟩
theorem k1_off33_eq : ∀ k1_t3 : Fin k1_t3_loop.trips, k1_off33 k1_t3 = ![0, 128 * k1_t3.val + 16] := by decide +kernel
instance closedOff_k1_off33 (k1_t3 : Fin k1_t3_loop.trips) : ClosedOff (k1_off33 k1_t3) := ⟨_, k1_off33_eq k1_t3⟩
theorem k1_off34_eq : ∀ k1_t3 : Fin k1_t3_loop.trips, k1_off34 k1_t3 = ![1, 128 * k1_t3.val + 16] := by decide +kernel
instance closedOff_k1_off34 (k1_t3 : Fin k1_t3_loop.trips) : ClosedOff (k1_off34 k1_t3) := ⟨_, k1_off34_eq k1_t3⟩
theorem k1_off35_eq : ∀ k1_t3 : Fin k1_t3_loop.trips, k1_off35 k1_t3 = ![2, 128 * k1_t3.val + 16] := by decide +kernel
instance closedOff_k1_off35 (k1_t3 : Fin k1_t3_loop.trips) : ClosedOff (k1_off35 k1_t3) := ⟨_, k1_off35_eq k1_t3⟩
theorem k1_off36_eq : ∀ k1_t3 : Fin k1_t3_loop.trips, k1_off36 k1_t3 = ![0, 128 * k1_t3.val + 32] := by decide +kernel
instance closedOff_k1_off36 (k1_t3 : Fin k1_t3_loop.trips) : ClosedOff (k1_off36 k1_t3) := ⟨_, k1_off36_eq k1_t3⟩
theorem k1_off37_eq : ∀ k1_t3 : Fin k1_t3_loop.trips, k1_off37 k1_t3 = ![1, 128 * k1_t3.val + 32] := by decide +kernel
instance closedOff_k1_off37 (k1_t3 : Fin k1_t3_loop.trips) : ClosedOff (k1_off37 k1_t3) := ⟨_, k1_off37_eq k1_t3⟩
theorem k1_off38_eq : ∀ k1_t3 : Fin k1_t3_loop.trips, k1_off38 k1_t3 = ![2, 128 * k1_t3.val + 32] := by decide +kernel
instance closedOff_k1_off38 (k1_t3 : Fin k1_t3_loop.trips) : ClosedOff (k1_off38 k1_t3) := ⟨_, k1_off38_eq k1_t3⟩
theorem k1_off39_eq : ∀ k1_t3 : Fin k1_t3_loop.trips, k1_off39 k1_t3 = ![0, 128 * k1_t3.val + 48] := by decide +kernel
instance closedOff_k1_off39 (k1_t3 : Fin k1_t3_loop.trips) : ClosedOff (k1_off39 k1_t3) := ⟨_, k1_off39_eq k1_t3⟩
theorem k1_off40_eq : ∀ k1_t3 : Fin k1_t3_loop.trips, k1_off40 k1_t3 = ![1, 128 * k1_t3.val + 48] := by decide +kernel
instance closedOff_k1_off40 (k1_t3 : Fin k1_t3_loop.trips) : ClosedOff (k1_off40 k1_t3) := ⟨_, k1_off40_eq k1_t3⟩
theorem k1_off41_eq : ∀ k1_t3 : Fin k1_t3_loop.trips, k1_off41 k1_t3 = ![2, 128 * k1_t3.val + 48] := by decide +kernel
instance closedOff_k1_off41 (k1_t3 : Fin k1_t3_loop.trips) : ClosedOff (k1_off41 k1_t3) := ⟨_, k1_off41_eq k1_t3⟩
theorem k1_off42_eq : ∀ k1_t3 : Fin k1_t3_loop.trips, k1_off42 k1_t3 = ![0, 128 * k1_t3.val + 64] := by decide +kernel
instance closedOff_k1_off42 (k1_t3 : Fin k1_t3_loop.trips) : ClosedOff (k1_off42 k1_t3) := ⟨_, k1_off42_eq k1_t3⟩
theorem k1_off43_eq : ∀ k1_t3 : Fin k1_t3_loop.trips, k1_off43 k1_t3 = ![1, 128 * k1_t3.val + 64] := by decide +kernel
instance closedOff_k1_off43 (k1_t3 : Fin k1_t3_loop.trips) : ClosedOff (k1_off43 k1_t3) := ⟨_, k1_off43_eq k1_t3⟩
theorem k1_off44_eq : ∀ k1_t3 : Fin k1_t3_loop.trips, k1_off44 k1_t3 = ![2, 128 * k1_t3.val + 64] := by decide +kernel
instance closedOff_k1_off44 (k1_t3 : Fin k1_t3_loop.trips) : ClosedOff (k1_off44 k1_t3) := ⟨_, k1_off44_eq k1_t3⟩
theorem k1_off45_eq : ∀ k1_t3 : Fin k1_t3_loop.trips, k1_off45 k1_t3 = ![0, 128 * k1_t3.val + 80] := by decide +kernel
instance closedOff_k1_off45 (k1_t3 : Fin k1_t3_loop.trips) : ClosedOff (k1_off45 k1_t3) := ⟨_, k1_off45_eq k1_t3⟩
theorem k1_off46_eq : ∀ k1_t3 : Fin k1_t3_loop.trips, k1_off46 k1_t3 = ![1, 128 * k1_t3.val + 80] := by decide +kernel
instance closedOff_k1_off46 (k1_t3 : Fin k1_t3_loop.trips) : ClosedOff (k1_off46 k1_t3) := ⟨_, k1_off46_eq k1_t3⟩
theorem k1_off47_eq : ∀ k1_t3 : Fin k1_t3_loop.trips, k1_off47 k1_t3 = ![2, 128 * k1_t3.val + 80] := by decide +kernel
instance closedOff_k1_off47 (k1_t3 : Fin k1_t3_loop.trips) : ClosedOff (k1_off47 k1_t3) := ⟨_, k1_off47_eq k1_t3⟩
theorem k1_off48_eq : ∀ k1_t3 : Fin k1_t3_loop.trips, k1_off48 k1_t3 = ![0, 128 * k1_t3.val + 96] := by decide +kernel
instance closedOff_k1_off48 (k1_t3 : Fin k1_t3_loop.trips) : ClosedOff (k1_off48 k1_t3) := ⟨_, k1_off48_eq k1_t3⟩
theorem k1_off49_eq : ∀ k1_t3 : Fin k1_t3_loop.trips, k1_off49 k1_t3 = ![1, 128 * k1_t3.val + 96] := by decide +kernel
instance closedOff_k1_off49 (k1_t3 : Fin k1_t3_loop.trips) : ClosedOff (k1_off49 k1_t3) := ⟨_, k1_off49_eq k1_t3⟩
theorem k1_off50_eq : ∀ k1_t3 : Fin k1_t3_loop.trips, k1_off50 k1_t3 = ![2, 128 * k1_t3.val + 96] := by decide +kernel
instance closedOff_k1_off50 (k1_t3 : Fin k1_t3_loop.trips) : ClosedOff (k1_off50 k1_t3) := ⟨_, k1_off50_eq k1_t3⟩
theorem k1_off51_eq : ∀ k1_t3 : Fin k1_t3_loop.trips, k1_off51 k1_t3 = ![0, 128 * k1_t3.val + 112] := by decide +kernel
instance closedOff_k1_off51 (k1_t3 : Fin k1_t3_loop.trips) : ClosedOff (k1_off51 k1_t3) := ⟨_, k1_off51_eq k1_t3⟩
theorem k1_off52_eq : ∀ k1_t3 : Fin k1_t3_loop.trips, k1_off52 k1_t3 = ![1, 128 * k1_t3.val + 112] := by decide +kernel
instance closedOff_k1_off52 (k1_t3 : Fin k1_t3_loop.trips) : ClosedOff (k1_off52 k1_t3) := ⟨_, k1_off52_eq k1_t3⟩
theorem k1_off53_eq : ∀ k1_t3 : Fin k1_t3_loop.trips, k1_off53 k1_t3 = ![2, 128 * k1_t3.val + 112] := by decide +kernel
instance closedOff_k1_off53 (k1_t3 : Fin k1_t3_loop.trips) : ClosedOff (k1_off53 k1_t3) := ⟨_, k1_off53_eq k1_t3⟩
theorem k1_off56_eq : ∀ k1_t4 : Fin k1_t4_loop.trips, k1_off56 k1_t4 = ![0, 128 * k1_t4.val] := by decide +kernel
instance closedOff_k1_off56 (k1_t4 : Fin k1_t4_loop.trips) : ClosedOff (k1_off56 k1_t4) := ⟨_, k1_off56_eq k1_t4⟩
theorem k1_off57_eq : ∀ k1_t4 : Fin k1_t4_loop.trips, k1_off57 k1_t4 = ![1, 128 * k1_t4.val] := by decide +kernel
instance closedOff_k1_off57 (k1_t4 : Fin k1_t4_loop.trips) : ClosedOff (k1_off57 k1_t4) := ⟨_, k1_off57_eq k1_t4⟩
theorem k1_off58_eq : ∀ k1_t4 : Fin k1_t4_loop.trips, k1_off58 k1_t4 = ![2, 128 * k1_t4.val] := by decide +kernel
instance closedOff_k1_off58 (k1_t4 : Fin k1_t4_loop.trips) : ClosedOff (k1_off58 k1_t4) := ⟨_, k1_off58_eq k1_t4⟩
theorem k1_off59_eq : ∀ k1_t4 : Fin k1_t4_loop.trips, k1_off59 k1_t4 = ![0, 128 * k1_t4.val + 16] := by decide +kernel
instance closedOff_k1_off59 (k1_t4 : Fin k1_t4_loop.trips) : ClosedOff (k1_off59 k1_t4) := ⟨_, k1_off59_eq k1_t4⟩
theorem k1_off60_eq : ∀ k1_t4 : Fin k1_t4_loop.trips, k1_off60 k1_t4 = ![1, 128 * k1_t4.val + 16] := by decide +kernel
instance closedOff_k1_off60 (k1_t4 : Fin k1_t4_loop.trips) : ClosedOff (k1_off60 k1_t4) := ⟨_, k1_off60_eq k1_t4⟩
theorem k1_off61_eq : ∀ k1_t4 : Fin k1_t4_loop.trips, k1_off61 k1_t4 = ![2, 128 * k1_t4.val + 16] := by decide +kernel
instance closedOff_k1_off61 (k1_t4 : Fin k1_t4_loop.trips) : ClosedOff (k1_off61 k1_t4) := ⟨_, k1_off61_eq k1_t4⟩
theorem k1_off62_eq : ∀ k1_t4 : Fin k1_t4_loop.trips, k1_off62 k1_t4 = ![0, 128 * k1_t4.val + 32] := by decide +kernel
instance closedOff_k1_off62 (k1_t4 : Fin k1_t4_loop.trips) : ClosedOff (k1_off62 k1_t4) := ⟨_, k1_off62_eq k1_t4⟩
theorem k1_off63_eq : ∀ k1_t4 : Fin k1_t4_loop.trips, k1_off63 k1_t4 = ![1, 128 * k1_t4.val + 32] := by decide +kernel
instance closedOff_k1_off63 (k1_t4 : Fin k1_t4_loop.trips) : ClosedOff (k1_off63 k1_t4) := ⟨_, k1_off63_eq k1_t4⟩
theorem k1_off64_eq : ∀ k1_t4 : Fin k1_t4_loop.trips, k1_off64 k1_t4 = ![2, 128 * k1_t4.val + 32] := by decide +kernel
instance closedOff_k1_off64 (k1_t4 : Fin k1_t4_loop.trips) : ClosedOff (k1_off64 k1_t4) := ⟨_, k1_off64_eq k1_t4⟩
theorem k1_off65_eq : ∀ k1_t4 : Fin k1_t4_loop.trips, k1_off65 k1_t4 = ![0, 128 * k1_t4.val + 48] := by decide +kernel
instance closedOff_k1_off65 (k1_t4 : Fin k1_t4_loop.trips) : ClosedOff (k1_off65 k1_t4) := ⟨_, k1_off65_eq k1_t4⟩
theorem k1_off66_eq : ∀ k1_t4 : Fin k1_t4_loop.trips, k1_off66 k1_t4 = ![1, 128 * k1_t4.val + 48] := by decide +kernel
instance closedOff_k1_off66 (k1_t4 : Fin k1_t4_loop.trips) : ClosedOff (k1_off66 k1_t4) := ⟨_, k1_off66_eq k1_t4⟩
theorem k1_off67_eq : ∀ k1_t4 : Fin k1_t4_loop.trips, k1_off67 k1_t4 = ![2, 128 * k1_t4.val + 48] := by decide +kernel
instance closedOff_k1_off67 (k1_t4 : Fin k1_t4_loop.trips) : ClosedOff (k1_off67 k1_t4) := ⟨_, k1_off67_eq k1_t4⟩
theorem k1_off68_eq : ∀ k1_t4 : Fin k1_t4_loop.trips, k1_off68 k1_t4 = ![0, 128 * k1_t4.val + 64] := by decide +kernel
instance closedOff_k1_off68 (k1_t4 : Fin k1_t4_loop.trips) : ClosedOff (k1_off68 k1_t4) := ⟨_, k1_off68_eq k1_t4⟩
theorem k1_off69_eq : ∀ k1_t4 : Fin k1_t4_loop.trips, k1_off69 k1_t4 = ![1, 128 * k1_t4.val + 64] := by decide +kernel
instance closedOff_k1_off69 (k1_t4 : Fin k1_t4_loop.trips) : ClosedOff (k1_off69 k1_t4) := ⟨_, k1_off69_eq k1_t4⟩
theorem k1_off70_eq : ∀ k1_t4 : Fin k1_t4_loop.trips, k1_off70 k1_t4 = ![2, 128 * k1_t4.val + 64] := by decide +kernel
instance closedOff_k1_off70 (k1_t4 : Fin k1_t4_loop.trips) : ClosedOff (k1_off70 k1_t4) := ⟨_, k1_off70_eq k1_t4⟩
theorem k1_off71_eq : ∀ k1_t4 : Fin k1_t4_loop.trips, k1_off71 k1_t4 = ![0, 128 * k1_t4.val + 80] := by decide +kernel
instance closedOff_k1_off71 (k1_t4 : Fin k1_t4_loop.trips) : ClosedOff (k1_off71 k1_t4) := ⟨_, k1_off71_eq k1_t4⟩
theorem k1_off72_eq : ∀ k1_t4 : Fin k1_t4_loop.trips, k1_off72 k1_t4 = ![1, 128 * k1_t4.val + 80] := by decide +kernel
instance closedOff_k1_off72 (k1_t4 : Fin k1_t4_loop.trips) : ClosedOff (k1_off72 k1_t4) := ⟨_, k1_off72_eq k1_t4⟩
theorem k1_off73_eq : ∀ k1_t4 : Fin k1_t4_loop.trips, k1_off73 k1_t4 = ![2, 128 * k1_t4.val + 80] := by decide +kernel
instance closedOff_k1_off73 (k1_t4 : Fin k1_t4_loop.trips) : ClosedOff (k1_off73 k1_t4) := ⟨_, k1_off73_eq k1_t4⟩
theorem k1_off74_eq : ∀ k1_t4 : Fin k1_t4_loop.trips, k1_off74 k1_t4 = ![0, 128 * k1_t4.val + 96] := by decide +kernel
instance closedOff_k1_off74 (k1_t4 : Fin k1_t4_loop.trips) : ClosedOff (k1_off74 k1_t4) := ⟨_, k1_off74_eq k1_t4⟩
theorem k1_off75_eq : ∀ k1_t4 : Fin k1_t4_loop.trips, k1_off75 k1_t4 = ![1, 128 * k1_t4.val + 96] := by decide +kernel
instance closedOff_k1_off75 (k1_t4 : Fin k1_t4_loop.trips) : ClosedOff (k1_off75 k1_t4) := ⟨_, k1_off75_eq k1_t4⟩
theorem k1_off76_eq : ∀ k1_t4 : Fin k1_t4_loop.trips, k1_off76 k1_t4 = ![2, 128 * k1_t4.val + 96] := by decide +kernel
instance closedOff_k1_off76 (k1_t4 : Fin k1_t4_loop.trips) : ClosedOff (k1_off76 k1_t4) := ⟨_, k1_off76_eq k1_t4⟩
theorem k1_off77_eq : ∀ k1_t4 : Fin k1_t4_loop.trips, k1_off77 k1_t4 = ![0, 128 * k1_t4.val + 112] := by decide +kernel
instance closedOff_k1_off77 (k1_t4 : Fin k1_t4_loop.trips) : ClosedOff (k1_off77 k1_t4) := ⟨_, k1_off77_eq k1_t4⟩
theorem k1_off78_eq : ∀ k1_t4 : Fin k1_t4_loop.trips, k1_off78 k1_t4 = ![1, 128 * k1_t4.val + 112] := by decide +kernel
instance closedOff_k1_off78 (k1_t4 : Fin k1_t4_loop.trips) : ClosedOff (k1_off78 k1_t4) := ⟨_, k1_off78_eq k1_t4⟩
theorem k1_off79_eq : ∀ k1_t4 : Fin k1_t4_loop.trips, k1_off79 k1_t4 = ![2, 128 * k1_t4.val + 112] := by decide +kernel
instance closedOff_k1_off79 (k1_t4 : Fin k1_t4_loop.trips) : ClosedOff (k1_off79 k1_t4) := ⟨_, k1_off79_eq k1_t4⟩
theorem k1_off82_eq : k1_off82 = ![0, 0] := by decide +kernel
instance closedOff_k1_off82 : ClosedOff (k1_off82) := ⟨_, k1_off82_eq ⟩
theorem k1_off83_eq : k1_off83 = ![1, 0] := by decide +kernel
instance closedOff_k1_off83 : ClosedOff (k1_off83) := ⟨_, k1_off83_eq ⟩
theorem k1_off84_eq : k1_off84 = ![2, 0] := by decide +kernel
instance closedOff_k1_off84 : ClosedOff (k1_off84) := ⟨_, k1_off84_eq ⟩
theorem k1_off85_eq : k1_off85 = ![0, 16] := by decide +kernel
instance closedOff_k1_off85 : ClosedOff (k1_off85) := ⟨_, k1_off85_eq ⟩
theorem k1_off86_eq : k1_off86 = ![1, 16] := by decide +kernel
instance closedOff_k1_off86 : ClosedOff (k1_off86) := ⟨_, k1_off86_eq ⟩
theorem k1_off87_eq : k1_off87 = ![2, 16] := by decide +kernel
instance closedOff_k1_off87 : ClosedOff (k1_off87) := ⟨_, k1_off87_eq ⟩
theorem k1_off88_eq : k1_off88 = ![0, 32] := by decide +kernel
instance closedOff_k1_off88 : ClosedOff (k1_off88) := ⟨_, k1_off88_eq ⟩
theorem k1_off89_eq : k1_off89 = ![1, 32] := by decide +kernel
instance closedOff_k1_off89 : ClosedOff (k1_off89) := ⟨_, k1_off89_eq ⟩
theorem k1_off90_eq : k1_off90 = ![2, 32] := by decide +kernel
instance closedOff_k1_off90 : ClosedOff (k1_off90) := ⟨_, k1_off90_eq ⟩
theorem k1_off91_eq : k1_off91 = ![0, 48] := by decide +kernel
instance closedOff_k1_off91 : ClosedOff (k1_off91) := ⟨_, k1_off91_eq ⟩
theorem k1_off92_eq : k1_off92 = ![1, 48] := by decide +kernel
instance closedOff_k1_off92 : ClosedOff (k1_off92) := ⟨_, k1_off92_eq ⟩
theorem k1_off93_eq : k1_off93 = ![2, 48] := by decide +kernel
instance closedOff_k1_off93 : ClosedOff (k1_off93) := ⟨_, k1_off93_eq ⟩
theorem k1_off94_eq : k1_off94 = ![0, 64] := by decide +kernel
instance closedOff_k1_off94 : ClosedOff (k1_off94) := ⟨_, k1_off94_eq ⟩
theorem k1_off95_eq : k1_off95 = ![1, 64] := by decide +kernel
instance closedOff_k1_off95 : ClosedOff (k1_off95) := ⟨_, k1_off95_eq ⟩
theorem k1_off96_eq : k1_off96 = ![2, 64] := by decide +kernel
instance closedOff_k1_off96 : ClosedOff (k1_off96) := ⟨_, k1_off96_eq ⟩
theorem k1_off97_eq : k1_off97 = ![0, 80] := by decide +kernel
instance closedOff_k1_off97 : ClosedOff (k1_off97) := ⟨_, k1_off97_eq ⟩
theorem k1_off98_eq : k1_off98 = ![1, 80] := by decide +kernel
instance closedOff_k1_off98 : ClosedOff (k1_off98) := ⟨_, k1_off98_eq ⟩
theorem k1_off99_eq : k1_off99 = ![2, 80] := by decide +kernel
instance closedOff_k1_off99 : ClosedOff (k1_off99) := ⟨_, k1_off99_eq ⟩
theorem k1_off100_eq : k1_off100 = ![0, 96] := by decide +kernel
instance closedOff_k1_off100 : ClosedOff (k1_off100) := ⟨_, k1_off100_eq ⟩
theorem k1_off101_eq : k1_off101 = ![1, 96] := by decide +kernel
instance closedOff_k1_off101 : ClosedOff (k1_off101) := ⟨_, k1_off101_eq ⟩
theorem k1_off102_eq : k1_off102 = ![2, 96] := by decide +kernel
instance closedOff_k1_off102 : ClosedOff (k1_off102) := ⟨_, k1_off102_eq ⟩
theorem k1_off103_eq : k1_off103 = ![0, 112] := by decide +kernel
instance closedOff_k1_off103 : ClosedOff (k1_off103) := ⟨_, k1_off103_eq ⟩
theorem k1_off104_eq : k1_off104 = ![1, 112] := by decide +kernel
instance closedOff_k1_off104 : ClosedOff (k1_off104) := ⟨_, k1_off104_eq ⟩
theorem k1_off105_eq : k1_off105 = ![2, 112] := by decide +kernel
instance closedOff_k1_off105 : ClosedOff (k1_off105) := ⟨_, k1_off105_eq ⟩
theorem k1_off108_eq : ∀ k1_t5 : Fin k1_t5_loop.trips, k1_off108 k1_t5 = ![80 * k1_t5.val] := by decide +kernel
instance closedOff_k1_off108 (k1_t5 : Fin k1_t5_loop.trips) : ClosedOff (k1_off108 k1_t5) := ⟨_, k1_off108_eq k1_t5⟩
theorem k1_off109_eq : ∀ k1_t5 : Fin k1_t5_loop.trips, k1_off109 k1_t5 = ![80 * k1_t5.val + 16] := by decide +kernel
instance closedOff_k1_off109 (k1_t5 : Fin k1_t5_loop.trips) : ClosedOff (k1_off109 k1_t5) := ⟨_, k1_off109_eq k1_t5⟩
theorem k1_off110_eq : ∀ k1_t5 : Fin k1_t5_loop.trips, k1_off110 k1_t5 = ![80 * k1_t5.val + 32] := by decide +kernel
instance closedOff_k1_off110 (k1_t5 : Fin k1_t5_loop.trips) : ClosedOff (k1_off110 k1_t5) := ⟨_, k1_off110_eq k1_t5⟩
theorem k1_off111_eq : ∀ k1_t5 : Fin k1_t5_loop.trips, k1_off111 k1_t5 = ![80 * k1_t5.val + 48] := by decide +kernel
instance closedOff_k1_off111 (k1_t5 : Fin k1_t5_loop.trips) : ClosedOff (k1_off111 k1_t5) := ⟨_, k1_off111_eq k1_t5⟩
theorem k1_off112_eq : ∀ k1_t5 : Fin k1_t5_loop.trips, k1_off112 k1_t5 = ![80 * k1_t5.val + 64] := by decide +kernel
instance closedOff_k1_off112 (k1_t5 : Fin k1_t5_loop.trips) : ClosedOff (k1_off112 k1_t5) := ⟨_, k1_off112_eq k1_t5⟩
theorem k1_off113_eq : ∀ i : grid1.Coords, k1_off113 i = ![100000 * (i 1).val + 50000 * (i 0).val] := by decide +kernel
instance closedOff_k1_off113 (i : grid1.Coords) : ClosedOff (k1_off113 i) := ⟨_, k1_off113_eq i⟩
theorem k3_off3_eq : ∀ k3_t2 : Fin k3_t2_loop.trips, k3_off3 k3_t2 = ![0, 128 * k3_t2.val] := by decide +kernel
instance closedOff_k3_off3 (k3_t2 : Fin k3_t2_loop.trips) : ClosedOff (k3_off3 k3_t2) := ⟨_, k3_off3_eq k3_t2⟩
theorem k3_off4_eq : ∀ k3_t2 : Fin k3_t2_loop.trips, k3_off4 k3_t2 = ![1, 128 * k3_t2.val] := by decide +kernel
instance closedOff_k3_off4 (k3_t2 : Fin k3_t2_loop.trips) : ClosedOff (k3_off4 k3_t2) := ⟨_, k3_off4_eq k3_t2⟩
theorem k3_off5_eq : ∀ k3_t2 : Fin k3_t2_loop.trips, k3_off5 k3_t2 = ![2, 128 * k3_t2.val] := by decide +kernel
instance closedOff_k3_off5 (k3_t2 : Fin k3_t2_loop.trips) : ClosedOff (k3_off5 k3_t2) := ⟨_, k3_off5_eq k3_t2⟩
theorem k3_off6_eq : ∀ k3_t2 : Fin k3_t2_loop.trips, k3_off6 k3_t2 = ![0, 128 * k3_t2.val + 16] := by decide +kernel
instance closedOff_k3_off6 (k3_t2 : Fin k3_t2_loop.trips) : ClosedOff (k3_off6 k3_t2) := ⟨_, k3_off6_eq k3_t2⟩
theorem k3_off7_eq : ∀ k3_t2 : Fin k3_t2_loop.trips, k3_off7 k3_t2 = ![1, 128 * k3_t2.val + 16] := by decide +kernel
instance closedOff_k3_off7 (k3_t2 : Fin k3_t2_loop.trips) : ClosedOff (k3_off7 k3_t2) := ⟨_, k3_off7_eq k3_t2⟩
theorem k3_off8_eq : ∀ k3_t2 : Fin k3_t2_loop.trips, k3_off8 k3_t2 = ![2, 128 * k3_t2.val + 16] := by decide +kernel
instance closedOff_k3_off8 (k3_t2 : Fin k3_t2_loop.trips) : ClosedOff (k3_off8 k3_t2) := ⟨_, k3_off8_eq k3_t2⟩
theorem k3_off9_eq : ∀ k3_t2 : Fin k3_t2_loop.trips, k3_off9 k3_t2 = ![0, 128 * k3_t2.val + 32] := by decide +kernel
instance closedOff_k3_off9 (k3_t2 : Fin k3_t2_loop.trips) : ClosedOff (k3_off9 k3_t2) := ⟨_, k3_off9_eq k3_t2⟩
theorem k3_off10_eq : ∀ k3_t2 : Fin k3_t2_loop.trips, k3_off10 k3_t2 = ![1, 128 * k3_t2.val + 32] := by decide +kernel
instance closedOff_k3_off10 (k3_t2 : Fin k3_t2_loop.trips) : ClosedOff (k3_off10 k3_t2) := ⟨_, k3_off10_eq k3_t2⟩
theorem k3_off11_eq : ∀ k3_t2 : Fin k3_t2_loop.trips, k3_off11 k3_t2 = ![2, 128 * k3_t2.val + 32] := by decide +kernel
instance closedOff_k3_off11 (k3_t2 : Fin k3_t2_loop.trips) : ClosedOff (k3_off11 k3_t2) := ⟨_, k3_off11_eq k3_t2⟩
theorem k3_off12_eq : ∀ k3_t2 : Fin k3_t2_loop.trips, k3_off12 k3_t2 = ![0, 128 * k3_t2.val + 48] := by decide +kernel
instance closedOff_k3_off12 (k3_t2 : Fin k3_t2_loop.trips) : ClosedOff (k3_off12 k3_t2) := ⟨_, k3_off12_eq k3_t2⟩
theorem k3_off13_eq : ∀ k3_t2 : Fin k3_t2_loop.trips, k3_off13 k3_t2 = ![1, 128 * k3_t2.val + 48] := by decide +kernel
instance closedOff_k3_off13 (k3_t2 : Fin k3_t2_loop.trips) : ClosedOff (k3_off13 k3_t2) := ⟨_, k3_off13_eq k3_t2⟩
theorem k3_off14_eq : ∀ k3_t2 : Fin k3_t2_loop.trips, k3_off14 k3_t2 = ![2, 128 * k3_t2.val + 48] := by decide +kernel
instance closedOff_k3_off14 (k3_t2 : Fin k3_t2_loop.trips) : ClosedOff (k3_off14 k3_t2) := ⟨_, k3_off14_eq k3_t2⟩
theorem k3_off15_eq : ∀ k3_t2 : Fin k3_t2_loop.trips, k3_off15 k3_t2 = ![0, 128 * k3_t2.val + 64] := by decide +kernel
instance closedOff_k3_off15 (k3_t2 : Fin k3_t2_loop.trips) : ClosedOff (k3_off15 k3_t2) := ⟨_, k3_off15_eq k3_t2⟩
theorem k3_off16_eq : ∀ k3_t2 : Fin k3_t2_loop.trips, k3_off16 k3_t2 = ![1, 128 * k3_t2.val + 64] := by decide +kernel
instance closedOff_k3_off16 (k3_t2 : Fin k3_t2_loop.trips) : ClosedOff (k3_off16 k3_t2) := ⟨_, k3_off16_eq k3_t2⟩
theorem k3_off17_eq : ∀ k3_t2 : Fin k3_t2_loop.trips, k3_off17 k3_t2 = ![2, 128 * k3_t2.val + 64] := by decide +kernel
instance closedOff_k3_off17 (k3_t2 : Fin k3_t2_loop.trips) : ClosedOff (k3_off17 k3_t2) := ⟨_, k3_off17_eq k3_t2⟩
theorem k3_off18_eq : ∀ k3_t2 : Fin k3_t2_loop.trips, k3_off18 k3_t2 = ![0, 128 * k3_t2.val + 80] := by decide +kernel
instance closedOff_k3_off18 (k3_t2 : Fin k3_t2_loop.trips) : ClosedOff (k3_off18 k3_t2) := ⟨_, k3_off18_eq k3_t2⟩
theorem k3_off19_eq : ∀ k3_t2 : Fin k3_t2_loop.trips, k3_off19 k3_t2 = ![1, 128 * k3_t2.val + 80] := by decide +kernel
instance closedOff_k3_off19 (k3_t2 : Fin k3_t2_loop.trips) : ClosedOff (k3_off19 k3_t2) := ⟨_, k3_off19_eq k3_t2⟩
theorem k3_off20_eq : ∀ k3_t2 : Fin k3_t2_loop.trips, k3_off20 k3_t2 = ![2, 128 * k3_t2.val + 80] := by decide +kernel
instance closedOff_k3_off20 (k3_t2 : Fin k3_t2_loop.trips) : ClosedOff (k3_off20 k3_t2) := ⟨_, k3_off20_eq k3_t2⟩
theorem k3_off21_eq : ∀ k3_t2 : Fin k3_t2_loop.trips, k3_off21 k3_t2 = ![0, 128 * k3_t2.val + 96] := by decide +kernel
instance closedOff_k3_off21 (k3_t2 : Fin k3_t2_loop.trips) : ClosedOff (k3_off21 k3_t2) := ⟨_, k3_off21_eq k3_t2⟩
theorem k3_off22_eq : ∀ k3_t2 : Fin k3_t2_loop.trips, k3_off22 k3_t2 = ![1, 128 * k3_t2.val + 96] := by decide +kernel
instance closedOff_k3_off22 (k3_t2 : Fin k3_t2_loop.trips) : ClosedOff (k3_off22 k3_t2) := ⟨_, k3_off22_eq k3_t2⟩
theorem k3_off23_eq : ∀ k3_t2 : Fin k3_t2_loop.trips, k3_off23 k3_t2 = ![2, 128 * k3_t2.val + 96] := by decide +kernel
instance closedOff_k3_off23 (k3_t2 : Fin k3_t2_loop.trips) : ClosedOff (k3_off23 k3_t2) := ⟨_, k3_off23_eq k3_t2⟩
theorem k3_off24_eq : ∀ k3_t2 : Fin k3_t2_loop.trips, k3_off24 k3_t2 = ![0, 128 * k3_t2.val + 112] := by decide +kernel
instance closedOff_k3_off24 (k3_t2 : Fin k3_t2_loop.trips) : ClosedOff (k3_off24 k3_t2) := ⟨_, k3_off24_eq k3_t2⟩
theorem k3_off25_eq : ∀ k3_t2 : Fin k3_t2_loop.trips, k3_off25 k3_t2 = ![1, 128 * k3_t2.val + 112] := by decide +kernel
instance closedOff_k3_off25 (k3_t2 : Fin k3_t2_loop.trips) : ClosedOff (k3_off25 k3_t2) := ⟨_, k3_off25_eq k3_t2⟩
theorem k3_off26_eq : ∀ k3_t2 : Fin k3_t2_loop.trips, k3_off26 k3_t2 = ![2, 128 * k3_t2.val + 112] := by decide +kernel
instance closedOff_k3_off26 (k3_t2 : Fin k3_t2_loop.trips) : ClosedOff (k3_off26 k3_t2) := ⟨_, k3_off26_eq k3_t2⟩
theorem k3_off30_eq : ∀ k3_t3 : Fin k3_t3_loop.trips, k3_off30 k3_t3 = ![0, 128 * k3_t3.val] := by decide +kernel
instance closedOff_k3_off30 (k3_t3 : Fin k3_t3_loop.trips) : ClosedOff (k3_off30 k3_t3) := ⟨_, k3_off30_eq k3_t3⟩
theorem k3_off31_eq : ∀ k3_t3 : Fin k3_t3_loop.trips, k3_off31 k3_t3 = ![1, 128 * k3_t3.val] := by decide +kernel
instance closedOff_k3_off31 (k3_t3 : Fin k3_t3_loop.trips) : ClosedOff (k3_off31 k3_t3) := ⟨_, k3_off31_eq k3_t3⟩
theorem k3_off32_eq : ∀ k3_t3 : Fin k3_t3_loop.trips, k3_off32 k3_t3 = ![2, 128 * k3_t3.val] := by decide +kernel
instance closedOff_k3_off32 (k3_t3 : Fin k3_t3_loop.trips) : ClosedOff (k3_off32 k3_t3) := ⟨_, k3_off32_eq k3_t3⟩
theorem k3_off33_eq : ∀ k3_t3 : Fin k3_t3_loop.trips, k3_off33 k3_t3 = ![0, 128 * k3_t3.val + 16] := by decide +kernel
instance closedOff_k3_off33 (k3_t3 : Fin k3_t3_loop.trips) : ClosedOff (k3_off33 k3_t3) := ⟨_, k3_off33_eq k3_t3⟩
theorem k3_off34_eq : ∀ k3_t3 : Fin k3_t3_loop.trips, k3_off34 k3_t3 = ![1, 128 * k3_t3.val + 16] := by decide +kernel
instance closedOff_k3_off34 (k3_t3 : Fin k3_t3_loop.trips) : ClosedOff (k3_off34 k3_t3) := ⟨_, k3_off34_eq k3_t3⟩
theorem k3_off35_eq : ∀ k3_t3 : Fin k3_t3_loop.trips, k3_off35 k3_t3 = ![2, 128 * k3_t3.val + 16] := by decide +kernel
instance closedOff_k3_off35 (k3_t3 : Fin k3_t3_loop.trips) : ClosedOff (k3_off35 k3_t3) := ⟨_, k3_off35_eq k3_t3⟩
theorem k3_off36_eq : ∀ k3_t3 : Fin k3_t3_loop.trips, k3_off36 k3_t3 = ![0, 128 * k3_t3.val + 32] := by decide +kernel
instance closedOff_k3_off36 (k3_t3 : Fin k3_t3_loop.trips) : ClosedOff (k3_off36 k3_t3) := ⟨_, k3_off36_eq k3_t3⟩
theorem k3_off37_eq : ∀ k3_t3 : Fin k3_t3_loop.trips, k3_off37 k3_t3 = ![1, 128 * k3_t3.val + 32] := by decide +kernel
instance closedOff_k3_off37 (k3_t3 : Fin k3_t3_loop.trips) : ClosedOff (k3_off37 k3_t3) := ⟨_, k3_off37_eq k3_t3⟩
theorem k3_off38_eq : ∀ k3_t3 : Fin k3_t3_loop.trips, k3_off38 k3_t3 = ![2, 128 * k3_t3.val + 32] := by decide +kernel
instance closedOff_k3_off38 (k3_t3 : Fin k3_t3_loop.trips) : ClosedOff (k3_off38 k3_t3) := ⟨_, k3_off38_eq k3_t3⟩
theorem k3_off39_eq : ∀ k3_t3 : Fin k3_t3_loop.trips, k3_off39 k3_t3 = ![0, 128 * k3_t3.val + 48] := by decide +kernel
instance closedOff_k3_off39 (k3_t3 : Fin k3_t3_loop.trips) : ClosedOff (k3_off39 k3_t3) := ⟨_, k3_off39_eq k3_t3⟩
theorem k3_off40_eq : ∀ k3_t3 : Fin k3_t3_loop.trips, k3_off40 k3_t3 = ![1, 128 * k3_t3.val + 48] := by decide +kernel
instance closedOff_k3_off40 (k3_t3 : Fin k3_t3_loop.trips) : ClosedOff (k3_off40 k3_t3) := ⟨_, k3_off40_eq k3_t3⟩
theorem k3_off41_eq : ∀ k3_t3 : Fin k3_t3_loop.trips, k3_off41 k3_t3 = ![2, 128 * k3_t3.val + 48] := by decide +kernel
instance closedOff_k3_off41 (k3_t3 : Fin k3_t3_loop.trips) : ClosedOff (k3_off41 k3_t3) := ⟨_, k3_off41_eq k3_t3⟩
theorem k3_off42_eq : ∀ k3_t3 : Fin k3_t3_loop.trips, k3_off42 k3_t3 = ![0, 128 * k3_t3.val + 64] := by decide +kernel
instance closedOff_k3_off42 (k3_t3 : Fin k3_t3_loop.trips) : ClosedOff (k3_off42 k3_t3) := ⟨_, k3_off42_eq k3_t3⟩
theorem k3_off43_eq : ∀ k3_t3 : Fin k3_t3_loop.trips, k3_off43 k3_t3 = ![1, 128 * k3_t3.val + 64] := by decide +kernel
instance closedOff_k3_off43 (k3_t3 : Fin k3_t3_loop.trips) : ClosedOff (k3_off43 k3_t3) := ⟨_, k3_off43_eq k3_t3⟩
theorem k3_off44_eq : ∀ k3_t3 : Fin k3_t3_loop.trips, k3_off44 k3_t3 = ![2, 128 * k3_t3.val + 64] := by decide +kernel
instance closedOff_k3_off44 (k3_t3 : Fin k3_t3_loop.trips) : ClosedOff (k3_off44 k3_t3) := ⟨_, k3_off44_eq k3_t3⟩
theorem k3_off45_eq : ∀ k3_t3 : Fin k3_t3_loop.trips, k3_off45 k3_t3 = ![0, 128 * k3_t3.val + 80] := by decide +kernel
instance closedOff_k3_off45 (k3_t3 : Fin k3_t3_loop.trips) : ClosedOff (k3_off45 k3_t3) := ⟨_, k3_off45_eq k3_t3⟩
theorem k3_off46_eq : ∀ k3_t3 : Fin k3_t3_loop.trips, k3_off46 k3_t3 = ![1, 128 * k3_t3.val + 80] := by decide +kernel
instance closedOff_k3_off46 (k3_t3 : Fin k3_t3_loop.trips) : ClosedOff (k3_off46 k3_t3) := ⟨_, k3_off46_eq k3_t3⟩
theorem k3_off47_eq : ∀ k3_t3 : Fin k3_t3_loop.trips, k3_off47 k3_t3 = ![2, 128 * k3_t3.val + 80] := by decide +kernel
instance closedOff_k3_off47 (k3_t3 : Fin k3_t3_loop.trips) : ClosedOff (k3_off47 k3_t3) := ⟨_, k3_off47_eq k3_t3⟩
theorem k3_off48_eq : ∀ k3_t3 : Fin k3_t3_loop.trips, k3_off48 k3_t3 = ![0, 128 * k3_t3.val + 96] := by decide +kernel
instance closedOff_k3_off48 (k3_t3 : Fin k3_t3_loop.trips) : ClosedOff (k3_off48 k3_t3) := ⟨_, k3_off48_eq k3_t3⟩
theorem k3_off49_eq : ∀ k3_t3 : Fin k3_t3_loop.trips, k3_off49 k3_t3 = ![1, 128 * k3_t3.val + 96] := by decide +kernel
instance closedOff_k3_off49 (k3_t3 : Fin k3_t3_loop.trips) : ClosedOff (k3_off49 k3_t3) := ⟨_, k3_off49_eq k3_t3⟩
theorem k3_off50_eq : ∀ k3_t3 : Fin k3_t3_loop.trips, k3_off50 k3_t3 = ![2, 128 * k3_t3.val + 96] := by decide +kernel
instance closedOff_k3_off50 (k3_t3 : Fin k3_t3_loop.trips) : ClosedOff (k3_off50 k3_t3) := ⟨_, k3_off50_eq k3_t3⟩
theorem k3_off51_eq : ∀ k3_t3 : Fin k3_t3_loop.trips, k3_off51 k3_t3 = ![0, 128 * k3_t3.val + 112] := by decide +kernel
instance closedOff_k3_off51 (k3_t3 : Fin k3_t3_loop.trips) : ClosedOff (k3_off51 k3_t3) := ⟨_, k3_off51_eq k3_t3⟩
theorem k3_off52_eq : ∀ k3_t3 : Fin k3_t3_loop.trips, k3_off52 k3_t3 = ![1, 128 * k3_t3.val + 112] := by decide +kernel
instance closedOff_k3_off52 (k3_t3 : Fin k3_t3_loop.trips) : ClosedOff (k3_off52 k3_t3) := ⟨_, k3_off52_eq k3_t3⟩
theorem k3_off53_eq : ∀ k3_t3 : Fin k3_t3_loop.trips, k3_off53 k3_t3 = ![2, 128 * k3_t3.val + 112] := by decide +kernel
instance closedOff_k3_off53 (k3_t3 : Fin k3_t3_loop.trips) : ClosedOff (k3_off53 k3_t3) := ⟨_, k3_off53_eq k3_t3⟩
theorem k3_off56_eq : ∀ k3_t4 : Fin k3_t4_loop.trips, k3_off56 k3_t4 = ![0, 128 * k3_t4.val] := by decide +kernel
instance closedOff_k3_off56 (k3_t4 : Fin k3_t4_loop.trips) : ClosedOff (k3_off56 k3_t4) := ⟨_, k3_off56_eq k3_t4⟩
theorem k3_off57_eq : ∀ k3_t4 : Fin k3_t4_loop.trips, k3_off57 k3_t4 = ![1, 128 * k3_t4.val] := by decide +kernel
instance closedOff_k3_off57 (k3_t4 : Fin k3_t4_loop.trips) : ClosedOff (k3_off57 k3_t4) := ⟨_, k3_off57_eq k3_t4⟩
theorem k3_off58_eq : ∀ k3_t4 : Fin k3_t4_loop.trips, k3_off58 k3_t4 = ![2, 128 * k3_t4.val] := by decide +kernel
instance closedOff_k3_off58 (k3_t4 : Fin k3_t4_loop.trips) : ClosedOff (k3_off58 k3_t4) := ⟨_, k3_off58_eq k3_t4⟩
theorem k3_off59_eq : ∀ k3_t4 : Fin k3_t4_loop.trips, k3_off59 k3_t4 = ![0, 128 * k3_t4.val + 16] := by decide +kernel
instance closedOff_k3_off59 (k3_t4 : Fin k3_t4_loop.trips) : ClosedOff (k3_off59 k3_t4) := ⟨_, k3_off59_eq k3_t4⟩
theorem k3_off60_eq : ∀ k3_t4 : Fin k3_t4_loop.trips, k3_off60 k3_t4 = ![1, 128 * k3_t4.val + 16] := by decide +kernel
instance closedOff_k3_off60 (k3_t4 : Fin k3_t4_loop.trips) : ClosedOff (k3_off60 k3_t4) := ⟨_, k3_off60_eq k3_t4⟩
theorem k3_off61_eq : ∀ k3_t4 : Fin k3_t4_loop.trips, k3_off61 k3_t4 = ![2, 128 * k3_t4.val + 16] := by decide +kernel
instance closedOff_k3_off61 (k3_t4 : Fin k3_t4_loop.trips) : ClosedOff (k3_off61 k3_t4) := ⟨_, k3_off61_eq k3_t4⟩
theorem k3_off62_eq : ∀ k3_t4 : Fin k3_t4_loop.trips, k3_off62 k3_t4 = ![0, 128 * k3_t4.val + 32] := by decide +kernel
instance closedOff_k3_off62 (k3_t4 : Fin k3_t4_loop.trips) : ClosedOff (k3_off62 k3_t4) := ⟨_, k3_off62_eq k3_t4⟩
theorem k3_off63_eq : ∀ k3_t4 : Fin k3_t4_loop.trips, k3_off63 k3_t4 = ![1, 128 * k3_t4.val + 32] := by decide +kernel
instance closedOff_k3_off63 (k3_t4 : Fin k3_t4_loop.trips) : ClosedOff (k3_off63 k3_t4) := ⟨_, k3_off63_eq k3_t4⟩
theorem k3_off64_eq : ∀ k3_t4 : Fin k3_t4_loop.trips, k3_off64 k3_t4 = ![2, 128 * k3_t4.val + 32] := by decide +kernel
instance closedOff_k3_off64 (k3_t4 : Fin k3_t4_loop.trips) : ClosedOff (k3_off64 k3_t4) := ⟨_, k3_off64_eq k3_t4⟩
theorem k3_off65_eq : ∀ k3_t4 : Fin k3_t4_loop.trips, k3_off65 k3_t4 = ![0, 128 * k3_t4.val + 48] := by decide +kernel
instance closedOff_k3_off65 (k3_t4 : Fin k3_t4_loop.trips) : ClosedOff (k3_off65 k3_t4) := ⟨_, k3_off65_eq k3_t4⟩
theorem k3_off66_eq : ∀ k3_t4 : Fin k3_t4_loop.trips, k3_off66 k3_t4 = ![1, 128 * k3_t4.val + 48] := by decide +kernel
instance closedOff_k3_off66 (k3_t4 : Fin k3_t4_loop.trips) : ClosedOff (k3_off66 k3_t4) := ⟨_, k3_off66_eq k3_t4⟩
theorem k3_off67_eq : ∀ k3_t4 : Fin k3_t4_loop.trips, k3_off67 k3_t4 = ![2, 128 * k3_t4.val + 48] := by decide +kernel
instance closedOff_k3_off67 (k3_t4 : Fin k3_t4_loop.trips) : ClosedOff (k3_off67 k3_t4) := ⟨_, k3_off67_eq k3_t4⟩
theorem k3_off68_eq : ∀ k3_t4 : Fin k3_t4_loop.trips, k3_off68 k3_t4 = ![0, 128 * k3_t4.val + 64] := by decide +kernel
instance closedOff_k3_off68 (k3_t4 : Fin k3_t4_loop.trips) : ClosedOff (k3_off68 k3_t4) := ⟨_, k3_off68_eq k3_t4⟩
theorem k3_off69_eq : ∀ k3_t4 : Fin k3_t4_loop.trips, k3_off69 k3_t4 = ![1, 128 * k3_t4.val + 64] := by decide +kernel
instance closedOff_k3_off69 (k3_t4 : Fin k3_t4_loop.trips) : ClosedOff (k3_off69 k3_t4) := ⟨_, k3_off69_eq k3_t4⟩
theorem k3_off70_eq : ∀ k3_t4 : Fin k3_t4_loop.trips, k3_off70 k3_t4 = ![2, 128 * k3_t4.val + 64] := by decide +kernel
instance closedOff_k3_off70 (k3_t4 : Fin k3_t4_loop.trips) : ClosedOff (k3_off70 k3_t4) := ⟨_, k3_off70_eq k3_t4⟩
theorem k3_off71_eq : ∀ k3_t4 : Fin k3_t4_loop.trips, k3_off71 k3_t4 = ![0, 128 * k3_t4.val + 80] := by decide +kernel
instance closedOff_k3_off71 (k3_t4 : Fin k3_t4_loop.trips) : ClosedOff (k3_off71 k3_t4) := ⟨_, k3_off71_eq k3_t4⟩
theorem k3_off72_eq : ∀ k3_t4 : Fin k3_t4_loop.trips, k3_off72 k3_t4 = ![1, 128 * k3_t4.val + 80] := by decide +kernel
instance closedOff_k3_off72 (k3_t4 : Fin k3_t4_loop.trips) : ClosedOff (k3_off72 k3_t4) := ⟨_, k3_off72_eq k3_t4⟩
theorem k3_off73_eq : ∀ k3_t4 : Fin k3_t4_loop.trips, k3_off73 k3_t4 = ![2, 128 * k3_t4.val + 80] := by decide +kernel
instance closedOff_k3_off73 (k3_t4 : Fin k3_t4_loop.trips) : ClosedOff (k3_off73 k3_t4) := ⟨_, k3_off73_eq k3_t4⟩
theorem k3_off74_eq : ∀ k3_t4 : Fin k3_t4_loop.trips, k3_off74 k3_t4 = ![0, 128 * k3_t4.val + 96] := by decide +kernel
instance closedOff_k3_off74 (k3_t4 : Fin k3_t4_loop.trips) : ClosedOff (k3_off74 k3_t4) := ⟨_, k3_off74_eq k3_t4⟩
theorem k3_off75_eq : ∀ k3_t4 : Fin k3_t4_loop.trips, k3_off75 k3_t4 = ![1, 128 * k3_t4.val + 96] := by decide +kernel
instance closedOff_k3_off75 (k3_t4 : Fin k3_t4_loop.trips) : ClosedOff (k3_off75 k3_t4) := ⟨_, k3_off75_eq k3_t4⟩
theorem k3_off76_eq : ∀ k3_t4 : Fin k3_t4_loop.trips, k3_off76 k3_t4 = ![2, 128 * k3_t4.val + 96] := by decide +kernel
instance closedOff_k3_off76 (k3_t4 : Fin k3_t4_loop.trips) : ClosedOff (k3_off76 k3_t4) := ⟨_, k3_off76_eq k3_t4⟩
theorem k3_off77_eq : ∀ k3_t4 : Fin k3_t4_loop.trips, k3_off77 k3_t4 = ![0, 128 * k3_t4.val + 112] := by decide +kernel
instance closedOff_k3_off77 (k3_t4 : Fin k3_t4_loop.trips) : ClosedOff (k3_off77 k3_t4) := ⟨_, k3_off77_eq k3_t4⟩
theorem k3_off78_eq : ∀ k3_t4 : Fin k3_t4_loop.trips, k3_off78 k3_t4 = ![1, 128 * k3_t4.val + 112] := by decide +kernel
instance closedOff_k3_off78 (k3_t4 : Fin k3_t4_loop.trips) : ClosedOff (k3_off78 k3_t4) := ⟨_, k3_off78_eq k3_t4⟩
theorem k3_off79_eq : ∀ k3_t4 : Fin k3_t4_loop.trips, k3_off79 k3_t4 = ![2, 128 * k3_t4.val + 112] := by decide +kernel
instance closedOff_k3_off79 (k3_t4 : Fin k3_t4_loop.trips) : ClosedOff (k3_off79 k3_t4) := ⟨_, k3_off79_eq k3_t4⟩
theorem k3_off82_eq : k3_off82 = ![0, 0] := by decide +kernel
instance closedOff_k3_off82 : ClosedOff (k3_off82) := ⟨_, k3_off82_eq ⟩
theorem k3_off83_eq : k3_off83 = ![1, 0] := by decide +kernel
instance closedOff_k3_off83 : ClosedOff (k3_off83) := ⟨_, k3_off83_eq ⟩
theorem k3_off84_eq : k3_off84 = ![2, 0] := by decide +kernel
instance closedOff_k3_off84 : ClosedOff (k3_off84) := ⟨_, k3_off84_eq ⟩
theorem k3_off85_eq : k3_off85 = ![0, 16] := by decide +kernel
instance closedOff_k3_off85 : ClosedOff (k3_off85) := ⟨_, k3_off85_eq ⟩
theorem k3_off86_eq : k3_off86 = ![1, 16] := by decide +kernel
instance closedOff_k3_off86 : ClosedOff (k3_off86) := ⟨_, k3_off86_eq ⟩
theorem k3_off87_eq : k3_off87 = ![2, 16] := by decide +kernel
instance closedOff_k3_off87 : ClosedOff (k3_off87) := ⟨_, k3_off87_eq ⟩
theorem k3_off88_eq : k3_off88 = ![0, 32] := by decide +kernel
instance closedOff_k3_off88 : ClosedOff (k3_off88) := ⟨_, k3_off88_eq ⟩
theorem k3_off89_eq : k3_off89 = ![1, 32] := by decide +kernel
instance closedOff_k3_off89 : ClosedOff (k3_off89) := ⟨_, k3_off89_eq ⟩
theorem k3_off90_eq : k3_off90 = ![2, 32] := by decide +kernel
instance closedOff_k3_off90 : ClosedOff (k3_off90) := ⟨_, k3_off90_eq ⟩
theorem k3_off91_eq : k3_off91 = ![0, 48] := by decide +kernel
instance closedOff_k3_off91 : ClosedOff (k3_off91) := ⟨_, k3_off91_eq ⟩
theorem k3_off92_eq : k3_off92 = ![1, 48] := by decide +kernel
instance closedOff_k3_off92 : ClosedOff (k3_off92) := ⟨_, k3_off92_eq ⟩
theorem k3_off93_eq : k3_off93 = ![2, 48] := by decide +kernel
instance closedOff_k3_off93 : ClosedOff (k3_off93) := ⟨_, k3_off93_eq ⟩
theorem k3_off94_eq : k3_off94 = ![0, 64] := by decide +kernel
instance closedOff_k3_off94 : ClosedOff (k3_off94) := ⟨_, k3_off94_eq ⟩
theorem k3_off95_eq : k3_off95 = ![1, 64] := by decide +kernel
instance closedOff_k3_off95 : ClosedOff (k3_off95) := ⟨_, k3_off95_eq ⟩
theorem k3_off96_eq : k3_off96 = ![2, 64] := by decide +kernel
instance closedOff_k3_off96 : ClosedOff (k3_off96) := ⟨_, k3_off96_eq ⟩
theorem k3_off97_eq : k3_off97 = ![0, 80] := by decide +kernel
instance closedOff_k3_off97 : ClosedOff (k3_off97) := ⟨_, k3_off97_eq ⟩
theorem k3_off98_eq : k3_off98 = ![1, 80] := by decide +kernel
instance closedOff_k3_off98 : ClosedOff (k3_off98) := ⟨_, k3_off98_eq ⟩
theorem k3_off99_eq : k3_off99 = ![2, 80] := by decide +kernel
instance closedOff_k3_off99 : ClosedOff (k3_off99) := ⟨_, k3_off99_eq ⟩
theorem k3_off100_eq : k3_off100 = ![0, 96] := by decide +kernel
instance closedOff_k3_off100 : ClosedOff (k3_off100) := ⟨_, k3_off100_eq ⟩
theorem k3_off101_eq : k3_off101 = ![1, 96] := by decide +kernel
instance closedOff_k3_off101 : ClosedOff (k3_off101) := ⟨_, k3_off101_eq ⟩
theorem k3_off102_eq : k3_off102 = ![2, 96] := by decide +kernel
instance closedOff_k3_off102 : ClosedOff (k3_off102) := ⟨_, k3_off102_eq ⟩
theorem k3_off103_eq : k3_off103 = ![0, 112] := by decide +kernel
instance closedOff_k3_off103 : ClosedOff (k3_off103) := ⟨_, k3_off103_eq ⟩
theorem k3_off104_eq : k3_off104 = ![1, 112] := by decide +kernel
instance closedOff_k3_off104 : ClosedOff (k3_off104) := ⟨_, k3_off104_eq ⟩
theorem k3_off105_eq : k3_off105 = ![2, 112] := by decide +kernel
instance closedOff_k3_off105 : ClosedOff (k3_off105) := ⟨_, k3_off105_eq ⟩

end Cert.KernelIdeal.Gen
-- ==== Proof.Trips1.lean ====
/-
  The group loops of the SparseCore kernels, one trip each: eight rows of the staged block transposed, three strips of
  sixteen lanes apiece, so that the output strip agrees with the staged rows at twenty-four cells more (`Strip`).
-/
module

public import proofs.«01_k».proof.Proof.Gather
public import proofs.«01_k».proof.Proof.Closed

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The row a trip's `u`-th anchor reads. -/
theorem row_val (k u : ℕ) (hk : k < 100000) (hu : u < 8) (x : S16.Idx) :
    ((addi (broadcast S16 0#32) (broadcast S16 (Scalar.addi (Scalar.muli (Scf.iv 0#32 1#32 k) 8#32) (BitVec.ofNat 32 u)))
      : IVec S16 32) x).toNat = 8 * k + u := by
  show (0#32 + ((0#32 + BitVec.ofNat 32 k * 1#32) * 8#32 + BitVec.ofNat 32 u)).toNat = _
  simp only [BitVec.toNat_add, BitVec.toNat_mul, BitVec.toNat_ofNat]
  omega

/-- A row of the staged block and the three lane columns are in range. -/
theorem chk_of {row v79 v84 v89 : IVec S16 32} {a : ℕ} (ha : a < 120) (hrow : ∀ x, (row x).toNat = a)
    (h79 : ∀ x, (v79 x).toNat = 3 * (x 0).val + 0) (h84 : ∀ x, (v84 x).toNat = 3 * (x 0).val + 1)
    (h89 : ∀ x, (v89 x).toNat = 3 * (x 0).val + 2) :
    (∀ b x, ((![row, v79] : Fin 2 → IVec S16 32) b x).toNat < S120x128.size b)
      ∧ (∀ b x, ((![row, v84] : Fin 2 → IVec S16 32) b x).toNat < S120x128.size b)
      ∧ (∀ b x, ((![row, v89] : Fin 2 → IVec S16 32) b x).toNat < S120x128.size b) := by
  have hx : ∀ x : S16.Idx, (x 0).val < 16 := fun x => (x 0).isLt
  refine ⟨fun b x => ?_, fun b x => ?_, fun b x => ?_⟩ <;> match b with
  | 0 => show (row x).toNat < 120; rw [hrow]; exact ha
  | 1 => have := hx x; first
    | (show (v79 x).toNat < 128; rw [h79]; omega)
    | (show (v84 x).toNat < 128; rw [h84]; omega)
    | (show (v89 x).toNat < 128; rw [h89]; omega)

theorem chk_under {c : Prop} {row v79 v84 v89 : IVec S16 32} {a : ℕ} (ha : a < 120) (hrow : ∀ x, (row x).toNat = a)
    (h79 : ∀ x, (v79 x).toNat = 3 * (x 0).val + 0) (h84 : ∀ x, (v84 x).toNat = 3 * (x 0).val + 1)
    (h89 : ∀ x, (v89 x).toNat = 3 * (x 0).val + 2) :
    (c → ∀ b x, ((![row, v79] : Fin 2 → IVec S16 32) b x).toNat < S120x128.size b)
      ∧ (c → ∀ b x, ((![row, v84] : Fin 2 → IVec S16 32) b x).toNat < S120x128.size b)
      ∧ (c → ∀ b x, ((![row, v89] : Fin 2 → IVec S16 32) b x).toNat < S120x128.size b) :=
  ⟨fun _ => (chk_of ha hrow h79 h84 h89).1, fun _ => (chk_of ha hrow h79 h84 h89).2.1, fun _ => (chk_of ha hrow h79 h84 h89).2.2⟩

theorem assume_step {Λ : Labels} {defs : Defs nD τ sig (Elt F) Λ} {𝒱 : Variants} {thr : Thread nD τ} {bd : Option 𝒱.V} {E : Set ℕ} {α : Type}
    {Q : α → sProp 𝕄} {R : sProp 𝕄} {P : Prop} {dP : Decidable P} {k : PLift P → Prog (TpuEff nD τ sig (Elt F) Λ thr.2) α} (h : P)
    (hk : R ⊢ wp frame (wpE defs 𝒱 thr bd) E (k ⟨h⟩) Q) : R ⊢ wp frame (wpE defs 𝒱 thr bd) E (.op (.assume P dP) k) Q :=
  hk.trans (wp_assume 𝒱 thr bd E h)

theorem vec2 {a a' b b' : ℕ} (h : a = a') (h' : b = b') : (![a, b] : Fin 2 → ℕ) = ![a', b'] := by rw [h, h']

/-- The row the remaining rows' `u`-th anchor reads. -/
theorem row_val0 (u : ℕ) (hu : u < 8) (x : S16.Idx) :
    ((addi (broadcast S16 0#32) (broadcast S16 (Scalar.addi (Scalar.muli 0#32 8#32) (BitVec.ofNat 32 u)))
      : IVec S16 32) x).toNat = u := by
  show (0#32 + (0#32 * 8#32 + BitVec.ofNat 32 u)).toNat = _
  simp only [BitVec.toNat_add, BitVec.toNat_mul, BitVec.toNat_ofNat]
  omega

variable (i : grid1.Coords) (arg2 : Memref sig .scVector .hbm S50000x128 .f32) (harg2 : arg2.IsWhole) (arg3 : Memref sig .scVector .hbm S100000 .i32) (harg3 : arg3.IsWhole) (arg4 : Memref sig .scVector .hbm S3x800000 .f32) (harg4 : arg4.IsWhole) (arg5 : Memref sig .scVector .hbm S1600000 .i32) (harg5 : arg5.IsWhole) (arg6 : Memref sig .scVector .vmem S120x128 .f32) (harg6 : arg6.IsWhole) (arg7 : Memref sig .scVector .vmem S120x128 .f32) (harg7 : arg7.IsWhole) (arg8 : Memref sig .scVector .vmem S3x1920 .f32) (harg8 : arg8.IsWhole) (arg9 : DmaSems sig S_) (arg10 : DmaSems sig S_) (arg11 : Memref sig .scVector .vmem S3136 .i32) (harg11 : arg11.IsWhole) (arg12 : Memref sig .scVector .vmem S50000 .i32) (harg12 : arg12.IsWhole) (v160_r0 : DmaSems sig S_) (v160_r1 : DmaSems sig S_) (v132_r2 : DmaSems sig S_) (v294_r3 : DmaSems sig S_) (v294_r4 : DmaSems sig S_) (v132_r5 : DmaSems sig S_) (v132_r6 : DmaSems sig S_)

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- One trip of the loop. -/
def g1_t2 (v79 v84 v89 : IVec S16 32) (k1_t2 : Fin k1_t2_loop.trips) :
    Prog (TpuEff nD τ sig (Elt F) Λ₀ (.scVector ((i 0).castLE hcore1) ((i 1).castLE hsub1))) PUnit := do
  let c0_i32_71 : BitVec 32 := 0#32
  let c1_i32_73 : BitVec 32 := 1#32
  let ⟨arg14, v181, v184, k1_hw2, v190, v191⟩ : Σ' (arg14 : BitVec 32) (v181 : BitVec 32) (v184 : IVec S16 32) (k1_hw2 : k1_chk2 v79 v84 v89 v184) (v190 : Vec F S16 .f32), BitVec 32 ← k1_part1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 c0_i32_71 c1_i32_73 k1_t2
  let ⟨v221, v224, k1_hw4, v225, c16_i32_123⟩ : Σ' (v221 : BitVec 32) (v224 : IVec S16 32) (k1_hw4 : k1_chk4 v79 v84 v89 v224) (v225 : Vec F S16 .f32), BitVec 32 ← k1_part2 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t2 arg14 v181 v184 k1_hw2 v190 v191
  let v255 : Vec F S16 .f32 ← k1_part3 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t2 arg14 v221 v224 k1_hw4 v225 c16_i32_123
  let ⟨v281, v284, k1_hw7, v290, v291⟩ : Σ' (v281 : BitVec 32) (v284 : IVec S16 32) (k1_hw7 : k1_chk7 v79 v84 v89 v284) (v290 : Vec F S16 .f32), BitVec 32 ← k1_part4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t2 arg14 v255
  let v293 : Index := Scalar.indexCast v291
  let v294_ld : Vec F S1x16 .f32 ← Prog.lift (.load arg8 (Rect.unit (s := S3x1920) (k1_off22 k1_t2) S1x16.size (k1_off22_inb k1_t2)).toLoadRect (View.loadsAt_vmem h_S1x16))
  have v294 : Vec F S16 .f32 := shapeCast S16 v294_ld shapeCasts_S1x16_S16
  Prog.lift (.store arg8 (Rect.unit (s := S3x1920) (k1_off22 k1_t2) S1x16.size (k1_off22_inb k1_t2)) (shapeCast S1x16 v290 shapeCasts_S16_S1x16) Finset.univ (View.stores_vmem_bits_univ h_S1x16 rfl) (.inl rfl))
  let v295 : Vec F S16 .f32 ← SparseCore.vectorLoadIdx arg6 ![v284, v89] (k1_idx21_inb v79 v84 v89 v284 k1_hw7) (View.loads_vmem h_S120x128)
  let c16_i32_152 : BitVec 32 := 16#32
  let v296 : BitVec 32 := Scalar.muli v281 c16_i32_152
  let c2_i32_153 : BitVec 32 := 2#32
  let v297 : Index := Scalar.indexCast c2_i32_153
  let v298 : Index := Scalar.indexCast v296
  let v299_ld : Vec F S1x16 .f32 ← Prog.lift (.load arg8 (Rect.unit (s := S3x1920) (k1_off23 k1_t2) S1x16.size (k1_off23_inb k1_t2)).toLoadRect (View.loadsAt_vmem h_S1x16))
  have v299 : Vec F S16 .f32 := shapeCast S16 v299_ld shapeCasts_S1x16_S16
  Prog.lift (.store arg8 (Rect.unit (s := S3x1920) (k1_off23 k1_t2) S1x16.size (k1_off23_inb k1_t2)) (shapeCast S1x16 v295 shapeCasts_S16_S1x16) Finset.univ (View.stores_vmem_bits_univ h_S1x16 rfl) (.inl rfl))
  let c8_i32_154 : BitVec 32 := 8#32
  let v300 : BitVec 32 := Scalar.muli arg14 c8_i32_154
  let c7_i32 : BitVec 32 := 7#32
  let v301 : BitVec 32 := Scalar.addi v300 c7_i32
  let c0_i32_155 : BitVec 32 := 0#32
  have v302 : IVec S16 32 := broadcast S16 c0_i32_155
  have v303 : IVec S16 32 := broadcast S16 v301
  have v304 : IVec S16 32 := addi v302 v303
  have k1_hw8 : k1_chk8 v79 v84 v89 v304 := (← Prog.lift (TpuEff.assume (k1_chk8 v79 v84 v89 v304) (k1_chk8.dec v79 v84 v89 v304))).down
  let v305 : Vec F S16 .f32 ← SparseCore.vectorLoadIdx arg6 ![v304, v79] (k1_idx22_inb v79 v84 v89 v304 k1_hw8) (View.loads_vmem h_S120x128)
  let c16_i32_156 : BitVec 32 := 16#32
  let v306 : BitVec 32 := Scalar.muli v301 c16_i32_156
  let c0_i32_157 : BitVec 32 := 0#32
  let v307 : Index := Scalar.indexCast c0_i32_157
  let v308 : Index := Scalar.indexCast v306
  let v309_ld : Vec F S1x16 .f32 ← Prog.lift (.load arg8 (Rect.unit (s := S3x1920) (k1_off24 k1_t2) S1x16.size (k1_off24_inb k1_t2)).toLoadRect (View.loadsAt_vmem h_S1x16))
  have v309 : Vec F S16 .f32 := shapeCast S16 v309_ld shapeCasts_S1x16_S16
  Prog.lift (.store arg8 (Rect.unit (s := S3x1920) (k1_off24 k1_t2) S1x16.size (k1_off24_inb k1_t2)) (shapeCast S1x16 v305 shapeCasts_S16_S1x16) Finset.univ (View.stores_vmem_bits_univ h_S1x16 rfl) (.inl rfl))
  let v310 : Vec F S16 .f32 ← SparseCore.vectorLoadIdx arg6 ![v304, v84] (k1_idx23_inb v79 v84 v89 v304 k1_hw8) (View.loads_vmem h_S120x128)
  let c16_i32_158 : BitVec 32 := 16#32
  let v311 : BitVec 32 := Scalar.muli v301 c16_i32_158
  let c1_i32_159 : BitVec 32 := 1#32
  let v312 : Index := Scalar.indexCast c1_i32_159
  let v313 : Index := Scalar.indexCast v311
  let v314_ld : Vec F S1x16 .f32 ← Prog.lift (.load arg8 (Rect.unit (s := S3x1920) (k1_off25 k1_t2) S1x16.size (k1_off25_inb k1_t2)).toLoadRect (View.loadsAt_vmem h_S1x16))
  have v314 : Vec F S16 .f32 := shapeCast S16 v314_ld shapeCasts_S1x16_S16
  Prog.lift (.store arg8 (Rect.unit (s := S3x1920) (k1_off25 k1_t2) S1x16.size (k1_off25_inb k1_t2)) (shapeCast S1x16 v310 shapeCasts_S16_S1x16) Finset.univ (View.stores_vmem_bits_univ h_S1x16 rfl) (.inl rfl))
  let v315 : Vec F S16 .f32 ← SparseCore.vectorLoadIdx arg6 ![v304, v89] (k1_idx24_inb v79 v84 v89 v304 k1_hw8) (View.loads_vmem h_S120x128)
  let c16_i32_160 : BitVec 32 := 16#32
  let v316 : BitVec 32 := Scalar.muli v301 c16_i32_160
  let c2_i32_161 : BitVec 32 := 2#32
  let v317 : Index := Scalar.indexCast c2_i32_161
  let v318 : Index := Scalar.indexCast v316
  let v319_ld : Vec F S1x16 .f32 ← Prog.lift (.load arg8 (Rect.unit (s := S3x1920) (k1_off26 k1_t2) S1x16.size (k1_off26_inb k1_t2)).toLoadRect (View.loadsAt_vmem h_S1x16))
  have v319 : Vec F S16 .f32 := shapeCast S16 v319_ld shapeCasts_S1x16_S16
  Prog.lift (.store arg8 (Rect.unit (s := S3x1920) (k1_off26 k1_t2) S1x16.size (k1_off26_inb k1_t2)) (shapeCast S1x16 v315 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem g1_t2_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k1_t2 : Fin k1_t2_loop.trips)
    {defs : Defs nD τ sig (Elt F) Λ₀} {𝒱 : Variants} {bd : Option 𝒱.V} {E : Set ℕ} {d : Dev nD} {Q : PUnit → sProp 𝕄}
    {f : Buf (Elt F) (arg6.view.loc (⟨d, .scVector ((i 0).castLE hcore1) ((i 1).castLE hsub1)⟩ : Thread nD τ))}
    (hk : Strip (⟨d, .scVector ((i 0).castLE hcore1) ((i 1).castLE hsub1)⟩ : Thread nD τ) arg6 arg8 f (24 * (k1_t2.val + 1)) ⊢ Q ⟨⟩) :
    Strip (⟨d, .scVector ((i 0).castLE hcore1) ((i 1).castLE hsub1)⟩ : Thread nD τ) arg6 arg8 f (24 * k1_t2.val)
      ⊢ wp frame (wpE defs 𝒱 ⟨d, .scVector ((i 0).castLE hcore1) ((i 1).castLE hsub1)⟩ bd) E (g1_t2 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t2) Q := by
  have hlt : k1_t2.val < 15 := k1_t2.isLt
  unfold g1_t2 k1_part1 k1_part2 k1_part3 k1_part4
  simp only [Prog.lift, Prog.bind_op, Prog.bind_ret, Prog.pure_eq_ret, SparseCore.vectorLoadIdx]
  have hr0 := row_val k1_t2.val 0 (by omega) (by omega)
  refine assume_step (chk_of (a := 8 * k1_t2.val + 0) (by omega) hr0 h79 h84 h89) ?_
  refine strip_gather ?_
  refine strip_peek fun _ => ?_
  refine strip_put (8 * k1_t2.val + 0) 0 (n := 24 * k1_t2.val + 0) (by omega) (by omega) (by rw [Gen.k1_off3_eq]; exact vec2 rfl (by omega)) hr0 h79 ?_
  refine strip_gather ?_
  refine strip_peek fun _ => ?_
  refine strip_put (8 * k1_t2.val + 0) 1 (n := 24 * k1_t2.val + 1) (by omega) (by omega) (by rw [Gen.k1_off4_eq]; exact vec2 rfl (by omega)) hr0 h84 ?_
  refine strip_gather ?_
  refine strip_peek fun _ => ?_
  refine strip_put (8 * k1_t2.val + 0) 2 (n := 24 * k1_t2.val + 2) (by omega) (by omega) (by rw [Gen.k1_off5_eq]; exact vec2 rfl (by omega)) hr0 h89 ?_
  have hr1 := row_val k1_t2.val 1 (by omega) (by omega)
  refine assume_step (chk_of (a := 8 * k1_t2.val + 1) (by omega) hr1 h79 h84 h89) ?_
  refine strip_gather ?_
  refine strip_peek fun _ => ?_
  refine strip_put (8 * k1_t2.val + 1) 0 (n := 24 * k1_t2.val + 3) (by omega) (by omega) (by rw [Gen.k1_off6_eq]; exact vec2 rfl (by omega)) hr1 h79 ?_
  refine strip_gather ?_
  refine strip_peek fun _ => ?_
  refine strip_put (8 * k1_t2.val + 1) 1 (n := 24 * k1_t2.val + 4) (by omega) (by omega) (by rw [Gen.k1_off7_eq]; exact vec2 rfl (by omega)) hr1 h84 ?_
  refine strip_gather ?_
  refine strip_peek fun _ => ?_
  refine strip_put (8 * k1_t2.val + 1) 2 (n := 24 * k1_t2.val + 5) (by omega) (by omega) (by rw [Gen.k1_off8_eq]; exact vec2 rfl (by omega)) hr1 h89 ?_
  have hr2 := row_val k1_t2.val 2 (by omega) (by omega)
  refine assume_step (chk_of (a := 8 * k1_t2.val + 2) (by omega) hr2 h79 h84 h89) ?_
  refine strip_gather ?_
  refine strip_peek fun _ => ?_
  refine strip_put (8 * k1_t2.val + 2) 0 (n := 24 * k1_t2.val + 6) (by omega) (by omega) (by rw [Gen.k1_off9_eq]; exact vec2 rfl (by omega)) hr2 h79 ?_
  refine strip_gather ?_
  refine strip_peek fun _ => ?_
  refine strip_put (8 * k1_t2.val + 2) 1 (n := 24 * k1_t2.val + 7) (by omega) (by omega) (by rw [Gen.k1_off10_eq]; exact vec2 rfl (by omega)) hr2 h84 ?_
  refine strip_gather ?_
  refine strip_peek fun _ => ?_
  refine strip_put (8 * k1_t2.val + 2) 2 (n := 24 * k1_t2.val + 8) (by omega) (by omega) (by rw [Gen.k1_off11_eq]; exact vec2 rfl (by omega)) hr2 h89 ?_
  have hr3 := row_val k1_t2.val 3 (by omega) (by omega)
  refine assume_step (chk_of (a := 8 * k1_t2.val + 3) (by omega) hr3 h79 h84 h89) ?_
  refine strip_gather ?_
  refine strip_peek fun _ => ?_
  refine strip_put (8 * k1_t2.val + 3) 0 (n := 24 * k1_t2.val + 9) (by omega) (by omega) (by rw [Gen.k1_off12_eq]; exact vec2 rfl (by omega)) hr3 h79 ?_
  refine strip_gather ?_
  refine strip_peek fun _ => ?_
  refine strip_put (8 * k1_t2.val + 3) 1 (n := 24 * k1_t2.val + 10) (by omega) (by omega) (by rw [Gen.k1_off13_eq]; exact vec2 rfl (by omega)) hr3 h84 ?_
  refine strip_gather ?_
  refine strip_peek fun _ => ?_
  refine strip_put (8 * k1_t2.val + 3) 2 (n := 24 * k1_t2.val + 11) (by omega) (by omega) (by rw [Gen.k1_off14_eq]; exact vec2 rfl (by omega)) hr3 h89 ?_
  have hr4 := row_val k1_t2.val 4 (by omega) (by omega)
  refine assume_step (chk_of (a := 8 * k1_t2.val + 4) (by omega) hr4 h79 h84 h89) ?_
  refine strip_gather ?_
  refine strip_peek fun _ => ?_
  refine strip_put (8 * k1_t2.val + 4) 0 (n := 24 * k1_t2.val + 12) (by omega) (by omega) (by rw [Gen.k1_off15_eq]; exact vec2 rfl (by omega)) hr4 h79 ?_
  refine strip_gather ?_
  refine strip_peek fun _ => ?_
  refine strip_put (8 * k1_t2.val + 4) 1 (n := 24 * k1_t2.val + 13) (by omega) (by omega) (by rw [Gen.k1_off16_eq]; exact vec2 rfl (by omega)) hr4 h84 ?_
  refine strip_gather ?_
  refine strip_peek fun _ => ?_
  refine strip_put (8 * k1_t2.val + 4) 2 (n := 24 * k1_t2.val + 14) (by omega) (by omega) (by rw [Gen.k1_off17_eq]; exact vec2 rfl (by omega)) hr4 h89 ?_
  have hr5 := row_val k1_t2.val 5 (by omega) (by omega)
  refine assume_step (chk_of (a := 8 * k1_t2.val + 5) (by omega) hr5 h79 h84 h89) ?_
  refine strip_gather ?_
  refine strip_peek fun _ => ?_
  refine strip_put (8 * k1_t2.val + 5) 0 (n := 24 * k1_t2.val + 15) (by omega) (by omega) (by rw [Gen.k1_off18_eq]; exact vec2 rfl (by omega)) hr5 h79 ?_
  refine strip_gather ?_
  refine strip_peek fun _ => ?_
  refine strip_put (8 * k1_t2.val + 5) 1 (n := 24 * k1_t2.val + 16) (by omega) (by omega) (by rw [Gen.k1_off19_eq]; exact vec2 rfl (by omega)) hr5 h84 ?_
  refine strip_gather ?_
  refine strip_peek fun _ => ?_
  refine strip_put (8 * k1_t2.val + 5) 2 (n := 24 * k1_t2.val + 17) (by omega) (by omega) (by rw [Gen.k1_off20_eq]; exact vec2 rfl (by omega)) hr5 h89 ?_
  have hr6 := row_val k1_t2.val 6 (by omega) (by omega)
  refine assume_step (chk_of (a := 8 * k1_t2.val + 6) (by omega) hr6 h79 h84 h89) ?_
  refine strip_gather ?_
  refine strip_peek fun _ => ?_
  refine strip_put (8 * k1_t2.val + 6) 0 (n := 24 * k1_t2.val + 18) (by omega) (by omega) (by rw [Gen.k1_off21_eq]; exact vec2 rfl (by omega)) hr6 h79 ?_
  refine strip_gather ?_
  refine strip_peek fun _ => ?_
  refine strip_put (8 * k1_t2.val + 6) 1 (n := 24 * k1_t2.val + 19) (by omega) (by omega) (by rw [Gen.k1_off22_eq]; exact vec2 rfl (by omega)) hr6 h84 ?_
  refine strip_gather ?_
  refine strip_peek fun _ => ?_
  refine strip_put (8 * k1_t2.val + 6) 2 (n := 24 * k1_t2.val + 20) (by omega) (by omega) (by rw [Gen.k1_off23_eq]; exact vec2 rfl (by omega)) hr6 h89 ?_
  have hr7 := row_val k1_t2.val 7 (by omega) (by omega)
  refine assume_step (chk_of (a := 8 * k1_t2.val + 7) (by omega) hr7 h79 h84 h89) ?_
  refine strip_gather ?_
  refine strip_peek fun _ => ?_
  refine strip_put (8 * k1_t2.val + 7) 0 (n := 24 * k1_t2.val + 21) (by omega) (by omega) (by rw [Gen.k1_off24_eq]; exact vec2 rfl (by omega)) hr7 h79 ?_
  refine strip_gather ?_
  refine strip_peek fun _ => ?_
  refine strip_put (8 * k1_t2.val + 7) 1 (n := 24 * k1_t2.val + 22) (by omega) (by omega) (by rw [Gen.k1_off25_eq]; exact vec2 rfl (by omega)) hr7 h84 ?_
  refine strip_gather ?_
  refine strip_peek fun _ => ?_
  refine strip_put (8 * k1_t2.val + 7) 2 (n := 24 * k1_t2.val + 23) (by omega) (by omega) (by rw [Gen.k1_off26_eq]; exact vec2 rfl (by omega)) hr7 h89 ?_
  exact hk.trans (le_wp_ret _ _ _ _ _)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The loop. -/
theorem g1_t2_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg6.view.loc (⟨d, .scVector ((i 0).castLE hcore1) ((i 1).castLE hsub1)⟩ : Thread nD τ))}
    {kk : PUnit → Prog (TpuEff nD τ sig (Elt F) Λ₀ (.scVector ((i 0).castLE hcore1) ((i 1).castLE hsub1))) α} :
    Strip (⟨d, .scVector ((i 0).castLE hcore1) ((i 1).castLE hsub1)⟩ : Thread nD τ) arg6 arg8 f 0
      ⊢ iprop((Strip (⟨d, .scVector ((i 0).castLE hcore1) ((i 1).castLE hsub1)⟩ : Thread nD τ) arg6 arg8 f 360 -∗ wp frame (wpE defs 𝒱 ⟨d, .scVector ((i 0).castLE hcore1) ((i 1).castLE hsub1)⟩ bd) E (kk ⟨⟩) Q)
        -∗ wp frame (wpE defs 𝒱 ⟨d, .scVector ((i 0).castLE hcore1) ((i 1).castLE hsub1)⟩ bd) E (Scf.Loop.for k1_t2_loop k1_t2_ok ⟨⟩ (fun t _ => g1_t2 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t) >>= kk) Q) :=
  (Scf.wp_for_bind frame (wpE defs 𝒱 ⟨d, .scVector ((i 0).castLE hcore1) ((i 1).castLE hsub1)⟩ bd) E _ _ _ k1_t2_ok ⟨⟩ (fun t _ => g1_t2 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
    (fun k _ => Strip (⟨d, .scVector ((i 0).castLE hcore1) ((i 1).castLE hsub1)⟩ : Thread nD τ) arg6 arg8 f (24 * k))
    (fun t _ => g1_t2_trip i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89 t (Q := fun _ => Strip (⟨d, .scVector ((i 0).castLE hcore1) ((i 1).castLE hsub1)⟩ : Thread nD τ) arg6 arg8 f (24 * (t.val + 1))) .rfl)).trans
    (wand_mono_left (forall_intro fun _ => .rfl))

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- One trip of the loop. -/
def g1_t3 (v79 v84 v89 : IVec S16 32) (k1_t3 : Fin k1_t3_loop.trips) :
    Prog (TpuEff nD τ sig (Elt F) Λ₀ (.scVector ((i 0).castLE hcore1) ((i 1).castLE hsub1))) PUnit := do
  let c0_i32_85 : BitVec 32 := 0#32
  let c1_i32_87 : BitVec 32 := 1#32
  let ⟨arg14, v181, v184, k1_hw10, v190, v191⟩ : Σ' (arg14 : BitVec 32) (v181 : BitVec 32) (v184 : IVec S16 32) (k1_hw10 : k1_chk10 v79 v84 v89 v184) (v190 : Vec F S16 .f32), BitVec 32 ← k1_part5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 c0_i32_85 c1_i32_87 k1_t3
  let ⟨v221, v224, k1_hw12, v225, c16_i32_123⟩ : Σ' (v221 : BitVec 32) (v224 : IVec S16 32) (k1_hw12 : k1_chk12 v79 v84 v89 v224) (v225 : Vec F S16 .f32), BitVec 32 ← k1_part6 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t3 arg14 v181 v184 k1_hw10 v190 v191
  let v255 : Vec F S16 .f32 ← k1_part7 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t3 arg14 v221 v224 k1_hw12 v225 c16_i32_123
  let ⟨v281, v284, k1_hw15, v290, v291⟩ : Σ' (v281 : BitVec 32) (v284 : IVec S16 32) (k1_hw15 : k1_chk15 v79 v84 v89 v284) (v290 : Vec F S16 .f32), BitVec 32 ← k1_part8 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t3 arg14 v255
  let v293 : Index := Scalar.indexCast v291
  let v294_ld : Vec F S1x16 .f32 ← Prog.lift (.load arg8 (Rect.unit (s := S3x1920) (k1_off49 k1_t3) S1x16.size (k1_off49_inb k1_t3)).toLoadRect (View.loadsAt_vmem h_S1x16))
  have v294 : Vec F S16 .f32 := shapeCast S16 v294_ld shapeCasts_S1x16_S16
  Prog.lift (.store arg8 (Rect.unit (s := S3x1920) (k1_off49 k1_t3) S1x16.size (k1_off49_inb k1_t3)) (shapeCast S1x16 v290 shapeCasts_S16_S1x16) Finset.univ (View.stores_vmem_bits_univ h_S1x16 rfl) (.inl rfl))
  let v295 : Vec F S16 .f32 ← SparseCore.vectorLoadIdx arg7 ![v284, v89] (k1_idx45_inb v79 v84 v89 v284 k1_hw15) (View.loads_vmem h_S120x128)
  let c16_i32_152 : BitVec 32 := 16#32
  let v296 : BitVec 32 := Scalar.muli v281 c16_i32_152
  let c2_i32_153 : BitVec 32 := 2#32
  let v297 : Index := Scalar.indexCast c2_i32_153
  let v298 : Index := Scalar.indexCast v296
  let v299_ld : Vec F S1x16 .f32 ← Prog.lift (.load arg8 (Rect.unit (s := S3x1920) (k1_off50 k1_t3) S1x16.size (k1_off50_inb k1_t3)).toLoadRect (View.loadsAt_vmem h_S1x16))
  have v299 : Vec F S16 .f32 := shapeCast S16 v299_ld shapeCasts_S1x16_S16
  Prog.lift (.store arg8 (Rect.unit (s := S3x1920) (k1_off50 k1_t3) S1x16.size (k1_off50_inb k1_t3)) (shapeCast S1x16 v295 shapeCasts_S16_S1x16) Finset.univ (View.stores_vmem_bits_univ h_S1x16 rfl) (.inl rfl))
  let c8_i32_154 : BitVec 32 := 8#32
  let v300 : BitVec 32 := Scalar.muli arg14 c8_i32_154
  let c7_i32 : BitVec 32 := 7#32
  let v301 : BitVec 32 := Scalar.addi v300 c7_i32
  let c0_i32_155 : BitVec 32 := 0#32
  have v302 : IVec S16 32 := broadcast S16 c0_i32_155
  have v303 : IVec S16 32 := broadcast S16 v301
  have v304 : IVec S16 32 := addi v302 v303
  have k1_hw16 : k1_chk16 v79 v84 v89 v304 := (← Prog.lift (TpuEff.assume (k1_chk16 v79 v84 v89 v304) (k1_chk16.dec v79 v84 v89 v304))).down
  let v305 : Vec F S16 .f32 ← SparseCore.vectorLoadIdx arg7 ![v304, v79] (k1_idx46_inb v79 v84 v89 v304 k1_hw16) (View.loads_vmem h_S120x128)
  let c16_i32_156 : BitVec 32 := 16#32
  let v306 : BitVec 32 := Scalar.muli v301 c16_i32_156
  let c0_i32_157 : BitVec 32 := 0#32
  let v307 : Index := Scalar.indexCast c0_i32_157
  let v308 : Index := Scalar.indexCast v306
  let v309_ld : Vec F S1x16 .f32 ← Prog.lift (.load arg8 (Rect.unit (s := S3x1920) (k1_off51 k1_t3) S1x16.size (k1_off51_inb k1_t3)).toLoadRect (View.loadsAt_vmem h_S1x16))
  have v309 : Vec F S16 .f32 := shapeCast S16 v309_ld shapeCasts_S1x16_S16
  Prog.lift (.store arg8 (Rect.unit (s := S3x1920) (k1_off51 k1_t3) S1x16.size (k1_off51_inb k1_t3)) (shapeCast S1x16 v305 shapeCasts_S16_S1x16) Finset.univ (View.stores_vmem_bits_univ h_S1x16 rfl) (.inl rfl))
  let v310 : Vec F S16 .f32 ← SparseCore.vectorLoadIdx arg7 ![v304, v84] (k1_idx47_inb v79 v84 v89 v304 k1_hw16) (View.loads_vmem h_S120x128)
  let c16_i32_158 : BitVec 32 := 16#32
  let v311 : BitVec 32 := Scalar.muli v301 c16_i32_158
  let c1_i32_159 : BitVec 32 := 1#32
  let v312 : Index := Scalar.indexCast c1_i32_159
  let v313 : Index := Scalar.indexCast v311
  let v314_ld : Vec F S1x16 .f32 ← Prog.lift (.load arg8 (Rect.unit (s := S3x1920) (k1_off52 k1_t3) S1x16.size (k1_off52_inb k1_t3)).toLoadRect (View.loadsAt_vmem h_S1x16))
  have v314 : Vec F S16 .f32 := shapeCast S16 v314_ld shapeCasts_S1x16_S16
  Prog.lift (.store arg8 (Rect.unit (s := S3x1920) (k1_off52 k1_t3) S1x16.size (k1_off52_inb k1_t3)) (shapeCast S1x16 v310 shapeCasts_S16_S1x16) Finset.univ (View.stores_vmem_bits_univ h_S1x16 rfl) (.inl rfl))
  let v315 : Vec F S16 .f32 ← SparseCore.vectorLoadIdx arg7 ![v304, v89] (k1_idx48_inb v79 v84 v89 v304 k1_hw16) (View.loads_vmem h_S120x128)
  let c16_i32_160 : BitVec 32 := 16#32
  let v316 : BitVec 32 := Scalar.muli v301 c16_i32_160
  let c2_i32_161 : BitVec 32 := 2#32
  let v317 : Index := Scalar.indexCast c2_i32_161
  let v318 : Index := Scalar.indexCast v316
  let v319_ld : Vec F S1x16 .f32 ← Prog.lift (.load arg8 (Rect.unit (s := S3x1920) (k1_off53 k1_t3) S1x16.size (k1_off53_inb k1_t3)).toLoadRect (View.loadsAt_vmem h_S1x16))
  have v319 : Vec F S16 .f32 := shapeCast S16 v319_ld shapeCasts_S1x16_S16
  Prog.lift (.store arg8 (Rect.unit (s := S3x1920) (k1_off53 k1_t3) S1x16.size (k1_off53_inb k1_t3)) (shapeCast S1x16 v315 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem g1_t3_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k1_t3 : Fin k1_t3_loop.trips)
    {defs : Defs nD τ sig (Elt F) Λ₀} {𝒱 : Variants} {bd : Option 𝒱.V} {E : Set ℕ} {d : Dev nD} {Q : PUnit → sProp 𝕄}
    {f : Buf (Elt F) (arg7.view.loc (⟨d, .scVector ((i 0).castLE hcore1) ((i 1).castLE hsub1)⟩ : Thread nD τ))}
    (hk : Strip (⟨d, .scVector ((i 0).castLE hcore1) ((i 1).castLE hsub1)⟩ : Thread nD τ) arg7 arg8 f (24 * (k1_t3.val + 1)) ⊢ Q ⟨⟩) :
    Strip (⟨d, .scVector ((i 0).castLE hcore1) ((i 1).castLE hsub1)⟩ : Thread nD τ) arg7 arg8 f (24 * k1_t3.val)
      ⊢ wp frame (wpE defs 𝒱 ⟨d, .scVector ((i 0).castLE hcore1) ((i 1).castLE hsub1)⟩ bd) E (g1_t3 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t3) Q := by
  have hlt : k1_t3.val < 15 := k1_t3.isLt
  unfold g1_t3 k1_part5 k1_part6 k1_part7 k1_part8
  simp only [Prog.lift, Prog.bind_op, Prog.bind_ret, Prog.pure_eq_ret, SparseCore.vectorLoadIdx]
  have hr0 := row_val k1_t3.val 0 (by omega) (by omega)
  refine assume_step (chk_of (a := 8 * k1_t3.val + 0) (by omega) hr0 h79 h84 h89) ?_
  refine strip_gather ?_
  refine strip_peek fun _ => ?_
  refine strip_put (8 * k1_t3.val + 0) 0 (n := 24 * k1_t3.val + 0) (by omega) (by omega) (by rw [Gen.k1_off30_eq]; exact vec2 rfl (by omega)) hr0 h79 ?_
  refine strip_gather ?_
  refine strip_peek fun _ => ?_
  refine strip_put (8 * k1_t3.val + 0) 1 (n := 24 * k1_t3.val + 1) (by omega) (by omega) (by rw [Gen.k1_off31_eq]; exact vec2 rfl (by omega)) hr0 h84 ?_
  refine strip_gather ?_
  refine strip_peek fun _ => ?_
  refine strip_put (8 * k1_t3.val + 0) 2 (n := 24 * k1_t3.val + 2) (by omega) (by omega) (by rw [Gen.k1_off32_eq]; exact vec2 rfl (by omega)) hr0 h89 ?_
  have hr1 := row_val k1_t3.val 1 (by omega) (by omega)
  refine assume_step (chk_of (a := 8 * k1_t3.val + 1) (by omega) hr1 h79 h84 h89) ?_
  refine strip_gather ?_
  refine strip_peek fun _ => ?_
  refine strip_put (8 * k1_t3.val + 1) 0 (n := 24 * k1_t3.val + 3) (by omega) (by omega) (by rw [Gen.k1_off33_eq]; exact vec2 rfl (by omega)) hr1 h79 ?_
  refine strip_gather ?_
  refine strip_peek fun _ => ?_
  refine strip_put (8 * k1_t3.val + 1) 1 (n := 24 * k1_t3.val + 4) (by omega) (by omega) (by rw [Gen.k1_off34_eq]; exact vec2 rfl (by omega)) hr1 h84 ?_
  refine strip_gather ?_
  refine strip_peek fun _ => ?_
  refine strip_put (8 * k1_t3.val + 1) 2 (n := 24 * k1_t3.val + 5) (by omega) (by omega) (by rw [Gen.k1_off35_eq]; exact vec2 rfl (by omega)) hr1 h89 ?_
  have hr2 := row_val k1_t3.val 2 (by omega) (by omega)
  refine assume_step (chk_of (a := 8 * k1_t3.val + 2) (by omega) hr2 h79 h84 h89) ?_
  refine strip_gather ?_
  refine strip_peek fun _ => ?_
  refine strip_put (8 * k1_t3.val + 2) 0 (n := 24 * k1_t3.val + 6) (by omega) (by omega) (by rw [Gen.k1_off36_eq]; exact vec2 rfl (by omega)) hr2 h79 ?_
  refine strip_gather ?_
  refine strip_peek fun _ => ?_
  refine strip_put (8 * k1_t3.val + 2) 1 (n := 24 * k1_t3.val + 7) (by omega) (by omega) (by rw [Gen.k1_off37_eq]; exact vec2 rfl (by omega)) hr2 h84 ?_
  refine strip_gather ?_
  refine strip_peek fun _ => ?_
  refine strip_put (8 * k1_t3.val + 2) 2 (n := 24 * k1_t3.val + 8) (by omega) (by omega) (by rw [Gen.k1_off38_eq]; exact vec2 rfl (by omega)) hr2 h89 ?_
  have hr3 := row_val k1_t3.val 3 (by omega) (by omega)
  refine assume_step (chk_of (a := 8 * k1_t3.val + 3) (by omega) hr3 h79 h84 h89) ?_
  refine strip_gather ?_
  refine strip_peek fun _ => ?_
  refine strip_put (8 * k1_t3.val + 3) 0 (n := 24 * k1_t3.val + 9) (by omega) (by omega) (by rw [Gen.k1_off39_eq]; exact vec2 rfl (by omega)) hr3 h79 ?_
  refine strip_gather ?_
  refine strip_peek fun _ => ?_
  refine strip_put (8 * k1_t3.val + 3) 1 (n := 24 * k1_t3.val + 10) (by omega) (by omega) (by rw [Gen.k1_off40_eq]; exact vec2 rfl (by omega)) hr3 h84 ?_
  refine strip_gather ?_
  refine strip_peek fun _ => ?_
  refine strip_put (8 * k1_t3.val + 3) 2 (n := 24 * k1_t3.val + 11) (by omega) (by omega) (by rw [Gen.k1_off41_eq]; exact vec2 rfl (by omega)) hr3 h89 ?_
  have hr4 := row_val k1_t3.val 4 (by omega) (by omega)
  refine assume_step (chk_of (a := 8 * k1_t3.val + 4) (by omega) hr4 h79 h84 h89) ?_
  refine strip_gather ?_
  refine strip_peek fun _ => ?_
  refine strip_put (8 * k1_t3.val + 4) 0 (n := 24 * k1_t3.val + 12) (by omega) (by omega) (by rw [Gen.k1_off42_eq]; exact vec2 rfl (by omega)) hr4 h79 ?_
  refine strip_gather ?_
  refine strip_peek fun _ => ?_
  refine strip_put (8 * k1_t3.val + 4) 1 (n := 24 * k1_t3.val + 13) (by omega) (by omega) (by rw [Gen.k1_off43_eq]; exact vec2 rfl (by omega)) hr4 h84 ?_
  refine strip_gather ?_
  refine strip_peek fun _ => ?_
  refine strip_put (8 * k1_t3.val + 4) 2 (n := 24 * k1_t3.val + 14) (by omega) (by omega) (by rw [Gen.k1_off44_eq]; exact vec2 rfl (by omega)) hr4 h89 ?_
  have hr5 := row_val k1_t3.val 5 (by omega) (by omega)
  refine assume_step (chk_of (a := 8 * k1_t3.val + 5) (by omega) hr5 h79 h84 h89) ?_
  refine strip_gather ?_
  refine strip_peek fun _ => ?_
  refine strip_put (8 * k1_t3.val + 5) 0 (n := 24 * k1_t3.val + 15) (by omega) (by omega) (by rw [Gen.k1_off45_eq]; exact vec2 rfl (by omega)) hr5 h79 ?_
  refine strip_gather ?_
  refine strip_peek fun _ => ?_
  refine strip_put (8 * k1_t3.val + 5) 1 (n := 24 * k1_t3.val + 16) (by omega) (by omega) (by rw [Gen.k1_off46_eq]; exact vec2 rfl (by omega)) hr5 h84 ?_
  refine strip_gather ?_
  refine strip_peek fun _ => ?_
  refine strip_put (8 * k1_t3.val + 5) 2 (n := 24 * k1_t3.val + 17) (by omega) (by omega) (by rw [Gen.k1_off47_eq]; exact vec2 rfl (by omega)) hr5 h89 ?_
  have hr6 := row_val k1_t3.val 6 (by omega) (by omega)
  refine assume_step (chk_of (a := 8 * k1_t3.val + 6) (by omega) hr6 h79 h84 h89) ?_
  refine strip_gather ?_
  refine strip_peek fun _ => ?_
  refine strip_put (8 * k1_t3.val + 6) 0 (n := 24 * k1_t3.val + 18) (by omega) (by omega) (by rw [Gen.k1_off48_eq]; exact vec2 rfl (by omega)) hr6 h79 ?_
  refine strip_gather ?_
  refine strip_peek fun _ => ?_
  refine strip_put (8 * k1_t3.val + 6) 1 (n := 24 * k1_t3.val + 19) (by omega) (by omega) (by rw [Gen.k1_off49_eq]; exact vec2 rfl (by omega)) hr6 h84 ?_
  refine strip_gather ?_
  refine strip_peek fun _ => ?_
  refine strip_put (8 * k1_t3.val + 6) 2 (n := 24 * k1_t3.val + 20) (by omega) (by omega) (by rw [Gen.k1_off50_eq]; exact vec2 rfl (by omega)) hr6 h89 ?_
  have hr7 := row_val k1_t3.val 7 (by omega) (by omega)
  refine assume_step (chk_of (a := 8 * k1_t3.val + 7) (by omega) hr7 h79 h84 h89) ?_
  refine strip_gather ?_
  refine strip_peek fun _ => ?_
  refine strip_put (8 * k1_t3.val + 7) 0 (n := 24 * k1_t3.val + 21) (by omega) (by omega) (by rw [Gen.k1_off51_eq]; exact vec2 rfl (by omega)) hr7 h79 ?_
  refine strip_gather ?_
  refine strip_peek fun _ => ?_
  refine strip_put (8 * k1_t3.val + 7) 1 (n := 24 * k1_t3.val + 22) (by omega) (by omega) (by rw [Gen.k1_off52_eq]; exact vec2 rfl (by omega)) hr7 h84 ?_
  refine strip_gather ?_
  refine strip_peek fun _ => ?_
  refine strip_put (8 * k1_t3.val + 7) 2 (n := 24 * k1_t3.val + 23) (by omega) (by omega) (by rw [Gen.k1_off53_eq]; exact vec2 rfl (by omega)) hr7 h89 ?_
  exact hk.trans (le_wp_ret _ _ _ _ _)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The loop. -/
theorem g1_t3_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg7.view.loc (⟨d, .scVector ((i 0).castLE hcore1) ((i 1).castLE hsub1)⟩ : Thread nD τ))}
    {kk : PUnit → Prog (TpuEff nD τ sig (Elt F) Λ₀ (.scVector ((i 0).castLE hcore1) ((i 1).castLE hsub1))) α} :
    Strip (⟨d, .scVector ((i 0).castLE hcore1) ((i 1).castLE hsub1)⟩ : Thread nD τ) arg7 arg8 f 0
      ⊢ iprop((Strip (⟨d, .scVector ((i 0).castLE hcore1) ((i 1).castLE hsub1)⟩ : Thread nD τ) arg7 arg8 f 360 -∗ wp frame (wpE defs 𝒱 ⟨d, .scVector ((i 0).castLE hcore1) ((i 1).castLE hsub1)⟩ bd) E (kk ⟨⟩) Q)
        -∗ wp frame (wpE defs 𝒱 ⟨d, .scVector ((i 0).castLE hcore1) ((i 1).castLE hsub1)⟩ bd) E (Scf.Loop.for k1_t3_loop k1_t3_ok ⟨⟩ (fun t _ => g1_t3 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t) >>= kk) Q) :=
  (Scf.wp_for_bind frame (wpE defs 𝒱 ⟨d, .scVector ((i 0).castLE hcore1) ((i 1).castLE hsub1)⟩ bd) E _ _ _ k1_t3_ok ⟨⟩ (fun t _ => g1_t3 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
    (fun k _ => Strip (⟨d, .scVector ((i 0).castLE hcore1) ((i 1).castLE hsub1)⟩ : Thread nD τ) arg7 arg8 f (24 * k))
    (fun t _ => g1_t3_trip i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89 t (Q := fun _ => Strip (⟨d, .scVector ((i 0).castLE hcore1) ((i 1).castLE hsub1)⟩ : Thread nD τ) arg7 arg8 f (24 * (t.val + 1))) .rfl)).trans
    (wand_mono_left (forall_intro fun _ => .rfl))

end Cert.Proof.Knl
-- ==== Proof.Tails1.lean ====
/-
  The group loops of the SparseCore kernels, one trip each: eight rows of the staged block transposed, three strips of
  sixteen lanes apiece, so that the output strip agrees with the staged rows at twenty-four cells more (`Strip`).
-/
module

public import proofs.«01_k».proof.Proof.Trips1
public import proofs.«01_k».proof.Proof.Closed

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid1.Coords) (arg2 : Memref sig .scVector .hbm S50000x128 .f32) (harg2 : arg2.IsWhole) (arg3 : Memref sig .scVector .hbm S100000 .i32) (harg3 : arg3.IsWhole) (arg4 : Memref sig .scVector .hbm S3x800000 .f32) (harg4 : arg4.IsWhole) (arg5 : Memref sig .scVector .hbm S1600000 .i32) (harg5 : arg5.IsWhole) (arg6 : Memref sig .scVector .vmem S120x128 .f32) (harg6 : arg6.IsWhole) (arg7 : Memref sig .scVector .vmem S120x128 .f32) (harg7 : arg7.IsWhole) (arg8 : Memref sig .scVector .vmem S3x1920 .f32) (harg8 : arg8.IsWhole) (arg9 : DmaSems sig S_) (arg10 : DmaSems sig S_) (arg11 : Memref sig .scVector .vmem S3136 .i32) (harg11 : arg11.IsWhole) (arg12 : Memref sig .scVector .vmem S50000 .i32) (harg12 : arg12.IsWhole) (v160_r0 : DmaSems sig S_) (v160_r1 : DmaSems sig S_) (v132_r2 : DmaSems sig S_) (v294_r3 : DmaSems sig S_) (v294_r4 : DmaSems sig S_) (v132_r5 : DmaSems sig S_) (v132_r6 : DmaSems sig S_)

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- One trip of the loop. -/
def g1_t4 (v79 v84 v89 : IVec S16 32) (k1_t4 : Fin k1_t4_loop.trips) :
    Prog (TpuEff nD τ sig (Elt F) Λ₀ (.scVector ((i 0).castLE hcore1) ((i 1).castLE hsub1))) PUnit := do
  let c0_i32_46 : BitVec 32 := 0#32
  let c1_i32_47 : BitVec 32 := 1#32
  let ⟨arg13, v153, v156, k1_hw18, v162, v163⟩ : Σ' (arg13 : BitVec 32) (v153 : BitVec 32) (v156 : IVec S16 32) (k1_hw18 : k1_chk18 v79 v84 v89 v156) (v162 : Vec F S16 .f32), BitVec 32 ← k1_part10 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 c0_i32_46 c1_i32_47 k1_t4
  let ⟨v193, v196, k1_hw20, v197, c16_i32_94⟩ : Σ' (v193 : BitVec 32) (v196 : IVec S16 32) (k1_hw20 : k1_chk20 v79 v84 v89 v196) (v197 : Vec F S16 .f32), BitVec 32 ← k1_part11 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t4 arg13 v153 v156 k1_hw18 v162 v163
  let v227 : Vec F S16 .f32 ← k1_part12 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t4 arg13 v193 v196 k1_hw20 v197 c16_i32_94
  let ⟨v253, v256, k1_hw23, v262, v263⟩ : Σ' (v253 : BitVec 32) (v256 : IVec S16 32) (k1_hw23 : k1_chk23 v79 v84 v89 v256) (v262 : Vec F S16 .f32), BitVec 32 ← k1_part13 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t4 arg13 v227
  let v265 : Index := Scalar.indexCast v263
  let v266_ld : Vec F S1x16 .f32 ← Prog.lift (.load arg8 (Rect.unit (s := S3x1920) (k1_off75 k1_t4) S1x16.size (k1_off75_inb k1_t4)).toLoadRect (View.loadsAt_vmem h_S1x16))
  have v266 : Vec F S16 .f32 := shapeCast S16 v266_ld shapeCasts_S1x16_S16
  Prog.lift (.store arg8 (Rect.unit (s := S3x1920) (k1_off75 k1_t4) S1x16.size (k1_off75_inb k1_t4)) (shapeCast S1x16 v262 shapeCasts_S16_S1x16) Finset.univ (View.stores_vmem_bits_univ h_S1x16 rfl) (.inl rfl))
  let v267 : Vec F S16 .f32 ← SparseCore.vectorLoadIdx arg6 ![v256, v89] (k1_idx69_inb v79 v84 v89 v256 k1_hw23) (View.loads_vmem h_S120x128)
  let c16_i32_123 : BitVec 32 := 16#32
  let v268 : BitVec 32 := Scalar.muli v253 c16_i32_123
  let c2_i32_124 : BitVec 32 := 2#32
  let v269 : Index := Scalar.indexCast c2_i32_124
  let v270 : Index := Scalar.indexCast v268
  let v271_ld : Vec F S1x16 .f32 ← Prog.lift (.load arg8 (Rect.unit (s := S3x1920) (k1_off76 k1_t4) S1x16.size (k1_off76_inb k1_t4)).toLoadRect (View.loadsAt_vmem h_S1x16))
  have v271 : Vec F S16 .f32 := shapeCast S16 v271_ld shapeCasts_S1x16_S16
  Prog.lift (.store arg8 (Rect.unit (s := S3x1920) (k1_off76 k1_t4) S1x16.size (k1_off76_inb k1_t4)) (shapeCast S1x16 v267 shapeCasts_S16_S1x16) Finset.univ (View.stores_vmem_bits_univ h_S1x16 rfl) (.inl rfl))
  let c8_i32_125 : BitVec 32 := 8#32
  let v272 : BitVec 32 := Scalar.muli arg13 c8_i32_125
  let c7_i32 : BitVec 32 := 7#32
  let v273 : BitVec 32 := Scalar.addi v272 c7_i32
  let c0_i32_126 : BitVec 32 := 0#32
  have v274 : IVec S16 32 := broadcast S16 c0_i32_126
  have v275 : IVec S16 32 := broadcast S16 v273
  have v276 : IVec S16 32 := addi v274 v275
  have k1_hw24 : k1_chk24 v79 v84 v89 v276 := (← Prog.lift (TpuEff.assume (k1_chk24 v79 v84 v89 v276) (k1_chk24.dec v79 v84 v89 v276))).down
  let v277 : Vec F S16 .f32 ← SparseCore.vectorLoadIdx arg6 ![v276, v79] (k1_idx70_inb v79 v84 v89 v276 k1_hw24) (View.loads_vmem h_S120x128)
  let c16_i32_127 : BitVec 32 := 16#32
  let v278 : BitVec 32 := Scalar.muli v273 c16_i32_127
  let c0_i32_128 : BitVec 32 := 0#32
  let v279 : Index := Scalar.indexCast c0_i32_128
  let v280 : Index := Scalar.indexCast v278
  let v281_ld : Vec F S1x16 .f32 ← Prog.lift (.load arg8 (Rect.unit (s := S3x1920) (k1_off77 k1_t4) S1x16.size (k1_off77_inb k1_t4)).toLoadRect (View.loadsAt_vmem h_S1x16))
  have v281 : Vec F S16 .f32 := shapeCast S16 v281_ld shapeCasts_S1x16_S16
  Prog.lift (.store arg8 (Rect.unit (s := S3x1920) (k1_off77 k1_t4) S1x16.size (k1_off77_inb k1_t4)) (shapeCast S1x16 v277 shapeCasts_S16_S1x16) Finset.univ (View.stores_vmem_bits_univ h_S1x16 rfl) (.inl rfl))
  let v282 : Vec F S16 .f32 ← SparseCore.vectorLoadIdx arg6 ![v276, v84] (k1_idx71_inb v79 v84 v89 v276 k1_hw24) (View.loads_vmem h_S120x128)
  let c16_i32_129 : BitVec 32 := 16#32
  let v283 : BitVec 32 := Scalar.muli v273 c16_i32_129
  let c1_i32_130 : BitVec 32 := 1#32
  let v284 : Index := Scalar.indexCast c1_i32_130
  let v285 : Index := Scalar.indexCast v283
  let v286_ld : Vec F S1x16 .f32 ← Prog.lift (.load arg8 (Rect.unit (s := S3x1920) (k1_off78 k1_t4) S1x16.size (k1_off78_inb k1_t4)).toLoadRect (View.loadsAt_vmem h_S1x16))
  have v286 : Vec F S16 .f32 := shapeCast S16 v286_ld shapeCasts_S1x16_S16
  Prog.lift (.store arg8 (Rect.unit (s := S3x1920) (k1_off78 k1_t4) S1x16.size (k1_off78_inb k1_t4)) (shapeCast S1x16 v282 shapeCasts_S16_S1x16) Finset.univ (View.stores_vmem_bits_univ h_S1x16 rfl) (.inl rfl))
  let v287 : Vec F S16 .f32 ← SparseCore.vectorLoadIdx arg6 ![v276, v89] (k1_idx72_inb v79 v84 v89 v276 k1_hw24) (View.loads_vmem h_S120x128)
  let c16_i32_131 : BitVec 32 := 16#32
  let v288 : BitVec 32 := Scalar.muli v273 c16_i32_131
  let c2_i32_132 : BitVec 32 := 2#32
  let v289 : Index := Scalar.indexCast c2_i32_132
  let v290 : Index := Scalar.indexCast v288
  let v291_ld : Vec F S1x16 .f32 ← Prog.lift (.load arg8 (Rect.unit (s := S3x1920) (k1_off79 k1_t4) S1x16.size (k1_off79_inb k1_t4)).toLoadRect (View.loadsAt_vmem h_S1x16))
  have v291 : Vec F S16 .f32 := shapeCast S16 v291_ld shapeCasts_S1x16_S16
  Prog.lift (.store arg8 (Rect.unit (s := S3x1920) (k1_off79 k1_t4) S1x16.size (k1_off79_inb k1_t4)) (shapeCast S1x16 v287 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem g1_t4_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k1_t4 : Fin k1_t4_loop.trips)
    {defs : Defs nD τ sig (Elt F) Λ₀} {𝒱 : Variants} {bd : Option 𝒱.V} {E : Set ℕ} {d : Dev nD} {Q : PUnit → sProp 𝕄}
    {f : Buf (Elt F) (arg6.view.loc (⟨d, .scVector ((i 0).castLE hcore1) ((i 1).castLE hsub1)⟩ : Thread nD τ))}
    (hk : Strip (⟨d, .scVector ((i 0).castLE hcore1) ((i 1).castLE hsub1)⟩ : Thread nD τ) arg6 arg8 f (24 * (k1_t4.val + 1)) ⊢ Q ⟨⟩) :
    Strip (⟨d, .scVector ((i 0).castLE hcore1) ((i 1).castLE hsub1)⟩ : Thread nD τ) arg6 arg8 f (24 * k1_t4.val)
      ⊢ wp frame (wpE defs 𝒱 ⟨d, .scVector ((i 0).castLE hcore1) ((i 1).castLE hsub1)⟩ bd) E (g1_t4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_t4) Q := by
  have hlt : k1_t4.val < 15 := k1_t4.isLt
  unfold g1_t4 k1_part10 k1_part11 k1_part12 k1_part13
  simp only [Prog.lift, Prog.bind_op, Prog.bind_ret, Prog.pure_eq_ret, SparseCore.vectorLoadIdx]
  have hr0 := row_val k1_t4.val 0 (by omega) (by omega)
  refine assume_step (chk_of (a := 8 * k1_t4.val + 0) (by omega) hr0 h79 h84 h89) ?_
  refine strip_gather ?_
  refine strip_peek fun _ => ?_
  refine strip_put (8 * k1_t4.val + 0) 0 (n := 24 * k1_t4.val + 0) (by omega) (by omega) (by rw [Gen.k1_off56_eq]; exact vec2 rfl (by omega)) hr0 h79 ?_
  refine strip_gather ?_
  refine strip_peek fun _ => ?_
  refine strip_put (8 * k1_t4.val + 0) 1 (n := 24 * k1_t4.val + 1) (by omega) (by omega) (by rw [Gen.k1_off57_eq]; exact vec2 rfl (by omega)) hr0 h84 ?_
  refine strip_gather ?_
  refine strip_peek fun _ => ?_
  refine strip_put (8 * k1_t4.val + 0) 2 (n := 24 * k1_t4.val + 2) (by omega) (by omega) (by rw [Gen.k1_off58_eq]; exact vec2 rfl (by omega)) hr0 h89 ?_
  have hr1 := row_val k1_t4.val 1 (by omega) (by omega)
  refine assume_step (chk_of (a := 8 * k1_t4.val + 1) (by omega) hr1 h79 h84 h89) ?_
  refine strip_gather ?_
  refine strip_peek fun _ => ?_
  refine strip_put (8 * k1_t4.val + 1) 0 (n := 24 * k1_t4.val + 3) (by omega) (by omega) (by rw [Gen.k1_off59_eq]; exact vec2 rfl (by omega)) hr1 h79 ?_
  refine strip_gather ?_
  refine strip_peek fun _ => ?_
  refine strip_put (8 * k1_t4.val + 1) 1 (n := 24 * k1_t4.val + 4) (by omega) (by omega) (by rw [Gen.k1_off60_eq]; exact vec2 rfl (by omega)) hr1 h84 ?_
  refine strip_gather ?_
  refine strip_peek fun _ => ?_
  refine strip_put (8 * k1_t4.val + 1) 2 (n := 24 * k1_t4.val + 5) (by omega) (by omega) (by rw [Gen.k1_off61_eq]; exact vec2 rfl (by omega)) hr1 h89 ?_
  have hr2 := row_val k1_t4.val 2 (by omega) (by omega)
  refine assume_step (chk_of (a := 8 * k1_t4.val + 2) (by omega) hr2 h79 h84 h89) ?_
  refine strip_gather ?_
  refine strip_peek fun _ => ?_
  refine strip_put (8 * k1_t4.val + 2) 0 (n := 24 * k1_t4.val + 6) (by omega) (by omega) (by rw [Gen.k1_off62_eq]; exact vec2 rfl (by omega)) hr2 h79 ?_
  refine strip_gather ?_
  refine strip_peek fun _ => ?_
  refine strip_put (8 * k1_t4.val + 2) 1 (n := 24 * k1_t4.val + 7) (by omega) (by omega) (by rw [Gen.k1_off63_eq]; exact vec2 rfl (by omega)) hr2 h84 ?_
  refine strip_gather ?_
  refine strip_peek fun _ => ?_
  refine strip_put (8 * k1_t4.val + 2) 2 (n := 24 * k1_t4.val + 8) (by omega) (by omega) (by rw [Gen.k1_off64_eq]; exact vec2 rfl (by omega)) hr2 h89 ?_
  have hr3 := row_val k1_t4.val 3 (by omega) (by omega)
  refine assume_step (chk_of (a := 8 * k1_t4.val + 3) (by omega) hr3 h79 h84 h89) ?_
  refine strip_gather ?_
  refine strip_peek fun _ => ?_
  refine strip_put (8 * k1_t4.val + 3) 0 (n := 24 * k1_t4.val + 9) (by omega) (by omega) (by rw [Gen.k1_off65_eq]; exact vec2 rfl (by omega)) hr3 h79 ?_
  refine strip_gather ?_
  refine strip_peek fun _ => ?_
  refine strip_put (8 * k1_t4.val + 3) 1 (n := 24 * k1_t4.val + 10) (by omega) (by omega) (by rw [Gen.k1_off66_eq]; exact vec2 rfl (by omega)) hr3 h84 ?_
  refine strip_gather ?_
  refine strip_peek fun _ => ?_
  refine strip_put (8 * k1_t4.val + 3) 2 (n := 24 * k1_t4.val + 11) (by omega) (by omega) (by rw [Gen.k1_off67_eq]; exact vec2 rfl (by omega)) hr3 h89 ?_
  have hr4 := row_val k1_t4.val 4 (by omega) (by omega)
  refine assume_step (chk_of (a := 8 * k1_t4.val + 4) (by omega) hr4 h79 h84 h89) ?_
  refine strip_gather ?_
  refine strip_peek fun _ => ?_
  refine strip_put (8 * k1_t4.val + 4) 0 (n := 24 * k1_t4.val + 12) (by omega) (by omega) (by rw [Gen.k1_off68_eq]; exact vec2 rfl (by omega)) hr4 h79 ?_
  refine strip_gather ?_
  refine strip_peek fun _ => ?_
  refine strip_put (8 * k1_t4.val + 4) 1 (n := 24 * k1_t4.val + 13) (by omega) (by omega) (by rw [Gen.k1_off69_eq]; exact vec2 rfl (by omega)) hr4 h84 ?_
  refine strip_gather ?_
  refine strip_peek fun _ => ?_
  refine strip_put (8 * k1_t4.val + 4) 2 (n := 24 * k1_t4.val + 14) (by omega) (by omega) (by rw [Gen.k1_off70_eq]; exact vec2 rfl (by omega)) hr4 h89 ?_
  have hr5 := row_val k1_t4.val 5 (by omega) (by omega)
  refine assume_step (chk_of (a := 8 * k1_t4.val + 5) (by omega) hr5 h79 h84 h89) ?_
  refine strip_gather ?_
  refine strip_peek fun _ => ?_
  refine strip_put (8 * k1_t4.val + 5) 0 (n := 24 * k1_t4.val + 15) (by omega) (by omega) (by rw [Gen.k1_off71_eq]; exact vec2 rfl (by omega)) hr5 h79 ?_
  refine strip_gather ?_
  refine strip_peek fun _ => ?_
  refine strip_put (8 * k1_t4.val + 5) 1 (n := 24 * k1_t4.val + 16) (by omega) (by omega) (by rw [Gen.k1_off72_eq]; exact vec2 rfl (by omega)) hr5 h84 ?_
  refine strip_gather ?_
  refine strip_peek fun _ => ?_
  refine strip_put (8 * k1_t4.val + 5) 2 (n := 24 * k1_t4.val + 17) (by omega) (by omega) (by rw [Gen.k1_off73_eq]; exact vec2 rfl (by omega)) hr5 h89 ?_
  have hr6 := row_val k1_t4.val 6 (by omega) (by omega)
  refine assume_step (chk_of (a := 8 * k1_t4.val + 6) (by omega) hr6 h79 h84 h89) ?_
  refine strip_gather ?_
  refine strip_peek fun _ => ?_
  refine strip_put (8 * k1_t4.val + 6) 0 (n := 24 * k1_t4.val + 18) (by omega) (by omega) (by rw [Gen.k1_off74_eq]; exact vec2 rfl (by omega)) hr6 h79 ?_
  refine strip_gather ?_
  refine strip_peek fun _ => ?_
  refine strip_put (8 * k1_t4.val + 6) 1 (n := 24 * k1_t4.val + 19) (by omega) (by omega) (by rw [Gen.k1_off75_eq]; exact vec2 rfl (by omega)) hr6 h84 ?_
  refine strip_gather ?_
  refine strip_peek fun _ => ?_
  refine strip_put (8 * k1_t4.val + 6) 2 (n := 24 * k1_t4.val + 20) (by omega) (by omega) (by rw [Gen.k1_off76_eq]; exact vec2 rfl (by omega)) hr6 h89 ?_
  have hr7 := row_val k1_t4.val 7 (by omega) (by omega)
  refine assume_step (chk_of (a := 8 * k1_t4.val + 7) (by omega) hr7 h79 h84 h89) ?_
  refine strip_gather ?_
  refine strip_peek fun _ => ?_
  refine strip_put (8 * k1_t4.val + 7) 0 (n := 24 * k1_t4.val + 21) (by omega) (by omega) (by rw [Gen.k1_off77_eq]; exact vec2 rfl (by omega)) hr7 h79 ?_
  refine strip_gather ?_
  refine strip_peek fun _ => ?_
  refine strip_put (8 * k1_t4.val + 7) 1 (n := 24 * k1_t4.val + 22) (by omega) (by omega) (by rw [Gen.k1_off78_eq]; exact vec2 rfl (by omega)) hr7 h84 ?_
  refine strip_gather ?_
  refine strip_peek fun _ => ?_
  refine strip_put (8 * k1_t4.val + 7) 2 (n := 24 * k1_t4.val + 23) (by omega) (by omega) (by rw [Gen.k1_off79_eq]; exact vec2 rfl (by omega)) hr7 h89 ?_
  exact hk.trans (le_wp_ret _ _ _ _ _)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The loop. -/
theorem g1_t4_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg6.view.loc (⟨d, .scVector ((i 0).castLE hcore1) ((i 1).castLE hsub1)⟩ : Thread nD τ))}
    {kk : PUnit → Prog (TpuEff nD τ sig (Elt F) Λ₀ (.scVector ((i 0).castLE hcore1) ((i 1).castLE hsub1))) α} :
    Strip (⟨d, .scVector ((i 0).castLE hcore1) ((i 1).castLE hsub1)⟩ : Thread nD τ) arg6 arg8 f 0
      ⊢ iprop((Strip (⟨d, .scVector ((i 0).castLE hcore1) ((i 1).castLE hsub1)⟩ : Thread nD τ) arg6 arg8 f 360 -∗ wp frame (wpE defs 𝒱 ⟨d, .scVector ((i 0).castLE hcore1) ((i 1).castLE hsub1)⟩ bd) E (kk ⟨⟩) Q)
        -∗ wp frame (wpE defs 𝒱 ⟨d, .scVector ((i 0).castLE hcore1) ((i 1).castLE hsub1)⟩ bd) E (Scf.Loop.for k1_t4_loop k1_t4_ok ⟨⟩ (fun t _ => g1_t4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t) >>= kk) Q) :=
  (Scf.wp_for_bind frame (wpE defs 𝒱 ⟨d, .scVector ((i 0).castLE hcore1) ((i 1).castLE hsub1)⟩ bd) E _ _ _ k1_t4_ok ⟨⟩ (fun t _ => g1_t4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
    (fun k _ => Strip (⟨d, .scVector ((i 0).castLE hcore1) ((i 1).castLE hsub1)⟩ : Thread nD τ) arg6 arg8 f (24 * k))
    (fun t _ => g1_t4_trip i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89 t (Q := fun _ => Strip (⟨d, .scVector ((i 0).castLE hcore1) ((i 1).castLE hsub1)⟩ : Thread nD τ) arg6 arg8 f (24 * (t.val + 1))) .rfl)).trans
    (wand_mono_left (forall_intro fun _ => .rfl))

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The eight rows after the last whole block. -/
def g1_tl (v37 : BitVec 32) (v79 v84 v89 : IVec S16 32) (k1_h3 : k1_cond3 i = 1#1) :
    Prog (TpuEff nD τ sig (Elt F) Λ₀ (.scVector ((i 0).castLE hcore1) ((i 1).castLE hsub1))) PUnit := do
  let c0_i32_65 : BitVec 32 := 0#32
  let c0_i32_66 : BitVec 32 := 0#32
  let c8_i32_67 : BitVec 32 := 8#32
  let v133 : BitVec 32 := Scalar.muli c0_i32_66 c8_i32_67
  let c0_i32_68 : BitVec 32 := 0#32
  let v134 : BitVec 32 := Scalar.addi v133 c0_i32_68
  let c0_i32_69 : BitVec 32 := 0#32
  have v135 : IVec S16 32 := broadcast S16 c0_i32_69
  have v136 : IVec S16 32 := broadcast S16 v134
  have v137 : IVec S16 32 := addi v135 v136
  have k1_hw25 : k1_chk25 i v79 v84 v89 v137 := (← Prog.lift (TpuEff.assume (k1_chk25 i v79 v84 v89 v137) (k1_chk25.dec i v79 v84 v89 v137))).down
  let v138 : Vec F S16 .f32 ← SparseCore.vectorLoadIdx arg7 ![v137, v79] (k1_idx73_inb i v79 v84 v89 v137 k1_hw25 k1_h3) (View.loads_vmem h_S120x128)
  let c16_i32_70 : BitVec 32 := 16#32
  let v139 : BitVec 32 := Scalar.muli v134 c16_i32_70
  let c0_i32_71 : BitVec 32 := 0#32
  let v140 : Index := Scalar.indexCast c0_i32_71
  let v141 : Index := Scalar.indexCast v139
  let v142_ld : Vec F S1x16 .f32 ← Prog.lift (.load arg8 (Rect.unit (s := S3x1920) k1_off82 S1x16.size (k1_off82_inb i k1_h3)).toLoadRect (View.loadsAt_vmem h_S1x16))
  have v142 : Vec F S16 .f32 := shapeCast S16 v142_ld shapeCasts_S1x16_S16
  Prog.lift (.store arg8 (Rect.unit (s := S3x1920) k1_off82 S1x16.size (k1_off82_inb i k1_h3)) (shapeCast S1x16 v138 shapeCasts_S16_S1x16) Finset.univ (View.stores_vmem_bits_univ h_S1x16 rfl) (.inl rfl))
  let v143 : Vec F S16 .f32 ← SparseCore.vectorLoadIdx arg7 ![v137, v84] (k1_idx74_inb i v79 v84 v89 v137 k1_hw25 k1_h3) (View.loads_vmem h_S120x128)
  let c16_i32_72 : BitVec 32 := 16#32
  let v144 : BitVec 32 := Scalar.muli v134 c16_i32_72
  let c1_i32_73 : BitVec 32 := 1#32
  let v145 : Index := Scalar.indexCast c1_i32_73
  let v146 : Index := Scalar.indexCast v144
  let v147_ld : Vec F S1x16 .f32 ← Prog.lift (.load arg8 (Rect.unit (s := S3x1920) k1_off83 S1x16.size (k1_off83_inb i k1_h3)).toLoadRect (View.loadsAt_vmem h_S1x16))
  have v147 : Vec F S16 .f32 := shapeCast S16 v147_ld shapeCasts_S1x16_S16
  Prog.lift (.store arg8 (Rect.unit (s := S3x1920) k1_off83 S1x16.size (k1_off83_inb i k1_h3)) (shapeCast S1x16 v143 shapeCasts_S16_S1x16) Finset.univ (View.stores_vmem_bits_univ h_S1x16 rfl) (.inl rfl))
  let v148 : Vec F S16 .f32 ← SparseCore.vectorLoadIdx arg7 ![v137, v89] (k1_idx75_inb i v79 v84 v89 v137 k1_hw25 k1_h3) (View.loads_vmem h_S120x128)
  let c16_i32_74 : BitVec 32 := 16#32
  let v149 : BitVec 32 := Scalar.muli v134 c16_i32_74
  let c2_i32_75 : BitVec 32 := 2#32
  let v150 : Index := Scalar.indexCast c2_i32_75
  let v151 : Index := Scalar.indexCast v149
  let v152_ld : Vec F S1x16 .f32 ← Prog.lift (.load arg8 (Rect.unit (s := S3x1920) k1_off84 S1x16.size (k1_off84_inb i k1_h3)).toLoadRect (View.loadsAt_vmem h_S1x16))
  let ⟨v174, v177, k1_hw27, v183, v184, c1_i32_91⟩ : Σ' (v174 : BitVec 32) (v177 : IVec S16 32) (k1_hw27 : k1_chk27 i v79 v84 v89 v177) (v183 : Vec F S16 .f32) (v184 : BitVec 32), BitVec 32 ← k1_part15 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v148 v152_ld
  let ⟨v214, v217, k1_hw29, v218⟩ : Σ' (v214 : BitVec 32) (v217 : IVec S16 32) (k1_hw29 : k1_chk29 i v79 v84 v89 v217), Vec F S16 .f32 ← k1_part16 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v174 v177 k1_hw27 v183 v184 c1_i32_91
  let ⟨v248, v252_ld⟩ : Σ' (v248 : Vec F S16 .f32), Vec F S1x16 .f32 ← k1_part17 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v214 v217 k1_hw29 v218
  let ⟨v274, v277, k1_hw32, v283, v284, c1_i32_133⟩ : Σ' (v274 : BitVec 32) (v277 : IVec S16 32) (k1_hw32 : k1_chk32 i v79 v84 v89 v277) (v283 : Vec F S16 .f32) (v284 : BitVec 32), BitVec 32 ← k1_part18 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v248 v252_ld
  let v285 : Index := Scalar.indexCast c1_i32_133
  let v286 : Index := Scalar.indexCast v284
  let v287_ld : Vec F S1x16 .f32 ← Prog.lift (.load arg8 (Rect.unit (s := S3x1920) k1_off104 S1x16.size (k1_off104_inb i k1_h3)).toLoadRect (View.loadsAt_vmem h_S1x16))
  have v287 : Vec F S16 .f32 := shapeCast S16 v287_ld shapeCasts_S1x16_S16
  Prog.lift (.store arg8 (Rect.unit (s := S3x1920) k1_off104 S1x16.size (k1_off104_inb i k1_h3)) (shapeCast S1x16 v283 shapeCasts_S16_S1x16) Finset.univ (View.stores_vmem_bits_univ h_S1x16 rfl) (.inl rfl))
  let v288 : Vec F S16 .f32 ← SparseCore.vectorLoadIdx arg7 ![v277, v89] (k1_idx96_inb i v79 v84 v89 v277 k1_hw32 k1_h3) (View.loads_vmem h_S120x128)
  let c16_i32_134 : BitVec 32 := 16#32
  let v289 : BitVec 32 := Scalar.muli v274 c16_i32_134
  let c2_i32_135 : BitVec 32 := 2#32
  let v290 : Index := Scalar.indexCast c2_i32_135
  let v291 : Index := Scalar.indexCast v289
  let v292_ld : Vec F S1x16 .f32 ← Prog.lift (.load arg8 (Rect.unit (s := S3x1920) k1_off105 S1x16.size (k1_off105_inb i k1_h3)).toLoadRect (View.loadsAt_vmem h_S1x16))
  have v292 : Vec F S16 .f32 := shapeCast S16 v292_ld shapeCasts_S1x16_S16
  Prog.lift (.store arg8 (Rect.unit (s := S3x1920) k1_off105 S1x16.size (k1_off105_inb i k1_h3)) (shapeCast S1x16 v288 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem g1_tl_run (v37 : BitVec 32) (v79 v84 v89 : IVec S16 32) (k1_h3 : k1_cond3 i = 1#1)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {Q : PUnit → sProp 𝕄}
    {f : Buf (Elt F) (arg7.view.loc (⟨d, .scVector ((i 0).castLE hcore1) ((i 1).castLE hsub1)⟩ : Thread nD τ))}
    (hk : Strip (⟨d, .scVector ((i 0).castLE hcore1) ((i 1).castLE hsub1)⟩ : Thread nD τ) arg7 arg8 f 24 ⊢ Q ⟨⟩) :
    Strip (⟨d, .scVector ((i 0).castLE hcore1) ((i 1).castLE hsub1)⟩ : Thread nD τ) arg7 arg8 f 0
      ⊢ wp frame (wpE defs 𝒱 ⟨d, .scVector ((i 0).castLE hcore1) ((i 1).castLE hsub1)⟩ bd) E (g1_tl i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 k1_h3) Q := by
  unfold g1_tl k1_part15 k1_part16 k1_part17 k1_part18
  simp only [Prog.lift, Prog.bind_op, Prog.bind_ret, Prog.pure_eq_ret, SparseCore.vectorLoadIdx]
  have hr0 := row_val0 0 (by omega)
  refine assume_step (chk_under (a := 0) (by omega) hr0 h79 h84 h89) ?_
  refine strip_gather ?_
  refine strip_peek fun _ => ?_
  refine strip_put 0 0 (n := 0) (by omega) (by omega) Gen.k1_off82_eq hr0 h79 ?_
  refine strip_gather ?_
  refine strip_peek fun _ => ?_
  refine strip_put 0 1 (n := 1) (by omega) (by omega) Gen.k1_off83_eq hr0 h84 ?_
  refine strip_gather ?_
  refine strip_peek fun _ => ?_
  refine strip_put 0 2 (n := 2) (by omega) (by omega) Gen.k1_off84_eq hr0 h89 ?_
  have hr1 := row_val0 1 (by omega)
  refine assume_step (chk_under (a := 1) (by omega) hr1 h79 h84 h89) ?_
  refine strip_gather ?_
  refine strip_peek fun _ => ?_
  refine strip_put 1 0 (n := 3) (by omega) (by omega) Gen.k1_off85_eq hr1 h79 ?_
  refine strip_gather ?_
  refine strip_peek fun _ => ?_
  refine strip_put 1 1 (n := 4) (by omega) (by omega) Gen.k1_off86_eq hr1 h84 ?_
  refine strip_gather ?_
  refine strip_peek fun _ => ?_
  refine strip_put 1 2 (n := 5) (by omega) (by omega) Gen.k1_off87_eq hr1 h89 ?_
  have hr2 := row_val0 2 (by omega)
  refine assume_step (chk_under (a := 2) (by omega) hr2 h79 h84 h89) ?_
  refine strip_gather ?_
  refine strip_peek fun _ => ?_
  refine strip_put 2 0 (n := 6) (by omega) (by omega) Gen.k1_off88_eq hr2 h79 ?_
  refine strip_gather ?_
  refine strip_peek fun _ => ?_
  refine strip_put 2 1 (n := 7) (by omega) (by omega) Gen.k1_off89_eq hr2 h84 ?_
  refine strip_gather ?_
  refine strip_peek fun _ => ?_
  refine strip_put 2 2 (n := 8) (by omega) (by omega) Gen.k1_off90_eq hr2 h89 ?_
  have hr3 := row_val0 3 (by omega)
  refine assume_step (chk_under (a := 3) (by omega) hr3 h79 h84 h89) ?_
  refine strip_gather ?_
  refine strip_peek fun _ => ?_
  refine strip_put 3 0 (n := 9) (by omega) (by omega) Gen.k1_off91_eq hr3 h79 ?_
  refine strip_gather ?_
  refine strip_peek fun _ => ?_
  refine strip_put 3 1 (n := 10) (by omega) (by omega) Gen.k1_off92_eq hr3 h84 ?_
  refine strip_gather ?_
  refine strip_peek fun _ => ?_
  refine strip_put 3 2 (n := 11) (by omega) (by omega) Gen.k1_off93_eq hr3 h89 ?_
  have hr4 := row_val0 4 (by omega)
  refine assume_step (chk_under (a := 4) (by omega) hr4 h79 h84 h89) ?_
  refine strip_gather ?_
  refine strip_peek fun _ => ?_
  refine strip_put 4 0 (n := 12) (by omega) (by omega) Gen.k1_off94_eq hr4 h79 ?_
  refine strip_gather ?_
  refine strip_peek fun _ => ?_
  refine strip_put 4 1 (n := 13) (by omega) (by omega) Gen.k1_off95_eq hr4 h84 ?_
  refine strip_gather ?_
  refine strip_peek fun _ => ?_
  refine strip_put 4 2 (n := 14) (by omega) (by omega) Gen.k1_off96_eq hr4 h89 ?_
  have hr5 := row_val0 5 (by omega)
  refine assume_step (chk_under (a := 5) (by omega) hr5 h79 h84 h89) ?_
  refine strip_gather ?_
  refine strip_peek fun _ => ?_
  refine strip_put 5 0 (n := 15) (by omega) (by omega) Gen.k1_off97_eq hr5 h79 ?_
  refine strip_gather ?_
  refine strip_peek fun _ => ?_
  refine strip_put 5 1 (n := 16) (by omega) (by omega) Gen.k1_off98_eq hr5 h84 ?_
  refine strip_gather ?_
  refine strip_peek fun _ => ?_
  refine strip_put 5 2 (n := 17) (by omega) (by omega) Gen.k1_off99_eq hr5 h89 ?_
  have hr6 := row_val0 6 (by omega)
  refine assume_step (chk_under (a := 6) (by omega) hr6 h79 h84 h89) ?_
  refine strip_gather ?_
  refine strip_peek fun _ => ?_
  refine strip_put 6 0 (n := 18) (by omega) (by omega) Gen.k1_off100_eq hr6 h79 ?_
  refine strip_gather ?_
  refine strip_peek fun _ => ?_
  refine strip_put 6 1 (n := 19) (by omega) (by omega) Gen.k1_off101_eq hr6 h84 ?_
  refine strip_gather ?_
  refine strip_peek fun _ => ?_
  refine strip_put 6 2 (n := 20) (by omega) (by omega) Gen.k1_off102_eq hr6 h89 ?_
  have hr7 := row_val0 7 (by omega)
  refine assume_step (chk_under (a := 7) (by omega) hr7 h79 h84 h89) ?_
  refine strip_gather ?_
  refine strip_peek fun _ => ?_
  refine strip_put 7 0 (n := 21) (by omega) (by omega) Gen.k1_off103_eq hr7 h79 ?_
  refine strip_gather ?_
  refine strip_peek fun _ => ?_
  refine strip_put 7 1 (n := 22) (by omega) (by omega) Gen.k1_off104_eq hr7 h84 ?_
  refine strip_gather ?_
  refine strip_peek fun _ => ?_
  refine strip_put 7 2 (n := 23) (by omega) (by omega) Gen.k1_off105_eq hr7 h89 ?_
  exact hk.trans (le_wp_ret _ _ _ _ _)

theorem vec1 {a a' : ℕ} (h : a = a') : (![a] : Fin 1 → ℕ) = ![a'] := by rw [h]

/-- The staged index a trip's `u`-th step reads. -/
theorem row_valB (k u o : ℕ) (hk : k < 625) (hu : u < 5) (ho : o ≤ 11) (v : BitVec 32) (hv : v.toNat = o) (x : S16.Idx) :
    ((addi (broadcast S16 0#32) (broadcast S16 (Scalar.addi (Scalar.addi (Scalar.muli (Scf.iv 0#32 1#32 k) 5#32) (BitVec.ofNat 32 u)) v))
      : IVec S16 32) x).toNat = 5 * k + u + o := by
  show (0#32 + (((0#32 + BitVec.ofNat 32 k * 1#32) * 5#32 + BitVec.ofNat 32 u) + v)).toNat = _
  simp only [BitVec.toNat_add, BitVec.toNat_mul, BitVec.toNat_ofNat, hv]
  omega

theorem chkB_of {row : IVec S16 32} {a : ℕ} (ha : a < 3136) (hrow : ∀ x, (row x).toNat = a) :
    ∀ b x, ((![row] : Fin 1 → IVec S16 32) b x).toNat < S3136.size b := by
  intro b x
  match b with
  | 0 => show (row x).toNat < 3136; rw [hrow]; exact ha

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- One trip of the loop over the batch indices. -/
def g1_t5 (v129 : BitVec 32) (k1_t5 : Fin k1_t5_loop.trips) :
    Prog (TpuEff nD τ sig (Elt F) Λ₀ (.scVector ((i 0).castLE hcore1) ((i 1).castLE hsub1))) PUnit := do
  let c0_i32_60 : BitVec 32 := 0#32
  let c1_i32_61 : BitVec 32 := 1#32
  let ⟨arg13, v163, v168⟩ : Σ' (arg13 : BitVec 32) (v163 : BitVec 32), Vec F S16 .i32 ← k1_part19 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 c0_i32_60 c1_i32_61 k1_t5
  let c16_i32_78 : BitVec 32 := 16#32
  let v169 : BitVec 32 := Scalar.muli v163 c16_i32_78
  let v170 : Index := Scalar.indexCast v169
  let v171 : Vec F S16 .i32 ← Prog.lift (.load arg12 (Rect.unit (s := S50000) (k1_off111 k1_t5) S16.size (k1_off111_inb k1_t5)).toLoadRect (View.loadsAt_vmem h_S16))
  Prog.lift (.store arg12 (Rect.unit (s := S50000) (k1_off111 k1_t5) S16.size (k1_off111_inb k1_t5)) v168 Finset.univ (View.stores_vmem_bits_univ h_S16 rfl) (.inl rfl))
  let c5_i32_79 : BitVec 32 := 5#32
  let v172 : BitVec 32 := Scalar.muli arg13 c5_i32_79
  let c4_i32 : BitVec 32 := 4#32
  let v173 : BitVec 32 := Scalar.addi v172 c4_i32
  let c0_i32_80 : BitVec 32 := 0#32
  have v174 : IVec S16 32 := broadcast S16 c0_i32_80
  let v175 : BitVec 32 := Scalar.addi v173 v129
  have v176 : IVec S16 32 := broadcast S16 v175
  have v177 : IVec S16 32 := addi v174 v176
  have k1_hw37 : k1_chk37 v177 := (← Prog.lift (TpuEff.assume (k1_chk37 v177) (k1_chk37.dec v177))).down
  let v178 : Vec F S16 .i32 ← SparseCore.vectorLoadIdx arg11 ![v177] (k1_idx101_inb v177 k1_hw37) (View.loads_vmem h_S3136)
  let c16_i32_81 : BitVec 32 := 16#32
  let v179 : BitVec 32 := Scalar.muli v173 c16_i32_81
  let v180 : Index := Scalar.indexCast v179
  let v181 : Vec F S16 .i32 ← Prog.lift (.load arg12 (Rect.unit (s := S50000) (k1_off112 k1_t5) S16.size (k1_off112_inb k1_t5)).toLoadRect (View.loadsAt_vmem h_S16))
  Prog.lift (.store arg12 (Rect.unit (s := S50000) (k1_off112 k1_t5) S16.size (k1_off112_inb k1_t5)) v178 Finset.univ (View.stores_vmem_bits_univ h_S16 rfl) (.inl rfl))
  pure ⟨⟩

set_option maxHeartbeats 4000000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem g1_t5_trip (v129 : BitVec 32) {o : ℕ} (ho : o ≤ 11) (hv : v129.toNat = o) (k1_t5 : Fin k1_t5_loop.trips)
    {defs : Defs nD τ sig (Elt F) Λ₀} {𝒱 : Variants} {bd : Option 𝒱.V} {E : Set ℕ} {d : Dev nD} {Q : PUnit → sProp 𝕄}
    {f : Buf (Elt F) (arg11.view.loc (⟨d, .scVector ((i 0).castLE hcore1) ((i 1).castLE hsub1)⟩ : Thread nD τ))}
    (hk : Sheet (⟨d, .scVector ((i 0).castLE hcore1) ((i 1).castLE hsub1)⟩ : Thread nD τ) arg11 arg12 f o (5 * (k1_t5.val + 1)) ⊢ Q ⟨⟩) :
    Sheet (⟨d, .scVector ((i 0).castLE hcore1) ((i 1).castLE hsub1)⟩ : Thread nD τ) arg11 arg12 f o (5 * k1_t5.val)
      ⊢ wp frame (wpE defs 𝒱 ⟨d, .scVector ((i 0).castLE hcore1) ((i 1).castLE hsub1)⟩ bd) E (g1_t5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 k1_t5) Q := by
  have hlt : k1_t5.val < 625 := k1_t5.isLt
  unfold g1_t5 k1_part19
  simp only [Prog.lift, Prog.bind_op, Prog.bind_ret, Prog.pure_eq_ret, SparseCore.vectorLoadIdx]
  have hr0 := row_valB k1_t5.val 0 o hlt (by omega) ho v129 hv
  refine assume_step (chkB_of (a := 5 * k1_t5.val + 0 + o) (by omega) hr0) ?_
  refine sheet_gather ?_
  refine sheet_peek fun _ => ?_
  refine sheet_put (5 * k1_t5.val + 0) (by rw [Gen.k1_off108_eq]; exact vec1 (by omega)) hr0 ?_
  have hr1 := row_valB k1_t5.val 1 o hlt (by omega) ho v129 hv
  refine assume_step (chkB_of (a := 5 * k1_t5.val + 1 + o) (by omega) hr1) ?_
  refine sheet_gather ?_
  refine sheet_peek fun _ => ?_
  refine sheet_put (5 * k1_t5.val + 1) (by rw [Gen.k1_off109_eq]; exact vec1 (by omega)) hr1 ?_
  have hr2 := row_valB k1_t5.val 2 o hlt (by omega) ho v129 hv
  refine assume_step (chkB_of (a := 5 * k1_t5.val + 2 + o) (by omega) hr2) ?_
  refine sheet_gather ?_
  refine sheet_peek fun _ => ?_
  refine sheet_put (5 * k1_t5.val + 2) (by rw [Gen.k1_off110_eq]; exact vec1 (by omega)) hr2 ?_
  have hr3 := row_valB k1_t5.val 3 o hlt (by omega) ho v129 hv
  refine assume_step (chkB_of (a := 5 * k1_t5.val + 3 + o) (by omega) hr3) ?_
  refine sheet_gather ?_
  refine sheet_peek fun _ => ?_
  refine sheet_put (5 * k1_t5.val + 3) (by rw [Gen.k1_off111_eq]; exact vec1 (by omega)) hr3 ?_
  have hr4 := row_valB k1_t5.val 4 o hlt (by omega) ho v129 hv
  refine assume_step (chkB_of (a := 5 * k1_t5.val + 4 + o) (by omega) hr4) ?_
  refine sheet_gather ?_
  refine sheet_peek fun _ => ?_
  refine sheet_put (5 * k1_t5.val + 4) (by rw [Gen.k1_off112_eq]; exact vec1 (by omega)) hr4 ?_
  exact hk.trans (le_wp_ret _ _ _ _ _)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The loop over the batch indices. -/
theorem g1_t5_loop (v129 : BitVec 32) {o : ℕ} (ho : o ≤ 11) (hv : v129.toNat = o)
    {defs : Defs nD τ sig (Elt F) Λ₀} {𝒱 : Variants} {bd : Option 𝒱.V} {E : Set ℕ} {d : Dev nD} {α : Type} {Q : α → sProp 𝕄}
    {f : Buf (Elt F) (arg11.view.loc (⟨d, .scVector ((i 0).castLE hcore1) ((i 1).castLE hsub1)⟩ : Thread nD τ))}
    {kk : PUnit → Prog (TpuEff nD τ sig (Elt F) Λ₀ (.scVector ((i 0).castLE hcore1) ((i 1).castLE hsub1))) α} :
    Sheet (⟨d, .scVector ((i 0).castLE hcore1) ((i 1).castLE hsub1)⟩ : Thread nD τ) arg11 arg12 f o 0
      ⊢ iprop((Sheet (⟨d, .scVector ((i 0).castLE hcore1) ((i 1).castLE hsub1)⟩ : Thread nD τ) arg11 arg12 f o 3125 -∗ wp frame (wpE defs 𝒱 ⟨d, .scVector ((i 0).castLE hcore1) ((i 1).castLE hsub1)⟩ bd) E (kk ⟨⟩) Q)
        -∗ wp frame (wpE defs 𝒱 ⟨d, .scVector ((i 0).castLE hcore1) ((i 1).castLE hsub1)⟩ bd) E (Scf.Loop.for k1_t5_loop k1_t5_ok ⟨⟩ (fun t _ => g1_t5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 t) >>= kk) Q) :=
  (Scf.wp_for_bind frame (wpE defs 𝒱 ⟨d, .scVector ((i 0).castLE hcore1) ((i 1).castLE hsub1)⟩ bd) E _ _ _ k1_t5_ok ⟨⟩ (fun t _ => g1_t5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 t)
    (fun k _ => Sheet (⟨d, .scVector ((i 0).castLE hcore1) ((i 1).castLE hsub1)⟩ : Thread nD τ) arg11 arg12 f o (5 * k))
    (fun t _ => g1_t5_trip i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 ho hv t (Q := fun _ => Sheet (⟨d, .scVector ((i 0).castLE hcore1) ((i 1).castLE hsub1)⟩ : Thread nD τ) arg11 arg12 f o (5 * (t.val + 1))) .rfl)).trans
    (wand_mono_left (forall_intro fun _ => .rfl))

end Cert.Proof.Knl
-- ==== Proof.Copies.lean ====
/-
  The workers' copies as rules of the program logic. A table is held by what its elements are: the staged rows by their
  lanes below 48 (`Staged`), the strip by its sixteen-lane cells (`Ready`), the worker's columns of the result by the rows
  already written (`Cols`). A copy begun delivers its claim at the wait (`Fly`); a copy begun and waited for at once is one
  rule.
-/
module

public import proofs.«01_k».proof.Proof.Gather
public import Idealize.ShloMosaic.Lib.Transfers

@[expose] public section

noncomputable section

namespace Cert.Proof.Knl

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

abbrev EC : UEmb Counters (MT nD τ sig (HIx 2) (Elt F) ℕ UU ℕ) := countersEmb

variable {Λ : Labels} {defs : Defs nD τ sig (Elt F) Λ} {𝒱 : Variants} {thr : Thread nD τ} {bd : Option 𝒱.V} {α : Type}

/-! ## Copies begun, copies waited for -/

/-- A copy of `N` units under way on the thread's cell `sm`, delivering `R` at the wait. -/
def Fly (thr : Thread nD τ) (sm : SemLoc sig) (N : ℕ) (R : sProp 𝕄) : sProp 𝕄 :=
  iprop(∃ D₀ R₀ : sProp 𝕄, ⌜iprop(D₀ ∗ R₀) ⊢ R⌝ ∗ R₀ ∗ Transfers.Flight EC thr sm (none : HIx 2) N D₀)

/-- What the thread owes, its waits recorded, and that it may wait. -/
def Owe (thr : Thread nD τ) (O : CellTallies nD τ sig (HIx 2)) (W : Waits sig (HIx 2)) : sProp 𝕄 :=
  iprop(Transfers.MayWaits thr (none : HIx 2) O ∗ ∃ W' : Waits sig (HIx 2), ⌜∀ p ∈ W', p ∈ W ∨ p.2 = none⌝ ∗ owes thr O W')

theorem copy_start {sp sp' : Space} {s : Shape} {e : EltTy} {src : Memref sig thr.2.kind sp s e} {dst : Memref sig thr.2.kind sp' s e} {sm : SemLoc sig}
    {hsrc : src.view.WordExact} {hdst : dst.view.WordExact} {hsem : DmaTarget.Typed (nD := nD) sp sm (.here dst)}
    {k : PUnit → Prog (TpuEff nD τ sig (Elt F) Λ thr.2) α} {Q : α → sProp 𝕄} {q : PosShare TreeShare}
    {S : Finset (Idx (src.view.loc thr))} {Sd : Finset (Idx (dst.view.loc thr))}
    {fs : Buf (Elt F) (src.view.loc thr)} {fd : Buf (Elt F) (dst.view.loc thr)} (N : ℕ) (hN : dst.view.amount sm = N) (hN0 : 0 < s.numel)
    (hS : src.view.set ⊆ S) (hSd : dst.view.set ⊆ Sd) {R : sProp 𝕄}
    (hR : iprop((src.view.loc thr ↦[S]{q} fs) ∗ dst.view.loc thr ↦[Sd]{fullShare} dst.view.write (Elt F) fd (src.view.read (Elt F) fs) Finset.univ) ⊢ R) :
    iprop((src.view.loc thr ↦[S]{q} fs) ∗ (dst.view.loc thr ↦[Sd]{fullShare} fd) ∗ semVal (thr, sm) 0)
      ⊢ iprop((Fly thr sm N R -∗ wp frame (wpE defs 𝒱 thr bd) Set.univ (k ⟨⟩) Q)
        -∗ wp frame (wpE defs 𝒱 thr bd) Set.univ (.op (.enqueueDmaAs src (.here dst) .same sm hsrc hdst hsem) k) Q) := by
  iintro ⟨Hs, Hd, Hv⟩ Hk
  ihave Hs' := (pointsTo_split_subset hS).1 $$ Hs
  icases Hs' with ⟨Hs, Hrest⟩
  iapply (Transfers.wp_dmaLocal EC 𝒱 thr bd (none : HIx 2) N hN (hN ▸ View.amount_pos _ _ hN0) hSd) $$ [Hs Hd Hv]
  · isplitl [Hs]; · iexact Hs
    isplitl [Hd]; · iexact Hd
    iexact Hv
  iintro HF
  iapply Hk
  unfold Fly
  iexists _
  iexists iprop(src.view.loc thr ↦[S \ src.view.set]{q} fs)
  isplitr
  rotate_left
  · isplitl [Hrest]; · iexact Hrest
    iexact HF
  · ipureintro
    refine BIBase.Entails.trans ?_ hR
    iintro ⟨⟨Hd, Hs⟩, Hrest⟩
    isplitl [Hs Hrest]
    · iapply (pointsTo_split_subset hS).2
      isplitl [Hs]; · iexact Hs
      iexact Hrest
    · iexact Hd

theorem copy_wait {sp sp' : Space} {s s' : Shape} {e e' : EltTy} {κ' : Kind} {sem : DmaSem sig}
    {srcw : Memref sig thr.2.kind sp' s' e'} {dstw : Memref sig κ' sp s e} {hsrc : srcw.view.WordExact} {hdst : dstw.view.WordExact}
    {k : PUnit → Prog (TpuEff nD τ sig (Elt F) Λ thr.2) α} {Q : α → sProp 𝕄} {N : ℕ} (hN : dstw.view.dmaCredit = N)
    {R : sProp 𝕄} {O : CellTallies nD τ sig (HIx 2)} {W : Waits sig (HIx 2)} :
    iprop(Fly thr (.dma sem) N R ∗ Owe thr O W)
      ⊢ iprop((iprop(R ∗ semVal (thr, SemLoc.dma sem) 0 ∗ Owe thr O W) -∗ wp frame (wpE defs 𝒱 thr bd) Set.univ (k ⟨⟩) Q)
        -∗ wp frame (wpE defs 𝒱 thr bd) Set.univ (.op (.waitDma2 sem srcw dstw hsrc hdst) k) Q) := by
  unfold Fly Owe
  iintro ⟨⟨%D₀, %R₀, %h, HR, HF⟩, #Hmw, %W', %hW, HO⟩ Hk
  iapply (Transfers.wp_waitLocalO EC 𝒱 thr bd (none : HIx 2) hN) $$ [HF HO]
  · isplitl [HF]; · iexact HF
    isplitl [HO]; · iexact HO
    iapply (Transfers.MayWaits.elim (SemLoc.dma sem)) $$ Hmw
  iintro ⟨HD, Hv, HO⟩
  iapply Hk
  isplitl [HD HR]
  · iapply h
    isplitl [HD]; · iexact HD
    iexact HR
  isplitl [Hv]; · iexact Hv
  isplitr; · iexact Hmw
  iexists _
  isplitr
  rotate_left
  · iexact HO
  · ipureintro
    intro p hp
    rcases Finset.mem_insert.mp hp with rfl | hp
    · exact .inr rfl
    · exact hW p hp

/-- A copy begun and waited for at once. -/
theorem copy_sync {sp sp' : Space} {s : Shape} {e : EltTy} {src : Memref sig thr.2.kind sp s e} {dst : Memref sig thr.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ thr.2) α} {Q : α → sProp 𝕄} {q : PosShare TreeShare}
    {S : Finset (Idx (src.view.loc thr))} {Sd : Finset (Idx (dst.view.loc thr))}
    {fs : Buf (Elt F) (src.view.loc thr)} {fd : Buf (Elt F) (dst.view.loc thr)} (hN0 : 0 < s.numel)
    (hS : src.view.set ⊆ S) (hSd : dst.view.set ⊆ Sd) {R : sProp 𝕄}
    (hR : iprop((src.view.loc thr ↦[S]{q} fs) ∗ dst.view.loc thr ↦[Sd]{fullShare} dst.view.write (Elt F) fd (src.view.read (Elt F) fs) Finset.univ) ⊢ R)
    {O : CellTallies nD τ sig (HIx 2)} {W : Waits sig (HIx 2)} :
    iprop((src.view.loc thr ↦[S]{q} fs) ∗ (dst.view.loc thr ↦[Sd]{fullShare} fd) ∗ semVal (thr, SemLoc.dma sem) 0 ∗ Owe thr O W)
      ⊢ iprop((iprop(R ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs src (.here dst) .same (.dma sem) hsrc hdst hsem)
            fun _ => .op (.waitDma2 sem src dst hsrc' hdst') k) Q) := by
  iintro ⟨Hs, Hd, Hv, HO⟩ Hk
  iapply (copy_start (R := R) (S := S) (Sd := Sd) _ rfl hN0 hS hSd hR) $$ [Hs Hd Hv]
  · isplitl [Hs]; · iexact Hs
    isplitl [Hd]; · iexact Hd
    iexact Hv
  iintro HF
  iapply (copy_wait (N := dst.view.amount (.dma sem)) rfl) $$ [HF HO]
  · isplitl [HF]; · iexact HF
    iexact HO
  iexact Hk

/-! ## The tables by their elements -/

/-- The rows table, its lanes below 48 the given ones, under a read share. -/
def Tab (thr : Thread nD τ) (tab : Memref sig thr.2.kind .hbm S50000x128 .f32) (q : PosShare TreeShare) (A : ℕ → ℕ → Elt F .f32) : sProp 𝕄 :=
  iprop(∃ f, ⌜∀ z : S50000x128.Idx, (z 1).val < 48 → tab.view.read (Elt F) f z = A (z 0).val (z 1).val⌝ ∗ (tab.view.loc thr ↦[tab.view.set]{q} f))

/-- The staged block: its first `k` rows are the table's from `r` on. -/
def Staged (thr : Thread nD τ) (buf : Memref sig thr.2.kind .vmem S120x128 .f32) (A : ℕ → ℕ → Elt F .f32) (r k : ℕ) : sProp 𝕄 :=
  iprop(∃ f, ⌜∀ z : S120x128.Idx, (z 0).val < k → (z 1).val < 48 → buf.view.read (Elt F) f z = A (r + (z 0).val) (z 1).val⌝
    ∗ (buf.view.loc thr ↦[buf.view.set]{fullShare} f))

/-- The strip: its first `k` groups of sixteen columns are the table's rows from `r` on, transposed. -/
def Ready (thr : Thread nD τ) (out : Memref sig thr.2.kind .vmem S3x1920 .f32) (A : ℕ → ℕ → Elt F .f32) (r k : ℕ) : sProp 𝕄 :=
  iprop(∃ g, ⌜∀ y : S3x1920.Idx, (y 1).val < 16 * k → out.view.read (Elt F) g y = A (r + (y 1).val / 16) (3 * ((y 1).val % 16) + (y 0).val)⌝
    ∗ (out.view.loc thr ↦[out.view.set]{fullShare} g))

/-- The strip at some contents. -/
def Some3 (thr : Thread nD τ) (out : Memref sig thr.2.kind .vmem S3x1920 .f32) : sProp 𝕄 :=
  iprop(∃ g, (out.view.loc thr ↦[out.view.set]{fullShare} g))

/-- The columns of rows `lo … hi`. -/
def colsOf (lo hi : ℕ) : Finset S3x800000.Idx := Finset.univ.filter fun y => 16 * lo ≤ (y 1).val ∧ (y 1).val < 16 * hi

/-- The worker's columns of the result, those of the rows `lo … n` written. -/
def Cols (thr : Thread nD τ) (x : Memref sig thr.2.kind .hbm S3x800000 .f32) (A : ℕ → ℕ → Elt F .f32) (lo hi n : ℕ) : sProp 𝕄 :=
  iprop(∃ f, ⌜∀ y : S3x800000.Idx, 16 * lo ≤ (y 1).val → (y 1).val < 16 * n → x.view.read (Elt F) f y = A ((y 1).val / 16) (3 * ((y 1).val % 16) + (y 0).val)⌝
    ∗ (x.view.loc thr ↦[x.view.setOn (colsOf lo hi)]{fullShare} f))

/-- The strip finished is ready. -/
theorem strip_ready {rows : Memref sig thr.2.kind .vmem S120x128 .f32} {out : Memref sig thr.2.kind .vmem S3x1920 .f32}
    {f : Buf (Elt F) (rows.view.loc thr)} {A : ℕ → ℕ → Elt F .f32} {r k : ℕ} (hk : k ≤ 120)
    (hf : ∀ z : S120x128.Idx, (z 0).val < k → (z 1).val < 48 → rows.view.read (Elt F) f z = A (r + (z 0).val) (z 1).val) :
    Strip thr rows out f (3 * k) ⊢ iprop((∃ f, rows.view.loc thr ↦[rows.view.set]{fullShare} f) ∗ Ready thr out A r k) := by
  unfold Strip Ready
  iintro ⟨Hr, %g, %hD, Ho⟩
  isplitl [Hr]; · iexists f; iexact Hr
  iexists g
  isplitr
  rotate_left
  · iexact Ho
  · ipureintro
    intro y hy
    have y0 : (y 0).val < 3 := (y 0).isLt
    have h1 : (y 1).val / 16 < k := by omega
    have h2 : 3 * ((y 1).val % 16) + (y 0).val < 48 := by omega
    let z : S120x128.Idx := ValueIdx.ix2 (⟨(y 1).val / 16, by omega⟩ : Fin 120) (⟨3 * ((y 1).val % 16) + (y 0).val, by omega⟩ : Fin 128)
    rw [hD y z rfl rfl (by omega)]
    exact hf z h1 h2

/-- A staged block begins a strip. -/
theorem staged_strip {rows : Memref sig thr.2.kind .vmem S120x128 .f32} {out : Memref sig thr.2.kind .vmem S3x1920 .f32}
    {A : ℕ → ℕ → Elt F .f32} {r k : ℕ} :
    iprop(Staged thr rows A r k ∗ Some3 thr out)
      ⊢ (iprop(∃ f, ⌜∀ z : S120x128.Idx, (z 0).val < k → (z 1).val < 48 → rows.view.read (Elt F) f z = A (r + (z 0).val) (z 1).val⌝ ∗ Strip thr rows out f 0) : sProp 𝕄) := by
  unfold Staged Some3 Strip
  iintro ⟨⟨%f, %hf, Hf⟩, %g, Hg⟩
  iexists f
  isplitr; · ipureintro; exact hf
  isplitl [Hf]; · iexact Hf
  iexists g
  isplitr
  · ipureintro; exact Done.zero _ _
  · iexact Hg

/-! ## The kernel's copies -/

/-- The copy in of a block of 120 rows, begun. -/
theorem rows_start {tab : Memref sig thr.2.kind .hbm S50000x128 .f32} {buf : Memref sig thr.2.kind .vmem S120x128 .f32} {sm : SemLoc sig} {r : ℕ}
    {off : Fin 2 → ℕ} {inb : ∀ b, off b + S120x128.size b ≤ S50000x128.size b} (hoff : off = ![r, 0])
    {hst : ∀ a, (Rect.unit (s := S50000x128) off S120x128.size inb).stride a = 1}
    {hsrc : (tab.slice (Rect.unit (s := S50000x128) off S120x128.size inb) hst).view.WordExact} {hdst : buf.view.WordExact}
    {hsem : DmaTarget.Typed (nD := nD) .hbm sm (.here buf)}
    {k : PUnit → Prog (TpuEff nD τ sig (Elt F) Λ thr.2) α} {Q : α → sProp 𝕄} {q : PosShare TreeShare} {A : ℕ → ℕ → Elt F .f32} :
    iprop(Tab thr tab q A ∗ (∃ f, buf.view.loc thr ↦[buf.view.set]{fullShare} f) ∗ semVal (thr, sm) 0)
      ⊢ iprop((Fly thr sm (buf.view.amount sm) iprop(Staged thr buf A r 120 ∗ Tab thr tab q A) -∗ wp frame (wpE defs 𝒱 thr bd) Set.univ (k ⟨⟩) Q)
        -∗ wp frame (wpE defs 𝒱 thr bd) Set.univ (.op (.enqueueDmaAs (tab.slice (Rect.unit (s := S50000x128) off S120x128.size inb) hst : Memref sig thr.2.kind .hbm S120x128 .f32)
            (.here buf) .same sm hsrc hdst hsem) k) Q) := by
  subst hoff
  unfold Tab
  iintro ⟨⟨%fr, %hfr, Ht⟩, ⟨%fd, Hd⟩, Hv⟩ Hk
  iapply (copy_start (src := tab.slice (Rect.unit (s := S50000x128) ![r, 0] S120x128.size inb) hst) (dst := buf) (fs := fr) (fd := fd) (S := tab.view.set) (Sd := buf.view.set) (buf.view.amount sm) rfl (show 0 < S120x128.numel by decide)
    (View.set_slice_subset _ _) (Finset.Subset.refl _)
    (R := iprop(Staged thr buf A r 120 ∗ ∃ f, ⌜∀ z : S50000x128.Idx, (z 1).val < 48 → tab.view.read (Elt F) f z = A (z 0).val (z 1).val⌝ ∗ (tab.view.loc thr ↦[tab.view.set]{q} f))) ?_) $$ [Ht Hd Hv]
  · iintro ⟨Ht, Hd⟩
    isplitl [Hd]
    · unfold Staged
      iexists _
      isplitr
      rotate_left
      · iexact Hd
      · ipureintro
        intro z _ hz
        rw [View.read_write_univ]
        refine (hfr ((Rect.unit (s := S50000x128) ![r, 0] S120x128.size inb).emb z) ?_).trans ?_
        · show 0 + 1 * (z 1).val < 48; omega
        · show A (r + 1 * (z 0).val) (0 + 1 * (z 1).val) = _; rw [Nat.one_mul, Nat.one_mul, Nat.zero_add]
    · iexists fr
      isplitr; · ipureintro; exact hfr
      iexact Ht
  · isplitl [Ht]; · iexact Ht
    isplitl [Hd]; · iexact Hd
    iexact Hv
  iexact Hk

/-- The copy in of the last eight rows, begun and waited for. -/
theorem rows_tail {tab : Memref sig thr.2.kind .hbm S50000x128 .f32} {buf : Memref sig thr.2.kind .vmem S120x128 .f32} {sem : DmaSem sig} {r : ℕ}
    {off : Fin 2 → ℕ} {inb : ∀ b, off b + S8x128.size b ≤ S50000x128.size b} (hoff : off = ![r, 0])
    {inb' : ∀ b, (![0, 0] : Fin 2 → ℕ) b + S8x128.size b ≤ S120x128.size b}
    {hst : ∀ a, (Rect.unit (s := S50000x128) off S8x128.size inb).stride a = 1} {hst' : ∀ a, (Rect.unit (s := S120x128) ![0, 0] S8x128.size inb').stride a = 1}
    {hsrc hsrc' : (tab.slice (Rect.unit (s := S50000x128) off S8x128.size inb) hst).view.WordExact}
    {hdst hdst' : (buf.slice (Rect.unit (s := S120x128) ![0, 0] S8x128.size inb') hst').view.WordExact}
    {hsem : DmaTarget.Typed (nD := nD) .hbm (.dma sem) (.here (buf.slice (Rect.unit (s := S120x128) ![0, 0] S8x128.size inb') hst' : Memref sig thr.2.kind .vmem S8x128 .f32))}
    {k : PUnit → Prog (TpuEff nD τ sig (Elt F) Λ thr.2) α} {Q : α → sProp 𝕄} {q : PosShare TreeShare} {A : ℕ → ℕ → Elt F .f32}
    {O : CellTallies nD τ sig (HIx 2)} {W : Waits sig (HIx 2)} :
    iprop(Tab thr tab q A ∗ (∃ f, buf.view.loc thr ↦[buf.view.set]{fullShare} f) ∗ semVal (thr, SemLoc.dma sem) 0 ∗ Owe thr O W)
      ⊢ iprop((iprop(iprop(Staged thr buf A r 8 ∗ Tab thr tab q A) ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs (tab.slice (Rect.unit (s := S50000x128) off S8x128.size inb) hst : Memref sig thr.2.kind .hbm S8x128 .f32)
            (.here (buf.slice (Rect.unit (s := S120x128) ![0, 0] S8x128.size inb') hst' : Memref sig thr.2.kind .vmem S8x128 .f32)) .same (.dma sem) hsrc hdst hsem)
            fun _ => .op (.waitDma2 sem (tab.slice (Rect.unit (s := S50000x128) off S8x128.size inb) hst : Memref sig thr.2.kind .hbm S8x128 .f32)
              (buf.slice (Rect.unit (s := S120x128) ![0, 0] S8x128.size inb') hst' : Memref sig thr.2.kind .vmem S8x128 .f32) hsrc' hdst') k) Q) := by
  subst hoff
  unfold Tab
  iintro ⟨⟨%fr, %hfr, Ht⟩, ⟨%fd, Hd⟩, Hv, HO⟩ Hk
  iapply (copy_sync (src := tab.slice (Rect.unit (s := S50000x128) ![r, 0] S8x128.size inb) hst) (dst := buf.slice (Rect.unit (s := S120x128) ![0, 0] S8x128.size inb') hst')
    (fs := fr) (fd := fd) (S := tab.view.set) (Sd := buf.view.set) (show 0 < S8x128.numel by decide)
    (View.set_slice_subset _ _) (View.set_slice_subset _ _)
    (R := iprop(Staged thr buf A r 8 ∗ ∃ f, ⌜∀ z : S50000x128.Idx, (z 1).val < 48 → tab.view.read (Elt F) f z = A (z 0).val (z 1).val⌝ ∗ (tab.view.loc thr ↦[tab.view.set]{q} f))) ?_) $$ [Ht Hd Hv HO]
  · iintro ⟨Ht, Hd⟩
    isplitl [Hd]
    · unfold Staged
      iexists _
      isplitr
      rotate_left
      · iexact Hd
      · ipureintro
        intro z hz0 hz
        let w : S8x128.Idx := ValueIdx.ix2 (⟨(z 0).val, hz0⟩ : Fin 8) (⟨(z 1).val, by omega⟩ : Fin 128)
        have hw : z = (Rect.unit (s := S120x128) ![0, 0] S8x128.size inb').emb w := by
          funext b; apply Fin.ext
          match b with
          | 0 => show (z 0).val = 0 + 1 * (z 0).val; omega
          | 1 => show (z 1).val = 0 + 1 * (z 1).val; omega
        refine (congrArg _ hw).trans ((View.read_slice_write_emb (v := buf.view) (Rect.unit (s := S120x128) ![0, 0] S8x128.size inb') fd _ (Finset.mem_univ w)).trans ?_)
        refine (hfr ((Rect.unit (s := S50000x128) ![r, 0] S8x128.size inb).emb w) ?_).trans ?_
        · show 0 + 1 * (z 1).val < 48; omega
        · show A (r + 1 * (z 0).val) (0 + 1 * (z 1).val) = _; rw [Nat.one_mul, Nat.one_mul, Nat.zero_add]
    · iexists fr
      isplitr; · ipureintro; exact hfr
      iexact Ht
  · isplitl [Ht]; · iexact Ht
    isplitl [Hd]; · iexact Hd
    isplitl [Hv]; · iexact Hv
    iexact HO
  iexact Hk

/-- The copy out of a strip of 120 rows' columns, begun and waited for. -/
theorem strip_out120 {x : Memref sig thr.2.kind .hbm S3x800000 .f32} {out : Memref sig thr.2.kind .vmem S3x1920 .f32} {sem : DmaSem sig} {r lo hi : ℕ}
    (hlo : lo ≤ r) (hhi : r + 120 ≤ hi)
    {off : Fin 2 → ℕ} {inb : ∀ b, off b + S3x1920.size b ≤ S3x800000.size b} (hoff : off = ![0, 16 * r])
    {inb' : ∀ b, (![0, 0] : Fin 2 → ℕ) b + S3x1920.size b ≤ S3x1920.size b}
    {hst : ∀ a, (Rect.unit (s := S3x800000) off S3x1920.size inb).stride a = 1} {hst' : ∀ a, (Rect.unit (s := S3x1920) ![0, 0] S3x1920.size inb').stride a = 1}
    {hdst hdst' : (x.slice (Rect.unit (s := S3x800000) off S3x1920.size inb) hst).view.WordExact}
    {hsrc hsrc' : (out.slice (Rect.unit (s := S3x1920) ![0, 0] S3x1920.size inb') hst').view.WordExact}
    {hsem : DmaTarget.Typed (nD := nD) .vmem (.dma sem) (.here (x.slice (Rect.unit (s := S3x800000) off S3x1920.size inb) hst : Memref sig thr.2.kind .hbm S3x1920 .f32))}
    {k : PUnit → Prog (TpuEff nD τ sig (Elt F) Λ thr.2) α} {Q : α → sProp 𝕄} {A : ℕ → ℕ → Elt F .f32}
    {O : CellTallies nD τ sig (HIx 2)} {W : Waits sig (HIx 2)} :
    iprop(Ready thr out A r 120 ∗ Cols thr x A lo hi r ∗ semVal (thr, SemLoc.dma sem) 0 ∗ Owe thr O W)
      ⊢ iprop((iprop(iprop(Some3 thr out ∗ Cols thr x A lo hi (r + 120)) ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs (out.slice (Rect.unit (s := S3x1920) ![0, 0] S3x1920.size inb') hst' : Memref sig thr.2.kind .vmem S3x1920 .f32)
            (.here (x.slice (Rect.unit (s := S3x800000) off S3x1920.size inb) hst : Memref sig thr.2.kind .hbm S3x1920 .f32)) .same (.dma sem) hsrc hdst hsem)
            fun _ => .op (.waitDma2 sem (out.slice (Rect.unit (s := S3x1920) ![0, 0] S3x1920.size inb') hst' : Memref sig thr.2.kind .vmem S3x1920 .f32)
              (x.slice (Rect.unit (s := S3x800000) off S3x1920.size inb) hst : Memref sig thr.2.kind .hbm S3x1920 .f32) hsrc' hdst') k) Q) := by
  subst hoff
  unfold Ready Cols
  iintro ⟨⟨%g, %hg, Hg⟩, ⟨%f, %hf, Hf⟩, Hv, HO⟩ Hk
  iapply (copy_sync (src := out.slice (Rect.unit (s := S3x1920) ![0, 0] S3x1920.size inb') hst') (dst := x.slice (Rect.unit (s := S3x800000) ![0, 16 * r] S3x1920.size inb) hst)
    (fs := g) (fd := f) (S := out.view.set) (Sd := x.view.setOn (colsOf lo hi)) (show 0 < S3x1920.numel by decide)
    (View.set_slice_subset _ _) ?_
    (R := iprop(Some3 thr out ∗ ∃ f, ⌜∀ y : S3x800000.Idx, 16 * lo ≤ (y 1).val → (y 1).val < 16 * (r + 120) → x.view.read (Elt F) f y = A ((y 1).val / 16) (3 * ((y 1).val % 16) + (y 0).val)⌝
    ∗ (x.view.loc thr ↦[x.view.setOn (colsOf lo hi)]{fullShare} f))) ?_) $$ [Hg Hf Hv HO]
  · refine (View.set_slice (v := x.view) _).trans_subset (Finset.map_subset_map.mpr fun y hy => ?_)
    have h := Rect.mem_set_unit.mp hy 1
    have h1 : 16 * r ≤ (y 1).val := h.1
    have h2 : (y 1).val < 16 * r + 1920 := h.2
    exact Finset.mem_filter.mpr ⟨Finset.mem_univ _, by omega, by omega⟩
  · iintro ⟨Hg, Hf⟩
    isplitl [Hg]
    · unfold Some3; iexists g; iexact Hg
    iexists _
    isplitr
    rotate_left
    · iexact Hf
    · ipureintro
      intro y hy1 hy2
      have y0 : (y 0).val < 3 := (y 0).isLt
      rcases Nat.lt_or_ge (y 1).val (16 * r) with hlt | hge
      · refine (View.read_slice_write_of_not_mem (v := x.view) (Rect.unit (s := S3x800000) ![0, 16 * r] S3x1920.size inb) f _ Finset.univ ?_).trans (hf y hy1 hlt)
        rw [Rect.map_emb_univ, Rect.mem_set_unit]
        intro h
        have h1 : 16 * r ≤ (y 1).val := (h 1).1
        omega
      · let w : S3x1920.Idx := ValueIdx.ix2 (⟨(y 0).val, y0⟩ : Fin 3) (⟨(y 1).val - 16 * r, by omega⟩ : Fin 1920)
        have hw : y = (Rect.unit (s := S3x800000) ![0, 16 * r] S3x1920.size inb).emb w := by
          funext b; apply Fin.ext
          match b with
          | 0 => show (y 0).val = 0 + 1 * (y 0).val; omega
          | 1 => show (y 1).val = 16 * r + 1 * ((y 1).val - 16 * r); omega
        refine (congrArg _ hw).trans ((View.read_slice_write_emb (v := x.view) (Rect.unit (s := S3x800000) ![0, 16 * r] S3x1920.size inb) f _ (Finset.mem_univ w)).trans ?_)
        refine (hg ((Rect.unit (s := S3x1920) ![0, 0] S3x1920.size inb').emb w) ?_).trans ?_
        · show 0 + 1 * ((y 1).val - 16 * r) < 16 * 120; omega
        · show A (r + (0 + 1 * ((y 1).val - 16 * r)) / 16) (3 * ((0 + 1 * ((y 1).val - 16 * r)) % 16) + (0 + 1 * (y 0).val)) = _
          congr 1 <;> omega
  · isplitl [Hg]; · iexact Hg
    isplitl [Hf]; · iexact Hf
    isplitl [Hv]; · iexact Hv
    iexact HO
  iexact Hk

/-- The copy out of a strip of 8 rows' columns, begun and waited for. -/
theorem strip_out8 {x : Memref sig thr.2.kind .hbm S3x800000 .f32} {out : Memref sig thr.2.kind .vmem S3x1920 .f32} {sem : DmaSem sig} {r lo hi : ℕ}
    (hlo : lo ≤ r) (hhi : r + 8 ≤ hi)
    {off : Fin 2 → ℕ} {inb : ∀ b, off b + S3x128.size b ≤ S3x800000.size b} (hoff : off = ![0, 16 * r])
    {inb' : ∀ b, (![0, 0] : Fin 2 → ℕ) b + S3x128.size b ≤ S3x1920.size b}
    {hst : ∀ a, (Rect.unit (s := S3x800000) off S3x128.size inb).stride a = 1} {hst' : ∀ a, (Rect.unit (s := S3x1920) ![0, 0] S3x128.size inb').stride a = 1}
    {hdst hdst' : (x.slice (Rect.unit (s := S3x800000) off S3x128.size inb) hst).view.WordExact}
    {hsrc hsrc' : (out.slice (Rect.unit (s := S3x1920) ![0, 0] S3x128.size inb') hst').view.WordExact}
    {hsem : DmaTarget.Typed (nD := nD) .vmem (.dma sem) (.here (x.slice (Rect.unit (s := S3x800000) off S3x128.size inb) hst : Memref sig thr.2.kind .hbm S3x128 .f32))}
    {k : PUnit → Prog (TpuEff nD τ sig (Elt F) Λ thr.2) α} {Q : α → sProp 𝕄} {A : ℕ → ℕ → Elt F .f32}
    {O : CellTallies nD τ sig (HIx 2)} {W : Waits sig (HIx 2)} :
    iprop(Ready thr out A r 8 ∗ Cols thr x A lo hi r ∗ semVal (thr, SemLoc.dma sem) 0 ∗ Owe thr O W)
      ⊢ iprop((iprop(iprop(Some3 thr out ∗ Cols thr x A lo hi (r + 8)) ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs (out.slice (Rect.unit (s := S3x1920) ![0, 0] S3x128.size inb') hst' : Memref sig thr.2.kind .vmem S3x128 .f32)
            (.here (x.slice (Rect.unit (s := S3x800000) off S3x128.size inb) hst : Memref sig thr.2.kind .hbm S3x128 .f32)) .same (.dma sem) hsrc hdst hsem)
            fun _ => .op (.waitDma2 sem (out.slice (Rect.unit (s := S3x1920) ![0, 0] S3x128.size inb') hst' : Memref sig thr.2.kind .vmem S3x128 .f32)
              (x.slice (Rect.unit (s := S3x800000) off S3x128.size inb) hst : Memref sig thr.2.kind .hbm S3x128 .f32) hsrc' hdst') k) Q) := by
  subst hoff
  unfold Ready Cols
  iintro ⟨⟨%g, %hg, Hg⟩, ⟨%f, %hf, Hf⟩, Hv, HO⟩ Hk
  iapply (copy_sync (src := out.slice (Rect.unit (s := S3x1920) ![0, 0] S3x128.size inb') hst') (dst := x.slice (Rect.unit (s := S3x800000) ![0, 16 * r] S3x128.size inb) hst)
    (fs := g) (fd := f) (S := out.view.set) (Sd := x.view.setOn (colsOf lo hi)) (show 0 < S3x128.numel by decide)
    (View.set_slice_subset _ _) ?_
    (R := iprop(Some3 thr out ∗ ∃ f, ⌜∀ y : S3x800000.Idx, 16 * lo ≤ (y 1).val → (y 1).val < 16 * (r + 8) → x.view.read (Elt F) f y = A ((y 1).val / 16) (3 * ((y 1).val % 16) + (y 0).val)⌝
    ∗ (x.view.loc thr ↦[x.view.setOn (colsOf lo hi)]{fullShare} f))) ?_) $$ [Hg Hf Hv HO]
  · refine (View.set_slice (v := x.view) _).trans_subset (Finset.map_subset_map.mpr fun y hy => ?_)
    have h := Rect.mem_set_unit.mp hy 1
    have h1 : 16 * r ≤ (y 1).val := h.1
    have h2 : (y 1).val < 16 * r + 128 := h.2
    exact Finset.mem_filter.mpr ⟨Finset.mem_univ _, by omega, by omega⟩
  · iintro ⟨Hg, Hf⟩
    isplitl [Hg]
    · unfold Some3; iexists g; iexact Hg
    iexists _
    isplitr
    rotate_left
    · iexact Hf
    · ipureintro
      intro y hy1 hy2
      have y0 : (y 0).val < 3 := (y 0).isLt
      rcases Nat.lt_or_ge (y 1).val (16 * r) with hlt | hge
      · refine (View.read_slice_write_of_not_mem (v := x.view) (Rect.unit (s := S3x800000) ![0, 16 * r] S3x128.size inb) f _ Finset.univ ?_).trans (hf y hy1 hlt)
        rw [Rect.map_emb_univ, Rect.mem_set_unit]
        intro h
        have h1 : 16 * r ≤ (y 1).val := (h 1).1
        omega
      · let w : S3x128.Idx := ValueIdx.ix2 (⟨(y 0).val, y0⟩ : Fin 3) (⟨(y 1).val - 16 * r, by omega⟩ : Fin 128)
        have hw : y = (Rect.unit (s := S3x800000) ![0, 16 * r] S3x128.size inb).emb w := by
          funext b; apply Fin.ext
          match b with
          | 0 => show (y 0).val = 0 + 1 * (y 0).val; omega
          | 1 => show (y 1).val = 16 * r + 1 * ((y 1).val - 16 * r); omega
        refine (congrArg _ hw).trans ((View.read_slice_write_emb (v := x.view) (Rect.unit (s := S3x800000) ![0, 16 * r] S3x128.size inb) f _ (Finset.mem_univ w)).trans ?_)
        refine (hg ((Rect.unit (s := S3x1920) ![0, 0] S3x128.size inb').emb w) ?_).trans ?_
        · show 0 + 1 * ((y 1).val - 16 * r) < 16 * 8; omega
        · show A (r + (0 + 1 * ((y 1).val - 16 * r)) / 16) (3 * ((0 + 1 * ((y 1).val - 16 * r)) % 16) + (0 + 1 * (y 0).val)) = _
          congr 1 <;> omega
  · isplitl [Hg]; · iexact Hg
    isplitl [Hf]; · iexact Hf
    isplitl [Hv]; · iexact Hv
    iexact HO
  iexact Hk

/-! ## The batch indices -/

/-- The batch indices under a read share. -/
def Bat (thr : Thread nD τ) (b : Memref sig thr.2.kind .hbm S100000 .i32) (q : PosShare TreeShare) (f : Buf (Elt F) (b.view.loc thr)) : sProp 𝕄 :=
  iprop(b.view.loc thr ↦[b.view.set]{q} f)

/-- The cells of worker `w`'s copies of its batch indices. -/
def cellsOf (w : ℕ) : Finset S1600000.Idx := Finset.univ.filter fun y => 50000 * w ≤ (y 0).val ∧ (y 0).val < 50000 * w + 50000

/-- The copy in of the stage of batch indices, begun and waited for. -/
theorem bat_in {b : Memref sig thr.2.kind .hbm S100000 .i32} {st : Memref sig thr.2.kind .vmem S3136 .i32} {sem : DmaSem sig} {r : ℕ}
    {off : Fin 1 → ℕ} {inb : ∀ a, off a + S3136.size a ≤ S100000.size a} (hoff : off = ![r])
    {hst : ∀ a, (Rect.unit (s := S100000) off S3136.size inb).stride a = 1}
    {hsrc hsrc' : (b.slice (Rect.unit (s := S100000) off S3136.size inb) hst).view.WordExact} {hdst hdst' : st.view.WordExact}
    {hsem : DmaTarget.Typed (nD := nD) .hbm (.dma sem) (.here st)}
    {k : PUnit → Prog (TpuEff nD τ sig (Elt F) Λ thr.2) α} {Q : α → sProp 𝕄} {q : PosShare TreeShare} {f : Buf (Elt F) (b.view.loc thr)}
    {O : CellTallies nD τ sig (HIx 2)} {W : Waits sig (HIx 2)} :
    iprop(Bat thr b q f ∗ (∃ f, st.view.loc thr ↦[st.view.set]{fullShare} f) ∗ semVal (thr, SemLoc.dma sem) 0 ∗ Owe thr O W)
      ⊢ iprop((iprop(iprop((∃ g, ⌜∀ (z : S3136.Idx) (y : S100000.Idx), (y 0).val = r + (z 0).val → st.view.read (Elt F) g z = b.view.read (Elt F) f y⌝
            ∗ (st.view.loc thr ↦[st.view.set]{fullShare} g)) ∗ Bat thr b q f) ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs (b.slice (Rect.unit (s := S100000) off S3136.size inb) hst : Memref sig thr.2.kind .hbm S3136 .i32)
            (.here st) .same (.dma sem) hsrc hdst hsem)
            fun _ => .op (.waitDma2 sem (b.slice (Rect.unit (s := S100000) off S3136.size inb) hst : Memref sig thr.2.kind .hbm S3136 .i32) st hsrc' hdst') k) Q) := by
  subst hoff
  unfold Bat
  iintro ⟨Ht, ⟨%fd, Hd⟩, Hv, HO⟩ Hk
  iapply (copy_sync (src := b.slice (Rect.unit (s := S100000) ![r] S3136.size inb) hst) (dst := st) (fs := f) (fd := fd) (S := b.view.set) (Sd := st.view.set) (show 0 < S3136.numel by decide)
    (View.set_slice_subset _ _) (Finset.Subset.refl _)
    (R := iprop((∃ g, ⌜∀ (z : S3136.Idx) (y : S100000.Idx), (y 0).val = r + (z 0).val → st.view.read (Elt F) g z = b.view.read (Elt F) f y⌝
            ∗ (st.view.loc thr ↦[st.view.set]{fullShare} g)) ∗ (b.view.loc thr ↦[b.view.set]{q} f))) ?_) $$ [Ht Hd Hv HO]
  · iintro ⟨Ht, Hd⟩
    isplitl [Hd]
    · iexists _
      isplitr
      rotate_left
      · iexact Hd
      · ipureintro
        intro z y hy
        rw [View.read_write_univ]
        have : (Rect.unit (s := S100000) ![r] S3136.size inb).emb z = y := by
          funext a; apply Fin.ext
          match a with
          | 0 => show r + 1 * (z 0).val = (y 0).val; omega
        exact congrArg (b.view.read (Elt F) f) this
    · iexact Ht
  · isplitl [Ht]; · iexact Ht
    isplitl [Hd]; · iexact Hd
    isplitl [Hv]; · iexact Hv
    iexact HO
  iexact Hk

/-- The copy out of the batch indices' copies, begun and waited for. -/
theorem bat_out {o : Memref sig thr.2.kind .hbm S1600000 .i32} {buf : Memref sig thr.2.kind .vmem S50000 .i32} {sem : DmaSem sig} {w : ℕ}
    {off : Fin 1 → ℕ} {inb : ∀ a, off a + S50000.size a ≤ S1600000.size a} (hoff : off = ![50000 * w])
    {hst : ∀ a, (Rect.unit (s := S1600000) off S50000.size inb).stride a = 1}
    {hdst hdst' : (o.slice (Rect.unit (s := S1600000) off S50000.size inb) hst).view.WordExact} {hsrc hsrc' : buf.view.WordExact}
    {hsem : DmaTarget.Typed (nD := nD) .vmem (.dma sem) (.here (o.slice (Rect.unit (s := S1600000) off S50000.size inb) hst : Memref sig thr.2.kind .hbm S50000 .i32))}
    {k : PUnit → Prog (TpuEff nD τ sig (Elt F) Λ thr.2) α} {Q : α → sProp 𝕄} {g : Buf (Elt F) (buf.view.loc thr)}
    {O : CellTallies nD τ sig (HIx 2)} {W : Waits sig (HIx 2)} :
    iprop((buf.view.loc thr ↦[buf.view.set]{fullShare} g) ∗ (∃ f, o.view.loc thr ↦[o.view.setOn (cellsOf w)]{fullShare} f) ∗ semVal (thr, SemLoc.dma sem) 0 ∗ Owe thr O W)
      ⊢ iprop((iprop(iprop((buf.view.loc thr ↦[buf.view.set]{fullShare} g) ∗ ∃ f, ⌜∀ (y : S1600000.Idx) (z : S50000.Idx), (y 0).val = 50000 * w + (z 0).val → o.view.read (Elt F) f y = buf.view.read (Elt F) g z⌝
            ∗ (o.view.loc thr ↦[o.view.setOn (cellsOf w)]{fullShare} f)) ∗ semVal (thr, SemLoc.dma sem) 0 ∗ Owe thr O W) -∗ wp frame (wpE defs 𝒱 thr bd) Set.univ (k ⟨⟩) Q)
        -∗ wp frame (wpE defs 𝒱 thr bd) Set.univ (.op (.enqueueDmaAs buf
            (.here (o.slice (Rect.unit (s := S1600000) off S50000.size inb) hst : Memref sig thr.2.kind .hbm S50000 .i32)) .same (.dma sem) hsrc hdst hsem)
            fun _ => .op (.waitDma2 sem buf (o.slice (Rect.unit (s := S1600000) off S50000.size inb) hst : Memref sig thr.2.kind .hbm S50000 .i32) hsrc' hdst') k) Q) := by
  subst hoff
  iintro ⟨Hb, ⟨%fd, Hd⟩, Hv, HO⟩ Hk
  iapply (copy_sync (src := buf) (dst := o.slice (Rect.unit (s := S1600000) ![50000 * w] S50000.size inb) hst) (fs := g) (fd := fd) (S := buf.view.set) (Sd := o.view.setOn (cellsOf w)) (show 0 < S50000.numel by decide)
    (Finset.Subset.refl _) ?_
    (R := iprop((buf.view.loc thr ↦[buf.view.set]{fullShare} g) ∗ ∃ f, ⌜∀ (y : S1600000.Idx) (z : S50000.Idx), (y 0).val = 50000 * w + (z 0).val → o.view.read (Elt F) f y = buf.view.read (Elt F) g z⌝
            ∗ (o.view.loc thr ↦[o.view.setOn (cellsOf w)]{fullShare} f))) ?_) $$ [Hb Hd Hv HO]
  · refine (View.set_slice (v := o.view) _).trans_subset (Finset.map_subset_map.mpr fun y hy => ?_)
    have h := Rect.mem_set_unit.mp hy 0
    have h1 : 50000 * w ≤ (y 0).val := h.1
    have h2 : (y 0).val < 50000 * w + 50000 := h.2
    exact Finset.mem_filter.mpr ⟨Finset.mem_univ _, h1, h2⟩
  · iintro ⟨Hb, Hd⟩
    isplitl [Hb]; · iexact Hb
    iexists _
    isplitr
    rotate_left
    · iexact Hd
    · ipureintro
      intro y z hy
      have hw : y = (Rect.unit (s := S1600000) ![50000 * w] S50000.size inb).emb z := by
        funext a; apply Fin.ext
        match a with
        | 0 => show (y 0).val = 50000 * w + 1 * (z 0).val; omega
      exact (congrArg _ hw).trans (View.read_slice_write_emb (v := o.view) (Rect.unit (s := S1600000) ![50000 * w] S50000.size inb) fd _ (Finset.mem_univ z))
  · isplitl [Hb]; · iexact Hb
    isplitl [Hd]; · iexact Hd
    isplitl [Hv]; · iexact Hv
    iexact HO
  iexact Hk

end Cert.Proof.Knl

end
-- ==== Proof.Offs.lean ====
/- Where a worker's copies start, in closed form: its first row, its strips' columns, its first batch index. -/
module

public import proofs.«01_k».proof.Proof.Facts
public import Idealize.ShloMosaic.Lib.Decide

@[expose] public section

set_option synthInstance.maxSize 4096
set_option Elab.async false

namespace Cert.Proof.Knl

open Cert.KernelIdeal Idealize.ShloMosaic

/-- The first row of worker `w`'s rows: the 50000 rows dealt in blocks of eight. -/
abbrev fstRow (w : ℕ) : ℕ := 8 * (6250 * w / 32)
/-- The start of worker `w`'s stage of batch indices. -/
abbrev fstBat (w : ℕ) : ℕ := min (8 * (3125 * w / 8)) 96864

theorem fstRow_step : ∀ w : Fin 32, fstRow (w.val + 1) = fstRow w.val + 1560 ∨ fstRow (w.val + 1) = fstRow w.val + 1568 := by decide +kernel
theorem fstRow_last : fstRow 32 = 50000 := by decide +kernel
theorem fstBat_le : ∀ w : Fin 32, fstBat w.val ≤ 3125 * w.val ∧ 3125 * w.val ≤ fstBat w.val + 11 := by decide +kernel

/-- The worker's number. -/
abbrev k1_wid (i : grid1.Coords) : ℕ := 2 * (i 1).val + (i 0).val
theorem k1_wid_lt : ∀ i : grid1.Coords, k1_wid i < 32 := by decide +kernel
theorem k1_off1_eq : ∀ (i : grid1.Coords), k1_off1 i 0#32 = ![fstRow (k1_wid i), 0] := by decide +kernel
theorem k1_off1_eq' : ∀ (i : grid1.Coords), k1_off1 i 120#32 = ![fstRow (k1_wid i) + 120, 0] := by decide +kernel
theorem k1_off27_eq : ∀ (i : grid1.Coords) (k1_t1 : Fin k1_t1_loop.trips), k1_off27 i k1_t1 0#32 = ![0, 16 * (fstRow (k1_wid i) + 240 * (k1_t1.val))] := by decide +kernel
theorem k1_off27_eq' : ∀ (i : grid1.Coords) (k1_t1 : Fin k1_t1_loop.trips), k1_off27 i k1_t1 1#32 = ![0, 16 * (fstRow (k1_wid i) + (240 * (k1_t1.val) + 120))] := by decide +kernel
theorem k1_off28_eq : ∀ (i : grid1.Coords) (k1_t1 : Fin k1_t1_loop.trips), k1_off28 i k1_t1 = ![fstRow (k1_wid i) + (240 * (k1_t1.val) + 240), 0] := by decide +kernel
theorem k1_off54_eq : ∀ (i : grid1.Coords) (k1_t1 : Fin k1_t1_loop.trips), k1_off54 i k1_t1 = ![fstRow (k1_wid i) + (240 * (k1_t1.val) + 360), 0] := by decide +kernel
theorem k1_off80_eq : ∀ (i : grid1.Coords), k1_off80 i = ![0, 16 * (fstRow (k1_wid i) + 1440)] := by decide +kernel
theorem k1_off81_eq : ∀ (i : grid1.Coords), k1_off81 i = ![fstRow (k1_wid i) + 1560, 0] := by decide +kernel
theorem k1_off106_eq : ∀ (i : grid1.Coords), k1_off106 i = ![0, 16 * (fstRow (k1_wid i) + 1560)] := by decide +kernel
theorem k1_off107_eq : ∀ (i : grid1.Coords), k1_off107 i = ![fstBat (k1_wid i)] := by decide +kernel
theorem k1_cond1_eq : ∀ (k1_t1 : Fin k1_t1_loop.trips), k1_cond1 k1_t1 = 1#1 := by decide +kernel
theorem k1_cond2_eq : ∀ (k1_t1 : Fin k1_t1_loop.trips), k1_cond2 k1_t1 = 1#1 ↔ k1_t1.val < 5 := by decide +kernel
theorem k1_trips1 : k1_t1_loop.trips = 6 := by decide +kernel
theorem k1_cond3_eq : ∀ (i : grid1.Coords), k1_cond3 i = 1#1 ↔ fstRow (k1_wid i + 1) = fstRow (k1_wid i) + 1568 := by decide +kernel

/-- The worker's number. -/
abbrev k3_wid (i : grid3.Coords) : ℕ := 2 * (i 1).val + (i 0).val
theorem k3_wid_lt : ∀ i : grid3.Coords, k3_wid i < 32 := by decide +kernel
theorem k3_off1_eq : ∀ (i : grid3.Coords), k3_off1 i 0#32 = ![fstRow (k3_wid i), 0] := by decide +kernel
theorem k3_off1_eq' : ∀ (i : grid3.Coords), k3_off1 i 120#32 = ![fstRow (k3_wid i) + 120, 0] := by decide +kernel
theorem k3_off27_eq : ∀ (i : grid3.Coords) (k3_t1 : Fin k3_t1_loop.trips), k3_off27 i k3_t1 0#32 = ![0, 16 * (fstRow (k3_wid i) + 240 * (k3_t1.val))] := by decide +kernel
theorem k3_off27_eq' : ∀ (i : grid3.Coords) (k3_t1 : Fin k3_t1_loop.trips), k3_off27 i k3_t1 1#32 = ![0, 16 * (fstRow (k3_wid i) + (240 * (k3_t1.val) + 120))] := by decide +kernel
theorem k3_off28_eq : ∀ (i : grid3.Coords) (k3_t1 : Fin k3_t1_loop.trips), k3_off28 i k3_t1 = ![fstRow (k3_wid i) + (240 * (k3_t1.val) + 240), 0] := by decide +kernel
theorem k3_off54_eq : ∀ (i : grid3.Coords) (k3_t1 : Fin k3_t1_loop.trips), k3_off54 i k3_t1 = ![fstRow (k3_wid i) + (240 * (k3_t1.val) + 360), 0] := by decide +kernel
theorem k3_off80_eq : ∀ (i : grid3.Coords), k3_off80 i = ![0, 16 * (fstRow (k3_wid i) + 1440)] := by decide +kernel
theorem k3_off81_eq : ∀ (i : grid3.Coords), k3_off81 i = ![fstRow (k3_wid i) + 1560, 0] := by decide +kernel
theorem k3_off106_eq : ∀ (i : grid3.Coords), k3_off106 i = ![0, 16 * (fstRow (k3_wid i) + 1560)] := by decide +kernel
theorem k3_cond1_eq : ∀ (k3_t1 : Fin k3_t1_loop.trips), k3_cond1 k3_t1 = 1#1 := by decide +kernel
theorem k3_cond2_eq : ∀ (k3_t1 : Fin k3_t1_loop.trips), k3_cond2 k3_t1 = 1#1 ↔ k3_t1.val < 5 := by decide +kernel
theorem k3_trips1 : k3_t1_loop.trips = 6 := by decide +kernel
theorem k3_cond3_eq : ∀ (i : grid3.Coords), k3_cond3 i = 1#1 ↔ fstRow (k3_wid i + 1) = fstRow (k3_wid i) + 1568 := by decide +kernel

end Cert.Proof.Knl
-- ==== Proof.Progs1.lean ====
/-
  A SparseCore tile's program, its group loops folded under their names.
-/
module

public import proofs.«01_k».proof.Proof.Tails1
public import proofs.«01_k».proof.Proof.Trips1
public import proofs.«01_k».proof.Proof.Copies
public import proofs.«01_k».proof.Proof.Offs

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid1.Coords) (arg2 : Memref sig .scVector .hbm S50000x128 .f32) (harg2 : arg2.IsWhole) (arg3 : Memref sig .scVector .hbm S100000 .i32) (harg3 : arg3.IsWhole) (arg4 : Memref sig .scVector .hbm S3x800000 .f32) (harg4 : arg4.IsWhole) (arg5 : Memref sig .scVector .hbm S1600000 .i32) (harg5 : arg5.IsWhole) (arg6 : Memref sig .scVector .vmem S120x128 .f32) (harg6 : arg6.IsWhole) (arg7 : Memref sig .scVector .vmem S120x128 .f32) (harg7 : arg7.IsWhole) (arg8 : Memref sig .scVector .vmem S3x1920 .f32) (harg8 : arg8.IsWhole) (arg9 : DmaSems sig S_) (arg10 : DmaSems sig S_) (arg11 : Memref sig .scVector .vmem S3136 .i32) (harg11 : arg11.IsWhole) (arg12 : Memref sig .scVector .vmem S50000 .i32) (harg12 : arg12.IsWhole) (v160_r0 : DmaSems sig S_) (v160_r1 : DmaSems sig S_) (v132_r2 : DmaSems sig S_) (v294_r3 : DmaSems sig S_) (v294_r4 : DmaSems sig S_) (v132_r5 : DmaSems sig S_) (v132_r6 : DmaSems sig S_)

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The first half of a trip of the loop over the pairs of blocks. -/
def p1_9 (v37 : BitVec 32) (v79 : IVec S16 32) (v84 : IVec S16 32) (v89 : IVec S16 32) (c0_i32_39 : BitVec 32) (c1_i32_40 : BitVec 32) (k1_t1 : Fin k1_t1_loop.trips) :
    Prog (TpuEff nD τ sig (Elt F) Λ₀ (.scVector ((i 0).castLE hcore1) ((i 1).castLE hsub1))) (Σ' (v147 : BitVec 32), BitVec 32) := do
  let arg13 : BitVec 32 := Scf.iv c0_i32_39 c1_i32_40 k1_t1
  let v137 : Memref sig .scVector .hbm S120x128 .f32 := arg2.slice (Rect.unit (s := S50000x128) (k1_off2 i k1_t1) S120x128.size (k1_off2_inb i k1_t1)) (fun _ => rfl)
  Prog.lift (.waitDma2 arg9.sem v137 arg6 (View.wordExact_bits rfl) harg6.wordExact)
  Scf.Loop.for k1_t2_loop k1_t2_ok ⟨⟩ (fun t _ => g1_t2 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
  let v163_r0 : Memref sig .scVector .hbm S3x1920 .f32 := arg4.slice (Rect.unit (s := S3x800000) (k1_off27 i k1_t1 0#32) S3x1920.size (k1_off27_inb i k1_t1 0)) (fun _ => rfl)
  let v164_r0 : Memref sig .scVector .vmem S3x1920 .f32 := arg8.slice (Rect.unit (s := S3x1920) ![0, 0] S3x1920.size inb_S3x1920_S3x1920_0_0) (fun _ => rfl)
  Prog.lift (.enqueueDma v164_r0 (.here v163_r0) (.dma v160_r0.sem) (View.wordExact_bits rfl) (View.wordExact_bits rfl) ⟨Or.inl rfl, trivial⟩)
  let v167_r0 : Memref sig .scVector .hbm S3x1920 .f32 := arg4.slice (Rect.unit (s := S3x800000) (k1_off27 i k1_t1 0#32) S3x1920.size (k1_off27_inb i k1_t1 0)) (fun _ => rfl)
  let v168_r0 : Memref sig .scVector .vmem S3x1920 .f32 := arg8.slice (Rect.unit (s := S3x1920) ![0, 0] S3x1920.size inb_S3x1920_S3x1920_0_0) (fun _ => rfl)
  Prog.lift (.waitDma2 v160_r0.sem v168_r0 v167_r0 (View.wordExact_bits rfl) (View.wordExact_bits rfl))
  if k1_h1 : k1_cond1 k1_t1 = 1#1 then do
    let v164 : Memref sig .scVector .hbm S120x128 .f32 := arg2.slice (Rect.unit (s := S50000x128) (k1_off28 i k1_t1) S120x128.size (k1_off28_inb i k1_t1 k1_h1)) (fun _ => rfl)
    Prog.lift (.enqueueDma v164 (.here arg6) (.dma arg9.sem) (View.wordExact_bits rfl) harg6.wordExact ⟨Or.inl rfl, trivial⟩)
    pure ⟨⟩
  else do
    pure ⟨⟩
  let c2_i32_78 : BitVec 32 := 2#32
  let v146 : BitVec 32 := Scalar.muli arg13 c2_i32_78
  let c1_i32_79 : BitVec 32 := 1#32
  let v147 : BitVec 32 := Scalar.addi v146 c1_i32_79
  let c120_i32_80 : BitVec 32 := 120#32
  pure ⟨v147, c120_i32_80⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem p1_9_eq (v37 : BitVec 32) (v79 : IVec S16 32) (v84 : IVec S16 32) (v89 : IVec S16 32) (c0_i32_39 : BitVec 32) (c1_i32_40 : BitVec 32) (k1_t1 : Fin k1_t1_loop.trips) :
    k1_part9 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 c0_i32_39 c1_i32_40 k1_t1 = p1_9 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 c0_i32_39 c1_i32_40 k1_t1 := rfl

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- One trip of the loop over the pairs of blocks. -/
def pair1 (v37 : BitVec 32) (v79 v84 v89 : IVec S16 32) (k1_t1 : Fin k1_t1_loop.trips) :
    Prog (TpuEff nD τ sig (Elt F) Λ₀ (.scVector ((i 0).castLE hcore1) ((i 1).castLE hsub1))) PUnit := do
  let ⟨v147, c120_i32_80⟩ : Σ' (v147 : BitVec 32), BitVec 32 ← p1_9 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 0#32 1#32 k1_t1
  let v151 : Memref sig .scVector .hbm S120x128 .f32 := arg2.slice (Rect.unit (s := S50000x128) (k1_off29 i k1_t1) S120x128.size (k1_off29_inb i k1_t1)) (fun _ => rfl)
  Prog.lift (.waitDma2 arg10.sem v151 arg7 (View.wordExact_bits rfl) harg7.wordExact)
  Scf.Loop.for k1_t3_loop k1_t3_ok ⟨⟩ (fun t _ => g1_t3 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
  let v163_r1 : Memref sig .scVector .hbm S3x1920 .f32 := arg4.slice (Rect.unit (s := S3x800000) (k1_off27 i k1_t1 1#32) S3x1920.size (k1_off27_inb i k1_t1 1)) (fun _ => rfl)
  let v164_r1 : Memref sig .scVector .vmem S3x1920 .f32 := arg8.slice (Rect.unit (s := S3x1920) ![0, 0] S3x1920.size inb_S3x1920_S3x1920_0_0) (fun _ => rfl)
  Prog.lift (.enqueueDma v164_r1 (.here v163_r1) (.dma v160_r1.sem) (View.wordExact_bits rfl) (View.wordExact_bits rfl) ⟨Or.inl rfl, trivial⟩)
  let v167_r1 : Memref sig .scVector .hbm S3x1920 .f32 := arg4.slice (Rect.unit (s := S3x800000) (k1_off27 i k1_t1 1#32) S3x1920.size (k1_off27_inb i k1_t1 1)) (fun _ => rfl)
  let v168_r1 : Memref sig .scVector .vmem S3x1920 .f32 := arg8.slice (Rect.unit (s := S3x1920) ![0, 0] S3x1920.size inb_S3x1920_S3x1920_0_0) (fun _ => rfl)
  Prog.lift (.waitDma2 v160_r1.sem v168_r1 v167_r1 (View.wordExact_bits rfl) (View.wordExact_bits rfl))
  if k1_h2 : k1_cond2 k1_t1 = 1#1 then do
    let v164 : Memref sig .scVector .hbm S120x128 .f32 := arg2.slice (Rect.unit (s := S50000x128) (k1_off54 i k1_t1) S120x128.size (k1_off54_inb i k1_t1 k1_h2)) (fun _ => rfl)
    Prog.lift (.enqueueDma v164 (.here arg7) (.dma arg10.sem) (View.wordExact_bits rfl) harg7.wordExact ⟨Or.inl rfl, trivial⟩)
    pure ⟨⟩
  else do
    pure ⟨⟩
  pure ⟨⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The blocks, up to the last. -/
def p1_m (v37 : BitVec 32) (v79 : IVec S16 32) (v80 : IVec S16 32) (c3_i32_29 : BitVec 32) :
    Prog (TpuEff nD τ sig (Elt F) Λ₀ (.scVector ((i 0).castLE hcore1) ((i 1).castLE hsub1))) (Σ' (v84 : IVec S16 32), IVec S16 32) := do
  have v81 : IVec S16 32 := broadcast S16 c3_i32_29
  have v82 : IVec S16 32 := muli v81 v80
  let c1_i32_30 : BitVec 32 := 1#32
  have v83 : IVec S16 32 := broadcast S16 c1_i32_30
  have v84 : IVec S16 32 := addi v82 v83
  have v85 : IVec S16 32 := iota .scVector S16 32 [0] iota_S16_d0_w32_scVector
  let c3_i32_31 : BitVec 32 := 3#32
  have v86 : IVec S16 32 := broadcast S16 c3_i32_31
  have v87 : IVec S16 32 := muli v86 v85
  let c2_i32_32 : BitVec 32 := 2#32
  have v88 : IVec S16 32 := broadcast S16 c2_i32_32
  have v89 : IVec S16 32 := addi v87 v88
  let v92 : Memref sig .scVector .hbm S120x128 .f32 := arg2.slice (Rect.unit (s := S50000x128) (k1_off1 i 0#32) S120x128.size (k1_off1_inb i 0)) (fun _ => rfl)
  Prog.lift (.enqueueDma v92 (.here arg6) (.dma arg9.sem) (View.wordExact_bits rfl) harg6.wordExact ⟨Or.inl rfl, trivial⟩)
  let v95 : Memref sig .scVector .hbm S120x128 .f32 := arg2.slice (Rect.unit (s := S50000x128) (k1_off1 i 120#32) S120x128.size (k1_off1_inb i 1)) (fun _ => rfl)
  Prog.lift (.enqueueDma v95 (.here arg7) (.dma arg10.sem) (View.wordExact_bits rfl) harg7.wordExact ⟨Or.inl rfl, trivial⟩)
  Scf.Loop.for k1_t1_loop k1_t1_ok ⟨⟩ (fun t _ => pair1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 t)
  let v99 : Memref sig .scVector .hbm S120x128 .f32 := arg2.slice (Rect.unit (s := S50000x128) (k1_off55 i) S120x128.size (k1_off55_inb i)) (fun _ => rfl)
  Prog.lift (.waitDma2 arg9.sem v99 arg6 (View.wordExact_bits rfl) harg6.wordExact)
  Scf.Loop.for k1_t4_loop k1_t4_ok ⟨⟩ (fun t _ => g1_t4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
  pure ⟨v84, v89⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem p1_m_eq (v37 : BitVec 32) (v79 : IVec S16 32) (v80 : IVec S16 32) (c3_i32_29 : BitVec 32)  :
    k1_part22 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v80 c3_i32_29 = p1_m (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v80 c3_i32_29 := rfl

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The last eight rows. -/
def tail1 (v37 : BitVec 32) (v79 v84 v89 : IVec S16 32) (k1_h3 : k1_cond3 i = 1#1) :
    Prog (TpuEff nD τ sig (Elt F) Λ₀ (.scVector ((i 0).castLE hcore1) ((i 1).castLE hsub1))) PUnit := do
  let ⟨v132, c0_i32_66, v148, v152_ld⟩ : Σ' (v132 : BitVec 32) (c0_i32_66 : BitVec 32) (v148 : Vec F S16 .f32), Vec F S1x16 .f32 ← k1_part14 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 k1_h3
  let ⟨v174, v177, k1_hw27, v183, v184, c1_i32_91⟩ : Σ' (v174 : BitVec 32) (v177 : IVec S16 32) (k1_hw27 : k1_chk27 i v79 v84 v89 v177) (v183 : Vec F S16 .f32) (v184 : BitVec 32), BitVec 32 ← k1_part15 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v148 v152_ld
  let ⟨v214, v217, k1_hw29, v218⟩ : Σ' (v214 : BitVec 32) (v217 : IVec S16 32) (k1_hw29 : k1_chk29 i v79 v84 v89 v217), Vec F S16 .f32 ← k1_part16 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v174 v177 k1_hw27 v183 v184 c1_i32_91
  let ⟨v248, v252_ld⟩ : Σ' (v248 : Vec F S16 .f32), Vec F S1x16 .f32 ← k1_part17 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v214 v217 k1_hw29 v218
  let ⟨v274, v277, k1_hw32, v283, v284, c1_i32_133⟩ : Σ' (v274 : BitVec 32) (v277 : IVec S16 32) (k1_hw32 : k1_chk32 i v79 v84 v89 v277) (v283 : Vec F S16 .f32) (v284 : BitVec 32), BitVec 32 ← k1_part18 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 k1_h3 c0_i32_66 v248 v252_ld
  let v287_ld : Vec F S1x16 .f32 ← Prog.lift (.load arg8 (Rect.unit (s := S3x1920) k1_off104 S1x16.size (k1_off104_inb i k1_h3)).toLoadRect (View.loadsAt_vmem h_S1x16))
  have v287 : Vec F S16 .f32 := shapeCast S16 v287_ld shapeCasts_S1x16_S16
  Prog.lift (.store arg8 (Rect.unit (s := S3x1920) k1_off104 S1x16.size (k1_off104_inb i k1_h3)) (shapeCast S1x16 v283 shapeCasts_S16_S1x16) Finset.univ (View.stores_vmem_bits_univ h_S1x16 rfl) (.inl rfl))
  let v288 : Vec F S16 .f32 ← SparseCore.vectorLoadIdx arg7 ![v277, v89] (k1_idx96_inb i v79 v84 v89 v277 k1_hw32 k1_h3) (View.loads_vmem h_S120x128)
  let v292_ld : Vec F S1x16 .f32 ← Prog.lift (.load arg8 (Rect.unit (s := S3x1920) k1_off105 S1x16.size (k1_off105_inb i k1_h3)).toLoadRect (View.loadsAt_vmem h_S1x16))
  have v292 : Vec F S16 .f32 := shapeCast S16 v292_ld shapeCasts_S1x16_S16
  Prog.lift (.store arg8 (Rect.unit (s := S3x1920) k1_off105 S1x16.size (k1_off105_inb i k1_h3)) (shapeCast S1x16 v288 shapeCasts_S16_S1x16) Finset.univ (View.stores_vmem_bits_univ h_S1x16 rfl) (.inl rfl))
  let v297_r4 : Memref sig .scVector .hbm S3x128 .f32 := arg4.slice (Rect.unit (s := S3x800000) (k1_off106 i) S3x128.size (k1_off106_inb i k1_h3)) (fun _ => rfl)
  let v298_r4 : Memref sig .scVector .vmem S3x128 .f32 := arg8.slice (Rect.unit (s := S3x1920) ![0, 0] S3x128.size inb_S3x1920_S3x128_0_0) (fun _ => rfl)
  Prog.lift (.enqueueDma v298_r4 (.here v297_r4) (.dma v294_r4.sem) (View.wordExact_bits rfl) (View.wordExact_bits rfl) ⟨Or.inl rfl, trivial⟩)
  let v301_r4 : Memref sig .scVector .hbm S3x128 .f32 := arg4.slice (Rect.unit (s := S3x800000) (k1_off106 i) S3x128.size (k1_off106_inb i k1_h3)) (fun _ => rfl)
  let v302_r4 : Memref sig .scVector .vmem S3x128 .f32 := arg8.slice (Rect.unit (s := S3x1920) ![0, 0] S3x128.size inb_S3x1920_S3x128_0_0) (fun _ => rfl)
  Prog.lift (.waitDma2 v294_r4.sem v302_r4 v301_r4 (View.wordExact_bits rfl) (View.wordExact_bits rfl))
  pure ⟨⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The last block, the last rows and the stage of the batch indices. -/
def p1_e (v1 : BitVec 32) (v37 : BitVec 32) (v74 : BitVec 32) (v79 : IVec S16 32) (v84 : IVec S16 32) (v89 : IVec S16 32) :
    Prog (TpuEff nD τ sig (Elt F) Λ₀ (.scVector ((i 0).castLE hcore1) ((i 1).castLE hsub1))) (Σ' (v108 : BitVec 32), BitVec 32) := do
  let v136_r2 : Memref sig .scVector .vmem S3x1920 .f32 := arg8.slice (Rect.unit (s := S3x1920) ![0, 0] S3x1920.size inb_S3x1920_S3x1920_0_0) (fun _ => rfl)
  let v135_r2 : Memref sig .scVector .hbm S3x1920 .f32 := arg4.slice (Rect.unit (s := S3x800000) (k1_off80 i) S3x1920.size (k1_off80_inb i)) (fun _ => rfl)
  Prog.lift (.enqueueDma v136_r2 (.here v135_r2) (.dma v132_r2.sem) (View.wordExact_bits rfl) (View.wordExact_bits rfl) ⟨Or.inl rfl, trivial⟩)
  let v139_r2 : Memref sig .scVector .hbm S3x1920 .f32 := arg4.slice (Rect.unit (s := S3x800000) (k1_off80 i) S3x1920.size (k1_off80_inb i)) (fun _ => rfl)
  let v140_r2 : Memref sig .scVector .vmem S3x1920 .f32 := arg8.slice (Rect.unit (s := S3x1920) ![0, 0] S3x1920.size inb_S3x1920_S3x1920_0_0) (fun _ => rfl)
  Prog.lift (.waitDma2 v132_r2.sem v140_r2 v139_r2 (View.wordExact_bits rfl) (View.wordExact_bits rfl))
  if h : k1_cond3 i = 1#1 then tail1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h else pure ⟨⟩
  let c3125_i32 : BitVec 32 := 3125#32
  let v108 : BitVec 32 := Scalar.muli v1 c3125_i32
  let c8_i32_51 : BitVec 32 := 8#32
  let v109 : BitVec 32 := Scalar.divsi v108 c8_i32_51
  let c0_i32_52 : BitVec 32 := 0#32
  let v110 : BitVec 1 := Scalar.cmpi .sgt v108 c0_i32_52
  let v111 : BitVec 32 := Scalar.extui v110
  let c0_i32_53 : BitVec 32 := 0#32
  let v112 : BitVec 1 := Scalar.cmpi .slt v108 c0_i32_53
  let v113 : BitVec 32 := Scalar.extui v112
  let v114 : BitVec 32 := Scalar.subi v111 v113
  let c0_i32_54 : BitVec 32 := 0#32
  let v115 : BitVec 1 := Scalar.cmpi .sgt c8_i32_51 c0_i32_54
  let v116 : BitVec 32 := Scalar.extui v115
  let c0_i32_55 : BitVec 32 := 0#32
  let v117 : BitVec 1 := Scalar.cmpi .slt c8_i32_51 c0_i32_55
  let v118 : BitVec 32 := Scalar.extui v117
  let v119 : BitVec 32 := Scalar.subi v116 v118
  let v120 : BitVec 1 := Scalar.cmpi .ne v114 v119
  let v121 : BitVec 32 := Scalar.remsi v108 c8_i32_51
  let c0_i32_56 : BitVec 32 := 0#32
  let v122 : BitVec 1 := Scalar.cmpi .ne v121 c0_i32_56
  let v123 : BitVec 1 := Scalar.andi v120 v122
  let c1_i32_57 : BitVec 32 := 1#32
  let v124 : BitVec 32 := Scalar.subi v109 c1_i32_57
  let v125 : BitVec 32 := Scalar.select v123 v124 v109
  let c8_i32_58 : BitVec 32 := 8#32
  let v126 : BitVec 32 := Scalar.muli v125 c8_i32_58
  let c96864_i32 : BitVec 32 := 96864#32
  let v127 : BitVec 32 := Scalar.minsi v126 c96864_i32
  let v128 : BitVec 32 := v127
  let v129 : BitVec 32 := Scalar.subi v108 v128
  let v134_r5 : Memref sig .scVector .hbm S3136 .i32 := arg3.slice (Rect.unit (s := S100000) (k1_off107 i) S3136.size (k1_off107_inb i)) (fun _ => rfl)
  Prog.lift (.enqueueDma v134_r5 (.here arg11) (.dma v132_r5.sem) (View.wordExact_bits rfl) harg11.wordExact ⟨Or.inl rfl, trivial⟩)
  let v136_r5 : Memref sig .scVector .hbm S3136 .i32 := arg3.slice (Rect.unit (s := S100000) (k1_off107 i) S3136.size (k1_off107_inb i)) (fun _ => rfl)
  Prog.lift (.waitDma2 v132_r5.sem v136_r5 arg11 (View.wordExact_bits rfl) harg11.wordExact)
  pure ⟨v108, v129⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem p1_e_eq (v1 : BitVec 32) (v37 : BitVec 32) (v74 : BitVec 32) (v79 : IVec S16 32) (v84 : IVec S16 32) (v89 : IVec S16 32)  :
    k1_part23 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v1 v37 v74 v79 v84 v89 = p1_e (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v1 v37 v74 v79 v84 v89 := rfl

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The tile's program. -/
def b1 :
    Prog (TpuEff nD τ sig (Elt F) Λ₀ (.scVector ((i 0).castLE hcore1) ((i 1).castLE hsub1))) PUnit := do
  let ⟨v1, v37, v38, c50000_i32_12⟩ : Σ' (v1 : BitVec 32) (v37 : BitVec 32) (v38 : BitVec 32), BitVec 32 ← k1_part20 i arg2 harg2 arg3 harg3 arg4 harg4 arg5 harg5 arg6 harg6 arg7 harg7 arg8 harg8 arg9 arg10 arg11 harg11 arg12 harg12 v160_r0 v160_r1 v132_r2 v294_r3 v294_r4 v132_r5 v132_r6
  let ⟨v74, v79, v80, c3_i32_29⟩ : Σ' (v74 : BitVec 32) (v79 : IVec S16 32) (v80 : IVec S16 32), BitVec 32 ← k1_part21 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v38 c50000_i32_12
  let ⟨v84, v89⟩ : Σ' (v84 : IVec S16 32), IVec S16 32 ← p1_m i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v80 c3_i32_29
  let ⟨v108, v129⟩ : Σ' (v108 : BitVec 32), BitVec 32 ← p1_e i arg2 harg2 arg3 harg3 arg4 harg4 arg5 harg5 arg6 harg6 arg7 harg7 arg8 harg8 arg9 arg10 arg11 harg11 arg12 harg12 v160_r0 v160_r1 v132_r2 v294_r3 v294_r4 v132_r5 v132_r6 v1 v37 v74 v79 v84 v89
  Scf.Loop.for k1_t5_loop k1_t5_ok ⟨⟩ (fun t _ => g1_t5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 t)
  let v134_r6 : Memref sig .scVector .hbm S50000 .i32 := arg5.slice (Rect.unit (s := S1600000) (k1_off113 i) S50000.size (k1_off113_inb i)) (fun _ => rfl)
  Prog.lift (.enqueueDma arg12 (.here v134_r6) (.dma v132_r6.sem) harg12.wordExact (View.wordExact_bits rfl) ⟨Or.inl rfl, trivial⟩)
  let v136_r6 : Memref sig .scVector .hbm S50000 .i32 := arg5.slice (Rect.unit (s := S1600000) (k1_off113 i) S50000.size (k1_off113_inb i)) (fun _ => rfl)
  Prog.lift (.waitDma2 v132_r6.sem arg12 v136_r6 harg12.wordExact (View.wordExact_bits rfl))
  pure ⟨⟩

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem b1_eq :
    cc1__sc_half0_body (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 = b1 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 := by
  rfl

end Cert.Proof.Knl
-- ==== Proof.Runs1.lean ====
/-
  A SparseCore tile's run.
-/
module

public import proofs.«01_k».proof.Proof.Progs1
public import proofs.«01_k».proof.Proof.Trips1
public import proofs.«01_k».proof.Proof.Copies
public import proofs.«01_k».proof.Proof.Offs

@[expose] public section

set_option Elab.async false
set_option maxHeartbeats 4000000

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- What a tile holds at trip `t` of the loop over the pairs of blocks: the first block of the pair under way, and the
    second too but for the last block, which has none. -/
def Pair (thr : Thread nD τ) (tab : Memref sig thr.2.kind .hbm S50000x128 .f32) (bA bB : Memref sig thr.2.kind .vmem S120x128 .f32)
    (out : Memref sig thr.2.kind .vmem S3x1920 .f32) (x : Memref sig thr.2.kind .hbm S3x800000 .f32) (sA sB s0 s1 : DmaSem sig)
    (A : ℕ → ℕ → Elt F .f32) (qA qB : PosShare TreeShare) (s e : ℕ) (O : CellTallies nD τ sig (HIx 2)) (W : Waits sig (HIx 2)) (t : ℕ) : sProp 𝕄 :=
  iprop(Fly thr (.dma sA) (bA.view.amount (.dma sA)) iprop(Staged thr bA A (s + 240 * t) 120 ∗ Tab thr tab qA A)
    ∗ (iprop(⌜t < 6⌝ ∗ Fly thr (.dma sB) (bB.view.amount (.dma sB)) iprop(Staged thr bB A (s + (240 * t + 120)) 120 ∗ Tab thr tab qB A))
        ∨ iprop(⌜t = 6⌝ ∗ (∃ f, bB.view.loc thr ↦[bB.view.set]{fullShare} f) ∗ Tab thr tab qB A ∗ semVal (thr, SemLoc.dma sB) 0))
    ∗ Some3 thr out ∗ Cols thr x A s e (s + 240 * t) ∗ semVal (thr, SemLoc.dma s0) 0 ∗ semVal (thr, SemLoc.dma s1) 0 ∗ Owe thr O W)

theorem cols_at {thr : Thread nD τ} {x : Memref sig thr.2.kind .hbm S3x800000 .f32} {A : ℕ → ℕ → Elt F .f32} {s e n m : ℕ} (h : n = m) :
    Cols thr x A s e n ⊢ (Cols thr x A s e m : sProp 𝕄) := h ▸ .rfl

theorem fly_at {thr : Thread nD τ} {sm : SemLoc sig} {N : ℕ} {b : Memref sig thr.2.kind .vmem S120x128 .f32} {A : ℕ → ℕ → Elt F .f32} {n m k : ℕ} {T : sProp 𝕄} (h : n = m) :
    Fly thr sm N iprop(Staged thr b A n k ∗ T) ⊢ (Fly thr sm N iprop(Staged thr b A m k ∗ T) : sProp 𝕄) := h ▸ .rfl
variable (i : grid1.Coords) (arg2 : Memref sig .scVector .hbm S50000x128 .f32) (harg2 : arg2.IsWhole) (arg3 : Memref sig .scVector .hbm S100000 .i32) (harg3 : arg3.IsWhole) (arg4 : Memref sig .scVector .hbm S3x800000 .f32) (harg4 : arg4.IsWhole) (arg5 : Memref sig .scVector .hbm S1600000 .i32) (harg5 : arg5.IsWhole) (arg6 : Memref sig .scVector .vmem S120x128 .f32) (harg6 : arg6.IsWhole) (arg7 : Memref sig .scVector .vmem S120x128 .f32) (harg7 : arg7.IsWhole) (arg8 : Memref sig .scVector .vmem S3x1920 .f32) (harg8 : arg8.IsWhole) (arg9 : DmaSems sig S_) (arg10 : DmaSems sig S_) (arg11 : Memref sig .scVector .vmem S3136 .i32) (harg11 : arg11.IsWhole) (arg12 : Memref sig .scVector .vmem S50000 .i32) (harg12 : arg12.IsWhole) (v160_r0 : DmaSems sig S_) (v160_r1 : DmaSems sig S_) (v132_r2 : DmaSems sig S_) (v294_r3 : DmaSems sig S_) (v294_r4 : DmaSems sig S_) (v132_r5 : DmaSems sig S_) (v132_r6 : DmaSems sig S_)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem pair1_run (v37 : BitVec 32) (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {s e : ℕ} {O : CellTallies nD τ sig (HIx 2)} {W : Waits sig (HIx 2)} (hs : s = fstRow (k1_wid i)) (he : s + 1560 ≤ e) (t : Fin k1_t1_loop.trips) :
    Pair (⟨d, .scVector ((i 0).castLE hcore1) ((i 1).castLE hsub1)⟩ : Thread nD τ) arg2 arg6 arg7 arg8 arg4 arg9.sem arg10.sem v160_r0.sem v160_r1.sem A qA qB s e O W (t.val)
      ⊢ wp frame (wpE defs 𝒱 (⟨d, .scVector ((i 0).castLE hcore1) ((i 1).castLE hsub1)⟩ : Thread nD τ) bd) Set.univ (pair1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 t) (fun _ => Pair (⟨d, .scVector ((i 0).castLE hcore1) ((i 1).castLE hsub1)⟩ : Thread nD τ) arg2 arg6 arg7 arg8 arg4 arg9.sem arg10.sem v160_r0.sem v160_r1.sem A qA qB s e O W (t.val + 1)) := by
  have ht : t.val < 6 := k1_trips1 ▸ t.isLt
  unfold pair1 p1_9
  simp only [Prog.lift, Prog.bind_op, Prog.bind_ret, Prog.pure_eq_ret, Prog.bind_assoc, dif_pos (k1_cond1_eq t)]
  unfold Pair
  iintro ⟨HA, HB, Ho, Hc, H0, H1, HO⟩
  iapply (copy_wait (N := arg6.view.amount (.dma arg9.sem)) rfl) $$ [HA HO]
  · isplitl [HA]; · iexact HA
    iexact HO
  iintro ⟨⟨HS, HTA⟩, HvA, HO⟩
  ihave Hs := staged_strip $$ [HS Ho]
  · isplitl [HS]; · iexact HS
    iexact Ho
  icases Hs with ⟨%f, %hf, Hs⟩
  iapply (g1_t2_loop i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89) $$ Hs
  iintro Hs
  ihave Hr := (strip_ready (k := 120) (by omega) hf) $$ Hs
  clear hf
  icases Hr with ⟨Hb, Hr⟩
  iapply (strip_out120 (lo := s) (hi := e) (r := s + 240 * t.val) (by omega) (by omega) (by rw [hs]; exact k1_off27_eq i t)) $$ [Hr Hc H0 HO]
  · isplitl [Hr]; · iexact Hr
    isplitl [Hc]; · iexact Hc
    isplitl [H0]; · iexact H0
    iexact HO
  iintro ⟨⟨Ho, Hc⟩, H0, HO⟩
  iapply (rows_start (hs ▸ k1_off28_eq i t)) $$ [HTA Hb HvA]
  · isplitl [HTA]; · iexact HTA
    isplitl [Hb]; · iexact Hb
    iexact HvA
  iintro HA
  icases HB with (⟨%hB, HB⟩ | ⟨%hB, _⟩)
  rotate_left
  · exact absurd hB (by omega)
  ihave Hc := (cols_at (show s + 240 * t.val + 120 = s + (240 * t.val + 120) by omega)) $$ Hc
  iapply (copy_wait (N := arg7.view.amount (.dma arg10.sem)) rfl) $$ [HB HO]
  · isplitl [HB]; · iexact HB
    iexact HO
  iintro ⟨⟨HS, HTB⟩, HvB, HO⟩
  ihave Hs := staged_strip $$ [HS Ho]
  · isplitl [HS]; · iexact HS
    iexact Ho
  icases Hs with ⟨%f, %hf, Hs⟩
  iapply (g1_t3_loop i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89) $$ Hs
  iintro Hs
  ihave Hr := (strip_ready (k := 120) (by omega) hf) $$ Hs
  clear hf
  icases Hr with ⟨Hb, Hr⟩
  iapply (strip_out120 (lo := s) (hi := e) (r := s + (240 * t.val + 120)) (by omega) (by omega) (hs ▸ k1_off27_eq' i t)) $$ [Hr Hc H1 HO]
  · isplitl [Hr]; · iexact Hr
    isplitl [Hc]; · iexact Hc
    isplitl [H1]; · iexact H1
    iexact HO
  iintro ⟨⟨Ho, Hc⟩, H1, HO⟩
  ihave Hc := (cols_at (show s + (240 * t.val + 120) + 120 = s + 240 * (t.val + 1) by omega)) $$ Hc
  ihave HA := (fly_at (show s + (240 * t.val + 240) = s + 240 * (t.val + 1) by omega)) $$ HA
  by_cases h2 : t.val < 5
  · simp only [dif_pos ((k1_cond2_eq t).mpr h2), Prog.bind_op, Prog.bind_ret]
    iapply (rows_start (hs ▸ k1_off54_eq i t)) $$ [HTB Hb HvB]
    · isplitl [HTB]; · iexact HTB
      isplitl [Hb]; · iexact Hb
      iexact HvB
    iintro HB
    ihave HB := (fly_at (show s + (240 * t.val + 360) = s + (240 * (t.val + 1) + 120) by omega)) $$ HB
    iapply le_wp_ret
    isplitl [HA]; · iexact HA
    isplitl [HB]
    · ileft
      isplitr; · ipureintro; omega
      iexact HB
    isplitl [Ho]; · iexact Ho
    isplitl [Hc]; · iexact Hc
    isplitl [H0]; · iexact H0
    isplitl [H1]; · iexact H1
    iexact HO
  · simp only [dif_neg (fun h => h2 ((k1_cond2_eq t).mp h)), Prog.bind_ret]
    iapply le_wp_ret
    isplitl [HA]; · iexact HA
    isplitl [Hb HTB HvB]
    · iright
      isplitr; · ipureintro; omega
      isplitl [Hb]; · iexact Hb
      isplitl [HTB]; · iexact HTB
      iexact HvB
    isplitl [Ho]; · iexact Ho
    isplitl [Hc]; · iexact Hc
    isplitl [H0]; · iexact H0
    isplitl [H1]; · iexact H1
    iexact HO
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
def last1 (v37 : BitVec 32) (v79 v84 v89 : IVec S16 32) (h : k1_cond3 i = 1#1) :
    Prog (TpuEff nD τ sig (Elt F) Λ₀ (.scVector ((i 0).castLE hcore1) ((i 1).castLE hsub1))) PUnit := do
  Prog.lift (.enqueueDma (arg2.slice (Rect.unit (s := S50000x128) (k1_off81 i) S8x128.size (k1_off81_inb i h)) (fun _ => rfl)) (.here (arg7.slice (Rect.unit (s := S120x128) ![0, 0] S8x128.size inb_S120x128_S8x128_0_0) (fun _ => rfl))) (.dma v294_r3.sem) (View.wordExact_bits rfl) (View.wordExact_bits rfl) ⟨Or.inl rfl, trivial⟩)
  Prog.lift (.waitDma2 v294_r3.sem (arg2.slice (Rect.unit (s := S50000x128) (k1_off81 i) S8x128.size (k1_off81_inb i h)) (fun _ => rfl)) (arg7.slice (Rect.unit (s := S120x128) ![0, 0] S8x128.size inb_S120x128_S8x128_0_0) (fun _ => rfl)) (View.wordExact_bits rfl) (View.wordExact_bits rfl))
  g1_tl i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h
  Prog.lift (.enqueueDma (arg8.slice (Rect.unit (s := S3x1920) ![0, 0] S3x128.size inb_S3x1920_S3x128_0_0) (fun _ => rfl)) (.here (arg4.slice (Rect.unit (s := S3x800000) (k1_off106 i) S3x128.size (k1_off106_inb i h)) (fun _ => rfl))) (.dma v294_r4.sem) (View.wordExact_bits rfl) (View.wordExact_bits rfl) ⟨Or.inl rfl, trivial⟩)
  Prog.lift (.waitDma2 v294_r4.sem (arg8.slice (Rect.unit (s := S3x1920) ![0, 0] S3x128.size inb_S3x1920_S3x128_0_0) (fun _ => rfl)) (arg4.slice (Rect.unit (s := S3x800000) (k1_off106 i) S3x128.size (k1_off106_inb i h)) (fun _ => rfl)) (View.wordExact_bits rfl) (View.wordExact_bits rfl))
  pure ⟨⟩

set_option maxRecDepth 4000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem last1_eq (v37 : BitVec 32) (v79 v84 v89 : IVec S16 32) (h : k1_cond3 i = 1#1) :
    tail1 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h = last1 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h := by
  unfold tail1 last1 g1_tl k1_part14 k1_part15 k1_part16 k1_part17 k1_part18
  simp only [Prog.lift, Prog.bind_op, Prog.bind_ret, Prog.pure_eq_ret, Prog.bind_assoc, SparseCore.vectorLoadIdx]
  rfl
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem last1_run (v37 : BitVec 32) (v79 v84 v89 : IVec S16 32) (h : k1_cond3 i = 1#1)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {s e : ℕ} {O : CellTallies nD τ sig (HIx 2)} {W : Waits sig (HIx 2)} (hs : s = fstRow (k1_wid i)) (he : s + 1568 ≤ e) :
    iprop(Tab (⟨d, .scVector ((i 0).castLE hcore1) ((i 1).castLE hsub1)⟩ : Thread nD τ) arg2 qA A ∗ (∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A s e (s + 1560)
        ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ Owe (⟨d, .scVector ((i 0).castLE hcore1) ((i 1).castLE hsub1)⟩ : Thread nD τ) O W)
      ⊢ wp frame (wpE defs 𝒱 (⟨d, .scVector ((i 0).castLE hcore1) ((i 1).castLE hsub1)⟩ : Thread nD τ) bd) Set.univ (tail1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h) (fun _ => iprop((∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A s e (s + 1568) ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ Owe (⟨d, .scVector ((i 0).castLE hcore1) ((i 1).castLE hsub1)⟩ : Thread nD τ) O W)) := by
  rw [last1_eq]
  unfold last1
  simp only [Prog.lift, Prog.bind_op, Prog.bind_ret, Prog.pure_eq_ret, Prog.bind_assoc]
  iintro ⟨HT, Hb, Ho, Hc, H3, H4, HO⟩
  iapply (rows_tail (r := s + 1560) (hs ▸ k1_off81_eq i)) $$ [HT Hb H3 HO]
  · isplitl [HT]; · iexact HT
    isplitl [Hb]; · iexact Hb
    isplitl [H3]; · iexact H3
    iexact HO
  iintro ⟨⟨HS, HT⟩, H3, HO⟩
  ihave Hs := staged_strip $$ [HS Ho]
  · isplitl [HS]; · iexact HS
    iexact Ho
  icases Hs with ⟨%f, %hf, Hs⟩
  iapply (BIBase.Entails.of_eq (wp_bind ..).symm)
  iapply (wp_wand frame _ _ (Q := fun _ => Strip (⟨d, .scVector ((i 0).castLE hcore1) ((i 1).castLE hsub1)⟩ : Thread nD τ) arg7 arg8 f 24)) $$ [Hs]
  · iapply (g1_tl_run i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h h79 h84 h89 .rfl) $$ Hs
  iintro %_ Hs
  ihave Hr := (strip_ready (k := 8) (by omega) hf) $$ Hs
  icases Hr with ⟨Hb, Hr⟩
  iapply (strip_out8 (lo := s) (hi := e) (r := s + 1560) (by omega) (by omega) (hs ▸ k1_off106_eq i)) $$ [Hr Hc H4 HO]
  · isplitl [Hr]; · iexact Hr
    isplitl [Hc]; · iexact Hc
    isplitl [H4]; · iexact H4
    iexact HO
  iintro ⟨⟨Ho, Hc⟩, H4, HO⟩
  iapply le_wp_ret
  isplitl [Hb]; · iexact Hb
  isplitl [Ho]; · iexact Ho
  isplitl [Hc]; · iexact Hc
  isplitl [H3]; · iexact H3
  isplitl [H4]; · iexact H4
  iexact HO

end Cert.Proof.Knl
-- ==== Proof.Tile1.lean ====
/-
  A SparseCore tile's whole program run.
-/
module

public import proofs.«01_k».proof.Proof.Runs1
public import proofs.«01_k».proof.Proof.Copies
public import proofs.«01_k».proof.Proof.Offs

@[expose] public section

set_option Elab.async false
set_option maxHeartbeats 4000000

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem sheet_begin {thr : Thread nD τ} {st : Memref sig thr.2.kind .vmem S3136 .i32} {out : Memref sig thr.2.kind .vmem S50000 .i32}
    {f : Buf (Elt F) (st.view.loc thr)} {o : ℕ} :
    iprop((st.view.loc thr ↦[st.view.set]{fullShare} f) ∗ ∃ g, out.view.loc thr ↦[out.view.set]{fullShare} g) ⊢ (Sheet thr st out f o 0 : sProp 𝕄) := by
  unfold Sheet
  iintro ⟨H, %g, Hg⟩
  isplitl [H]; · iexact H
  iexists g
  isplitr
  · ipureintro
    intro y x _ hy
    exact absurd hy (Nat.not_lt_zero _)
  iexact Hg

theorem sheet_end {thr : Thread nD τ} {st : Memref sig thr.2.kind .vmem S3136 .i32} {out : Memref sig thr.2.kind .vmem S50000 .i32}
    {f : Buf (Elt F) (st.view.loc thr)} {o n : ℕ} :
    Sheet thr st out f o n ⊢ (iprop((st.view.loc thr ↦[st.view.set]{fullShare} f)
      ∗ ∃ g, ⌜DoneB (st.view.read (Elt F) f) o n (out.view.read (Elt F) g)⌝ ∗ (out.view.loc thr ↦[out.view.set]{fullShare} g)) : sProp 𝕄) := .rfl

theorem fstBat_off (i : grid1.Coords) : 3125 * k1_wid i - fstBat (k1_wid i) ≤ 11 := by
  have h := fstBat_le ⟨k1_wid i, k1_wid_lt i⟩
  dsimp only at h; omega

theorem off113_wid (i : grid1.Coords) : k1_off113 i = ![50000 * k1_wid i] := by
  rw [Gen.k1_off113_eq i]
  unfold k1_wid
  congr 1
  omega

/-- Where a worker's batch indices begin in its stage. -/
def batOff (i : grid1.Coords) : BitVec 32 :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c3125_i32 : BitVec 32 := 3125#32
  let v108 : BitVec 32 := Scalar.muli v1 c3125_i32
  let c8_i32_51 : BitVec 32 := 8#32
  let v109 : BitVec 32 := Scalar.divsi v108 c8_i32_51
  let c0_i32_52 : BitVec 32 := 0#32
  let v110 : BitVec 1 := Scalar.cmpi .sgt v108 c0_i32_52
  let v111 : BitVec 32 := Scalar.extui v110
  let c0_i32_53 : BitVec 32 := 0#32
  let v112 : BitVec 1 := Scalar.cmpi .slt v108 c0_i32_53
  let v113 : BitVec 32 := Scalar.extui v112
  let v114 : BitVec 32 := Scalar.subi v111 v113
  let c0_i32_54 : BitVec 32 := 0#32
  let v115 : BitVec 1 := Scalar.cmpi .sgt c8_i32_51 c0_i32_54
  let v116 : BitVec 32 := Scalar.extui v115
  let c0_i32_55 : BitVec 32 := 0#32
  let v117 : BitVec 1 := Scalar.cmpi .slt c8_i32_51 c0_i32_55
  let v118 : BitVec 32 := Scalar.extui v117
  let v119 : BitVec 32 := Scalar.subi v116 v118
  let v120 : BitVec 1 := Scalar.cmpi .ne v114 v119
  let v121 : BitVec 32 := Scalar.remsi v108 c8_i32_51
  let c0_i32_56 : BitVec 32 := 0#32
  let v122 : BitVec 1 := Scalar.cmpi .ne v121 c0_i32_56
  let v123 : BitVec 1 := Scalar.andi v120 v122
  let c1_i32_57 : BitVec 32 := 1#32
  let v124 : BitVec 32 := Scalar.subi v109 c1_i32_57
  let v125 : BitVec 32 := Scalar.select v123 v124 v109
  let c8_i32_58 : BitVec 32 := 8#32
  let v126 : BitVec 32 := Scalar.muli v125 c8_i32_58
  let c96864_i32 : BitVec 32 := 96864#32
  let v127 : BitVec 32 := Scalar.minsi v126 c96864_i32
  let v128 : BitVec 32 := v127
  let v129 : BitVec 32 := Scalar.subi v108 v128
  v129

theorem k1_v129_eq : ∀ i : grid1.Coords, (batOff i).toNat = 3125 * k1_wid i - fstBat (k1_wid i) := by decide +kernel

variable (i : grid1.Coords) (arg2 : Memref sig .scVector .hbm S50000x128 .f32) (harg2 : arg2.IsWhole) (arg3 : Memref sig .scVector .hbm S100000 .i32) (harg3 : arg3.IsWhole) (arg4 : Memref sig .scVector .hbm S3x800000 .f32) (harg4 : arg4.IsWhole) (arg5 : Memref sig .scVector .hbm S1600000 .i32) (harg5 : arg5.IsWhole) (arg6 : Memref sig .scVector .vmem S120x128 .f32) (harg6 : arg6.IsWhole) (arg7 : Memref sig .scVector .vmem S120x128 .f32) (harg7 : arg7.IsWhole) (arg8 : Memref sig .scVector .vmem S3x1920 .f32) (harg8 : arg8.IsWhole) (arg9 : DmaSems sig S_) (arg10 : DmaSems sig S_) (arg11 : Memref sig .scVector .vmem S3136 .i32) (harg11 : arg11.IsWhole) (arg12 : Memref sig .scVector .vmem S50000 .i32) (harg12 : arg12.IsWhole) (v160_r0 : DmaSems sig S_) (v160_r1 : DmaSems sig S_) (v132_r2 : DmaSems sig S_) (v294_r3 : DmaSems sig S_) (v294_r4 : DmaSems sig S_) (v132_r5 : DmaSems sig S_) (v132_r6 : DmaSems sig S_)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The last rows, where there are any. -/
def opt1 (v37 : BitVec 32) (v79 v84 v89 : IVec S16 32) : Prog (TpuEff nD τ sig (Elt F) Λ₀ (.scVector ((i 0).castLE hcore1) ((i 1).castLE hsub1))) PUnit :=
  if h : k1_cond3 i = 1#1 then tail1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h else .ret ⟨⟩

/-- The first row of a worker, as the program computes it. -/
def row0_1 (i : grid1.Coords) : BitVec 32 :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c50000_i32 : BitVec 32 := 50000#32
  let v2 : BitVec 32 := Scalar.muli v1 c50000_i32
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.divsi v19 c8_i32
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  v37

set_option cleanup.letToHave false in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The tile's program from its first copy on. -/
def rest1 (v37 : BitVec 32) (v79 v84 v89 : IVec S16 32) (v129 : BitVec 32) :
    Prog (TpuEff nD τ sig (Elt F) Λ₀ (.scVector ((i 0).castLE hcore1) ((i 1).castLE hsub1))) PUnit := do
  let v92 : Memref sig .scVector .hbm S120x128 .f32 := arg2.slice (Rect.unit (s := S50000x128) (k1_off1 i 0#32) S120x128.size (k1_off1_inb i 0)) (fun _ => rfl)
  Prog.lift (.enqueueDma v92 (.here arg6) (.dma arg9.sem) (View.wordExact_bits rfl) harg6.wordExact ⟨Or.inl rfl, trivial⟩)
  let v95 : Memref sig .scVector .hbm S120x128 .f32 := arg2.slice (Rect.unit (s := S50000x128) (k1_off1 i 120#32) S120x128.size (k1_off1_inb i 1)) (fun _ => rfl)
  Prog.lift (.enqueueDma v95 (.here arg7) (.dma arg10.sem) (View.wordExact_bits rfl) harg7.wordExact ⟨Or.inl rfl, trivial⟩)
  Scf.Loop.for k1_t1_loop k1_t1_ok ⟨⟩ (fun t _ => pair1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 t)
  let v99 : Memref sig .scVector .hbm S120x128 .f32 := arg2.slice (Rect.unit (s := S50000x128) (k1_off55 i) S120x128.size (k1_off55_inb i)) (fun _ => rfl)
  Prog.lift (.waitDma2 arg9.sem v99 arg6 (View.wordExact_bits rfl) harg6.wordExact)
  Scf.Loop.for k1_t4_loop k1_t4_ok ⟨⟩ (fun t _ => g1_t4 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 t)
  let v136_r2 : Memref sig .scVector .vmem S3x1920 .f32 := arg8.slice (Rect.unit (s := S3x1920) ![0, 0] S3x1920.size inb_S3x1920_S3x1920_0_0) (fun _ => rfl)
  let v135_r2 : Memref sig .scVector .hbm S3x1920 .f32 := arg4.slice (Rect.unit (s := S3x800000) (k1_off80 i) S3x1920.size (k1_off80_inb i)) (fun _ => rfl)
  Prog.lift (.enqueueDma v136_r2 (.here v135_r2) (.dma v132_r2.sem) (View.wordExact_bits rfl) (View.wordExact_bits rfl) ⟨Or.inl rfl, trivial⟩)
  let v139_r2 : Memref sig .scVector .hbm S3x1920 .f32 := arg4.slice (Rect.unit (s := S3x800000) (k1_off80 i) S3x1920.size (k1_off80_inb i)) (fun _ => rfl)
  let v140_r2 : Memref sig .scVector .vmem S3x1920 .f32 := arg8.slice (Rect.unit (s := S3x1920) ![0, 0] S3x1920.size inb_S3x1920_S3x1920_0_0) (fun _ => rfl)
  Prog.lift (.waitDma2 v132_r2.sem v140_r2 v139_r2 (View.wordExact_bits rfl) (View.wordExact_bits rfl))
  opt1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89
  let v134_r5 : Memref sig .scVector .hbm S3136 .i32 := arg3.slice (Rect.unit (s := S100000) (k1_off107 i) S3136.size (k1_off107_inb i)) (fun _ => rfl)
  Prog.lift (.enqueueDma v134_r5 (.here arg11) (.dma v132_r5.sem) (View.wordExact_bits rfl) harg11.wordExact ⟨Or.inl rfl, trivial⟩)
  let v136_r5 : Memref sig .scVector .hbm S3136 .i32 := arg3.slice (Rect.unit (s := S100000) (k1_off107 i) S3136.size (k1_off107_inb i)) (fun _ => rfl)
  Prog.lift (.waitDma2 v132_r5.sem v136_r5 arg11 (View.wordExact_bits rfl) harg11.wordExact)
  Scf.Loop.for k1_t5_loop k1_t5_ok ⟨⟩ (fun t _ => g1_t5 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 t)
  let v134_r6 : Memref sig .scVector .hbm S50000 .i32 := arg5.slice (Rect.unit (s := S1600000) (k1_off113 i) S50000.size (k1_off113_inb i)) (fun _ => rfl)
  Prog.lift (.enqueueDma arg12 (.here v134_r6) (.dma v132_r6.sem) harg12.wordExact (View.wordExact_bits rfl) ⟨Or.inl rfl, trivial⟩)
  let v136_r6 : Memref sig .scVector .hbm S50000 .i32 := arg5.slice (Rect.unit (s := S1600000) (k1_off113 i) S50000.size (k1_off113_inb i)) (fun _ => rfl)
  Prog.lift (.waitDma2 v132_r6.sem arg12 v136_r6 harg12.wordExact (View.wordExact_bits rfl))
  pure ⟨⟩
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem rest1_eq :
    cc1__sc_half0_body (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 = rest1 (F := F) i arg2 harg2 arg3 harg3 arg4 harg4 arg5 harg5 arg6 harg6 arg7 harg7 arg8 harg8 arg9 arg10 arg11 harg11 arg12 harg12 v160_r0 v160_r1 v132_r2 v294_r3 v294_r4 v132_r5 v132_r6 (row0_1 i) (addi (muli (broadcast S16 3#32) (iota .scVector S16 32 [0] iota_S16_d0_w32_scVector)) (broadcast S16 0#32)) (addi (muli (broadcast S16 3#32) (iota .scVector S16 32 [0] iota_S16_d0_w32_scVector)) (broadcast S16 1#32)) (addi (muli (broadcast S16 3#32) (iota .scVector S16 32 [0] iota_S16_d0_w32_scVector)) (broadcast S16 2#32)) (batOff i) := by
  rw [b1_eq]
  unfold b1 p1_m p1_e k1_part20 k1_part21 rest1 row0_1 opt1 batOff
  by_cases h : k1_cond3 i = 1#1
  · simp only [Prog.lift, Prog.bind_op, Prog.bind_ret, Prog.pure_eq_ret, Prog.bind_assoc, dif_pos h]
  · simp only [Prog.lift, Prog.bind_op, Prog.bind_ret, Prog.pure_eq_ret, Prog.bind_assoc, dif_neg h]

/-- The lanes of a column of points. -/
theorem lane_val1 (j : ℕ) (hj : j < 3) (x : S16.Idx) :
    ((addi (muli (broadcast S16 3#32) (iota .scVector S16 32 [0] iota_S16_d0_w32_scVector)) (broadcast S16 (BitVec.ofNat 32 j)) : IVec S16 32) x).toNat = 3 * (x 0).val + j := by
  have hx : (x 0).val < 16 := (x 0).isLt
  show (3#32 * BitVec.ofNat 32 (0 * 16 + (x 0).val) + BitVec.ofNat 32 j).toNat = _
  simp only [BitVec.toNat_add, BitVec.toNat_mul, BitVec.toNat_ofNat]
  omega

theorem pair_in {thr : Thread nD τ} {tab : Memref sig thr.2.kind .hbm S50000x128 .f32} {bA bB : Memref sig thr.2.kind .vmem S120x128 .f32}
    {out : Memref sig thr.2.kind .vmem S3x1920 .f32} {x : Memref sig thr.2.kind .hbm S3x800000 .f32} {sA sB s0 s1 : DmaSem sig}
    {A : ℕ → ℕ → Elt F .f32} {qA qB : PosShare TreeShare} {s e : ℕ} {O : CellTallies nD τ sig (HIx 2)} {W : Waits sig (HIx 2)} :
    iprop(Fly thr (.dma sA) (bA.view.amount (.dma sA)) iprop(Staged thr bA A s 120 ∗ Tab thr tab qA A)
    ∗ Fly thr (.dma sB) (bB.view.amount (.dma sB)) iprop(Staged thr bB A (s + 120) 120 ∗ Tab thr tab qB A)
    ∗ Some3 thr out ∗ Cols thr x A s e s ∗ semVal (thr, SemLoc.dma s0) 0 ∗ semVal (thr, SemLoc.dma s1) 0 ∗ Owe thr O W) ⊢ (Pair thr tab bA bB out x sA sB s0 s1 A qA qB s e O W 0 : sProp 𝕄) := by
  unfold Pair
  iintro ⟨HA, HB, H⟩
  isplitl [HA]; · iexact HA
  isplitl [HB]
  · ileft
    isplitr; · ipureintro; omega
    iexact HB
  iexact H

theorem pair_out {thr : Thread nD τ} {tab : Memref sig thr.2.kind .hbm S50000x128 .f32} {bA bB : Memref sig thr.2.kind .vmem S120x128 .f32}
    {out : Memref sig thr.2.kind .vmem S3x1920 .f32} {x : Memref sig thr.2.kind .hbm S3x800000 .f32} {sA sB s0 s1 : DmaSem sig}
    {A : ℕ → ℕ → Elt F .f32} {qA qB : PosShare TreeShare} {s e : ℕ} {O : CellTallies nD τ sig (HIx 2)} {W : Waits sig (HIx 2)} {t : ℕ} (h : t = 6) :
    Pair thr tab bA bB out x sA sB s0 s1 A qA qB s e O W t ⊢ (iprop(Fly thr (.dma sA) (bA.view.amount (.dma sA)) iprop(Staged thr bA A (s + 1440) 120 ∗ Tab thr tab qA A)
    ∗ ((∃ f, bB.view.loc thr ↦[bB.view.set]{fullShare} f) ∗ Tab thr tab qB A ∗ semVal (thr, SemLoc.dma sB) 0)
    ∗ Some3 thr out ∗ Cols thr x A s e (s + 1440) ∗ semVal (thr, SemLoc.dma s0) 0 ∗ semVal (thr, SemLoc.dma s1) 0 ∗ Owe thr O W) : sProp 𝕄) := by
  subst h
  unfold Pair
  iintro ⟨HA, (⟨%h, _⟩ | ⟨_, HB⟩), H⟩
  · exact absurd h (by omega)
  isplitl [HA]; · iexact HA
  isplitl [HB]; · iexact HB
  iexact H

set_option maxRecDepth 4000 in
include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
theorem rest1_run (v37 : BitVec 32) (v79 v84 v89 : IVec S16 32) (v129 : BitVec 32) (h129 : v129.toNat = 3125 * k1_wid i - fstBat (k1_wid i))
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {O : CellTallies nD τ sig (HIx 2)} {W : Waits sig (HIx 2)} {q : PosShare TreeShare} {fb : Buf (Elt F) (arg3.view.loc (⟨d, .scVector ((i 0).castLE hcore1) ((i 1).castLE hsub1)⟩ : Thread nD τ))} {Q : PUnit → sProp 𝕄} :
    iprop(Tab (⟨d, .scVector ((i 0).castLE hcore1) ((i 1).castLE hsub1)⟩ : Thread nD τ) arg2 qA A ∗ Tab (⟨d, .scVector ((i 0).castLE hcore1) ((i 1).castLE hsub1)⟩ : Thread nD τ) arg2 qB A ∗ (∃ f, arg6.view.loc (⟨d, .scVector ((i 0).castLE hcore1) ((i 1).castLE hsub1)⟩ : Thread nD τ) ↦[arg6.view.set]{fullShare} f) ∗ (∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i)) ∗ semVal ((⟨d, .scVector ((i 0).castLE hcore1) ((i 1).castLE hsub1)⟩ : Thread nD τ), SemLoc.dma arg9.sem) 0 ∗ semVal ((⟨d, .scVector ((i 0).castLE hcore1) ((i 1).castLE hsub1)⟩ : Thread nD τ), SemLoc.dma arg10.sem) 0 ∗ semVal ((⟨d, .scVector ((i 0).castLE hcore1) ((i 1).castLE hsub1)⟩ : Thread nD τ), SemLoc.dma v160_r0.sem) 0 ∗ semVal ((⟨d, .scVector ((i 0).castLE hcore1) ((i 1).castLE hsub1)⟩ : Thread nD τ), SemLoc.dma v160_r1.sem) 0 ∗ semVal ((⟨d, .scVector ((i 0).castLE hcore1) ((i 1).castLE hsub1)⟩ : Thread nD τ), SemLoc.dma v132_r2.sem) 0 ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ semVal ((⟨d, .scVector ((i 0).castLE hcore1) ((i 1).castLE hsub1)⟩ : Thread nD τ), SemLoc.dma v132_r5.sem) 0 ∗ semVal ((⟨d, .scVector ((i 0).castLE hcore1) ((i 1).castLE hsub1)⟩ : Thread nD τ), SemLoc.dma v132_r6.sem) 0 ∗ Owe (⟨d, .scVector ((i 0).castLE hcore1) ((i 1).castLE hsub1)⟩ : Thread nD τ) O W ∗ Bat (⟨d, .scVector ((i 0).castLE hcore1) ((i 1).castLE hsub1)⟩ : Thread nD τ) arg3 q fb ∗ (∃ f, arg11.view.loc (⟨d, .scVector ((i 0).castLE hcore1) ((i 1).castLE hsub1)⟩ : Thread nD τ) ↦[arg11.view.set]{fullShare} f) ∗ (∃ f, arg12.view.loc (⟨d, .scVector ((i 0).castLE hcore1) ((i 1).castLE hsub1)⟩ : Thread nD τ) ↦[arg12.view.set]{fullShare} f) ∗ (∃ f, arg5.view.loc (⟨d, .scVector ((i 0).castLE hcore1) ((i 1).castLE hsub1)⟩ : Thread nD τ) ↦[arg5.view.setOn (cellsOf (k1_wid i))]{fullShare} f))
      ⊢ iprop((iprop((∃ f, arg6.view.loc (⟨d, .scVector ((i 0).castLE hcore1) ((i 1).castLE hsub1)⟩ : Thread nD τ) ↦[arg6.view.set]{fullShare} f) ∗ (∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i + 1)) ∗ semVal ((⟨d, .scVector ((i 0).castLE hcore1) ((i 1).castLE hsub1)⟩ : Thread nD τ), SemLoc.dma arg9.sem) 0 ∗ semVal ((⟨d, .scVector ((i 0).castLE hcore1) ((i 1).castLE hsub1)⟩ : Thread nD τ), SemLoc.dma arg10.sem) 0 ∗ semVal ((⟨d, .scVector ((i 0).castLE hcore1) ((i 1).castLE hsub1)⟩ : Thread nD τ), SemLoc.dma v160_r0.sem) 0 ∗ semVal ((⟨d, .scVector ((i 0).castLE hcore1) ((i 1).castLE hsub1)⟩ : Thread nD τ), SemLoc.dma v160_r1.sem) 0 ∗ semVal ((⟨d, .scVector ((i 0).castLE hcore1) ((i 1).castLE hsub1)⟩ : Thread nD τ), SemLoc.dma v132_r2.sem) 0 ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ semVal ((⟨d, .scVector ((i 0).castLE hcore1) ((i 1).castLE hsub1)⟩ : Thread nD τ), SemLoc.dma v132_r5.sem) 0 ∗ semVal ((⟨d, .scVector ((i 0).castLE hcore1) ((i 1).castLE hsub1)⟩ : Thread nD τ), SemLoc.dma v132_r6.sem) 0 ∗ Owe (⟨d, .scVector ((i 0).castLE hcore1) ((i 1).castLE hsub1)⟩ : Thread nD τ) O W ∗ Bat (⟨d, .scVector ((i 0).castLE hcore1) ((i 1).castLE hsub1)⟩ : Thread nD τ) arg3 q fb ∗ (∃ f, arg11.view.loc (⟨d, .scVector ((i 0).castLE hcore1) ((i 1).castLE hsub1)⟩ : Thread nD τ) ↦[arg11.view.set]{fullShare} f) ∗ (∃ f, arg12.view.loc (⟨d, .scVector ((i 0).castLE hcore1) ((i 1).castLE hsub1)⟩ : Thread nD τ) ↦[arg12.view.set]{fullShare} f) ∗ (∃ f, ⌜∀ (y : S1600000.Idx) (b : S100000.Idx), 50000 * (k1_wid i) ≤ (y 0).val → (y 0).val < 50000 * (k1_wid i) + 50000 → (b 0).val = (y 0).val / 16 → arg5.view.read (Elt F) f y = arg3.view.read (Elt F) fb b⌝ ∗ (arg5.view.loc (⟨d, .scVector ((i 0).castLE hcore1) ((i 1).castLE hsub1)⟩ : Thread nD τ) ↦[arg5.view.setOn (cellsOf (k1_wid i))]{fullShare} f))) -∗ Q ⟨⟩)
        -∗ wp frame (wpE defs 𝒱 (⟨d, .scVector ((i 0).castLE hcore1) ((i 1).castLE hsub1)⟩ : Thread nD τ) bd) Set.univ (rest1 i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 v129) Q) := by
  have hw := fstRow_step ⟨(k1_wid i), k1_wid_lt i⟩
  have he : fstRow (k1_wid i) + 1560 ≤ fstRow (k1_wid i + 1) := by dsimp only at hw; omega
  unfold rest1
  simp only [Prog.lift, Prog.bind_op, Prog.bind_ret, Prog.pure_eq_ret, Prog.bind_assoc]
  iintro ⟨HTA, HTB, HbA, HbB, Ho, Hc, HvA, HvB, H0, H1, H2, H3, H4, H5, H6, HO, HB, H11, H12, HU⟩ Hk
  iapply (rows_start (k1_off1_eq i)) $$ [HTA HbA HvA]
  · isplitl [HTA]; · iexact HTA
    isplitl [HbA]; · iexact HbA
    iexact HvA
  iintro HA
  iapply (rows_start (k1_off1_eq' i)) $$ [HTB HbB HvB]
  · isplitl [HTB]; · iexact HTB
    isplitl [HbB]; · iexact HbB
    iexact HvB
  iintro HB'
  iapply (Scf.wp_for_bind frame (wpE defs 𝒱 (⟨d, .scVector ((i 0).castLE hcore1) ((i 1).castLE hsub1)⟩ : Thread nD τ) bd) Set.univ _ _ _ k1_t1_ok ⟨⟩ _
    (fun t _ => Pair (⟨d, .scVector ((i 0).castLE hcore1) ((i 1).castLE hsub1)⟩ : Thread nD τ) arg2 arg6 arg7 arg8 arg4 arg9.sem arg10.sem v160_r0.sem v160_r1.sem A qA qB (fstRow (k1_wid i)) (fstRow (k1_wid i + 1)) O W t)
    (fun t _ => pair1_run i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h79 h84 h89 rfl he t)) $$ [HA HB' Ho Hc H0 H1 HO]
  · iapply pair_in
    isplitl [HA]; · iexact HA
    isplitl [HB']; · iexact HB'
    isplitl [Ho]; · iexact Ho
    isplitl [Hc]; · iexact Hc
    isplitl [H0]; · iexact H0
    isplitl [H1]; · iexact H1
    iexact HO
  iintro %_ HP
  ihave HP := (pair_out k1_trips1) $$ HP
  icases HP with ⟨HA, ⟨HbB, HTB, HvB⟩, Ho, Hc, H0, H1, HO⟩
  iapply (copy_wait (N := arg6.view.amount (.dma arg9.sem)) rfl) $$ [HA HO]
  · isplitl [HA]; · iexact HA
    iexact HO
  iintro ⟨⟨HS, HTA⟩, HvA, HO⟩
  ihave Hs := staged_strip $$ [HS Ho]
  · isplitl [HS]; · iexact HS
    iexact Ho
  icases Hs with ⟨%f, %hf, Hs⟩
  iapply (g1_t4_loop i arg2 harg2 arg3 harg3 arg4 harg4 arg5 harg5 arg6 harg6 arg7 harg7 arg8 harg8 arg9 arg10 arg11 harg11 arg12 harg12 v160_r0 v160_r1 v132_r2 v294_r3 v294_r4 v132_r5 v132_r6 v79 v84 v89 h79 h84 h89) $$ Hs
  iintro Hs
  ihave Hr := (strip_ready (k := 120) (by omega) hf) $$ Hs
  clear hf
  icases Hr with ⟨HbA, Hr⟩
  iapply (strip_out120 (lo := fstRow (k1_wid i)) (hi := fstRow (k1_wid i + 1)) (r := fstRow (k1_wid i) + 1440) (by omega) (by omega) (k1_off80_eq i)) $$ [Hr Hc H2 HO]
  · isplitl [Hr]; · iexact Hr
    isplitl [Hc]; · iexact Hc
    isplitl [H2]; · iexact H2
    iexact HO
  iintro ⟨⟨Ho, Hc⟩, H2, HO⟩
  ihave Hc := (cols_at (show fstRow (k1_wid i) + 1440 + 120 = fstRow (k1_wid i) + 1560 by omega)) $$ Hc
  iapply (BIBase.Entails.of_eq (wp_bind ..).symm)
  iapply (wp_wand frame _ _ (Q := fun _ => iprop((∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i + 1))
      ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ Owe (⟨d, .scVector ((i 0).castLE hcore1) ((i 1).castLE hsub1)⟩ : Thread nD τ) O W))) $$ [HTB HbB Ho Hc H3 H4 HO]
  · unfold opt1
    by_cases h3 : k1_cond3 i = 1#1
    · have h3' := (k1_cond3_eq i).mp h3
      simp only [dif_pos h3]
      iapply (wp_wand frame _ _ (Q := fun _ => iprop((∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i) + 1568)
          ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ Owe (⟨d, .scVector ((i 0).castLE hcore1) ((i 1).castLE hsub1)⟩ : Thread nD τ) O W))) $$ [HTB HbB Ho Hc H3 H4 HO]
      · have hl := last1_run i arg2 harg2 arg3 harg3 arg4 harg4 arg5 harg5 arg6 harg6 arg7 harg7 arg8 harg8 arg9 arg10 arg11 harg11 arg12 harg12 v160_r0 v160_r1 v132_r2 v294_r3 v294_r4 v132_r5 v132_r6 v37 v79 v84 v89 h3 h79 h84 h89 (qA := qB) (qB := qB) (A := A) (O := O) (W := W) (s := fstRow (k1_wid i)) (e := fstRow (k1_wid i + 1)) (defs := defs) (𝒱 := 𝒱) (bd := bd) (d := d) rfl (by omega)
        iapply hl
        isplitl [HTB]; · iexact HTB
        isplitl [HbB]; · iexact HbB
        isplitl [Ho]; · iexact Ho
        isplitl [Hc]; · iexact Hc
        isplitl [H3]; · iexact H3
        isplitl [H4]; · iexact H4
        iexact HO
      iintro %_ ⟨HbB, Ho, Hc, H3, H4, HO⟩
      ihave Hc := (cols_at h3'.symm) $$ Hc
      isplitl [HbB]; · iexact HbB
      isplitl [Ho]; · iexact Ho
      isplitl [Hc]; · iexact Hc
      isplitl [H3]; · iexact H3
      isplitl [H4]; · iexact H4
      iexact HO
    · have h3' : fstRow (k1_wid i + 1) = fstRow (k1_wid i) + 1560 := hw.resolve_right fun h => h3 ((k1_cond3_eq i).mpr h)
      simp only [dif_neg h3]
      iapply le_wp_ret
      ihave Hc := (cols_at h3'.symm) $$ Hc
      isplitl [HbB]; · iexact HbB
      isplitl [Ho]; · iexact Ho
      isplitl [Hc]; · iexact Hc
      isplitl [H3]; · iexact H3
      isplitl [H4]; · iexact H4
      iexact HO
  iintro %_ ⟨HbB, Ho, Hc, H3, H4, HO⟩
  iapply (bat_in (k1_off107_eq i)) $$ [HB H11 H5 HO]
  · isplitl [HB]; · iexact HB
    isplitl [H11]; · iexact H11
    isplitl [H5]; · iexact H5
    iexact HO
  iintro ⟨⟨⟨%f11, %h11, H11⟩, HB⟩, H5, HO⟩
  icases H12 with ⟨%f12, H12⟩
  iapply (g1_t5_loop i arg2 harg2 arg3 harg3 arg4 harg4 arg5 harg5 arg6 harg6 arg7 harg7 arg8 harg8 arg9 arg10 arg11 harg11 arg12 harg12 v160_r0 v160_r1 v132_r2 v294_r3 v294_r4 v132_r5 v132_r6 v129 (f := f11) (o := 3125 * (k1_wid i) - fstBat (k1_wid i)) (fstBat_off i) h129) $$ [H11 H12]
  · iapply sheet_begin
    isplitl [H11]; · iexact H11
    iexists f12
    iexact H12
  iintro Hsh
  ihave Hsh := sheet_end $$ Hsh
  icases Hsh with ⟨H11, %g, %hg, H12⟩
  iapply (bat_out (w := (k1_wid i)) (off113_wid i)) $$ [H12 HU H6 HO]
  · isplitl [H12]; · iexact H12
    isplitl [HU]; · iexact HU
    isplitl [H6]; · iexact H6
    iexact HO
  iintro ⟨⟨H12, %fu, %hu, HU⟩, H6, HO⟩
  iapply le_wp_ret
  iapply Hk
  isplitl [HbA]; · iexact HbA
  isplitl [HbB]; · iexact HbB
  isplitl [Ho]; · iexact Ho
  isplitl [Hc]; · iexact Hc
  isplitl [HvA]; · iexact HvA
  isplitl [HvB]; · iexact HvB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HO]; · iexact HO
  isplitl [HB]; · iexact HB
  isplitl [H11]; · iexists f11; iexact H11
  isplitl [H12]; · iexists g; iexact H12
  iexists fu
  isplitr
  rotate_left
  · iexact HU
  · ipureintro
    intro y b hy0 hy1 hb
    have hbw := fstBat_le ⟨(k1_wid i), k1_wid_lt i⟩
    dsimp only at hbw
    let z : S50000.Idx := ValueIdx.ix1 (⟨(y 0).val - 50000 * (k1_wid i), by omega⟩ : Fin 50000)
    let x : S3136.Idx := ValueIdx.ix1 (⟨((y 0).val - 50000 * (k1_wid i)) / 16 + (3125 * (k1_wid i) - fstBat (k1_wid i)), by omega⟩ : Fin 3136)
    have hz : (z 0).val = (y 0).val - 50000 * (k1_wid i) := rfl
    have hx : (x 0).val = ((y 0).val - 50000 * (k1_wid i)) / 16 + (3125 * (k1_wid i) - fstBat (k1_wid i)) := rfl
    rw [hu y z (by omega), hg z x (by omega) (by omega)]
    exact h11 x b (by omega)

include i arg2 harg2 arg3 harg3 arg4 harg4 arg5 harg5 arg6 harg6 arg7 harg7 arg8 harg8 arg9 arg10 arg11 harg11 arg12 harg12 v160_r0 v160_r1 v132_r2 v294_r3 v294_r4 v132_r5 v132_r6 in
/-- The tile's program. -/
theorem b1_run
    {defs : Defs nD τ sig (Elt F) Λ₀} {𝒱 : Variants} {bd : Option 𝒱.V} {d : Dev nD} {A : ℕ → ℕ → Elt F .f32} {qA qB : PosShare TreeShare} {O : CellTallies nD τ sig (HIx 2)} {W : Waits sig (HIx 2)} {q : PosShare TreeShare} {fb : Buf (Elt F) (arg3.view.loc (⟨d, .scVector ((i 0).castLE hcore1) ((i 1).castLE hsub1)⟩ : Thread nD τ))} {Q : PUnit → sProp 𝕄} :
    iprop(Tab (⟨d, .scVector ((i 0).castLE hcore1) ((i 1).castLE hsub1)⟩ : Thread nD τ) arg2 qA A ∗ Tab (⟨d, .scVector ((i 0).castLE hcore1) ((i 1).castLE hsub1)⟩ : Thread nD τ) arg2 qB A ∗ (∃ f, arg6.view.loc (⟨d, .scVector ((i 0).castLE hcore1) ((i 1).castLE hsub1)⟩ : Thread nD τ) ↦[arg6.view.set]{fullShare} f) ∗ (∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i)) ∗ semVal ((⟨d, .scVector ((i 0).castLE hcore1) ((i 1).castLE hsub1)⟩ : Thread nD τ), SemLoc.dma arg9.sem) 0 ∗ semVal ((⟨d, .scVector ((i 0).castLE hcore1) ((i 1).castLE hsub1)⟩ : Thread nD τ), SemLoc.dma arg10.sem) 0 ∗ semVal ((⟨d, .scVector ((i 0).castLE hcore1) ((i 1).castLE hsub1)⟩ : Thread nD τ), SemLoc.dma v160_r0.sem) 0 ∗ semVal ((⟨d, .scVector ((i 0).castLE hcore1) ((i 1).castLE hsub1)⟩ : Thread nD τ), SemLoc.dma v160_r1.sem) 0 ∗ semVal ((⟨d, .scVector ((i 0).castLE hcore1) ((i 1).castLE hsub1)⟩ : Thread nD τ), SemLoc.dma v132_r2.sem) 0 ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ semVal ((⟨d, .scVector ((i 0).castLE hcore1) ((i 1).castLE hsub1)⟩ : Thread nD τ), SemLoc.dma v132_r5.sem) 0 ∗ semVal ((⟨d, .scVector ((i 0).castLE hcore1) ((i 1).castLE hsub1)⟩ : Thread nD τ), SemLoc.dma v132_r6.sem) 0 ∗ Owe (⟨d, .scVector ((i 0).castLE hcore1) ((i 1).castLE hsub1)⟩ : Thread nD τ) O W ∗ Bat (⟨d, .scVector ((i 0).castLE hcore1) ((i 1).castLE hsub1)⟩ : Thread nD τ) arg3 q fb ∗ (∃ f, arg11.view.loc (⟨d, .scVector ((i 0).castLE hcore1) ((i 1).castLE hsub1)⟩ : Thread nD τ) ↦[arg11.view.set]{fullShare} f) ∗ (∃ f, arg12.view.loc (⟨d, .scVector ((i 0).castLE hcore1) ((i 1).castLE hsub1)⟩ : Thread nD τ) ↦[arg12.view.set]{fullShare} f) ∗ (∃ f, arg5.view.loc (⟨d, .scVector ((i 0).castLE hcore1) ((i 1).castLE hsub1)⟩ : Thread nD τ) ↦[arg5.view.setOn (cellsOf (k1_wid i))]{fullShare} f))
      ⊢ iprop((iprop((∃ f, arg6.view.loc (⟨d, .scVector ((i 0).castLE hcore1) ((i 1).castLE hsub1)⟩ : Thread nD τ) ↦[arg6.view.set]{fullShare} f) ∗ (∃ f, arg7.view.loc (⟨d, .scVector ((i 0).castLE hcore1) ((i 1).castLE hsub1)⟩ : Thread nD τ) ↦[arg7.view.set]{fullShare} f) ∗ Some3 (⟨d, .scVector ((i 0).castLE hcore1) ((i 1).castLE hsub1)⟩ : Thread nD τ) arg8 ∗ Cols (⟨d, .scVector ((i 0).castLE hcore1) ((i 1).castLE hsub1)⟩ : Thread nD τ) arg4 A (fstRow (k1_wid i)) (fstRow (k1_wid i + 1)) (fstRow (k1_wid i + 1)) ∗ semVal ((⟨d, .scVector ((i 0).castLE hcore1) ((i 1).castLE hsub1)⟩ : Thread nD τ), SemLoc.dma arg9.sem) 0 ∗ semVal ((⟨d, .scVector ((i 0).castLE hcore1) ((i 1).castLE hsub1)⟩ : Thread nD τ), SemLoc.dma arg10.sem) 0 ∗ semVal ((⟨d, .scVector ((i 0).castLE hcore1) ((i 1).castLE hsub1)⟩ : Thread nD τ), SemLoc.dma v160_r0.sem) 0 ∗ semVal ((⟨d, .scVector ((i 0).castLE hcore1) ((i 1).castLE hsub1)⟩ : Thread nD τ), SemLoc.dma v160_r1.sem) 0 ∗ semVal ((⟨d, .scVector ((i 0).castLE hcore1) ((i 1).castLE hsub1)⟩ : Thread nD τ), SemLoc.dma v132_r2.sem) 0 ∗ semVal ((⟨d, .scVector ((i 0).castLE hcore1) ((i 1).castLE hsub1)⟩ : Thread nD τ), SemLoc.dma v294_r3.sem) 0 ∗ semVal ((⟨d, .scVector ((i 0).castLE hcore1) ((i 1).castLE hsub1)⟩ : Thread nD τ), SemLoc.dma v294_r4.sem) 0 ∗ semVal ((⟨d, .scVector ((i 0).castLE hcore1) ((i 1).castLE hsub1)⟩ : Thread nD τ), SemLoc.dma v132_r5.sem) 0 ∗ semVal ((⟨d, .scVector ((i 0).castLE hcore1) ((i 1).castLE hsub1)⟩ : Thread nD τ), SemLoc.dma v132_r6.sem) 0 ∗ Owe (⟨d, .scVector ((i 0).castLE hcore1) ((i 1).castLE hsub1)⟩ : Thread nD τ) O W ∗ Bat (⟨d, .scVector ((i 0).castLE hcore1) ((i 1).castLE hsub1)⟩ : Thread nD τ) arg3 q fb ∗ (∃ f, arg11.view.loc (⟨d, .scVector ((i 0).castLE hcore1) ((i 1).castLE hsub1)⟩ : Thread nD τ) ↦[arg11.view.set]{fullShare} f) ∗ (∃ f, arg12.view.loc (⟨d, .scVector ((i 0).castLE hcore1) ((i 1).castLE hsub1)⟩ : Thread nD τ) ↦[arg12.view.set]{fullShare} f) ∗ (∃ f, ⌜∀ (y : S1600000.Idx) (b : S100000.Idx), 50000 * (k1_wid i) ≤ (y 0).val → (y 0).val < 50000 * (k1_wid i) + 50000 → (b 0).val = (y 0).val / 16 → arg5.view.read (Elt F) f y = arg3.view.read (Elt F) fb b⌝ ∗ (arg5.view.loc (⟨d, .scVector ((i 0).castLE hcore1) ((i 1).castLE hsub1)⟩ : Thread nD τ) ↦[arg5.view.setOn (cellsOf (k1_wid i))]{fullShare} f))) -∗ Q ⟨⟩)
        -∗ wp frame (wpE defs 𝒱 (⟨d, .scVector ((i 0).castLE hcore1) ((i 1).castLE hsub1)⟩ : Thread nD τ) bd) Set.univ (cc1__sc_half0_body i arg2 harg2 arg3 harg3 arg4 harg4 arg5 harg5 arg6 harg6 arg7 harg7 arg8 harg8 arg9 arg10 arg11 harg11 arg12 harg12 v160_r0 v160_r1 v132_r2 v294_r3 v294_r4 v132_r5 v132_r6) Q) := by
  rw [rest1_eq]
  exact rest1_run i arg2 harg2 arg3 harg3 arg4 harg4 arg5 harg5 arg6 harg6 arg7 harg7 arg8 harg8 arg9 arg10 arg11 harg11 arg12 harg12 v160_r0 v160_r1 v132_r2 v294_r3 v294_r4 v132_r5 v132_r6 _ _ _ _ _ (k1_v129_eq i) (lane_val1 0 (by omega)) (lane_val1 1 (by omega)) (lane_val1 2 (by omega))

end Cert.Proof.Knl
-- ==== Proof.Tails3.lean ====
/-
  The group loops of the SparseCore kernels, one trip each: eight rows of the staged block transposed, three strips of
  sixteen lanes apiece, so that the output strip agrees with the staged rows at twenty-four cells more (`Strip`).
-/
module

public import proofs.«01_k».proof.Proof.Trips1
public import proofs.«01_k».proof.Proof.Closed

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid3.Coords) (arg2 : Memref sig .scVector .hbm S50000x128 .f32) (harg2 : arg2.IsWhole) (arg3 : Memref sig .scVector .hbm S3x800000 .f32) (harg3 : arg3.IsWhole) (arg4 : Memref sig .scVector .vmem S120x128 .f32) (harg4 : arg4.IsWhole) (arg5 : Memref sig .scVector .vmem S120x128 .f32) (harg5 : arg5.IsWhole) (arg6 : Memref sig .scVector .vmem S3x1920 .f32) (harg6 : arg6.IsWhole) (arg7 : DmaSems sig S_) (arg8 : DmaSems sig S_) (v136_r0 : DmaSems sig S_) (v136_r1 : DmaSems sig S_) (v108_r2 : DmaSems sig S_) (v270_r3 : DmaSems sig S_) (v270_r4 : DmaSems sig S_)

set_option cleanup.letToHave false in
include i arg2 harg2 arg3 harg3 arg4 harg4 arg5 harg5 arg6 harg6 arg7 arg8 v136_r0 v136_r1 v108_r2 v270_r3 v270_r4 in
/-- One trip of the loop. -/
def g3_t4 (v79 v84 v89 : IVec S16 32) (k3_t4 : Fin k3_t4_loop.trips) :
    Prog (TpuEff nD τ sig (Elt F) Λ₀ (.scVector ((i 0).castLE hcore3) ((i 1).castLE hsub3))) PUnit := do
  let c0_i32_46 : BitVec 32 := 0#32
  let c1_i32_47 : BitVec 32 := 1#32
  let ⟨arg9, v129, v132, k3_hw18, v138, v139⟩ : Σ' (arg9 : BitVec 32) (v129 : BitVec 32) (v132 : IVec S16 32) (k3_hw18 : k3_chk18 v79 v84 v89 v132) (v138 : Vec F S16 .f32), BitVec 32 ← k3_part10 i arg2 harg2 arg3 harg3 arg4 harg4 arg5 harg5 arg6 harg6 arg7 arg8 v136_r0 v136_r1 v108_r2 v270_r3 v270_r4 v79 v84 v89 c0_i32_46 c1_i32_47 k3_t4
  let ⟨v169, v172, k3_hw20, v173, c16_i32_81⟩ : Σ' (v169 : BitVec 32) (v172 : IVec S16 32) (k3_hw20 : k3_chk20 v79 v84 v89 v172) (v173 : Vec F S16 .f32), BitVec 32 ← k3_part11 i arg2 harg2 arg3 harg3 arg4 harg4 arg5 harg5 arg6 harg6 arg7 arg8 v136_r0 v136_r1 v108_r2 v270_r3 v270_r4 v79 v84 v89 k3_t4 arg9 v129 v132 k3_hw18 v138 v139
  let v203 : Vec F S16 .f32 ← k3_part12 i arg2 harg2 arg3 harg3 arg4 harg4 arg5 harg5 arg6 harg6 arg7 arg8 v136_r0 v136_r1 v108_r2 v270_r3 v270_r4 v79 v84 v89 k3_t4 arg9 v169 v172 k3_hw20 v173 c16_i32_81
  let ⟨v229, v232, k3_hw23, v238, v239⟩ : Σ' (v229 : BitVec 32) (v232 : IVec S16 32) (k3_hw23 : k3_chk23 v79 v84 v89 v232) (v238 : Vec F S16 .f32), BitVec 32 ← k3_part13 i arg2 harg2 arg3 harg3 arg4 harg4 arg5 harg5 arg6 harg6 arg7 arg8 v136_r0 v136_r1 v108_r2 v270_r3 v270_r4 v79 v84 v89 k3_t4 arg9 v203
  let v241 : Index := Scalar.indexCast v239
  let v242_ld : Vec F S1x16 .f32 ← Prog.lift (.load arg6 (Rect.unit (s := S3x1920) (k3_off75 k3_t4) S1x16.size (k3_off75_inb k3_t4)).toLoadRect (View.loadsAt_vmem h_S1x16))
  have v242 : Vec F S16 .f32 := shapeCast S16 v242_ld shapeCasts_S1x16_S16
  Prog.lift (.store arg6 (Rect.unit (s := S3x1920) (k3_off75 k3_t4) S1x16.size (k3_off75_inb k3_t4)) (shapeCast S1x16 v238 shapeCasts_S16_S1x16) Finset.univ (View.stores_vmem_bits_univ h_S1x16 rfl) (.inl rfl))
  let v243 : Vec F S16 .f32 ← SparseCore.vectorLoadIdx arg4 ![v232, v89] (k3_idx69_inb v79 v84 v89 v232 k3_hw23) (View.loads_vmem h_S120x128)
  let c16_i32_110 : BitVec 32 := 16#32
  let v244 : BitVec 32 := Scalar.muli v229 c16_i32_110
  let c2_i32_111 : BitVec 32 := 2#32
  let v245 : Index := Scalar.indexCast c2_i32_111
  let v246 : Index := Scalar.indexCast v244
  let v247_ld : Vec F S1x16 .f32 ← Prog.lift (.load arg6 (Rect.unit (s := S3x1920) (k3_off76 k3_t4) S1x16.size (k3_off76_inb k3_t4)).toLoadRect (View.loadsAt_vmem h_S1x16))
  have v247 : Vec F S16 .f32 := shapeCast S16 v247_ld shapeCasts_S1x16_S16
  Prog.lift (.store arg6 (Rect.unit (s := S3x1920) (k3_off76 k3_t4) S1x16.size (k3_off76_inb k3_t4)) (shapeCast S1x16 v243 shapeCasts_S16_S1x16) Finset.univ (View.stores_vmem_bits_univ h_S1x16 rfl) (.inl rfl))
  let c8_i32_112 : BitVec 32 := 8#32
  let v248 : BitVec 32 := Scalar.muli arg9 c8_i32_112
  let c7_i32 : BitVec 32 := 7#32
  let v249 : BitVec 32 := Scalar.addi v248 c7_i32
  let c0_i32_113 : BitVec 32 := 0#32
  have v250 : IVec S16 32 := broadcast S16 c0_i32_113
  have v251 : IVec S16 32 := broadcast S16 v249
  have v252 : IVec S16 32 := addi v250 v251
  have k3_hw24 : k3_chk24 v79 v84 v89 v252 := (← Prog.lift (TpuEff.assume (k3_chk24 v79 v84 v89 v252) (k3_chk24.dec v79 v84 v89 v252))).down
  let v253 : Vec F S16 .f32 ← SparseCore.vectorLoadIdx arg4 ![v252, v79] (k3_idx70_inb v79 v84 v89 v252 k3_hw24) (View.loads_vmem h_S120x128)
  let c16_i32_114 : BitVec 32 := 16#32
  let v254 : BitVec 32 := Scalar.muli v249 c16_i32_114
  let c0_i32_115 : BitVec 32 := 0#32
  let v255 : Index := Scalar.indexCast c0_i32_115
  let v256 : Index := Scalar.indexCast v254
  let v257_ld : Vec F S1x16 .f32 ← Prog.lift (.load arg6 (Rect.unit (s := S3x1920) (k3_off77 k3_t4) S1x16.size (k3_off77_inb k3_t4)).toLoadRect (View.loadsAt_vmem h_S1x16))
  have v257 : Vec F S16 .f32 := shapeCast S16 v257_ld shapeCasts_S1x16_S16
  Prog.lift (.store arg6 (Rect.unit (s := S3x1920) (k3_off77 k3_t4) S1x16.size (k3_off77_inb k3_t4)) (shapeCast S1x16 v253 shapeCasts_S16_S1x16) Finset.univ (View.stores_vmem_bits_univ h_S1x16 rfl) (.inl rfl))
  let v258 : Vec F S16 .f32 ← SparseCore.vectorLoadIdx arg4 ![v252, v84] (k3_idx71_inb v79 v84 v89 v252 k3_hw24) (View.loads_vmem h_S120x128)
  let c16_i32_116 : BitVec 32 := 16#32
  let v259 : BitVec 32 := Scalar.muli v249 c16_i32_116
  let c1_i32_117 : BitVec 32 := 1#32
  let v260 : Index := Scalar.indexCast c1_i32_117
  let v261 : Index := Scalar.indexCast v259
  let v262_ld : Vec F S1x16 .f32 ← Prog.lift (.load arg6 (Rect.unit (s := S3x1920) (k3_off78 k3_t4) S1x16.size (k3_off78_inb k3_t4)).toLoadRect (View.loadsAt_vmem h_S1x16))
  have v262 : Vec F S16 .f32 := shapeCast S16 v262_ld shapeCasts_S1x16_S16
  Prog.lift (.store arg6 (Rect.unit (s := S3x1920) (k3_off78 k3_t4) S1x16.size (k3_off78_inb k3_t4)) (shapeCast S1x16 v258 shapeCasts_S16_S1x16) Finset.univ (View.stores_vmem_bits_univ h_S1x16 rfl) (.inl rfl))
  let v263 : Vec F S16 .f32 ← SparseCore.vectorLoadIdx arg4 ![v252, v89] (k3_idx72_inb v79 v84 v89 v252 k3_hw24) (View.loads_vmem h_S120x128)
  let c16_i32_118 : BitVec 32 := 16#32
  let v264 : BitVec 32 := Scalar.muli v249 c16_i32_118
  let c2_i32_119 : BitVec 32 := 2#32
  let v265 : Index := Scalar.indexCast c2_i32_119
  let v266 : Index := Scalar.indexCast v264
  let v267_ld : Vec F S1x16 .f32 ← Prog.lift (.load arg6 (Rect.unit (s := S3x1920) (k3_off79 k3_t4) S1x16.size (k3_off79_inb k3_t4)).toLoadRect (View.loadsAt_vmem h_S1x16))
  have v267 : Vec F S16 .f32 := shapeCast S16 v267_ld shapeCasts_S1x16_S16
  Prog.lift (.store arg6 (Rect.unit (s := S3x1920) (k3_off79 k3_t4) S1x16.size (k3_off79_inb k3_t4)) (shapeCast S1x16 v263 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 arg8 v136_r0 v136_r1 v108_r2 v270_r3 v270_r4 in
theorem g3_t4_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k3_t4 : Fin k3_t4_loop.trips)
    {defs : Defs nD τ sig (Elt F) Λ₀} {𝒱 : Variants} {bd : Option 𝒱.V} {E : Set ℕ} {d : Dev nD} {Q : PUnit → sProp 𝕄}
    {f : Buf (Elt F) (arg4.view.loc (⟨d, .scVector ((i 0).castLE hcore3) ((i 1).castLE hsub3)⟩ : Thread nD τ))}
    (hk : Strip (⟨d, .scVector ((i 0).castLE hcore3) ((i 1).castLE hsub3)⟩ : Thread nD τ) arg4 arg6 f (24 * (k3_t4.val + 1)) ⊢ Q ⟨⟩) :
    Strip (⟨d, .scVector ((i 0).castLE hcore3) ((i 1).castLE hsub3)⟩ : Thread nD τ) arg4 arg6 f (24 * k3_t4.val)
      ⊢ wp frame (wpE defs 𝒱 ⟨d, .scVector ((i 0).castLE hcore3) ((i 1).castLE hsub3)⟩ bd) E (g3_t4 i arg2 harg2 arg3 harg3 arg4 harg4 arg5 harg5 arg6 harg6 arg7 arg8 v136_r0 v136_r1 v108_r2 v270_r3 v270_r4 v79 v84 v89 k3_t4) Q := by
  have hlt : k3_t4.val < 15 := k3_t4.isLt
  unfold g3_t4 k3_part10 k3_part11 k3_part12 k3_part13
  simp only [Prog.lift, Prog.bind_op, Prog.bind_ret, Prog.pure_eq_ret, SparseCore.vectorLoadIdx]
  have hr0 := row_val k3_t4.val 0 (by omega) (by omega)
  refine assume_step (chk_of (a := 8 * k3_t4.val + 0) (by omega) hr0 h79 h84 h89) ?_
  refine strip_gather ?_
  refine strip_peek fun _ => ?_
  refine strip_put (8 * k3_t4.val + 0) 0 (n := 24 * k3_t4.val + 0) (by omega) (by omega) (by rw [Gen.k3_off56_eq]; exact vec2 rfl (by omega)) hr0 h79 ?_
  refine strip_gather ?_
  refine strip_peek fun _ => ?_
  refine strip_put (8 * k3_t4.val + 0) 1 (n := 24 * k3_t4.val + 1) (by omega) (by omega) (by rw [Gen.k3_off57_eq]; exact vec2 rfl (by omega)) hr0 h84 ?_
  refine strip_gather ?_
  refine strip_peek fun _ => ?_
  refine strip_put (8 * k3_t4.val + 0) 2 (n := 24 * k3_t4.val + 2) (by omega) (by omega) (by rw [Gen.k3_off58_eq]; exact vec2 rfl (by omega)) hr0 h89 ?_
  have hr1 := row_val k3_t4.val 1 (by omega) (by omega)
  refine assume_step (chk_of (a := 8 * k3_t4.val + 1) (by omega) hr1 h79 h84 h89) ?_
  refine strip_gather ?_
  refine strip_peek fun _ => ?_
  refine strip_put (8 * k3_t4.val + 1) 0 (n := 24 * k3_t4.val + 3) (by omega) (by omega) (by rw [Gen.k3_off59_eq]; exact vec2 rfl (by omega)) hr1 h79 ?_
  refine strip_gather ?_
  refine strip_peek fun _ => ?_
  refine strip_put (8 * k3_t4.val + 1) 1 (n := 24 * k3_t4.val + 4) (by omega) (by omega) (by rw [Gen.k3_off60_eq]; exact vec2 rfl (by omega)) hr1 h84 ?_
  refine strip_gather ?_
  refine strip_peek fun _ => ?_
  refine strip_put (8 * k3_t4.val + 1) 2 (n := 24 * k3_t4.val + 5) (by omega) (by omega) (by rw [Gen.k3_off61_eq]; exact vec2 rfl (by omega)) hr1 h89 ?_
  have hr2 := row_val k3_t4.val 2 (by omega) (by omega)
  refine assume_step (chk_of (a := 8 * k3_t4.val + 2) (by omega) hr2 h79 h84 h89) ?_
  refine strip_gather ?_
  refine strip_peek fun _ => ?_
  refine strip_put (8 * k3_t4.val + 2) 0 (n := 24 * k3_t4.val + 6) (by omega) (by omega) (by rw [Gen.k3_off62_eq]; exact vec2 rfl (by omega)) hr2 h79 ?_
  refine strip_gather ?_
  refine strip_peek fun _ => ?_
  refine strip_put (8 * k3_t4.val + 2) 1 (n := 24 * k3_t4.val + 7) (by omega) (by omega) (by rw [Gen.k3_off63_eq]; exact vec2 rfl (by omega)) hr2 h84 ?_
  refine strip_gather ?_
  refine strip_peek fun _ => ?_
  refine strip_put (8 * k3_t4.val + 2) 2 (n := 24 * k3_t4.val + 8) (by omega) (by omega) (by rw [Gen.k3_off64_eq]; exact vec2 rfl (by omega)) hr2 h89 ?_
  have hr3 := row_val k3_t4.val 3 (by omega) (by omega)
  refine assume_step (chk_of (a := 8 * k3_t4.val + 3) (by omega) hr3 h79 h84 h89) ?_
  refine strip_gather ?_
  refine strip_peek fun _ => ?_
  refine strip_put (8 * k3_t4.val + 3) 0 (n := 24 * k3_t4.val + 9) (by omega) (by omega) (by rw [Gen.k3_off65_eq]; exact vec2 rfl (by omega)) hr3 h79 ?_
  refine strip_gather ?_
  refine strip_peek fun _ => ?_
  refine strip_put (8 * k3_t4.val + 3) 1 (n := 24 * k3_t4.val + 10) (by omega) (by omega) (by rw [Gen.k3_off66_eq]; exact vec2 rfl (by omega)) hr3 h84 ?_
  refine strip_gather ?_
  refine strip_peek fun _ => ?_
  refine strip_put (8 * k3_t4.val + 3) 2 (n := 24 * k3_t4.val + 11) (by omega) (by omega) (by rw [Gen.k3_off67_eq]; exact vec2 rfl (by omega)) hr3 h89 ?_
  have hr4 := row_val k3_t4.val 4 (by omega) (by omega)
  refine assume_step (chk_of (a := 8 * k3_t4.val + 4) (by omega) hr4 h79 h84 h89) ?_
  refine strip_gather ?_
  refine strip_peek fun _ => ?_
  refine strip_put (8 * k3_t4.val + 4) 0 (n := 24 * k3_t4.val + 12) (by omega) (by omega) (by rw [Gen.k3_off68_eq]; exact vec2 rfl (by omega)) hr4 h79 ?_
  refine strip_gather ?_
  refine strip_peek fun _ => ?_
  refine strip_put (8 * k3_t4.val + 4) 1 (n := 24 * k3_t4.val + 13) (by omega) (by omega) (by rw [Gen.k3_off69_eq]; exact vec2 rfl (by omega)) hr4 h84 ?_
  refine strip_gather ?_
  refine strip_peek fun _ => ?_
  refine strip_put (8 * k3_t4.val + 4) 2 (n := 24 * k3_t4.val + 14) (by omega) (by omega) (by rw [Gen.k3_off70_eq]; exact vec2 rfl (by omega)) hr4 h89 ?_
  have hr5 := row_val k3_t4.val 5 (by omega) (by omega)
  refine assume_step (chk_of (a := 8 * k3_t4.val + 5) (by omega) hr5 h79 h84 h89) ?_
  refine strip_gather ?_
  refine strip_peek fun _ => ?_
  refine strip_put (8 * k3_t4.val + 5) 0 (n := 24 * k3_t4.val + 15) (by omega) (by omega) (by rw [Gen.k3_off71_eq]; exact vec2 rfl (by omega)) hr5 h79 ?_
  refine strip_gather ?_
  refine strip_peek fun _ => ?_
  refine strip_put (8 * k3_t4.val + 5) 1 (n := 24 * k3_t4.val + 16) (by omega) (by omega) (by rw [Gen.k3_off72_eq]; exact vec2 rfl (by omega)) hr5 h84 ?_
  refine strip_gather ?_
  refine strip_peek fun _ => ?_
  refine strip_put (8 * k3_t4.val + 5) 2 (n := 24 * k3_t4.val + 17) (by omega) (by omega) (by rw [Gen.k3_off73_eq]; exact vec2 rfl (by omega)) hr5 h89 ?_
  have hr6 := row_val k3_t4.val 6 (by omega) (by omega)
  refine assume_step (chk_of (a := 8 * k3_t4.val + 6) (by omega) hr6 h79 h84 h89) ?_
  refine strip_gather ?_
  refine strip_peek fun _ => ?_
  refine strip_put (8 * k3_t4.val + 6) 0 (n := 24 * k3_t4.val + 18) (by omega) (by omega) (by rw [Gen.k3_off74_eq]; exact vec2 rfl (by omega)) hr6 h79 ?_
  refine strip_gather ?_
  refine strip_peek fun _ => ?_
  refine strip_put (8 * k3_t4.val + 6) 1 (n := 24 * k3_t4.val + 19) (by omega) (by omega) (by rw [Gen.k3_off75_eq]; exact vec2 rfl (by omega)) hr6 h84 ?_
  refine strip_gather ?_
  refine strip_peek fun _ => ?_
  refine strip_put (8 * k3_t4.val + 6) 2 (n := 24 * k3_t4.val + 20) (by omega) (by omega) (by rw [Gen.k3_off76_eq]; exact vec2 rfl (by omega)) hr6 h89 ?_
  have hr7 := row_val k3_t4.val 7 (by omega) (by omega)
  refine assume_step (chk_of (a := 8 * k3_t4.val + 7) (by omega) hr7 h79 h84 h89) ?_
  refine strip_gather ?_
  refine strip_peek fun _ => ?_
  refine strip_put (8 * k3_t4.val + 7) 0 (n := 24 * k3_t4.val + 21) (by omega) (by omega) (by rw [Gen.k3_off77_eq]; exact vec2 rfl (by omega)) hr7 h79 ?_
  refine strip_gather ?_
  refine strip_peek fun _ => ?_
  refine strip_put (8 * k3_t4.val + 7) 1 (n := 24 * k3_t4.val + 22) (by omega) (by omega) (by rw [Gen.k3_off78_eq]; exact vec2 rfl (by omega)) hr7 h84 ?_
  refine strip_gather ?_
  refine strip_peek fun _ => ?_
  refine strip_put (8 * k3_t4.val + 7) 2 (n := 24 * k3_t4.val + 23) (by omega) (by omega) (by rw [Gen.k3_off79_eq]; exact vec2 rfl (by omega)) hr7 h89 ?_
  exact hk.trans (le_wp_ret _ _ _ _ _)

include i arg2 harg2 arg3 harg3 arg4 harg4 arg5 harg5 arg6 harg6 arg7 arg8 v136_r0 v136_r1 v108_r2 v270_r3 v270_r4 in
/-- The loop. -/
theorem g3_t4_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg4.view.loc (⟨d, .scVector ((i 0).castLE hcore3) ((i 1).castLE hsub3)⟩ : Thread nD τ))}
    {kk : PUnit → Prog (TpuEff nD τ sig (Elt F) Λ₀ (.scVector ((i 0).castLE hcore3) ((i 1).castLE hsub3))) α} :
    Strip (⟨d, .scVector ((i 0).castLE hcore3) ((i 1).castLE hsub3)⟩ : Thread nD τ) arg4 arg6 f 0
      ⊢ iprop((Strip (⟨d, .scVector ((i 0).castLE hcore3) ((i 1).castLE hsub3)⟩ : Thread nD τ) arg4 arg6 f 360 -∗ wp frame (wpE defs 𝒱 ⟨d, .scVector ((i 0).castLE hcore3) ((i 1).castLE hsub3)⟩ bd) E (kk ⟨⟩) Q)
        -∗ wp frame (wpE defs 𝒱 ⟨d, .scVector ((i 0).castLE hcore3) ((i 1).castLE hsub3)⟩ bd) E (Scf.Loop.for k3_t4_loop k3_t4_ok ⟨⟩ (fun t _ => g3_t4 i arg2 harg2 arg3 harg3 arg4 harg4 arg5 harg5 arg6 harg6 arg7 arg8 v136_r0 v136_r1 v108_r2 v270_r3 v270_r4 v79 v84 v89 t) >>= kk) Q) :=
  (Scf.wp_for_bind frame (wpE defs 𝒱 ⟨d, .scVector ((i 0).castLE hcore3) ((i 1).castLE hsub3)⟩ bd) E _ _ _ k3_t4_ok ⟨⟩ (fun t _ => g3_t4 i arg2 harg2 arg3 harg3 arg4 harg4 arg5 harg5 arg6 harg6 arg7 arg8 v136_r0 v136_r1 v108_r2 v270_r3 v270_r4 v79 v84 v89 t)
    (fun k _ => Strip (⟨d, .scVector ((i 0).castLE hcore3) ((i 1).castLE hsub3)⟩ : Thread nD τ) arg4 arg6 f (24 * k))
    (fun t _ => g3_t4_trip i arg2 harg2 arg3 harg3 arg4 harg4 arg5 harg5 arg6 harg6 arg7 arg8 v136_r0 v136_r1 v108_r2 v270_r3 v270_r4 v79 v84 v89 h79 h84 h89 t (Q := fun _ => Strip (⟨d, .scVector ((i 0).castLE hcore3) ((i 1).castLE hsub3)⟩ : Thread nD τ) arg4 arg6 f (24 * (t.val + 1))) .rfl)).trans
    (wand_mono_left (forall_intro fun _ => .rfl))

set_option cleanup.letToHave false in
include i arg2 harg2 arg3 harg3 arg4 harg4 arg5 harg5 arg6 harg6 arg7 arg8 v136_r0 v136_r1 v108_r2 v270_r3 v270_r4 in
/-- The eight rows after the last whole block. -/
def g3_tl (v37 : BitVec 32) (v79 v84 v89 : IVec S16 32) (k3_h3 : k3_cond3 i = 1#1) :
    Prog (TpuEff nD τ sig (Elt F) Λ₀ (.scVector ((i 0).castLE hcore3) ((i 1).castLE hsub3))) PUnit := do
  let c0_i32_52 : BitVec 32 := 0#32
  let c0_i32_53 : BitVec 32 := 0#32
  let c8_i32_54 : BitVec 32 := 8#32
  let v109 : BitVec 32 := Scalar.muli c0_i32_53 c8_i32_54
  let c0_i32_55 : BitVec 32 := 0#32
  let v110 : BitVec 32 := Scalar.addi v109 c0_i32_55
  let c0_i32_56 : BitVec 32 := 0#32
  have v111 : IVec S16 32 := broadcast S16 c0_i32_56
  have v112 : IVec S16 32 := broadcast S16 v110
  have v113 : IVec S16 32 := addi v111 v112
  have k3_hw25 : k3_chk25 i v79 v84 v89 v113 := (← Prog.lift (TpuEff.assume (k3_chk25 i v79 v84 v89 v113) (k3_chk25.dec i v79 v84 v89 v113))).down
  let v114 : Vec F S16 .f32 ← SparseCore.vectorLoadIdx arg5 ![v113, v79] (k3_idx73_inb i v79 v84 v89 v113 k3_hw25 k3_h3) (View.loads_vmem h_S120x128)
  let c16_i32_57 : BitVec 32 := 16#32
  let v115 : BitVec 32 := Scalar.muli v110 c16_i32_57
  let c0_i32_58 : BitVec 32 := 0#32
  let v116 : Index := Scalar.indexCast c0_i32_58
  let v117 : Index := Scalar.indexCast v115
  let v118_ld : Vec F S1x16 .f32 ← Prog.lift (.load arg6 (Rect.unit (s := S3x1920) k3_off82 S1x16.size (k3_off82_inb i k3_h3)).toLoadRect (View.loadsAt_vmem h_S1x16))
  have v118 : Vec F S16 .f32 := shapeCast S16 v118_ld shapeCasts_S1x16_S16
  Prog.lift (.store arg6 (Rect.unit (s := S3x1920) k3_off82 S1x16.size (k3_off82_inb i k3_h3)) (shapeCast S1x16 v114 shapeCasts_S16_S1x16) Finset.univ (View.stores_vmem_bits_univ h_S1x16 rfl) (.inl rfl))
  let v119 : Vec F S16 .f32 ← SparseCore.vectorLoadIdx arg5 ![v113, v84] (k3_idx74_inb i v79 v84 v89 v113 k3_hw25 k3_h3) (View.loads_vmem h_S120x128)
  let c16_i32_59 : BitVec 32 := 16#32
  let v120 : BitVec 32 := Scalar.muli v110 c16_i32_59
  let c1_i32_60 : BitVec 32 := 1#32
  let v121 : Index := Scalar.indexCast c1_i32_60
  let v122 : Index := Scalar.indexCast v120
  let v123_ld : Vec F S1x16 .f32 ← Prog.lift (.load arg6 (Rect.unit (s := S3x1920) k3_off83 S1x16.size (k3_off83_inb i k3_h3)).toLoadRect (View.loadsAt_vmem h_S1x16))
  have v123 : Vec F S16 .f32 := shapeCast S16 v123_ld shapeCasts_S1x16_S16
  Prog.lift (.store arg6 (Rect.unit (s := S3x1920) k3_off83 S1x16.size (k3_off83_inb i k3_h3)) (shapeCast S1x16 v119 shapeCasts_S16_S1x16) Finset.univ (View.stores_vmem_bits_univ h_S1x16 rfl) (.inl rfl))
  let v124 : Vec F S16 .f32 ← SparseCore.vectorLoadIdx arg5 ![v113, v89] (k3_idx75_inb i v79 v84 v89 v113 k3_hw25 k3_h3) (View.loads_vmem h_S120x128)
  let c16_i32_61 : BitVec 32 := 16#32
  let v125 : BitVec 32 := Scalar.muli v110 c16_i32_61
  let c2_i32_62 : BitVec 32 := 2#32
  let v126 : Index := Scalar.indexCast c2_i32_62
  let v127 : Index := Scalar.indexCast v125
  let v128_ld : Vec F S1x16 .f32 ← Prog.lift (.load arg6 (Rect.unit (s := S3x1920) k3_off84 S1x16.size (k3_off84_inb i k3_h3)).toLoadRect (View.loadsAt_vmem h_S1x16))
  let ⟨v150, v153, k3_hw27, v159, v160, c1_i32_78⟩ : Σ' (v150 : BitVec 32) (v153 : IVec S16 32) (k3_hw27 : k3_chk27 i v79 v84 v89 v153) (v159 : Vec F S16 .f32) (v160 : BitVec 32), BitVec 32 ← k3_part15 i arg2 harg2 arg3 harg3 arg4 harg4 arg5 harg5 arg6 harg6 arg7 arg8 v136_r0 v136_r1 v108_r2 v270_r3 v270_r4 v79 v84 v89 k3_h3 c0_i32_53 v124 v128_ld
  let ⟨v190, v193, k3_hw29, v194⟩ : Σ' (v190 : BitVec 32) (v193 : IVec S16 32) (k3_hw29 : k3_chk29 i v79 v84 v89 v193), Vec F S16 .f32 ← k3_part16 i arg2 harg2 arg3 harg3 arg4 harg4 arg5 harg5 arg6 harg6 arg7 arg8 v136_r0 v136_r1 v108_r2 v270_r3 v270_r4 v79 v84 v89 k3_h3 c0_i32_53 v150 v153 k3_hw27 v159 v160 c1_i32_78
  let ⟨v224, v228_ld⟩ : Σ' (v224 : Vec F S16 .f32), Vec F S1x16 .f32 ← k3_part17 i arg2 harg2 arg3 harg3 arg4 harg4 arg5 harg5 arg6 harg6 arg7 arg8 v136_r0 v136_r1 v108_r2 v270_r3 v270_r4 v79 v84 v89 k3_h3 c0_i32_53 v190 v193 k3_hw29 v194
  let ⟨v250, v253, k3_hw32, v259, v260, c1_i32_120⟩ : Σ' (v250 : BitVec 32) (v253 : IVec S16 32) (k3_hw32 : k3_chk32 i v79 v84 v89 v253) (v259 : Vec F S16 .f32) (v260 : BitVec 32), BitVec 32 ← k3_part18 i arg2 harg2 arg3 harg3 arg4 harg4 arg5 harg5 arg6 harg6 arg7 arg8 v136_r0 v136_r1 v108_r2 v270_r3 v270_r4 v79 v84 v89 k3_h3 c0_i32_53 v224 v228_ld
  let v261 : Index := Scalar.indexCast c1_i32_120
  let v262 : Index := Scalar.indexCast v260
  let v263_ld : Vec F S1x16 .f32 ← Prog.lift (.load arg6 (Rect.unit (s := S3x1920) k3_off104 S1x16.size (k3_off104_inb i k3_h3)).toLoadRect (View.loadsAt_vmem h_S1x16))
  have v263 : Vec F S16 .f32 := shapeCast S16 v263_ld shapeCasts_S1x16_S16
  Prog.lift (.store arg6 (Rect.unit (s := S3x1920) k3_off104 S1x16.size (k3_off104_inb i k3_h3)) (shapeCast S1x16 v259 shapeCasts_S16_S1x16) Finset.univ (View.stores_vmem_bits_univ h_S1x16 rfl) (.inl rfl))
  let v264 : Vec F S16 .f32 ← SparseCore.vectorLoadIdx arg5 ![v253, v89] (k3_idx96_inb i v79 v84 v89 v253 k3_hw32 k3_h3) (View.loads_vmem h_S120x128)
  let c16_i32_121 : BitVec 32 := 16#32
  let v265 : BitVec 32 := Scalar.muli v250 c16_i32_121
  let c2_i32_122 : BitVec 32 := 2#32
  let v266 : Index := Scalar.indexCast c2_i32_122
  let v267 : Index := Scalar.indexCast v265
  let v268_ld : Vec F S1x16 .f32 ← Prog.lift (.load arg6 (Rect.unit (s := S3x1920) k3_off105 S1x16.size (k3_off105_inb i k3_h3)).toLoadRect (View.loadsAt_vmem h_S1x16))
  have v268 : Vec F S16 .f32 := shapeCast S16 v268_ld shapeCasts_S1x16_S16
  Prog.lift (.store arg6 (Rect.unit (s := S3x1920) k3_off105 S1x16.size (k3_off105_inb i k3_h3)) (shapeCast S1x16 v264 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 arg8 v136_r0 v136_r1 v108_r2 v270_r3 v270_r4 in
theorem g3_tl_run (v37 : BitVec 32) (v79 v84 v89 : IVec S16 32) (k3_h3 : k3_cond3 i = 1#1)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {Q : PUnit → sProp 𝕄}
    {f : Buf (Elt F) (arg5.view.loc (⟨d, .scVector ((i 0).castLE hcore3) ((i 1).castLE hsub3)⟩ : Thread nD τ))}
    (hk : Strip (⟨d, .scVector ((i 0).castLE hcore3) ((i 1).castLE hsub3)⟩ : Thread nD τ) arg5 arg6 f 24 ⊢ Q ⟨⟩) :
    Strip (⟨d, .scVector ((i 0).castLE hcore3) ((i 1).castLE hsub3)⟩ : Thread nD τ) arg5 arg6 f 0
      ⊢ wp frame (wpE defs 𝒱 ⟨d, .scVector ((i 0).castLE hcore3) ((i 1).castLE hsub3)⟩ bd) E (g3_tl i arg2 harg2 arg3 harg3 arg4 harg4 arg5 harg5 arg6 harg6 arg7 arg8 v136_r0 v136_r1 v108_r2 v270_r3 v270_r4 v37 v79 v84 v89 k3_h3) Q := by
  unfold g3_tl k3_part15 k3_part16 k3_part17 k3_part18
  simp only [Prog.lift, Prog.bind_op, Prog.bind_ret, Prog.pure_eq_ret, SparseCore.vectorLoadIdx]
  have hr0 := row_val0 0 (by omega)
  refine assume_step (chk_under (a := 0) (by omega) hr0 h79 h84 h89) ?_
  refine strip_gather ?_
  refine strip_peek fun _ => ?_
  refine strip_put 0 0 (n := 0) (by omega) (by omega) Gen.k3_off82_eq hr0 h79 ?_
  refine strip_gather ?_
  refine strip_peek fun _ => ?_
  refine strip_put 0 1 (n := 1) (by omega) (by omega) Gen.k3_off83_eq hr0 h84 ?_
  refine strip_gather ?_
  refine strip_peek fun _ => ?_
  refine strip_put 0 2 (n := 2) (by omega) (by omega) Gen.k3_off84_eq hr0 h89 ?_
  have hr1 := row_val0 1 (by omega)
  refine assume_step (chk_under (a := 1) (by omega) hr1 h79 h84 h89) ?_
  refine strip_gather ?_
  refine strip_peek fun _ => ?_
  refine strip_put 1 0 (n := 3) (by omega) (by omega) Gen.k3_off85_eq hr1 h79 ?_
  refine strip_gather ?_
  refine strip_peek fun _ => ?_
  refine strip_put 1 1 (n := 4) (by omega) (by omega) Gen.k3_off86_eq hr1 h84 ?_
  refine strip_gather ?_
  refine strip_peek fun _ => ?_
  refine strip_put 1 2 (n := 5) (by omega) (by omega) Gen.k3_off87_eq hr1 h89 ?_
  have hr2 := row_val0 2 (by omega)
  refine assume_step (chk_under (a := 2) (by omega) hr2 h79 h84 h89) ?_
  refine strip_gather ?_
  refine strip_peek fun _ => ?_
  refine strip_put 2 0 (n := 6) (by omega) (by omega) Gen.k3_off88_eq hr2 h79 ?_
  refine strip_gather ?_
  refine strip_peek fun _ => ?_
  refine strip_put 2 1 (n := 7) (by omega) (by omega) Gen.k3_off89_eq hr2 h84 ?_
  refine strip_gather ?_
  refine strip_peek fun _ => ?_
  refine strip_put 2 2 (n := 8) (by omega) (by omega) Gen.k3_off90_eq hr2 h89 ?_
  have hr3 := row_val0 3 (by omega)
  refine assume_step (chk_under (a := 3) (by omega) hr3 h79 h84 h89) ?_
  refine strip_gather ?_
  refine strip_peek fun _ => ?_
  refine strip_put 3 0 (n := 9) (by omega) (by omega) Gen.k3_off91_eq hr3 h79 ?_
  refine strip_gather ?_
  refine strip_peek fun _ => ?_
  refine strip_put 3 1 (n := 10) (by omega) (by omega) Gen.k3_off92_eq hr3 h84 ?_
  refine strip_gather ?_
  refine strip_peek fun _ => ?_
  refine strip_put 3 2 (n := 11) (by omega) (by omega) Gen.k3_off93_eq hr3 h89 ?_
  have hr4 := row_val0 4 (by omega)
  refine assume_step (chk_under (a := 4) (by omega) hr4 h79 h84 h89) ?_
  refine strip_gather ?_
  refine strip_peek fun _ => ?_
  refine strip_put 4 0 (n := 12) (by omega) (by omega) Gen.k3_off94_eq hr4 h79 ?_
  refine strip_gather ?_
  refine strip_peek fun _ => ?_
  refine strip_put 4 1 (n := 13) (by omega) (by omega) Gen.k3_off95_eq hr4 h84 ?_
  refine strip_gather ?_
  refine strip_peek fun _ => ?_
  refine strip_put 4 2 (n := 14) (by omega) (by omega) Gen.k3_off96_eq hr4 h89 ?_
  have hr5 := row_val0 5 (by omega)
  refine assume_step (chk_under (a := 5) (by omega) hr5 h79 h84 h89) ?_
  refine strip_gather ?_
  refine strip_peek fun _ => ?_
  refine strip_put 5 0 (n := 15) (by omega) (by omega) Gen.k3_off97_eq hr5 h79 ?_
  refine strip_gather ?_
  refine strip_peek fun _ => ?_
  refine strip_put 5 1 (n := 16) (by omega) (by omega) Gen.k3_off98_eq hr5 h84 ?_
  refine strip_gather ?_
  refine strip_peek fun _ => ?_
  refine strip_put 5 2 (n := 17) (by omega) (by omega) Gen.k3_off99_eq hr5 h89 ?_
  have hr6 := row_val0 6 (by omega)
  refine assume_step (chk_under (a := 6) (by omega) hr6 h79 h84 h89) ?_
  refine strip_gather ?_
  refine strip_peek fun _ => ?_
  refine strip_put 6 0 (n := 18) (by omega) (by omega) Gen.k3_off100_eq hr6 h79 ?_
  refine strip_gather ?_
  refine strip_peek fun _ => ?_
  refine strip_put 6 1 (n := 19) (by omega) (by omega) Gen.k3_off101_eq hr6 h84 ?_
  refine strip_gather ?_
  refine strip_peek fun _ => ?_
  refine strip_put 6 2 (n := 20) (by omega) (by omega) Gen.k3_off102_eq hr6 h89 ?_
  have hr7 := row_val0 7 (by omega)
  refine assume_step (chk_under (a := 7) (by omega) hr7 h79 h84 h89) ?_
  refine strip_gather ?_
  refine strip_peek fun _ => ?_
  refine strip_put 7 0 (n := 21) (by omega) (by omega) Gen.k3_off103_eq hr7 h79 ?_
  refine strip_gather ?_
  refine strip_peek fun _ => ?_
  refine strip_put 7 1 (n := 22) (by omega) (by omega) Gen.k3_off104_eq hr7 h84 ?_
  refine strip_gather ?_
  refine strip_peek fun _ => ?_
  refine strip_put 7 2 (n := 23) (by omega) (by omega) Gen.k3_off105_eq hr7 h89 ?_
  exact hk.trans (le_wp_ret _ _ _ _ _)

end Cert.Proof.Knl
-- ==== Proof.Trips3.lean ====
/-
  The group loops of the SparseCore kernels, one trip each: eight rows of the staged block transposed, three strips of
  sixteen lanes apiece, so that the output strip agrees with the staged rows at twenty-four cells more (`Strip`).
-/
module

public import proofs.«01_k».proof.Proof.Trips1
public import proofs.«01_k».proof.Proof.Closed

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid3.Coords) (arg2 : Memref sig .scVector .hbm S50000x128 .f32) (harg2 : arg2.IsWhole) (arg3 : Memref sig .scVector .hbm S3x800000 .f32) (harg3 : arg3.IsWhole) (arg4 : Memref sig .scVector .vmem S120x128 .f32) (harg4 : arg4.IsWhole) (arg5 : Memref sig .scVector .vmem S120x128 .f32) (harg5 : arg5.IsWhole) (arg6 : Memref sig .scVector .vmem S3x1920 .f32) (harg6 : arg6.IsWhole) (arg7 : DmaSems sig S_) (arg8 : DmaSems sig S_) (v136_r0 : DmaSems sig S_) (v136_r1 : DmaSems sig S_) (v108_r2 : DmaSems sig S_) (v270_r3 : DmaSems sig S_) (v270_r4 : DmaSems sig S_)

set_option cleanup.letToHave false in
include i arg2 harg2 arg3 harg3 arg4 harg4 arg5 harg5 arg6 harg6 arg7 arg8 v136_r0 v136_r1 v108_r2 v270_r3 v270_r4 in
/-- One trip of the loop. -/
def g3_t2 (v79 v84 v89 : IVec S16 32) (k3_t2 : Fin k3_t2_loop.trips) :
    Prog (TpuEff nD τ sig (Elt F) Λ₀ (.scVector ((i 0).castLE hcore3) ((i 1).castLE hsub3))) PUnit := do
  let c0_i32_58 : BitVec 32 := 0#32
  let c1_i32_60 : BitVec 32 := 1#32
  let ⟨arg10, v157, v160, k3_hw2, v166, v167⟩ : Σ' (arg10 : BitVec 32) (v157 : BitVec 32) (v160 : IVec S16 32) (k3_hw2 : k3_chk2 v79 v84 v89 v160) (v166 : Vec F S16 .f32), BitVec 32 ← k3_part1 i arg2 harg2 arg3 harg3 arg4 harg4 arg5 harg5 arg6 harg6 arg7 arg8 v136_r0 v136_r1 v108_r2 v270_r3 v270_r4 v79 v84 v89 c0_i32_58 c1_i32_60 k3_t2
  let ⟨v197, v200, k3_hw4, v201, c16_i32_110⟩ : Σ' (v197 : BitVec 32) (v200 : IVec S16 32) (k3_hw4 : k3_chk4 v79 v84 v89 v200) (v201 : Vec F S16 .f32), BitVec 32 ← k3_part2 i arg2 harg2 arg3 harg3 arg4 harg4 arg5 harg5 arg6 harg6 arg7 arg8 v136_r0 v136_r1 v108_r2 v270_r3 v270_r4 v79 v84 v89 k3_t2 arg10 v157 v160 k3_hw2 v166 v167
  let v231 : Vec F S16 .f32 ← k3_part3 i arg2 harg2 arg3 harg3 arg4 harg4 arg5 harg5 arg6 harg6 arg7 arg8 v136_r0 v136_r1 v108_r2 v270_r3 v270_r4 v79 v84 v89 k3_t2 arg10 v197 v200 k3_hw4 v201 c16_i32_110
  let ⟨v257, v260, k3_hw7, v266, v267⟩ : Σ' (v257 : BitVec 32) (v260 : IVec S16 32) (k3_hw7 : k3_chk7 v79 v84 v89 v260) (v266 : Vec F S16 .f32), BitVec 32 ← k3_part4 i arg2 harg2 arg3 harg3 arg4 harg4 arg5 harg5 arg6 harg6 arg7 arg8 v136_r0 v136_r1 v108_r2 v270_r3 v270_r4 v79 v84 v89 k3_t2 arg10 v231
  let v269 : Index := Scalar.indexCast v267
  let v270_ld : Vec F S1x16 .f32 ← Prog.lift (.load arg6 (Rect.unit (s := S3x1920) (k3_off22 k3_t2) S1x16.size (k3_off22_inb k3_t2)).toLoadRect (View.loadsAt_vmem h_S1x16))
  have v270 : Vec F S16 .f32 := shapeCast S16 v270_ld shapeCasts_S1x16_S16
  Prog.lift (.store arg6 (Rect.unit (s := S3x1920) (k3_off22 k3_t2) S1x16.size (k3_off22_inb k3_t2)) (shapeCast S1x16 v266 shapeCasts_S16_S1x16) Finset.univ (View.stores_vmem_bits_univ h_S1x16 rfl) (.inl rfl))
  let v271 : Vec F S16 .f32 ← SparseCore.vectorLoadIdx arg4 ![v260, v89] (k3_idx21_inb v79 v84 v89 v260 k3_hw7) (View.loads_vmem h_S120x128)
  let c16_i32_139 : BitVec 32 := 16#32
  let v272 : BitVec 32 := Scalar.muli v257 c16_i32_139
  let c2_i32_140 : BitVec 32 := 2#32
  let v273 : Index := Scalar.indexCast c2_i32_140
  let v274 : Index := Scalar.indexCast v272
  let v275_ld : Vec F S1x16 .f32 ← Prog.lift (.load arg6 (Rect.unit (s := S3x1920) (k3_off23 k3_t2) S1x16.size (k3_off23_inb k3_t2)).toLoadRect (View.loadsAt_vmem h_S1x16))
  have v275 : Vec F S16 .f32 := shapeCast S16 v275_ld shapeCasts_S1x16_S16
  Prog.lift (.store arg6 (Rect.unit (s := S3x1920) (k3_off23 k3_t2) S1x16.size (k3_off23_inb k3_t2)) (shapeCast S1x16 v271 shapeCasts_S16_S1x16) Finset.univ (View.stores_vmem_bits_univ h_S1x16 rfl) (.inl rfl))
  let c8_i32_141 : BitVec 32 := 8#32
  let v276 : BitVec 32 := Scalar.muli arg10 c8_i32_141
  let c7_i32 : BitVec 32 := 7#32
  let v277 : BitVec 32 := Scalar.addi v276 c7_i32
  let c0_i32_142 : BitVec 32 := 0#32
  have v278 : IVec S16 32 := broadcast S16 c0_i32_142
  have v279 : IVec S16 32 := broadcast S16 v277
  have v280 : IVec S16 32 := addi v278 v279
  have k3_hw8 : k3_chk8 v79 v84 v89 v280 := (← Prog.lift (TpuEff.assume (k3_chk8 v79 v84 v89 v280) (k3_chk8.dec v79 v84 v89 v280))).down
  let v281 : Vec F S16 .f32 ← SparseCore.vectorLoadIdx arg4 ![v280, v79] (k3_idx22_inb v79 v84 v89 v280 k3_hw8) (View.loads_vmem h_S120x128)
  let c16_i32_143 : BitVec 32 := 16#32
  let v282 : BitVec 32 := Scalar.muli v277 c16_i32_143
  let c0_i32_144 : BitVec 32 := 0#32
  let v283 : Index := Scalar.indexCast c0_i32_144
  let v284 : Index := Scalar.indexCast v282
  let v285_ld : Vec F S1x16 .f32 ← Prog.lift (.load arg6 (Rect.unit (s := S3x1920) (k3_off24 k3_t2) S1x16.size (k3_off24_inb k3_t2)).toLoadRect (View.loadsAt_vmem h_S1x16))
  have v285 : Vec F S16 .f32 := shapeCast S16 v285_ld shapeCasts_S1x16_S16
  Prog.lift (.store arg6 (Rect.unit (s := S3x1920) (k3_off24 k3_t2) S1x16.size (k3_off24_inb k3_t2)) (shapeCast S1x16 v281 shapeCasts_S16_S1x16) Finset.univ (View.stores_vmem_bits_univ h_S1x16 rfl) (.inl rfl))
  let v286 : Vec F S16 .f32 ← SparseCore.vectorLoadIdx arg4 ![v280, v84] (k3_idx23_inb v79 v84 v89 v280 k3_hw8) (View.loads_vmem h_S120x128)
  let c16_i32_145 : BitVec 32 := 16#32
  let v287 : BitVec 32 := Scalar.muli v277 c16_i32_145
  let c1_i32_146 : BitVec 32 := 1#32
  let v288 : Index := Scalar.indexCast c1_i32_146
  let v289 : Index := Scalar.indexCast v287
  let v290_ld : Vec F S1x16 .f32 ← Prog.lift (.load arg6 (Rect.unit (s := S3x1920) (k3_off25 k3_t2) S1x16.size (k3_off25_inb k3_t2)).toLoadRect (View.loadsAt_vmem h_S1x16))
  have v290 : Vec F S16 .f32 := shapeCast S16 v290_ld shapeCasts_S1x16_S16
  Prog.lift (.store arg6 (Rect.unit (s := S3x1920) (k3_off25 k3_t2) S1x16.size (k3_off25_inb k3_t2)) (shapeCast S1x16 v286 shapeCasts_S16_S1x16) Finset.univ (View.stores_vmem_bits_univ h_S1x16 rfl) (.inl rfl))
  let v291 : Vec F S16 .f32 ← SparseCore.vectorLoadIdx arg4 ![v280, v89] (k3_idx24_inb v79 v84 v89 v280 k3_hw8) (View.loads_vmem h_S120x128)
  let c16_i32_147 : BitVec 32 := 16#32
  let v292 : BitVec 32 := Scalar.muli v277 c16_i32_147
  let c2_i32_148 : BitVec 32 := 2#32
  let v293 : Index := Scalar.indexCast c2_i32_148
  let v294 : Index := Scalar.indexCast v292
  let v295_ld : Vec F S1x16 .f32 ← Prog.lift (.load arg6 (Rect.unit (s := S3x1920) (k3_off26 k3_t2) S1x16.size (k3_off26_inb k3_t2)).toLoadRect (View.loadsAt_vmem h_S1x16))
  have v295 : Vec F S16 .f32 := shapeCast S16 v295_ld shapeCasts_S1x16_S16
  Prog.lift (.store arg6 (Rect.unit (s := S3x1920) (k3_off26 k3_t2) S1x16.size (k3_off26_inb k3_t2)) (shapeCast S1x16 v291 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 arg8 v136_r0 v136_r1 v108_r2 v270_r3 v270_r4 in
theorem g3_t2_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k3_t2 : Fin k3_t2_loop.trips)
    {defs : Defs nD τ sig (Elt F) Λ₀} {𝒱 : Variants} {bd : Option 𝒱.V} {E : Set ℕ} {d : Dev nD} {Q : PUnit → sProp 𝕄}
    {f : Buf (Elt F) (arg4.view.loc (⟨d, .scVector ((i 0).castLE hcore3) ((i 1).castLE hsub3)⟩ : Thread nD τ))}
    (hk : Strip (⟨d, .scVector ((i 0).castLE hcore3) ((i 1).castLE hsub3)⟩ : Thread nD τ) arg4 arg6 f (24 * (k3_t2.val + 1)) ⊢ Q ⟨⟩) :
    Strip (⟨d, .scVector ((i 0).castLE hcore3) ((i 1).castLE hsub3)⟩ : Thread nD τ) arg4 arg6 f (24 * k3_t2.val)
      ⊢ wp frame (wpE defs 𝒱 ⟨d, .scVector ((i 0).castLE hcore3) ((i 1).castLE hsub3)⟩ bd) E (g3_t2 i arg2 harg2 arg3 harg3 arg4 harg4 arg5 harg5 arg6 harg6 arg7 arg8 v136_r0 v136_r1 v108_r2 v270_r3 v270_r4 v79 v84 v89 k3_t2) Q := by
  have hlt : k3_t2.val < 15 := k3_t2.isLt
  unfold g3_t2 k3_part1 k3_part2 k3_part3 k3_part4
  simp only [Prog.lift, Prog.bind_op, Prog.bind_ret, Prog.pure_eq_ret, SparseCore.vectorLoadIdx]
  have hr0 := row_val k3_t2.val 0 (by omega) (by omega)
  refine assume_step (chk_of (a := 8 * k3_t2.val + 0) (by omega) hr0 h79 h84 h89) ?_
  refine strip_gather ?_
  refine strip_peek fun _ => ?_
  refine strip_put (8 * k3_t2.val + 0) 0 (n := 24 * k3_t2.val + 0) (by omega) (by omega) (by rw [Gen.k3_off3_eq]; exact vec2 rfl (by omega)) hr0 h79 ?_
  refine strip_gather ?_
  refine strip_peek fun _ => ?_
  refine strip_put (8 * k3_t2.val + 0) 1 (n := 24 * k3_t2.val + 1) (by omega) (by omega) (by rw [Gen.k3_off4_eq]; exact vec2 rfl (by omega)) hr0 h84 ?_
  refine strip_gather ?_
  refine strip_peek fun _ => ?_
  refine strip_put (8 * k3_t2.val + 0) 2 (n := 24 * k3_t2.val + 2) (by omega) (by omega) (by rw [Gen.k3_off5_eq]; exact vec2 rfl (by omega)) hr0 h89 ?_
  have hr1 := row_val k3_t2.val 1 (by omega) (by omega)
  refine assume_step (chk_of (a := 8 * k3_t2.val + 1) (by omega) hr1 h79 h84 h89) ?_
  refine strip_gather ?_
  refine strip_peek fun _ => ?_
  refine strip_put (8 * k3_t2.val + 1) 0 (n := 24 * k3_t2.val + 3) (by omega) (by omega) (by rw [Gen.k3_off6_eq]; exact vec2 rfl (by omega)) hr1 h79 ?_
  refine strip_gather ?_
  refine strip_peek fun _ => ?_
  refine strip_put (8 * k3_t2.val + 1) 1 (n := 24 * k3_t2.val + 4) (by omega) (by omega) (by rw [Gen.k3_off7_eq]; exact vec2 rfl (by omega)) hr1 h84 ?_
  refine strip_gather ?_
  refine strip_peek fun _ => ?_
  refine strip_put (8 * k3_t2.val + 1) 2 (n := 24 * k3_t2.val + 5) (by omega) (by omega) (by rw [Gen.k3_off8_eq]; exact vec2 rfl (by omega)) hr1 h89 ?_
  have hr2 := row_val k3_t2.val 2 (by omega) (by omega)
  refine assume_step (chk_of (a := 8 * k3_t2.val + 2) (by omega) hr2 h79 h84 h89) ?_
  refine strip_gather ?_
  refine strip_peek fun _ => ?_
  refine strip_put (8 * k3_t2.val + 2) 0 (n := 24 * k3_t2.val + 6) (by omega) (by omega) (by rw [Gen.k3_off9_eq]; exact vec2 rfl (by omega)) hr2 h79 ?_
  refine strip_gather ?_
  refine strip_peek fun _ => ?_
  refine strip_put (8 * k3_t2.val + 2) 1 (n := 24 * k3_t2.val + 7) (by omega) (by omega) (by rw [Gen.k3_off10_eq]; exact vec2 rfl (by omega)) hr2 h84 ?_
  refine strip_gather ?_
  refine strip_peek fun _ => ?_
  refine strip_put (8 * k3_t2.val + 2) 2 (n := 24 * k3_t2.val + 8) (by omega) (by omega) (by rw [Gen.k3_off11_eq]; exact vec2 rfl (by omega)) hr2 h89 ?_
  have hr3 := row_val k3_t2.val 3 (by omega) (by omega)
  refine assume_step (chk_of (a := 8 * k3_t2.val + 3) (by omega) hr3 h79 h84 h89) ?_
  refine strip_gather ?_
  refine strip_peek fun _ => ?_
  refine strip_put (8 * k3_t2.val + 3) 0 (n := 24 * k3_t2.val + 9) (by omega) (by omega) (by rw [Gen.k3_off12_eq]; exact vec2 rfl (by omega)) hr3 h79 ?_
  refine strip_gather ?_
  refine strip_peek fun _ => ?_
  refine strip_put (8 * k3_t2.val + 3) 1 (n := 24 * k3_t2.val + 10) (by omega) (by omega) (by rw [Gen.k3_off13_eq]; exact vec2 rfl (by omega)) hr3 h84 ?_
  refine strip_gather ?_
  refine strip_peek fun _ => ?_
  refine strip_put (8 * k3_t2.val + 3) 2 (n := 24 * k3_t2.val + 11) (by omega) (by omega) (by rw [Gen.k3_off14_eq]; exact vec2 rfl (by omega)) hr3 h89 ?_
  have hr4 := row_val k3_t2.val 4 (by omega) (by omega)
  refine assume_step (chk_of (a := 8 * k3_t2.val + 4) (by omega) hr4 h79 h84 h89) ?_
  refine strip_gather ?_
  refine strip_peek fun _ => ?_
  refine strip_put (8 * k3_t2.val + 4) 0 (n := 24 * k3_t2.val + 12) (by omega) (by omega) (by rw [Gen.k3_off15_eq]; exact vec2 rfl (by omega)) hr4 h79 ?_
  refine strip_gather ?_
  refine strip_peek fun _ => ?_
  refine strip_put (8 * k3_t2.val + 4) 1 (n := 24 * k3_t2.val + 13) (by omega) (by omega) (by rw [Gen.k3_off16_eq]; exact vec2 rfl (by omega)) hr4 h84 ?_
  refine strip_gather ?_
  refine strip_peek fun _ => ?_
  refine strip_put (8 * k3_t2.val + 4) 2 (n := 24 * k3_t2.val + 14) (by omega) (by omega) (by rw [Gen.k3_off17_eq]; exact vec2 rfl (by omega)) hr4 h89 ?_
  have hr5 := row_val k3_t2.val 5 (by omega) (by omega)
  refine assume_step (chk_of (a := 8 * k3_t2.val + 5) (by omega) hr5 h79 h84 h89) ?_
  refine strip_gather ?_
  refine strip_peek fun _ => ?_
  refine strip_put (8 * k3_t2.val + 5) 0 (n := 24 * k3_t2.val + 15) (by omega) (by omega) (by rw [Gen.k3_off18_eq]; exact vec2 rfl (by omega)) hr5 h79 ?_
  refine strip_gather ?_
  refine strip_peek fun _ => ?_
  refine strip_put (8 * k3_t2.val + 5) 1 (n := 24 * k3_t2.val + 16) (by omega) (by omega) (by rw [Gen.k3_off19_eq]; exact vec2 rfl (by omega)) hr5 h84 ?_
  refine strip_gather ?_
  refine strip_peek fun _ => ?_
  refine strip_put (8 * k3_t2.val + 5) 2 (n := 24 * k3_t2.val + 17) (by omega) (by omega) (by rw [Gen.k3_off20_eq]; exact vec2 rfl (by omega)) hr5 h89 ?_
  have hr6 := row_val k3_t2.val 6 (by omega) (by omega)
  refine assume_step (chk_of (a := 8 * k3_t2.val + 6) (by omega) hr6 h79 h84 h89) ?_
  refine strip_gather ?_
  refine strip_peek fun _ => ?_
  refine strip_put (8 * k3_t2.val + 6) 0 (n := 24 * k3_t2.val + 18) (by omega) (by omega) (by rw [Gen.k3_off21_eq]; exact vec2 rfl (by omega)) hr6 h79 ?_
  refine strip_gather ?_
  refine strip_peek fun _ => ?_
  refine strip_put (8 * k3_t2.val + 6) 1 (n := 24 * k3_t2.val + 19) (by omega) (by omega) (by rw [Gen.k3_off22_eq]; exact vec2 rfl (by omega)) hr6 h84 ?_
  refine strip_gather ?_
  refine strip_peek fun _ => ?_
  refine strip_put (8 * k3_t2.val + 6) 2 (n := 24 * k3_t2.val + 20) (by omega) (by omega) (by rw [Gen.k3_off23_eq]; exact vec2 rfl (by omega)) hr6 h89 ?_
  have hr7 := row_val k3_t2.val 7 (by omega) (by omega)
  refine assume_step (chk_of (a := 8 * k3_t2.val + 7) (by omega) hr7 h79 h84 h89) ?_
  refine strip_gather ?_
  refine strip_peek fun _ => ?_
  refine strip_put (8 * k3_t2.val + 7) 0 (n := 24 * k3_t2.val + 21) (by omega) (by omega) (by rw [Gen.k3_off24_eq]; exact vec2 rfl (by omega)) hr7 h79 ?_
  refine strip_gather ?_
  refine strip_peek fun _ => ?_
  refine strip_put (8 * k3_t2.val + 7) 1 (n := 24 * k3_t2.val + 22) (by omega) (by omega) (by rw [Gen.k3_off25_eq]; exact vec2 rfl (by omega)) hr7 h84 ?_
  refine strip_gather ?_
  refine strip_peek fun _ => ?_
  refine strip_put (8 * k3_t2.val + 7) 2 (n := 24 * k3_t2.val + 23) (by omega) (by omega) (by rw [Gen.k3_off26_eq]; exact vec2 rfl (by omega)) hr7 h89 ?_
  exact hk.trans (le_wp_ret _ _ _ _ _)

include i arg2 harg2 arg3 harg3 arg4 harg4 arg5 harg5 arg6 harg6 arg7 arg8 v136_r0 v136_r1 v108_r2 v270_r3 v270_r4 in
/-- The loop. -/
theorem g3_t2_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg4.view.loc (⟨d, .scVector ((i 0).castLE hcore3) ((i 1).castLE hsub3)⟩ : Thread nD τ))}
    {kk : PUnit → Prog (TpuEff nD τ sig (Elt F) Λ₀ (.scVector ((i 0).castLE hcore3) ((i 1).castLE hsub3))) α} :
    Strip (⟨d, .scVector ((i 0).castLE hcore3) ((i 1).castLE hsub3)⟩ : Thread nD τ) arg4 arg6 f 0
      ⊢ iprop((Strip (⟨d, .scVector ((i 0).castLE hcore3) ((i 1).castLE hsub3)⟩ : Thread nD τ) arg4 arg6 f 360 -∗ wp frame (wpE defs 𝒱 ⟨d, .scVector ((i 0).castLE hcore3) ((i 1).castLE hsub3)⟩ bd) E (kk ⟨⟩) Q)
        -∗ wp frame (wpE defs 𝒱 ⟨d, .scVector ((i 0).castLE hcore3) ((i 1).castLE hsub3)⟩ bd) E (Scf.Loop.for k3_t2_loop k3_t2_ok ⟨⟩ (fun t _ => g3_t2 i arg2 harg2 arg3 harg3 arg4 harg4 arg5 harg5 arg6 harg6 arg7 arg8 v136_r0 v136_r1 v108_r2 v270_r3 v270_r4 v79 v84 v89 t) >>= kk) Q) :=
  (Scf.wp_for_bind frame (wpE defs 𝒱 ⟨d, .scVector ((i 0).castLE hcore3) ((i 1).castLE hsub3)⟩ bd) E _ _ _ k3_t2_ok ⟨⟩ (fun t _ => g3_t2 i arg2 harg2 arg3 harg3 arg4 harg4 arg5 harg5 arg6 harg6 arg7 arg8 v136_r0 v136_r1 v108_r2 v270_r3 v270_r4 v79 v84 v89 t)
    (fun k _ => Strip (⟨d, .scVector ((i 0).castLE hcore3) ((i 1).castLE hsub3)⟩ : Thread nD τ) arg4 arg6 f (24 * k))
    (fun t _ => g3_t2_trip i arg2 harg2 arg3 harg3 arg4 harg4 arg5 harg5 arg6 harg6 arg7 arg8 v136_r0 v136_r1 v108_r2 v270_r3 v270_r4 v79 v84 v89 h79 h84 h89 t (Q := fun _ => Strip (⟨d, .scVector ((i 0).castLE hcore3) ((i 1).castLE hsub3)⟩ : Thread nD τ) arg4 arg6 f (24 * (t.val + 1))) .rfl)).trans
    (wand_mono_left (forall_intro fun _ => .rfl))

set_option cleanup.letToHave false in
include i arg2 harg2 arg3 harg3 arg4 harg4 arg5 harg5 arg6 harg6 arg7 arg8 v136_r0 v136_r1 v108_r2 v270_r3 v270_r4 in
/-- One trip of the loop. -/
def g3_t3 (v79 v84 v89 : IVec S16 32) (k3_t3 : Fin k3_t3_loop.trips) :
    Prog (TpuEff nD τ sig (Elt F) Λ₀ (.scVector ((i 0).castLE hcore3) ((i 1).castLE hsub3))) PUnit := do
  let c0_i32_72 : BitVec 32 := 0#32
  let c1_i32_74 : BitVec 32 := 1#32
  let ⟨arg10, v157, v160, k3_hw10, v166, v167⟩ : Σ' (arg10 : BitVec 32) (v157 : BitVec 32) (v160 : IVec S16 32) (k3_hw10 : k3_chk10 v79 v84 v89 v160) (v166 : Vec F S16 .f32), BitVec 32 ← k3_part5 i arg2 harg2 arg3 harg3 arg4 harg4 arg5 harg5 arg6 harg6 arg7 arg8 v136_r0 v136_r1 v108_r2 v270_r3 v270_r4 v79 v84 v89 c0_i32_72 c1_i32_74 k3_t3
  let ⟨v197, v200, k3_hw12, v201, c16_i32_110⟩ : Σ' (v197 : BitVec 32) (v200 : IVec S16 32) (k3_hw12 : k3_chk12 v79 v84 v89 v200) (v201 : Vec F S16 .f32), BitVec 32 ← k3_part6 i arg2 harg2 arg3 harg3 arg4 harg4 arg5 harg5 arg6 harg6 arg7 arg8 v136_r0 v136_r1 v108_r2 v270_r3 v270_r4 v79 v84 v89 k3_t3 arg10 v157 v160 k3_hw10 v166 v167
  let v231 : Vec F S16 .f32 ← k3_part7 i arg2 harg2 arg3 harg3 arg4 harg4 arg5 harg5 arg6 harg6 arg7 arg8 v136_r0 v136_r1 v108_r2 v270_r3 v270_r4 v79 v84 v89 k3_t3 arg10 v197 v200 k3_hw12 v201 c16_i32_110
  let ⟨v257, v260, k3_hw15, v266, v267⟩ : Σ' (v257 : BitVec 32) (v260 : IVec S16 32) (k3_hw15 : k3_chk15 v79 v84 v89 v260) (v266 : Vec F S16 .f32), BitVec 32 ← k3_part8 i arg2 harg2 arg3 harg3 arg4 harg4 arg5 harg5 arg6 harg6 arg7 arg8 v136_r0 v136_r1 v108_r2 v270_r3 v270_r4 v79 v84 v89 k3_t3 arg10 v231
  let v269 : Index := Scalar.indexCast v267
  let v270_ld : Vec F S1x16 .f32 ← Prog.lift (.load arg6 (Rect.unit (s := S3x1920) (k3_off49 k3_t3) S1x16.size (k3_off49_inb k3_t3)).toLoadRect (View.loadsAt_vmem h_S1x16))
  have v270 : Vec F S16 .f32 := shapeCast S16 v270_ld shapeCasts_S1x16_S16
  Prog.lift (.store arg6 (Rect.unit (s := S3x1920) (k3_off49 k3_t3) S1x16.size (k3_off49_inb k3_t3)) (shapeCast S1x16 v266 shapeCasts_S16_S1x16) Finset.univ (View.stores_vmem_bits_univ h_S1x16 rfl) (.inl rfl))
  let v271 : Vec F S16 .f32 ← SparseCore.vectorLoadIdx arg5 ![v260, v89] (k3_idx45_inb v79 v84 v89 v260 k3_hw15) (View.loads_vmem h_S120x128)
  let c16_i32_139 : BitVec 32 := 16#32
  let v272 : BitVec 32 := Scalar.muli v257 c16_i32_139
  let c2_i32_140 : BitVec 32 := 2#32
  let v273 : Index := Scalar.indexCast c2_i32_140
  let v274 : Index := Scalar.indexCast v272
  let v275_ld : Vec F S1x16 .f32 ← Prog.lift (.load arg6 (Rect.unit (s := S3x1920) (k3_off50 k3_t3) S1x16.size (k3_off50_inb k3_t3)).toLoadRect (View.loadsAt_vmem h_S1x16))
  have v275 : Vec F S16 .f32 := shapeCast S16 v275_ld shapeCasts_S1x16_S16
  Prog.lift (.store arg6 (Rect.unit (s := S3x1920) (k3_off50 k3_t3) S1x16.size (k3_off50_inb k3_t3)) (shapeCast S1x16 v271 shapeCasts_S16_S1x16) Finset.univ (View.stores_vmem_bits_univ h_S1x16 rfl) (.inl rfl))
  let c8_i32_141 : BitVec 32 := 8#32
  let v276 : BitVec 32 := Scalar.muli arg10 c8_i32_141
  let c7_i32 : BitVec 32 := 7#32
  let v277 : BitVec 32 := Scalar.addi v276 c7_i32
  let c0_i32_142 : BitVec 32 := 0#32
  have v278 : IVec S16 32 := broadcast S16 c0_i32_142
  have v279 : IVec S16 32 := broadcast S16 v277
  have v280 : IVec S16 32 := addi v278 v279
  have k3_hw16 : k3_chk16 v79 v84 v89 v280 := (← Prog.lift (TpuEff.assume (k3_chk16 v79 v84 v89 v280) (k3_chk16.dec v79 v84 v89 v280))).down
  let v281 : Vec F S16 .f32 ← SparseCore.vectorLoadIdx arg5 ![v280, v79] (k3_idx46_inb v79 v84 v89 v280 k3_hw16) (View.loads_vmem h_S120x128)
  let c16_i32_143 : BitVec 32 := 16#32
  let v282 : BitVec 32 := Scalar.muli v277 c16_i32_143
  let c0_i32_144 : BitVec 32 := 0#32
  let v283 : Index := Scalar.indexCast c0_i32_144
  let v284 : Index := Scalar.indexCast v282
  let v285_ld : Vec F S1x16 .f32 ← Prog.lift (.load arg6 (Rect.unit (s := S3x1920) (k3_off51 k3_t3) S1x16.size (k3_off51_inb k3_t3)).toLoadRect (View.loadsAt_vmem h_S1x16))
  have v285 : Vec F S16 .f32 := shapeCast S16 v285_ld shapeCasts_S1x16_S16
  Prog.lift (.store arg6 (Rect.unit (s := S3x1920) (k3_off51 k3_t3) S1x16.size (k3_off51_inb k3_t3)) (shapeCast S1x16 v281 shapeCasts_S16_S1x16) Finset.univ (View.stores_vmem_bits_univ h_S1x16 rfl) (.inl rfl))
  let v286 : Vec F S16 .f32 ← SparseCore.vectorLoadIdx arg5 ![v280, v84] (k3_idx47_inb v79 v84 v89 v280 k3_hw16) (View.loads_vmem h_S120x128)
  let c16_i32_145 : BitVec 32 := 16#32
  let v287 : BitVec 32 := Scalar.muli v277 c16_i32_145
  let c1_i32_146 : BitVec 32 := 1#32
  let v288 : Index := Scalar.indexCast c1_i32_146
  let v289 : Index := Scalar.indexCast v287
  let v290_ld : Vec F S1x16 .f32 ← Prog.lift (.load arg6 (Rect.unit (s := S3x1920) (k3_off52 k3_t3) S1x16.size (k3_off52_inb k3_t3)).toLoadRect (View.loadsAt_vmem h_S1x16))
  have v290 : Vec F S16 .f32 := shapeCast S16 v290_ld shapeCasts_S1x16_S16
  Prog.lift (.store arg6 (Rect.unit (s := S3x1920) (k3_off52 k3_t3) S1x16.size (k3_off52_inb k3_t3)) (shapeCast S1x16 v286 shapeCasts_S16_S1x16) Finset.univ (View.stores_vmem_bits_univ h_S1x16 rfl) (.inl rfl))
  let v291 : Vec F S16 .f32 ← SparseCore.vectorLoadIdx arg5 ![v280, v89] (k3_idx48_inb v79 v84 v89 v280 k3_hw16) (View.loads_vmem h_S120x128)
  let c16_i32_147 : BitVec 32 := 16#32
  let v292 : BitVec 32 := Scalar.muli v277 c16_i32_147
  let c2_i32_148 : BitVec 32 := 2#32
  let v293 : Index := Scalar.indexCast c2_i32_148
  let v294 : Index := Scalar.indexCast v292
  let v295_ld : Vec F S1x16 .f32 ← Prog.lift (.load arg6 (Rect.unit (s := S3x1920) (k3_off53 k3_t3) S1x16.size (k3_off53_inb k3_t3)).toLoadRect (View.loadsAt_vmem h_S1x16))
  have v295 : Vec F S16 .f32 := shapeCast S16 v295_ld shapeCasts_S1x16_S16
  Prog.lift (.store arg6 (Rect.unit (s := S3x1920) (k3_off53 k3_t3) S1x16.size (k3_off53_inb k3_t3)) (shapeCast S1x16 v291 shapeCasts_S16_S1x16) Finset.univ (View.stores_vmem_bits_univ h_S1x16 rfl) (.inl rfl))
  pure ⟨⟩

set_option maxHeartbeats 4000000 in
include i arg2 harg2 arg3 harg3 arg4 harg4 arg5 harg5 arg6 harg6 arg7 arg8 v136_r0 v136_r1 v108_r2 v270_r3 v270_r4 in
theorem g3_t3_trip (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2) (k3_t3 : Fin k3_t3_loop.trips)
    {defs : Defs nD τ sig (Elt F) Λ₀} {𝒱 : Variants} {bd : Option 𝒱.V} {E : Set ℕ} {d : Dev nD} {Q : PUnit → sProp 𝕄}
    {f : Buf (Elt F) (arg5.view.loc (⟨d, .scVector ((i 0).castLE hcore3) ((i 1).castLE hsub3)⟩ : Thread nD τ))}
    (hk : Strip (⟨d, .scVector ((i 0).castLE hcore3) ((i 1).castLE hsub3)⟩ : Thread nD τ) arg5 arg6 f (24 * (k3_t3.val + 1)) ⊢ Q ⟨⟩) :
    Strip (⟨d, .scVector ((i 0).castLE hcore3) ((i 1).castLE hsub3)⟩ : Thread nD τ) arg5 arg6 f (24 * k3_t3.val)
      ⊢ wp frame (wpE defs 𝒱 ⟨d, .scVector ((i 0).castLE hcore3) ((i 1).castLE hsub3)⟩ bd) E (g3_t3 i arg2 harg2 arg3 harg3 arg4 harg4 arg5 harg5 arg6 harg6 arg7 arg8 v136_r0 v136_r1 v108_r2 v270_r3 v270_r4 v79 v84 v89 k3_t3) Q := by
  have hlt : k3_t3.val < 15 := k3_t3.isLt
  unfold g3_t3 k3_part5 k3_part6 k3_part7 k3_part8
  simp only [Prog.lift, Prog.bind_op, Prog.bind_ret, Prog.pure_eq_ret, SparseCore.vectorLoadIdx]
  have hr0 := row_val k3_t3.val 0 (by omega) (by omega)
  refine assume_step (chk_of (a := 8 * k3_t3.val + 0) (by omega) hr0 h79 h84 h89) ?_
  refine strip_gather ?_
  refine strip_peek fun _ => ?_
  refine strip_put (8 * k3_t3.val + 0) 0 (n := 24 * k3_t3.val + 0) (by omega) (by omega) (by rw [Gen.k3_off30_eq]; exact vec2 rfl (by omega)) hr0 h79 ?_
  refine strip_gather ?_
  refine strip_peek fun _ => ?_
  refine strip_put (8 * k3_t3.val + 0) 1 (n := 24 * k3_t3.val + 1) (by omega) (by omega) (by rw [Gen.k3_off31_eq]; exact vec2 rfl (by omega)) hr0 h84 ?_
  refine strip_gather ?_
  refine strip_peek fun _ => ?_
  refine strip_put (8 * k3_t3.val + 0) 2 (n := 24 * k3_t3.val + 2) (by omega) (by omega) (by rw [Gen.k3_off32_eq]; exact vec2 rfl (by omega)) hr0 h89 ?_
  have hr1 := row_val k3_t3.val 1 (by omega) (by omega)
  refine assume_step (chk_of (a := 8 * k3_t3.val + 1) (by omega) hr1 h79 h84 h89) ?_
  refine strip_gather ?_
  refine strip_peek fun _ => ?_
  refine strip_put (8 * k3_t3.val + 1) 0 (n := 24 * k3_t3.val + 3) (by omega) (by omega) (by rw [Gen.k3_off33_eq]; exact vec2 rfl (by omega)) hr1 h79 ?_
  refine strip_gather ?_
  refine strip_peek fun _ => ?_
  refine strip_put (8 * k3_t3.val + 1) 1 (n := 24 * k3_t3.val + 4) (by omega) (by omega) (by rw [Gen.k3_off34_eq]; exact vec2 rfl (by omega)) hr1 h84 ?_
  refine strip_gather ?_
  refine strip_peek fun _ => ?_
  refine strip_put (8 * k3_t3.val + 1) 2 (n := 24 * k3_t3.val + 5) (by omega) (by omega) (by rw [Gen.k3_off35_eq]; exact vec2 rfl (by omega)) hr1 h89 ?_
  have hr2 := row_val k3_t3.val 2 (by omega) (by omega)
  refine assume_step (chk_of (a := 8 * k3_t3.val + 2) (by omega) hr2 h79 h84 h89) ?_
  refine strip_gather ?_
  refine strip_peek fun _ => ?_
  refine strip_put (8 * k3_t3.val + 2) 0 (n := 24 * k3_t3.val + 6) (by omega) (by omega) (by rw [Gen.k3_off36_eq]; exact vec2 rfl (by omega)) hr2 h79 ?_
  refine strip_gather ?_
  refine strip_peek fun _ => ?_
  refine strip_put (8 * k3_t3.val + 2) 1 (n := 24 * k3_t3.val + 7) (by omega) (by omega) (by rw [Gen.k3_off37_eq]; exact vec2 rfl (by omega)) hr2 h84 ?_
  refine strip_gather ?_
  refine strip_peek fun _ => ?_
  refine strip_put (8 * k3_t3.val + 2) 2 (n := 24 * k3_t3.val + 8) (by omega) (by omega) (by rw [Gen.k3_off38_eq]; exact vec2 rfl (by omega)) hr2 h89 ?_
  have hr3 := row_val k3_t3.val 3 (by omega) (by omega)
  refine assume_step (chk_of (a := 8 * k3_t3.val + 3) (by omega) hr3 h79 h84 h89) ?_
  refine strip_gather ?_
  refine strip_peek fun _ => ?_
  refine strip_put (8 * k3_t3.val + 3) 0 (n := 24 * k3_t3.val + 9) (by omega) (by omega) (by rw [Gen.k3_off39_eq]; exact vec2 rfl (by omega)) hr3 h79 ?_
  refine strip_gather ?_
  refine strip_peek fun _ => ?_
  refine strip_put (8 * k3_t3.val + 3) 1 (n := 24 * k3_t3.val + 10) (by omega) (by omega) (by rw [Gen.k3_off40_eq]; exact vec2 rfl (by omega)) hr3 h84 ?_
  refine strip_gather ?_
  refine strip_peek fun _ => ?_
  refine strip_put (8 * k3_t3.val + 3) 2 (n := 24 * k3_t3.val + 11) (by omega) (by omega) (by rw [Gen.k3_off41_eq]; exact vec2 rfl (by omega)) hr3 h89 ?_
  have hr4 := row_val k3_t3.val 4 (by omega) (by omega)
  refine assume_step (chk_of (a := 8 * k3_t3.val + 4) (by omega) hr4 h79 h84 h89) ?_
  refine strip_gather ?_
  refine strip_peek fun _ => ?_
  refine strip_put (8 * k3_t3.val + 4) 0 (n := 24 * k3_t3.val + 12) (by omega) (by omega) (by rw [Gen.k3_off42_eq]; exact vec2 rfl (by omega)) hr4 h79 ?_
  refine strip_gather ?_
  refine strip_peek fun _ => ?_
  refine strip_put (8 * k3_t3.val + 4) 1 (n := 24 * k3_t3.val + 13) (by omega) (by omega) (by rw [Gen.k3_off43_eq]; exact vec2 rfl (by omega)) hr4 h84 ?_
  refine strip_gather ?_
  refine strip_peek fun _ => ?_
  refine strip_put (8 * k3_t3.val + 4) 2 (n := 24 * k3_t3.val + 14) (by omega) (by omega) (by rw [Gen.k3_off44_eq]; exact vec2 rfl (by omega)) hr4 h89 ?_
  have hr5 := row_val k3_t3.val 5 (by omega) (by omega)
  refine assume_step (chk_of (a := 8 * k3_t3.val + 5) (by omega) hr5 h79 h84 h89) ?_
  refine strip_gather ?_
  refine strip_peek fun _ => ?_
  refine strip_put (8 * k3_t3.val + 5) 0 (n := 24 * k3_t3.val + 15) (by omega) (by omega) (by rw [Gen.k3_off45_eq]; exact vec2 rfl (by omega)) hr5 h79 ?_
  refine strip_gather ?_
  refine strip_peek fun _ => ?_
  refine strip_put (8 * k3_t3.val + 5) 1 (n := 24 * k3_t3.val + 16) (by omega) (by omega) (by rw [Gen.k3_off46_eq]; exact vec2 rfl (by omega)) hr5 h84 ?_
  refine strip_gather ?_
  refine strip_peek fun _ => ?_
  refine strip_put (8 * k3_t3.val + 5) 2 (n := 24 * k3_t3.val + 17) (by omega) (by omega) (by rw [Gen.k3_off47_eq]; exact vec2 rfl (by omega)) hr5 h89 ?_
  have hr6 := row_val k3_t3.val 6 (by omega) (by omega)
  refine assume_step (chk_of (a := 8 * k3_t3.val + 6) (by omega) hr6 h79 h84 h89) ?_
  refine strip_gather ?_
  refine strip_peek fun _ => ?_
  refine strip_put (8 * k3_t3.val + 6) 0 (n := 24 * k3_t3.val + 18) (by omega) (by omega) (by rw [Gen.k3_off48_eq]; exact vec2 rfl (by omega)) hr6 h79 ?_
  refine strip_gather ?_
  refine strip_peek fun _ => ?_
  refine strip_put (8 * k3_t3.val + 6) 1 (n := 24 * k3_t3.val + 19) (by omega) (by omega) (by rw [Gen.k3_off49_eq]; exact vec2 rfl (by omega)) hr6 h84 ?_
  refine strip_gather ?_
  refine strip_peek fun _ => ?_
  refine strip_put (8 * k3_t3.val + 6) 2 (n := 24 * k3_t3.val + 20) (by omega) (by omega) (by rw [Gen.k3_off50_eq]; exact vec2 rfl (by omega)) hr6 h89 ?_
  have hr7 := row_val k3_t3.val 7 (by omega) (by omega)
  refine assume_step (chk_of (a := 8 * k3_t3.val + 7) (by omega) hr7 h79 h84 h89) ?_
  refine strip_gather ?_
  refine strip_peek fun _ => ?_
  refine strip_put (8 * k3_t3.val + 7) 0 (n := 24 * k3_t3.val + 21) (by omega) (by omega) (by rw [Gen.k3_off51_eq]; exact vec2 rfl (by omega)) hr7 h79 ?_
  refine strip_gather ?_
  refine strip_peek fun _ => ?_
  refine strip_put (8 * k3_t3.val + 7) 1 (n := 24 * k3_t3.val + 22) (by omega) (by omega) (by rw [Gen.k3_off52_eq]; exact vec2 rfl (by omega)) hr7 h84 ?_
  refine strip_gather ?_
  refine strip_peek fun _ => ?_
  refine strip_put (8 * k3_t3.val + 7) 2 (n := 24 * k3_t3.val + 23) (by omega) (by omega) (by rw [Gen.k3_off53_eq]; exact vec2 rfl (by omega)) hr7 h89 ?_
  exact hk.trans (le_wp_ret _ _ _ _ _)

include i arg2 harg2 arg3 harg3 arg4 harg4 arg5 harg5 arg6 harg6 arg7 arg8 v136_r0 v136_r1 v108_r2 v270_r3 v270_r4 in
/-- The loop. -/
theorem g3_t3_loop (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {E : Set ℕ} {d : Dev nD} {α : Type} {Q : α → sProp 𝕄}
    {f : Buf (Elt F) (arg5.view.loc (⟨d, .scVector ((i 0).castLE hcore3) ((i 1).castLE hsub3)⟩ : Thread nD τ))}
    {kk : PUnit → Prog (TpuEff nD τ sig (Elt F) Λ₀ (.scVector ((i 0).castLE hcore3) ((i 1).castLE hsub3))) α} :
    Strip (⟨d, .scVector ((i 0).castLE hcore3) ((i 1).castLE hsub3)⟩ : Thread nD τ) arg5 arg6 f 0
      ⊢ iprop((Strip (⟨d, .scVector ((i 0).castLE hcore3) ((i 1).castLE hsub3)⟩ : Thread nD τ) arg5 arg6 f 360 -∗ wp frame (wpE defs 𝒱 ⟨d, .scVector ((i 0).castLE hcore3) ((i 1).castLE hsub3)⟩ bd) E (kk ⟨⟩) Q)
        -∗ wp frame (wpE defs 𝒱 ⟨d, .scVector ((i 0).castLE hcore3) ((i 1).castLE hsub3)⟩ bd) E (Scf.Loop.for k3_t3_loop k3_t3_ok ⟨⟩ (fun t _ => g3_t3 i arg2 harg2 arg3 harg3 arg4 harg4 arg5 harg5 arg6 harg6 arg7 arg8 v136_r0 v136_r1 v108_r2 v270_r3 v270_r4 v79 v84 v89 t) >>= kk) Q) :=
  (Scf.wp_for_bind frame (wpE defs 𝒱 ⟨d, .scVector ((i 0).castLE hcore3) ((i 1).castLE hsub3)⟩ bd) E _ _ _ k3_t3_ok ⟨⟩ (fun t _ => g3_t3 i arg2 harg2 arg3 harg3 arg4 harg4 arg5 harg5 arg6 harg6 arg7 arg8 v136_r0 v136_r1 v108_r2 v270_r3 v270_r4 v79 v84 v89 t)
    (fun k _ => Strip (⟨d, .scVector ((i 0).castLE hcore3) ((i 1).castLE hsub3)⟩ : Thread nD τ) arg5 arg6 f (24 * k))
    (fun t _ => g3_t3_trip i arg2 harg2 arg3 harg3 arg4 harg4 arg5 harg5 arg6 harg6 arg7 arg8 v136_r0 v136_r1 v108_r2 v270_r3 v270_r4 v79 v84 v89 h79 h84 h89 t (Q := fun _ => Strip (⟨d, .scVector ((i 0).castLE hcore3) ((i 1).castLE hsub3)⟩ : Thread nD τ) arg5 arg6 f (24 * (t.val + 1))) .rfl)).trans
    (wand_mono_left (forall_intro fun _ => .rfl))

end Cert.Proof.Knl
-- ==== Proof.Progs3.lean ====
/-
  A SparseCore tile's program, its group loops folded under their names.
-/
module

public import proofs.«01_k».proof.Proof.Tails3
public import proofs.«01_k».proof.Proof.Trips3
public import proofs.«01_k».proof.Proof.Copies
public import proofs.«01_k».proof.Proof.Offs

@[expose] public section

set_option Elab.async false

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid3.Coords) (arg2 : Memref sig .scVector .hbm S50000x128 .f32) (harg2 : arg2.IsWhole) (arg3 : Memref sig .scVector .hbm S3x800000 .f32) (harg3 : arg3.IsWhole) (arg4 : Memref sig .scVector .vmem S120x128 .f32) (harg4 : arg4.IsWhole) (arg5 : Memref sig .scVector .vmem S120x128 .f32) (harg5 : arg5.IsWhole) (arg6 : Memref sig .scVector .vmem S3x1920 .f32) (harg6 : arg6.IsWhole) (arg7 : DmaSems sig S_) (arg8 : DmaSems sig S_) (v136_r0 : DmaSems sig S_) (v136_r1 : DmaSems sig S_) (v108_r2 : DmaSems sig S_) (v270_r3 : DmaSems sig S_) (v270_r4 : DmaSems sig S_)

set_option cleanup.letToHave false in
include i arg2 harg2 arg3 harg3 arg4 harg4 arg5 harg5 arg6 harg6 arg7 arg8 v136_r0 v136_r1 v108_r2 v270_r3 v270_r4 in
/-- The first half of a trip of the loop over the pairs of blocks. -/
def p3_9 (v37 : BitVec 32) (v79 : IVec S16 32) (v84 : IVec S16 32) (v89 : IVec S16 32) (c0_i32_39 : BitVec 32) (c1_i32_40 : BitVec 32) (k3_t1 : Fin k3_t1_loop.trips) :
    Prog (TpuEff nD τ sig (Elt F) Λ₀ (.scVector ((i 0).castLE hcore3) ((i 1).castLE hsub3))) (Σ' (v123 : BitVec 32), BitVec 32) := do
  let arg9 : BitVec 32 := Scf.iv c0_i32_39 c1_i32_40 k3_t1
  let v113 : Memref sig .scVector .hbm S120x128 .f32 := arg2.slice (Rect.unit (s := S50000x128) (k3_off2 i k3_t1) S120x128.size (k3_off2_inb i k3_t1)) (fun _ => rfl)
  Prog.lift (.waitDma2 arg7.sem v113 arg4 (View.wordExact_bits rfl) harg4.wordExact)
  Scf.Loop.for k3_t2_loop k3_t2_ok ⟨⟩ (fun t _ => g3_t2 i arg2 harg2 arg3 harg3 arg4 harg4 arg5 harg5 arg6 harg6 arg7 arg8 v136_r0 v136_r1 v108_r2 v270_r3 v270_r4 v79 v84 v89 t)
  let v139_r0 : Memref sig .scVector .hbm S3x1920 .f32 := arg3.slice (Rect.unit (s := S3x800000) (k3_off27 i k3_t1 0#32) S3x1920.size (k3_off27_inb i k3_t1 0)) (fun _ => rfl)
  let v140_r0 : Memref sig .scVector .vmem S3x1920 .f32 := arg6.slice (Rect.unit (s := S3x1920) ![0, 0] S3x1920.size inb_S3x1920_S3x1920_0_0) (fun _ => rfl)
  Prog.lift (.enqueueDma v140_r0 (.here v139_r0) (.dma v136_r0.sem) (View.wordExact_bits rfl) (View.wordExact_bits rfl) ⟨Or.inl rfl, trivial⟩)
  let v143_r0 : Memref sig .scVector .hbm S3x1920 .f32 := arg3.slice (Rect.unit (s := S3x800000) (k3_off27 i k3_t1 0#32) S3x1920.size (k3_off27_inb i k3_t1 0)) (fun _ => rfl)
  let v144_r0 : Memref sig .scVector .vmem S3x1920 .f32 := arg6.slice (Rect.unit (s := S3x1920) ![0, 0] S3x1920.size inb_S3x1920_S3x1920_0_0) (fun _ => rfl)
  Prog.lift (.waitDma2 v136_r0.sem v144_r0 v143_r0 (View.wordExact_bits rfl) (View.wordExact_bits rfl))
  if k3_h1 : k3_cond1 k3_t1 = 1#1 then do
    let v140 : Memref sig .scVector .hbm S120x128 .f32 := arg2.slice (Rect.unit (s := S50000x128) (k3_off28 i k3_t1) S120x128.size (k3_off28_inb i k3_t1 k3_h1)) (fun _ => rfl)
    Prog.lift (.enqueueDma v140 (.here arg4) (.dma arg7.sem) (View.wordExact_bits rfl) harg4.wordExact ⟨Or.inl rfl, trivial⟩)
    pure ⟨⟩
  else do
    pure ⟨⟩
  let c2_i32_65 : BitVec 32 := 2#32
  let v122 : BitVec 32 := Scalar.muli arg9 c2_i32_65
  let c1_i32_66 : BitVec 32 := 1#32
  let v123 : BitVec 32 := Scalar.addi v122 c1_i32_66
  let c120_i32_67 : BitVec 32 := 120#32
  pure ⟨v123, c120_i32_67⟩

set_option cleanup.letToHave false in
include i arg2 harg2 arg3 harg3 arg4 harg4 arg5 harg5 arg6 harg6 arg7 arg8 v136_r0 v136_r1 v108_r2 v270_r3 v270_r4 in
theorem p3_9_eq (v37 : BitVec 32) (v79 : IVec S16 32) (v84 : IVec S16 32) (v89 : IVec S16 32) (c0_i32_39 : BitVec 32) (c1_i32_40 : BitVec 32) (k3_t1 : Fin k3_t1_loop.trips) :
    k3_part9 (F := F) i arg2 harg2 arg3 harg3 arg4 harg4 arg5 harg5 arg6 harg6 arg7 arg8 v136_r0 v136_r1 v108_r2 v270_r3 v270_r4 v37 v79 v84 v89 c0_i32_39 c1_i32_40 k3_t1 = p3_9 (F := F) i arg2 harg2 arg3 harg3 arg4 harg4 arg5 harg5 arg6 harg6 arg7 arg8 v136_r0 v136_r1 v108_r2 v270_r3 v270_r4 v37 v79 v84 v89 c0_i32_39 c1_i32_40 k3_t1 := rfl

set_option cleanup.letToHave false in
include i arg2 harg2 arg3 harg3 arg4 harg4 arg5 harg5 arg6 harg6 arg7 arg8 v136_r0 v136_r1 v108_r2 v270_r3 v270_r4 in
/-- One trip of the loop over the pairs of blocks. -/
def pair3 (v37 : BitVec 32) (v79 v84 v89 : IVec S16 32) (k3_t1 : Fin k3_t1_loop.trips) :
    Prog (TpuEff nD τ sig (Elt F) Λ₀ (.scVector ((i 0).castLE hcore3) ((i 1).castLE hsub3))) PUnit := do
  let ⟨v123, c120_i32_67⟩ : Σ' (v123 : BitVec 32), BitVec 32 ← p3_9 i arg2 harg2 arg3 harg3 arg4 harg4 arg5 harg5 arg6 harg6 arg7 arg8 v136_r0 v136_r1 v108_r2 v270_r3 v270_r4 v37 v79 v84 v89 0#32 1#32 k3_t1
  let v127 : Memref sig .scVector .hbm S120x128 .f32 := arg2.slice (Rect.unit (s := S50000x128) (k3_off29 i k3_t1) S120x128.size (k3_off29_inb i k3_t1)) (fun _ => rfl)
  Prog.lift (.waitDma2 arg8.sem v127 arg5 (View.wordExact_bits rfl) harg5.wordExact)
  Scf.Loop.for k3_t3_loop k3_t3_ok ⟨⟩ (fun t _ => g3_t3 i arg2 harg2 arg3 harg3 arg4 harg4 arg5 harg5 arg6 harg6 arg7 arg8 v136_r0 v136_r1 v108_r2 v270_r3 v270_r4 v79 v84 v89 t)
  let v139_r1 : Memref sig .scVector .hbm S3x1920 .f32 := arg3.slice (Rect.unit (s := S3x800000) (k3_off27 i k3_t1 1#32) S3x1920.size (k3_off27_inb i k3_t1 1)) (fun _ => rfl)
  let v140_r1 : Memref sig .scVector .vmem S3x1920 .f32 := arg6.slice (Rect.unit (s := S3x1920) ![0, 0] S3x1920.size inb_S3x1920_S3x1920_0_0) (fun _ => rfl)
  Prog.lift (.enqueueDma v140_r1 (.here v139_r1) (.dma v136_r1.sem) (View.wordExact_bits rfl) (View.wordExact_bits rfl) ⟨Or.inl rfl, trivial⟩)
  let v143_r1 : Memref sig .scVector .hbm S3x1920 .f32 := arg3.slice (Rect.unit (s := S3x800000) (k3_off27 i k3_t1 1#32) S3x1920.size (k3_off27_inb i k3_t1 1)) (fun _ => rfl)
  let v144_r1 : Memref sig .scVector .vmem S3x1920 .f32 := arg6.slice (Rect.unit (s := S3x1920) ![0, 0] S3x1920.size inb_S3x1920_S3x1920_0_0) (fun _ => rfl)
  Prog.lift (.waitDma2 v136_r1.sem v144_r1 v143_r1 (View.wordExact_bits rfl) (View.wordExact_bits rfl))
  if k3_h2 : k3_cond2 k3_t1 = 1#1 then do
    let v140 : Memref sig .scVector .hbm S120x128 .f32 := arg2.slice (Rect.unit (s := S50000x128) (k3_off54 i k3_t1) S120x128.size (k3_off54_inb i k3_t1 k3_h2)) (fun _ => rfl)
    Prog.lift (.enqueueDma v140 (.here arg5) (.dma arg8.sem) (View.wordExact_bits rfl) harg5.wordExact ⟨Or.inl rfl, trivial⟩)
    pure ⟨⟩
  else do
    pure ⟨⟩
  pure ⟨⟩

set_option cleanup.letToHave false in
include i arg2 harg2 arg3 harg3 arg4 harg4 arg5 harg5 arg6 harg6 arg7 arg8 v136_r0 v136_r1 v108_r2 v270_r3 v270_r4 in
/-- The blocks, up to the last. -/
def p3_m (v37 : BitVec 32) (v79 : IVec S16 32) (v80 : IVec S16 32) (c3_i32_29 : BitVec 32) :
    Prog (TpuEff nD τ sig (Elt F) Λ₀ (.scVector ((i 0).castLE hcore3) ((i 1).castLE hsub3))) (Σ' (v84 : IVec S16 32), IVec S16 32) := do
  have v81 : IVec S16 32 := broadcast S16 c3_i32_29
  have v82 : IVec S16 32 := muli v81 v80
  let c1_i32_30 : BitVec 32 := 1#32
  have v83 : IVec S16 32 := broadcast S16 c1_i32_30
  have v84 : IVec S16 32 := addi v82 v83
  have v85 : IVec S16 32 := iota .scVector S16 32 [0] iota_S16_d0_w32_scVector
  let c3_i32_31 : BitVec 32 := 3#32
  have v86 : IVec S16 32 := broadcast S16 c3_i32_31
  have v87 : IVec S16 32 := muli v86 v85
  let c2_i32_32 : BitVec 32 := 2#32
  have v88 : IVec S16 32 := broadcast S16 c2_i32_32
  have v89 : IVec S16 32 := addi v87 v88
  let v92 : Memref sig .scVector .hbm S120x128 .f32 := arg2.slice (Rect.unit (s := S50000x128) (k3_off1 i 0#32) S120x128.size (k3_off1_inb i 0)) (fun _ => rfl)
  Prog.lift (.enqueueDma v92 (.here arg4) (.dma arg7.sem) (View.wordExact_bits rfl) harg4.wordExact ⟨Or.inl rfl, trivial⟩)
  let v95 : Memref sig .scVector .hbm S120x128 .f32 := arg2.slice (Rect.unit (s := S50000x128) (k3_off1 i 120#32) S120x128.size (k3_off1_inb i 1)) (fun _ => rfl)
  Prog.lift (.enqueueDma v95 (.here arg5) (.dma arg8.sem) (View.wordExact_bits rfl) harg5.wordExact ⟨Or.inl rfl, trivial⟩)
  Scf.Loop.for k3_t1_loop k3_t1_ok ⟨⟩ (fun t _ => pair3 i arg2 harg2 arg3 harg3 arg4 harg4 arg5 harg5 arg6 harg6 arg7 arg8 v136_r0 v136_r1 v108_r2 v270_r3 v270_r4 v37 v79 v84 v89 t)
  let v99 : Memref sig .scVector .hbm S120x128 .f32 := arg2.slice (Rect.unit (s := S50000x128) (k3_off55 i) S120x128.size (k3_off55_inb i)) (fun _ => rfl)
  Prog.lift (.waitDma2 arg7.sem v99 arg4 (View.wordExact_bits rfl) harg4.wordExact)
  Scf.Loop.for k3_t4_loop k3_t4_ok ⟨⟩ (fun t _ => g3_t4 i arg2 harg2 arg3 harg3 arg4 harg4 arg5 harg5 arg6 harg6 arg7 arg8 v136_r0 v136_r1 v108_r2 v270_r3 v270_r4 v79 v84 v89 t)
  pure ⟨v84, v89⟩

set_option cleanup.letToHave false in
include i arg2 harg2 arg3 harg3 arg4 harg4 arg5 harg5 arg6 harg6 arg7 arg8 v136_r0 v136_r1 v108_r2 v270_r3 v270_r4 in
theorem p3_m_eq (v37 : BitVec 32) (v79 : IVec S16 32) (v80 : IVec S16 32) (c3_i32_29 : BitVec 32)  :
    k3_part21 (F := F) i arg2 harg2 arg3 harg3 arg4 harg4 arg5 harg5 arg6 harg6 arg7 arg8 v136_r0 v136_r1 v108_r2 v270_r3 v270_r4 v37 v79 v80 c3_i32_29 = p3_m (F := F) i arg2 harg2 arg3 harg3 arg4 harg4 arg5 harg5 arg6 harg6 arg7 arg8 v136_r0 v136_r1 v108_r2 v270_r3 v270_r4 v37 v79 v80 c3_i32_29 := rfl

set_option cleanup.letToHave false in
include i arg2 harg2 arg3 harg3 arg4 harg4 arg5 harg5 arg6 harg6 arg7 arg8 v136_r0 v136_r1 v108_r2 v270_r3 v270_r4 in
/-- The last eight rows. -/
def tail3 (v37 : BitVec 32) (v79 v84 v89 : IVec S16 32) (k3_h3 : k3_cond3 i = 1#1) :
    Prog (TpuEff nD τ sig (Elt F) Λ₀ (.scVector ((i 0).castLE hcore3) ((i 1).castLE hsub3))) PUnit := do
  let ⟨v108, c0_i32_53, v124, v128_ld⟩ : Σ' (v108 : BitVec 32) (c0_i32_53 : BitVec 32) (v124 : Vec F S16 .f32), Vec F S1x16 .f32 ← k3_part14 i arg2 harg2 arg3 harg3 arg4 harg4 arg5 harg5 arg6 harg6 arg7 arg8 v136_r0 v136_r1 v108_r2 v270_r3 v270_r4 v37 v79 v84 v89 k3_h3
  let ⟨v150, v153, k3_hw27, v159, v160, c1_i32_78⟩ : Σ' (v150 : BitVec 32) (v153 : IVec S16 32) (k3_hw27 : k3_chk27 i v79 v84 v89 v153) (v159 : Vec F S16 .f32) (v160 : BitVec 32), BitVec 32 ← k3_part15 i arg2 harg2 arg3 harg3 arg4 harg4 arg5 harg5 arg6 harg6 arg7 arg8 v136_r0 v136_r1 v108_r2 v270_r3 v270_r4 v79 v84 v89 k3_h3 c0_i32_53 v124 v128_ld
  let ⟨v190, v193, k3_hw29, v194⟩ : Σ' (v190 : BitVec 32) (v193 : IVec S16 32) (k3_hw29 : k3_chk29 i v79 v84 v89 v193), Vec F S16 .f32 ← k3_part16 i arg2 harg2 arg3 harg3 arg4 harg4 arg5 harg5 arg6 harg6 arg7 arg8 v136_r0 v136_r1 v108_r2 v270_r3 v270_r4 v79 v84 v89 k3_h3 c0_i32_53 v150 v153 k3_hw27 v159 v160 c1_i32_78
  let ⟨v224, v228_ld⟩ : Σ' (v224 : Vec F S16 .f32), Vec F S1x16 .f32 ← k3_part17 i arg2 harg2 arg3 harg3 arg4 harg4 arg5 harg5 arg6 harg6 arg7 arg8 v136_r0 v136_r1 v108_r2 v270_r3 v270_r4 v79 v84 v89 k3_h3 c0_i32_53 v190 v193 k3_hw29 v194
  let ⟨v250, v253, k3_hw32, v259, v260, c1_i32_120⟩ : Σ' (v250 : BitVec 32) (v253 : IVec S16 32) (k3_hw32 : k3_chk32 i v79 v84 v89 v253) (v259 : Vec F S16 .f32) (v260 : BitVec 32), BitVec 32 ← k3_part18 i arg2 harg2 arg3 harg3 arg4 harg4 arg5 harg5 arg6 harg6 arg7 arg8 v136_r0 v136_r1 v108_r2 v270_r3 v270_r4 v79 v84 v89 k3_h3 c0_i32_53 v224 v228_ld
  let v263_ld : Vec F S1x16 .f32 ← Prog.lift (.load arg6 (Rect.unit (s := S3x1920) k3_off104 S1x16.size (k3_off104_inb i k3_h3)).toLoadRect (View.loadsAt_vmem h_S1x16))
  have v263 : Vec F S16 .f32 := shapeCast S16 v263_ld shapeCasts_S1x16_S16
  Prog.lift (.store arg6 (Rect.unit (s := S3x1920) k3_off104 S1x16.size (k3_off104_inb i k3_h3)) (shapeCast S1x16 v259 shapeCasts_S16_S1x16) Finset.univ (View.stores_vmem_bits_univ h_S1x16 rfl) (.inl rfl))
  let v264 : Vec F S16 .f32 ← SparseCore.vectorLoadIdx arg5 ![v253, v89] (k3_idx96_inb i v79 v84 v89 v253 k3_hw32 k3_h3) (View.loads_vmem h_S120x128)
  let v268_ld : Vec F S1x16 .f32 ← Prog.lift (.load arg6 (Rect.unit (s := S3x1920) k3_off105 S1x16.size (k3_off105_inb i k3_h3)).toLoadRect (View.loadsAt_vmem h_S1x16))
  have v268 : Vec F S16 .f32 := shapeCast S16 v268_ld shapeCasts_S1x16_S16
  Prog.lift (.store arg6 (Rect.unit (s := S3x1920) k3_off105 S1x16.size (k3_off105_inb i k3_h3)) (shapeCast S1x16 v264 shapeCasts_S16_S1x16) Finset.univ (View.stores_vmem_bits_univ h_S1x16 rfl) (.inl rfl))
  let v273_r4 : Memref sig .scVector .hbm S3x128 .f32 := arg3.slice (Rect.unit (s := S3x800000) (k3_off106 i) S3x128.size (k3_off106_inb i k3_h3)) (fun _ => rfl)
  let v274_r4 : Memref sig .scVector .vmem S3x128 .f32 := arg6.slice (Rect.unit (s := S3x1920) ![0, 0] S3x128.size inb_S3x1920_S3x128_0_0) (fun _ => rfl)
  Prog.lift (.enqueueDma v274_r4 (.here v273_r4) (.dma v270_r4.sem) (View.wordExact_bits rfl) (View.wordExact_bits rfl) ⟨Or.inl rfl, trivial⟩)
  let v277_r4 : Memref sig .scVector .hbm S3x128 .f32 := arg3.slice (Rect.unit (s := S3x800000) (k3_off106 i) S3x128.size (k3_off106_inb i k3_h3)) (fun _ => rfl)
  let v278_r4 : Memref sig .scVector .vmem S3x128 .f32 := arg6.slice (Rect.unit (s := S3x1920) ![0, 0] S3x128.size inb_S3x1920_S3x128_0_0) (fun _ => rfl)
  Prog.lift (.waitDma2 v270_r4.sem v278_r4 v277_r4 (View.wordExact_bits rfl) (View.wordExact_bits rfl))
  pure ⟨⟩

set_option cleanup.letToHave false in
include i arg2 harg2 arg3 harg3 arg4 harg4 arg5 harg5 arg6 harg6 arg7 arg8 v136_r0 v136_r1 v108_r2 v270_r3 v270_r4 in
/-- The tile's program. -/
def b3 :
    Prog (TpuEff nD τ sig (Elt F) Λ₀ (.scVector ((i 0).castLE hcore3) ((i 1).castLE hsub3))) PUnit := do
  let ⟨v37, v38, c50000_i32_12⟩ : Σ' (v37 : BitVec 32) (v38 : BitVec 32), BitVec 32 ← k3_part19 i arg2 harg2 arg3 harg3 arg4 harg4 arg5 harg5 arg6 harg6 arg7 arg8 v136_r0 v136_r1 v108_r2 v270_r3 v270_r4
  let ⟨v74, v79, v80, c3_i32_29⟩ : Σ' (v74 : BitVec 32) (v79 : IVec S16 32) (v80 : IVec S16 32), BitVec 32 ← k3_part20 i arg2 harg2 arg3 harg3 arg4 harg4 arg5 harg5 arg6 harg6 arg7 arg8 v136_r0 v136_r1 v108_r2 v270_r3 v270_r4 v38 c50000_i32_12
  let ⟨v84, v89⟩ : Σ' (v84 : IVec S16 32), IVec S16 32 ← p3_m i arg2 harg2 arg3 harg3 arg4 harg4 arg5 harg5 arg6 harg6 arg7 arg8 v136_r0 v136_r1 v108_r2 v270_r3 v270_r4 v37 v79 v80 c3_i32_29
  let v112_r2 : Memref sig .scVector .vmem S3x1920 .f32 := arg6.slice (Rect.unit (s := S3x1920) ![0, 0] S3x1920.size inb_S3x1920_S3x1920_0_0) (fun _ => rfl)
  let v111_r2 : Memref sig .scVector .hbm S3x1920 .f32 := arg3.slice (Rect.unit (s := S3x800000) (k3_off80 i) S3x1920.size (k3_off80_inb i)) (fun _ => rfl)
  Prog.lift (.enqueueDma v112_r2 (.here v111_r2) (.dma v108_r2.sem) (View.wordExact_bits rfl) (View.wordExact_bits rfl) ⟨Or.inl rfl, trivial⟩)
  let v115_r2 : Memref sig .scVector .hbm S3x1920 .f32 := arg3.slice (Rect.unit (s := S3x800000) (k3_off80 i) S3x1920.size (k3_off80_inb i)) (fun _ => rfl)
  let v116_r2 : Memref sig .scVector .vmem S3x1920 .f32 := arg6.slice (Rect.unit (s := S3x1920) ![0, 0] S3x1920.size inb_S3x1920_S3x1920_0_0) (fun _ => rfl)
  Prog.lift (.waitDma2 v108_r2.sem v116_r2 v115_r2 (View.wordExact_bits rfl) (View.wordExact_bits rfl))
  if h : k3_cond3 i = 1#1 then tail3 i arg2 harg2 arg3 harg3 arg4 harg4 arg5 harg5 arg6 harg6 arg7 arg8 v136_r0 v136_r1 v108_r2 v270_r3 v270_r4 v37 v79 v84 v89 h else pure ⟨⟩
  pure ⟨⟩

set_option cleanup.letToHave false in
include i arg2 harg2 arg3 harg3 arg4 harg4 arg5 harg5 arg6 harg6 arg7 arg8 v136_r0 v136_r1 v108_r2 v270_r3 v270_r4 in
theorem b3_eq :
    cc3__sc_half1_body (F := F) i arg2 harg2 arg3 harg3 arg4 harg4 arg5 harg5 arg6 harg6 arg7 arg8 v136_r0 v136_r1 v108_r2 v270_r3 v270_r4 = b3 (F := F) i arg2 harg2 arg3 harg3 arg4 harg4 arg5 harg5 arg6 harg6 arg7 arg8 v136_r0 v136_r1 v108_r2 v270_r3 v270_r4 := by
  rfl

end Cert.Proof.Knl
-- ==== Proof.Runs3.lean ====
/-
  A SparseCore tile's run.
-/
module

public import proofs.«01_k».proof.Proof.Progs3
public import proofs.«01_k».proof.Proof.Runs1
public import proofs.«01_k».proof.Proof.Copies
public import proofs.«01_k».proof.Proof.Offs

@[expose] public section

set_option Elab.async false
set_option maxHeartbeats 4000000

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ
variable (i : grid3.Coords) (arg2 : Memref sig .scVector .hbm S50000x128 .f32) (harg2 : arg2.IsWhole) (arg3 : Memref sig .scVector .hbm S3x800000 .f32) (harg3 : arg3.IsWhole) (arg4 : Memref sig .scVector .vmem S120x128 .f32) (harg4 : arg4.IsWhole) (arg5 : Memref sig .scVector .vmem S120x128 .f32) (harg5 : arg5.IsWhole) (arg6 : Memref sig .scVector .vmem S3x1920 .f32) (harg6 : arg6.IsWhole) (arg7 : DmaSems sig S_) (arg8 : DmaSems sig S_) (v136_r0 : DmaSems sig S_) (v136_r1 : DmaSems sig S_) (v108_r2 : DmaSems sig S_) (v270_r3 : DmaSems sig S_) (v270_r4 : DmaSems sig S_)

include i arg2 harg2 arg3 harg3 arg4 harg4 arg5 harg5 arg6 harg6 arg7 arg8 v136_r0 v136_r1 v108_r2 v270_r3 v270_r4 in
theorem pair3_run (v37 : BitVec 32) (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {s e : ℕ} {O : CellTallies nD τ sig (HIx 2)} {W : Waits sig (HIx 2)} (hs : s = fstRow (k3_wid i)) (he : s + 1560 ≤ e) (t : Fin k3_t1_loop.trips) :
    Pair (⟨d, .scVector ((i 0).castLE hcore3) ((i 1).castLE hsub3)⟩ : Thread nD τ) arg2 arg4 arg5 arg6 arg3 arg7.sem arg8.sem v136_r0.sem v136_r1.sem A qA qB s e O W (t.val)
      ⊢ wp frame (wpE defs 𝒱 (⟨d, .scVector ((i 0).castLE hcore3) ((i 1).castLE hsub3)⟩ : Thread nD τ) bd) Set.univ (pair3 i arg2 harg2 arg3 harg3 arg4 harg4 arg5 harg5 arg6 harg6 arg7 arg8 v136_r0 v136_r1 v108_r2 v270_r3 v270_r4 v37 v79 v84 v89 t) (fun _ => Pair (⟨d, .scVector ((i 0).castLE hcore3) ((i 1).castLE hsub3)⟩ : Thread nD τ) arg2 arg4 arg5 arg6 arg3 arg7.sem arg8.sem v136_r0.sem v136_r1.sem A qA qB s e O W (t.val + 1)) := by
  have ht : t.val < 6 := k3_trips1 ▸ t.isLt
  unfold pair3 p3_9
  simp only [Prog.lift, Prog.bind_op, Prog.bind_ret, Prog.pure_eq_ret, Prog.bind_assoc, dif_pos (k3_cond1_eq t)]
  unfold Pair
  iintro ⟨HA, HB, Ho, Hc, H0, H1, HO⟩
  iapply (copy_wait (N := arg4.view.amount (.dma arg7.sem)) rfl) $$ [HA HO]
  · isplitl [HA]; · iexact HA
    iexact HO
  iintro ⟨⟨HS, HTA⟩, HvA, HO⟩
  ihave Hs := staged_strip $$ [HS Ho]
  · isplitl [HS]; · iexact HS
    iexact Ho
  icases Hs with ⟨%f, %hf, Hs⟩
  iapply (g3_t2_loop i arg2 harg2 arg3 harg3 arg4 harg4 arg5 harg5 arg6 harg6 arg7 arg8 v136_r0 v136_r1 v108_r2 v270_r3 v270_r4 v79 v84 v89 h79 h84 h89) $$ Hs
  iintro Hs
  ihave Hr := (strip_ready (k := 120) (by omega) hf) $$ Hs
  clear hf
  icases Hr with ⟨Hb, Hr⟩
  iapply (strip_out120 (lo := s) (hi := e) (r := s + 240 * t.val) (by omega) (by omega) (by rw [hs]; exact k3_off27_eq i t)) $$ [Hr Hc H0 HO]
  · isplitl [Hr]; · iexact Hr
    isplitl [Hc]; · iexact Hc
    isplitl [H0]; · iexact H0
    iexact HO
  iintro ⟨⟨Ho, Hc⟩, H0, HO⟩
  iapply (rows_start (hs ▸ k3_off28_eq i t)) $$ [HTA Hb HvA]
  · isplitl [HTA]; · iexact HTA
    isplitl [Hb]; · iexact Hb
    iexact HvA
  iintro HA
  icases HB with (⟨%hB, HB⟩ | ⟨%hB, _⟩)
  rotate_left
  · exact absurd hB (by omega)
  ihave Hc := (cols_at (show s + 240 * t.val + 120 = s + (240 * t.val + 120) by omega)) $$ Hc
  iapply (copy_wait (N := arg5.view.amount (.dma arg8.sem)) rfl) $$ [HB HO]
  · isplitl [HB]; · iexact HB
    iexact HO
  iintro ⟨⟨HS, HTB⟩, HvB, HO⟩
  ihave Hs := staged_strip $$ [HS Ho]
  · isplitl [HS]; · iexact HS
    iexact Ho
  icases Hs with ⟨%f, %hf, Hs⟩
  iapply (g3_t3_loop i arg2 harg2 arg3 harg3 arg4 harg4 arg5 harg5 arg6 harg6 arg7 arg8 v136_r0 v136_r1 v108_r2 v270_r3 v270_r4 v79 v84 v89 h79 h84 h89) $$ Hs
  iintro Hs
  ihave Hr := (strip_ready (k := 120) (by omega) hf) $$ Hs
  clear hf
  icases Hr with ⟨Hb, Hr⟩
  iapply (strip_out120 (lo := s) (hi := e) (r := s + (240 * t.val + 120)) (by omega) (by omega) (hs ▸ k3_off27_eq' i t)) $$ [Hr Hc H1 HO]
  · isplitl [Hr]; · iexact Hr
    isplitl [Hc]; · iexact Hc
    isplitl [H1]; · iexact H1
    iexact HO
  iintro ⟨⟨Ho, Hc⟩, H1, HO⟩
  ihave Hc := (cols_at (show s + (240 * t.val + 120) + 120 = s + 240 * (t.val + 1) by omega)) $$ Hc
  ihave HA := (fly_at (show s + (240 * t.val + 240) = s + 240 * (t.val + 1) by omega)) $$ HA
  by_cases h2 : t.val < 5
  · simp only [dif_pos ((k3_cond2_eq t).mpr h2), Prog.bind_op, Prog.bind_ret]
    iapply (rows_start (hs ▸ k3_off54_eq i t)) $$ [HTB Hb HvB]
    · isplitl [HTB]; · iexact HTB
      isplitl [Hb]; · iexact Hb
      iexact HvB
    iintro HB
    ihave HB := (fly_at (show s + (240 * t.val + 360) = s + (240 * (t.val + 1) + 120) by omega)) $$ HB
    iapply le_wp_ret
    isplitl [HA]; · iexact HA
    isplitl [HB]
    · ileft
      isplitr; · ipureintro; omega
      iexact HB
    isplitl [Ho]; · iexact Ho
    isplitl [Hc]; · iexact Hc
    isplitl [H0]; · iexact H0
    isplitl [H1]; · iexact H1
    iexact HO
  · simp only [dif_neg (fun h => h2 ((k3_cond2_eq t).mp h)), Prog.bind_ret]
    iapply le_wp_ret
    isplitl [HA]; · iexact HA
    isplitl [Hb HTB HvB]
    · iright
      isplitr; · ipureintro; omega
      isplitl [Hb]; · iexact Hb
      isplitl [HTB]; · iexact HTB
      iexact HvB
    isplitl [Ho]; · iexact Ho
    isplitl [Hc]; · iexact Hc
    isplitl [H0]; · iexact H0
    isplitl [H1]; · iexact H1
    iexact HO
include i arg2 harg2 arg3 harg3 arg4 harg4 arg5 harg5 arg6 harg6 arg7 arg8 v136_r0 v136_r1 v108_r2 v270_r3 v270_r4 in
def last3 (v37 : BitVec 32) (v79 v84 v89 : IVec S16 32) (h : k3_cond3 i = 1#1) :
    Prog (TpuEff nD τ sig (Elt F) Λ₀ (.scVector ((i 0).castLE hcore3) ((i 1).castLE hsub3))) PUnit := do
  Prog.lift (.enqueueDma (arg2.slice (Rect.unit (s := S50000x128) (k3_off81 i) S8x128.size (k3_off81_inb i h)) (fun _ => rfl)) (.here (arg5.slice (Rect.unit (s := S120x128) ![0, 0] S8x128.size inb_S120x128_S8x128_0_0) (fun _ => rfl))) (.dma v270_r3.sem) (View.wordExact_bits rfl) (View.wordExact_bits rfl) ⟨Or.inl rfl, trivial⟩)
  Prog.lift (.waitDma2 v270_r3.sem (arg2.slice (Rect.unit (s := S50000x128) (k3_off81 i) S8x128.size (k3_off81_inb i h)) (fun _ => rfl)) (arg5.slice (Rect.unit (s := S120x128) ![0, 0] S8x128.size inb_S120x128_S8x128_0_0) (fun _ => rfl)) (View.wordExact_bits rfl) (View.wordExact_bits rfl))
  g3_tl i arg2 harg2 arg3 harg3 arg4 harg4 arg5 harg5 arg6 harg6 arg7 arg8 v136_r0 v136_r1 v108_r2 v270_r3 v270_r4 v37 v79 v84 v89 h
  Prog.lift (.enqueueDma (arg6.slice (Rect.unit (s := S3x1920) ![0, 0] S3x128.size inb_S3x1920_S3x128_0_0) (fun _ => rfl)) (.here (arg3.slice (Rect.unit (s := S3x800000) (k3_off106 i) S3x128.size (k3_off106_inb i h)) (fun _ => rfl))) (.dma v270_r4.sem) (View.wordExact_bits rfl) (View.wordExact_bits rfl) ⟨Or.inl rfl, trivial⟩)
  Prog.lift (.waitDma2 v270_r4.sem (arg6.slice (Rect.unit (s := S3x1920) ![0, 0] S3x128.size inb_S3x1920_S3x128_0_0) (fun _ => rfl)) (arg3.slice (Rect.unit (s := S3x800000) (k3_off106 i) S3x128.size (k3_off106_inb i h)) (fun _ => rfl)) (View.wordExact_bits rfl) (View.wordExact_bits rfl))
  pure ⟨⟩

set_option maxRecDepth 4000 in
include i arg2 harg2 arg3 harg3 arg4 harg4 arg5 harg5 arg6 harg6 arg7 arg8 v136_r0 v136_r1 v108_r2 v270_r3 v270_r4 in
theorem last3_eq (v37 : BitVec 32) (v79 v84 v89 : IVec S16 32) (h : k3_cond3 i = 1#1) :
    tail3 (F := F) i arg2 harg2 arg3 harg3 arg4 harg4 arg5 harg5 arg6 harg6 arg7 arg8 v136_r0 v136_r1 v108_r2 v270_r3 v270_r4 v37 v79 v84 v89 h = last3 (F := F) i arg2 harg2 arg3 harg3 arg4 harg4 arg5 harg5 arg6 harg6 arg7 arg8 v136_r0 v136_r1 v108_r2 v270_r3 v270_r4 v37 v79 v84 v89 h := by
  unfold tail3 last3 g3_tl k3_part14 k3_part15 k3_part16 k3_part17 k3_part18
  simp only [Prog.lift, Prog.bind_op, Prog.bind_ret, Prog.pure_eq_ret, Prog.bind_assoc, SparseCore.vectorLoadIdx]
  rfl
include i arg2 harg2 arg3 harg3 arg4 harg4 arg5 harg5 arg6 harg6 arg7 arg8 v136_r0 v136_r1 v108_r2 v270_r3 v270_r4 in
theorem last3_run (v37 : BitVec 32) (v79 v84 v89 : IVec S16 32) (h : k3_cond3 i = 1#1)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {s e : ℕ} {O : CellTallies nD τ sig (HIx 2)} {W : Waits sig (HIx 2)} (hs : s = fstRow (k3_wid i)) (he : s + 1568 ≤ e) :
    iprop(Tab (⟨d, .scVector ((i 0).castLE hcore3) ((i 1).castLE hsub3)⟩ : Thread nD τ) arg2 qA A ∗ (∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A s e (s + 1560)
        ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W)
      ⊢ wp frame (wpE defs 𝒱 (⟨d, .scVector ((i 0).castLE hcore3) ((i 1).castLE hsub3)⟩ : Thread nD τ) bd) Set.univ (tail3 i arg2 harg2 arg3 harg3 arg4 harg4 arg5 harg5 arg6 harg6 arg7 arg8 v136_r0 v136_r1 v108_r2 v270_r3 v270_r4 v37 v79 v84 v89 h) (fun _ => iprop((∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A s e (s + 1568) ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W)) := by
  rw [last3_eq]
  unfold last3
  simp only [Prog.lift, Prog.bind_op, Prog.bind_ret, Prog.pure_eq_ret, Prog.bind_assoc]
  iintro ⟨HT, Hb, Ho, Hc, H3, H4, HO⟩
  iapply (rows_tail (r := s + 1560) (hs ▸ k3_off81_eq i)) $$ [HT Hb H3 HO]
  · isplitl [HT]; · iexact HT
    isplitl [Hb]; · iexact Hb
    isplitl [H3]; · iexact H3
    iexact HO
  iintro ⟨⟨HS, HT⟩, H3, HO⟩
  ihave Hs := staged_strip $$ [HS Ho]
  · isplitl [HS]; · iexact HS
    iexact Ho
  icases Hs with ⟨%f, %hf, Hs⟩
  iapply (BIBase.Entails.of_eq (wp_bind ..).symm)
  iapply (wp_wand frame _ _ (Q := fun _ => Strip (⟨d, .scVector ((i 0).castLE hcore3) ((i 1).castLE hsub3)⟩ : Thread nD τ) arg5 arg6 f 24)) $$ [Hs]
  · iapply (g3_tl_run i arg2 harg2 arg3 harg3 arg4 harg4 arg5 harg5 arg6 harg6 arg7 arg8 v136_r0 v136_r1 v108_r2 v270_r3 v270_r4 v37 v79 v84 v89 h h79 h84 h89 .rfl) $$ Hs
  iintro %_ Hs
  ihave Hr := (strip_ready (k := 8) (by omega) hf) $$ Hs
  icases Hr with ⟨Hb, Hr⟩
  iapply (strip_out8 (lo := s) (hi := e) (r := s + 1560) (by omega) (by omega) (hs ▸ k3_off106_eq i)) $$ [Hr Hc H4 HO]
  · isplitl [Hr]; · iexact Hr
    isplitl [Hc]; · iexact Hc
    isplitl [H4]; · iexact H4
    iexact HO
  iintro ⟨⟨Ho, Hc⟩, H4, HO⟩
  iapply le_wp_ret
  isplitl [Hb]; · iexact Hb
  isplitl [Ho]; · iexact Ho
  isplitl [Hc]; · iexact Hc
  isplitl [H3]; · iexact H3
  isplitl [H4]; · iexact H4
  iexact HO

end Cert.Proof.Knl
-- ==== Proof.Tile3.lean ====
/-
  A SparseCore tile's whole program run.
-/
module

public import proofs.«01_k».proof.Proof.Runs3
public import proofs.«01_k».proof.Proof.Tile1
public import proofs.«01_k».proof.Proof.Copies
public import proofs.«01_k».proof.Proof.Offs

@[expose] public section

set_option Elab.async false
set_option maxHeartbeats 4000000

noncomputable section

namespace Cert.Proof.Knl

open Cert.KernelIdeal
open Cert.KernelIdeal.Facts₀ Cert.KernelIdeal.Facts

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (i : grid3.Coords) (arg2 : Memref sig .scVector .hbm S50000x128 .f32) (harg2 : arg2.IsWhole) (arg3 : Memref sig .scVector .hbm S3x800000 .f32) (harg3 : arg3.IsWhole) (arg4 : Memref sig .scVector .vmem S120x128 .f32) (harg4 : arg4.IsWhole) (arg5 : Memref sig .scVector .vmem S120x128 .f32) (harg5 : arg5.IsWhole) (arg6 : Memref sig .scVector .vmem S3x1920 .f32) (harg6 : arg6.IsWhole) (arg7 : DmaSems sig S_) (arg8 : DmaSems sig S_) (v136_r0 : DmaSems sig S_) (v136_r1 : DmaSems sig S_) (v108_r2 : DmaSems sig S_) (v270_r3 : DmaSems sig S_) (v270_r4 : DmaSems sig S_)

include i arg2 harg2 arg3 harg3 arg4 harg4 arg5 harg5 arg6 harg6 arg7 arg8 v136_r0 v136_r1 v108_r2 v270_r3 v270_r4 in
/-- The last rows, where there are any. -/
def opt3 (v37 : BitVec 32) (v79 v84 v89 : IVec S16 32) : Prog (TpuEff nD τ sig (Elt F) Λ₀ (.scVector ((i 0).castLE hcore3) ((i 1).castLE hsub3))) PUnit :=
  if h : k3_cond3 i = 1#1 then tail3 i arg2 harg2 arg3 harg3 arg4 harg4 arg5 harg5 arg6 harg6 arg7 arg8 v136_r0 v136_r1 v108_r2 v270_r3 v270_r4 v37 v79 v84 v89 h else .ret ⟨⟩

/-- The first row of a worker, as the program computes it. -/
def row0_3 (i : grid3.Coords) : BitVec 32 :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c50000_i32 : BitVec 32 := 50000#32
  let v2 : BitVec 32 := Scalar.muli v1 c50000_i32
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.divsi v19 c8_i32
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  v37

set_option cleanup.letToHave false in
include i arg2 harg2 arg3 harg3 arg4 harg4 arg5 harg5 arg6 harg6 arg7 arg8 v136_r0 v136_r1 v108_r2 v270_r3 v270_r4 in
/-- The tile's program from its first copy on. -/
def rest3 (v37 : BitVec 32) (v79 v84 v89 : IVec S16 32) :
    Prog (TpuEff nD τ sig (Elt F) Λ₀ (.scVector ((i 0).castLE hcore3) ((i 1).castLE hsub3))) PUnit := do
  let v92 : Memref sig .scVector .hbm S120x128 .f32 := arg2.slice (Rect.unit (s := S50000x128) (k3_off1 i 0#32) S120x128.size (k3_off1_inb i 0)) (fun _ => rfl)
  Prog.lift (.enqueueDma v92 (.here arg4) (.dma arg7.sem) (View.wordExact_bits rfl) harg4.wordExact ⟨Or.inl rfl, trivial⟩)
  let v95 : Memref sig .scVector .hbm S120x128 .f32 := arg2.slice (Rect.unit (s := S50000x128) (k3_off1 i 120#32) S120x128.size (k3_off1_inb i 1)) (fun _ => rfl)
  Prog.lift (.enqueueDma v95 (.here arg5) (.dma arg8.sem) (View.wordExact_bits rfl) harg5.wordExact ⟨Or.inl rfl, trivial⟩)
  Scf.Loop.for k3_t1_loop k3_t1_ok ⟨⟩ (fun t _ => pair3 i arg2 harg2 arg3 harg3 arg4 harg4 arg5 harg5 arg6 harg6 arg7 arg8 v136_r0 v136_r1 v108_r2 v270_r3 v270_r4 v37 v79 v84 v89 t)
  let v99 : Memref sig .scVector .hbm S120x128 .f32 := arg2.slice (Rect.unit (s := S50000x128) (k3_off55 i) S120x128.size (k3_off55_inb i)) (fun _ => rfl)
  Prog.lift (.waitDma2 arg7.sem v99 arg4 (View.wordExact_bits rfl) harg4.wordExact)
  Scf.Loop.for k3_t4_loop k3_t4_ok ⟨⟩ (fun t _ => g3_t4 i arg2 harg2 arg3 harg3 arg4 harg4 arg5 harg5 arg6 harg6 arg7 arg8 v136_r0 v136_r1 v108_r2 v270_r3 v270_r4 v79 v84 v89 t)
  let v112_r2 : Memref sig .scVector .vmem S3x1920 .f32 := arg6.slice (Rect.unit (s := S3x1920) ![0, 0] S3x1920.size inb_S3x1920_S3x1920_0_0) (fun _ => rfl)
  let v111_r2 : Memref sig .scVector .hbm S3x1920 .f32 := arg3.slice (Rect.unit (s := S3x800000) (k3_off80 i) S3x1920.size (k3_off80_inb i)) (fun _ => rfl)
  Prog.lift (.enqueueDma v112_r2 (.here v111_r2) (.dma v108_r2.sem) (View.wordExact_bits rfl) (View.wordExact_bits rfl) ⟨Or.inl rfl, trivial⟩)
  let v115_r2 : Memref sig .scVector .hbm S3x1920 .f32 := arg3.slice (Rect.unit (s := S3x800000) (k3_off80 i) S3x1920.size (k3_off80_inb i)) (fun _ => rfl)
  let v116_r2 : Memref sig .scVector .vmem S3x1920 .f32 := arg6.slice (Rect.unit (s := S3x1920) ![0, 0] S3x1920.size inb_S3x1920_S3x1920_0_0) (fun _ => rfl)
  Prog.lift (.waitDma2 v108_r2.sem v116_r2 v115_r2 (View.wordExact_bits rfl) (View.wordExact_bits rfl))
  opt3 i arg2 harg2 arg3 harg3 arg4 harg4 arg5 harg5 arg6 harg6 arg7 arg8 v136_r0 v136_r1 v108_r2 v270_r3 v270_r4 v37 v79 v84 v89
  pure ⟨⟩
include i arg2 harg2 arg3 harg3 arg4 harg4 arg5 harg5 arg6 harg6 arg7 arg8 v136_r0 v136_r1 v108_r2 v270_r3 v270_r4 in
theorem rest3_eq :
    cc3__sc_half1_body (F := F) i arg2 harg2 arg3 harg3 arg4 harg4 arg5 harg5 arg6 harg6 arg7 arg8 v136_r0 v136_r1 v108_r2 v270_r3 v270_r4 = rest3 (F := F) i arg2 harg2 arg3 harg3 arg4 harg4 arg5 harg5 arg6 harg6 arg7 arg8 v136_r0 v136_r1 v108_r2 v270_r3 v270_r4 (row0_3 i) (addi (muli (broadcast S16 3#32) (iota .scVector S16 32 [0] iota_S16_d0_w32_scVector)) (broadcast S16 0#32)) (addi (muli (broadcast S16 3#32) (iota .scVector S16 32 [0] iota_S16_d0_w32_scVector)) (broadcast S16 1#32)) (addi (muli (broadcast S16 3#32) (iota .scVector S16 32 [0] iota_S16_d0_w32_scVector)) (broadcast S16 2#32)) := by
  rw [b3_eq]
  unfold b3 p3_m k3_part19 k3_part20 rest3 row0_3 opt3
  by_cases h : k3_cond3 i = 1#1
  · simp only [Prog.lift, Prog.bind_op, Prog.bind_ret, Prog.pure_eq_ret, Prog.bind_assoc, dif_pos h]
  · simp only [Prog.lift, Prog.bind_op, Prog.bind_ret, Prog.pure_eq_ret, Prog.bind_assoc, dif_neg h]

set_option maxRecDepth 4000 in
include i arg2 harg2 arg3 harg3 arg4 harg4 arg5 harg5 arg6 harg6 arg7 arg8 v136_r0 v136_r1 v108_r2 v270_r3 v270_r4 in
theorem rest3_run (v37 : BitVec 32) (v79 v84 v89 : IVec S16 32)
    (h79 : ∀ x, (v79 x).toNat = 3 * (x 0).val + 0) (h84 : ∀ x, (v84 x).toNat = 3 * (x 0).val + 1)
    (h89 : ∀ x, (v89 x).toNat = 3 * (x 0).val + 2)
    {defs : Defs nD τ sig (Elt F) Λ₀} {𝒱 : Variants} {bd : Option 𝒱.V} {d : Dev nD} {A : ℕ → ℕ → Elt F .f32} {qA qB : PosShare TreeShare} {O : CellTallies nD τ sig (HIx 2)} {W : Waits sig (HIx 2)} {Q : PUnit → sProp 𝕄} :
    iprop(Tab (⟨d, .scVector ((i 0).castLE hcore3) ((i 1).castLE hsub3)⟩ : Thread nD τ) arg2 qA A ∗ Tab (⟨d, .scVector ((i 0).castLE hcore3) ((i 1).castLE hsub3)⟩ : Thread nD τ) arg2 qB A ∗ (∃ f, arg4.view.loc (⟨d, .scVector ((i 0).castLE hcore3) ((i 1).castLE hsub3)⟩ : Thread nD τ) ↦[arg4.view.set]{fullShare} f) ∗ (∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i)) ∗ semVal ((⟨d, .scVector ((i 0).castLE hcore3) ((i 1).castLE hsub3)⟩ : Thread nD τ), SemLoc.dma arg7.sem) 0 ∗ semVal ((⟨d, .scVector ((i 0).castLE hcore3) ((i 1).castLE hsub3)⟩ : Thread nD τ), SemLoc.dma arg8.sem) 0 ∗ semVal ((⟨d, .scVector ((i 0).castLE hcore3) ((i 1).castLE hsub3)⟩ : Thread nD τ), SemLoc.dma v136_r0.sem) 0 ∗ semVal ((⟨d, .scVector ((i 0).castLE hcore3) ((i 1).castLE hsub3)⟩ : Thread nD τ), SemLoc.dma v136_r1.sem) 0 ∗ semVal ((⟨d, .scVector ((i 0).castLE hcore3) ((i 1).castLE hsub3)⟩ : Thread nD τ), SemLoc.dma v108_r2.sem) 0 ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W)
      ⊢ iprop((iprop((∃ f, arg4.view.loc (⟨d, .scVector ((i 0).castLE hcore3) ((i 1).castLE hsub3)⟩ : Thread nD τ) ↦[arg4.view.set]{fullShare} f) ∗ (∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i + 1)) ∗ semVal ((⟨d, .scVector ((i 0).castLE hcore3) ((i 1).castLE hsub3)⟩ : Thread nD τ), SemLoc.dma arg7.sem) 0 ∗ semVal ((⟨d, .scVector ((i 0).castLE hcore3) ((i 1).castLE hsub3)⟩ : Thread nD τ), SemLoc.dma arg8.sem) 0 ∗ semVal ((⟨d, .scVector ((i 0).castLE hcore3) ((i 1).castLE hsub3)⟩ : Thread nD τ), SemLoc.dma v136_r0.sem) 0 ∗ semVal ((⟨d, .scVector ((i 0).castLE hcore3) ((i 1).castLE hsub3)⟩ : Thread nD τ), SemLoc.dma v136_r1.sem) 0 ∗ semVal ((⟨d, .scVector ((i 0).castLE hcore3) ((i 1).castLE hsub3)⟩ : Thread nD τ), SemLoc.dma v108_r2.sem) 0 ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W) -∗ Q ⟨⟩)
        -∗ wp frame (wpE defs 𝒱 (⟨d, .scVector ((i 0).castLE hcore3) ((i 1).castLE hsub3)⟩ : Thread nD τ) bd) Set.univ (rest3 i arg2 harg2 arg3 harg3 arg4 harg4 arg5 harg5 arg6 harg6 arg7 arg8 v136_r0 v136_r1 v108_r2 v270_r3 v270_r4 v37 v79 v84 v89) Q) := by
  have hw := fstRow_step ⟨(k3_wid i), k3_wid_lt i⟩
  have he : fstRow (k3_wid i) + 1560 ≤ fstRow (k3_wid i + 1) := by dsimp only at hw; omega
  unfold rest3
  simp only [Prog.lift, Prog.bind_op, Prog.bind_ret, Prog.pure_eq_ret, Prog.bind_assoc]
  iintro ⟨HTA, HTB, HbA, HbB, Ho, Hc, HvA, HvB, H0, H1, H2, H3, H4, HO⟩ Hk
  iapply (rows_start (k3_off1_eq i)) $$ [HTA HbA HvA]
  · isplitl [HTA]; · iexact HTA
    isplitl [HbA]; · iexact HbA
    iexact HvA
  iintro HA
  iapply (rows_start (k3_off1_eq' i)) $$ [HTB HbB HvB]
  · isplitl [HTB]; · iexact HTB
    isplitl [HbB]; · iexact HbB
    iexact HvB
  iintro HB'
  iapply (Scf.wp_for_bind frame (wpE defs 𝒱 (⟨d, .scVector ((i 0).castLE hcore3) ((i 1).castLE hsub3)⟩ : Thread nD τ) bd) Set.univ _ _ _ k3_t1_ok ⟨⟩ _
    (fun t _ => Pair (⟨d, .scVector ((i 0).castLE hcore3) ((i 1).castLE hsub3)⟩ : Thread nD τ) arg2 arg4 arg5 arg6 arg3 arg7.sem arg8.sem v136_r0.sem v136_r1.sem A qA qB (fstRow (k3_wid i)) (fstRow (k3_wid i + 1)) O W t)
    (fun t _ => pair3_run i arg2 harg2 arg3 harg3 arg4 harg4 arg5 harg5 arg6 harg6 arg7 arg8 v136_r0 v136_r1 v108_r2 v270_r3 v270_r4 v37 v79 v84 v89 h79 h84 h89 rfl he t)) $$ [HA HB' Ho Hc H0 H1 HO]
  · iapply pair_in
    isplitl [HA]; · iexact HA
    isplitl [HB']; · iexact HB'
    isplitl [Ho]; · iexact Ho
    isplitl [Hc]; · iexact Hc
    isplitl [H0]; · iexact H0
    isplitl [H1]; · iexact H1
    iexact HO
  iintro %_ HP
  ihave HP := (pair_out k3_trips1) $$ HP
  icases HP with ⟨HA, ⟨HbB, HTB, HvB⟩, Ho, Hc, H0, H1, HO⟩
  iapply (copy_wait (N := arg4.view.amount (.dma arg7.sem)) rfl) $$ [HA HO]
  · isplitl [HA]; · iexact HA
    iexact HO
  iintro ⟨⟨HS, HTA⟩, HvA, HO⟩
  ihave Hs := staged_strip $$ [HS Ho]
  · isplitl [HS]; · iexact HS
    iexact Ho
  icases Hs with ⟨%f, %hf, Hs⟩
  iapply (g3_t4_loop i arg2 harg2 arg3 harg3 arg4 harg4 arg5 harg5 arg6 harg6 arg7 arg8 v136_r0 v136_r1 v108_r2 v270_r3 v270_r4 v79 v84 v89 h79 h84 h89) $$ Hs
  iintro Hs
  ihave Hr := (strip_ready (k := 120) (by omega) hf) $$ Hs
  clear hf
  icases Hr with ⟨HbA, Hr⟩
  iapply (strip_out120 (lo := fstRow (k3_wid i)) (hi := fstRow (k3_wid i + 1)) (r := fstRow (k3_wid i) + 1440) (by omega) (by omega) (k3_off80_eq i)) $$ [Hr Hc H2 HO]
  · isplitl [Hr]; · iexact Hr
    isplitl [Hc]; · iexact Hc
    isplitl [H2]; · iexact H2
    iexact HO
  iintro ⟨⟨Ho, Hc⟩, H2, HO⟩
  ihave Hc := (cols_at (show fstRow (k3_wid i) + 1440 + 120 = fstRow (k3_wid i) + 1560 by omega)) $$ Hc
  iapply (BIBase.Entails.of_eq (wp_bind ..).symm)
  iapply (wp_wand frame _ _ (Q := fun _ => iprop((∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i + 1))
      ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W))) $$ [HTB HbB Ho Hc H3 H4 HO]
  · unfold opt3
    by_cases h3 : k3_cond3 i = 1#1
    · have h3' := (k3_cond3_eq i).mp h3
      simp only [dif_pos h3]
      iapply (wp_wand frame _ _ (Q := fun _ => iprop((∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i) + 1568)
          ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W))) $$ [HTB HbB Ho Hc H3 H4 HO]
      · have hl := last3_run i arg2 harg2 arg3 harg3 arg4 harg4 arg5 harg5 arg6 harg6 arg7 arg8 v136_r0 v136_r1 v108_r2 v270_r3 v270_r4 v37 v79 v84 v89 h3 h79 h84 h89 (qA := qB) (qB := qB) (A := A) (O := O) (W := W) (s := fstRow (k3_wid i)) (e := fstRow (k3_wid i + 1)) (defs := defs) (𝒱 := 𝒱) (bd := bd) (d := d) rfl (by omega)
        iapply hl
        isplitl [HTB]; · iexact HTB
        isplitl [HbB]; · iexact HbB
        isplitl [Ho]; · iexact Ho
        isplitl [Hc]; · iexact Hc
        isplitl [H3]; · iexact H3
        isplitl [H4]; · iexact H4
        iexact HO
      iintro %_ ⟨HbB, Ho, Hc, H3, H4, HO⟩
      ihave Hc := (cols_at h3'.symm) $$ Hc
      isplitl [HbB]; · iexact HbB
      isplitl [Ho]; · iexact Ho
      isplitl [Hc]; · iexact Hc
      isplitl [H3]; · iexact H3
      isplitl [H4]; · iexact H4
      iexact HO
    · have h3' : fstRow (k3_wid i + 1) = fstRow (k3_wid i) + 1560 := hw.resolve_right fun h => h3 ((k3_cond3_eq i).mpr h)
      simp only [dif_neg h3]
      iapply le_wp_ret
      ihave Hc := (cols_at h3'.symm) $$ Hc
      isplitl [HbB]; · iexact HbB
      isplitl [Ho]; · iexact Ho
      isplitl [Hc]; · iexact Hc
      isplitl [H3]; · iexact H3
      isplitl [H4]; · iexact H4
      iexact HO
  iintro %_ ⟨HbB, Ho, Hc, H3, H4, HO⟩
  iapply le_wp_ret
  iapply Hk
  isplitl [HbA]; · iexact HbA
  isplitl [HbB]; · iexact HbB
  isplitl [Ho]; · iexact Ho
  isplitl [Hc]; · iexact Hc
  isplitl [HvA]; · iexact HvA
  isplitl [HvB]; · iexact HvB
  isplitl [H0]; · iexact H0
  isplitl [H1]; · iexact H1
  isplitl [H2]; · iexact H2
  isplitl [H3]; · iexact H3
  isplitl [H4]; · iexact H4
  iexact HO

include i arg2 harg2 arg3 harg3 arg4 harg4 arg5 harg5 arg6 harg6 arg7 arg8 v136_r0 v136_r1 v108_r2 v270_r3 v270_r4 in
/-- The tile's program. -/
theorem b3_run
    {defs : Defs nD τ sig (Elt F) Λ₀} {𝒱 : Variants} {bd : Option 𝒱.V} {d : Dev nD} {A : ℕ → ℕ → Elt F .f32} {qA qB : PosShare TreeShare} {O : CellTallies nD τ sig (HIx 2)} {W : Waits sig (HIx 2)} {Q : PUnit → sProp 𝕄} :
    iprop(Tab (⟨d, .scVector ((i 0).castLE hcore3) ((i 1).castLE hsub3)⟩ : Thread nD τ) arg2 qA A ∗ Tab (⟨d, .scVector ((i 0).castLE hcore3) ((i 1).castLE hsub3)⟩ : Thread nD τ) arg2 qB A ∗ (∃ f, arg4.view.loc (⟨d, .scVector ((i 0).castLE hcore3) ((i 1).castLE hsub3)⟩ : Thread nD τ) ↦[arg4.view.set]{fullShare} f) ∗ (∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i)) ∗ semVal ((⟨d, .scVector ((i 0).castLE hcore3) ((i 1).castLE hsub3)⟩ : Thread nD τ), SemLoc.dma arg7.sem) 0 ∗ semVal ((⟨d, .scVector ((i 0).castLE hcore3) ((i 1).castLE hsub3)⟩ : Thread nD τ), SemLoc.dma arg8.sem) 0 ∗ semVal ((⟨d, .scVector ((i 0).castLE hcore3) ((i 1).castLE hsub3)⟩ : Thread nD τ), SemLoc.dma v136_r0.sem) 0 ∗ semVal ((⟨d, .scVector ((i 0).castLE hcore3) ((i 1).castLE hsub3)⟩ : Thread nD τ), SemLoc.dma v136_r1.sem) 0 ∗ semVal ((⟨d, .scVector ((i 0).castLE hcore3) ((i 1).castLE hsub3)⟩ : Thread nD τ), SemLoc.dma v108_r2.sem) 0 ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W)
      ⊢ iprop((iprop((∃ f, arg4.view.loc (⟨d, .scVector ((i 0).castLE hcore3) ((i 1).castLE hsub3)⟩ : Thread nD τ) ↦[arg4.view.set]{fullShare} f) ∗ (∃ f, arg5.view.loc (⟨d, .scVector ((i 0).castLE hcore3) ((i 1).castLE hsub3)⟩ : Thread nD τ) ↦[arg5.view.set]{fullShare} f) ∗ Some3 (⟨d, .scVector ((i 0).castLE hcore3) ((i 1).castLE hsub3)⟩ : Thread nD τ) arg6 ∗ Cols (⟨d, .scVector ((i 0).castLE hcore3) ((i 1).castLE hsub3)⟩ : Thread nD τ) arg3 A (fstRow (k3_wid i)) (fstRow (k3_wid i + 1)) (fstRow (k3_wid i + 1)) ∗ semVal ((⟨d, .scVector ((i 0).castLE hcore3) ((i 1).castLE hsub3)⟩ : Thread nD τ), SemLoc.dma arg7.sem) 0 ∗ semVal ((⟨d, .scVector ((i 0).castLE hcore3) ((i 1).castLE hsub3)⟩ : Thread nD τ), SemLoc.dma arg8.sem) 0 ∗ semVal ((⟨d, .scVector ((i 0).castLE hcore3) ((i 1).castLE hsub3)⟩ : Thread nD τ), SemLoc.dma v136_r0.sem) 0 ∗ semVal ((⟨d, .scVector ((i 0).castLE hcore3) ((i 1).castLE hsub3)⟩ : Thread nD τ), SemLoc.dma v136_r1.sem) 0 ∗ semVal ((⟨d, .scVector ((i 0).castLE hcore3) ((i 1).castLE hsub3)⟩ : Thread nD τ), SemLoc.dma v108_r2.sem) 0 ∗ semVal ((⟨d, .scVector ((i 0).castLE hcore3) ((i 1).castLE hsub3)⟩ : Thread nD τ), SemLoc.dma v270_r3.sem) 0 ∗ semVal ((⟨d, .scVector ((i 0).castLE hcore3) ((i 1).castLE hsub3)⟩ : Thread nD τ), SemLoc.dma v270_r4.sem) 0 ∗ Owe (⟨d, .scVector ((i 0).castLE hcore3) ((i 1).castLE hsub3)⟩ : Thread nD τ) O W) -∗ Q ⟨⟩)
        -∗ wp frame (wpE defs 𝒱 (⟨d, .scVector ((i 0).castLE hcore3) ((i 1).castLE hsub3)⟩ : Thread nD τ) bd) Set.univ (cc3__sc_half1_body i arg2 harg2 arg3 harg3 arg4 harg4 arg5 harg5 arg6 harg6 arg7 arg8 v136_r0 v136_r1 v108_r2 v270_r3 v270_r4) Q) := by
  rw [rest3_eq]
  exact rest3_run i arg2 harg2 arg3 harg3 arg4 harg4 arg5 harg5 arg6 harg6 arg7 arg8 v136_r0 v136_r1 v108_r2 v270_r3 v270_r4 _ _ _ _ (lane_val1 0 (by omega)) (lane_val1 1 (by omega)) (lane_val1 2 (by omega))

end Cert.Proof.Knl
-- ==== Proof.Layout.lean ====
/- The TensorCore pallas_calls of the program as the launch sees them: layouts, grids, schedules, and the rests of their buffers
   enumerated. -/
module

public import proofs.«01_k».proof.Proof.Facts
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 2 → List (DmaSem sig) :=
  fun | 0 => Pipeline.specSems spec0 | 1 => Pipeline.specSems spec2 | ⟨_ + 2, h⟩ => absurd h (Nat.not_lt.2 (Nat.le_add_left _ _))
/-- Within each custom_call, no two staging buffers complete on one DMA semaphore. -/
theorem semsDistinct : ∀ p : Fin 2, (semTab p).Nodup := by decide
/-- No two custom_calls' staging buffers share a DMA semaphore. -/
theorem semsDisjoint : ∀ p p' : Fin 2, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 5, 0 < (spec0 w).block.numel := by decide
/-- The windows' arrays and the staging memrefs are whole buffers. -/
theorem arr_whole0 : ∀ w : Fin 5, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole0 : ∀ (w : Fin 5) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | ⟨_ + 5, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 25 points. -/
theorem N_0 : grid0.N = 25 := by decide

/-- The windows conjoined one by one. -/
theorem bigSep_W0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
/-- The core's scoped buffers that are no staging buffer of custom_call 0, each whole at some contents:
    `cc2_stg0_0`, `cc2_stg0_1`, `cc2_stg1_0`, `cc2_stg1_1`, `cc2_stg2_0`, `cc2_stg3_0`, `cc2_stg4_0`, `cc2_stg4_1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg3_0), ((c : Thread nD τ).loc cc2_stg3_0) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f)) :=
  Pipeline.scopedRest_eq_of_list spec0 c [cc2_stg0_0, cc2_stg0_1, cc2_stg1_0, cc2_stg1_1, cc2_stg2_0, cc2_stg3_0, cc2_stg4_0, cc2_stg4_1] (by decide) (by decide)
/-- Its unscoped buffers that are no window's array, each whole at contents `V`:
    `main_arg2`, `main_arg3`, `main_arg4`, `main_cst`, `main_v0`, `main_v1`, `main_cst_0`, `main_v3`, `main_v4`, `main_v7_0`, `main_v7_1`, `main_v8`, `main_v9`, `main_v10`, `main_v11`. -/
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec0 c V : sProp (MT nD τ sig Ix Val Name U Lvl))
      = iprop((((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_cst) ↦{fullShare} V main_cst) ∗ (((c : Thread nD τ).loc main_v0) ↦{fullShare} V main_v0) ∗ (((c : Thread nD τ).loc main_v1) ↦{fullShare} V main_v1) ∗ (((c : Thread nD τ).loc main_cst_0) ↦{fullShare} V main_cst_0) ∗ (((c : Thread nD τ).loc main_v3) ↦{fullShare} V main_v3) ∗ (((c : Thread nD τ).loc main_v4) ↦{fullShare} V main_v4) ∗ (((c : Thread nD τ).loc main_v7_0) ↦{fullShare} V main_v7_0) ∗ (((c : Thread nD τ).loc main_v7_1) ↦{fullShare} V main_v7_1) ∗ (((c : Thread nD τ).loc main_v8) ↦{fullShare} V main_v8) ∗ (((c : Thread nD τ).loc main_v9) ↦{fullShare} V main_v9) ∗ (((c : Thread nD τ).loc main_v10) ↦{fullShare} V main_v10) ∗ (((c : Thread nD τ).loc main_v11) ↦{fullShare} V main_v11)) :=
  Pipeline.unscopedRest_eq_of_list spec0 c V [main_arg2, main_arg3, main_arg4, main_cst, main_v0, main_v1, main_cst_0, main_v3, main_v4, main_v7_0, main_v7_1, main_v8, main_v9, main_v10, main_v11] (by decide) (by decide)

/-! ## custom_call 2 (pipeline 1 of @main) -/

/-- The layout the launch needs: the windows' arrays unscoped, distinct buffers, the staging buffers scoped and
    distinct, the staging semaphores scoped. -/
theorem winFacts2 : Pipeline.WinFacts spec2 := by decide
/-- No window's block is empty. -/
theorem block_pos2 : ∀ w : Fin 5, 0 < (spec2 w).block.numel := by decide
/-- The windows' arrays and the staging memrefs are whole buffers. -/
theorem arr_whole2 : ∀ w : Fin 5, (spec2 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole2 : ∀ (w : Fin 5) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | ⟨_ + 5, h⟩ => absurd h (Nat.not_lt.2 (Nat.le_add_left _ _))
/-- The five, bundled: what the kit-form launch theorems (Lib/Pipeline/Kit.lean `θ_run_region*_kit`) take. -/
theorem launch2 : Pipeline.LaunchFacts (nD := nD) (τ := τ) cfgs 1 := ⟨cellOf_inj, winFacts2, block_pos2, arr_whole2, stage_whole2⟩

/-- The grid has 25 points. -/
theorem N_2 : grid2.N = 25 := by decide

/-- The windows conjoined one by one. -/
theorem bigSep_W2 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
/-- The core's scoped buffers that are no staging buffer of custom_call 2, each whole at some contents:
    `cc0_stg0_0`, `cc0_stg0_1`, `cc0_stg1_0`, `cc0_stg1_1`, `cc0_stg2_0`, `cc0_stg3_0`, `cc0_stg4_0`, `cc0_stg4_1`. -/
theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f)) :=
  Pipeline.scopedRest_eq_of_list spec2 c [cc0_stg0_0, cc0_stg0_1, cc0_stg1_0, cc0_stg1_1, cc0_stg2_0, cc0_stg3_0, cc0_stg4_0, cc0_stg4_1] (by decide) (by decide)
/-- Its unscoped buffers that are no window's array, each whole at contents `V`:
    `main_arg2`, `main_arg3`, `main_arg4`, `main_cst`, `main_v0`, `main_v1`, `main_cst_0`, `main_v3`, `main_v4`, `main_v6`, `main_v7_0`, `main_v7_1`, `main_v9`, `main_v10`, `main_v11`. -/
theorem unscopedRest2_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec2 c V : sProp (MT nD τ sig Ix Val Name U Lvl))
      = iprop((((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_cst) ↦{fullShare} V main_cst) ∗ (((c : Thread nD τ).loc main_v0) ↦{fullShare} V main_v0) ∗ (((c : Thread nD τ).loc main_v1) ↦{fullShare} V main_v1) ∗ (((c : Thread nD τ).loc main_cst_0) ↦{fullShare} V main_cst_0) ∗ (((c : Thread nD τ).loc main_v3) ↦{fullShare} V main_v3) ∗ (((c : Thread nD τ).loc main_v4) ↦{fullShare} V main_v4) ∗ (((c : Thread nD τ).loc main_v6) ↦{fullShare} V main_v6) ∗ (((c : Thread nD τ).loc main_v7_0) ↦{fullShare} V main_v7_0) ∗ (((c : Thread nD τ).loc main_v7_1) ↦{fullShare} V main_v7_1) ∗ (((c : Thread nD τ).loc main_v9) ↦{fullShare} V main_v9) ∗ (((c : Thread nD τ).loc main_v10) ↦{fullShare} V main_v10) ∗ (((c : Thread nD τ).loc main_v11) ↦{fullShare} V main_v11)) :=
  Pipeline.unscopedRest_eq_of_list spec2 c V [main_arg2, main_arg3, main_arg4, main_cst, main_v0, main_v1, main_cst_0, main_v3, main_v4, main_v6, main_v7_0, main_v7_1, main_v9, main_v10, main_v11] (by decide) (by decide)

/-! ## custom_call 0 -/

/-- Window 0 (operand 0 (%arg1)) is fetched at every point. -/
theorem fetch0_0 : ∀ t : Fin cfg0.N, (cfg0.win 0).fetch t = true :=
  (by decide +kernel : ∀ t : Fin grid0.N, win0_0.fetch t = true)
/-- Window 1 (operand 1 (%arg0)) is fetched at every point. -/
theorem fetch0_1 : ∀ t : Fin cfg0.N, (cfg0.win 1).fetch t = true :=
  (by decide +kernel : ∀ t : Fin grid0.N, win0_1.fetch t = true)
/-- Window 2 (operand 2 (%2)) is fetched at the first point only. -/
theorem fetch0_2 : ∀ t : Fin cfg0.N, (cfg0.win 2).fetch t = true ↔ t.val % 25 = 0 :=
  (fun t => Pipeline.Window.fetch_const win0_2 rfl (fun _ _ => rfl) (n := 25) (by decide) t : ∀ t : Fin grid0.N, win0_2.fetch t = true ↔ t.val % 25 = 0)
/-- Window 3 (operand 3 (%5)) is fetched at the first point only. -/
theorem fetch0_3 : ∀ t : Fin cfg0.N, (cfg0.win 3).fetch t = true ↔ t.val % 25 = 0 :=
  (fun t => Pipeline.Window.fetch_const win0_3 rfl (fun _ _ => rfl) (n := 25) (by decide) t : ∀ t : Fin grid0.N, win0_3.fetch t = true ↔ t.val % 25 = 0)
/-- Window 4 (result 0 (%6)) is written back at every point. -/
theorem flush0_4 : ∀ t : Fin cfg0.N, (cfg0.win 4).flush t = true :=
  (fun t => (Pipeline.Window.flush_reads win0_4 rfl 0 (by decide) (by decide) (Pipeline.Window.sep_of_coord cc0_transform_4 0 0 (fun _ => rfl) (by decide)) (P := 1) (m := 0) (by decide) rfl t).mpr (Nat.mod_one _) : ∀ t : Fin grid0.N, win0_4.flush t = true)

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)

/-- The kernel body at point `t`, on what the pipeline calls it with (`defs₀`'s row at the slots). -/
abbrev bodyAt0 (t : Fin cfg0.N) : Prog (TpuEff nD τ sig (Elt F) Λ₀ .tc) PUnit :=
  cc0__tc_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))

/-! ## custom_call 2 -/

/-- Window 0 (operand 0 (%arg1)) is fetched at every point. -/
theorem fetch2_0 : ∀ t : Fin cfg2.N, (cfg2.win 0).fetch t = true :=
  (by decide +kernel : ∀ t : Fin grid2.N, win2_0.fetch t = true)
/-- Window 1 (operand 1 (%arg0)) is fetched at every point. -/
theorem fetch2_1 : ∀ t : Fin cfg2.N, (cfg2.win 1).fetch t = true :=
  (by decide +kernel : ∀ t : Fin grid2.N, win2_1.fetch t = true)
/-- Window 2 (operand 2 (%2)) is fetched at the first point only. -/
theorem fetch2_2 : ∀ t : Fin cfg2.N, (cfg2.win 2).fetch t = true ↔ t.val % 25 = 0 :=
  (fun t => Pipeline.Window.fetch_const win2_2 rfl (fun _ _ => rfl) (n := 25) (by decide) t : ∀ t : Fin grid2.N, win2_2.fetch t = true ↔ t.val % 25 = 0)
/-- Window 3 (operand 3 (%5)) is fetched at the first point only. -/
theorem fetch2_3 : ∀ t : Fin cfg2.N, (cfg2.win 3).fetch t = true ↔ t.val % 25 = 0 :=
  (fun t => Pipeline.Window.fetch_const win2_3 rfl (fun _ _ => rfl) (n := 25) (by decide) t : ∀ t : Fin grid2.N, win2_3.fetch t = true ↔ t.val % 25 = 0)
/-- Window 4 (result 0 (%8)) is written back at every point. -/
theorem flush2_4 : ∀ t : Fin cfg2.N, (cfg2.win 4).flush t = true :=
  (fun t => (Pipeline.Window.flush_reads win2_4 rfl 0 (by decide) (by decide) (Pipeline.Window.sep_of_coord cc2_transform_4 0 0 (fun _ => rfl) (by decide)) (P := 1) (m := 0) (by decide) rfl t).mpr (Nat.mod_one _) : ∀ t : Fin grid2.N, win2_4.flush t = true)

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)

/-- The kernel body at point `t`, on what the pipeline calls it with (`defs₀`'s row at the slots). -/
abbrev bodyAt2 (t : Fin cfg2.N) : Prog (TpuEff nD τ sig (Elt F) Λ₀ .tc) PUnit :=
  cc2__tc_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4))

end Cert.KernelIdeal.Gen

end
-- ==== Proof.TcBody.lean ====
/-
  The TensorCore kernels' body run: the features' block times the weights, the points' block laid sixteen times side by side
  and the bias added, stored into the first 48 lanes of the result's block.
-/
module

public import proofs.«01_k».proof.Proof.Layout
public import proofs.«01_k».proof.Proof.Gather

@[expose] public section

set_option Elab.async false
set_option maxHeartbeats 4000000

noncomputable section

namespace Cert.Proof.Knl

open Cert.KernelIdeal
open Cert.KernelIdeal.Facts₀ Cert.KernelIdeal.Facts

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 2) (Elt F) ℕ UU ℕ

/-- The first 48 lanes of the result's block, of the operands' blocks. -/
def pay (x0 : Vec F S2000x512 .f32) (x1 : Vec F S2000x3 .f32) (x2 : Vec F S512x48 .bf16) (x3 : Vec F S1x48 .f32) : FVec F S2000x48 .f32 :=
  addf (addf (concatenate S2000x48 1 [⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩, ⟨S2000x3, x1⟩] concatenates_S2000x3_S2000x3_S2000x3_S2000x3_S2000x3_S2000x3_S2000x3_S2000x3_S2000x3_S2000x3_S2000x3_S2000x3_S2000x3_S2000x3_S2000x3_S2000x3_S2000x48_d1)
      (matmul dot_S2000x512_S512x48_S2000x48_1_0_0_1_n_n none (truncf .bf16 x0 bitsLt_bf16_f32) (shapeCast S512x48 x2 shapeCasts_S512x48_S512x48)
        (constant S2000x48 .f32 0x00000000#32)))
    (broadcastTo S2000x48 (shapeCast S1x48 x3 shapeCasts_S1x48_S1x48) broadcasts_S1x48_S2000x48)

theorem zero2 : ∀ a : Fin 2, (![0, 0] : Fin 2 → ℕ) a = 0 := by decide

/-- A load of a whole memref reads it. -/
theorem read_at0 {sp : Space} {s : Shape} {e : EltTy} (M : Memref sig .tc sp s e) (f : M.view.ty.Contents (Elt F)) {off : Fin s.rank → ℕ} (h0 : ∀ a, off a = 0)
    (inb : ∀ a, off a + s.size a ≤ s.size a) :
    (M.view.slice (Rect.unit (s := s) off s.size inb)).read (Elt F) f = M.view.read (Elt F) f := by
  funext x
  rw [View.read_apply, View.read_apply]
  have : (M.view.slice (Rect.unit (s := s) off s.size inb)).emb x = M.view.emb x := by
    show M.view.emb ((Rect.unit (s := s) off s.size inb).emb x) = _
    congr 1
    funext a; apply Fin.ext
    show off a + 1 * (x a).val = _
    rw [h0 a]; omega
  rw [this]

theorem pay_out {c : Dev nD} {M4 : Memref sig .tc .vmem S2000x128 .f32} {f4 : M4.view.ty.Contents (Elt F)} {v X : FVec F S2000x48 .f32} (hv : v = X) :
    (M4.view.loc (c : Thread nD τ) ↦[M4.view.set]{fullShare} M4.view.writes (Elt F) f4 [⟨Rect.unit (s := S2000x128) ![0, 0] S2000x48.size inb_S2000x128_S2000x48_0_0, v⟩])
      ⊢ (iprop(∃ Y, ⌜∀ (y : S2000x128.Idx) (z : S2000x48.Idx), (y 0).val = (z 0).val → (y 1).val = (z 1).val → Y y = X z⌝
          ∗ ∃ f, ⌜M4.view.read (Elt F) f = Y⌝ ∗ (M4.view.loc (c : Thread nD τ) ↦[M4.view.set]{fullShare} f)) : sProp 𝕄) := by
  subst hv
  iintro H
  iexists (M4.view.read (Elt F) (M4.view.writes (Elt F) f4 [⟨Rect.unit (s := S2000x128) ![0, 0] S2000x48.size inb_S2000x128_S2000x48_0_0, v⟩]))
  isplitr
  · ipureintro
    intro y z hy0 hy1
    have hz : (Rect.unit (s := S2000x128) ![0, 0] S2000x48.size inb_S2000x128_S2000x48_0_0).emb z = y := by
      funext a; apply Fin.ext
      match a with
      | 0 => show 0 + 1 * (z 0).val = _; omega
      | 1 => show 0 + 1 * (z 1).val = _; omega
    rw [← hz]
    exact View.read_slice_write_emb _ _ _ (Finset.mem_univ z)
  iexists (M4.view.writes (Elt F) f4 [⟨Rect.unit (s := S2000x128) ![0, 0] S2000x48.size inb_S2000x128_S2000x48_0_0, v⟩])
  isplitr
  · ipureintro; rfl
  iexact H

theorem tc0_run {c : Dev nD} (i : grid0.Coords)
    (M0 : Memref sig .tc .vmem S2000x512 .f32) (h0 : M0.IsWhole) (M1 : Memref sig .tc .vmem S2000x3 .f32) (h1 : M1.IsWhole)
    (M2 : Memref sig .tc .vmem S512x48 .bf16) (h2 : M2.IsWhole) (M3 : Memref sig .tc .vmem S1x48 .f32) (h3 : M3.IsWhole)
    (M4 : Memref sig .tc .vmem S2000x128 .f32) (h4 : M4.IsWhole)
    {X0 : S2000x512.Idx → Elt F .f32} {X1 : S2000x3.Idx → Elt F .f32} {X2 : S512x48.Idx → Elt F .bf16} {X3 : S1x48.Idx → Elt F .f32} {X4 : S2000x128.Idx → Elt F .f32}
    {Q : PUnit → sProp 𝕄} :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4)
      ⊢ iprop((iprop(owns (c : Thread nD τ) M0 fullShare X0 ∗ owns (c : Thread nD τ) M1 fullShare X1 ∗ owns (c : Thread nD τ) M2 fullShare X2 ∗ owns (c : Thread nD τ) M3 fullShare X3
          ∗ ∃ X, ⌜∀ (y : S2000x128.Idx) (z : S2000x48.Idx), (y 0).val = (z 0).val → (y 1).val = (z 1).val → X y = pay X0 X1 X2 X3 z⌝ ∗ owns (c : Thread nD τ) M4 fullShare X) -∗ Q ⟨⟩)
        -∗ wp frame (wpE (defs₀ (F := F)) Variants.none (c : Thread nD τ) none) Set.univ (cc0__tc_body i M0 h0 M1 h1 M2 h2 M3 h3 M4 h4) Q) := by
  unfold owns cc0__tc_body
  iintro ⟨⟨%f0, %e0, H0⟩, ⟨%f1, %e1, H1⟩, ⟨%f2, %e2, H2⟩, ⟨%f3, %e3, H3⟩, ⟨%f4, %e4, H4⟩⟩ Hk
  sl_exec!
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  iapply (pay_out (X := pay X0 X1 X2 X3) ?_) $$ H4
  subst e0 e1 e2 e3
  refine Eq.trans (b := pay ((M0.view.slice (Rect.unit (s := S2000x512) ![0, 0] S2000x512.size inb_S2000x512_S2000x512_0_0)).read (Elt F) f0)
    ((M1.view.slice (Rect.unit (s := S2000x3) ![0, 0] S2000x3.size inb_S2000x3_S2000x3_0_0)).read (Elt F) f1)
    ((M2.view.slice (Rect.unit (s := S512x48) ![0, 0] S512x48.size inb_S512x48_S512x48_0_0)).read (Elt F) f2)
    ((M3.view.slice (Rect.unit (s := S1x48) ![0, 0] S1x48.size inb_S1x48_S1x48_0_0)).read (Elt F) f3)) rfl ?_
  rw [read_at0 M0 f0 zero2, read_at0 M1 f1 zero2, read_at0 M2 f2 zero2, read_at0 M3 f3 zero2]

theorem tc2_run {c : Dev nD} (i : grid2.Coords)
    (M0 : Memref sig .tc .vmem S2000x512 .f32) (h0 : M0.IsWhole) (M1 : Memref sig .tc .vmem S2000x3 .f32) (h1 : M1.IsWhole)
    (M2 : Memref sig .tc .vmem S512x48 .bf16) (h2 : M2.IsWhole) (M3 : Memref sig .tc .vmem S1x48 .f32) (h3 : M3.IsWhole)
    (M4 : Memref sig .tc .vmem S2000x128 .f32) (h4 : M4.IsWhole)
    {X0 : S2000x512.Idx → Elt F .f32} {X1 : S2000x3.Idx → Elt F .f32} {X2 : S512x48.Idx → Elt F .bf16} {X3 : S1x48.Idx → Elt F .f32} {X4 : S2000x128.Idx → Elt F .f32}
    {Q : PUnit → sProp 𝕄} :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4)
      ⊢ iprop((iprop(owns (c : Thread nD τ) M0 fullShare X0 ∗ owns (c : Thread nD τ) M1 fullShare X1 ∗ owns (c : Thread nD τ) M2 fullShare X2 ∗ owns (c : Thread nD τ) M3 fullShare X3
          ∗ ∃ X, ⌜∀ (y : S2000x128.Idx) (z : S2000x48.Idx), (y 0).val = (z 0).val → (y 1).val = (z 1).val → X y = pay X0 X1 X2 X3 z⌝ ∗ owns (c : Thread nD τ) M4 fullShare X) -∗ Q ⟨⟩)
        -∗ wp frame (wpE (defs₀ (F := F)) Variants.none (c : Thread nD τ) none) Set.univ (cc2__tc_body i M0 h0 M1 h1 M2 h2 M3 h3 M4 h4) Q) := by
  unfold owns cc2__tc_body
  iintro ⟨⟨%f0, %e0, H0⟩, ⟨%f1, %e1, H1⟩, ⟨%f2, %e2, H2⟩, ⟨%f3, %e3, H3⟩, ⟨%f4, %e4, H4⟩⟩ Hk
  sl_exec!
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  iapply (pay_out (X := pay X0 X1 X2 X3) ?_) $$ H4
  subst e0 e1 e2 e3
  refine Eq.trans (b := pay ((M0.view.slice (Rect.unit (s := S2000x512) ![0, 0] S2000x512.size inb_S2000x512_S2000x512_0_0)).read (Elt F) f0)
    ((M1.view.slice (Rect.unit (s := S2000x3) ![0, 0] S2000x3.size inb_S2000x3_S2000x3_0_0)).read (Elt F) f1)
    ((M2.view.slice (Rect.unit (s := S512x48) ![0, 0] S512x48.size inb_S512x48_S512x48_0_0)).read (Elt F) f2)
    ((M3.view.slice (Rect.unit (s := S1x48) ![0, 0] S1x48.size inb_S1x48_S1x48_0_0)).read (Elt F) f3)) rfl ?_
  rw [read_at0 M0 f0 zero2, read_at0 M1 f1 zero2, read_at0 M2 f2 zero2, read_at0 M3 f3 zero2]

end Cert.Proof.Knl

end
-- ==== Proof.Region.lean ====
/-
  The TensorCore calls of the program as regions of @main: what a block of the result is, of the operands' arrays, and the
  result's first 48 lanes after all 25 points.
-/
module

public import proofs.«01_k».proof.Proof.TcBody
public import Idealize.ShloMosaic.Lib.SparseCore.Launch
public import Idealize.ShloMosaic.Lib.Pipeline.Regions
public import Idealize.ShloMosaic.Lib.Pipeline.RegionArrays

@[expose] public section

set_option Elab.async false
set_option maxHeartbeats 4000000

noncomputable section

namespace Cert.Proof.Knl

open Cert.KernelIdeal
open Cert.KernelIdeal.Facts₀ Cert.KernelIdeal.Facts

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 2) (Elt F) ℕ UU ℕ

/-! ## The launch's tables -/

abbrev ΛP : Labels := Pipeline.Sig Λ₀ (Fin 2) fun p => (pcfgs (F := F) p).Adm
abbrev K : SparseCore.Cfg τ sig (ΛP (F := F)) 2 := sc
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none
abbrev adm : (p : Fin 2) → (pcfgs (F := F) p).Adm := fun p => (cfgs p).toPCfg_adm

/-- The pipelines' rounds. -/
def EP : Emb UE (MT nD τ sig (HIx 2) (Elt F) ℕ UU ℕ) :=
  (Emb.inl : Emb UE (UE × Counters)).trans ((Emb.inr : Emb (UE × Counters) UU).trans (uEmb (nD := nD) (sig := sig) (Ix := HIx 2) (Val := Elt F) (Name := ℕ) (U := UU) (Lvl := ℕ)).toEmb)
instance EP_landsIn : (EP : Emb UE 𝕄).LandsIn (upEmb : UEmb _ 𝕄) := by unfold EP; infer_instance

theorem phinj : Function.Injective (Pipeline.cellOf (nD := nD) (τ := τ) (Pipeline.pin (pcfgs (F := F)) adm)) := Gen.cellOf_inj

theorem otc_none (d : Dev nD) (n : ℕ) (g : GSem nD τ sig) : (K (F := F)).Otc (N := 2) d n g none = 0 := by
  by_contra h
  have h' := SparseCore.Cfg.lev_of_Otc_pos (K := K (F := F)) (N := 2) (Nat.pos_of_ne_zero h)
  exact absurd h' (by show ¬ (_ ≤ 0); omega)

/-! ## The result, of the operands -/

abbrev C1 := (⟨S100000x512, .f32⟩ : BufTy).Contents (Elt F)
abbrev C0 := (⟨S100000x3, .f32⟩ : BufTy).Contents (Elt F)
abbrev C2 := (⟨S512x48, .bf16⟩ : BufTy).Contents (Elt F)
abbrev C3 := (⟨S1x48, .f32⟩ : BufTy).Contents (Elt F)
abbrev C4 := (⟨S50000x128, .f32⟩ : BufTy).Contents (Elt F)

/-- Block `T` of the features. -/
def bk1 (f : C1 (F := F)) (T : ℕ) : S2000x512.Idx → Elt F .f32 :=
  fun x => f (ix2 (n0 := 100000) (n1 := 512) ⟨2000 * (T % 50) + (x 0).val, by have := (x 0).isLt; change _ < 2000 at this; have := Nat.mod_lt T (show 50 > 0 by omega); omega⟩ (x 1))

/-- Block `T` of the points. -/
def bk0 (f : C0 (F := F)) (T : ℕ) : S2000x3.Idx → Elt F .f32 :=
  fun x => f (ix2 (n0 := 100000) (n1 := 3) ⟨2000 * (T % 50) + (x 0).val, by have := (x 0).isLt; change _ < 2000 at this; have := Nat.mod_lt T (show 50 > 0 by omega); omega⟩ (x 1))

/-- Row `r` and lane `l` below 48 of the result of the half whose blocks begin at `o`. -/
def rowT (o : ℕ) (f1 : C1 (F := F)) (f0 : C0 (F := F)) (wb : C2 (F := F)) (bi : C3 (F := F)) (r l : ℕ) : Elt F .f32 :=
  pay (bk1 f1 (r / 2000 + o)) (bk0 f0 (r / 2000 + o)) wb bi
    (ix2 (n0 := 2000) (n1 := 48) ⟨r % 2000, Nat.mod_lt _ (by omega)⟩ ⟨l % 48, Nat.mod_lt _ (by omega)⟩)

/-- The waits recorded before call `n`. -/
abbrev recd (c : Dev nD) (n : ℕ) : Set (SemLoc sig × HIx 2) := {p | (K (F := F)).lev (T c, p.1) p.2 ≤ 8 * n}
/-- What the TensorCore owes before call `n`, its waits recorded. -/
abbrev tcOwe (c : Dev nD) (n : ℕ) : sProp 𝕄 := iprop(∃ W, ⌜(K (F := F)).WBelow (T c) W (8 * n)⌝ ∗ owes (T c) ((K (F := F)).Otc c n) W)

theorem wr_cases {κ : Kind} {sp : Space} {s : Shape} {e : EltTy} (v : View sig κ sp s e) (G₀ : v.ty.Contents (Elt F)) (X : s.Idx → Elt F e) (y : v.ty.shape.Idx) :
    (∃ x, v.emb x = y ∧ v.write (Elt F) G₀ X Finset.univ y = cast (congrArg (Elt F) v.elt_eq.symm) (X x)) ∨ ((∀ x, v.emb x ≠ y) ∧ v.write (Elt F) G₀ X Finset.univ y = G₀ y) := by
  by_cases h : ∃ x, v.emb x = y
  · obtain ⟨x, hx⟩ := h
    subst hx
    exact Or.inl ⟨x, rfl, View.write_emb_of_mem _ _ (Finset.mem_univ x)⟩
  · have h' : ∀ x, v.emb x ≠ y := fun x hx => h ⟨x, hx⟩
    refine Or.inr ⟨h', View.write_of_not_mem _ _ _ (fun hmem => ?_)⟩
    obtain ⟨x, -, hx⟩ := Finset.mem_map.mp hmem
    exact h' x hx

theorem idx_ext (a b : S50000x128.Idx) (h0 : (a 0).val = (b 0).val) (h1 : (a 1).val = (b 1).val) : a = b := by
  funext i; apply Fin.ext
  match i with
  | 0 => exact h0
  | 1 => exact h1

theorem arrVal (f1 : C1 (F := F)) (f0 : C0 (F := F)) (wb : C2 (F := F)) (bi : C3 (F := F)) (m o : ℕ) (X : S2000x128.Idx → Elt F .f32) (y : S50000x128.Idx) (x : S2000x128.Idx)
    (hX : ∀ (y : S2000x128.Idx) (z : S2000x48.Idx), (y 0).val = (z 0).val → (y 1).val = (z 1).val → X y = pay (bk1 f1 (m + o)) (bk0 f0 (m + o)) wb bi z)
    {v : Elt F .f32} (hv : v = X x) (h0 : (y 0).val = m * 2000 + (x 0).val) (h1 : (y 1).val = (x 1).val) (hl : (y 1).val < 48) :
    v = rowT o f1 f0 wb bi (y 0).val (y 1).val := by
  have hx0 := (x 0).isLt; change _ < 2000 at hx0
  refine hv.trans ((hX x (ix2 (n0 := 2000) (n1 := 48) ⟨(y 0).val % 2000, Nat.mod_lt _ (by omega)⟩ ⟨(y 1).val % 48, Nat.mod_lt _ (by omega)⟩) ?_ ?_).trans ?_)
  · show (x 0).val = (y 0).val % 2000; omega
  · show (x 1).val = (y 1).val % 48; omega
  · unfold rowT
    rw [show (y 0).val / 2000 = m by omega]

/-- A core with junk data for the other pipeline. -/
def junkR {cfg : Pipeline.Cfg sig Λ₀} (c : Dev nD) [∀ e, Nonempty (Elt F e)] : Pipeline.RDat τ (Elt F) (HIx 2) ℕ UU ℕ cfg c where
  A _ := fun _ => Classical.arbitrary _
  after _ _ _ _ := True
  Φ _ := BI.emp
  q _ := fullShare
  owed _ := 0

/-! ## The call of half 0 -/

theorem idx0_0 : ∀ t : Fin grid0.N, win0_0.index t 0 = t.val + 0 ∧ win0_0.index t 1 = 0 := by decide +kernel
theorem idx0_1 : ∀ t : Fin grid0.N, win0_1.index t 0 = t.val + 0 ∧ win0_1.index t 1 = 0 := by decide +kernel
theorem idx0_2 : ∀ t : Fin grid0.N, win0_2.index t 0 = 0 ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = t.val ∧ win0_4.index t 1 = 0 := by decide +kernel

section Half0

variable (f1 : C1 (F := F)) (f0 : C0 (F := F)) (wb : C2 (F := F)) (bi : C3 (F := F)) (g : C4 (F := F)) (n : ℕ)

def rdat0 (c : Dev nD) : Pipeline.RDat τ (Elt F) (HIx 2) ℕ UU ℕ cfg0 c where
  A w := match w with
    | ⟨0, _⟩ => f1
    | ⟨1, _⟩ => f0
    | ⟨2, _⟩ => wb
    | ⟨3, _⟩ => bi
    | ⟨4, _⟩ => g
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∀ (y : S2000x128.Idx) (z : S2000x48.Idx), (y 0).val = (z 0).val → (y 1).val = (z 1).val →
        X y = pay (bk1 f1 (t.val + 0)) (bk0 f0 (t.val + 0)) wb bi z
  Φ _ := Pipeline.scopedRest (Ix := HIx 2) (Name := ℕ) (U := UU) (Lvl := ℕ) (Val := Elt F) spec0 c
  q _ := fullShare
  owed _ := (K (F := F)).Otc c n
  recorded _ := recd (F := F) c n

theorem fet0_0 (c : Dev nD) (t : Fin cfg0.N) (d) : (rdat0 f1 f0 wb bi g n c).fetched 0 t d = bk1 f1 (t.val + 0) := by
  refine Eq.trans (b := (win0_0.blk t).view.read (Elt F) f1) rfl ?_
  funext x
  have ht : t.val < 25 := lt_of_lt_of_eq t.isLt Gen.N_0
  have hx : (win0_0.blk t).view.emb x = ix2 (n0 := 100000) (n1 := 512) ⟨2000 * ((t.val + 0) % 50) + (x 0).val, by have := (x 0).isLt; change _ < 2000 at this; omega⟩ (x 1) := by
    funext a; apply Fin.ext
    match a with
    | 0 => show win0_0.index t 0 * 2000 + 1 * (x 0).val = 2000 * ((t.val + 0) % 50) + (x 0).val; rw [(idx0_0 t).1]; omega
    | 1 => show win0_0.index t 1 * 512 + 1 * (x 1).val = (x 1).val; rw [(idx0_0 t).2]; omega
  rw [View.read_apply, hx]; rfl

theorem fet0_1 (c : Dev nD) (t : Fin cfg0.N) (d) : (rdat0 f1 f0 wb bi g n c).fetched 1 t d = bk0 f0 (t.val + 0) := by
  refine Eq.trans (b := (win0_1.blk t).view.read (Elt F) f0) rfl ?_
  funext x
  have ht : t.val < 25 := lt_of_lt_of_eq t.isLt Gen.N_0
  have hx : (win0_1.blk t).view.emb x = ix2 (n0 := 100000) (n1 := 3) ⟨2000 * ((t.val + 0) % 50) + (x 0).val, by have := (x 0).isLt; change _ < 2000 at this; omega⟩ (x 1) := by
    funext a; apply Fin.ext
    match a with
    | 0 => show win0_1.index t 0 * 2000 + 1 * (x 0).val = 2000 * ((t.val + 0) % 50) + (x 0).val; rw [(idx0_1 t).1]; omega
    | 1 => show win0_1.index t 1 * 3 + 1 * (x 1).val = (x 1).val; rw [(idx0_1 t).2]; omega
  rw [View.read_apply, hx]; rfl

theorem fet0_2 (c : Dev nD) (t : Fin cfg0.N) (d) : (rdat0 f1 f0 wb bi g n c).fetched 2 t d = wb := by
  refine Eq.trans (b := (win0_2.blk t).view.read (Elt F) wb) rfl ?_
  funext x
  have hx : (win0_2.blk t).view.emb x = x := by
    funext a; apply Fin.ext
    match a with
    | 0 => show win0_2.index t 0 * 512 + 1 * (x 0).val = (x 0).val; rw [(idx0_2 t).1]; omega
    | 1 => show win0_2.index t 1 * 48 + 1 * (x 1).val = (x 1).val; rw [(idx0_2 t).2]; omega
  rw [View.read_apply, hx]; rfl

theorem fet0_3 (c : Dev nD) (t : Fin cfg0.N) (d) : (rdat0 f1 f0 wb bi g n c).fetched 3 t d = bi := by
  refine Eq.trans (b := (win0_3.blk t).view.read (Elt F) bi) rfl ?_
  funext x
  have hx : (win0_3.blk t).view.emb x = x := by
    funext a; apply Fin.ext
    match a with
    | 0 => show win0_3.index t 0 * 1 + 1 * (x 0).val = (x 0).val; rw [(idx0_3 t).1]; omega
    | 1 => show win0_3.index t 1 * 48 + 1 * (x 1).val = (x 1).val; rw [(idx0_3 t).2]; omega
  rw [View.read_apply, hx]; rfl

theorem finds0_0 (c : Dev nD) (t : Fin cfg0.N) {X} (h : (rdat0 f1 f0 wb bi g n c).Finds 0 t X) : X = bk1 f1 (t.val + 0) := by
  obtain ⟨d, rfl⟩ := ((rdat0 f1 f0 wb bi g n c).finds_of_fetch (Gen.fetch0_0 t) X).1 h
  exact fet0_0 f1 f0 wb bi g n c t d
theorem finds0_1 (c : Dev nD) (t : Fin cfg0.N) {X} (h : (rdat0 f1 f0 wb bi g n c).Finds 1 t X) : X = bk0 f0 (t.val + 0) := by
  obtain ⟨d, rfl⟩ := ((rdat0 f1 f0 wb bi g n c).finds_of_fetch (Gen.fetch0_1 t) X).1 h
  exact fet0_1 f1 f0 wb bi g n c t d
theorem finds0_2 (c : Dev nD) : ∀ (m : ℕ) (hm : m < cfg0.N) X, (rdat0 f1 f0 wb bi g n c).Finds 2 ⟨m, hm⟩ X → X = wb
  | 0, hm, X, h => by
    obtain ⟨d, rfl⟩ := ((rdat0 f1 f0 wb bi g n c).finds_of_fetch ((Gen.fetch0_2 ⟨0, hm⟩).2 rfl) X).1 h
    exact fet0_2 f1 f0 wb bi g n c ⟨0, hm⟩ d
  | m + 1, hm, X, h => by
    have hm' : m + 1 < 25 := lt_of_lt_of_eq hm Gen.N_0
    have hf : (cfg0.win 2).fetch ⟨m + 1, hm⟩ = false := by
      rw [← Bool.not_eq_true, Gen.fetch0_2]; show ¬ (m + 1) % 25 = 0; omega
    rcases ((rdat0 f1 f0 wb bi g n c).finds_of_pos hf (Nat.succ_ne_zero m) X).1 h with h' | ⟨Y, hY, hXY⟩
    · exact absurd (h'.symm.trans (show (cfg0.win 2).flush _ = false from rfl)) (by decide)
    · exact (show X = Y from hXY).trans (finds0_2 c m (by omega) Y hY)
theorem finds0_3 (c : Dev nD) : ∀ (m : ℕ) (hm : m < cfg0.N) X, (rdat0 f1 f0 wb bi g n c).Finds 3 ⟨m, hm⟩ X → X = bi
  | 0, hm, X, h => by
    obtain ⟨d, rfl⟩ := ((rdat0 f1 f0 wb bi g n c).finds_of_fetch ((Gen.fetch0_3 ⟨0, hm⟩).2 rfl) X).1 h
    exact fet0_3 f1 f0 wb bi g n c ⟨0, hm⟩ d
  | m + 1, hm, X, h => by
    have hm' : m + 1 < 25 := lt_of_lt_of_eq hm Gen.N_0
    have hf : (cfg0.win 3).fetch ⟨m + 1, hm⟩ = false := by
      rw [← Bool.not_eq_true, Gen.fetch0_3]; show ¬ (m + 1) % 25 = 0; omega
    rcases ((rdat0 f1 f0 wb bi g n c).finds_of_pos hf (Nat.succ_ne_zero m) X).1 h with h' | ⟨Y, hY, hXY⟩
    · exact absurd (h'.symm.trans (show (cfg0.win 3).flush _ = false from rfl)) (by decide)
    · exact (show X = Y from hXY).trans (finds0_3 c m (by omega) Y hY)

theorem arrStep0 (c : Dev nD) (m : ℕ) (hm : m < cfg0.N) (G : C4 (F := F)) (h : (rdat0 f1 f0 wb bi g n c).ArrAt 4 (m + 1) G) :
    ∃ (G₀ : C4 (F := F)) (X : S2000x128.Idx → Elt F .f32), (rdat0 f1 f0 wb bi g n c).ArrAt 4 m G₀
      ∧ (∀ (y : S2000x128.Idx) (z : S2000x48.Idx), (y 0).val = (z 0).val → (y 1).val = (z 1).val → X y = pay (bk1 f1 (m + 0)) (bk0 f0 (m + 0)) wb bi z)
      ∧ G = (win0_4.blk ⟨m, hm⟩).view.write (Elt F) G₀ X Finset.univ := by
  have hs := (rdat0 f1 f0 wb bi g n c).ArrAt_succ 4 ⟨m, hm⟩
  rw [if_pos (Gen.flush0_4 ⟨m, hm⟩)] at hs
  have h1 := (congrFun hs G).mp h
  obtain ⟨G₀, X, hG₀, ⟨Y, -, hX⟩, hG⟩ := h1
  exact ⟨G₀, X, hG₀, hX, hG⟩

theorem blk0_4 (m : ℕ) (hm : m < cfg0.N) (x : S2000x128.Idx) :
    ((win0_4.blk ⟨m, hm⟩).view.emb x 0).val = m * 2000 + (x 0).val ∧ ((win0_4.blk ⟨m, hm⟩).view.emb x 1).val = (x 1).val := by
  constructor
  · show win0_4.index ⟨m, hm⟩ 0 * 2000 + 1 * (x 0).val = _; rw [(idx0_4 ⟨m, hm⟩).1, one_mul]
  · show win0_4.index ⟨m, hm⟩ 1 * 128 + 1 * (x 1).val = _; rw [(idx0_4 ⟨m, hm⟩).2, one_mul, Nat.zero_mul, Nat.zero_add]

/-- The result after the points below `m`. -/
theorem arrAt0 (c : Dev nD) (m : ℕ) : ∀ (hm : m ≤ cfg0.N) (G : C4 (F := F)), (rdat0 f1 f0 wb bi g n c).ArrAt 4 m G →
    ∀ y : S50000x128.Idx, (y 0).val < 2000 * m → (y 1).val < 48 → G y = rowT 0 f1 f0 wb bi (y 0).val (y 1).val := by
  induction m with
  | zero => intro _ _ _ y hy; exact absurd hy (by omega)
  | succ m ih =>
    intro hm G h y hy hl
    obtain ⟨G₀, X, hG₀, hX', hG'⟩ := arrStep0 f1 f0 wb bi g n c m hm G h
    rcases wr_cases (F := F) (win0_4.blk ⟨m, hm⟩).view G₀ X y with ⟨x, hx, hw⟩ | ⟨hne, hw⟩
    · obtain ⟨e0, e1⟩ := blk0_4 m hm x
      exact arrVal f1 f0 wb bi m 0 X y x hX' ((congrFun hG' y).trans hw) ((congrArg (fun j : S50000x128.Idx => (j 0).val) hx).symm.trans e0)
        ((congrArg (fun j : S50000x128.Idx => (j 1).val) hx).symm.trans e1) hl
    · refine ((congrFun hG' y).trans hw).trans (ih (Nat.le_of_succ_le hm) G₀ hG₀ y ?_ hl)
      by_contra hlt
      have hy0 := (y 0).isLt; change _ < 50000 at hy0
      refine hne (ix2 (n0 := 2000) (n1 := 128) ⟨(y 0).val - 2000 * m, by omega⟩ (y 1)) ?_
      obtain ⟨e0, e1⟩ := blk0_4 m hm (ix2 (n0 := 2000) (n1 := 128) ⟨(y 0).val - 2000 * m, by omega⟩ (y 1))
      exact idx_ext _ _ (e0.trans (by show m * 2000 + ((y 0).val - 2000 * m) = _; omega)) e1

theorem body0 (c : Dev nD) : (rdat0 f1 f0 wb bi g n c).BodyObligation (defs₀ (F := F)) 𝒱₀ (none : HIx 2) Set.univ := fun t Y hY => by
  have h0 := finds0_0 f1 f0 wb bi g n c t (hY 0)
  have h1 := finds0_1 f1 f0 wb bi g n c t (hY 1)
  have h2 := finds0_2 f1 f0 wb bi g n c t.val t.isLt _ (hY 2)
  have h3 := finds0_3 f1 f0 wb bi g n c t.val t.isLt _ (hY 3)
  rw [Gen.bigSep_W0, Gen.bigSep_W0, show (rdat0 f1 f0 wb bi g n c).Φ t.succ = (rdat0 f1 f0 wb bi g n c).Φ t.castSucc from rfl,
    show (rdat0 f1 f0 wb bi g n c).owesAt (none : HIx 2) t.succ = (rdat0 f1 f0 wb bi g n c).owesAt (none : HIx 2) t.castSucc from rfl]
  iintro ⟨HΦ, HO, H0, H1, H2, H3, H4⟩
  ihave Hw := (tc0_run (F := F) (c := c) (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (X0 := Y 0) (X1 := Y 1) (X2 := Y 2) (X3 := Y 3) (X4 := Y 4)) $$ [H0 H1 H2 H3 H4]
  · isplitl [H0]; · iexact H0
    isplitl [H1]; · iexact H1
    isplitl [H2]; · iexact H2
    isplitl [H3]; · iexact H3
    iexact H4
  iapply Hw
  iintro ⟨H0, H1, H2, H3, %X, %hX, H4⟩
  isplitl [HΦ]; · iexact HΦ
  isplitl [HO]; · iexact HO
  isplitl [H0]; · iexists (Y 0); isplitr; (· ipureintro; exact rfl); iexact H0
  isplitl [H1]; · iexists (Y 1); isplitr; (· ipureintro; exact rfl); iexact H1
  isplitl [H2]; · iexists (Y 2); isplitr; (· ipureintro; exact rfl); iexact H2
  isplitl [H3]; · iexists (Y 3); isplitr; (· ipureintro; exact rfl); iexact H3
  iexists X; isplitr
  swap; · iexact H4
  ipureintro
  intro y z hy0 hy1
  rw [hX y z hy0 hy1, h0, h1, h2, h3]

variable [∀ e, Nonempty (Elt F e)]

def rdats0 : (p : Fin 2) → (c : Dev nD) → Pipeline.RDat τ (Elt F) (HIx 2) ℕ UU ℕ (Pipeline.pin (pcfgs (F := F)) adm p) c
  | ⟨0, _⟩ => fun c => rdat0 f1 f0 wb bi g n c
  | ⟨1, _⟩ => fun c => junkR c

/-- The arrays before the call. -/
abbrev pre0 (c : Dev nD) : sProp 𝕄 :=
  iprop((((c : Thread nD τ).loc main_arg1) ↦{fullShare} f1) ∗ (((c : Thread nD τ).loc main_arg0) ↦{fullShare} f0) ∗ (((c : Thread nD τ).loc main_v2) ↦{fullShare} wb)
    ∗ (((c : Thread nD τ).loc main_v5) ↦{fullShare} bi) ∗ (((c : Thread nD τ).loc main_v6) ↦{fullShare} g))

/-- And after it. -/
abbrev post0 (c : Dev nD) : sProp 𝕄 :=
  iprop((((c : Thread nD τ).loc main_arg1) ↦{fullShare} f1) ∗ (((c : Thread nD τ).loc main_arg0) ↦{fullShare} f0) ∗ (((c : Thread nD τ).loc main_v2) ↦{fullShare} wb)
    ∗ (((c : Thread nD τ).loc main_v5) ↦{fullShare} bi)
    ∗ ∃ G : C4 (F := F), ⌜∀ y : S50000x128.Idx, (y 1).val < 48 → G y = rowT 0 f1 f0 wb bi (y 0).val (y 1).val⌝ ∗ (((c : Thread nD τ).loc main_v6) ↦{fullShare} G))

set_option backward.isDefEq.respectTransparency.types false in
theorem arr_in0 (c : Dev nD) : pre0 f1 f0 wb bi g c ⊢ (rdats0 f1 f0 wb bi g n 0 c).arrays (rdats0 f1 f0 wb bi g n 0 c).A := by
  rw [Pipeline.RDat.arrays_eq (pcfgs (F := F)) adm (rdats0 f1 f0 wb bi g n) 0 c Gen.arr_whole0 ((rdats0 f1 f0 wb bi g n 0 c).share_full fun _ => rfl)]
  exact Entails.of_eq (Gen.bigSep_W0 (fun w => (((c : Thread nD τ).loc (Pipeline.arrRef spec0 w)) ↦{fullShare} (rdat0 f1 f0 wb bi g n c).A w : sProp 𝕄))).symm

set_option backward.isDefEq.respectTransparency.types false in
theorem arr_out0 (c : Dev nD) : (rdats0 f1 f0 wb bi g n 0 c).arraysAt (Pipeline.pin (pcfgs (F := F)) adm 0).N ⊢ post0 f1 f0 wb bi c := by
  rw [Pipeline.RDat.arraysAt_eq (pcfgs (F := F)) adm (rdats0 f1 f0 wb bi g n) 0 c Gen.arr_whole0 ((rdats0 f1 f0 wb bi g n 0 c).share_full fun _ => rfl)]
  have hx : _ ⊢ (iprop((∃ a : C1 (F := F), ⌜(rdat0 f1 f0 wb bi g n c).ArrAt 0 25 a⌝ ∗ (((c : Thread nD τ).loc main_arg1) ↦{fullShare} a))
      ∗ (∃ a : C0 (F := F), ⌜(rdat0 f1 f0 wb bi g n c).ArrAt 1 25 a⌝ ∗ (((c : Thread nD τ).loc main_arg0) ↦{fullShare} a))
      ∗ (∃ a : C2 (F := F), ⌜(rdat0 f1 f0 wb bi g n c).ArrAt 2 25 a⌝ ∗ (((c : Thread nD τ).loc main_v2) ↦{fullShare} a))
      ∗ (∃ a : C3 (F := F), ⌜(rdat0 f1 f0 wb bi g n c).ArrAt 3 25 a⌝ ∗ (((c : Thread nD τ).loc main_v5) ↦{fullShare} a))
      ∗ (∃ a : C4 (F := F), ⌜(rdat0 f1 f0 wb bi g n c).ArrAt 4 25 a⌝ ∗ (((c : Thread nD τ).loc main_v6) ↦{fullShare} a))) : sProp 𝕄) :=
    Entails.of_eq (Gen.bigSep_W0 (fun w => (iprop(∃ a, ⌜(rdat0 f1 f0 wb bi g n c).ArrAt w 25 a⌝ ∗ (((c : Thread nD τ).loc (Pipeline.arrRef spec0 w)) ↦{fullShare} a)) : sProp 𝕄)))
  refine BIBase.Entails.trans hx ?_
  iintro ⟨⟨%a1, %h1, H1⟩, ⟨%a0, %h0, H0⟩, ⟨%a2, %h2, H2⟩, ⟨%a3, %h3, H3⟩, ⟨%a4, %h4, H4⟩⟩
  have e1 : a1 = f1 := (congrFun ((rdat0 f1 f0 wb bi g n c).ArrAt_in 0 rfl _) a1).mp h1
  have e0 : a0 = f0 := (congrFun ((rdat0 f1 f0 wb bi g n c).ArrAt_in 1 rfl _) a0).mp h0
  have e2 : a2 = wb := (congrFun ((rdat0 f1 f0 wb bi g n c).ArrAt_in 2 rfl _) a2).mp h2
  have e3 : a3 = bi := (congrFun ((rdat0 f1 f0 wb bi g n c).ArrAt_in 3 rfl _) a3).mp h3
  subst e1 e0 e2 e3
  isplitl [H1]; · iexact H1
  isplitl [H0]; · iexact H0
  isplitl [H2]; · iexact H2
  isplitl [H3]; · iexact H3
  iexists a4; isplitr
  swap; · iexact H4
  ipureintro
  intro y hl
  have hy0 := (y 0).isLt; change _ < 50000 at hy0
  exact arrAt0 a1 a0 a2 a3 g n c 25 (by decide) a4 h4 y (by omega) hl

set_option backward.isDefEq.respectTransparency.types false in
/-- The call as a region of @main. -/
def reg0 : Pipeline.RDat.RegionSeg (pcfgs (F := F)) adm (rdats0 f1 f0 wb bi g n) (none : HIx 2) defs₀ 𝒱₀ (K (F := F)).L (K (F := F)).lev 0 where
  win := (Gen.launch0).win.to₀
  block_pos := Gen.block_pos0
  stage_whole := Gen.stage_whole0
  K := PEmpty
  osem k := k.elim
  ho := Pipeline.OwnSemFacts.none _
  hbody c := body0 f1 f0 wb bi g n c
  hwaits c := Pipeline.RDat.cellsWaits_intro _ _ _ _ _ fun w s t => (K (F := F)).mayWait_none (thr := T c) _ (fun g => otc_none c n g)
  pre c := iprop(pre0 f1 f0 wb bi g c ∗ tcOwe (F := F) c n)
  post c := iprop(post0 f1 f0 wb bi c ∗ tcOwe (F := F) c n)
  X _ := BI.emp
  Y _ := BI.emp
  Z _ := BI.emp
  hentry c := by
    rw [Pipeline.ownSems0_none, Pipeline.prefHeld_of_none _ rfl]
    iintro ⟨⟨Ha, %W, %hW, HO⟩, -, -⟩
    imodintro
    isplitl [Ha]; · iapply (arr_in0 f1 f0 wb bi g n c) $$ Ha
    isplitr; · iempintro
    isplitl [HO]
    · unfold Pipeline.RDat.owesAt Pipeline.owesWithin
      iexists W; isplitr
      · ipureintro; exact fun p hp => Or.inl (hW p hp)
      iexact HO
    isplitr <;> iempintro
  hin c := by
    rw [show (rdats0 f1 f0 wb bi g n 0 c).Φ 0 = Pipeline.scopedRest (Ix := HIx 2) (Name := ℕ) (U := UU) (Lvl := ℕ) (Val := Elt F) spec0 c from rfl]
    iintro ⟨-, -, Hr⟩; iexact Hr
  hout c := by
    rw [Pipeline.ownSems0_none, show (rdats0 f1 f0 wb bi g n 0 c).Φ (Fin.last _) = Pipeline.scopedRest (Ix := HIx 2) (Name := ℕ) (U := UU) (Lvl := ℕ) (Val := Elt F) spec0 c from rfl]
    iintro Hr
    isplitr; · iempintro
    isplitr; · iempintro
    iexact Hr
  hexit c := by
    unfold Pipeline.RDat.owesAt Pipeline.owesWithin
    iintro ⟨Ha, ⟨%W, %hW, HO⟩, -, -⟩
    imodintro
    isplitl [Ha]; · iapply (arr_out0 f1 f0 wb bi g n c) $$ Ha
    iexists W; isplitr
    · ipureintro
      intro p hp
      rcases hW hp with h | ⟨w, s, h⟩
      · exact h
      · rw [h]; exact Nat.zero_le _
    iexact HO

/-- The call run, from the arrays at their contents and what the core owes. -/
theorem region0 (c : Dev nD) {α : Type} (k : PUnit → Prog (TpuEff nD τ sig (Elt F) (ΛP (F := F)) .tc) α) (Q : α → sProp 𝕄) :
    iprop((iprop(boundary (c : Thread nD τ) ∗ post0 f1 f0 wb bi c ∗ tcOwe (F := F) c n) -∗ wp frame (wpE (D (F := F)) 𝒱 (c : Thread nD τ) none) Set.univ (k ⟨⟩) Q)
        ∗ boundary (c : Thread nD τ) ∗ (pre0 f1 f0 wb bi g c ∗ tcOwe (F := F) c n) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c : Thread nD τ) none) Set.univ (.op (.customCall (Pipeline.entry 0) ()) k) Q :=
  Pipeline.RDat.RegionSeg.wp (pcfgs (F := F)) adm (rdats0 f1 f0 wb bi g n) none phinj EP defs₀ 𝒱₀ (K (F := F)).L (K (F := F)).lev (reg0 f1 f0 wb bi g n) c none
    (fun u hu => absurd hu (by simp)) k Q

end Half0

/-! ## The call of half 1 -/

theorem idx2_0 : ∀ t : Fin grid2.N, win2_0.index t 0 = t.val + 25 ∧ win2_0.index t 1 = 0 := by decide +kernel
theorem idx2_1 : ∀ t : Fin grid2.N, win2_1.index t 0 = t.val + 25 ∧ win2_1.index t 1 = 0 := by decide +kernel
theorem idx2_2 : ∀ t : Fin grid2.N, win2_2.index t 0 = 0 ∧ win2_2.index t 1 = 0 := by decide +kernel
theorem idx2_3 : ∀ t : Fin grid2.N, win2_3.index t 0 = 0 ∧ win2_3.index t 1 = 0 := by decide +kernel
theorem idx2_4 : ∀ t : Fin grid2.N, win2_4.index t 0 = t.val ∧ win2_4.index t 1 = 0 := by decide +kernel

section Half2

variable (f1 : C1 (F := F)) (f0 : C0 (F := F)) (wb : C2 (F := F)) (bi : C3 (F := F)) (g : C4 (F := F)) (n : ℕ)

def rdat2 (c : Dev nD) : Pipeline.RDat τ (Elt F) (HIx 2) ℕ UU ℕ cfg2 c where
  A w := match w with
    | ⟨0, _⟩ => f1
    | ⟨1, _⟩ => f0
    | ⟨2, _⟩ => wb
    | ⟨3, _⟩ => bi
    | ⟨4, _⟩ => g
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∀ (y : S2000x128.Idx) (z : S2000x48.Idx), (y 0).val = (z 0).val → (y 1).val = (z 1).val →
        X y = pay (bk1 f1 (t.val + 25)) (bk0 f0 (t.val + 25)) wb bi z
  Φ _ := Pipeline.scopedRest (Ix := HIx 2) (Name := ℕ) (U := UU) (Lvl := ℕ) (Val := Elt F) spec2 c
  q _ := fullShare
  owed _ := (K (F := F)).Otc c n
  recorded _ := recd (F := F) c n

theorem fet2_0 (c : Dev nD) (t : Fin cfg2.N) (d) : (rdat2 f1 f0 wb bi g n c).fetched 0 t d = bk1 f1 (t.val + 25) := by
  refine Eq.trans (b := (win2_0.blk t).view.read (Elt F) f1) rfl ?_
  funext x
  have ht : t.val < 25 := lt_of_lt_of_eq t.isLt Gen.N_2
  have hx : (win2_0.blk t).view.emb x = ix2 (n0 := 100000) (n1 := 512) ⟨2000 * ((t.val + 25) % 50) + (x 0).val, by have := (x 0).isLt; change _ < 2000 at this; omega⟩ (x 1) := by
    funext a; apply Fin.ext
    match a with
    | 0 => show win2_0.index t 0 * 2000 + 1 * (x 0).val = 2000 * ((t.val + 25) % 50) + (x 0).val; rw [(idx2_0 t).1]; omega
    | 1 => show win2_0.index t 1 * 512 + 1 * (x 1).val = (x 1).val; rw [(idx2_0 t).2]; omega
  rw [View.read_apply, hx]; rfl

theorem fet2_1 (c : Dev nD) (t : Fin cfg2.N) (d) : (rdat2 f1 f0 wb bi g n c).fetched 1 t d = bk0 f0 (t.val + 25) := by
  refine Eq.trans (b := (win2_1.blk t).view.read (Elt F) f0) rfl ?_
  funext x
  have ht : t.val < 25 := lt_of_lt_of_eq t.isLt Gen.N_2
  have hx : (win2_1.blk t).view.emb x = ix2 (n0 := 100000) (n1 := 3) ⟨2000 * ((t.val + 25) % 50) + (x 0).val, by have := (x 0).isLt; change _ < 2000 at this; omega⟩ (x 1) := by
    funext a; apply Fin.ext
    match a with
    | 0 => show win2_1.index t 0 * 2000 + 1 * (x 0).val = 2000 * ((t.val + 25) % 50) + (x 0).val; rw [(idx2_1 t).1]; omega
    | 1 => show win2_1.index t 1 * 3 + 1 * (x 1).val = (x 1).val; rw [(idx2_1 t).2]; omega
  rw [View.read_apply, hx]; rfl

theorem fet2_2 (c : Dev nD) (t : Fin cfg2.N) (d) : (rdat2 f1 f0 wb bi g n c).fetched 2 t d = wb := by
  refine Eq.trans (b := (win2_2.blk t).view.read (Elt F) wb) rfl ?_
  funext x
  have hx : (win2_2.blk t).view.emb x = x := by
    funext a; apply Fin.ext
    match a with
    | 0 => show win2_2.index t 0 * 512 + 1 * (x 0).val = (x 0).val; rw [(idx2_2 t).1]; omega
    | 1 => show win2_2.index t 1 * 48 + 1 * (x 1).val = (x 1).val; rw [(idx2_2 t).2]; omega
  rw [View.read_apply, hx]; rfl

theorem fet2_3 (c : Dev nD) (t : Fin cfg2.N) (d) : (rdat2 f1 f0 wb bi g n c).fetched 3 t d = bi := by
  refine Eq.trans (b := (win2_3.blk t).view.read (Elt F) bi) rfl ?_
  funext x
  have hx : (win2_3.blk t).view.emb x = x := by
    funext a; apply Fin.ext
    match a with
    | 0 => show win2_3.index t 0 * 1 + 1 * (x 0).val = (x 0).val; rw [(idx2_3 t).1]; omega
    | 1 => show win2_3.index t 1 * 48 + 1 * (x 1).val = (x 1).val; rw [(idx2_3 t).2]; omega
  rw [View.read_apply, hx]; rfl

theorem finds2_0 (c : Dev nD) (t : Fin cfg2.N) {X} (h : (rdat2 f1 f0 wb bi g n c).Finds 0 t X) : X = bk1 f1 (t.val + 25) := by
  obtain ⟨d, rfl⟩ := ((rdat2 f1 f0 wb bi g n c).finds_of_fetch (Gen.fetch2_0 t) X).1 h
  exact fet2_0 f1 f0 wb bi g n c t d
theorem finds2_1 (c : Dev nD) (t : Fin cfg2.N) {X} (h : (rdat2 f1 f0 wb bi g n c).Finds 1 t X) : X = bk0 f0 (t.val + 25) := by
  obtain ⟨d, rfl⟩ := ((rdat2 f1 f0 wb bi g n c).finds_of_fetch (Gen.fetch2_1 t) X).1 h
  exact fet2_1 f1 f0 wb bi g n c t d
theorem finds2_2 (c : Dev nD) : ∀ (m : ℕ) (hm : m < cfg2.N) X, (rdat2 f1 f0 wb bi g n c).Finds 2 ⟨m, hm⟩ X → X = wb
  | 0, hm, X, h => by
    obtain ⟨d, rfl⟩ := ((rdat2 f1 f0 wb bi g n c).finds_of_fetch ((Gen.fetch2_2 ⟨0, hm⟩).2 rfl) X).1 h
    exact fet2_2 f1 f0 wb bi g n c ⟨0, hm⟩ d
  | m + 1, hm, X, h => by
    have hm' : m + 1 < 25 := lt_of_lt_of_eq hm Gen.N_2
    have hf : (cfg2.win 2).fetch ⟨m + 1, hm⟩ = false := by
      rw [← Bool.not_eq_true, Gen.fetch2_2]; show ¬ (m + 1) % 25 = 0; omega
    rcases ((rdat2 f1 f0 wb bi g n c).finds_of_pos hf (Nat.succ_ne_zero m) X).1 h with h' | ⟨Y, hY, hXY⟩
    · exact absurd (h'.symm.trans (show (cfg2.win 2).flush _ = false from rfl)) (by decide)
    · exact (show X = Y from hXY).trans (finds2_2 c m (by omega) Y hY)
theorem finds2_3 (c : Dev nD) : ∀ (m : ℕ) (hm : m < cfg2.N) X, (rdat2 f1 f0 wb bi g n c).Finds 3 ⟨m, hm⟩ X → X = bi
  | 0, hm, X, h => by
    obtain ⟨d, rfl⟩ := ((rdat2 f1 f0 wb bi g n c).finds_of_fetch ((Gen.fetch2_3 ⟨0, hm⟩).2 rfl) X).1 h
    exact fet2_3 f1 f0 wb bi g n c ⟨0, hm⟩ d
  | m + 1, hm, X, h => by
    have hm' : m + 1 < 25 := lt_of_lt_of_eq hm Gen.N_2
    have hf : (cfg2.win 3).fetch ⟨m + 1, hm⟩ = false := by
      rw [← Bool.not_eq_true, Gen.fetch2_3]; show ¬ (m + 1) % 25 = 0; omega
    rcases ((rdat2 f1 f0 wb bi g n c).finds_of_pos hf (Nat.succ_ne_zero m) X).1 h with h' | ⟨Y, hY, hXY⟩
    · exact absurd (h'.symm.trans (show (cfg2.win 3).flush _ = false from rfl)) (by decide)
    · exact (show X = Y from hXY).trans (finds2_3 c m (by omega) Y hY)

theorem arrStep2 (c : Dev nD) (m : ℕ) (hm : m < cfg2.N) (G : C4 (F := F)) (h : (rdat2 f1 f0 wb bi g n c).ArrAt 4 (m + 1) G) :
    ∃ (G₀ : C4 (F := F)) (X : S2000x128.Idx → Elt F .f32), (rdat2 f1 f0 wb bi g n c).ArrAt 4 m G₀
      ∧ (∀ (y : S2000x128.Idx) (z : S2000x48.Idx), (y 0).val = (z 0).val → (y 1).val = (z 1).val → X y = pay (bk1 f1 (m + 25)) (bk0 f0 (m + 25)) wb bi z)
      ∧ G = (win2_4.blk ⟨m, hm⟩).view.write (Elt F) G₀ X Finset.univ := by
  have hs := (rdat2 f1 f0 wb bi g n c).ArrAt_succ 4 ⟨m, hm⟩
  rw [if_pos (Gen.flush2_4 ⟨m, hm⟩)] at hs
  have h1 := (congrFun hs G).mp h
  obtain ⟨G₀, X, hG₀, ⟨Y, -, hX⟩, hG⟩ := h1
  exact ⟨G₀, X, hG₀, hX, hG⟩

theorem blk2_4 (m : ℕ) (hm : m < cfg2.N) (x : S2000x128.Idx) :
    ((win2_4.blk ⟨m, hm⟩).view.emb x 0).val = m * 2000 + (x 0).val ∧ ((win2_4.blk ⟨m, hm⟩).view.emb x 1).val = (x 1).val := by
  constructor
  · show win2_4.index ⟨m, hm⟩ 0 * 2000 + 1 * (x 0).val = _; rw [(idx2_4 ⟨m, hm⟩).1, one_mul]
  · show win2_4.index ⟨m, hm⟩ 1 * 128 + 1 * (x 1).val = _; rw [(idx2_4 ⟨m, hm⟩).2, one_mul, Nat.zero_mul, Nat.zero_add]

/-- The result after the points below `m`. -/
theorem arrAt2 (c : Dev nD) (m : ℕ) : ∀ (hm : m ≤ cfg2.N) (G : C4 (F := F)), (rdat2 f1 f0 wb bi g n c).ArrAt 4 m G →
    ∀ y : S50000x128.Idx, (y 0).val < 2000 * m → (y 1).val < 48 → G y = rowT 25 f1 f0 wb bi (y 0).val (y 1).val := by
  induction m with
  | zero => intro _ _ _ y hy; exact absurd hy (by omega)
  | succ m ih =>
    intro hm G h y hy hl
    obtain ⟨G₀, X, hG₀, hX', hG'⟩ := arrStep2 f1 f0 wb bi g n c m hm G h
    rcases wr_cases (F := F) (win2_4.blk ⟨m, hm⟩).view G₀ X y with ⟨x, hx, hw⟩ | ⟨hne, hw⟩
    · obtain ⟨e0, e1⟩ := blk2_4 m hm x
      exact arrVal f1 f0 wb bi m 25 X y x hX' ((congrFun hG' y).trans hw) ((congrArg (fun j : S50000x128.Idx => (j 0).val) hx).symm.trans e0)
        ((congrArg (fun j : S50000x128.Idx => (j 1).val) hx).symm.trans e1) hl
    · refine ((congrFun hG' y).trans hw).trans (ih (Nat.le_of_succ_le hm) G₀ hG₀ y ?_ hl)
      by_contra hlt
      have hy0 := (y 0).isLt; change _ < 50000 at hy0
      refine hne (ix2 (n0 := 2000) (n1 := 128) ⟨(y 0).val - 2000 * m, by omega⟩ (y 1)) ?_
      obtain ⟨e0, e1⟩ := blk2_4 m hm (ix2 (n0 := 2000) (n1 := 128) ⟨(y 0).val - 2000 * m, by omega⟩ (y 1))
      exact idx_ext _ _ (e0.trans (by show m * 2000 + ((y 0).val - 2000 * m) = _; omega)) e1

theorem body2 (c : Dev nD) : (rdat2 f1 f0 wb bi g n c).BodyObligation (defs₀ (F := F)) 𝒱₀ (none : HIx 2) Set.univ := fun t Y hY => by
  have h0 := finds2_0 f1 f0 wb bi g n c t (hY 0)
  have h1 := finds2_1 f1 f0 wb bi g n c t (hY 1)
  have h2 := finds2_2 f1 f0 wb bi g n c t.val t.isLt _ (hY 2)
  have h3 := finds2_3 f1 f0 wb bi g n c t.val t.isLt _ (hY 3)
  rw [Gen.bigSep_W2, Gen.bigSep_W2, show (rdat2 f1 f0 wb bi g n c).Φ t.succ = (rdat2 f1 f0 wb bi g n c).Φ t.castSucc from rfl,
    show (rdat2 f1 f0 wb bi g n c).owesAt (none : HIx 2) t.succ = (rdat2 f1 f0 wb bi g n c).owesAt (none : HIx 2) t.castSucc from rfl]
  iintro ⟨HΦ, HO, H0, H1, H2, H3, H4⟩
  ihave Hw := (tc2_run (F := F) (c := c) (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (X0 := Y 0) (X1 := Y 1) (X2 := Y 2) (X3 := Y 3) (X4 := Y 4)) $$ [H0 H1 H2 H3 H4]
  · isplitl [H0]; · iexact H0
    isplitl [H1]; · iexact H1
    isplitl [H2]; · iexact H2
    isplitl [H3]; · iexact H3
    iexact H4
  iapply Hw
  iintro ⟨H0, H1, H2, H3, %X, %hX, H4⟩
  isplitl [HΦ]; · iexact HΦ
  isplitl [HO]; · iexact HO
  isplitl [H0]; · iexists (Y 0); isplitr; (· ipureintro; exact rfl); iexact H0
  isplitl [H1]; · iexists (Y 1); isplitr; (· ipureintro; exact rfl); iexact H1
  isplitl [H2]; · iexists (Y 2); isplitr; (· ipureintro; exact rfl); iexact H2
  isplitl [H3]; · iexists (Y 3); isplitr; (· ipureintro; exact rfl); iexact H3
  iexists X; isplitr
  swap; · iexact H4
  ipureintro
  intro y z hy0 hy1
  rw [hX y z hy0 hy1, h0, h1, h2, h3]

variable [∀ e, Nonempty (Elt F e)]

def rdats2 : (p : Fin 2) → (c : Dev nD) → Pipeline.RDat τ (Elt F) (HIx 2) ℕ UU ℕ (Pipeline.pin (pcfgs (F := F)) adm p) c
  | ⟨0, _⟩ => fun c => junkR c
  | ⟨1, _⟩ => fun c => rdat2 f1 f0 wb bi g n c

/-- The arrays before the call. -/
abbrev pre2 (c : Dev nD) : sProp 𝕄 :=
  iprop((((c : Thread nD τ).loc main_arg1) ↦{fullShare} f1) ∗ (((c : Thread nD τ).loc main_arg0) ↦{fullShare} f0) ∗ (((c : Thread nD τ).loc main_v2) ↦{fullShare} wb)
    ∗ (((c : Thread nD τ).loc main_v5) ↦{fullShare} bi) ∗ (((c : Thread nD τ).loc main_v8) ↦{fullShare} g))

/-- And after it. -/
abbrev post2 (c : Dev nD) : sProp 𝕄 :=
  iprop((((c : Thread nD τ).loc main_arg1) ↦{fullShare} f1) ∗ (((c : Thread nD τ).loc main_arg0) ↦{fullShare} f0) ∗ (((c : Thread nD τ).loc main_v2) ↦{fullShare} wb)
    ∗ (((c : Thread nD τ).loc main_v5) ↦{fullShare} bi)
    ∗ ∃ G : C4 (F := F), ⌜∀ y : S50000x128.Idx, (y 1).val < 48 → G y = rowT 25 f1 f0 wb bi (y 0).val (y 1).val⌝ ∗ (((c : Thread nD τ).loc main_v8) ↦{fullShare} G))

set_option backward.isDefEq.respectTransparency.types false in
theorem arr_in2 (c : Dev nD) : pre2 f1 f0 wb bi g c ⊢ (rdats2 f1 f0 wb bi g n 1 c).arrays (rdats2 f1 f0 wb bi g n 1 c).A := by
  rw [Pipeline.RDat.arrays_eq (pcfgs (F := F)) adm (rdats2 f1 f0 wb bi g n) 1 c Gen.arr_whole2 ((rdats2 f1 f0 wb bi g n 1 c).share_full fun _ => rfl)]
  exact Entails.of_eq (Gen.bigSep_W2 (fun w => (((c : Thread nD τ).loc (Pipeline.arrRef spec2 w)) ↦{fullShare} (rdat2 f1 f0 wb bi g n c).A w : sProp 𝕄))).symm

set_option backward.isDefEq.respectTransparency.types false in
theorem arr_out2 (c : Dev nD) : (rdats2 f1 f0 wb bi g n 1 c).arraysAt (Pipeline.pin (pcfgs (F := F)) adm 1).N ⊢ post2 f1 f0 wb bi c := by
  rw [Pipeline.RDat.arraysAt_eq (pcfgs (F := F)) adm (rdats2 f1 f0 wb bi g n) 1 c Gen.arr_whole2 ((rdats2 f1 f0 wb bi g n 1 c).share_full fun _ => rfl)]
  have hx : _ ⊢ (iprop((∃ a : C1 (F := F), ⌜(rdat2 f1 f0 wb bi g n c).ArrAt 0 25 a⌝ ∗ (((c : Thread nD τ).loc main_arg1) ↦{fullShare} a))
      ∗ (∃ a : C0 (F := F), ⌜(rdat2 f1 f0 wb bi g n c).ArrAt 1 25 a⌝ ∗ (((c : Thread nD τ).loc main_arg0) ↦{fullShare} a))
      ∗ (∃ a : C2 (F := F), ⌜(rdat2 f1 f0 wb bi g n c).ArrAt 2 25 a⌝ ∗ (((c : Thread nD τ).loc main_v2) ↦{fullShare} a))
      ∗ (∃ a : C3 (F := F), ⌜(rdat2 f1 f0 wb bi g n c).ArrAt 3 25 a⌝ ∗ (((c : Thread nD τ).loc main_v5) ↦{fullShare} a))
      ∗ (∃ a : C4 (F := F), ⌜(rdat2 f1 f0 wb bi g n c).ArrAt 4 25 a⌝ ∗ (((c : Thread nD τ).loc main_v8) ↦{fullShare} a))) : sProp 𝕄) :=
    Entails.of_eq (Gen.bigSep_W2 (fun w => (iprop(∃ a, ⌜(rdat2 f1 f0 wb bi g n c).ArrAt w 25 a⌝ ∗ (((c : Thread nD τ).loc (Pipeline.arrRef spec2 w)) ↦{fullShare} a)) : sProp 𝕄)))
  refine BIBase.Entails.trans hx ?_
  iintro ⟨⟨%a1, %h1, H1⟩, ⟨%a0, %h0, H0⟩, ⟨%a2, %h2, H2⟩, ⟨%a3, %h3, H3⟩, ⟨%a4, %h4, H4⟩⟩
  have e1 : a1 = f1 := (congrFun ((rdat2 f1 f0 wb bi g n c).ArrAt_in 0 rfl _) a1).mp h1
  have e0 : a0 = f0 := (congrFun ((rdat2 f1 f0 wb bi g n c).ArrAt_in 1 rfl _) a0).mp h0
  have e2 : a2 = wb := (congrFun ((rdat2 f1 f0 wb bi g n c).ArrAt_in 2 rfl _) a2).mp h2
  have e3 : a3 = bi := (congrFun ((rdat2 f1 f0 wb bi g n c).ArrAt_in 3 rfl _) a3).mp h3
  subst e1 e0 e2 e3
  isplitl [H1]; · iexact H1
  isplitl [H0]; · iexact H0
  isplitl [H2]; · iexact H2
  isplitl [H3]; · iexact H3
  iexists a4; isplitr
  swap; · iexact H4
  ipureintro
  intro y hl
  have hy0 := (y 0).isLt; change _ < 50000 at hy0
  exact arrAt2 a1 a0 a2 a3 g n c 25 (by decide) a4 h4 y (by omega) hl

set_option backward.isDefEq.respectTransparency.types false in
/-- The call as a region of @main. -/
def reg2 : Pipeline.RDat.RegionSeg (pcfgs (F := F)) adm (rdats2 f1 f0 wb bi g n) (none : HIx 2) defs₀ 𝒱₀ (K (F := F)).L (K (F := F)).lev 1 where
  win := (Gen.launch2).win.to₀
  block_pos := Gen.block_pos2
  stage_whole := Gen.stage_whole2
  K := PEmpty
  osem k := k.elim
  ho := Pipeline.OwnSemFacts.none _
  hbody c := body2 f1 f0 wb bi g n c
  hwaits c := Pipeline.RDat.cellsWaits_intro _ _ _ _ _ fun w s t => (K (F := F)).mayWait_none (thr := T c) _ (fun g => otc_none c n g)
  pre c := iprop(pre2 f1 f0 wb bi g c ∗ tcOwe (F := F) c n)
  post c := iprop(post2 f1 f0 wb bi c ∗ tcOwe (F := F) c n)
  X _ := BI.emp
  Y _ := BI.emp
  Z _ := BI.emp
  hentry c := by
    rw [Pipeline.ownSems0_none, Pipeline.prefHeld_of_none _ rfl]
    iintro ⟨⟨Ha, %W, %hW, HO⟩, -, -⟩
    imodintro
    isplitl [Ha]; · iapply (arr_in2 f1 f0 wb bi g n c) $$ Ha
    isplitr; · iempintro
    isplitl [HO]
    · unfold Pipeline.RDat.owesAt Pipeline.owesWithin
      iexists W; isplitr
      · ipureintro; exact fun p hp => Or.inl (hW p hp)
      iexact HO
    isplitr <;> iempintro
  hin c := by
    rw [show (rdats2 f1 f0 wb bi g n 1 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (rdats2 f1 f0 wb bi g n 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    unfold Pipeline.RDat.owesAt Pipeline.owesWithin
    iintro ⟨Ha, ⟨%W, %hW, HO⟩, -, -⟩
    imodintro
    isplitl [Ha]; · iapply (arr_out2 f1 f0 wb bi g n c) $$ Ha
    iexists W; isplitr
    · ipureintro
      intro p hp
      rcases hW hp with h | ⟨w, s, h⟩
      · exact h
      · rw [h]; exact Nat.zero_le _
    iexact HO

/-- The call run, from the arrays at their contents and what the core owes. -/
theorem region2 (c : Dev nD) {α : Type} (k : PUnit → Prog (TpuEff nD τ sig (Elt F) (ΛP (F := F)) .tc) α) (Q : α → sProp 𝕄) :
    iprop((iprop(boundary (c : Thread nD τ) ∗ post2 f1 f0 wb bi c ∗ tcOwe (F := F) c n) -∗ wp frame (wpE (D (F := F)) 𝒱 (c : Thread nD τ) none) Set.univ (k ⟨⟩) Q)
        ∗ boundary (c : Thread nD τ) ∗ (pre2 f1 f0 wb bi g c ∗ tcOwe (F := F) c n) ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE (D (F := F)) 𝒱 (c : Thread nD τ) none) Set.univ (.op (.customCall (Pipeline.entry 1) ()) k) Q :=
  Pipeline.RDat.RegionSeg.wp (pcfgs (F := F)) adm (rdats2 f1 f0 wb bi g n) none phinj EP defs₀ 𝒱₀ (K (F := F)).L (K (F := F)).lev (reg2 f1 f0 wb bi g n) c none
    (fun u hu => absurd hu (by simp)) k Q

end Half2

end Cert.Proof.Knl

end
-- ==== Proof.Pay.lean ====
module
public import proofs.«01_k».proof.Proof.Tile1
public import proofs.«01_k».proof.Proof.Tile3
public import proofs.«01_k».proof.Proof.Region

@[expose] public section

set_option Elab.async false
set_option maxHeartbeats 4000000

noncomputable section

namespace Cert.Proof.Knl
open Cert.KernelIdeal
open Cert.KernelIdeal.Facts₀ Cert.KernelIdeal.Facts
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## What the two calls hand their tiles -/

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

/-- The number of the tile at subcore `i` of core `c`. -/
abbrev wOf (c : Fin 2) (i : Fin 16) : ℕ := 2 * i.val + c.val

/-- The share of an array a tile takes, and the two halves of it. -/
def shr (c : Fin 2) (i : Fin 16) : PosShare TreeShare :=
  Transfers.dealOf (Transfers.dealOf fullShare Finset.univ c) Finset.univ i
def shrA (c : Fin 2) (i : Fin 16) : PosShare TreeShare := Transfers.dealOf (shr c i) (Finset.univ : Finset (Fin 2)) 0
def shrB (c : Fin 2) (i : Fin 16) : PosShare TreeShare := Transfers.dealOf (shr c i) (Finset.univ : Finset (Fin 2)) 1

/-- The columns a table of rows transposes to. -/
def xof (A : ℕ → ℕ → Elt F .f32) : S3x800000.Idx → Elt F .f32 := fun y => A ((y 1).val / 16) (3 * ((y 1).val % 16) + (y 0).val)

theorem idx_lt {n k : ℕ} (h : n < 16 * k) : n / 16 < k := by omega

/-- The batch numbers, each sixteen times over. -/
def bof (bt : S100000.Idx → Elt F .i32) : S1600000.Idx → Elt F .i32 :=
  fun y => bt (ix1 (⟨(y 0).val / 16, idx_lt (k := 100000) (y 0).isLt⟩ : Fin 100000))

abbrev TabL (b : Ref sig .tc) (d : Dev nD) : Loc nD τ sig := (SparseCore.T d).loc b

/-- A share of the first half's table of rows. -/
def Tab6 (d : Dev nD) (q : PosShare TreeShare) (A : ℕ → ℕ → Elt F .f32) : sProp 𝕄 :=
  iprop(∃ f : S50000x128.Idx → Elt F .f32, ⌜∀ z : S50000x128.Idx, (z 1).val < 48 → f z = A (z 0).val (z 1).val⌝ ∗ (TabL main_v6 d ↦{q} f))
/-- A share of the second half's table of rows. -/
def Tab8 (d : Dev nD) (q : PosShare TreeShare) (A : ℕ → ℕ → Elt F .f32) : sProp 𝕄 :=
  iprop(∃ f : S50000x128.Idx → Elt F .f32, ⌜∀ z : S50000x128.Idx, (z 1).val < 48 → f z = A (z 0).val (z 1).val⌝ ∗ (TabL main_v8 d ↦{q} f))

/-- A tile's columns of the two results of the transposition. -/
abbrev colW (w : ℕ) : Finset S3x800000.Idx := colsOf (fstRow w) (fstRow (w + 1))

def go0 (bt : S100000.Idx → Elt F .i32) (A : ℕ → ℕ → Elt F .f32) (d : Dev nD) (c : Fin 2) (i : Fin 16) : sProp 𝕄 :=
  iprop(Tab6 d (shrA c i) A ∗ Tab6 d (shrB c i) A ∗ (∃ f, TabL main_v7_0 d ↦[colW (wOf c i)]{fullShare} f)
    ∗ (TabL main_arg2 d ↦{shr c i} bt) ∗ (∃ f, TabL main_v7_1 d ↦[cellsOf (wOf c i)]{fullShare} f))
def td0 (bt : S100000.Idx → Elt F .i32) (A : ℕ → ℕ → Elt F .f32) (d : Dev nD) (c : Fin 2) (i : Fin 16) : sProp 𝕄 :=
  iprop((TabL main_v7_0 d ↦[colW (wOf c i)]{fullShare} xof A) ∗ (TabL main_arg2 d ↦{shr c i} bt) ∗ (TabL main_v7_1 d ↦[cellsOf (wOf c i)]{fullShare} bof bt))
def go1 (A : ℕ → ℕ → Elt F .f32) (d : Dev nD) (c : Fin 2) (i : Fin 16) : sProp 𝕄 :=
  iprop(Tab8 d (shrA c i) A ∗ Tab8 d (shrB c i) A ∗ (∃ f, TabL main_v9 d ↦[colW (wOf c i)]{fullShare} f))
def td1 (A : ℕ → ℕ → Elt F .f32) (d : Dev nD) (c : Fin 2) (i : Fin 16) : sProp 𝕄 :=
  iprop(TabL main_v9 d ↦[colW (wOf c i)]{fullShare} xof A)

section Store
variable (bt : S100000.Idx → Elt F .i32) (A : ℕ → ℕ → Elt F .f32) (d : Dev nD) (c : Fin 2) (i : Fin 16) (q : PosShare TreeShare)
instance : BI.Storable (upEmb : UEmb _ 𝕄) (Tab6 d q A) := by unfold Tab6; infer_instance
instance : BI.Storable (upEmb : UEmb _ 𝕄) (Tab8 d q A) := by unfold Tab8; infer_instance
instance : BI.Storable (upEmb : UEmb _ 𝕄) (go0 bt A d c i) := by unfold go0; infer_instance
instance : BI.Storable (upEmb : UEmb _ 𝕄) (td0 bt A d c i) := by unfold td0; infer_instance
instance : BI.Storable (upEmb : UEmb _ 𝕄) (go1 A d c i) := by unfold go1; infer_instance
instance : BI.Storable (upEmb : UEmb _ 𝕄) (td1 A d c i) := by unfold td1; infer_instance
end Store

variable [FloatOps F]
variable (bt : Dev nD → S100000.Idx → Elt F .i32) (A₀ A₁ : Dev nD → ℕ → ℕ → Elt F .f32)

def P : (K (F := F)).Pay (nD := nD) (Val := Elt F) (Name := ℕ) (U := UU) where
  st := fun q d c => match q with
    | 0 => bigSep Finset.univ fun i : Fin 16 => go0 (bt d) (A₀ d) d (c : Fin 2) i
    | 1 => bigSep Finset.univ fun i : Fin 16 => go1 (A₁ d) d (c : Fin 2) i
  dn := fun q d c => match q with
    | 0 => bigSep Finset.univ fun i : Fin 16 => td0 (bt d) (A₀ d) d (c : Fin 2) i
    | 1 => bigSep Finset.univ fun i : Fin 16 => td1 (A₁ d) d (c : Fin 2) i
  go := fun q d c i => match q with
    | 0 => go0 (bt d) (A₀ d) d (c : Fin 2) (i : Fin 16)
    | 1 => go1 (A₁ d) d (c : Fin 2) (i : Fin 16)
  td := fun q d c i => match q with
    | 0 => td0 (bt d) (A₀ d) d (c : Fin 2) (i : Fin 16)
    | 1 => td1 (A₁ d) d (c : Fin 2) (i : Fin 16)
  x := fun _ _ => iprop(emp)

instance P_storable : (P (F := F) bt A₀ A₁).IsStorable where
  st q d c := match q with
    | 0 => (inferInstance : BI.Storable (upEmb : UEmb _ 𝕄) (bigSep Finset.univ fun i : Fin 16 => go0 (bt d) (A₀ d) d (c : Fin 2) i))
    | 1 => (inferInstance : BI.Storable (upEmb : UEmb _ 𝕄) (bigSep Finset.univ fun i : Fin 16 => go1 (A₁ d) d (c : Fin 2) i))
  dn q d c := match q with
    | 0 => (inferInstance : BI.Storable (upEmb : UEmb _ 𝕄) (bigSep Finset.univ fun i : Fin 16 => td0 (bt d) (A₀ d) d (c : Fin 2) i))
    | 1 => (inferInstance : BI.Storable (upEmb : UEmb _ 𝕄) (bigSep Finset.univ fun i : Fin 16 => td1 (A₁ d) d (c : Fin 2) i))
  go q d c i := match q with
    | 0 => (inferInstance : BI.Storable (upEmb : UEmb _ 𝕄) (go0 (bt d) (A₀ d) d (c : Fin 2) (i : Fin 16)))
    | 1 => (inferInstance : BI.Storable (upEmb : UEmb _ 𝕄) (go1 (A₁ d) d (c : Fin 2) (i : Fin 16)))
  td q d c i := match q with
    | 0 => (inferInstance : BI.Storable (upEmb : UEmb _ 𝕄) (td0 (bt d) (A₀ d) d (c : Fin 2) (i : Fin 16)))
    | 1 => (inferInstance : BI.Storable (upEmb : UEmb _ 𝕄) (td1 (A₁ d) d (c : Fin 2) (i : Fin 16)))

theorem vecSplit0 : (K (F := F)).VecSplit' (P bt A₀ A₁) 0 := by
  intro d c
  show (bigSep Finset.univ fun i : Fin 16 => go0 (bt d) (A₀ d) d (c : Fin 2) i)
    ⊢ |={Set.univ}=> iprop((bigSep Finset.univ fun i : Fin 16 => go0 (bt d) (A₀ d) d (c : Fin 2) i)
        ∗ ((bigSep Finset.univ fun i : Fin 16 => td0 (bt d) (A₀ d) d (c : Fin 2) i) -∗ bigSep Finset.univ fun i : Fin 16 => td0 (bt d) (A₀ d) d (c : Fin 2) i))
  iintro H
  imodintro
  isplitl [H]
  · iexact H
  iintro H
  iexact H

theorem vecSplit1 : (K (F := F)).VecSplit' (P bt A₀ A₁) 1 := by
  intro d c
  show (bigSep Finset.univ fun i : Fin 16 => go1 (A₁ d) d (c : Fin 2) i)
    ⊢ |={Set.univ}=> iprop((bigSep Finset.univ fun i : Fin 16 => go1 (A₁ d) d (c : Fin 2) i)
        ∗ ((bigSep Finset.univ fun i : Fin 16 => td1 (A₁ d) d (c : Fin 2) i) -∗ bigSep Finset.univ fun i : Fin 16 => td1 (A₁ d) d (c : Fin 2) i))
  iintro H
  imodintro
  isplitl [H]
  · iexact H
  iintro H
  iexact H

/-! ## Taking a list of members out of a family -/

section Lists
variable {M : Type} [URA M] {I : Type} [DecidableEq I]
/-- The members of a list, then the rest. -/
def sepL (Φ : I → sProp M) (R : sProp M) : List I → sProp M
  | [] => R
  | x :: l => iprop(Φ x ∗ sepL Φ R l)
theorem split_list (Φ : I → sProp M) : ∀ (l : List I) (S : Finset I), l.Nodup → (∀ x ∈ l, x ∈ S) →
    bigSep S Φ = sepL Φ (bigSep (l.foldl Finset.erase S) Φ) l
  | [], _, _, _ => rfl
  | x :: l, S, hn, hs => by
    rw [SparseCore.bigSep_erase' (hs x List.mem_cons_self),
      split_list Φ l (S.erase x) (List.nodup_cons.mp hn).2 fun y hy =>
        Finset.mem_erase.mpr ⟨fun e => (List.nodup_cons.mp hn).1 (e ▸ hy), hs y (List.mem_cons_of_mem _ hy)⟩]
    rfl
end Lists

theorem cells_split (thr : Thread nD τ) (l : List (SemLoc sig)) (hn : l.Nodup) (hs : ∀ s ∈ l, s.isScoped thr.2.kind = true) :
    (SparseCore.Cfg.ownSems0 thr : sProp 𝕄) = sepL (fun g => semVal g 0)
      (bigSep ((l.map fun s => ((thr, s) : GSem nD τ sig)).foldl Finset.erase (ownCells thr)) fun g => semVal g 0) (l.map fun s => (thr, s)) := by
  unfold SparseCore.Cfg.ownSems0
  refine split_list _ _ _ (hn.map fun _ _ e => (Prod.mk.inj e).2) ?_
  intro g hg
  obtain ⟨s, hsl, rfl⟩ := List.mem_map.mp hg
  exact (mem_ownCells (g := ((thr, s) : GSem nD τ sig))).mpr ⟨rfl, hs s hsl⟩

theorem refs_split (d : Dev nD) (p : Proc τ) (l : List (Ref sig p.kind)) (hn : l.Nodup) (hs : ∀ b ∈ l, (p.devRef b).owner = .proc p) :
    (ownBufs ((d, p) : Thread nD τ) : sProp 𝕄) = sepL (fun b => iprop(∃ f, ((d, b) : Loc nD τ sig) ↦{fullShare} f))
      (bigSep ((l.map p.devRef).foldl Finset.erase (ownRefs (τ := τ) p)) fun b => iprop(∃ f, ((d, b) : Loc nD τ sig) ↦{fullShare} f)) (l.map p.devRef) := by
  unfold SparseCore.Cfg.ownBufs
  refine split_list _ _ _ (hn.map (Proc.devRef_injective _)) ?_
  intro g hg
  obtain ⟨b, hb, rfl⟩ := List.mem_map.mp hg
  exact SparseCore.Cfg.mem_ownRefs_of_owner (p := p) (hs b hb)

end Cert.Proof.Knl
-- ==== Proof.Obl.lean ====
module
public import proofs.«01_k».proof.Proof.Pay

@[expose] public section

set_option Elab.async false
set_option maxHeartbeats 4000000

noncomputable section

namespace Cert.Proof.Knl
open Cert.KernelIdeal
open Cert.KernelIdeal.Facts₀ Cert.KernelIdeal.Facts
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable [FloatOps F]

/-! ## The arrays as a tile reads them -/

section Pts
variable (thr : Thread nD τ)
theorem pts_whole (b : Ref sig thr.2.kind) (q : PosShare TreeShare) (f : Buf (Elt F) (thr.loc b)) :
    ((Memref.whole b).view.loc thr ↦[(Memref.whole b).view.set]{q} f : sProp 𝕄) = (thr.loc b ↦{q} f) := by
  rw [show (Memref.whole b).view.set = Finset.univ from View.set_whole b]
end Pts

variable (bt : Dev nD → S100000.Idx → Elt F .i32) (A₀ A₁ : Dev nD → ℕ → ℕ → Elt F .f32)

theorem colsSpec (A : ℕ → ℕ → Elt F .f32) (w : ℕ) (f : S3x800000.Idx → Elt F .f32)
    (h : ∀ y : S3x800000.Idx, 16 * fstRow w ≤ (y 1).val → (y 1).val < 16 * fstRow (w + 1) → f y = A ((y 1).val / 16) (3 * ((y 1).val % 16) + (y 0).val)) :
    ∀ y ∈ colW w, f y = xof A y := by
  intro y hy
  obtain ⟨-, h1, h2⟩ := Finset.mem_filter.mp hy
  exact h y h1 h2

theorem cellsSpec (b : S100000.Idx → Elt F .i32) (w : ℕ) (f : S1600000.Idx → Elt F .i32)
    (h : ∀ (y : S1600000.Idx) (x : S100000.Idx), 50000 * w ≤ (y 0).val → (y 0).val < 50000 * w + 50000 → (x 0).val = (y 0).val / 16 → f y = b x) :
    ∀ y ∈ cellsOf w, f y = bof b y := by
  intro y hy
  obtain ⟨-, h1, h2⟩ := Finset.mem_filter.mp hy
  exact h y (ix1 (⟨(y 0).val / 16, idx_lt (k := 100000) (y 0).isLt⟩ : Fin 100000)) h1 h2 rfl

section Call1
variable (d : Dev nD) (L : grid1.Coords)

theorem tab_in1 (q : PosShare TreeShare) (A : ℕ → ℕ → Elt F .f32) :
    (Tab6 d q A : sProp 𝕄) ⊢ Tab (V d ((L 0).castLE hcore1) ((L 1).castLE hsub1)) (Memref.whole main_v6_scv) q A := by
  unfold Tab6 Tab
  iintro ⟨%f, %h, H⟩
  iexists f
  isplitr
  · ipureintro
    exact h
  iapply (Entails.of_eq (pts_whole (F := F) (V d ((L 0).castLE hcore1) ((L 1).castLE hsub1)) main_v6_scv q f).symm)
  iexact H

theorem setOn_x1 (S : Finset S3x800000.Idx) : (Memref.whole main_v7_0_scv).view.setOn S = S := Finset.map_refl

theorem cols_in1 (A : ℕ → ℕ → Elt F .f32) :
    (iprop(∃ f, TabL main_v7_0 d ↦[colW (k1_wid L)]{fullShare} f) : sProp 𝕄) ⊢ Cols (V d ((L 0).castLE hcore1) ((L 1).castLE hsub1)) (Memref.whole main_v7_0_scv) A (fstRow (k1_wid L)) (fstRow ((k1_wid L) + 1)) (fstRow (k1_wid L)) := by
  unfold Cols
  iintro ⟨%f, H⟩
  iexists f
  isplitr
  · ipureintro
    intro y h1 h2
    omega
  rw [setOn_x1]
  iexact H

theorem cols_out1 (A : ℕ → ℕ → Elt F .f32) :
    (Cols (V d ((L 0).castLE hcore1) ((L 1).castLE hsub1)) (Memref.whole main_v7_0_scv) A (fstRow (k1_wid L)) (fstRow ((k1_wid L) + 1)) (fstRow ((k1_wid L) + 1)) : sProp 𝕄) ⊢ (TabL main_v7_0 d ↦[colW (k1_wid L)]{fullShare} xof A) := by
  unfold Cols
  iintro ⟨%f, %h, H⟩
  rw [setOn_x1]
  iapply (Entails.of_eq (pointsTo_congr (ℓ := TabL main_v7_0 d) (I := colW (k1_wid L)) (q := fullShare) (f := f) (g := xof A) (colsSpec A (k1_wid L) f h)))
  iexact H

theorem setOn_o1 (S : Finset S1600000.Idx) : (Memref.whole main_v7_1_scv).view.setOn S = S := Finset.map_refl

theorem cells_in1 :
    (iprop(∃ f, TabL main_v7_1 d ↦[cellsOf (k1_wid L)]{fullShare} f) : sProp 𝕄)
      ⊢ iprop(∃ f, (Memref.whole main_v7_1_scv).view.loc (V d ((L 0).castLE hcore1) ((L 1).castLE hsub1)) ↦[(Memref.whole main_v7_1_scv).view.setOn (cellsOf (k1_wid L))]{fullShare} f) := by
  rw [setOn_o1]

theorem cells_out1 (b : S100000.Idx → Elt F .i32) :
    (iprop(∃ f : S1600000.Idx → Elt F .i32, ⌜∀ (y : S1600000.Idx) (x : S100000.Idx), 50000 * (k1_wid L) ≤ (y 0).val → (y 0).val < 50000 * (k1_wid L) + 50000 → (x 0).val = (y 0).val / 16 → (Memref.whole main_v7_1_scv).view.read (Elt F) f y = (Memref.whole main_arg2_scv).view.read (Elt F) b x⌝
        ∗ ((Memref.whole main_v7_1_scv).view.loc (V d ((L 0).castLE hcore1) ((L 1).castLE hsub1)) ↦[(Memref.whole main_v7_1_scv).view.setOn (cellsOf (k1_wid L))]{fullShare} f)) : sProp 𝕄)
      ⊢ (TabL main_v7_1 d ↦[cellsOf (k1_wid L)]{fullShare} bof b) := by
  iintro ⟨%f, %h, H⟩
  rw [setOn_o1]
  iapply (Entails.of_eq (pointsTo_congr (ℓ := TabL main_v7_1 d) (I := cellsOf (k1_wid L)) (q := fullShare) (f := f) (g := bof b) (cellsSpec b (k1_wid L) f h)))
  iexact H

theorem sems1 : ∃ R : sProp 𝕄, (ownSems0 (V d ((L 0).castLE hcore1) ((L 1).castLE hsub1)) : sProp 𝕄) = iprop(semVal ((V d ((L 0).castLE hcore1) ((L 1).castLE hsub1)), SemLoc.dma cc1_scratch3.sem) 0 ∗ semVal ((V d ((L 0).castLE hcore1) ((L 1).castLE hsub1)), SemLoc.dma cc1_scratch4.sem) 0 ∗ semVal ((V d ((L 0).castLE hcore1) ((L 1).castLE hsub1)), SemLoc.dma cc1_scoped0.sem) 0 ∗ semVal ((V d ((L 0).castLE hcore1) ((L 1).castLE hsub1)), SemLoc.dma cc1_scoped1.sem) 0 ∗ semVal ((V d ((L 0).castLE hcore1) ((L 1).castLE hsub1)), SemLoc.dma cc1_scoped2.sem) 0 ∗ semVal ((V d ((L 0).castLE hcore1) ((L 1).castLE hsub1)), SemLoc.dma cc1_scoped3.sem) 0 ∗ semVal ((V d ((L 0).castLE hcore1) ((L 1).castLE hsub1)), SemLoc.dma cc1_scoped4.sem) 0 ∗ semVal ((V d ((L 0).castLE hcore1) ((L 1).castLE hsub1)), SemLoc.dma cc1_scoped5.sem) 0 ∗ semVal ((V d ((L 0).castLE hcore1) ((L 1).castLE hsub1)), SemLoc.dma cc1_scoped6.sem) 0 ∗ R) :=
  ⟨_, cells_split (V d ((L 0).castLE hcore1) ((L 1).castLE hsub1)) [SemLoc.dma cc1_scratch3.sem, SemLoc.dma cc1_scratch4.sem, SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem] (by decide) (by
    show ∀ s ∈ ([SemLoc.dma cc1_scratch3.sem, SemLoc.dma cc1_scratch4.sem, SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem] : List (SemLoc sig)), s.isScoped .scVector = true
    decide)⟩

theorem bufs1 : ∃ R : sProp 𝕄, (ownBufs (V d ((L 0).castLE hcore1) ((L 1).castLE hsub1)) : sProp 𝕄) = iprop((∃ f, (V d ((L 0).castLE hcore1) ((L 1).castLE hsub1)).loc cc1_scratch0 ↦{fullShare} f) ∗ (∃ f, (V d ((L 0).castLE hcore1) ((L 1).castLE hsub1)).loc cc1_scratch1 ↦{fullShare} f) ∗ (∃ f, (V d ((L 0).castLE hcore1) ((L 1).castLE hsub1)).loc cc1_scratch2 ↦{fullShare} f) ∗ (∃ f, (V d ((L 0).castLE hcore1) ((L 1).castLE hsub1)).loc cc1_scratch5 ↦{fullShare} f) ∗ (∃ f, (V d ((L 0).castLE hcore1) ((L 1).castLE hsub1)).loc cc1_scratch6 ↦{fullShare} f) ∗ R) :=
  ⟨_, refs_split d (Proc.scVector ((L 0).castLE hcore1) ((L 1).castLE hsub1)) [cc1_scratch0, cc1_scratch1, cc1_scratch2, cc1_scratch5, cc1_scratch6] (by
    show ([cc1_scratch0, cc1_scratch1, cc1_scratch2, cc1_scratch5, cc1_scratch6] : List (Ref sig .scVector)).Nodup
    decide) (List.forall_mem_cons.mpr ⟨rfl, List.forall_mem_cons.mpr ⟨rfl, List.forall_mem_cons.mpr ⟨rfl, List.forall_mem_cons.mpr ⟨rfl, List.forall_mem_cons.mpr ⟨rfl, fun _ h => absurd h List.not_mem_nil⟩⟩⟩⟩⟩)⟩

theorem tile1 (O : CellTallies nD τ sig (HIx 2)) (W : Waits sig (HIx 2)) (hO : ∀ g, O g none = 0) :
    iprop(levAts (K (F := F)).L (K (F := F)).lev ∗ emp ∗ go0 (bt d) (A₀ d) d (L 0 : Fin 2) (L 1 : Fin 16)
        ∗ scopedBufs (V d ((L 0).castLE hcore1) ((L 1).castLE hsub1)) ∗ scopedSems0 (V d ((L 0).castLE hcore1) ((L 1).castLE hsub1)) ∗ owes (V d ((L 0).castLE hcore1) ((L 1).castLE hsub1)) O W)
      ⊢ wp frame (wpE (defs₀ (F := F)) 𝒱₀ (V d ((L 0).castLE hcore1) ((L 1).castLE hsub1)) none) Set.univ (cc1__sc_half0_body L (Memref.whole main_v6_scv) (Memref.isWhole_whole _) (Memref.whole main_arg2_scv) (Memref.isWhole_whole _) (Memref.whole main_v7_0_scv) (Memref.isWhole_whole _) (Memref.whole main_v7_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 (Memref.whole cc1_scratch5) (Memref.isWhole_whole _) (Memref.whole cc1_scratch6) (Memref.isWhole_whole _) cc1_scoped0 cc1_scoped1 cc1_scoped2 cc1_scoped3 cc1_scoped4 cc1_scoped5 cc1_scoped6)
          fun _ => iprop(td0 (bt d) (A₀ d) d (L 0 : Fin 2) (L 1 : Fin 16)
            ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none ∨ p.2 = some (0 : Fin 2)⌝ ∗ owes (V d ((L 0).castLE hcore1) ((L 1).castLE hsub1)) O W') := by
  obtain ⟨RS, hRS⟩ := sems1 (F := F) d L
  obtain ⟨RB, hRB⟩ := bufs1 (F := F) d L
  rw [(K (F := F)).scopedBufs_V facts d ((L 0).castLE hcore1) ((L 1).castLE hsub1), SparseCore.Cfg.scopedSems0_V (Val := Elt F) d ((L 0).castLE hcore1) ((L 1).castLE hsub1), hRS, hRB]
  unfold go0 td0
  iintro ⟨#Hlv, -, ⟨Ht1, Ht2, Hx, Hq, Ho⟩, ⟨Hb0, Hb1, Hb2, Hb3, Hb4, Hbufs⟩, ⟨Hs0, Hs1, Hs2, Hs3, Hs4, Hs5, Hs6, Hs7, Hs8, Hsems⟩, HO⟩
  ihave Hmw := (show levAts (K (F := F)).L (K (F := F)).lev ⊢ Transfers.MayWaits (V d ((L 0).castLE hcore1) ((L 1).castLE hsub1)) (none : HIx 2) O from
    (K (F := F)).mayWaits_none (thr := (V d ((L 0).castLE hcore1) ((L 1).castLE hsub1))) hO) $$ Hlv
  ihave Ht1 := (tab_in1 (F := F) d L _ _) $$ Ht1
  ihave Ht2 := (tab_in1 (F := F) d L _ _) $$ Ht2
  ihave Hx := (cols_in1 (F := F) d L (A₀ d)) $$ Hx
  icases Hb0 with ⟨%fHb0, Hb0⟩
  ihave Hb0 := (Entails.of_eq (pts_whole (F := F) (V d ((L 0).castLE hcore1) ((L 1).castLE hsub1)) cc1_scratch0 fullShare fHb0).symm) $$ Hb0
  icases Hb1 with ⟨%fHb1, Hb1⟩
  ihave Hb1 := (Entails.of_eq (pts_whole (F := F) (V d ((L 0).castLE hcore1) ((L 1).castLE hsub1)) cc1_scratch1 fullShare fHb1).symm) $$ Hb1
  icases Hb2 with ⟨%fHb2, Hb2⟩
  ihave Hb2 := (Entails.of_eq (pts_whole (F := F) (V d ((L 0).castLE hcore1) ((L 1).castLE hsub1)) cc1_scratch2 fullShare fHb2).symm) $$ Hb2
  icases Hb3 with ⟨%fHb3, Hb3⟩
  ihave Hb3 := (Entails.of_eq (pts_whole (F := F) (V d ((L 0).castLE hcore1) ((L 1).castLE hsub1)) cc1_scratch5 fullShare fHb3).symm) $$ Hb3
  icases Hb4 with ⟨%fHb4, Hb4⟩
  ihave Hb4 := (Entails.of_eq (pts_whole (F := F) (V d ((L 0).castLE hcore1) ((L 1).castLE hsub1)) cc1_scratch6 fullShare fHb4).symm) $$ Hb4
  ihave Hq := (Entails.of_eq (pts_whole (F := F) (V d ((L 0).castLE hcore1) ((L 1).castLE hsub1)) main_arg2_scv (shr (L 0 : Fin 2) (L 1 : Fin 16)) (bt d)).symm) $$ Hq
  ihave Ho := (cells_in1 (F := F) d L) $$ Ho
  iapply (b1_run (F := F) L (Memref.whole main_v6_scv) (Memref.isWhole_whole _) (Memref.whole main_arg2_scv) (Memref.isWhole_whole _) (Memref.whole main_v7_0_scv) (Memref.isWhole_whole _) (Memref.whole main_v7_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 (Memref.whole cc1_scratch5) (Memref.isWhole_whole _) (Memref.whole cc1_scratch6) (Memref.isWhole_whole _) cc1_scoped0 cc1_scoped1 cc1_scoped2 cc1_scoped3 cc1_scoped4 cc1_scoped5 cc1_scoped6 (defs := defs₀ (F := F)) (𝒱 := 𝒱₀) (bd := none) (d := d) (A := A₀ d) (qA := shrA (L 0 : Fin 2) (L 1 : Fin 16)) (qB := shrB (L 0 : Fin 2) (L 1 : Fin 16)) (O := O) (W := W) (q := shr (L 0 : Fin 2) (L 1 : Fin 16)) (fb := bt d)) $$ [Ht1 Ht2 Hb0 Hb1 Hb2 Hx Hs0 Hs1 Hs2 Hs3 Hs4 Hs5 Hs6 Hs7 Hs8 HO Hq Hb3 Hb4 Ho Hmw]
  · isplitl [Ht1]
    · iexact Ht1
    isplitl [Ht2]
    · iexact Ht2
    isplitl [Hb0]
    · iexists _; iexact Hb0
    isplitl [Hb1]
    · iexists _; iexact Hb1
    isplitl [Hb2]
    · unfold Some3; iexists _; iexact Hb2
    isplitl [Hx]
    · iexact Hx
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    isplitl [Hs7]
    · iexact Hs7
    isplitl [Hs8]
    · iexact Hs8
    isplitl [HO Hmw]
    · unfold Owe; isplitl [Hmw]; · iexact Hmw
      iexists W; isplitr; · ipureintro; exact fun p hp => Or.inl hp
      iexact HO
    isplitl [Hq]
    · unfold Bat; iexact Hq
    isplitl [Hb3]
    · iexists _; iexact Hb3
    isplitl [Hb4]
    · iexists _; iexact Hb4
    iexact Ho
  iintro ⟨Hb0, Hb1, Hb2, Hx, Hs0, Hs1, Hs2, Hs3, Hs4, Hs5, Hs6, Hs7, Hs8, HO, Hq, Hb3, Hb4, Ho⟩
  icases Hb0 with ⟨%gHb0, Hb0⟩
  icases Hb1 with ⟨%gHb1, Hb1⟩
  icases Hb3 with ⟨%gHb3, Hb3⟩
  icases Hb4 with ⟨%gHb4, Hb4⟩
  ihave Hb2 := (show Some3 (V d ((L 0).castLE hcore1) ((L 1).castLE hsub1)) (Memref.whole cc1_scratch2) ⊢ (iprop(∃ f, (Memref.whole cc1_scratch2).view.loc (V d ((L 0).castLE hcore1) ((L 1).castLE hsub1)) ↦[(Memref.whole cc1_scratch2).view.set]{fullShare} f) : sProp 𝕄) from .rfl) $$ Hb2
  icases Hb2 with ⟨%gHb2, Hb2⟩
  ihave HO := (show Owe (V d ((L 0).castLE hcore1) ((L 1).castLE hsub1)) O W ⊢ (iprop(Transfers.MayWaits (V d ((L 0).castLE hcore1) ((L 1).castLE hsub1)) (none : HIx 2) O ∗ ∃ W', ⌜∀ p ∈ W', p ∈ W ∨ p.2 = none⌝ ∗ owes (V d ((L 0).castLE hcore1) ((L 1).castLE hsub1)) O W') : sProp 𝕄) from .rfl) $$ HO
  icases HO with ⟨-, %W', %hW', HO⟩
  ihave Hx := (cols_out1 (F := F) d L (A₀ d)) $$ Hx
  ihave Ho := (cells_out1 (F := F) d L (bt d)) $$ Ho
  ihave Hq := (show Bat (V d ((L 0).castLE hcore1) ((L 1).castLE hsub1)) (Memref.whole main_arg2_scv) (shr (L 0 : Fin 2) (L 1 : Fin 16)) (bt d) ⊢ (TabL main_arg2 d ↦{shr (L 0 : Fin 2) (L 1 : Fin 16)} bt d : sProp 𝕄) from Entails.of_eq (pts_whole (F := F) (V d ((L 0).castLE hcore1) ((L 1).castLE hsub1)) main_arg2_scv (shr (L 0 : Fin 2) (L 1 : Fin 16)) (bt d))) $$ Hq
  isplitl [Hx Hq Ho]
  · isplitl [Hx]; · iexact Hx
    isplitl [Hq]; · iexact Hq
    iexact Ho
  isplitl [Hb0 Hb1 Hb2 Hb3 Hb4 Hbufs]
  · isplitl [Hb0]
    · iexists _; iapply (Entails.of_eq (pts_whole (F := F) (V d ((L 0).castLE hcore1) ((L 1).castLE hsub1)) cc1_scratch0 fullShare gHb0)); iexact Hb0
    isplitl [Hb1]
    · iexists _; iapply (Entails.of_eq (pts_whole (F := F) (V d ((L 0).castLE hcore1) ((L 1).castLE hsub1)) cc1_scratch1 fullShare gHb1)); iexact Hb1
    isplitl [Hb2]
    · iexists _; iapply (Entails.of_eq (pts_whole (F := F) (V d ((L 0).castLE hcore1) ((L 1).castLE hsub1)) cc1_scratch2 fullShare gHb2)); iexact Hb2
    isplitl [Hb3]
    · iexists _; iapply (Entails.of_eq (pts_whole (F := F) (V d ((L 0).castLE hcore1) ((L 1).castLE hsub1)) cc1_scratch5 fullShare gHb3)); iexact Hb3
    isplitl [Hb4]
    · iexists _; iapply (Entails.of_eq (pts_whole (F := F) (V d ((L 0).castLE hcore1) ((L 1).castLE hsub1)) cc1_scratch6 fullShare gHb4)); iexact Hb4
    iexact Hbufs
  isplitl [Hs0 Hs1 Hs2 Hs3 Hs4 Hs5 Hs6 Hs7 Hs8 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists W'; isplitr
  · ipureintro
    exact fun p hp => (hW' p hp).imp id Or.inl
  iexact HO

end Call1

def coords1 (c : Fin (grid1.bound 0)) (s : Fin (grid1.bound 1)) : grid1.Coords :=
  fun | 0 => c | 1 => s | ⟨_ + 2, h⟩ => absurd h (Nat.not_lt.2 (Nat.le_add_left _ _))

theorem defs_vec1 (c : Fin τ.nSC) (s : Fin τ.nSub) :
    defs₀ (F := F) (.scVector c s) 1 ()
      = SparseCore.onTile hcore1 hsub1 (fun c s => cc1__sc_half0_body (coords1 c s) (Memref.whole main_v6_scv) (Memref.isWhole_whole _) (Memref.whole main_arg2_scv) (Memref.isWhole_whole _) (Memref.whole main_v7_0_scv) (Memref.isWhole_whole _) (Memref.whole main_v7_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 (Memref.whole cc1_scratch5) (Memref.isWhole_whole _) (Memref.whole cc1_scratch6) (Memref.isWhole_whole _) cc1_scoped0 cc1_scoped1 cc1_scoped2 cc1_scoped3 cc1_scoped4 cc1_scoped5 cc1_scoped6) ⟨⟩ c s := rfl

theorem tileObl0 : (K (F := F)).TileObl (D (F := F)) 𝒱 (P bt A₀ A₁) v₀ 0 := by
  intro d c i O W hO _ _
  simp only [show (P bt A₀ A₁).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs_vec1]; simp only [SparseCore.onTile, hci, and_self, ↓reduceDIte]
  exact tile1 bt A₀ d (coords1 ⟨_, hci.1⟩ ⟨_, hci.2⟩) O W hO

section Call3
variable (d : Dev nD) (L : grid3.Coords)

theorem tab_in3 (q : PosShare TreeShare) (A : ℕ → ℕ → Elt F .f32) :
    (Tab8 d q A : sProp 𝕄) ⊢ Tab (V d ((L 0).castLE hcore3) ((L 1).castLE hsub3)) (Memref.whole main_v8_scv) q A := by
  unfold Tab8 Tab
  iintro ⟨%f, %h, H⟩
  iexists f
  isplitr
  · ipureintro
    exact h
  iapply (Entails.of_eq (pts_whole (F := F) (V d ((L 0).castLE hcore3) ((L 1).castLE hsub3)) main_v8_scv q f).symm)
  iexact H

theorem setOn_x3 (S : Finset S3x800000.Idx) : (Memref.whole main_v9_scv).view.setOn S = S := Finset.map_refl

theorem cols_in3 (A : ℕ → ℕ → Elt F .f32) :
    (iprop(∃ f, TabL main_v9 d ↦[colW (k3_wid L)]{fullShare} f) : sProp 𝕄) ⊢ Cols (V d ((L 0).castLE hcore3) ((L 1).castLE hsub3)) (Memref.whole main_v9_scv) A (fstRow (k3_wid L)) (fstRow ((k3_wid L) + 1)) (fstRow (k3_wid L)) := by
  unfold Cols
  iintro ⟨%f, H⟩
  iexists f
  isplitr
  · ipureintro
    intro y h1 h2
    omega
  rw [setOn_x3]
  iexact H

theorem cols_out3 (A : ℕ → ℕ → Elt F .f32) :
    (Cols (V d ((L 0).castLE hcore3) ((L 1).castLE hsub3)) (Memref.whole main_v9_scv) A (fstRow (k3_wid L)) (fstRow ((k3_wid L) + 1)) (fstRow ((k3_wid L) + 1)) : sProp 𝕄) ⊢ (TabL main_v9 d ↦[colW (k3_wid L)]{fullShare} xof A) := by
  unfold Cols
  iintro ⟨%f, %h, H⟩
  rw [setOn_x3]
  iapply (Entails.of_eq (pointsTo_congr (ℓ := TabL main_v9 d) (I := colW (k3_wid L)) (q := fullShare) (f := f) (g := xof A) (colsSpec A (k3_wid L) f h)))
  iexact H

theorem sems3 : ∃ R : sProp 𝕄, (ownSems0 (V d ((L 0).castLE hcore3) ((L 1).castLE hsub3)) : sProp 𝕄) = iprop(semVal ((V d ((L 0).castLE hcore3) ((L 1).castLE hsub3)), SemLoc.dma cc3_scratch3.sem) 0 ∗ semVal ((V d ((L 0).castLE hcore3) ((L 1).castLE hsub3)), SemLoc.dma cc3_scratch4.sem) 0 ∗ semVal ((V d ((L 0).castLE hcore3) ((L 1).castLE hsub3)), SemLoc.dma cc3_scoped0.sem) 0 ∗ semVal ((V d ((L 0).castLE hcore3) ((L 1).castLE hsub3)), SemLoc.dma cc3_scoped1.sem) 0 ∗ semVal ((V d ((L 0).castLE hcore3) ((L 1).castLE hsub3)), SemLoc.dma cc3_scoped2.sem) 0 ∗ semVal ((V d ((L 0).castLE hcore3) ((L 1).castLE hsub3)), SemLoc.dma cc3_scoped3.sem) 0 ∗ semVal ((V d ((L 0).castLE hcore3) ((L 1).castLE hsub3)), SemLoc.dma cc3_scoped4.sem) 0 ∗ R) :=
  ⟨_, cells_split (V d ((L 0).castLE hcore3) ((L 1).castLE hsub3)) [SemLoc.dma cc3_scratch3.sem, SemLoc.dma cc3_scratch4.sem, SemLoc.dma cc3_scoped0.sem, SemLoc.dma cc3_scoped1.sem, SemLoc.dma cc3_scoped2.sem, SemLoc.dma cc3_scoped3.sem, SemLoc.dma cc3_scoped4.sem] (by decide) (by
    show ∀ s ∈ ([SemLoc.dma cc3_scratch3.sem, SemLoc.dma cc3_scratch4.sem, SemLoc.dma cc3_scoped0.sem, SemLoc.dma cc3_scoped1.sem, SemLoc.dma cc3_scoped2.sem, SemLoc.dma cc3_scoped3.sem, SemLoc.dma cc3_scoped4.sem] : List (SemLoc sig)), s.isScoped .scVector = true
    decide)⟩

theorem bufs3 : ∃ R : sProp 𝕄, (ownBufs (V d ((L 0).castLE hcore3) ((L 1).castLE hsub3)) : sProp 𝕄) = iprop((∃ f, (V d ((L 0).castLE hcore3) ((L 1).castLE hsub3)).loc cc3_scratch0 ↦{fullShare} f) ∗ (∃ f, (V d ((L 0).castLE hcore3) ((L 1).castLE hsub3)).loc cc3_scratch1 ↦{fullShare} f) ∗ (∃ f, (V d ((L 0).castLE hcore3) ((L 1).castLE hsub3)).loc cc3_scratch2 ↦{fullShare} f) ∗ R) :=
  ⟨_, refs_split d (Proc.scVector ((L 0).castLE hcore3) ((L 1).castLE hsub3)) [cc3_scratch0, cc3_scratch1, cc3_scratch2] (by
    show ([cc3_scratch0, cc3_scratch1, cc3_scratch2] : List (Ref sig .scVector)).Nodup
    decide) (List.forall_mem_cons.mpr ⟨rfl, List.forall_mem_cons.mpr ⟨rfl, List.forall_mem_cons.mpr ⟨rfl, fun _ h => absurd h List.not_mem_nil⟩⟩⟩)⟩

theorem tile3 (O : CellTallies nD τ sig (HIx 2)) (W : Waits sig (HIx 2)) (hO : ∀ g, O g none = 0) :
    iprop(levAts (K (F := F)).L (K (F := F)).lev ∗ emp ∗ go1 (A₁ d) d (L 0 : Fin 2) (L 1 : Fin 16)
        ∗ scopedBufs (V d ((L 0).castLE hcore3) ((L 1).castLE hsub3)) ∗ scopedSems0 (V d ((L 0).castLE hcore3) ((L 1).castLE hsub3)) ∗ owes (V d ((L 0).castLE hcore3) ((L 1).castLE hsub3)) O W)
      ⊢ wp frame (wpE (defs₀ (F := F)) 𝒱₀ (V d ((L 0).castLE hcore3) ((L 1).castLE hsub3)) none) Set.univ (cc3__sc_half1_body L (Memref.whole main_v8_scv) (Memref.isWhole_whole _) (Memref.whole main_v9_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scoped0 cc3_scoped1 cc3_scoped2 cc3_scoped3 cc3_scoped4)
          fun _ => iprop(td1 (A₁ d) d (L 0 : Fin 2) (L 1 : Fin 16)
            ∗ scopedBufs (V d ((L 0).castLE hcore3) ((L 1).castLE hsub3)) ∗ scopedSems0 (V d ((L 0).castLE hcore3) ((L 1).castLE hsub3))
            ∗ ∃ W', ⌜∀ p ∈ W', p ∈ W ∨ p.2 = none ∨ p.2 = some (1 : Fin 2)⌝ ∗ owes (V d ((L 0).castLE hcore3) ((L 1).castLE hsub3)) O W') := by
  obtain ⟨RS, hRS⟩ := sems3 (F := F) d L
  obtain ⟨RB, hRB⟩ := bufs3 (F := F) d L
  rw [(K (F := F)).scopedBufs_V facts d ((L 0).castLE hcore3) ((L 1).castLE hsub3), SparseCore.Cfg.scopedSems0_V (Val := Elt F) d ((L 0).castLE hcore3) ((L 1).castLE hsub3), hRS, hRB]
  unfold go1 td1
  iintro ⟨#Hlv, -, ⟨Ht1, Ht2, Hx⟩, ⟨Hb0, Hb1, Hb2, Hbufs⟩, ⟨Hs0, Hs1, Hs2, Hs3, Hs4, Hs5, Hs6, Hsems⟩, HO⟩
  ihave Hmw := (show levAts (K (F := F)).L (K (F := F)).lev ⊢ Transfers.MayWaits (V d ((L 0).castLE hcore3) ((L 1).castLE hsub3)) (none : HIx 2) O from
    (K (F := F)).mayWaits_none (thr := (V d ((L 0).castLE hcore3) ((L 1).castLE hsub3))) hO) $$ Hlv
  ihave Ht1 := (tab_in3 (F := F) d L _ _) $$ Ht1
  ihave Ht2 := (tab_in3 (F := F) d L _ _) $$ Ht2
  ihave Hx := (cols_in3 (F := F) d L (A₁ d)) $$ Hx
  icases Hb0 with ⟨%fHb0, Hb0⟩
  ihave Hb0 := (Entails.of_eq (pts_whole (F := F) (V d ((L 0).castLE hcore3) ((L 1).castLE hsub3)) cc3_scratch0 fullShare fHb0).symm) $$ Hb0
  icases Hb1 with ⟨%fHb1, Hb1⟩
  ihave Hb1 := (Entails.of_eq (pts_whole (F := F) (V d ((L 0).castLE hcore3) ((L 1).castLE hsub3)) cc3_scratch1 fullShare fHb1).symm) $$ Hb1
  icases Hb2 with ⟨%fHb2, Hb2⟩
  ihave Hb2 := (Entails.of_eq (pts_whole (F := F) (V d ((L 0).castLE hcore3) ((L 1).castLE hsub3)) cc3_scratch2 fullShare fHb2).symm) $$ Hb2
  iapply (b3_run (F := F) L (Memref.whole main_v8_scv) (Memref.isWhole_whole _) (Memref.whole main_v9_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scoped0 cc3_scoped1 cc3_scoped2 cc3_scoped3 cc3_scoped4 (defs := defs₀ (F := F)) (𝒱 := 𝒱₀) (bd := none) (d := d) (A := A₁ d) (qA := shrA (L 0 : Fin 2) (L 1 : Fin 16)) (qB := shrB (L 0 : Fin 2) (L 1 : Fin 16)) (O := O) (W := W)) $$ [Ht1 Ht2 Hb0 Hb1 Hb2 Hx Hs0 Hs1 Hs2 Hs3 Hs4 Hs5 Hs6 HO Hmw]
  · isplitl [Ht1]
    · iexact Ht1
    isplitl [Ht2]
    · iexact Ht2
    isplitl [Hb0]
    · iexists _; iexact Hb0
    isplitl [Hb1]
    · iexists _; iexact Hb1
    isplitl [Hb2]
    · unfold Some3; iexists _; iexact Hb2
    isplitl [Hx]
    · iexact Hx
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    unfold Owe; isplitl [Hmw]; · iexact Hmw
    iexists W; isplitr; · ipureintro; exact fun p hp => Or.inl hp
    iexact HO
  iintro ⟨Hb0, Hb1, Hb2, Hx, Hs0, Hs1, Hs2, Hs3, Hs4, Hs5, Hs6, HO⟩
  icases Hb0 with ⟨%gHb0, Hb0⟩
  icases Hb1 with ⟨%gHb1, Hb1⟩
  ihave Hb2 := (show Some3 (V d ((L 0).castLE hcore3) ((L 1).castLE hsub3)) (Memref.whole cc3_scratch2) ⊢ (iprop(∃ f, (Memref.whole cc3_scratch2).view.loc (V d ((L 0).castLE hcore3) ((L 1).castLE hsub3)) ↦[(Memref.whole cc3_scratch2).view.set]{fullShare} f) : sProp 𝕄) from .rfl) $$ Hb2
  icases Hb2 with ⟨%gHb2, Hb2⟩
  ihave HO := (show Owe (V d ((L 0).castLE hcore3) ((L 1).castLE hsub3)) O W ⊢ (iprop(Transfers.MayWaits (V d ((L 0).castLE hcore3) ((L 1).castLE hsub3)) (none : HIx 2) O ∗ ∃ W', ⌜∀ p ∈ W', p ∈ W ∨ p.2 = none⌝ ∗ owes (V d ((L 0).castLE hcore3) ((L 1).castLE hsub3)) O W') : sProp 𝕄) from .rfl) $$ HO
  icases HO with ⟨-, %W', %hW', HO⟩
  ihave Hx := (cols_out3 (F := F) d L (A₁ d)) $$ Hx
  isplitl [Hx]; · iexact Hx
  isplitl [Hb0 Hb1 Hb2 Hbufs]
  · isplitl [Hb0]
    · iexists _; iapply (Entails.of_eq (pts_whole (F := F) (V d ((L 0).castLE hcore3) ((L 1).castLE hsub3)) cc3_scratch0 fullShare gHb0)); iexact Hb0
    isplitl [Hb1]
    · iexists _; iapply (Entails.of_eq (pts_whole (F := F) (V d ((L 0).castLE hcore3) ((L 1).castLE hsub3)) cc3_scratch1 fullShare gHb1)); iexact Hb1
    isplitl [Hb2]
    · iexists _; iapply (Entails.of_eq (pts_whole (F := F) (V d ((L 0).castLE hcore3) ((L 1).castLE hsub3)) cc3_scratch2 fullShare gHb2)); iexact Hb2
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists W'; isplitr
  · ipureintro
    exact fun p hp => (hW' p hp).imp id Or.inl
  iexact HO

end Call3

def coords3 (c : Fin (grid3.bound 0)) (s : Fin (grid3.bound 1)) : grid3.Coords :=
  fun | 0 => c | 1 => s | ⟨_ + 2, h⟩ => absurd h (Nat.not_lt.2 (Nat.le_add_left _ _))

theorem defs_vec3 (c : Fin τ.nSC) (s : Fin τ.nSub) :
    defs₀ (F := F) (.scVector c s) 3 ()
      = SparseCore.onTile hcore3 hsub3 (fun c s => cc3__sc_half1_body (coords3 c s) (Memref.whole main_v8_scv) (Memref.isWhole_whole _) (Memref.whole main_v9_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scoped0 cc3_scoped1 cc3_scoped2 cc3_scoped3 cc3_scoped4) ⟨⟩ c s := rfl

theorem tileObl1 : (K (F := F)).TileObl (D (F := F)) 𝒱 (P bt A₀ A₁) v₀ 1 := by
  intro d c i O W hO _ _
  simp only [show (P bt A₀ A₁).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs_vec3]; simp only [SparseCore.onTile, hci, and_self, ↓reduceDIte]
  exact tile3 A₁ d (coords3 ⟨_, hci.1⟩ ⟨_, hci.2⟩) O W hO

end Cert.Proof.Knl
-- ==== Proof.Split.lean ====
module
public import proofs.«01_k».proof.Proof.Obl

@[expose] public section

set_option Elab.async false
set_option maxHeartbeats 4000000

noncomputable section

namespace Cert.Proof.Knl
open Cert.KernelIdeal
open Cert.KernelIdeal.Facts₀ Cert.KernelIdeal.Facts
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## Splitting the arrays over the tiles, and joining them -/

/-- One resource for each tile. -/
abbrev B2 (Φ : Fin 2 → Fin 16 → sProp 𝕄) : sProp 𝕄 := bigSep Finset.univ fun c : Fin 2 => bigSep Finset.univ fun i : Fin 16 => Φ c i

theorem B2_sep (Φ Ψ : Fin 2 → Fin 16 → sProp 𝕄) : B2 (fun c i => iprop(Φ c i ∗ Ψ c i)) = iprop(B2 Φ ∗ B2 Ψ) := by
  unfold B2
  simp only [bigSep_sep']

theorem B2_mono {Φ Ψ : Fin 2 → Fin 16 → sProp 𝕄} (h : ∀ c i, Φ c i ⊢ Ψ c i) : B2 Φ ⊢ B2 Ψ :=
  bigSep_mono fun c _ => bigSep_mono fun i _ => h c i

theorem deal2 (ℓ : Loc nD τ sig) (f : Buf (Elt F) ℓ) :
    (ℓ ↦{fullShare} f : sProp 𝕄) = B2 fun c i => ℓ ↦{shr c i} f := by
  rw [Transfers.pointsTo_deal (Finset.univ : Finset (Fin 2)) Finset.univ_nonempty fullShare]
  exact bigSep_congr fun c _ => Transfers.pointsTo_deal (Finset.univ : Finset (Fin 16)) Finset.univ_nonempty _

theorem halves (ℓ : Loc nD τ sig) (f : Buf (Elt F) ℓ) (c : Fin 2) (i : Fin 16) :
    (ℓ ↦{shr c i} f : sProp 𝕄) ⊢ iprop((ℓ ↦{shrA c i} f) ∗ (ℓ ↦{shrB c i} f)) := by
  rw [Transfers.pointsTo_deal (Finset.univ : Finset (Fin 2)) Finset.univ_nonempty (shr c i),
    show (Finset.univ : Finset (Fin 2)) = {0, 1} from rfl, SparseCore.bigSep_insert' (by decide), bigSep_singleton]
  exact .rfl

theorem fstRow_mono {a b : ℕ} (h : a ≤ b) : fstRow a ≤ fstRow b := by
  unfold fstRow
  omega

theorem find_row (k : ℕ) : ∀ n, k < fstRow n → ∃ w, w < n ∧ fstRow w ≤ k ∧ k < fstRow (w + 1)
  | 0, h => absurd h (by unfold fstRow; omega)
  | n + 1, h => by
    by_cases hn : k < fstRow n
    · obtain ⟨w, h1, h2⟩ := find_row k n hn
      exact ⟨w, by omega, h2⟩
    · exact ⟨n, by omega, by omega, h⟩

theorem tile_of (w : ℕ) (h : w < 32) : ∃ p : Fin 2 × Fin 16, wOf p.1 p.2 = w :=
  ⟨(⟨w % 2, by omega⟩, ⟨w / 2, by omega⟩), by show 2 * (w / 2) + w % 2 = w; omega⟩

theorem wOf_inj {p q : Fin 2 × Fin 16} (h : wOf p.1 p.2 = wOf q.1 q.2) : p = q := by
  have h1 := p.1.isLt
  have h2 := q.1.isLt
  have h' : 2 * p.2.val + p.1.val = 2 * q.2.val + q.1.val := h
  exact Prod.ext (Fin.ext (by omega)) (Fin.ext (by omega))

theorem colW_disj {a b : ℕ} (h : a < b) : Disjoint (colW a) (colW b) := by
  rw [Finset.disjoint_left]
  intro y ha hb
  obtain ⟨-, h1, h2⟩ := Finset.mem_filter.mp ha
  obtain ⟨-, h3, h4⟩ := Finset.mem_filter.mp hb
  have hm := fstRow_mono (show a + 1 ≤ b from h)
  omega

theorem cells_disj {a b : ℕ} (h : a < b) : Disjoint (cellsOf a) (cellsOf b) := by
  rw [Finset.disjoint_left]
  intro y ha hb
  obtain ⟨-, h1, h2⟩ := Finset.mem_filter.mp ha
  obtain ⟨-, h3, h4⟩ := Finset.mem_filter.mp hb
  omega

theorem colW_cover : ((Finset.univ : Finset (Fin 2 × Fin 16)).biUnion fun p => colW (wOf p.1 p.2)) = Finset.univ := by
  refine Finset.eq_univ_iff_forall.mpr fun y => ?_
  have hy : (y 1).val < 800000 := (y 1).isLt
  have hl : fstRow 32 = 50000 := by unfold fstRow; omega
  obtain ⟨w, hw, h1, h2⟩ := find_row ((y 1).val / 16) 32 (by omega)
  obtain ⟨p, hp⟩ := tile_of w hw
  refine Finset.mem_biUnion.mpr ⟨p, Finset.mem_univ _, Finset.mem_filter.mpr ⟨Finset.mem_univ _, ?_, ?_⟩⟩
  · rw [hp]; omega
  · rw [hp]; omega

theorem cells_cover : ((Finset.univ : Finset (Fin 2 × Fin 16)).biUnion fun p => cellsOf (wOf p.1 p.2)) = Finset.univ := by
  refine Finset.eq_univ_iff_forall.mpr fun y => ?_
  have hy : (y 0).val < 1600000 := (y 0).isLt
  obtain ⟨p, hp⟩ := tile_of ((y 0).val / 50000) (by omega)
  refine Finset.mem_biUnion.mpr ⟨p, Finset.mem_univ _, Finset.mem_filter.mpr ⟨Finset.mem_univ _, ?_, ?_⟩⟩
  · rw [hp]; omega
  · rw [hp]; omega

theorem split_x70 (d : Dev nD) (f : S3x800000.Idx → Elt F .f32) :
    (TabL main_v7_0 d ↦{fullShare} f : sProp 𝕄) = B2 fun c i => TabL main_v7_0 d ↦[colW (wOf c i)]{fullShare} f := by
  have h := pointsTo_biUnion (Ix := HIx 2) (Name := ℕ) (U := UU) (Lvl := ℕ) (ℓ := TabL main_v7_0 d) (q := fullShare) (f := f) (Finset.univ : Finset (Fin 2 × Fin 16)) (fun p => colW (wOf p.1 p.2)) fun p _ q _ hpq =>
    (Nat.lt_or_gt_of_ne fun e => hpq (wOf_inj e)).elim (fun hlt => colW_disj hlt) fun hgt => (colW_disj hgt).symm
  rw [show ((Finset.univ : Finset (Fin 2 × Fin 16)).biUnion fun p => colW (wOf p.1 p.2)) = Finset.univ from colW_cover, BI.bigSep_univ_prod] at h
  exact h

theorem split_x9 (d : Dev nD) (f : S3x800000.Idx → Elt F .f32) :
    (TabL main_v9 d ↦{fullShare} f : sProp 𝕄) = B2 fun c i => TabL main_v9 d ↦[colW (wOf c i)]{fullShare} f := by
  have h := pointsTo_biUnion (Ix := HIx 2) (Name := ℕ) (U := UU) (Lvl := ℕ) (ℓ := TabL main_v9 d) (q := fullShare) (f := f) (Finset.univ : Finset (Fin 2 × Fin 16)) (fun p => colW (wOf p.1 p.2)) fun p _ q _ hpq =>
    (Nat.lt_or_gt_of_ne fun e => hpq (wOf_inj e)).elim (fun hlt => colW_disj hlt) fun hgt => (colW_disj hgt).symm
  rw [show ((Finset.univ : Finset (Fin 2 × Fin 16)).biUnion fun p => colW (wOf p.1 p.2)) = Finset.univ from colW_cover, BI.bigSep_univ_prod] at h
  exact h

theorem split_o71 (d : Dev nD) (f : S1600000.Idx → Elt F .i32) :
    (TabL main_v7_1 d ↦{fullShare} f : sProp 𝕄) = B2 fun c i => TabL main_v7_1 d ↦[cellsOf (wOf c i)]{fullShare} f := by
  have h := pointsTo_biUnion (Ix := HIx 2) (Name := ℕ) (U := UU) (Lvl := ℕ) (ℓ := TabL main_v7_1 d) (q := fullShare) (f := f) (Finset.univ : Finset (Fin 2 × Fin 16)) (fun p => cellsOf (wOf p.1 p.2)) fun p _ q _ hpq =>
    (Nat.lt_or_gt_of_ne fun e => hpq (wOf_inj e)).elim (fun hlt => cells_disj hlt) fun hgt => (cells_disj hgt).symm
  rw [show ((Finset.univ : Finset (Fin 2 × Fin 16)).biUnion fun p => cellsOf (wOf p.1 p.2)) = Finset.univ from cells_cover, BI.bigSep_univ_prod] at h
  exact h

theorem tab6_split (d : Dev nD) (A : ℕ → ℕ → Elt F .f32) (G : S50000x128.Idx → Elt F .f32) (hG : ∀ z : S50000x128.Idx, (z 1).val < 48 → G z = A (z 0).val (z 1).val) :
    (TabL main_v6 d ↦{fullShare} G : sProp 𝕄) ⊢ B2 fun c i => iprop(Tab6 d (shrA c i) A ∗ Tab6 d (shrB c i) A) := by
  rw [deal2]
  refine B2_mono fun c i => (halves _ _ c i).trans ?_
  unfold Tab6
  iintro ⟨H1, H2⟩
  isplitl [H1]
  · iexists G
    isplitr; · ipureintro; exact hG
    iexact H1
  iexists G
  isplitr; · ipureintro; exact hG
  iexact H2

theorem tab8_split (d : Dev nD) (A : ℕ → ℕ → Elt F .f32) (G : S50000x128.Idx → Elt F .f32) (hG : ∀ z : S50000x128.Idx, (z 1).val < 48 → G z = A (z 0).val (z 1).val) :
    (TabL main_v8 d ↦{fullShare} G : sProp 𝕄) ⊢ B2 fun c i => iprop(Tab8 d (shrA c i) A ∗ Tab8 d (shrB c i) A) := by
  rw [deal2]
  refine B2_mono fun c i => (halves _ _ c i).trans ?_
  unfold Tab8
  iintro ⟨H1, H2⟩
  isplitl [H1]
  · iexists G
    isplitr; · ipureintro; exact hG
    iexact H1
  iexists G
  isplitr; · ipureintro; exact hG
  iexact H2

/-- What the first call takes. -/
theorem st0_in (d : Dev nD) (bt : S100000.Idx → Elt F .i32) (A : ℕ → ℕ → Elt F .f32) (G : S50000x128.Idx → Elt F .f32) (hG : ∀ z : S50000x128.Idx, (z 1).val < 48 → G z = A (z 0).val (z 1).val)
    (fx : S3x800000.Idx → Elt F .f32) (fo : S1600000.Idx → Elt F .i32) :
    (iprop((TabL main_v6 d ↦{fullShare} G) ∗ (TabL main_v7_0 d ↦{fullShare} fx) ∗ (TabL main_arg2 d ↦{fullShare} bt) ∗ (TabL main_v7_1 d ↦{fullShare} fo)) : sProp 𝕄)
      ⊢ B2 fun c i => go0 bt A d c i := by
  refine BI.Entails.trans (Q := iprop((B2 fun c i => iprop(Tab6 d (shrA c i) A ∗ Tab6 d (shrB c i) A)) ∗ (B2 fun c i => TabL main_v7_0 d ↦[colW (wOf c i)]{fullShare} fx)
    ∗ (B2 fun c i => TabL main_arg2 d ↦{shr c i} bt) ∗ (B2 fun c i => TabL main_v7_1 d ↦[cellsOf (wOf c i)]{fullShare} fo))) ?_ ?_
  · rw [split_x70 d fx, split_o71 d fo, deal2 (TabL main_arg2 d) bt]
    exact BI.sep_mono (tab6_split d A G hG) (BI.Entails.refl _)
  · rw [← B2_sep, ← B2_sep, ← B2_sep]
    refine B2_mono fun c i => ?_
    unfold go0
    iintro ⟨⟨H1, H2⟩, H3, H4, H5⟩
    isplitl [H1]; · iexact H1
    isplitl [H2]; · iexact H2
    isplitl [H3]; · iexists _; iexact H3
    isplitl [H4]; · iexact H4
    iexists _; iexact H5

/-- What it gives back. -/
theorem dn0_out (d : Dev nD) (bt : S100000.Idx → Elt F .i32) (A : ℕ → ℕ → Elt F .f32) :
    (B2 fun c i => td0 bt A d c i)
      ⊢ (iprop((TabL main_v7_0 d ↦{fullShare} xof A) ∗ (TabL main_arg2 d ↦{fullShare} bt) ∗ (TabL main_v7_1 d ↦{fullShare} bof bt)) : sProp 𝕄) := by
  unfold td0
  rw [B2_sep, B2_sep, ← split_x70, ← split_o71, ← deal2]

theorem st1_in (d : Dev nD) (A : ℕ → ℕ → Elt F .f32) (G : S50000x128.Idx → Elt F .f32) (hG : ∀ z : S50000x128.Idx, (z 1).val < 48 → G z = A (z 0).val (z 1).val)
    (fx : S3x800000.Idx → Elt F .f32) :
    (iprop((TabL main_v8 d ↦{fullShare} G) ∗ (TabL main_v9 d ↦{fullShare} fx)) : sProp 𝕄) ⊢ B2 fun c i => go1 A d c i := by
  refine BI.Entails.trans (Q := iprop((B2 fun c i => iprop(Tab8 d (shrA c i) A ∗ Tab8 d (shrB c i) A)) ∗ (B2 fun c i => TabL main_v9 d ↦[colW (wOf c i)]{fullShare} fx))) ?_ ?_
  · rw [split_x9 d fx]
    exact BI.sep_mono (tab8_split d A G hG) (BI.Entails.refl _)
  · rw [← B2_sep]
    refine B2_mono fun c i => ?_
    unfold go1
    iintro ⟨⟨H1, H2⟩, H3⟩
    isplitl [H1]; · iexact H1
    isplitl [H2]; · iexact H2
    iexists _; iexact H3

theorem dn1_out (d : Dev nD) (A : ℕ → ℕ → Elt F .f32) :
    (B2 fun c i => td1 A d c i) ⊢ (TabL main_v9 d ↦{fullShare} xof A : sProp 𝕄) := by
  unfold td1
  rw [← split_x9]

end Cert.Proof.Knl
-- ==== Proof.Host.lean ====
module
public import proofs.«01_k».proof.Proof.Split
public import Idealize.ShloMosaic.Lib.SparseCore.Quiescent
public import Idealize.ShloMosaic.Lib.StableHlo.Run

@[expose] public section

set_option Elab.async false
set_option maxHeartbeats 4000000

noncomputable section

namespace Cert.Proof.Knl
open Cert.KernelIdeal
open Cert.KernelIdeal.Facts₀ Cert.KernelIdeal.Facts
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx

variable {F : FTy → Type}

local notation "𝕄" => MT nD τ sig (HIx 2) (Elt F) ℕ UU ℕ

variable [FloatOps F]

/-! ## The host operations of the program -/

abbrev op1 : HloOp τ sig (Elt F) := StableHlo.nullary main_cst (constant S_ .f32 0x3D4CCCCD#32)
abbrev op2 : HloOp τ sig (Elt F) := StableHlo.unary main_cst main_v0 (broadcastInDim S512x48 ![] bcast_S_S512x48 : (⟨S_, .f32⟩ : BufTy).Contents (Elt F) → (⟨S512x48, .f32⟩ : BufTy).Contents (Elt F))
abbrev op3 : HloOp τ sig (Elt F) := StableHlo.binary main_arg3 main_v0 main_v1 (mulf : (⟨S512x48, .f32⟩ : BufTy).Contents (Elt F) → (⟨S512x48, .f32⟩ : BufTy).Contents (Elt F) → (⟨S512x48, .f32⟩ : BufTy).Contents (Elt F))
abbrev op4 : HloOp τ sig (Elt F) := StableHlo.unary main_v1 main_v2 ((truncf .bf16 · bitsLt_bf16_f32) : (⟨S512x48, .f32⟩ : BufTy).Contents (Elt F) → (⟨S512x48, .bf16⟩ : BufTy).Contents (Elt F))
abbrev op5 : HloOp τ sig (Elt F) := StableHlo.nullary main_cst_0 (constant S_ .f32 0x3D4CCCCD#32)
abbrev op6 : HloOp τ sig (Elt F) := StableHlo.unary main_cst_0 main_v3 (broadcastInDim S48 ![] bcast_S_S48 : (⟨S_, .f32⟩ : BufTy).Contents (Elt F) → (⟨S48, .f32⟩ : BufTy).Contents (Elt F))
abbrev op7 : HloOp τ sig (Elt F) := StableHlo.binary main_arg4 main_v3 main_v4 (mulf : (⟨S48, .f32⟩ : BufTy).Contents (Elt F) → (⟨S48, .f32⟩ : BufTy).Contents (Elt F) → (⟨S48, .f32⟩ : BufTy).Contents (Elt F))
abbrev op8 : HloOp τ sig (Elt F) := StableHlo.reshape main_v4 main_v5 (rfl : (.f32 : EltTy) = .f32) shapeCasts_S48_S1x48
abbrev op9 : HloOp τ sig (Elt F) := StableHlo.binary main_v7_0 main_v9 main_v10 ((fun a b => concatenate S3x1600000 1 [⟨S3x800000, a⟩, ⟨S3x800000, b⟩] concatenates_S3x800000_S3x800000_S3x1600000_d1) : (⟨S3x800000, .f32⟩ : BufTy).Contents (Elt F) → (⟨S3x800000, .f32⟩ : BufTy).Contents (Elt F) → (⟨S3x1600000, .f32⟩ : BufTy).Contents (Elt F))
abbrev op10 : HloOp τ sig (Elt F) := StableHlo.unary main_v10 main_v11 ((transpose S1600000x3 [1, 0] · transposes_S3x1600000_S1600000x3_1_0) : (⟨S3x1600000, .f32⟩ : BufTy).Contents (Elt F) → (⟨S1600000x3, .f32⟩ : BufTy).Contents (Elt F))

/-- The arrays of the host operations before the first kernel, and of the two after the last. -/
def SA : Finset (DevRef τ sig) := {Proc.devRef (τ := τ) .tc (main_arg3 : Ref sig .tc), Proc.devRef (τ := τ) .tc (main_arg4 : Ref sig .tc), Proc.devRef (τ := τ) .tc (main_cst : Ref sig .tc), Proc.devRef (τ := τ) .tc (main_v0 : Ref sig .tc), Proc.devRef (τ := τ) .tc (main_v1 : Ref sig .tc), Proc.devRef (τ := τ) .tc (main_v2 : Ref sig .tc), Proc.devRef (τ := τ) .tc (main_cst_0 : Ref sig .tc), Proc.devRef (τ := τ) .tc (main_v3 : Ref sig .tc), Proc.devRef (τ := τ) .tc (main_v4 : Ref sig .tc), Proc.devRef (τ := τ) .tc (main_v5 : Ref sig .tc)}
def SC : Finset (DevRef τ sig) := {Proc.devRef (τ := τ) .tc (main_v7_0 : Ref sig .tc), Proc.devRef (τ := τ) .tc (main_v9 : Ref sig .tc), Proc.devRef (τ := τ) .tc (main_v10 : Ref sig .tc), Proc.devRef (τ := τ) .tc (main_v11 : Ref sig .tc)}

theorem held_SA (d : Dev nD) (V : Valuation τ sig (Elt F)) :
    (held (SparseCore.T d) SA V : sProp 𝕄) = iprop((TabL main_arg3 d ↦{fullShare} V (Proc.devRef (τ := τ) .tc (main_arg3 : Ref sig .tc))) ∗ (TabL main_arg4 d ↦{fullShare} V (Proc.devRef (τ := τ) .tc (main_arg4 : Ref sig .tc))) ∗ (TabL main_cst d ↦{fullShare} V (Proc.devRef (τ := τ) .tc (main_cst : Ref sig .tc))) ∗ (TabL main_v0 d ↦{fullShare} V (Proc.devRef (τ := τ) .tc (main_v0 : Ref sig .tc))) ∗ (TabL main_v1 d ↦{fullShare} V (Proc.devRef (τ := τ) .tc (main_v1 : Ref sig .tc))) ∗ (TabL main_v2 d ↦{fullShare} V (Proc.devRef (τ := τ) .tc (main_v2 : Ref sig .tc))) ∗ (TabL main_cst_0 d ↦{fullShare} V (Proc.devRef (τ := τ) .tc (main_cst_0 : Ref sig .tc))) ∗ (TabL main_v3 d ↦{fullShare} V (Proc.devRef (τ := τ) .tc (main_v3 : Ref sig .tc))) ∗ (TabL main_v4 d ↦{fullShare} V (Proc.devRef (τ := τ) .tc (main_v4 : Ref sig .tc))) ∗ (TabL main_v5 d ↦{fullShare} V (Proc.devRef (τ := τ) .tc (main_v5 : Ref sig .tc)))) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_SC (d : Dev nD) (V : Valuation τ sig (Elt F)) :
    (held (SparseCore.T d) SC V : sProp 𝕄) = iprop((TabL main_v7_0 d ↦{fullShare} V (Proc.devRef (τ := τ) .tc (main_v7_0 : Ref sig .tc))) ∗ (TabL main_v9 d ↦{fullShare} V (Proc.devRef (τ := τ) .tc (main_v9 : Ref sig .tc))) ∗ (TabL main_v10 d ↦{fullShare} V (Proc.devRef (τ := τ) .tc (main_v10 : Ref sig .tc))) ∗ (TabL main_v11 d ↦{fullShare} V (Proc.devRef (τ := τ) .tc (main_v11 : Ref sig .tc)))) := by
  unfold held SC
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((TabL main_arg3 d ↦{fullShare} W main_arg3) ∗ (TabL main_arg4 d ↦{fullShare} W main_arg4) ∗ (TabL main_cst d ↦{fullShare} W main_cst) ∗ (TabL main_v0 d ↦{fullShare} W main_v0) ∗ (TabL main_v1 d ↦{fullShare} W main_v1) ∗ (TabL main_v2 d ↦{fullShare} W main_v2) ∗ (TabL main_cst_0 d ↦{fullShare} W main_cst_0) ∗ (TabL main_v3 d ↦{fullShare} W main_v3) ∗ (TabL main_v4 d ↦{fullShare} W main_v4) ∗ (TabL main_v5 d ↦{fullShare} W main_v5) ∗ (TabL main_arg0 d ↦{fullShare} W main_arg0) ∗ (TabL main_arg1 d ↦{fullShare} W main_arg1) ∗ (TabL main_arg2 d ↦{fullShare} W main_arg2) ∗ (TabL main_v6 d ↦{fullShare} W main_v6) ∗ (TabL main_v7_0 d ↦{fullShare} W main_v7_0) ∗ (TabL main_v7_1 d ↦{fullShare} W main_v7_1) ∗ (TabL main_v8 d ↦{fullShare} W main_v8) ∗ (TabL main_v9 d ↦{fullShare} W main_v9) ∗ (TabL main_v10 d ↦{fullShare} W main_v10) ∗ (TabL main_v11 d ↦{fullShare} W main_v11)) := by
  unfold unscopedBufs
  rw [show (Finset.univ.filter fun b : Ref sig .tc => ¬ b.isScoped) = {main_arg3, main_arg4, main_cst, main_v0, main_v1, main_v2, main_cst_0, main_v3, main_v4, main_v5, main_arg0, main_arg1, main_arg2, main_v6, main_v7_0, main_v7_1, main_v8, main_v9, main_v10, main_v11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ) (ρ : Dev nD → PrngReg)

def V0 (d : Dev nD) : Valuation τ sig (Elt F) := fun b => m (d, b)
def V8 (d : Dev nD) : Valuation τ sig (Elt F) := StableHlo.after [op1, op2, op3, op4, op5, op6, op7, op8] (V0 m d)

/-- The launch contents of the arguments. -/
abbrev a0 (d : Dev nD) : C0 (F := F) := m (TabL main_arg0 d)
abbrev a1 (d : Dev nD) : C1 (F := F) := m (TabL main_arg1 d)
abbrev a2 (d : Dev nD) : S100000.Idx → Elt F .i32 := m (TabL main_arg2 d)
abbrev a3 (d : Dev nD) : S512x48.Idx → Elt F .f32 := m (TabL main_arg3 d)
abbrev a4 (d : Dev nD) : S48.Idx → Elt F .f32 := m (TabL main_arg4 d)

/-- The weights and the bias as the first kernel takes them. -/
def wbV (d : Dev nD) : C2 (F := F) := truncf .bf16 (mulf (a3 m d) (broadcastInDim S512x48 ![] bcast_S_S512x48 (constant S_ .f32 0x3D4CCCCD#32))) bitsLt_bf16_f32
def biV (d : Dev nD) : C3 (F := F) := shapeCast S1x48 (mulf (a4 m d) (broadcastInDim S48 ![] bcast_S_S48 (constant S_ .f32 0x3D4CCCCD#32))) shapeCasts_S48_S1x48

theorem V8_v2 (d : Dev nD) : V8 m d (Proc.devRef (τ := τ) .tc (main_v2 : Ref sig .tc)) = wbV m d := by
  unfold V8
  after_results
  rfl
theorem V8_v5 (d : Dev nD) : V8 m d (Proc.devRef (τ := τ) .tc (main_v5 : Ref sig .tc)) = biV m d := by
  unfold V8
  after_results
  rfl
theorem V8_arg3 (d : Dev nD) : V8 m d (Proc.devRef (τ := τ) .tc (main_arg3 : Ref sig .tc)) = a3 m d := by
  unfold V8
  after_results
  rfl
theorem V8_arg4 (d : Dev nD) : V8 m d (Proc.devRef (τ := τ) .tc (main_arg4 : Ref sig .tc)) = a4 m d := by
  unfold V8
  after_results
  rfl

theorem held_V8 (d : Dev nD) :
    (held (SparseCore.T d) SA (V8 m d) : sProp 𝕄) ⊢ iprop((TabL main_arg3 d ↦{fullShare} a3 m d) ∗ (TabL main_arg4 d ↦{fullShare} a4 m d)
      ∗ (TabL main_v2 d ↦{fullShare} wbV m d) ∗ (TabL main_v5 d ↦{fullShare} biV m d)) := by
  rw [held_SA, V8_v2, V8_v5, V8_arg3, V8_arg4]
  iintro ⟨H3, H4, -, -, -, H2, -, -, -, H5⟩
  isplitl [H3]; · iexact H3
  isplitl [H4]; · iexact H4
  isplitl [H2]; · iexact H2
  iexact H5

/-- The rows of the two halves. -/
def Arow (o : ℕ) (d : Dev nD) : ℕ → ℕ → Elt F .f32 := rowT o (a1 m d) (a0 m d) (wbV m d) (biV m d)

/-- The first result. -/
def outV (d : Dev nD) : S1600000x3.Idx → Elt F .f32 :=
  transpose S1600000x3 [1, 0] (concatenate S3x1600000 1 [⟨S3x800000, xof (Arow m 0 d)⟩, ⟨S3x800000, xof (Arow m 25 d)⟩] concatenates_S3x800000_S3x800000_S3x1600000_d1) transposes_S3x1600000_S1600000x3_1_0

def VC (d : Dev nD) : Valuation τ sig (Elt F) :=
  Function.update (Function.update (V0 m d) (Proc.devRef (τ := τ) .tc (main_v7_0 : Ref sig .tc)) (xof (Arow m 0 d))) (Proc.devRef (τ := τ) .tc (main_v9 : Ref sig .tc)) (xof (Arow m 25 d))

theorem VC_v9 (d : Dev nD) : VC m d (Proc.devRef (τ := τ) .tc (main_v9 : Ref sig .tc)) = xof (Arow m 25 d) := Function.update_self _ _ _
theorem VC_v7 (d : Dev nD) : VC m d (Proc.devRef (τ := τ) .tc (main_v7_0 : Ref sig .tc)) = xof (Arow m 0 d) :=
  (Function.update_of_ne (show (Proc.devRef (τ := τ) .tc (main_v7_0 : Ref sig .tc)) ≠ Proc.devRef (τ := τ) .tc (main_v9 : Ref sig .tc) by decide) _ _).trans (Function.update_self _ _ _)
theorem VC_v10 (d : Dev nD) : VC m d (Proc.devRef (τ := τ) .tc (main_v10 : Ref sig .tc)) = m (TabL main_v10 d) :=
  (Function.update_of_ne (show (Proc.devRef (τ := τ) .tc (main_v10 : Ref sig .tc)) ≠ Proc.devRef (τ := τ) .tc (main_v9 : Ref sig .tc) by decide) _ _).trans (Function.update_of_ne (show (Proc.devRef (τ := τ) .tc (main_v10 : Ref sig .tc)) ≠ Proc.devRef (τ := τ) .tc (main_v7_0 : Ref sig .tc) by decide) _ _)
theorem VC_v11 (d : Dev nD) : VC m d (Proc.devRef (τ := τ) .tc (main_v11 : Ref sig .tc)) = m (TabL main_v11 d) :=
  (Function.update_of_ne (show (Proc.devRef (τ := τ) .tc (main_v11 : Ref sig .tc)) ≠ Proc.devRef (τ := τ) .tc (main_v9 : Ref sig .tc) by decide) _ _).trans (Function.update_of_ne (show (Proc.devRef (τ := τ) .tc (main_v11 : Ref sig .tc)) ≠ Proc.devRef (τ := τ) .tc (main_v7_0 : Ref sig .tc) by decide) _ _)

def V10 (d : Dev nD) : Valuation τ sig (Elt F) := StableHlo.after [op9, op10] (VC m d)

theorem V10_v11 (d : Dev nD) : V10 m d (Proc.devRef (τ := τ) .tc (main_v11 : Ref sig .tc)) = outV m d := by
  unfold V10
  after_results
  rw [VC_v7, VC_v9]
  rfl

theorem held_V10 (d : Dev nD) : (held (SparseCore.T d) SC (V10 m d) : sProp 𝕄) ⊢ (TabL main_v11 d ↦{fullShare} outV m d) := by
  rw [held_SC, V10_v11]
  iintro ⟨-, -, -, H⟩
  iexact H

/-! ## One step of the program over the arrays held -/

theorem hlo_step (d : Dev nD) (S : Finset (DevRef τ sig)) (V : Valuation τ sig (Elt F)) (op : HloOp τ sig (Elt F)) (hS : op.bufs ⊆ S) (hf : op.fresh = ∅) {hp : (SparseCore.T d : Thread nD τ).2.kind.runsHlo = true}
    {Q : PUnit → sProp 𝕄} :
    (iprop(boundary (SparseCore.T d) ∗ held (SparseCore.T d) S V) : sProp 𝕄)
      ⊢ iprop(((boundary (SparseCore.T d) ∗ held (SparseCore.T d) S (op.result V)) -∗ Q ⟨⟩)
        -∗ wp frame (wpE ((K (F := F)).defs (D (F := F))) 𝒱 (SparseCore.T d) none) Set.univ (hlo hp op fun _ => .ret ⟨⟩) Q) := by
  iintro H Hk
  iapply (wp_hlo_within 𝒱 (SparseCore.T d) none Set.univ (op := op) (S := S) hS (V := V) hf) $$ H
  iintro H
  rw [wp_ret]
  imodintro
  iapply Hk
  iexact H

theorem lifted0 (d : Dev nD) (Q : PUnit → sProp 𝕄) :
    wp frame (wpE (D (F := F)) 𝒱 (SparseCore.T d) none) Set.univ (.op (.customCall (Pipeline.entry 0) ()) .ret) Q
      ⊢ wp frame (wpE ((K (F := F)).defs (D (F := F))) 𝒱 (SparseCore.T d) none) Set.univ (Prog.lift (.customCall (SparseCore.inner (Pipeline.entry 0)) ())) Q :=
  (K (F := F)).wp_liftProg (D (F := F)) 𝒱 (SparseCore.T d) Set.univ none (.op (.customCall (Pipeline.entry 0) ()) .ret) Q

theorem call_step0 (f1 : C1 (F := F)) (f0 : C0 (F := F)) (wb : C2 (F := F)) (bi : C3 (F := F)) (g : C4 (F := F)) (d : Dev nD) [∀ e, Nonempty (Elt F e)] {Q : PUnit → sProp 𝕄} :
    (iprop(boundary (SparseCore.T d) ∗ pre0 f1 f0 wb bi g d ∗ (K (F := F)).tcSt EH d 0 ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ iprop(((boundary (SparseCore.T d) ∗ post0 f1 f0 wb bi d ∗ (K (F := F)).tcSt EH d 0) -∗ Q ⟨⟩)
        -∗ wp frame (wpE ((K (F := F)).defs (D (F := F))) 𝒱 (SparseCore.T d) none) Set.univ (Prog.lift (.customCall (SparseCore.inner (Pipeline.entry 0)) ())) Q) := by
  iintro ⟨Hb, Hpre, Hst, Hlev, Hc, Ht⟩ Hk
  iapply (lifted0 d Q)
  unfold SparseCore.Cfg.tcSt
  icases Hst with ⟨HO, Hrest⟩
  iapply (region0 f1 f0 wb bi g 0 d .ret Q)
  isplitl [Hk Hrest]
  · iintro ⟨Hb, Hpost, HO⟩
    rw [wp_ret]
    imodintro
    iapply Hk
    isplitl [Hb]; · iexact Hb
    isplitl [Hpost]; · iexact Hpost
    isplitl [HO]; · iexact HO
    iexact Hrest
  isplitl [Hb]; · iexact Hb
  isplitl [Hpre HO]
  · isplitl [Hpre]; · iexact Hpre
    iexact HO
  isplitl [Hlev]; · iexact Hlev
  isplitl [Hc]; · iexact Hc
  iexact Ht

theorem lifted2 (d : Dev nD) (Q : PUnit → sProp 𝕄) :
    wp frame (wpE (D (F := F)) 𝒱 (SparseCore.T d) none) Set.univ (.op (.customCall (Pipeline.entry 1) ()) .ret) Q
      ⊢ wp frame (wpE ((K (F := F)).defs (D (F := F))) 𝒱 (SparseCore.T d) none) Set.univ (Prog.lift (.customCall (SparseCore.inner (Pipeline.entry 1)) ())) Q :=
  (K (F := F)).wp_liftProg (D (F := F)) 𝒱 (SparseCore.T d) Set.univ none (.op (.customCall (Pipeline.entry 1) ()) .ret) Q

theorem call_step2 (f1 : C1 (F := F)) (f0 : C0 (F := F)) (wb : C2 (F := F)) (bi : C3 (F := F)) (g : C4 (F := F)) (d : Dev nD) [∀ e, Nonempty (Elt F e)] {Q : PUnit → sProp 𝕄} :
    (iprop(boundary (SparseCore.T d) ∗ pre2 f1 f0 wb bi g d ∗ (K (F := F)).tcSt EH d 1 ∗ levAts (K (F := F)).L (K (F := F)).lev
        ∗ Pipeline.cellsGhost (Pipeline.pin (pcfgs (F := F)) adm) EP 1 d ∗ Pipeline.toksInit (Pipeline.pin (pcfgs (F := F)) adm) EP 1 d) : sProp 𝕄)
      ⊢ iprop(((boundary (SparseCore.T d) ∗ post2 f1 f0 wb bi d ∗ (K (F := F)).tcSt EH d 1) -∗ Q ⟨⟩)
        -∗ wp frame (wpE ((K (F := F)).defs (D (F := F))) 𝒱 (SparseCore.T d) none) Set.univ (Prog.lift (.customCall (SparseCore.inner (Pipeline.entry 1)) ())) Q) := by
  iintro ⟨Hb, Hpre, Hst, Hlev, Hc, Ht⟩ Hk
  iapply (lifted2 d Q)
  unfold SparseCore.Cfg.tcSt
  icases Hst with ⟨HO, Hrest⟩
  iapply (region2 f1 f0 wb bi g 1 d .ret Q)
  isplitl [Hk Hrest]
  · iintro ⟨Hb, Hpost, HO⟩
    rw [wp_ret]
    imodintro
    iapply Hk
    isplitl [Hb]; · iexact Hb
    isplitl [Hpost]; · iexact Hpost
    isplitl [HO]; · iexact HO
    iexact Hrest
  isplitl [Hb]; · iexact Hb
  isplitl [Hpre HO]
  · isplitl [Hpre]; · iexact Hpre
    iexact HO
  isplitl [Hlev]; · iexact Hlev
  isplitl [Hc]; · iexact Hc
  iexact Ht

end Cert.Proof.Knl
-- ==== Proof.Main.lean ====
module
public import proofs.«01_k».proof.Proof.Host

@[expose] public section

set_option Elab.async false
set_option maxHeartbeats 4000000

noncomputable section

namespace Cert.Proof.Knl
open Cert.KernelIdeal
open Cert.KernelIdeal.Facts₀ Cert.KernelIdeal.Facts
open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx

variable {F : FTy → Type}

local notation "𝕄" => MT nD τ sig (HIx 2) (Elt F) ℕ UU ℕ

variable [FloatOps F]

/-! ## The program on the TensorCore, and its run -/

theorem bufs_op1 : (op1 (F := F)).bufs ⊆ SA :=
  show ({Proc.devRef (τ := τ) .tc (main_cst : Ref sig .tc)} : Finset (DevRef τ sig)) ⊆ SA by decide

theorem bufs_op2 : (op2 (F := F)).bufs ⊆ SA :=
  show ({Proc.devRef (τ := τ) .tc (main_cst : Ref sig .tc), Proc.devRef (τ := τ) .tc (main_v0 : Ref sig .tc)} : Finset (DevRef τ sig)) ⊆ SA by decide

theorem bufs_op3 : (op3 (F := F)).bufs ⊆ SA :=
  show ({Proc.devRef (τ := τ) .tc (main_arg3 : Ref sig .tc), Proc.devRef (τ := τ) .tc (main_v0 : Ref sig .tc), Proc.devRef (τ := τ) .tc (main_v1 : Ref sig .tc)} : Finset (DevRef τ sig)) ⊆ SA by decide

theorem bufs_op4 : (op4 (F := F)).bufs ⊆ SA :=
  show ({Proc.devRef (τ := τ) .tc (main_v1 : Ref sig .tc), Proc.devRef (τ := τ) .tc (main_v2 : Ref sig .tc)} : Finset (DevRef τ sig)) ⊆ SA by decide

theorem bufs_op5 : (op5 (F := F)).bufs ⊆ SA :=
  show ({Proc.devRef (τ := τ) .tc (main_cst_0 : Ref sig .tc)} : Finset (DevRef τ sig)) ⊆ SA by decide

theorem bufs_op6 : (op6 (F := F)).bufs ⊆ SA :=
  show ({Proc.devRef (τ := τ) .tc (main_cst_0 : Ref sig .tc), Proc.devRef (τ := τ) .tc (main_v3 : Ref sig .tc)} : Finset (DevRef τ sig)) ⊆ SA by decide

theorem bufs_op7 : (op7 (F := F)).bufs ⊆ SA :=
  show ({Proc.devRef (τ := τ) .tc (main_arg4 : Ref sig .tc), Proc.devRef (τ := τ) .tc (main_v3 : Ref sig .tc), Proc.devRef (τ := τ) .tc (main_v4 : Ref sig .tc)} : Finset (DevRef τ sig)) ⊆ SA by decide

theorem bufs_op8 : (op8 (F := F)).bufs ⊆ SA :=
  show ({Proc.devRef (τ := τ) .tc (main_v4 : Ref sig .tc), Proc.devRef (τ := τ) .tc (main_v5 : Ref sig .tc)} : Finset (DevRef τ sig)) ⊆ SA by decide

theorem bufs_op9 : (op9 (F := F)).bufs ⊆ SC :=
  show ({Proc.devRef (τ := τ) .tc (main_v7_0 : Ref sig .tc), Proc.devRef (τ := τ) .tc (main_v9 : Ref sig .tc), Proc.devRef (τ := τ) .tc (main_v10 : Ref sig .tc)} : Finset (DevRef τ sig)) ⊆ SC by decide

theorem bufs_op10 : (op10 (F := F)).bufs ⊆ SC :=
  show ({Proc.devRef (τ := τ) .tc (main_v10 : Ref sig .tc), Proc.devRef (τ := τ) .tc (main_v11 : Ref sig .tc)} : Finset (DevRef τ sig)) ⊆ SC by decide

variable (m : (ℓ : Loc nD τ sig) → Buf (Elt F) ℓ) (ρ : Dev nD → PrngReg)

/-- What the calls carry, at the launch contents. -/
abbrev PP : (K (F := F)).Pay (nD := nD) (Val := Elt F) (Name := ℕ) (U := UU) := P (a2 m) (Arow m 0) (Arow m 25)

theorem start_SA (d : Dev nD) :
    (iprop((TabL main_arg3 d ↦{fullShare} m (TabL main_arg3 d)) ∗ (TabL main_arg4 d ↦{fullShare} m (TabL main_arg4 d)) ∗ (TabL main_cst d ↦{fullShare} m (TabL main_cst d)) ∗ (TabL main_v0 d ↦{fullShare} m (TabL main_v0 d)) ∗ (TabL main_v1 d ↦{fullShare} m (TabL main_v1 d)) ∗ (TabL main_v2 d ↦{fullShare} m (TabL main_v2 d)) ∗ (TabL main_cst_0 d ↦{fullShare} m (TabL main_cst_0 d)) ∗ (TabL main_v3 d ↦{fullShare} m (TabL main_v3 d)) ∗ (TabL main_v4 d ↦{fullShare} m (TabL main_v4 d)) ∗ (TabL main_v5 d ↦{fullShare} m (TabL main_v5 d))) : sProp 𝕄) ⊢ held (SparseCore.T d) SA (V0 m d) := by
  rw [held_SA]
  exact .rfl

theorem start_SC (d : Dev nD) :
    (iprop((TabL main_v7_0 d ↦{fullShare} xof (Arow m 0 d)) ∗ (TabL main_v9 d ↦{fullShare} xof (Arow m 25 d)) ∗ (TabL main_v10 d ↦{fullShare} m (TabL main_v10 d)) ∗ (TabL main_v11 d ↦{fullShare} m (TabL main_v11 d))) : sProp 𝕄)
      ⊢ held (SparseCore.T d) SC (VC m d) := by
  rw [held_SC, VC_v7, VC_v9, VC_v10, VC_v11]

/-- What the program leaves: the arguments, and the two results. -/
def FIN (d : Dev nD) : sProp 𝕄 :=
  iprop((TabL main_arg0 d ↦{fullShare} a0 m d) ∗ (TabL main_arg1 d ↦{fullShare} a1 m d) ∗ (TabL main_arg2 d ↦{fullShare} a2 m d)
    ∗ (TabL main_arg3 d ↦{fullShare} a3 m d) ∗ (TabL main_arg4 d ↦{fullShare} a4 m d)
    ∗ (TabL main_v11 d ↦{fullShare} outV m d) ∗ (TabL main_v7_1 d ↦{fullShare} bof (a2 m d)))

/-- The pipelines' launch state on one device. -/
def GG (d : Dev nD) : sProp 𝕄 :=
  iprop((bigSep Finset.univ fun p => Pipeline.cellsGhost (Pipeline.pin (pcfgs (F := F)) adm) EP p d) ∗ (bigSep Finset.univ fun p => Pipeline.toksInit (Pipeline.pin (pcfgs (F := F)) adm) EP p d))

theorem GG_split (d : Dev nD) :
    (GG d : sProp 𝕄) ⊢ iprop(Pipeline.cellsGhost (Pipeline.pin (pcfgs (F := F)) adm) EP 0 d ∗ Pipeline.cellsGhost (Pipeline.pin (pcfgs (F := F)) adm) EP 1 d
      ∗ Pipeline.toksInit (Pipeline.pin (pcfgs (F := F)) adm) EP 0 d ∗ Pipeline.toksInit (Pipeline.pin (pcfgs (F := F)) adm) EP 1 d) := by
  unfold GG
  rw [show (Finset.univ : Finset (Fin 2)) = {0, 1} from rfl, SparseCore.bigSep_insert' (by decide), SparseCore.bigSep_insert' (by decide), bigSep_singleton, bigSep_singleton]
  iintro ⟨⟨H1, H2⟩, H3, H4⟩
  isplitl [H1]; · iexact H1
  isplitl [H2]; · iexact H2
  isplitl [H3]; · iexact H3
  iexact H4

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hmain_arg3, Hmain_arg4, Hmain_cst, Hmain_v0, Hmain_v1, Hmain_v2, Hmain_cst_0, Hmain_v3, Hmain_v4, Hmain_v5, Hmain_arg0, Hmain_arg1, Hmain_arg2, Hmain_v6, Hmain_v7_0, Hmain_v7_1, Hmain_v8, Hmain_v9, Hmain_v10, Hmain_v11⟩, Hts, -⟩, HG⟩
  ihave #Hlev := (SparseCore.Cfg.ctx_levAts κ) $$ Hctx
  ihave HG := (GG_split d) $$ HG
  icases HG with ⟨Hc0, Hc1, Ht0, Ht1⟩
  ihave Hh := (start_SA m d) $$ [Hmain_arg3 Hmain_arg4 Hmain_cst Hmain_v0 Hmain_v1 Hmain_v2 Hmain_cst_0 Hmain_v3 Hmain_v4 Hmain_v5]
  · isplitl [Hmain_arg3]; · iexact Hmain_arg3
    isplitl [Hmain_arg4]; · iexact Hmain_arg4
    isplitl [Hmain_cst]; · iexact Hmain_cst
    isplitl [Hmain_v0]; · iexact Hmain_v0
    isplitl [Hmain_v1]; · iexact Hmain_v1
    isplitl [Hmain_v2]; · iexact Hmain_v2
    isplitl [Hmain_cst_0]; · iexact Hmain_cst_0
    isplitl [Hmain_v3]; · iexact Hmain_v3
    isplitl [Hmain_v4]; · iexact Hmain_v4
    iexact Hmain_v5
  iapply (hlo_step d SA (V0 m d) op1 bufs_op1 rfl) $$ [Hb Hh]
  · isplitl [Hb]; · iexact Hb
    iexact Hh
  iintro ⟨Hb, Hh⟩
  iapply (hlo_step d SA (op1.result (V0 m d)) op2 bufs_op2 rfl) $$ [Hb Hh]
  · isplitl [Hb]; · iexact Hb
    iexact Hh
  iintro ⟨Hb, Hh⟩
  iapply (hlo_step d SA (op2.result (op1.result (V0 m d))) op3 bufs_op3 rfl) $$ [Hb Hh]
  · isplitl [Hb]; · iexact Hb
    iexact Hh
  iintro ⟨Hb, Hh⟩
  iapply (hlo_step d SA (op3.result (op2.result (op1.result (V0 m d)))) op4 bufs_op4 rfl) $$ [Hb Hh]
  · isplitl [Hb]; · iexact Hb
    iexact Hh
  iintro ⟨Hb, Hh⟩
  iapply (hlo_step d SA (op4.result (op3.result (op2.result (op1.result (V0 m d))))) op5 bufs_op5 rfl) $$ [Hb Hh]
  · isplitl [Hb]; · iexact Hb
    iexact Hh
  iintro ⟨Hb, Hh⟩
  iapply (hlo_step d SA (op5.result (op4.result (op3.result (op2.result (op1.result (V0 m d)))))) op6 bufs_op6 rfl) $$ [Hb Hh]
  · isplitl [Hb]; · iexact Hb
    iexact Hh
  iintro ⟨Hb, Hh⟩
  iapply (hlo_step d SA (op6.result (op5.result (op4.result (op3.result (op2.result (op1.result (V0 m d))))))) op7 bufs_op7 rfl) $$ [Hb Hh]
  · isplitl [Hb]; · iexact Hb
    iexact Hh
  iintro ⟨Hb, Hh⟩
  iapply (hlo_step d SA (op7.result (op6.result (op5.result (op4.result (op3.result (op2.result (op1.result (V0 m d)))))))) op8 bufs_op8 rfl) $$ [Hb Hh]
  · isplitl [Hb]; · iexact Hb
    iexact Hh
  iintro ⟨Hb, Hh⟩
  ihave Hh := (show held (SparseCore.T d) SA (op8.result (op7.result (op6.result (op5.result (op4.result (op3.result (op2.result (op1.result (V0 m d))))))))) ⊢ held (SparseCore.T d) SA (V8 m d) from .rfl) $$ Hh
  ihave Hh := (held_V8 m d) $$ Hh
  icases Hh with ⟨Harg3, Harg4, Hv2, Hv5⟩
  iapply (call_step0 (a1 m d) (a0 m d) (wbV m d) (biV m d) (m (TabL main_v6 d)) d) $$ [Hb Hmain_arg1 Hmain_arg0 Hv2 Hv5 Hmain_v6 Hst Hc0 Ht0]
  · isplitl [Hb]; · iexact Hb
    isplitl [Hmain_arg1 Hmain_arg0 Hv2 Hv5 Hmain_v6]
    · isplitl [Hmain_arg1]; · iexact Hmain_arg1
      isplitl [Hmain_arg0]; · iexact Hmain_arg0
      isplitl [Hv2]; · iexact Hv2
      isplitl [Hv5]; · iexact Hv5
      iexact Hmain_v6
    isplitl [Hst]; · iexact Hst
    isplitr; · iexact Hlev
    isplitl [Hc0]; · iexact Hc0
    iexact Ht0
  iintro ⟨Hb, ⟨Hmain_arg1, Hmain_arg0, Hv2, Hv5, %G, %hG, Hmain_v6⟩, Hst⟩
  iapply ((K (F := F)).wp_run (D (F := F)) 𝒱 (EH := EH) (P := PP m) κ d 0)
  isplitr; · iexact Hctx
  isplitl [Hst]; · iexact Hst
  isplitl [Hmain_v6 Hmain_v7_0 Hmain_arg2 Hmain_v7_1]
  · iapply (show (iprop((TabL main_v6 d ↦{fullShare} G) ∗ (TabL main_v7_0 d ↦{fullShare} m (TabL main_v7_0 d)) ∗ (TabL main_arg2 d ↦{fullShare} a2 m d) ∗ (TabL main_v7_1 d ↦{fullShare} m (TabL main_v7_1 d))) : sProp 𝕄)
        ⊢ bigSep Finset.univ fun c : Fin ((K (F := F)).nCore 0) => (PP m).st 0 d c from st0_in d (a2 m d) (Arow m 0 d) G hG _ _)
    isplitl [Hmain_v6]; · iexact Hmain_v6
    isplitl [Hmain_v7_0]; · iexact Hmain_v7_0
    isplitl [Hmain_arg2]; · iexact Hmain_arg2
    iexact Hmain_v7_1
  iintro ⟨Hst, Hdn⟩
  ihave Hdn := (show (bigSep Finset.univ fun c : Fin ((K (F := F)).nCore 0) => (PP m).dn 0 d c)
    ⊢ (iprop((TabL main_v7_0 d ↦{fullShare} xof (Arow m 0 d)) ∗ (TabL main_arg2 d ↦{fullShare} a2 m d) ∗ (TabL main_v7_1 d ↦{fullShare} bof (a2 m d))) : sProp 𝕄) from dn0_out d (a2 m d) (Arow m 0 d)) $$ Hdn
  icases Hdn with ⟨Hmain_v7_0, Hmain_arg2, Hmain_v7_1⟩
  iapply (call_step2 (a1 m d) (a0 m d) (wbV m d) (biV m d) (m (TabL main_v8 d)) d) $$ [Hb Hmain_arg1 Hmain_arg0 Hv2 Hv5 Hmain_v8 Hst Hc1 Ht1]
  · isplitl [Hb]; · iexact Hb
    isplitl [Hmain_arg1 Hmain_arg0 Hv2 Hv5 Hmain_v8]
    · isplitl [Hmain_arg1]; · iexact Hmain_arg1
      isplitl [Hmain_arg0]; · iexact Hmain_arg0
      isplitl [Hv2]; · iexact Hv2
      isplitl [Hv5]; · iexact Hv5
      iexact Hmain_v8
    isplitl [Hst]; · iexact Hst
    isplitr; · iexact Hlev
    isplitl [Hc1]; · iexact Hc1
    iexact Ht1
  iintro ⟨Hb, ⟨Hmain_arg1, Hmain_arg0, Hv2, Hv5, %G', %hG', Hmain_v8⟩, Hst⟩
  iapply ((K (F := F)).wp_run (D (F := F)) 𝒱 (EH := EH) (P := PP m) κ d 1)
  isplitr; · iexact Hctx
  isplitl [Hst]; · iexact Hst
  isplitl [Hmain_v8 Hmain_v9]
  · iapply (show (iprop((TabL main_v8 d ↦{fullShare} G') ∗ (TabL main_v9 d ↦{fullShare} m (TabL main_v9 d))) : sProp 𝕄)
        ⊢ bigSep Finset.univ fun c : Fin ((K (F := F)).nCore 1) => (PP m).st 1 d c from st1_in d (Arow m 25 d) G' hG' _)
    isplitl [Hmain_v8]; · iexact Hmain_v8
    iexact Hmain_v9
  iintro ⟨Hst, Hdn⟩
  ihave Hmain_v9 := (show (bigSep Finset.univ fun c : Fin ((K (F := F)).nCore 1) => (PP m).dn 1 d c)
    ⊢ (TabL main_v9 d ↦{fullShare} xof (Arow m 25 d) : sProp 𝕄) from dn1_out d (Arow m 25 d)) $$ Hdn
  ihave Hh := (start_SC m d) $$ [Hmain_v7_0 Hmain_v9 Hmain_v10 Hmain_v11]
  · isplitl [Hmain_v7_0]; · iexact Hmain_v7_0
    isplitl [Hmain_v9]; · iexact Hmain_v9
    isplitl [Hmain_v10]; · iexact Hmain_v10
    iexact Hmain_v11
  iapply (hlo_step d SC (VC m d) op9 bufs_op9 rfl) $$ [Hb Hh]
  · isplitl [Hb]; · iexact Hb
    iexact Hh
  iintro ⟨Hb, Hh⟩
  iapply (hlo_step d SC (op9.result (VC m d)) op10 bufs_op10 rfl) $$ [Hb Hh]
  · isplitl [Hb]; · iexact Hb
    iexact Hh
  iintro ⟨Hb, Hh⟩
  ihave Hh := (show held (SparseCore.T d) SC (op10.result (op9.result (VC m d))) ⊢ held (SparseCore.T d) SC (V10 m d) from .rfl) $$ Hh
  ihave Hout := (held_V10 m d) $$ Hh
  imodintro
  isplitl [Hst]; · iexact Hst
  isplitr [Hb Hts]
  · unfold FIN
    isplitl [Hmain_arg0]; · iexact Hmain_arg0
    isplitl [Hmain_arg1]; · iexact Hmain_arg1
    isplitl [Hmain_arg2]; · iexact Hmain_arg2
    isplitl [Harg3]; · iexact Harg3
    isplitl [Harg4]; · iexact Harg4
    isplitl [Hout]; · iexact Hout
    iexact Hmain_v7_1
  isplitl [Hb]; · iexact Hb
  iexact Hts

def u₀ : UU := (initOf (K (F := F)).hsCells (K (F := F)).hsToks, (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_GG : (iprop((bigSep Finset.univ fun d : Dev nD => bigSep Finset.univ fun p => Pipeline.cellsGhost (Pipeline.pin (pcfgs (F := F)) adm) EP p d)
      ∗ (bigSep Finset.univ fun d : Dev nD => bigSep Finset.univ fun p => Pipeline.toksInit (Pipeline.pin (pcfgs (F := F)) adm) EP p d)) : sProp 𝕄)
    ⊢ bigSep Finset.univ GG := by
  unfold GG
  rw [bigSep_sep']

theorem u_split (a : UH) (b : UE) (c : Counters) : (ownU ((a, (b, c)) : UU) : sProp 𝕄) ⊢ iprop(BI.own (EH a) ∗ BI.own (EP b)) := by
  iintro Hu
  ihave H := (ownU_pair a ((b, c) : UE × Counters)) $$ Hu
  icases H with ⟨HH, HR⟩
  isplitl [HH]; · iexact HH
  ihave HR := (show BI.own (embR (b, c)) ⊢ (BI.own (((Emb.inr : Emb (UE × Counters) UU).trans (uEmb (nD := nD) (sig := sig) (Ix := HIx 2) (Val := Elt F) (Name := ℕ) (U := UU) (Lvl := ℕ)).toEmb) (b, c)) : sProp 𝕄) from .rfl) $$ HR
  ihave HR := (own_pair_emb ((Emb.inr : Emb (UE × Counters) UU).trans (uEmb (nD := nD) (sig := sig) (Ix := HIx 2) (Val := Elt F) (Name := ℕ) (U := UU) (Lvl := ℕ)).toEmb) b c) $$ HR
  icases HR with ⟨HP, -⟩
  iapply (show (BI.own (((Emb.inl : Emb UE (UE × Counters)).trans ((Emb.inr : Emb (UE × Counters) UU).trans (uEmb (nD := nD) (sig := sig) (Ix := HIx 2) (Val := Elt F) (Name := ℕ) (U := UU) (Lvl := ℕ)).toEmb)) b) : sProp 𝕄) ⊢ BI.own (EP b) from .rfl)
  iexact HP

theorem hu₀ : (ownU (u₀ (F := F)) : sProp 𝕄)
    ⊢ |={Set.univ}=> iprop(BI.own (EH (initOf (K (F := F)).hsCells (K (F := F)).hsToks)) ∗ (bigSep Finset.univ GG)
        ∗ bigSep Finset.univ fun thr : Thread nD τ => bigSep Finset.univ fun q : Fin 2 => (PP m).x q thr) := by
  unfold u₀
  iintro Hu
  ihave H := (u_split _ _ _) $$ Hu
  icases H with ⟨HH, HP⟩
  imod (Pipeline.fund_ghost (Pipeline.pin (pcfgs (F := F)) adm) EP phinj) $$ HP with HP
  imodintro
  isplitl [HH]; · iexact HH
  isplitl [HP]
  · iapply bigSep_GG
    iexact HP
  rw [show (bigSep Finset.univ fun thr : Thread nD τ => bigSep Finset.univ fun q : Fin 2 => (PP m).x q thr) = bigSep Finset.univ fun _ => iprop(emp) from
    bigSep_congr fun _ _ => bigSep_emp' _, bigSep_emp']
  iempintro

def fq (d : Dev nD) (s' : Phys nD τ sig (Elt F)) : Prop :=
  s'.mem.mem (TabL main_arg0 d) = a0 m d ∧ s'.mem.mem (TabL main_arg1 d) = a1 m d ∧ s'.mem.mem (TabL main_arg2 d) = a2 m d
    ∧ s'.mem.mem (TabL main_arg3 d) = a3 m d ∧ s'.mem.mem (TabL main_arg4 d) = a4 m d
    ∧ s'.mem.mem (TabL main_v11 d) = outV m d ∧ s'.mem.mem (TabL main_v7_1 d) = bof (a2 m d)

theorem agree1 (ℓ : Loc nD τ sig) (f : Buf (Elt F) ℓ) (s' : Phys nD τ sig (Elt F)) (R : sProp 𝕄) :
    iprop(((ℓ ↦{fullShare} f) ∗ R) ∗ SI s') ⊢ (iprop(⌜s'.mem.mem ℓ = f⌝ ∗ R ∗ SI s') : sProp 𝕄) := by
  iintro ⟨⟨Hx, HR⟩, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  isplitl [HR]; · iexact HR
  iexact HSI

theorem hfin (d : Dev nD) (s' : Phys nD τ sig (Elt F)) : iprop(FIN m d ∗ SI s') ⊢ (⌜fq m d s'⌝ : sProp 𝕄) := by
  unfold FIN
  iintro H
  ihave H := (agree1 _ _ s' _) $$ H
  icases H with ⟨%h0, H⟩
  ihave H := (agree1 _ _ s' _) $$ H
  icases H with ⟨%h1, H⟩
  ihave H := (agree1 _ _ s' _) $$ H
  icases H with ⟨%h2, H⟩
  ihave H := (agree1 _ _ s' _) $$ H
  icases H with ⟨%h3, H⟩
  ihave H := (agree1 _ _ s' _) $$ H
  icases H with ⟨%h4, H⟩
  ihave H := (agree1 _ _ s' _) $$ H
  icases H with ⟨%h5, H⟩
  icases H with ⟨Hx, HSI⟩
  ihave H := (SI_pointsTo_agree (st := s') (ℓ := TabL main_v7_1 d) (I := Finset.univ) (q := fullShare) (f := bof (a2 m d))) $$ [HSI Hx]
  · isplitl [HSI] <;> iassumption
  icases H with %h6
  ipureintro
  exact ⟨h0, h1, h2, h3, h4, h5, funext fun i => h6 i (Finset.mem_univ i)⟩

/-- What every run of the program ends with. -/
def QC : PUnit × MemSt nD τ sig (Elt F) → Prop := fun r =>
  (∀ d : Dev nD, r.2.mem (TabL main_arg0 d) = a0 m d ∧ r.2.mem (TabL main_arg1 d) = a1 m d ∧ r.2.mem (TabL main_arg2 d) = a2 m d
    ∧ r.2.mem (TabL main_arg3 d) = a3 m d ∧ r.2.mem (TabL main_arg4 d) = a4 m d
    ∧ r.2.mem (TabL main_v11 d) = outV m d ∧ r.2.mem (TabL main_v7_1 d) = bof (a2 m d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 _ _ _ | 1 => tileObl1 _ _ _)
    (fun q _ => match q with | 0 => SparseCore.Cfg.VecSplit.of_plain (vecSplit0 _ _ _) | 1 => SparseCore.Cfg.VecSplit.of_plain (vecSplit1 _ _ _))
    m ρ main GG (FIN m) (u₀ (F := F)) (sep_elim_left.trans (hu₀ m)) (hmain m ρ) (fq m) (hfin m) (QC m) (fun _ h hz => ⟨h, hz⟩)

end Cert.Proof.Knl
-- ==== Proof.RefRun.lean ====
module
public import proofs.«01_k».proof.Defs
public import Idealize.ShloMosaic.Lib.StableHlo.Run
public import proofs.«01_k».proof.Proof.Gen.ReferenceIdeal

@[expose] public section

noncomputable section

namespace Cert.Proof.Ref

open Idealize.ShloMosaic Idealize.ShloMosaic.TcCoe Idealize.ShloMosaic.StableHlo Idealize.SL.Sem
open Cert.ReferenceIdeal Cert.ReferenceIdeal.Gen
open Cert.ReferenceIdeal.Facts₀

variable {F : FTy → Type} [FloatOps F]

/-! ## The reference: thirteen operations on the host -/

abbrev steps : List (HloOp τ sig (Elt F)) :=
  [ binary main_arg1 main_arg3 main_v0 (fun l r => Host.dotGeneral dot_S100000x512_S512x48_S100000x48_1_0_0_1_n_n none l r),
    unary main_arg4 main_v1 (broadcastInDim S1x48 ![1] Facts₀.bcast_S48_S1x48_1),
    unary main_v1 main_v2 (broadcastInDim S100000x48 ![0, 1] Facts₀.bcast_S1x48_S100000x48_0_1),
    binary main_v0 main_v2 main_v3 addf,
    reshape main_v3 main_v4 (rfl : (.f32 : EltTy) = .f32) Facts₀.shapeCasts_S100000x48_S1600000x3,
    unary main_arg2 main_v5 (broadcastInDim S100000x16 ![0] Facts₀.bcast_S100000_S100000x16_0),
    reshape main_v5 main_v6 (rfl : (.i32 : EltTy) = .i32) Facts₀.shapeCasts_S100000x16_S1600000,
    unary main_arg0 main_v7 (broadcastInDim S100000x16x3 ![0, 2] Facts₀.bcast_S100000x3_S100000x16x3_0_2),
    reshape main_v7 main_v8 (rfl : (.f32 : EltTy) = .f32) Facts₀.shapeCasts_S100000x16x3_S1600000x3,
    nullary main_cst (constant S_ .f32 0x3D4CCCCD#32),
    unary main_cst main_v9 (broadcastInDim S1600000x3 ![] Facts₀.bcast_S_S1600000x3),
    binary main_v4 main_v9 main_v10 mulf,
    binary main_v8 main_v10 main_v11 addf ]

theorem main_seq (c : Dev nD) : main (F := F) c = seq steps := rfl

abbrev relV (f : (⟨S100000x512, .f32⟩ : BufTy).Contents (Elt F)) (w : (⟨S512x48, .f32⟩ : BufTy).Contents (Elt F))
    (b : (⟨S48, .f32⟩ : BufTy).Contents (Elt F)) : (⟨S100000x48, .f32⟩ : BufTy).Contents (Elt F) :=
  addf (Host.dotGeneral dot_S100000x512_S512x48_S100000x48_1_0_0_1_n_n none f w)
    (broadcastInDim S100000x48 ![0, 1] Facts₀.bcast_S1x48_S100000x48_0_1 (broadcastInDim S1x48 ![1] Facts₀.bcast_S48_S1x48_1 b))

/-- The first result. -/
abbrev ptsV (p : (⟨S100000x3, .f32⟩ : BufTy).Contents (Elt F)) (f : (⟨S100000x512, .f32⟩ : BufTy).Contents (Elt F))
    (w : (⟨S512x48, .f32⟩ : BufTy).Contents (Elt F)) (b : (⟨S48, .f32⟩ : BufTy).Contents (Elt F)) : (⟨S1600000x3, .f32⟩ : BufTy).Contents (Elt F) :=
  addf (shapeCast S1600000x3 (broadcastInDim S100000x16x3 ![0, 2] Facts₀.bcast_S100000x3_S100000x16x3_0_2 p) Facts₀.shapeCasts_S100000x16x3_S1600000x3)
    (mulf (shapeCast S1600000x3 (relV f w b) Facts₀.shapeCasts_S100000x48_S1600000x3)
      (broadcastInDim S1600000x3 ![] Facts₀.bcast_S_S1600000x3 (constant S_ .f32 0x3D4CCCCD#32)))

/-- The second result. -/
abbrev batV (t : (⟨S100000, .i32⟩ : BufTy).Contents (Elt F)) : (⟨S1600000, .i32⟩ : BufTy).Contents (Elt F) :=
  shapeCast S1600000 (broadcastInDim S100000x16 ![0] Facts₀.bcast_S100000_S100000x16_0 t) Facts₀.shapeCasts_S100000x16_S1600000

theorem pts_eq (V : Valuation τ sig (Elt F)) :
    after steps V (main_v11 : DevRef τ sig) = ptsV (V (main_arg0 : DevRef τ sig)) (V (main_arg1 : DevRef τ sig)) (V (main_arg3 : DevRef τ sig)) (V (main_arg4 : DevRef τ sig)) := by
  simp only [after_cons, after_nil]
  rfl

theorem bat_eq (V : Valuation τ sig (Elt F)) :
    after steps V (main_v6 : DevRef τ sig) = batV (V (main_arg2 : DevRef τ sig)) := by
  simp only [after_cons, after_nil]
  rfl

theorem kept0 (V : Valuation τ sig (Elt F)) : after steps V (main_arg0 : DevRef τ sig) = V (main_arg0 : DevRef τ sig) := by
  simp only [after_cons, after_nil]
  rfl
theorem kept1 (V : Valuation τ sig (Elt F)) : after steps V (main_arg1 : DevRef τ sig) = V (main_arg1 : DevRef τ sig) := by
  simp only [after_cons, after_nil]
  rfl
theorem kept2 (V : Valuation τ sig (Elt F)) : after steps V (main_arg2 : DevRef τ sig) = V (main_arg2 : DevRef τ sig) := by
  simp only [after_cons, after_nil]
  rfl
theorem kept3 (V : Valuation τ sig (Elt F)) : after steps V (main_arg3 : DevRef τ sig) = V (main_arg3 : DevRef τ sig) := by
  simp only [after_cons, after_nil]
  rfl
theorem kept4 (V : Valuation τ sig (Elt F)) : after steps V (main_arg4 : DevRef τ sig) = V (main_arg4 : DevRef τ sig) := by
  simp only [after_cons, after_nil]
  rfl

theorem noRefs : (Finset.univ.filter fun b : Ref sig .tc => b.isScoped) = ∅ := by decide
theorem noSems : (Finset.univ.filter fun sm : SemLoc sig => sm.isScoped .tc) = ∅ := by decide
theorem steps_sub : (steps : List (HloOp τ sig (Elt F))).Forall fun op => op.bufs ⊆ tcRefs τ sig :=
  ⟨binary_bufs_sub .., unary_bufs_sub .., unary_bufs_sub .., binary_bufs_sub .., reshape_bufs_sub .., unary_bufs_sub .., reshape_bufs_sub ..,
    unary_bufs_sub .., reshape_bufs_sub .., nullary_bufs_sub .., unary_bufs_sub .., binary_bufs_sub .., binary_bufs_sub ..⟩

theorem run_ref (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after steps (launchContents m c) (b : DevRef τ sig) :=
  run_seq noRefs noSems defs main (fun _ => steps) main_seq (fun _ => steps_sub) m ρ

end Cert.Proof.Ref

end
-- ==== Proof.Frames.lean ====
module
public import proofs.«01_k».proof.Defs
public import proofs.«01_k».proof.Proof.KFacts
public import proofs.«01_k».proof.Proof.Main
public import proofs.«01_k».proof.Proof.RefRun
public import Idealize.ShloMosaic.Init

@[expose] public section

noncomputable section

namespace Cert.Proof

open Idealize.ShloMosaic Idealize.ShloMosaic.Tactic Idealize.SL.Sem

/-! ## The three programs run, and leave their arguments and semaphores as they were -/

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Knl.run_main (F := Ideal) m ρ)

/-- The kernel's table of bodies is the idealized kernel's. -/
theorem defs_same : Cert.Kernel.defs (F := Bits) = Cert.KernelIdeal.defs (F := Bits) := by sl_kernel_rfl

theorem threads_same : Cert.Kernel.threads (F := Bits) = Cert.KernelIdeal.threads (F := Bits) := rfl

theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (Knl.QC (F := Bits) m) := by
  rw [defs_same, threads_same]
  exact Knl.run_main (F := Bits) m ρ

theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (run_kernel m ρ)

theorem frame_reference : Cert.quiescent_ReferenceIdeal := fun m ρ _ =>
  (θ_run Cert.ReferenceIdeal.defs _ _).mono
    (fun r h => ⟨fun c => ⟨(h c Cert.ReferenceIdeal.main_arg0).trans (Ref.kept0 _), (h c Cert.ReferenceIdeal.main_arg1).trans (Ref.kept1 _),
        (h c Cert.ReferenceIdeal.main_arg2).trans (Ref.kept2 _), (h c Cert.ReferenceIdeal.main_arg3).trans (Ref.kept3 _),
        (h c Cert.ReferenceIdeal.main_arg4).trans (Ref.kept4 _)⟩,
      Idealize.ShloMosaic.sem_eq_zero_of_no_sems (by decide) r.2⟩)
    (Ref.run_ref (F := Ideal) m ρ)

end Cert.Proof

end
-- ==== Proof.Algebra.lean ====
module
public import proofs.«01_k».proof.Proof.Frames
public import Idealize.ShloMosaic.Lib.Pointwise
public import Idealize.ShloMosaic.PureOps.Ideal

@[expose] public section

set_option maxRecDepth 16384
set_option maxHeartbeats 4000000

noncomputable section

namespace Cert.Proof.Alg

open Idealize.ShloMosaic
open scoped BigOperators

/-! ## The scale -/

/-- The radius, as the extended real that its word encodes. -/
abbrev rad : EReal := Ideal.ofBits .f32 0x3D4CCCCD#32

theorem rad_real : ∃ q : ℝ, 0 ≤ q ∧ rad = (q : EReal) := by
  refine ⟨(13421773 : ℝ) * (2 : ℝ) ^ (-28 : ℤ), by positivity, ?_⟩
  simp [rad, Ideal.ofBits, Ideal.ieee, -EReal.coe_mul]

theorem add_rad (x y : EReal) : (x + y) * rad = x * rad + y * rad := by
  obtain ⟨q, h0, hq⟩ := rad_real
  rw [hq]
  exact EReal.right_distrib_of_nonneg_of_ne_top (by exact_mod_cast h0) (EReal.coe_ne_top q) x y

theorem sum_rad {ι : Type} (s : Finset ι) (f g : ι → EReal) : (∑ k ∈ s, f k * g k) * rad = ∑ k ∈ s, f k * (g k * rad) := by
  classical
  induction s using Finset.induction_on with
  | empty => simp
  | insert a s ha ih => rw [Finset.sum_insert ha, Finset.sum_insert ha, add_rad, ih, mul_assoc]

/-! ## The kernel's block at an index -/

open Cert.KernelIdeal in
theorem tiled_at (x : Vec Ideal S2000x3 .f32) (h : Shape.Concatenates ((List.replicate 16 (⟨S2000x3, x⟩ : (s : Shape) × (s.Idx → Ideal .f32))).map (·.1)) S2000x48 1)
    (r : Fin 2000) (l : Fin 48) :
    concatenate S2000x48 1 (List.replicate 16 (⟨S2000x3, x⟩ : (s : Shape) × (s.Idx → Ideal .f32))) h (ix2 r l) = x (ix2 r ⟨l.val % 3, Nat.mod_lt _ (by omega)⟩) := by
  refine concatenate_replicate_apply (t := S2000x48) (s₁ := S2000x3) 1 16 x h rfl _ _ rfl fun b hb => ?_
  match b, hb with
  | ⟨0, _⟩, _ => rfl
  | ⟨1, _⟩, hb => exact absurd rfl hb

open Cert.KernelIdeal in
theorem dot_at (x0 : Vec Ideal S2000x512 .f32) (x2 : Vec Ideal S512x48 .bf16) (r : Fin 2000) (l : Fin 48) :
    matmul (F := Ideal) (φ₂ := .bf16) dot_S2000x512_S512x48_S2000x48_1_0_0_1_n_n none (truncf .bf16 x0 Facts₀.bitsLt_bf16_f32) (shapeCast S512x48 x2 Facts₀.shapeCasts_S512x48_S512x48)
        (constant S2000x48 .f32 0x00000000#32) (ix2 r l)
      = ∑ k : Fin 512, x0 (ix2 r k) * x2 (ix2 k l) := by
  pointwise

open Cert.KernelIdeal in
theorem bias_at (x3 : Vec Ideal S1x48 .f32) (r : Fin 2000) (l : Fin 48) :
    broadcastTo S2000x48 (shapeCast S1x48 x3 Facts₀.shapeCasts_S1x48_S1x48) Facts₀.broadcasts_S1x48_S2000x48 (ix2 r l) = x3 (ix2 0 l) := by
  pointwise

open Cert.KernelIdeal in
theorem pay_at (x0 : Vec Ideal S2000x512 .f32) (x1 : Vec Ideal S2000x3 .f32) (x2 : Vec Ideal S512x48 .bf16) (x3 : Vec Ideal S1x48 .f32) (r : Fin 2000) (l : Fin 48) :
    Knl.pay (F := Ideal) x0 x1 x2 x3 (ix2 r l)
      = (x1 (ix2 r ⟨l.val % 3, Nat.mod_lt _ (by omega)⟩) + (∑ k : Fin 512, x0 (ix2 r k) * x2 (ix2 k l)) + x3 (ix2 0 l) : EReal) :=
  congrArg₂ (fun a b : EReal => a + b) (congrArg₂ (fun a b : EReal => a + b) (tiled_at x1 _ r l) (dot_at x0 x2 r l)) (bias_at x3 r l)

/-! ## A row of the TensorCore's result, and the kernel's first result -/

section Rows

open Cert.KernelIdeal

variable (p : S100000x3.Idx → EReal) (f : S100000x512.Idx → EReal) (w : S512x48.Idx → EReal) (b : S48.Idx → EReal)

/-- What both programs give at row `n` of the anchors and lane `l` of its forty-eight. -/
def cell (n : Fin 100000) (l : Fin 48) : EReal :=
  p (ix2 n ⟨l.val % 3, Nat.mod_lt _ (by omega)⟩) + ((∑ k : Fin 512, f (ix2 n k) * w (ix2 k l)) + b (ix1 l)) * rad

theorem cell_split (n : Fin 100000) (l : Fin 48) :
    p (ix2 n ⟨l.val % 3, Nat.mod_lt _ (by omega)⟩) + (∑ k : Fin 512, f (ix2 n k) * (w (ix2 k l) * rad)) + b (ix1 l) * rad = cell p f w b n l := by
  unfold cell
  rw [add_rad, sum_rad, add_assoc]

variable (m : (ℓ : Loc nD τ sig) → Buf (Elt Ideal) ℓ) (d : Dev nD)

theorem wbV_at (k : Fin 512) (l : Fin 48) : Knl.wbV (F := Ideal) m d (ix2 k l) = ((Knl.a3 (F := Ideal) m d (ix2 k l) : EReal) * rad : EReal) := rfl

theorem biV_at (l : Fin 48) : Knl.biV (F := Ideal) m d (ix2 0 l) = ((Knl.a4 (F := Ideal) m d (ix1 l) : EReal) * rad : EReal) := by
  pointwise [Knl.biV]

theorem row_at (o r l : ℕ) (ho : o = 0 ∨ o = 25) (hr : r < 50000) (hl : l < 48) :
    Knl.rowT (F := Ideal) o (Knl.a1 m d) (Knl.a0 m d) (Knl.wbV m d) (Knl.biV m d) r l
      = cell (Knl.a0 (F := Ideal) m d) (Knl.a1 (F := Ideal) m d) (Knl.a3 (F := Ideal) m d) (Knl.a4 (F := Ideal) m d) ⟨r + 2000 * o, by omega⟩ ⟨l, hl⟩ := by
  have hn : 2000 * ((r / 2000 + o) % 50) + r % 2000 = r + 2000 * o := by omega
  have hll : (⟨l % 48, Nat.mod_lt _ (by omega)⟩ : Fin 48) = ⟨l, hl⟩ := Fin.ext (Nat.mod_eq_of_lt hl)
  refine Eq.trans ?_ (cell_split _ _ _ _ _ _)
  refine (pay_at _ _ _ _ ⟨r % 2000, Nat.mod_lt _ (by omega)⟩ ⟨l % 48, Nat.mod_lt _ (by omega)⟩).trans ?_
  rw [hll, biV_at]
  refine congrArg₂ (fun a b : EReal => a + b) (congrArg₂ (fun a b : EReal => a + b) ?_ ?_) rfl
  · exact congrArg (Knl.a0 (F := Ideal) m d) (congrArg₂ ix2 (Fin.ext hn) rfl)
  · refine Finset.sum_congr rfl fun k _ => ?_
    rw [wbV_at]
    exact congrArg (fun a : EReal => a * _) (congrArg (Knl.a1 (F := Ideal) m d) (congrArg₂ ix2 (Fin.ext hn) rfl))

theorem half_at (o : ℕ) (ho : o = 0 ∨ o = 25) (j : Fin 3) (c : Fin 800000) :
    Knl.xof (F := Ideal) (Knl.Arow m o d) (ix2 j c)
      = cell (Knl.a0 (F := Ideal) m d) (Knl.a1 (F := Ideal) m d) (Knl.a3 (F := Ideal) m d) (Knl.a4 (F := Ideal) m d)
          ⟨c.val / 16 + 2000 * o, by omega⟩ ⟨3 * (c.val % 16) + j.val, by omega⟩ :=
  row_at m d o (c.val / 16) (3 * (c.val % 16) + j.val) ho (by omega) (by omega)

theorem joined_at (x y : S3x800000.Idx → EReal) (n : Fin 1600000) (j : Fin 3) :
    transpose S1600000x3 [1, 0] (concatenate S3x1600000 1 [⟨S3x800000, x⟩, ⟨S3x800000, y⟩] Facts₀.concatenates_S3x800000_S3x800000_S3x1600000_d1)
        Facts₀.transposes_S3x1600000_S1600000x3_1_0 (ix2 n j)
      = if h : n.val < 800000 then x (ix2 j ⟨n.val, h⟩) else y (ix2 j ⟨n.val - 800000, by omega⟩) := by
  pointwise

theorem out_at (n : Fin 1600000) (j : Fin 3) :
    Knl.outV (F := Ideal) m d (ix2 n j)
      = cell (Knl.a0 (F := Ideal) m d) (Knl.a1 (F := Ideal) m d) (Knl.a3 (F := Ideal) m d) (Knl.a4 (F := Ideal) m d)
          ⟨n.val / 16, by omega⟩ ⟨3 * (n.val % 16) + j.val, by omega⟩ := by
  refine (joined_at _ _ n j).trans ?_
  split
  · exact half_at m d 0 (.inl rfl) j _
  · rename_i h
    refine (half_at m d 25 (.inr rfl) j _).trans ?_
    have h1 : (n.val - 800000) / 16 + 2000 * 25 = n.val / 16 := by omega
    have h2 : 3 * ((n.val - 800000) % 16) + j.val = 3 * (n.val % 16) + j.val := by omega
    exact congrArg₂ (cell _ _ _ _) (Fin.ext h1) (Fin.ext h2)

end Rows

/-! ## The reference's results -/

section Reference

open Cert.ReferenceIdeal

variable (p : S100000x3.Idx → EReal) (f : S100000x512.Idx → EReal) (w : S512x48.Idx → EReal) (b : S48.Idx → EReal)

theorem ref_at (n : Fin 1600000) (j : Fin 3) :
    Ref.ptsV (F := Ideal) p f w b (ix2 n j) = cell p f w b ⟨n.val / 16, by omega⟩ ⟨3 * (n.val % 16) + j.val, by omega⟩ := by
  have e1 : n.val % 16 * 3 + j.val = 3 * (n.val % 16) + j.val := by omega
  have e2 : (⟨(3 * (n.val % 16) + j.val) % 3, Nat.mod_lt _ (by omega)⟩ : Fin 3) = j := Fin.ext (by show (3 * (n.val % 16) + j.val) % 3 = j.val; omega)
  unfold cell
  rw [e2]
  pointwise [Ref.ptsV, Ref.relV]
  simp only [e1, rad]

theorem bat_at (t : S100000.Idx → BitVec 32) (n : Fin 1600000) :
    Ref.batV (F := Ideal) t (ix1 n) = Knl.bof (F := Ideal) t (ix1 n) := by
  pointwise [Ref.batV, Knl.bof]
  rfl

end Reference

/-! ## The two programs' results are equal -/

theorem points_same (p : Cert.KernelIdeal.S100000x3.Idx → EReal) (f : Cert.KernelIdeal.S100000x512.Idx → EReal) (w : Cert.KernelIdeal.S512x48.Idx → EReal)
    (b : Cert.KernelIdeal.S48.Idx → EReal) (m : (ℓ : Loc Cert.KernelIdeal.nD Cert.KernelIdeal.τ Cert.KernelIdeal.sig) → Buf (Elt Ideal) ℓ) (d : Dev Cert.KernelIdeal.nD)
    (hp : p = Knl.a0 (F := Ideal) m d) (hf : f = Knl.a1 (F := Ideal) m d) (hw : w = Knl.a3 (F := Ideal) m d) (hb : b = Knl.a4 (F := Ideal) m d) :
    Ref.ptsV (F := Ideal) p f w b = Knl.outV (F := Ideal) m d := by
  subst hp hf hw hb
  funext y
  rw [show y = ix2 (y 0) (y 1) from eq_ix2 y]
  exact (ref_at _ _ _ _ (y 0) (y 1)).trans (out_at m d (y 0) (y 1)).symm

theorem batch_same (t : Cert.KernelIdeal.S100000.Idx → BitVec 32) (m : (ℓ : Loc Cert.KernelIdeal.nD Cert.KernelIdeal.τ Cert.KernelIdeal.sig) → Buf (Elt Ideal) ℓ)
    (d : Dev Cert.KernelIdeal.nD) (ht : t = Knl.a2 (F := Ideal) m d) : Ref.batV (F := Ideal) t = Knl.bof (F := Ideal) (Knl.a2 (F := Ideal) m d) := by
  subst ht
  funext y
  rw [show y = ix1 (y 0) from eq_ix1 y]
  exact bat_at _ (y 0)

end Cert.Proof.Alg

namespace Cert.Proof

open Idealize.ShloMosaic Idealize.SL.Sem

theorem algebra : Cert.algebraic_KernelIdeal_ReferenceIdeal := fun m ρ m' ρ' _ hagree =>
  ⟨fun c => Knl.outV (F := Ideal) m c, fun c => Knl.bof (F := Ideal) (Knl.a2 (F := Ideal) m c),
    (θ_run Cert.KernelIdeal.defs _ _).mono
      (fun _ h c => ⟨(h.1 c).2.2.2.2.2.1, (h.1 c).2.2.2.2.2.2, (h.1 c).1, (h.1 c).2.1, (h.1 c).2.2.1, (h.1 c).2.2.2.1, (h.1 c).2.2.2.2.1⟩)
      (Knl.run_main (F := Ideal) m ρ),
    (θ_run Cert.ReferenceIdeal.defs _ _).mono
      (fun r h c => ⟨((h c Cert.ReferenceIdeal.main_v11).trans (Ref.pts_eq _)).trans
            (Alg.points_same _ _ _ _ m c (hagree c).1 (hagree c).2.1 (hagree c).2.2.2.1 (hagree c).2.2.2.2),
          ((h c Cert.ReferenceIdeal.main_v6).trans (Ref.bat_eq _)).trans (Alg.batch_same _ m c (hagree c).2.2.1),
          (h c Cert.ReferenceIdeal.main_arg0).trans (Ref.kept0 _), (h c Cert.ReferenceIdeal.main_arg1).trans (Ref.kept1 _),
          (h c Cert.ReferenceIdeal.main_arg2).trans (Ref.kept2 _), (h c Cert.ReferenceIdeal.main_arg3).trans (Ref.kept3 _),
          (h c Cert.ReferenceIdeal.main_arg4).trans (Ref.kept4 _)⟩)
      (Ref.run_ref (F := Ideal) m' ρ')⟩

end Cert.Proof

end
-- ==== Proof.lean ====
/- The claim: the three programs run and leave their arguments and semaphores as they were, and the kernel's two
   results are the reference's, read over the extended reals. -/
module

public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, trivial, algebra⟩

end Cert.Proof

end
